-- ==== Defs.lean ====
def Pre_Dmerge (m : (ℓ : Loc Cert.Dmerge.nD Cert.Dmerge.τ Cert.Dmerge.sig) → Buf (Elt Bits) ℓ) : Prop :=
  True

def Pre_DmergeIdeal (m : (ℓ : Loc Cert.DmergeIdeal.nD Cert.DmergeIdeal.τ Cert.DmergeIdeal.sig) → Buf (Elt Ideal) ℓ) : Prop :=
  True

def Pre_DmergeRefIdeal (m : (ℓ : Loc Cert.DmergeRefIdeal.nD Cert.DmergeRefIdeal.τ Cert.DmergeRefIdeal.sig) → Buf (Elt Ideal) ℓ) : Prop :=
  True

def Pre_Dhid (m : (ℓ : Loc Cert.Dhid.nD Cert.Dhid.τ Cert.Dhid.sig) → Buf (Elt Bits) ℓ) : Prop :=
  True

def Pre_DhidIdeal (m : (ℓ : Loc Cert.DhidIdeal.nD Cert.DhidIdeal.τ Cert.DhidIdeal.sig) → Buf (Elt Ideal) ℓ) : Prop :=
  True

def Pre_DhidIdeal_dhid_finite [hPre_dhid_finite : Cert.Pre_dhid_finite.Facts] (m : (ℓ : Loc Cert.DhidIdeal.nD Cert.DhidIdeal.τ Cert.DhidIdeal.sig) → Buf (Elt Ideal) ℓ) : Prop :=
  ∀ c : Dev Cert.DhidIdeal.nD,
    (Cert.Pre_dhid_finite.fn (F := Ideal) (m ((c.tc : Thread Cert.DhidIdeal.nD Cert.DhidIdeal.τ).loc Cert.DhidIdeal.main_arg0)) (m ((c.tc : Thread Cert.DhidIdeal.nD Cert.DhidIdeal.τ).loc Cert.DhidIdeal.main_arg1))) = (fun _ => 1#1)

def Pre_DhidRefIdeal (m : (ℓ : Loc Cert.DhidRefIdeal.nD Cert.DhidRefIdeal.τ Cert.DhidRefIdeal.sig) → Buf (Elt Ideal) ℓ) : Prop :=
  True

def Pre_DhidRefIdeal_dhid_finite [hPre_dhid_finite : Cert.Pre_dhid_finite.Facts] (m : (ℓ : Loc Cert.DhidRefIdeal.nD Cert.DhidRefIdeal.τ Cert.DhidRefIdeal.sig) → Buf (Elt Ideal) ℓ) : Prop :=
  ∀ c : Dev Cert.DhidRefIdeal.nD,
    (Cert.Pre_dhid_finite.fn (F := Ideal) (m ((c.tc : Thread Cert.DhidRefIdeal.nD Cert.DhidRefIdeal.τ).loc Cert.DhidRefIdeal.main_arg0)) (m ((c.tc : Thread Cert.DhidRefIdeal.nD Cert.DhidRefIdeal.τ).loc Cert.DhidRefIdeal.main_arg1))) = (fun _ => 1#1)

def Pre_Dln (m : (ℓ : Loc Cert.Dln.nD Cert.Dln.τ Cert.Dln.sig) → Buf (Elt Bits) ℓ) : Prop :=
  True

def Pre_DlnIdeal (m : (ℓ : Loc Cert.DlnIdeal.nD Cert.DlnIdeal.τ Cert.DlnIdeal.sig) → Buf (Elt Ideal) ℓ) : Prop :=
  True

def Pre_DlnIdeal_dln_finite [hPre_dln_finite : Cert.Pre_dln_finite.Facts] (m : (ℓ : Loc Cert.DlnIdeal.nD Cert.DlnIdeal.τ Cert.DlnIdeal.sig) → Buf (Elt Ideal) ℓ) : Prop :=
  ∀ c : Dev Cert.DlnIdeal.nD,
    (Cert.Pre_dln_finite.fn (F := Ideal) (m ((c.tc : Thread Cert.DlnIdeal.nD Cert.DlnIdeal.τ).loc Cert.DlnIdeal.main_arg0)) (m ((c.tc : Thread Cert.DlnIdeal.nD Cert.DlnIdeal.τ).loc Cert.DlnIdeal.main_arg1)) (m ((c.tc : Thread Cert.DlnIdeal.nD Cert.DlnIdeal.τ).loc Cert.DlnIdeal.main_arg2)) (m ((c.tc : Thread Cert.DlnIdeal.nD Cert.DlnIdeal.τ).loc Cert.DlnIdeal.main_arg3)) (m ((c.tc : Thread Cert.DlnIdeal.nD Cert.DlnIdeal.τ).loc Cert.DlnIdeal.main_arg4))) = (fun _ => 1#1)

def Pre_DlnRefIdeal (m : (ℓ : Loc Cert.DlnRefIdeal.nD Cert.DlnRefIdeal.τ Cert.DlnRefIdeal.sig) → Buf (Elt Ideal) ℓ) : Prop :=
  True

def Pre_DlnRefIdeal_dln_finite [hPre_dln_finite : Cert.Pre_dln_finite.Facts] (m : (ℓ : Loc Cert.DlnRefIdeal.nD Cert.DlnRefIdeal.τ Cert.DlnRefIdeal.sig) → Buf (Elt Ideal) ℓ) : Prop :=
  ∀ c : Dev Cert.DlnRefIdeal.nD,
    (Cert.Pre_dln_finite.fn (F := Ideal) (m ((c.tc : Thread Cert.DlnRefIdeal.nD Cert.DlnRefIdeal.τ).loc Cert.DlnRefIdeal.main_arg0)) (m ((c.tc : Thread Cert.DlnRefIdeal.nD Cert.DlnRefIdeal.τ).loc Cert.DlnRefIdeal.main_arg1)) (m ((c.tc : Thread Cert.DlnRefIdeal.nD Cert.DlnRefIdeal.τ).loc Cert.DlnRefIdeal.main_arg2)) (m ((c.tc : Thread Cert.DlnRefIdeal.nD Cert.DlnRefIdeal.τ).loc Cert.DlnRefIdeal.main_arg3)) (m ((c.tc : Thread Cert.DlnRefIdeal.nD Cert.DlnRefIdeal.τ).loc Cert.DlnRefIdeal.main_arg4))) = (fun _ => 1#1)

def Pre_Dloss (m : (ℓ : Loc Cert.Dloss.nD Cert.Dloss.τ Cert.Dloss.sig) → Buf (Elt Bits) ℓ) : Prop :=
  True

def Pre_DlossIdeal (m : (ℓ : Loc Cert.DlossIdeal.nD Cert.DlossIdeal.τ Cert.DlossIdeal.sig) → Buf (Elt Ideal) ℓ) : Prop :=
  True

def Pre_DlossIdeal_dloss_finite [hPre_dloss_finite : Cert.Pre_dloss_finite.Facts] (m : (ℓ : Loc Cert.DlossIdeal.nD Cert.DlossIdeal.τ Cert.DlossIdeal.sig) → Buf (Elt Ideal) ℓ) : Prop :=
  ∀ c : Dev Cert.DlossIdeal.nD,
    (Cert.Pre_dloss_finite.fn (F := Ideal) (m ((c.tc : Thread Cert.DlossIdeal.nD Cert.DlossIdeal.τ).loc Cert.DlossIdeal.main_arg0)) (m ((c.tc : Thread Cert.DlossIdeal.nD Cert.DlossIdeal.τ).loc Cert.DlossIdeal.main_arg1)) (m ((c.tc : Thread Cert.DlossIdeal.nD Cert.DlossIdeal.τ).loc Cert.DlossIdeal.main_arg2)) (m ((c.tc : Thread Cert.DlossIdeal.nD Cert.DlossIdeal.τ).loc Cert.DlossIdeal.main_arg3)) (m ((c.tc : Thread Cert.DlossIdeal.nD Cert.DlossIdeal.τ).loc Cert.DlossIdeal.main_arg4))) = (fun _ => 1#1)

def Pre_DlossRefIdeal (m : (ℓ : Loc Cert.DlossRefIdeal.nD Cert.DlossRefIdeal.τ Cert.DlossRefIdeal.sig) → Buf (Elt Ideal) ℓ) : Prop :=
  True

def Pre_DlossRefIdeal_dloss_finite [hPre_dloss_finite : Cert.Pre_dloss_finite.Facts] (m : (ℓ : Loc Cert.DlossRefIdeal.nD Cert.DlossRefIdeal.τ Cert.DlossRefIdeal.sig) → Buf (Elt Ideal) ℓ) : Prop :=
  ∀ c : Dev Cert.DlossRefIdeal.nD,
    (Cert.Pre_dloss_finite.fn (F := Ideal) (m ((c.tc : Thread Cert.DlossRefIdeal.nD Cert.DlossRefIdeal.τ).loc Cert.DlossRefIdeal.main_arg0)) (m ((c.tc : Thread Cert.DlossRefIdeal.nD Cert.DlossRefIdeal.τ).loc Cert.DlossRefIdeal.main_arg1)) (m ((c.tc : Thread Cert.DlossRefIdeal.nD Cert.DlossRefIdeal.τ).loc Cert.DlossRefIdeal.main_arg2)) (m ((c.tc : Thread Cert.DlossRefIdeal.nD Cert.DlossRefIdeal.τ).loc Cert.DlossRefIdeal.main_arg3)) (m ((c.tc : Thread Cert.DlossRefIdeal.nD Cert.DlossRefIdeal.τ).loc Cert.DlossRefIdeal.main_arg4))) = (fun _ => 1#1)

def Pre_Dyb (m : (ℓ : Loc Cert.Dyb.nD Cert.Dyb.τ Cert.Dyb.sig) → Buf (Elt Bits) ℓ) : Prop :=
  True

def Pre_DybIdeal (m : (ℓ : Loc Cert.DybIdeal.nD Cert.DybIdeal.τ Cert.DybIdeal.sig) → Buf (Elt Ideal) ℓ) : Prop :=
  True

def Pre_DybIdeal_dyb_finite [hPre_dyb_finite : Cert.Pre_dyb_finite.Facts] (m : (ℓ : Loc Cert.DybIdeal.nD Cert.DybIdeal.τ Cert.DybIdeal.sig) → Buf (Elt Ideal) ℓ) : Prop :=
  ∀ c : Dev Cert.DybIdeal.nD,
    (Cert.Pre_dyb_finite.fn (F := Ideal) (m ((c.tc : Thread Cert.DybIdeal.nD Cert.DybIdeal.τ).loc Cert.DybIdeal.main_arg0)) (m ((c.tc : Thread Cert.DybIdeal.nD Cert.DybIdeal.τ).loc Cert.DybIdeal.main_arg1)) (m ((c.tc : Thread Cert.DybIdeal.nD Cert.DybIdeal.τ).loc Cert.DybIdeal.main_arg2)) (m ((c.tc : Thread Cert.DybIdeal.nD Cert.DybIdeal.τ).loc Cert.DybIdeal.main_arg3))) = (fun _ => 1#1)

def Pre_DybRefIdeal (m : (ℓ : Loc Cert.DybRefIdeal.nD Cert.DybRefIdeal.τ Cert.DybRefIdeal.sig) → Buf (Elt Ideal) ℓ) : Prop :=
  True

def Pre_DybRefIdeal_dyb_finite [hPre_dyb_finite : Cert.Pre_dyb_finite.Facts] (m : (ℓ : Loc Cert.DybRefIdeal.nD Cert.DybRefIdeal.τ Cert.DybRefIdeal.sig) → Buf (Elt Ideal) ℓ) : Prop :=
  ∀ c : Dev Cert.DybRefIdeal.nD,
    (Cert.Pre_dyb_finite.fn (F := Ideal) (m ((c.tc : Thread Cert.DybRefIdeal.nD Cert.DybRefIdeal.τ).loc Cert.DybRefIdeal.main_arg0)) (m ((c.tc : Thread Cert.DybRefIdeal.nD Cert.DybRefIdeal.τ).loc Cert.DybRefIdeal.main_arg1)) (m ((c.tc : Thread Cert.DybRefIdeal.nD Cert.DybRefIdeal.τ).loc Cert.DybRefIdeal.main_arg2)) (m ((c.tc : Thread Cert.DybRefIdeal.nD Cert.DybRefIdeal.τ).loc Cert.DybRefIdeal.main_arg3))) = (fun _ => 1#1)

def Pre_Dfgate (m : (ℓ : Loc Cert.Dfgate.nD Cert.Dfgate.τ Cert.Dfgate.sig) → Buf (Elt Bits) ℓ) : Prop :=
  True

def Pre_DfgateIdeal (m : (ℓ : Loc Cert.DfgateIdeal.nD Cert.DfgateIdeal.τ Cert.DfgateIdeal.sig) → Buf (Elt Ideal) ℓ) : Prop :=
  True

def Pre_DfgateIdeal_dfgate_finite [hPre_dfgate_finite : Cert.Pre_dfgate_finite.Facts] (m : (ℓ : Loc Cert.DfgateIdeal.nD Cert.DfgateIdeal.τ Cert.DfgateIdeal.sig) → Buf (Elt Ideal) ℓ) : Prop :=
  ∀ c : Dev Cert.DfgateIdeal.nD,
    (Cert.Pre_dfgate_finite.fn (F := Ideal) (m ((c.tc : Thread Cert.DfgateIdeal.nD Cert.DfgateIdeal.τ).loc Cert.DfgateIdeal.main_arg0)) (m ((c.tc : Thread Cert.DfgateIdeal.nD Cert.DfgateIdeal.τ).loc Cert.DfgateIdeal.main_arg1)) (m ((c.tc : Thread Cert.DfgateIdeal.nD Cert.DfgateIdeal.τ).loc Cert.DfgateIdeal.main_arg2)) (m ((c.tc : Thread Cert.DfgateIdeal.nD Cert.DfgateIdeal.τ).loc Cert.DfgateIdeal.main_arg3))) = (fun _ => 1#1)

def Pre_DfgateRefIdeal (m : (ℓ : Loc Cert.DfgateRefIdeal.nD Cert.DfgateRefIdeal.τ Cert.DfgateRefIdeal.sig) → Buf (Elt Ideal) ℓ) : Prop :=
  True

def Pre_DfgateRefIdeal_dfgate_finite [hPre_dfgate_finite : Cert.Pre_dfgate_finite.Facts] (m : (ℓ : Loc Cert.DfgateRefIdeal.nD Cert.DfgateRefIdeal.τ Cert.DfgateRefIdeal.sig) → Buf (Elt Ideal) ℓ) : Prop :=
  ∀ c : Dev Cert.DfgateRefIdeal.nD,
    (Cert.Pre_dfgate_finite.fn (F := Ideal) (m ((c.tc : Thread Cert.DfgateRefIdeal.nD Cert.DfgateRefIdeal.τ).loc Cert.DfgateRefIdeal.main_arg0)) (m ((c.tc : Thread Cert.DfgateRefIdeal.nD Cert.DfgateRefIdeal.τ).loc Cert.DfgateRefIdeal.main_arg1)) (m ((c.tc : Thread Cert.DfgateRefIdeal.nD Cert.DfgateRefIdeal.τ).loc Cert.DfgateRefIdeal.main_arg2)) (m ((c.tc : Thread Cert.DfgateRefIdeal.nD Cert.DfgateRefIdeal.τ).loc Cert.DfgateRefIdeal.main_arg3))) = (fun _ => 1#1)

def Pre_Dfox (m : (ℓ : Loc Cert.Dfox.nD Cert.Dfox.τ Cert.Dfox.sig) → Buf (Elt Bits) ℓ) : Prop :=
  True

def Pre_DfoxIdeal (m : (ℓ : Loc Cert.DfoxIdeal.nD Cert.DfoxIdeal.τ Cert.DfoxIdeal.sig) → Buf (Elt Ideal) ℓ) : Prop :=
  True

def Pre_DfoxIdeal_dfox_finite [hPre_dfox_finite : Cert.Pre_dfox_finite.Facts] (m : (ℓ : Loc Cert.DfoxIdeal.nD Cert.DfoxIdeal.τ Cert.DfoxIdeal.sig) → Buf (Elt Ideal) ℓ) : Prop :=
  ∀ c : Dev Cert.DfoxIdeal.nD,
    (Cert.Pre_dfox_finite.fn (F := Ideal) (m ((c.tc : Thread Cert.DfoxIdeal.nD Cert.DfoxIdeal.τ).loc Cert.DfoxIdeal.main_arg0)) (m ((c.tc : Thread Cert.DfoxIdeal.nD Cert.DfoxIdeal.τ).loc Cert.DfoxIdeal.main_arg1)) (m ((c.tc : Thread Cert.DfoxIdeal.nD Cert.DfoxIdeal.τ).loc Cert.DfoxIdeal.main_arg2)) (m ((c.tc : Thread Cert.DfoxIdeal.nD Cert.DfoxIdeal.τ).loc Cert.DfoxIdeal.main_arg3)) (m ((c.tc : Thread Cert.DfoxIdeal.nD Cert.DfoxIdeal.τ).loc Cert.DfoxIdeal.main_arg4))) = (fun _ => 1#1)

def Pre_DfoxRefIdeal (m : (ℓ : Loc Cert.DfoxRefIdeal.nD Cert.DfoxRefIdeal.τ Cert.DfoxRefIdeal.sig) → Buf (Elt Ideal) ℓ) : Prop :=
  True

def Pre_DfoxRefIdeal_dfox_finite [hPre_dfox_finite : Cert.Pre_dfox_finite.Facts] (m : (ℓ : Loc Cert.DfoxRefIdeal.nD Cert.DfoxRefIdeal.τ Cert.DfoxRefIdeal.sig) → Buf (Elt Ideal) ℓ) : Prop :=
  ∀ c : Dev Cert.DfoxRefIdeal.nD,
    (Cert.Pre_dfox_finite.fn (F := Ideal) (m ((c.tc : Thread Cert.DfoxRefIdeal.nD Cert.DfoxRefIdeal.τ).loc Cert.DfoxRefIdeal.main_arg0)) (m ((c.tc : Thread Cert.DfoxRefIdeal.nD Cert.DfoxRefIdeal.τ).loc Cert.DfoxRefIdeal.main_arg1)) (m ((c.tc : Thread Cert.DfoxRefIdeal.nD Cert.DfoxRefIdeal.τ).loc Cert.DfoxRefIdeal.main_arg2)) (m ((c.tc : Thread Cert.DfoxRefIdeal.nD Cert.DfoxRefIdeal.τ).loc Cert.DfoxRefIdeal.main_arg3)) (m ((c.tc : Thread Cert.DfoxRefIdeal.nD Cert.DfoxRefIdeal.τ).loc Cert.DfoxRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Yb (m : (ℓ : Loc Cert.Yb.nD Cert.Yb.τ Cert.Yb.sig) → Buf (Elt Bits) ℓ) : Prop :=
  True

def Pre_YbIdeal (m : (ℓ : Loc Cert.YbIdeal.nD Cert.YbIdeal.τ Cert.YbIdeal.sig) → Buf (Elt Ideal) ℓ) : Prop :=
  True

def Pre_YbRefIdeal (m : (ℓ : Loc Cert.YbRefIdeal.nD Cert.YbRefIdeal.τ Cert.YbRefIdeal.sig) → Buf (Elt Ideal) ℓ) : Prop :=
  True

def Pre_Fsum (m : (ℓ : Loc Cert.Fsum.nD Cert.Fsum.τ Cert.Fsum.sig) → Buf (Elt Bits) ℓ) : Prop :=
  True

def Pre_FsumIdeal (m : (ℓ : Loc Cert.FsumIdeal.nD Cert.FsumIdeal.τ Cert.FsumIdeal.sig) → Buf (Elt Ideal) ℓ) : Prop :=
  True

def Pre_FsumIdeal_fsum_finite [hPre_fsum_finite : Cert.Pre_fsum_finite.Facts] (m : (ℓ : Loc Cert.FsumIdeal.nD Cert.FsumIdeal.τ Cert.FsumIdeal.sig) → Buf (Elt Ideal) ℓ) : Prop :=
  ∀ c : Dev Cert.FsumIdeal.nD,
    (Cert.Pre_fsum_finite.fn (F := Ideal) (m ((c.tc : Thread Cert.FsumIdeal.nD Cert.FsumIdeal.τ).loc Cert.FsumIdeal.main_arg0)) (m ((c.tc : Thread Cert.FsumIdeal.nD Cert.FsumIdeal.τ).loc Cert.FsumIdeal.main_arg1))) = (fun _ => 1#1)

def Pre_FsumRefIdeal (m : (ℓ : Loc Cert.FsumRefIdeal.nD Cert.FsumRefIdeal.τ Cert.FsumRefIdeal.sig) → Buf (Elt Ideal) ℓ) : Prop :=
  True

def Pre_FsumRefIdeal_fsum_finite [hPre_fsum_finite : Cert.Pre_fsum_finite.Facts] (m : (ℓ : Loc Cert.FsumRefIdeal.nD Cert.FsumRefIdeal.τ Cert.FsumRefIdeal.sig) → Buf (Elt Ideal) ℓ) : Prop :=
  ∀ c : Dev Cert.FsumRefIdeal.nD,
    (Cert.Pre_fsum_finite.fn (F := Ideal) (m ((c.tc : Thread Cert.FsumRefIdeal.nD Cert.FsumRefIdeal.τ).loc Cert.FsumRefIdeal.main_arg0)) (m ((c.tc : Thread Cert.FsumRefIdeal.nD Cert.FsumRefIdeal.τ).loc Cert.FsumRefIdeal.main_arg1))) = (fun _ => 1#1)

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_attend_finite [hPre_attend_finite : Cert.Pre_attend_finite.Facts] (m : (ℓ : Loc Cert.AttendIdeal.nD Cert.AttendIdeal.τ Cert.AttendIdeal.sig) → Buf (Elt Ideal) ℓ) : Prop :=
  ∀ c : Dev Cert.AttendIdeal.nD,
    (Cert.Pre_attend_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_attend_finite [hPre_attend_finite : Cert.Pre_attend_finite.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_attend_finite.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3))) = (fun _ => 1#1)

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductRefIdeal (m : (ℓ : Loc Cert.ProductRefIdeal.nD Cert.ProductRefIdeal.τ Cert.ProductRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_Dscan (m : (ℓ : Loc Cert.Dscan.nD Cert.Dscan.τ Cert.Dscan.sig) → Buf (Elt Bits) ℓ) : Prop :=
  True

def Pre_DscanIdeal (m : (ℓ : Loc Cert.DscanIdeal.nD Cert.DscanIdeal.τ Cert.DscanIdeal.sig) → Buf (Elt Ideal) ℓ) : Prop :=
  True

def quiescent_Dmerge [hDmerge : Cert.Dmerge.Facts] : Prop :=
  ∀ (m : (ℓ : Loc Cert.Dmerge.nD Cert.Dmerge.τ Cert.Dmerge.sig) → Buf (Elt Bits) ℓ) (g : Dev Cert.Dmerge.nD → PrngReg), Pre_Dmerge m →
    θ_run (Cert.Dmerge.defs (F := Bits)) (onTc (τ := Cert.Dmerge.τ) (Cert.Dmerge.main (F := Bits))) ⟨m, fun _ => 0, g⟩ (fun r => (∀ c : Dev Cert.Dmerge.nD,
      r.2.mem ((c.tc : Thread Cert.Dmerge.nD Cert.Dmerge.τ).loc Cert.Dmerge.main_arg0) = m ((c.tc : Thread Cert.Dmerge.nD Cert.Dmerge.τ).loc Cert.Dmerge.main_arg0)
      ∧ r.2.mem ((c.tc : Thread Cert.Dmerge.nD Cert.Dmerge.τ).loc Cert.Dmerge.main_arg1) = m ((c.tc : Thread Cert.Dmerge.nD Cert.Dmerge.τ).loc Cert.Dmerge.main_arg1)
      ∧ r.2.mem ((c.tc : Thread Cert.Dmerge.nD Cert.Dmerge.τ).loc Cert.Dmerge.main_arg2) = m ((c.tc : Thread Cert.Dmerge.nD Cert.Dmerge.τ).loc Cert.Dmerge.main_arg2)
      ∧ r.2.mem ((c.tc : Thread Cert.Dmerge.nD Cert.Dmerge.τ).loc Cert.Dmerge.main_arg3) = m ((c.tc : Thread Cert.Dmerge.nD Cert.Dmerge.τ).loc Cert.Dmerge.main_arg3))
      ∧ r.2.sem = fun _ => 0)

def quiescent_DmergeIdeal [hDmergeIdeal : Cert.DmergeIdeal.Facts] : Prop :=
  ∀ (m : (ℓ : Loc Cert.DmergeIdeal.nD Cert.DmergeIdeal.τ Cert.DmergeIdeal.sig) → Buf (Elt Ideal) ℓ) (g : Dev Cert.DmergeIdeal.nD → PrngReg), Pre_DmergeIdeal m →
    θ_run (Cert.DmergeIdeal.defs (F := Ideal)) (onTc (τ := Cert.DmergeIdeal.τ) (Cert.DmergeIdeal.main (F := Ideal))) ⟨m, fun _ => 0, g⟩ (fun r => (∀ c : Dev Cert.DmergeIdeal.nD,
      r.2.mem ((c.tc : Thread Cert.DmergeIdeal.nD Cert.DmergeIdeal.τ).loc Cert.DmergeIdeal.main_arg0) = m ((c.tc : Thread Cert.DmergeIdeal.nD Cert.DmergeIdeal.τ).loc Cert.DmergeIdeal.main_arg0)
      ∧ r.2.mem ((c.tc : Thread Cert.DmergeIdeal.nD Cert.DmergeIdeal.τ).loc Cert.DmergeIdeal.main_arg1) = m ((c.tc : Thread Cert.DmergeIdeal.nD Cert.DmergeIdeal.τ).loc Cert.DmergeIdeal.main_arg1)
      ∧ r.2.mem ((c.tc : Thread Cert.DmergeIdeal.nD Cert.DmergeIdeal.τ).loc Cert.DmergeIdeal.main_arg2) = m ((c.tc : Thread Cert.DmergeIdeal.nD Cert.DmergeIdeal.τ).loc Cert.DmergeIdeal.main_arg2)
      ∧ r.2.mem ((c.tc : Thread Cert.DmergeIdeal.nD Cert.DmergeIdeal.τ).loc Cert.DmergeIdeal.main_arg3) = m ((c.tc : Thread Cert.DmergeIdeal.nD Cert.DmergeIdeal.τ).loc Cert.DmergeIdeal.main_arg3))
      ∧ r.2.sem = fun _ => 0)

def quiescent_DmergeRefIdeal [hDmergeRefIdeal : Cert.DmergeRefIdeal.Facts] : Prop :=
  ∀ (m : (ℓ : Loc Cert.DmergeRefIdeal.nD Cert.DmergeRefIdeal.τ Cert.DmergeRefIdeal.sig) → Buf (Elt Ideal) ℓ) (g : Dev Cert.DmergeRefIdeal.nD → PrngReg), Pre_DmergeRefIdeal m →
    θ_run (Cert.DmergeRefIdeal.defs (F := Ideal)) (onTc (τ := Cert.DmergeRefIdeal.τ) (Cert.DmergeRefIdeal.main (F := Ideal))) ⟨m, fun _ => 0, g⟩ (fun r => (∀ c : Dev Cert.DmergeRefIdeal.nD,
      r.2.mem ((c.tc : Thread Cert.DmergeRefIdeal.nD Cert.DmergeRefIdeal.τ).loc Cert.DmergeRefIdeal.main_arg0) = m ((c.tc : Thread Cert.DmergeRefIdeal.nD Cert.DmergeRefIdeal.τ).loc Cert.DmergeRefIdeal.main_arg0)
      ∧ r.2.mem ((c.tc : Thread Cert.DmergeRefIdeal.nD Cert.DmergeRefIdeal.τ).loc Cert.DmergeRefIdeal.main_arg1) = m ((c.tc : Thread Cert.DmergeRefIdeal.nD Cert.DmergeRefIdeal.τ).loc Cert.DmergeRefIdeal.main_arg1)
      ∧ r.2.mem ((c.tc : Thread Cert.DmergeRefIdeal.nD Cert.DmergeRefIdeal.τ).loc Cert.DmergeRefIdeal.main_arg2) = m ((c.tc : Thread Cert.DmergeRefIdeal.nD Cert.DmergeRefIdeal.τ).loc Cert.DmergeRefIdeal.main_arg2)
      ∧ r.2.mem ((c.tc : Thread Cert.DmergeRefIdeal.nD Cert.DmergeRefIdeal.τ).loc Cert.DmergeRefIdeal.main_arg3) = m ((c.tc : Thread Cert.DmergeRefIdeal.nD Cert.DmergeRefIdeal.τ).loc Cert.DmergeRefIdeal.main_arg3))
      ∧ r.2.sem = fun _ => 0)

def quiescent_Dhid [hDhid : Cert.Dhid.Facts] : Prop :=
  ∀ (m : (ℓ : Loc Cert.Dhid.nD Cert.Dhid.τ Cert.Dhid.sig) → Buf (Elt Bits) ℓ) (g : Dev Cert.Dhid.nD → PrngReg), Pre_Dhid m →
    θ_run (Cert.Dhid.defs (F := Bits)) (onTc (τ := Cert.Dhid.τ) (Cert.Dhid.main (F := Bits))) ⟨m, fun _ => 0, g⟩ (fun r => (∀ c : Dev Cert.Dhid.nD,
      r.2.mem ((c.tc : Thread Cert.Dhid.nD Cert.Dhid.τ).loc Cert.Dhid.main_arg0) = m ((c.tc : Thread Cert.Dhid.nD Cert.Dhid.τ).loc Cert.Dhid.main_arg0)
      ∧ r.2.mem ((c.tc : Thread Cert.Dhid.nD Cert.Dhid.τ).loc Cert.Dhid.main_arg1) = m ((c.tc : Thread Cert.Dhid.nD Cert.Dhid.τ).loc Cert.Dhid.main_arg1))
      ∧ r.2.sem = fun _ => 0)

def quiescent_DhidIdeal [hDhidIdeal : Cert.DhidIdeal.Facts] : Prop :=
  ∀ (m : (ℓ : Loc Cert.DhidIdeal.nD Cert.DhidIdeal.τ Cert.DhidIdeal.sig) → Buf (Elt Ideal) ℓ) (g : Dev Cert.DhidIdeal.nD → PrngReg), Pre_DhidIdeal m →
    θ_run (Cert.DhidIdeal.defs (F := Ideal)) (onTc (τ := Cert.DhidIdeal.τ) (Cert.DhidIdeal.main (F := Ideal))) ⟨m, fun _ => 0, g⟩ (fun r => (∀ c : Dev Cert.DhidIdeal.nD,
      r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
      ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1))
      ∧ r.2.sem = fun _ => 0)

def quiescent_DhidIdeal_pre_dhid_finite [hDhidIdeal : Cert.DhidIdeal.Facts] [hPre_dhid_finite : Cert.Pre_dhid_finite.Facts] : Prop :=
  ∀ (m : (ℓ : Loc Cert.DhidIdeal.nD Cert.DhidIdeal.τ Cert.DhidIdeal.sig) → Buf (Elt Ideal) ℓ) (g : Dev Cert.DhidIdeal.nD → PrngReg), Pre_DhidIdeal_dhid_finite m →
    θ_run (Cert.DhidIdeal.defs (F := Ideal)) (onTc (τ := Cert.DhidIdeal.τ) (Cert.DhidIdeal.main (F := Ideal))) ⟨m, fun _ => 0, g⟩ (fun r => (∀ c : Dev Cert.DhidIdeal.nD,
      r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
      ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1))
      ∧ r.2.sem = fun _ => 0)

def quiescent_DhidRefIdeal [hDhidRefIdeal : Cert.DhidRefIdeal.Facts] : Prop :=
  ∀ (m : (ℓ : Loc Cert.DhidRefIdeal.nD Cert.DhidRefIdeal.τ Cert.DhidRefIdeal.sig) → Buf (Elt Ideal) ℓ) (g : Dev Cert.DhidRefIdeal.nD → PrngReg), Pre_DhidRefIdeal m →
    θ_run (Cert.DhidRefIdeal.defs (F := Ideal)) (onTc (τ := Cert.DhidRefIdeal.τ) (Cert.DhidRefIdeal.main (F := Ideal))) ⟨m, fun _ => 0, g⟩ (fun r => (∀ c : Dev Cert.DhidRefIdeal.nD,
      r.2.mem ((c.tc : Thread Cert.DhidRefIdeal.nD Cert.DhidRefIdeal.τ).loc Cert.DhidRefIdeal.main_arg0) = m ((c.tc : Thread Cert.DhidRefIdeal.nD Cert.DhidRefIdeal.τ).loc Cert.DhidRefIdeal.main_arg0)
      ∧ r.2.mem ((c.tc : Thread Cert.DhidRefIdeal.nD Cert.DhidRefIdeal.τ).loc Cert.DhidRefIdeal.main_arg1) = m ((c.tc : Thread Cert.DhidRefIdeal.nD Cert.DhidRefIdeal.τ).loc Cert.DhidRefIdeal.main_arg1))
      ∧ r.2.sem = fun _ => 0)

def quiescent_DhidRefIdeal_pre_dhid_finite [hDhidRefIdeal : Cert.DhidRefIdeal.Facts] [hPre_dhid_finite : Cert.Pre_dhid_finite.Facts] : Prop :=
  ∀ (m : (ℓ : Loc Cert.DhidRefIdeal.nD Cert.DhidRefIdeal.τ Cert.DhidRefIdeal.sig) → Buf (Elt Ideal) ℓ) (g : Dev Cert.DhidRefIdeal.nD → PrngReg), Pre_DhidRefIdeal_dhid_finite m →
    θ_run (Cert.DhidRefIdeal.defs (F := Ideal)) (onTc (τ := Cert.DhidRefIdeal.τ) (Cert.DhidRefIdeal.main (F := Ideal))) ⟨m, fun _ => 0, g⟩ (fun r => (∀ c : Dev Cert.DhidRefIdeal.nD,
      r.2.mem ((c.tc : Thread Cert.DhidRefIdeal.nD Cert.DhidRefIdeal.τ).loc Cert.DhidRefIdeal.main_arg0) = m ((c.tc : Thread Cert.DhidRefIdeal.nD Cert.DhidRefIdeal.τ).loc Cert.DhidRefIdeal.main_arg0)
      ∧ r.2.mem ((c.tc : Thread Cert.DhidRefIdeal.nD Cert.DhidRefIdeal.τ).loc Cert.DhidRefIdeal.main_arg1) = m ((c.tc : Thread Cert.DhidRefIdeal.nD Cert.DhidRefIdeal.τ).loc Cert.DhidRefIdeal.main_arg1))
      ∧ r.2.sem = fun _ => 0)

def quiescent_Dln [hDln : Cert.Dln.Facts] : Prop :=
  ∀ (m : (ℓ : Loc Cert.Dln.nD Cert.Dln.τ Cert.Dln.sig) → Buf (Elt Bits) ℓ) (g : Dev Cert.Dln.nD → PrngReg), Pre_Dln m →
    θ_run (Cert.Dln.defs (F := Bits)) (onTc (τ := Cert.Dln.τ) (Cert.Dln.main (F := Bits))) ⟨m, fun _ => 0, g⟩ (fun r => (∀ c : Dev Cert.Dln.nD,
      r.2.mem ((c.tc : Thread Cert.Dln.nD Cert.Dln.τ).loc Cert.Dln.main_arg0) = m ((c.tc : Thread Cert.Dln.nD Cert.Dln.τ).loc Cert.Dln.main_arg0)
      ∧ r.2.mem ((c.tc : Thread Cert.Dln.nD Cert.Dln.τ).loc Cert.Dln.main_arg1) = m ((c.tc : Thread Cert.Dln.nD Cert.Dln.τ).loc Cert.Dln.main_arg1)
      ∧ r.2.mem ((c.tc : Thread Cert.Dln.nD Cert.Dln.τ).loc Cert.Dln.main_arg2) = m ((c.tc : Thread Cert.Dln.nD Cert.Dln.τ).loc Cert.Dln.main_arg2)
      ∧ r.2.mem ((c.tc : Thread Cert.Dln.nD Cert.Dln.τ).loc Cert.Dln.main_arg3) = m ((c.tc : Thread Cert.Dln.nD Cert.Dln.τ).loc Cert.Dln.main_arg3)
      ∧ r.2.mem ((c.tc : Thread Cert.Dln.nD Cert.Dln.τ).loc Cert.Dln.main_arg4) = m ((c.tc : Thread Cert.Dln.nD Cert.Dln.τ).loc Cert.Dln.main_arg4))
      ∧ r.2.sem = fun _ => 0)

def quiescent_DlnIdeal [hDlnIdeal : Cert.DlnIdeal.Facts] : Prop :=
  ∀ (m : (ℓ : Loc Cert.DlnIdeal.nD Cert.DlnIdeal.τ Cert.DlnIdeal.sig) → Buf (Elt Ideal) ℓ) (g : Dev Cert.DlnIdeal.nD → PrngReg), Pre_DlnIdeal m →
    θ_run (Cert.DlnIdeal.defs (F := Ideal)) (onTc (τ := Cert.DlnIdeal.τ) (Cert.DlnIdeal.main (F := Ideal))) ⟨m, fun _ => 0, g⟩ (fun r => (∀ c : Dev Cert.DlnIdeal.nD,
      r.2.mem ((c.tc : Thread Cert.DlnIdeal.nD Cert.DlnIdeal.τ).loc Cert.DlnIdeal.main_arg0) = m ((c.tc : Thread Cert.DlnIdeal.nD Cert.DlnIdeal.τ).loc Cert.DlnIdeal.main_arg0)
      ∧ r.2.mem ((c.tc : Thread Cert.DlnIdeal.nD Cert.DlnIdeal.τ).loc Cert.DlnIdeal.main_arg1) = m ((c.tc : Thread Cert.DlnIdeal.nD Cert.DlnIdeal.τ).loc Cert.DlnIdeal.main_arg1)
      ∧ r.2.mem ((c.tc : Thread Cert.DlnIdeal.nD Cert.DlnIdeal.τ).loc Cert.DlnIdeal.main_arg2) = m ((c.tc : Thread Cert.DlnIdeal.nD Cert.DlnIdeal.τ).loc Cert.DlnIdeal.main_arg2)
      ∧ r.2.mem ((c.tc : Thread Cert.DlnIdeal.nD Cert.DlnIdeal.τ).loc Cert.DlnIdeal.main_arg3) = m ((c.tc : Thread Cert.DlnIdeal.nD Cert.DlnIdeal.τ).loc Cert.DlnIdeal.main_arg3)
      ∧ r.2.mem ((c.tc : Thread Cert.DlnIdeal.nD Cert.DlnIdeal.τ).loc Cert.DlnIdeal.main_arg4) = m ((c.tc : Thread Cert.DlnIdeal.nD Cert.DlnIdeal.τ).loc Cert.DlnIdeal.main_arg4))
      ∧ r.2.sem = fun _ => 0)

def quiescent_DlnIdeal_pre_dln_finite [hDlnIdeal : Cert.DlnIdeal.Facts] [hPre_dln_finite : Cert.Pre_dln_finite.Facts] : Prop :=
  ∀ (m : (ℓ : Loc Cert.DlnIdeal.nD Cert.DlnIdeal.τ Cert.DlnIdeal.sig) → Buf (Elt Ideal) ℓ) (g : Dev Cert.DlnIdeal.nD → PrngReg), Pre_DlnIdeal_dln_finite m →
    θ_run (Cert.DlnIdeal.defs (F := Ideal)) (onTc (τ := Cert.DlnIdeal.τ) (Cert.DlnIdeal.main (F := Ideal))) ⟨m, fun _ => 0, g⟩ (fun r => (∀ c : Dev Cert.DlnIdeal.nD,
      r.2.mem ((c.tc : Thread Cert.DlnIdeal.nD Cert.DlnIdeal.τ).loc Cert.DlnIdeal.main_arg0) = m ((c.tc : Thread Cert.DlnIdeal.nD Cert.DlnIdeal.τ).loc Cert.DlnIdeal.main_arg0)
      ∧ r.2.mem ((c.tc : Thread Cert.DlnIdeal.nD Cert.DlnIdeal.τ).loc Cert.DlnIdeal.main_arg1) = m ((c.tc : Thread Cert.DlnIdeal.nD Cert.DlnIdeal.τ).loc Cert.DlnIdeal.main_arg1)
      ∧ r.2.mem ((c.tc : Thread Cert.DlnIdeal.nD Cert.DlnIdeal.τ).loc Cert.DlnIdeal.main_arg2) = m ((c.tc : Thread Cert.DlnIdeal.nD Cert.DlnIdeal.τ).loc Cert.DlnIdeal.main_arg2)
      ∧ r.2.mem ((c.tc : Thread Cert.DlnIdeal.nD Cert.DlnIdeal.τ).loc Cert.DlnIdeal.main_arg3) = m ((c.tc : Thread Cert.DlnIdeal.nD Cert.DlnIdeal.τ).loc Cert.DlnIdeal.main_arg3)
      ∧ r.2.mem ((c.tc : Thread Cert.DlnIdeal.nD Cert.DlnIdeal.τ).loc Cert.DlnIdeal.main_arg4) = m ((c.tc : Thread Cert.DlnIdeal.nD Cert.DlnIdeal.τ).loc Cert.DlnIdeal.main_arg4))
      ∧ r.2.sem = fun _ => 0)

def quiescent_DlnRefIdeal [hDlnRefIdeal : Cert.DlnRefIdeal.Facts] : Prop :=
  ∀ (m : (ℓ : Loc Cert.DlnRefIdeal.nD Cert.DlnRefIdeal.τ Cert.DlnRefIdeal.sig) → Buf (Elt Ideal) ℓ) (g : Dev Cert.DlnRefIdeal.nD → PrngReg), Pre_DlnRefIdeal m →
    θ_run (Cert.DlnRefIdeal.defs (F := Ideal)) (onTc (τ := Cert.DlnRefIdeal.τ) (Cert.DlnRefIdeal.main (F := Ideal))) ⟨m, fun _ => 0, g⟩ (fun r => (∀ c : Dev Cert.DlnRefIdeal.nD,
      r.2.mem ((c.tc : Thread Cert.DlnRefIdeal.nD Cert.DlnRefIdeal.τ).loc Cert.DlnRefIdeal.main_arg0) = m ((c.tc : Thread Cert.DlnRefIdeal.nD Cert.DlnRefIdeal.τ).loc Cert.DlnRefIdeal.main_arg0)
      ∧ r.2.mem ((c.tc : Thread Cert.DlnRefIdeal.nD Cert.DlnRefIdeal.τ).loc Cert.DlnRefIdeal.main_arg1) = m ((c.tc : Thread Cert.DlnRefIdeal.nD Cert.DlnRefIdeal.τ).loc Cert.DlnRefIdeal.main_arg1)
      ∧ r.2.mem ((c.tc : Thread Cert.DlnRefIdeal.nD Cert.DlnRefIdeal.τ).loc Cert.DlnRefIdeal.main_arg2) = m ((c.tc : Thread Cert.DlnRefIdeal.nD Cert.DlnRefIdeal.τ).loc Cert.DlnRefIdeal.main_arg2)
      ∧ r.2.mem ((c.tc : Thread Cert.DlnRefIdeal.nD Cert.DlnRefIdeal.τ).loc Cert.DlnRefIdeal.main_arg3) = m ((c.tc : Thread Cert.DlnRefIdeal.nD Cert.DlnRefIdeal.τ).loc Cert.DlnRefIdeal.main_arg3)
      ∧ r.2.mem ((c.tc : Thread Cert.DlnRefIdeal.nD Cert.DlnRefIdeal.τ).loc Cert.DlnRefIdeal.main_arg4) = m ((c.tc : Thread Cert.DlnRefIdeal.nD Cert.DlnRefIdeal.τ).loc Cert.DlnRefIdeal.main_arg4))
      ∧ r.2.sem = fun _ => 0)

def quiescent_DlnRefIdeal_pre_dln_finite [hDlnRefIdeal : Cert.DlnRefIdeal.Facts] [hPre_dln_finite : Cert.Pre_dln_finite.Facts] : Prop :=
  ∀ (m : (ℓ : Loc Cert.DlnRefIdeal.nD Cert.DlnRefIdeal.τ Cert.DlnRefIdeal.sig) → Buf (Elt Ideal) ℓ) (g : Dev Cert.DlnRefIdeal.nD → PrngReg), Pre_DlnRefIdeal_dln_finite m →
    θ_run (Cert.DlnRefIdeal.defs (F := Ideal)) (onTc (τ := Cert.DlnRefIdeal.τ) (Cert.DlnRefIdeal.main (F := Ideal))) ⟨m, fun _ => 0, g⟩ (fun r => (∀ c : Dev Cert.DlnRefIdeal.nD,
      r.2.mem ((c.tc : Thread Cert.DlnRefIdeal.nD Cert.DlnRefIdeal.τ).loc Cert.DlnRefIdeal.main_arg0) = m ((c.tc : Thread Cert.DlnRefIdeal.nD Cert.DlnRefIdeal.τ).loc Cert.DlnRefIdeal.main_arg0)
      ∧ r.2.mem ((c.tc : Thread Cert.DlnRefIdeal.nD Cert.DlnRefIdeal.τ).loc Cert.DlnRefIdeal.main_arg1) = m ((c.tc : Thread Cert.DlnRefIdeal.nD Cert.DlnRefIdeal.τ).loc Cert.DlnRefIdeal.main_arg1)
      ∧ r.2.mem ((c.tc : Thread Cert.DlnRefIdeal.nD Cert.DlnRefIdeal.τ).loc Cert.DlnRefIdeal.main_arg2) = m ((c.tc : Thread Cert.DlnRefIdeal.nD Cert.DlnRefIdeal.τ).loc Cert.DlnRefIdeal.main_arg2)
      ∧ r.2.mem ((c.tc : Thread Cert.DlnRefIdeal.nD Cert.DlnRefIdeal.τ).loc Cert.DlnRefIdeal.main_arg3) = m ((c.tc : Thread Cert.DlnRefIdeal.nD Cert.DlnRefIdeal.τ).loc Cert.DlnRefIdeal.main_arg3)
      ∧ r.2.mem ((c.tc : Thread Cert.DlnRefIdeal.nD Cert.DlnRefIdeal.τ).loc Cert.DlnRefIdeal.main_arg4) = m ((c.tc : Thread Cert.DlnRefIdeal.nD Cert.DlnRefIdeal.τ).loc Cert.DlnRefIdeal.main_arg4))
      ∧ r.2.sem = fun _ => 0)

def quiescent_Dloss [hDloss : Cert.Dloss.Facts] : Prop :=
  ∀ (m : (ℓ : Loc Cert.Dloss.nD Cert.Dloss.τ Cert.Dloss.sig) → Buf (Elt Bits) ℓ) (g : Dev Cert.Dloss.nD → PrngReg), Pre_Dloss m →
    θ_run (Cert.Dloss.defs (F := Bits)) (onTc (τ := Cert.Dloss.τ) (Cert.Dloss.main (F := Bits))) ⟨m, fun _ => 0, g⟩ (fun r => (∀ c : Dev Cert.Dloss.nD,
      r.2.mem ((c.tc : Thread Cert.Dloss.nD Cert.Dloss.τ).loc Cert.Dloss.main_arg0) = m ((c.tc : Thread Cert.Dloss.nD Cert.Dloss.τ).loc Cert.Dloss.main_arg0)
      ∧ r.2.mem ((c.tc : Thread Cert.Dloss.nD Cert.Dloss.τ).loc Cert.Dloss.main_arg1) = m ((c.tc : Thread Cert.Dloss.nD Cert.Dloss.τ).loc Cert.Dloss.main_arg1)
      ∧ r.2.mem ((c.tc : Thread Cert.Dloss.nD Cert.Dloss.τ).loc Cert.Dloss.main_arg2) = m ((c.tc : Thread Cert.Dloss.nD Cert.Dloss.τ).loc Cert.Dloss.main_arg2)
      ∧ r.2.mem ((c.tc : Thread Cert.Dloss.nD Cert.Dloss.τ).loc Cert.Dloss.main_arg3) = m ((c.tc : Thread Cert.Dloss.nD Cert.Dloss.τ).loc Cert.Dloss.main_arg3)
      ∧ r.2.mem ((c.tc : Thread Cert.Dloss.nD Cert.Dloss.τ).loc Cert.Dloss.main_arg4) = m ((c.tc : Thread Cert.Dloss.nD Cert.Dloss.τ).loc Cert.Dloss.main_arg4))
      ∧ r.2.sem = fun _ => 0)

def quiescent_DlossIdeal [hDlossIdeal : Cert.DlossIdeal.Facts] : Prop :=
  ∀ (m : (ℓ : Loc Cert.DlossIdeal.nD Cert.DlossIdeal.τ Cert.DlossIdeal.sig) → Buf (Elt Ideal) ℓ) (g : Dev Cert.DlossIdeal.nD → PrngReg), Pre_DlossIdeal m →
    θ_run (Cert.DlossIdeal.defs (F := Ideal)) (onTc (τ := Cert.DlossIdeal.τ) (Cert.DlossIdeal.main (F := Ideal))) ⟨m, fun _ => 0, g⟩ (fun r => (∀ c : Dev Cert.DlossIdeal.nD,
      r.2.mem ((c.tc : Thread Cert.DlossIdeal.nD Cert.DlossIdeal.τ).loc Cert.DlossIdeal.main_arg0) = m ((c.tc : Thread Cert.DlossIdeal.nD Cert.DlossIdeal.τ).loc Cert.DlossIdeal.main_arg0)
      ∧ r.2.mem ((c.tc : Thread Cert.DlossIdeal.nD Cert.DlossIdeal.τ).loc Cert.DlossIdeal.main_arg1) = m ((c.tc : Thread Cert.DlossIdeal.nD Cert.DlossIdeal.τ).loc Cert.DlossIdeal.main_arg1)
      ∧ r.2.mem ((c.tc : Thread Cert.DlossIdeal.nD Cert.DlossIdeal.τ).loc Cert.DlossIdeal.main_arg2) = m ((c.tc : Thread Cert.DlossIdeal.nD Cert.DlossIdeal.τ).loc Cert.DlossIdeal.main_arg2)
      ∧ r.2.mem ((c.tc : Thread Cert.DlossIdeal.nD Cert.DlossIdeal.τ).loc Cert.DlossIdeal.main_arg3) = m ((c.tc : Thread Cert.DlossIdeal.nD Cert.DlossIdeal.τ).loc Cert.DlossIdeal.main_arg3)
      ∧ r.2.mem ((c.tc : Thread Cert.DlossIdeal.nD Cert.DlossIdeal.τ).loc Cert.DlossIdeal.main_arg4) = m ((c.tc : Thread Cert.DlossIdeal.nD Cert.DlossIdeal.τ).loc Cert.DlossIdeal.main_arg4))
      ∧ r.2.sem = fun _ => 0)

def quiescent_DlossIdeal_pre_dloss_finite [hDlossIdeal : Cert.DlossIdeal.Facts] [hPre_dloss_finite : Cert.Pre_dloss_finite.Facts] : Prop :=
  ∀ (m : (ℓ : Loc Cert.DlossIdeal.nD Cert.DlossIdeal.τ Cert.DlossIdeal.sig) → Buf (Elt Ideal) ℓ) (g : Dev Cert.DlossIdeal.nD → PrngReg), Pre_DlossIdeal_dloss_finite m →
    θ_run (Cert.DlossIdeal.defs (F := Ideal)) (onTc (τ := Cert.DlossIdeal.τ) (Cert.DlossIdeal.main (F := Ideal))) ⟨m, fun _ => 0, g⟩ (fun r => (∀ c : Dev Cert.DlossIdeal.nD,
      r.2.mem ((c.tc : Thread Cert.DlossIdeal.nD Cert.DlossIdeal.τ).loc Cert.DlossIdeal.main_arg0) = m ((c.tc : Thread Cert.DlossIdeal.nD Cert.DlossIdeal.τ).loc Cert.DlossIdeal.main_arg0)
      ∧ r.2.mem ((c.tc : Thread Cert.DlossIdeal.nD Cert.DlossIdeal.τ).loc Cert.DlossIdeal.main_arg1) = m ((c.tc : Thread Cert.DlossIdeal.nD Cert.DlossIdeal.τ).loc Cert.DlossIdeal.main_arg1)
      ∧ r.2.mem ((c.tc : Thread Cert.DlossIdeal.nD Cert.DlossIdeal.τ).loc Cert.DlossIdeal.main_arg2) = m ((c.tc : Thread Cert.DlossIdeal.nD Cert.DlossIdeal.τ).loc Cert.DlossIdeal.main_arg2)
      ∧ r.2.mem ((c.tc : Thread Cert.DlossIdeal.nD Cert.DlossIdeal.τ).loc Cert.DlossIdeal.main_arg3) = m ((c.tc : Thread Cert.DlossIdeal.nD Cert.DlossIdeal.τ).loc Cert.DlossIdeal.main_arg3)
      ∧ r.2.mem ((c.tc : Thread Cert.DlossIdeal.nD Cert.DlossIdeal.τ).loc Cert.DlossIdeal.main_arg4) = m ((c.tc : Thread Cert.DlossIdeal.nD Cert.DlossIdeal.τ).loc Cert.DlossIdeal.main_arg4))
      ∧ r.2.sem = fun _ => 0)

def quiescent_DlossRefIdeal [hDlossRefIdeal : Cert.DlossRefIdeal.Facts] : Prop :=
  ∀ (m : (ℓ : Loc Cert.DlossRefIdeal.nD Cert.DlossRefIdeal.τ Cert.DlossRefIdeal.sig) → Buf (Elt Ideal) ℓ) (g : Dev Cert.DlossRefIdeal.nD → PrngReg), Pre_DlossRefIdeal m →
    θ_run (Cert.DlossRefIdeal.defs (F := Ideal)) (onTc (τ := Cert.DlossRefIdeal.τ) (Cert.DlossRefIdeal.main (F := Ideal))) ⟨m, fun _ => 0, g⟩ (fun r => (∀ c : Dev Cert.DlossRefIdeal.nD,
      r.2.mem ((c.tc : Thread Cert.DlossRefIdeal.nD Cert.DlossRefIdeal.τ).loc Cert.DlossRefIdeal.main_arg0) = m ((c.tc : Thread Cert.DlossRefIdeal.nD Cert.DlossRefIdeal.τ).loc Cert.DlossRefIdeal.main_arg0)
      ∧ r.2.mem ((c.tc : Thread Cert.DlossRefIdeal.nD Cert.DlossRefIdeal.τ).loc Cert.DlossRefIdeal.main_arg1) = m ((c.tc : Thread Cert.DlossRefIdeal.nD Cert.DlossRefIdeal.τ).loc Cert.DlossRefIdeal.main_arg1)
      ∧ r.2.mem ((c.tc : Thread Cert.DlossRefIdeal.nD Cert.DlossRefIdeal.τ).loc Cert.DlossRefIdeal.main_arg2) = m ((c.tc : Thread Cert.DlossRefIdeal.nD Cert.DlossRefIdeal.τ).loc Cert.DlossRefIdeal.main_arg2)
      ∧ r.2.mem ((c.tc : Thread Cert.DlossRefIdeal.nD Cert.DlossRefIdeal.τ).loc Cert.DlossRefIdeal.main_arg3) = m ((c.tc : Thread Cert.DlossRefIdeal.nD Cert.DlossRefIdeal.τ).loc Cert.DlossRefIdeal.main_arg3)
      ∧ r.2.mem ((c.tc : Thread Cert.DlossRefIdeal.nD Cert.DlossRefIdeal.τ).loc Cert.DlossRefIdeal.main_arg4) = m ((c.tc : Thread Cert.DlossRefIdeal.nD Cert.DlossRefIdeal.τ).loc Cert.DlossRefIdeal.main_arg4))
      ∧ r.2.sem = fun _ => 0)

def quiescent_DlossRefIdeal_pre_dloss_finite [hDlossRefIdeal : Cert.DlossRefIdeal.Facts] [hPre_dloss_finite : Cert.Pre_dloss_finite.Facts] : Prop :=
  ∀ (m : (ℓ : Loc Cert.DlossRefIdeal.nD Cert.DlossRefIdeal.τ Cert.DlossRefIdeal.sig) → Buf (Elt Ideal) ℓ) (g : Dev Cert.DlossRefIdeal.nD → PrngReg), Pre_DlossRefIdeal_dloss_finite m →
    θ_run (Cert.DlossRefIdeal.defs (F := Ideal)) (onTc (τ := Cert.DlossRefIdeal.τ) (Cert.DlossRefIdeal.main (F := Ideal))) ⟨m, fun _ => 0, g⟩ (fun r => (∀ c : Dev Cert.DlossRefIdeal.nD,
      r.2.mem ((c.tc : Thread Cert.DlossRefIdeal.nD Cert.DlossRefIdeal.τ).loc Cert.DlossRefIdeal.main_arg0) = m ((c.tc : Thread Cert.DlossRefIdeal.nD Cert.DlossRefIdeal.τ).loc Cert.DlossRefIdeal.main_arg0)
      ∧ r.2.mem ((c.tc : Thread Cert.DlossRefIdeal.nD Cert.DlossRefIdeal.τ).loc Cert.DlossRefIdeal.main_arg1) = m ((c.tc : Thread Cert.DlossRefIdeal.nD Cert.DlossRefIdeal.τ).loc Cert.DlossRefIdeal.main_arg1)
      ∧ r.2.mem ((c.tc : Thread Cert.DlossRefIdeal.nD Cert.DlossRefIdeal.τ).loc Cert.DlossRefIdeal.main_arg2) = m ((c.tc : Thread Cert.DlossRefIdeal.nD Cert.DlossRefIdeal.τ).loc Cert.DlossRefIdeal.main_arg2)
      ∧ r.2.mem ((c.tc : Thread Cert.DlossRefIdeal.nD Cert.DlossRefIdeal.τ).loc Cert.DlossRefIdeal.main_arg3) = m ((c.tc : Thread Cert.DlossRefIdeal.nD Cert.DlossRefIdeal.τ).loc Cert.DlossRefIdeal.main_arg3)
      ∧ r.2.mem ((c.tc : Thread Cert.DlossRefIdeal.nD Cert.DlossRefIdeal.τ).loc Cert.DlossRefIdeal.main_arg4) = m ((c.tc : Thread Cert.DlossRefIdeal.nD Cert.DlossRefIdeal.τ).loc Cert.DlossRefIdeal.main_arg4))
      ∧ r.2.sem = fun _ => 0)

def quiescent_Dyb [hDyb : Cert.Dyb.Facts] : Prop :=
  ∀ (m : (ℓ : Loc Cert.Dyb.nD Cert.Dyb.τ Cert.Dyb.sig) → Buf (Elt Bits) ℓ) (g : Dev Cert.Dyb.nD → PrngReg), Pre_Dyb m →
    θ_run (Cert.Dyb.defs (F := Bits)) (onTc (τ := Cert.Dyb.τ) (Cert.Dyb.main (F := Bits))) ⟨m, fun _ => 0, g⟩ (fun r => (∀ c : Dev Cert.Dyb.nD,
      r.2.mem ((c.tc : Thread Cert.Dyb.nD Cert.Dyb.τ).loc Cert.Dyb.main_arg0) = m ((c.tc : Thread Cert.Dyb.nD Cert.Dyb.τ).loc Cert.Dyb.main_arg0)
      ∧ r.2.mem ((c.tc : Thread Cert.Dyb.nD Cert.Dyb.τ).loc Cert.Dyb.main_arg1) = m ((c.tc : Thread Cert.Dyb.nD Cert.Dyb.τ).loc Cert.Dyb.main_arg1)
      ∧ r.2.mem ((c.tc : Thread Cert.Dyb.nD Cert.Dyb.τ).loc Cert.Dyb.main_arg2) = m ((c.tc : Thread Cert.Dyb.nD Cert.Dyb.τ).loc Cert.Dyb.main_arg2)
      ∧ r.2.mem ((c.tc : Thread Cert.Dyb.nD Cert.Dyb.τ).loc Cert.Dyb.main_arg3) = m ((c.tc : Thread Cert.Dyb.nD Cert.Dyb.τ).loc Cert.Dyb.main_arg3))
      ∧ r.2.sem = fun _ => 0)

def quiescent_DybIdeal [hDybIdeal : Cert.DybIdeal.Facts] : Prop :=
  ∀ (m : (ℓ : Loc Cert.DybIdeal.nD Cert.DybIdeal.τ Cert.DybIdeal.sig) → Buf (Elt Ideal) ℓ) (g : Dev Cert.DybIdeal.nD → PrngReg), Pre_DybIdeal m →
    θ_run (Cert.DybIdeal.defs (F := Ideal)) (onTc (τ := Cert.DybIdeal.τ) (Cert.DybIdeal.main (F := Ideal))) ⟨m, fun _ => 0, g⟩ (fun r => (∀ c : Dev Cert.DybIdeal.nD,
      r.2.mem ((c.tc : Thread Cert.DybIdeal.nD Cert.DybIdeal.τ).loc Cert.DybIdeal.main_arg0) = m ((c.tc : Thread Cert.DybIdeal.nD Cert.DybIdeal.τ).loc Cert.DybIdeal.main_arg0)
      ∧ r.2.mem ((c.tc : Thread Cert.DybIdeal.nD Cert.DybIdeal.τ).loc Cert.DybIdeal.main_arg1) = m ((c.tc : Thread Cert.DybIdeal.nD Cert.DybIdeal.τ).loc Cert.DybIdeal.main_arg1)
      ∧ r.2.mem ((c.tc : Thread Cert.DybIdeal.nD Cert.DybIdeal.τ).loc Cert.DybIdeal.main_arg2) = m ((c.tc : Thread Cert.DybIdeal.nD Cert.DybIdeal.τ).loc Cert.DybIdeal.main_arg2)
      ∧ r.2.mem ((c.tc : Thread Cert.DybIdeal.nD Cert.DybIdeal.τ).loc Cert.DybIdeal.main_arg3) = m ((c.tc : Thread Cert.DybIdeal.nD Cert.DybIdeal.τ).loc Cert.DybIdeal.main_arg3))
      ∧ r.2.sem = fun _ => 0)

def quiescent_DybIdeal_pre_dyb_finite [hDybIdeal : Cert.DybIdeal.Facts] [hPre_dyb_finite : Cert.Pre_dyb_finite.Facts] : Prop :=
  ∀ (m : (ℓ : Loc Cert.DybIdeal.nD Cert.DybIdeal.τ Cert.DybIdeal.sig) → Buf (Elt Ideal) ℓ) (g : Dev Cert.DybIdeal.nD → PrngReg), Pre_DybIdeal_dyb_finite m →
    θ_run (Cert.DybIdeal.defs (F := Ideal)) (onTc (τ := Cert.DybIdeal.τ) (Cert.DybIdeal.main (F := Ideal))) ⟨m, fun _ => 0, g⟩ (fun r => (∀ c : Dev Cert.DybIdeal.nD,
      r.2.mem ((c.tc : Thread Cert.DybIdeal.nD Cert.DybIdeal.τ).loc Cert.DybIdeal.main_arg0) = m ((c.tc : Thread Cert.DybIdeal.nD Cert.DybIdeal.τ).loc Cert.DybIdeal.main_arg0)
      ∧ r.2.mem ((c.tc : Thread Cert.DybIdeal.nD Cert.DybIdeal.τ).loc Cert.DybIdeal.main_arg1) = m ((c.tc : Thread Cert.DybIdeal.nD Cert.DybIdeal.τ).loc Cert.DybIdeal.main_arg1)
      ∧ r.2.mem ((c.tc : Thread Cert.DybIdeal.nD Cert.DybIdeal.τ).loc Cert.DybIdeal.main_arg2) = m ((c.tc : Thread Cert.DybIdeal.nD Cert.DybIdeal.τ).loc Cert.DybIdeal.main_arg2)
      ∧ r.2.mem ((c.tc : Thread Cert.DybIdeal.nD Cert.DybIdeal.τ).loc Cert.DybIdeal.main_arg3) = m ((c.tc : Thread Cert.DybIdeal.nD Cert.DybIdeal.τ).loc Cert.DybIdeal.main_arg3))
      ∧ r.2.sem = fun _ => 0)

def quiescent_DybRefIdeal [hDybRefIdeal : Cert.DybRefIdeal.Facts] : Prop :=
  ∀ (m : (ℓ : Loc Cert.DybRefIdeal.nD Cert.DybRefIdeal.τ Cert.DybRefIdeal.sig) → Buf (Elt Ideal) ℓ) (g : Dev Cert.DybRefIdeal.nD → PrngReg), Pre_DybRefIdeal m →
    θ_run (Cert.DybRefIdeal.defs (F := Ideal)) (onTc (τ := Cert.DybRefIdeal.τ) (Cert.DybRefIdeal.main (F := Ideal))) ⟨m, fun _ => 0, g⟩ (fun r => (∀ c : Dev Cert.DybRefIdeal.nD,
      r.2.mem ((c.tc : Thread Cert.DybRefIdeal.nD Cert.DybRefIdeal.τ).loc Cert.DybRefIdeal.main_arg0) = m ((c.tc : Thread Cert.DybRefIdeal.nD Cert.DybRefIdeal.τ).loc Cert.DybRefIdeal.main_arg0)
      ∧ r.2.mem ((c.tc : Thread Cert.DybRefIdeal.nD Cert.DybRefIdeal.τ).loc Cert.DybRefIdeal.main_arg1) = m ((c.tc : Thread Cert.DybRefIdeal.nD Cert.DybRefIdeal.τ).loc Cert.DybRefIdeal.main_arg1)
      ∧ r.2.mem ((c.tc : Thread Cert.DybRefIdeal.nD Cert.DybRefIdeal.τ).loc Cert.DybRefIdeal.main_arg2) = m ((c.tc : Thread Cert.DybRefIdeal.nD Cert.DybRefIdeal.τ).loc Cert.DybRefIdeal.main_arg2)
      ∧ r.2.mem ((c.tc : Thread Cert.DybRefIdeal.nD Cert.DybRefIdeal.τ).loc Cert.DybRefIdeal.main_arg3) = m ((c.tc : Thread Cert.DybRefIdeal.nD Cert.DybRefIdeal.τ).loc Cert.DybRefIdeal.main_arg3))
      ∧ r.2.sem = fun _ => 0)

def quiescent_DybRefIdeal_pre_dyb_finite [hDybRefIdeal : Cert.DybRefIdeal.Facts] [hPre_dyb_finite : Cert.Pre_dyb_finite.Facts] : Prop :=
  ∀ (m : (ℓ : Loc Cert.DybRefIdeal.nD Cert.DybRefIdeal.τ Cert.DybRefIdeal.sig) → Buf (Elt Ideal) ℓ) (g : Dev Cert.DybRefIdeal.nD → PrngReg), Pre_DybRefIdeal_dyb_finite m →
    θ_run (Cert.DybRefIdeal.defs (F := Ideal)) (onTc (τ := Cert.DybRefIdeal.τ) (Cert.DybRefIdeal.main (F := Ideal))) ⟨m, fun _ => 0, g⟩ (fun r => (∀ c : Dev Cert.DybRefIdeal.nD,
      r.2.mem ((c.tc : Thread Cert.DybRefIdeal.nD Cert.DybRefIdeal.τ).loc Cert.DybRefIdeal.main_arg0) = m ((c.tc : Thread Cert.DybRefIdeal.nD Cert.DybRefIdeal.τ).loc Cert.DybRefIdeal.main_arg0)
      ∧ r.2.mem ((c.tc : Thread Cert.DybRefIdeal.nD Cert.DybRefIdeal.τ).loc Cert.DybRefIdeal.main_arg1) = m ((c.tc : Thread Cert.DybRefIdeal.nD Cert.DybRefIdeal.τ).loc Cert.DybRefIdeal.main_arg1)
      ∧ r.2.mem ((c.tc : Thread Cert.DybRefIdeal.nD Cert.DybRefIdeal.τ).loc Cert.DybRefIdeal.main_arg2) = m ((c.tc : Thread Cert.DybRefIdeal.nD Cert.DybRefIdeal.τ).loc Cert.DybRefIdeal.main_arg2)
      ∧ r.2.mem ((c.tc : Thread Cert.DybRefIdeal.nD Cert.DybRefIdeal.τ).loc Cert.DybRefIdeal.main_arg3) = m ((c.tc : Thread Cert.DybRefIdeal.nD Cert.DybRefIdeal.τ).loc Cert.DybRefIdeal.main_arg3))
      ∧ r.2.sem = fun _ => 0)

def quiescent_Dfgate [hDfgate : Cert.Dfgate.Facts] : Prop :=
  ∀ (m : (ℓ : Loc Cert.Dfgate.nD Cert.Dfgate.τ Cert.Dfgate.sig) → Buf (Elt Bits) ℓ) (g : Dev Cert.Dfgate.nD → PrngReg), Pre_Dfgate m →
    θ_run (Cert.Dfgate.defs (F := Bits)) (onTc (τ := Cert.Dfgate.τ) (Cert.Dfgate.main (F := Bits))) ⟨m, fun _ => 0, g⟩ (fun r => (∀ c : Dev Cert.Dfgate.nD,
      r.2.mem ((c.tc : Thread Cert.Dfgate.nD Cert.Dfgate.τ).loc Cert.Dfgate.main_arg0) = m ((c.tc : Thread Cert.Dfgate.nD Cert.Dfgate.τ).loc Cert.Dfgate.main_arg0)
      ∧ r.2.mem ((c.tc : Thread Cert.Dfgate.nD Cert.Dfgate.τ).loc Cert.Dfgate.main_arg1) = m ((c.tc : Thread Cert.Dfgate.nD Cert.Dfgate.τ).loc Cert.Dfgate.main_arg1)
      ∧ r.2.mem ((c.tc : Thread Cert.Dfgate.nD Cert.Dfgate.τ).loc Cert.Dfgate.main_arg2) = m ((c.tc : Thread Cert.Dfgate.nD Cert.Dfgate.τ).loc Cert.Dfgate.main_arg2)
      ∧ r.2.mem ((c.tc : Thread Cert.Dfgate.nD Cert.Dfgate.τ).loc Cert.Dfgate.main_arg3) = m ((c.tc : Thread Cert.Dfgate.nD Cert.Dfgate.τ).loc Cert.Dfgate.main_arg3))
      ∧ r.2.sem = fun _ => 0)

def quiescent_DfgateIdeal [hDfgateIdeal : Cert.DfgateIdeal.Facts] : Prop :=
  ∀ (m : (ℓ : Loc Cert.DfgateIdeal.nD Cert.DfgateIdeal.τ Cert.DfgateIdeal.sig) → Buf (Elt Ideal) ℓ) (g : Dev Cert.DfgateIdeal.nD → PrngReg), Pre_DfgateIdeal m →
    θ_run (Cert.DfgateIdeal.defs (F := Ideal)) (onTc (τ := Cert.DfgateIdeal.τ) (Cert.DfgateIdeal.main (F := Ideal))) ⟨m, fun _ => 0, g⟩ (fun r => (∀ c : Dev Cert.DfgateIdeal.nD,
      r.2.mem ((c.tc : Thread Cert.DfgateIdeal.nD Cert.DfgateIdeal.τ).loc Cert.DfgateIdeal.main_arg0) = m ((c.tc : Thread Cert.DfgateIdeal.nD Cert.DfgateIdeal.τ).loc Cert.DfgateIdeal.main_arg0)
      ∧ r.2.mem ((c.tc : Thread Cert.DfgateIdeal.nD Cert.DfgateIdeal.τ).loc Cert.DfgateIdeal.main_arg1) = m ((c.tc : Thread Cert.DfgateIdeal.nD Cert.DfgateIdeal.τ).loc Cert.DfgateIdeal.main_arg1)
      ∧ r.2.mem ((c.tc : Thread Cert.DfgateIdeal.nD Cert.DfgateIdeal.τ).loc Cert.DfgateIdeal.main_arg2) = m ((c.tc : Thread Cert.DfgateIdeal.nD Cert.DfgateIdeal.τ).loc Cert.DfgateIdeal.main_arg2)
      ∧ r.2.mem ((c.tc : Thread Cert.DfgateIdeal.nD Cert.DfgateIdeal.τ).loc Cert.DfgateIdeal.main_arg3) = m ((c.tc : Thread Cert.DfgateIdeal.nD Cert.DfgateIdeal.τ).loc Cert.DfgateIdeal.main_arg3))
      ∧ r.2.sem = fun _ => 0)

def quiescent_DfgateIdeal_pre_dfgate_finite [hDfgateIdeal : Cert.DfgateIdeal.Facts] [hPre_dfgate_finite : Cert.Pre_dfgate_finite.Facts] : Prop :=
  ∀ (m : (ℓ : Loc Cert.DfgateIdeal.nD Cert.DfgateIdeal.τ Cert.DfgateIdeal.sig) → Buf (Elt Ideal) ℓ) (g : Dev Cert.DfgateIdeal.nD → PrngReg), Pre_DfgateIdeal_dfgate_finite m →
    θ_run (Cert.DfgateIdeal.defs (F := Ideal)) (onTc (τ := Cert.DfgateIdeal.τ) (Cert.DfgateIdeal.main (F := Ideal))) ⟨m, fun _ => 0, g⟩ (fun r => (∀ c : Dev Cert.DfgateIdeal.nD,
      r.2.mem ((c.tc : Thread Cert.DfgateIdeal.nD Cert.DfgateIdeal.τ).loc Cert.DfgateIdeal.main_arg0) = m ((c.tc : Thread Cert.DfgateIdeal.nD Cert.DfgateIdeal.τ).loc Cert.DfgateIdeal.main_arg0)
      ∧ r.2.mem ((c.tc : Thread Cert.DfgateIdeal.nD Cert.DfgateIdeal.τ).loc Cert.DfgateIdeal.main_arg1) = m ((c.tc : Thread Cert.DfgateIdeal.nD Cert.DfgateIdeal.τ).loc Cert.DfgateIdeal.main_arg1)
      ∧ r.2.mem ((c.tc : Thread Cert.DfgateIdeal.nD Cert.DfgateIdeal.τ).loc Cert.DfgateIdeal.main_arg2) = m ((c.tc : Thread Cert.DfgateIdeal.nD Cert.DfgateIdeal.τ).loc Cert.DfgateIdeal.main_arg2)
      ∧ r.2.mem ((c.tc : Thread Cert.DfgateIdeal.nD Cert.DfgateIdeal.τ).loc Cert.DfgateIdeal.main_arg3) = m ((c.tc : Thread Cert.DfgateIdeal.nD Cert.DfgateIdeal.τ).loc Cert.DfgateIdeal.main_arg3))
      ∧ r.2.sem = fun _ => 0)

def quiescent_DfgateRefIdeal [hDfgateRefIdeal : Cert.DfgateRefIdeal.Facts] : Prop :=
  ∀ (m : (ℓ : Loc Cert.DfgateRefIdeal.nD Cert.DfgateRefIdeal.τ Cert.DfgateRefIdeal.sig) → Buf (Elt Ideal) ℓ) (g : Dev Cert.DfgateRefIdeal.nD → PrngReg), Pre_DfgateRefIdeal m →
    θ_run (Cert.DfgateRefIdeal.defs (F := Ideal)) (onTc (τ := Cert.DfgateRefIdeal.τ) (Cert.DfgateRefIdeal.main (F := Ideal))) ⟨m, fun _ => 0, g⟩ (fun r => (∀ c : Dev Cert.DfgateRefIdeal.nD,
      r.2.mem ((c.tc : Thread Cert.DfgateRefIdeal.nD Cert.DfgateRefIdeal.τ).loc Cert.DfgateRefIdeal.main_arg0) = m ((c.tc : Thread Cert.DfgateRefIdeal.nD Cert.DfgateRefIdeal.τ).loc Cert.DfgateRefIdeal.main_arg0)
      ∧ r.2.mem ((c.tc : Thread Cert.DfgateRefIdeal.nD Cert.DfgateRefIdeal.τ).loc Cert.DfgateRefIdeal.main_arg1) = m ((c.tc : Thread Cert.DfgateRefIdeal.nD Cert.DfgateRefIdeal.τ).loc Cert.DfgateRefIdeal.main_arg1)
      ∧ r.2.mem ((c.tc : Thread Cert.DfgateRefIdeal.nD Cert.DfgateRefIdeal.τ).loc Cert.DfgateRefIdeal.main_arg2) = m ((c.tc : Thread Cert.DfgateRefIdeal.nD Cert.DfgateRefIdeal.τ).loc Cert.DfgateRefIdeal.main_arg2)
      ∧ r.2.mem ((c.tc : Thread Cert.DfgateRefIdeal.nD Cert.DfgateRefIdeal.τ).loc Cert.DfgateRefIdeal.main_arg3) = m ((c.tc : Thread Cert.DfgateRefIdeal.nD Cert.DfgateRefIdeal.τ).loc Cert.DfgateRefIdeal.main_arg3))
      ∧ r.2.sem = fun _ => 0)

def quiescent_DfgateRefIdeal_pre_dfgate_finite [hDfgateRefIdeal : Cert.DfgateRefIdeal.Facts] [hPre_dfgate_finite : Cert.Pre_dfgate_finite.Facts] : Prop :=
  ∀ (m : (ℓ : Loc Cert.DfgateRefIdeal.nD Cert.DfgateRefIdeal.τ Cert.DfgateRefIdeal.sig) → Buf (Elt Ideal) ℓ) (g : Dev Cert.DfgateRefIdeal.nD → PrngReg), Pre_DfgateRefIdeal_dfgate_finite m →
    θ_run (Cert.DfgateRefIdeal.defs (F := Ideal)) (onTc (τ := Cert.DfgateRefIdeal.τ) (Cert.DfgateRefIdeal.main (F := Ideal))) ⟨m, fun _ => 0, g⟩ (fun r => (∀ c : Dev Cert.DfgateRefIdeal.nD,
      r.2.mem ((c.tc : Thread Cert.DfgateRefIdeal.nD Cert.DfgateRefIdeal.τ).loc Cert.DfgateRefIdeal.main_arg0) = m ((c.tc : Thread Cert.DfgateRefIdeal.nD Cert.DfgateRefIdeal.τ).loc Cert.DfgateRefIdeal.main_arg0)
      ∧ r.2.mem ((c.tc : Thread Cert.DfgateRefIdeal.nD Cert.DfgateRefIdeal.τ).loc Cert.DfgateRefIdeal.main_arg1) = m ((c.tc : Thread Cert.DfgateRefIdeal.nD Cert.DfgateRefIdeal.τ).loc Cert.DfgateRefIdeal.main_arg1)
      ∧ r.2.mem ((c.tc : Thread Cert.DfgateRefIdeal.nD Cert.DfgateRefIdeal.τ).loc Cert.DfgateRefIdeal.main_arg2) = m ((c.tc : Thread Cert.DfgateRefIdeal.nD Cert.DfgateRefIdeal.τ).loc Cert.DfgateRefIdeal.main_arg2)
      ∧ r.2.mem ((c.tc : Thread Cert.DfgateRefIdeal.nD Cert.DfgateRefIdeal.τ).loc Cert.DfgateRefIdeal.main_arg3) = m ((c.tc : Thread Cert.DfgateRefIdeal.nD Cert.DfgateRefIdeal.τ).loc Cert.DfgateRefIdeal.main_arg3))
      ∧ r.2.sem = fun _ => 0)

def quiescent_Dfox [hDfox : Cert.Dfox.Facts] : Prop :=
  ∀ (m : (ℓ : Loc Cert.Dfox.nD Cert.Dfox.τ Cert.Dfox.sig) → Buf (Elt Bits) ℓ) (g : Dev Cert.Dfox.nD → PrngReg), Pre_Dfox m →
    θ_run (Cert.Dfox.defs (F := Bits)) (onTc (τ := Cert.Dfox.τ) (Cert.Dfox.main (F := Bits))) ⟨m, fun _ => 0, g⟩ (fun r => (∀ c : Dev Cert.Dfox.nD,
      r.2.mem ((c.tc : Thread Cert.Dfox.nD Cert.Dfox.τ).loc Cert.Dfox.main_arg0) = m ((c.tc : Thread Cert.Dfox.nD Cert.Dfox.τ).loc Cert.Dfox.main_arg0)
      ∧ r.2.mem ((c.tc : Thread Cert.Dfox.nD Cert.Dfox.τ).loc Cert.Dfox.main_arg1) = m ((c.tc : Thread Cert.Dfox.nD Cert.Dfox.τ).loc Cert.Dfox.main_arg1)
      ∧ r.2.mem ((c.tc : Thread Cert.Dfox.nD Cert.Dfox.τ).loc Cert.Dfox.main_arg2) = m ((c.tc : Thread Cert.Dfox.nD Cert.Dfox.τ).loc Cert.Dfox.main_arg2)
      ∧ r.2.mem ((c.tc : Thread Cert.Dfox.nD Cert.Dfox.τ).loc Cert.Dfox.main_arg3) = m ((c.tc : Thread Cert.Dfox.nD Cert.Dfox.τ).loc Cert.Dfox.main_arg3)
      ∧ r.2.mem ((c.tc : Thread Cert.Dfox.nD Cert.Dfox.τ).loc Cert.Dfox.main_arg4) = m ((c.tc : Thread Cert.Dfox.nD Cert.Dfox.τ).loc Cert.Dfox.main_arg4))
      ∧ r.2.sem = fun _ => 0)

def quiescent_DfoxIdeal [hDfoxIdeal : Cert.DfoxIdeal.Facts] : Prop :=
  ∀ (m : (ℓ : Loc Cert.DfoxIdeal.nD Cert.DfoxIdeal.τ Cert.DfoxIdeal.sig) → Buf (Elt Ideal) ℓ) (g : Dev Cert.DfoxIdeal.nD → PrngReg), Pre_DfoxIdeal m →
    θ_run (Cert.DfoxIdeal.defs (F := Ideal)) (onTc (τ := Cert.DfoxIdeal.τ) (Cert.DfoxIdeal.main (F := Ideal))) ⟨m, fun _ => 0, g⟩ (fun r => (∀ c : Dev Cert.DfoxIdeal.nD,
      r.2.mem ((c.tc : Thread Cert.DfoxIdeal.nD Cert.DfoxIdeal.τ).loc Cert.DfoxIdeal.main_arg0) = m ((c.tc : Thread Cert.DfoxIdeal.nD Cert.DfoxIdeal.τ).loc Cert.DfoxIdeal.main_arg0)
      ∧ r.2.mem ((c.tc : Thread Cert.DfoxIdeal.nD Cert.DfoxIdeal.τ).loc Cert.DfoxIdeal.main_arg1) = m ((c.tc : Thread Cert.DfoxIdeal.nD Cert.DfoxIdeal.τ).loc Cert.DfoxIdeal.main_arg1)
      ∧ r.2.mem ((c.tc : Thread Cert.DfoxIdeal.nD Cert.DfoxIdeal.τ).loc Cert.DfoxIdeal.main_arg2) = m ((c.tc : Thread Cert.DfoxIdeal.nD Cert.DfoxIdeal.τ).loc Cert.DfoxIdeal.main_arg2)
      ∧ r.2.mem ((c.tc : Thread Cert.DfoxIdeal.nD Cert.DfoxIdeal.τ).loc Cert.DfoxIdeal.main_arg3) = m ((c.tc : Thread Cert.DfoxIdeal.nD Cert.DfoxIdeal.τ).loc Cert.DfoxIdeal.main_arg3)
      ∧ r.2.mem ((c.tc : Thread Cert.DfoxIdeal.nD Cert.DfoxIdeal.τ).loc Cert.DfoxIdeal.main_arg4) = m ((c.tc : Thread Cert.DfoxIdeal.nD Cert.DfoxIdeal.τ).loc Cert.DfoxIdeal.main_arg4))
      ∧ r.2.sem = fun _ => 0)

def quiescent_DfoxIdeal_pre_dfox_finite [hDfoxIdeal : Cert.DfoxIdeal.Facts] [hPre_dfox_finite : Cert.Pre_dfox_finite.Facts] : Prop :=
  ∀ (m : (ℓ : Loc Cert.DfoxIdeal.nD Cert.DfoxIdeal.τ Cert.DfoxIdeal.sig) → Buf (Elt Ideal) ℓ) (g : Dev Cert.DfoxIdeal.nD → PrngReg), Pre_DfoxIdeal_dfox_finite m →
    θ_run (Cert.DfoxIdeal.defs (F := Ideal)) (onTc (τ := Cert.DfoxIdeal.τ) (Cert.DfoxIdeal.main (F := Ideal))) ⟨m, fun _ => 0, g⟩ (fun r => (∀ c : Dev Cert.DfoxIdeal.nD,
      r.2.mem ((c.tc : Thread Cert.DfoxIdeal.nD Cert.DfoxIdeal.τ).loc Cert.DfoxIdeal.main_arg0) = m ((c.tc : Thread Cert.DfoxIdeal.nD Cert.DfoxIdeal.τ).loc Cert.DfoxIdeal.main_arg0)
      ∧ r.2.mem ((c.tc : Thread Cert.DfoxIdeal.nD Cert.DfoxIdeal.τ).loc Cert.DfoxIdeal.main_arg1) = m ((c.tc : Thread Cert.DfoxIdeal.nD Cert.DfoxIdeal.τ).loc Cert.DfoxIdeal.main_arg1)
      ∧ r.2.mem ((c.tc : Thread Cert.DfoxIdeal.nD Cert.DfoxIdeal.τ).loc Cert.DfoxIdeal.main_arg2) = m ((c.tc : Thread Cert.DfoxIdeal.nD Cert.DfoxIdeal.τ).loc Cert.DfoxIdeal.main_arg2)
      ∧ r.2.mem ((c.tc : Thread Cert.DfoxIdeal.nD Cert.DfoxIdeal.τ).loc Cert.DfoxIdeal.main_arg3) = m ((c.tc : Thread Cert.DfoxIdeal.nD Cert.DfoxIdeal.τ).loc Cert.DfoxIdeal.main_arg3)
      ∧ r.2.mem ((c.tc : Thread Cert.DfoxIdeal.nD Cert.DfoxIdeal.τ).loc Cert.DfoxIdeal.main_arg4) = m ((c.tc : Thread Cert.DfoxIdeal.nD Cert.DfoxIdeal.τ).loc Cert.DfoxIdeal.main_arg4))
      ∧ r.2.sem = fun _ => 0)

def quiescent_DfoxRefIdeal [hDfoxRefIdeal : Cert.DfoxRefIdeal.Facts] : Prop :=
  ∀ (m : (ℓ : Loc Cert.DfoxRefIdeal.nD Cert.DfoxRefIdeal.τ Cert.DfoxRefIdeal.sig) → Buf (Elt Ideal) ℓ) (g : Dev Cert.DfoxRefIdeal.nD → PrngReg), Pre_DfoxRefIdeal m →
    θ_run (Cert.DfoxRefIdeal.defs (F := Ideal)) (onTc (τ := Cert.DfoxRefIdeal.τ) (Cert.DfoxRefIdeal.main (F := Ideal))) ⟨m, fun _ => 0, g⟩ (fun r => (∀ c : Dev Cert.DfoxRefIdeal.nD,
      r.2.mem ((c.tc : Thread Cert.DfoxRefIdeal.nD Cert.DfoxRefIdeal.τ).loc Cert.DfoxRefIdeal.main_arg0) = m ((c.tc : Thread Cert.DfoxRefIdeal.nD Cert.DfoxRefIdeal.τ).loc Cert.DfoxRefIdeal.main_arg0)
      ∧ r.2.mem ((c.tc : Thread Cert.DfoxRefIdeal.nD Cert.DfoxRefIdeal.τ).loc Cert.DfoxRefIdeal.main_arg1) = m ((c.tc : Thread Cert.DfoxRefIdeal.nD Cert.DfoxRefIdeal.τ).loc Cert.DfoxRefIdeal.main_arg1)
      ∧ r.2.mem ((c.tc : Thread Cert.DfoxRefIdeal.nD Cert.DfoxRefIdeal.τ).loc Cert.DfoxRefIdeal.main_arg2) = m ((c.tc : Thread Cert.DfoxRefIdeal.nD Cert.DfoxRefIdeal.τ).loc Cert.DfoxRefIdeal.main_arg2)
      ∧ r.2.mem ((c.tc : Thread Cert.DfoxRefIdeal.nD Cert.DfoxRefIdeal.τ).loc Cert.DfoxRefIdeal.main_arg3) = m ((c.tc : Thread Cert.DfoxRefIdeal.nD Cert.DfoxRefIdeal.τ).loc Cert.DfoxRefIdeal.main_arg3)
      ∧ r.2.mem ((c.tc : Thread Cert.DfoxRefIdeal.nD Cert.DfoxRefIdeal.τ).loc Cert.DfoxRefIdeal.main_arg4) = m ((c.tc : Thread Cert.DfoxRefIdeal.nD Cert.DfoxRefIdeal.τ).loc Cert.DfoxRefIdeal.main_arg4))
      ∧ r.2.sem = fun _ => 0)

def quiescent_DfoxRefIdeal_pre_dfox_finite [hDfoxRefIdeal : Cert.DfoxRefIdeal.Facts] [hPre_dfox_finite : Cert.Pre_dfox_finite.Facts] : Prop :=
  ∀ (m : (ℓ : Loc Cert.DfoxRefIdeal.nD Cert.DfoxRefIdeal.τ Cert.DfoxRefIdeal.sig) → Buf (Elt Ideal) ℓ) (g : Dev Cert.DfoxRefIdeal.nD → PrngReg), Pre_DfoxRefIdeal_dfox_finite m →
    θ_run (Cert.DfoxRefIdeal.defs (F := Ideal)) (onTc (τ := Cert.DfoxRefIdeal.τ) (Cert.DfoxRefIdeal.main (F := Ideal))) ⟨m, fun _ => 0, g⟩ (fun r => (∀ c : Dev Cert.DfoxRefIdeal.nD,
      r.2.mem ((c.tc : Thread Cert.DfoxRefIdeal.nD Cert.DfoxRefIdeal.τ).loc Cert.DfoxRefIdeal.main_arg0) = m ((c.tc : Thread Cert.DfoxRefIdeal.nD Cert.DfoxRefIdeal.τ).loc Cert.DfoxRefIdeal.main_arg0)
      ∧ r.2.mem ((c.tc : Thread Cert.DfoxRefIdeal.nD Cert.DfoxRefIdeal.τ).loc Cert.DfoxRefIdeal.main_arg1) = m ((c.tc : Thread Cert.DfoxRefIdeal.nD Cert.DfoxRefIdeal.τ).loc Cert.DfoxRefIdeal.main_arg1)
      ∧ r.2.mem ((c.tc : Thread Cert.DfoxRefIdeal.nD Cert.DfoxRefIdeal.τ).loc Cert.DfoxRefIdeal.main_arg2) = m ((c.tc : Thread Cert.DfoxRefIdeal.nD Cert.DfoxRefIdeal.τ).loc Cert.DfoxRefIdeal.main_arg2)
      ∧ r.2.mem ((c.tc : Thread Cert.DfoxRefIdeal.nD Cert.DfoxRefIdeal.τ).loc Cert.DfoxRefIdeal.main_arg3) = m ((c.tc : Thread Cert.DfoxRefIdeal.nD Cert.DfoxRefIdeal.τ).loc Cert.DfoxRefIdeal.main_arg3)
      ∧ r.2.mem ((c.tc : Thread Cert.DfoxRefIdeal.nD Cert.DfoxRefIdeal.τ).loc Cert.DfoxRefIdeal.main_arg4) = m ((c.tc : Thread Cert.DfoxRefIdeal.nD Cert.DfoxRefIdeal.τ).loc Cert.DfoxRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Yb [hYb : Cert.Yb.Facts] : Prop :=
  ∀ (m : (ℓ : Loc Cert.Yb.nD Cert.Yb.τ Cert.Yb.sig) → Buf (Elt Bits) ℓ) (g : Dev Cert.Yb.nD → PrngReg), Pre_Yb m →
    θ_run (Cert.Yb.defs (F := Bits)) (onTc (τ := Cert.Yb.τ) (Cert.Yb.main (F := Bits))) ⟨m, fun _ => 0, g⟩ (fun r => (∀ c : Dev Cert.Yb.nD,
      r.2.mem ((c.tc : Thread Cert.Yb.nD Cert.Yb.τ).loc Cert.Yb.main_arg0) = m ((c.tc : Thread Cert.Yb.nD Cert.Yb.τ).loc Cert.Yb.main_arg0)
      ∧ r.2.mem ((c.tc : Thread Cert.Yb.nD Cert.Yb.τ).loc Cert.Yb.main_arg1) = m ((c.tc : Thread Cert.Yb.nD Cert.Yb.τ).loc Cert.Yb.main_arg1)
      ∧ r.2.mem ((c.tc : Thread Cert.Yb.nD Cert.Yb.τ).loc Cert.Yb.main_arg2) = m ((c.tc : Thread Cert.Yb.nD Cert.Yb.τ).loc Cert.Yb.main_arg2))
      ∧ r.2.sem = fun _ => 0)

def quiescent_YbIdeal [hYbIdeal : Cert.YbIdeal.Facts] : Prop :=
  ∀ (m : (ℓ : Loc Cert.YbIdeal.nD Cert.YbIdeal.τ Cert.YbIdeal.sig) → Buf (Elt Ideal) ℓ) (g : Dev Cert.YbIdeal.nD → PrngReg), Pre_YbIdeal m →
    θ_run (Cert.YbIdeal.defs (F := Ideal)) (onTc (τ := Cert.YbIdeal.τ) (Cert.YbIdeal.main (F := Ideal))) ⟨m, fun _ => 0, g⟩ (fun r => (∀ c : Dev Cert.YbIdeal.nD,
      r.2.mem ((c.tc : Thread Cert.YbIdeal.nD Cert.YbIdeal.τ).loc Cert.YbIdeal.main_arg0) = m ((c.tc : Thread Cert.YbIdeal.nD Cert.YbIdeal.τ).loc Cert.YbIdeal.main_arg0)
      ∧ r.2.mem ((c.tc : Thread Cert.YbIdeal.nD Cert.YbIdeal.τ).loc Cert.YbIdeal.main_arg1) = m ((c.tc : Thread Cert.YbIdeal.nD Cert.YbIdeal.τ).loc Cert.YbIdeal.main_arg1)
      ∧ r.2.mem ((c.tc : Thread Cert.YbIdeal.nD Cert.YbIdeal.τ).loc Cert.YbIdeal.main_arg2) = m ((c.tc : Thread Cert.YbIdeal.nD Cert.YbIdeal.τ).loc Cert.YbIdeal.main_arg2))
      ∧ r.2.sem = fun _ => 0)

def quiescent_YbRefIdeal [hYbRefIdeal : Cert.YbRefIdeal.Facts] : Prop :=
  ∀ (m : (ℓ : Loc Cert.YbRefIdeal.nD Cert.YbRefIdeal.τ Cert.YbRefIdeal.sig) → Buf (Elt Ideal) ℓ) (g : Dev Cert.YbRefIdeal.nD → PrngReg), Pre_YbRefIdeal m →
    θ_run (Cert.YbRefIdeal.defs (F := Ideal)) (onTc (τ := Cert.YbRefIdeal.τ) (Cert.YbRefIdeal.main (F := Ideal))) ⟨m, fun _ => 0, g⟩ (fun r => (∀ c : Dev Cert.YbRefIdeal.nD,
      r.2.mem ((c.tc : Thread Cert.YbRefIdeal.nD Cert.YbRefIdeal.τ).loc Cert.YbRefIdeal.main_arg0) = m ((c.tc : Thread Cert.YbRefIdeal.nD Cert.YbRefIdeal.τ).loc Cert.YbRefIdeal.main_arg0)
      ∧ r.2.mem ((c.tc : Thread Cert.YbRefIdeal.nD Cert.YbRefIdeal.τ).loc Cert.YbRefIdeal.main_arg1) = m ((c.tc : Thread Cert.YbRefIdeal.nD Cert.YbRefIdeal.τ).loc Cert.YbRefIdeal.main_arg1)
      ∧ r.2.mem ((c.tc : Thread Cert.YbRefIdeal.nD Cert.YbRefIdeal.τ).loc Cert.YbRefIdeal.main_arg2) = m ((c.tc : Thread Cert.YbRefIdeal.nD Cert.YbRefIdeal.τ).loc Cert.YbRefIdeal.main_arg2))
      ∧ r.2.sem = fun _ => 0)

def quiescent_Fsum [hFsum : Cert.Fsum.Facts] : Prop :=
  ∀ (m : (ℓ : Loc Cert.Fsum.nD Cert.Fsum.τ Cert.Fsum.sig) → Buf (Elt Bits) ℓ) (g : Dev Cert.Fsum.nD → PrngReg), Pre_Fsum m →
    θ_run (Cert.Fsum.defs (F := Bits)) (onTc (τ := Cert.Fsum.τ) (Cert.Fsum.main (F := Bits))) ⟨m, fun _ => 0, g⟩ (fun r => (∀ c : Dev Cert.Fsum.nD,
      r.2.mem ((c.tc : Thread Cert.Fsum.nD Cert.Fsum.τ).loc Cert.Fsum.main_arg0) = m ((c.tc : Thread Cert.Fsum.nD Cert.Fsum.τ).loc Cert.Fsum.main_arg0)
      ∧ r.2.mem ((c.tc : Thread Cert.Fsum.nD Cert.Fsum.τ).loc Cert.Fsum.main_arg1) = m ((c.tc : Thread Cert.Fsum.nD Cert.Fsum.τ).loc Cert.Fsum.main_arg1))
      ∧ r.2.sem = fun _ => 0)

def quiescent_FsumIdeal [hFsumIdeal : Cert.FsumIdeal.Facts] : Prop :=
  ∀ (m : (ℓ : Loc Cert.FsumIdeal.nD Cert.FsumIdeal.τ Cert.FsumIdeal.sig) → Buf (Elt Ideal) ℓ) (g : Dev Cert.FsumIdeal.nD → PrngReg), Pre_FsumIdeal m →
    θ_run (Cert.FsumIdeal.defs (F := Ideal)) (onTc (τ := Cert.FsumIdeal.τ) (Cert.FsumIdeal.main (F := Ideal))) ⟨m, fun _ => 0, g⟩ (fun r => (∀ c : Dev Cert.FsumIdeal.nD,
      r.2.mem ((c.tc : Thread Cert.FsumIdeal.nD Cert.FsumIdeal.τ).loc Cert.FsumIdeal.main_arg0) = m ((c.tc : Thread Cert.FsumIdeal.nD Cert.FsumIdeal.τ).loc Cert.FsumIdeal.main_arg0)
      ∧ r.2.mem ((c.tc : Thread Cert.FsumIdeal.nD Cert.FsumIdeal.τ).loc Cert.FsumIdeal.main_arg1) = m ((c.tc : Thread Cert.FsumIdeal.nD Cert.FsumIdeal.τ).loc Cert.FsumIdeal.main_arg1))
      ∧ r.2.sem = fun _ => 0)

def quiescent_FsumIdeal_pre_fsum_finite [hFsumIdeal : Cert.FsumIdeal.Facts] [hPre_fsum_finite : Cert.Pre_fsum_finite.Facts] : Prop :=
  ∀ (m : (ℓ : Loc Cert.FsumIdeal.nD Cert.FsumIdeal.τ Cert.FsumIdeal.sig) → Buf (Elt Ideal) ℓ) (g : Dev Cert.FsumIdeal.nD → PrngReg), Pre_FsumIdeal_fsum_finite m →
    θ_run (Cert.FsumIdeal.defs (F := Ideal)) (onTc (τ := Cert.FsumIdeal.τ) (Cert.FsumIdeal.main (F := Ideal))) ⟨m, fun _ => 0, g⟩ (fun r => (∀ c : Dev Cert.FsumIdeal.nD,
      r.2.mem ((c.tc : Thread Cert.FsumIdeal.nD Cert.FsumIdeal.τ).loc Cert.FsumIdeal.main_arg0) = m ((c.tc : Thread Cert.FsumIdeal.nD Cert.FsumIdeal.τ).loc Cert.FsumIdeal.main_arg0)
      ∧ r.2.mem ((c.tc : Thread Cert.FsumIdeal.nD Cert.FsumIdeal.τ).loc Cert.FsumIdeal.main_arg1) = m ((c.tc : Thread Cert.FsumIdeal.nD Cert.FsumIdeal.τ).loc Cert.FsumIdeal.main_arg1))
      ∧ r.2.sem = fun _ => 0)

def quiescent_FsumRefIdeal [hFsumRefIdeal : Cert.FsumRefIdeal.Facts] : Prop :=
  ∀ (m : (ℓ : Loc Cert.FsumRefIdeal.nD Cert.FsumRefIdeal.τ Cert.FsumRefIdeal.sig) → Buf (Elt Ideal) ℓ) (g : Dev Cert.FsumRefIdeal.nD → PrngReg), Pre_FsumRefIdeal m →
    θ_run (Cert.FsumRefIdeal.defs (F := Ideal)) (onTc (τ := Cert.FsumRefIdeal.τ) (Cert.FsumRefIdeal.main (F := Ideal))) ⟨m, fun _ => 0, g⟩ (fun r => (∀ c : Dev Cert.FsumRefIdeal.nD,
      r.2.mem ((c.tc : Thread Cert.FsumRefIdeal.nD Cert.FsumRefIdeal.τ).loc Cert.FsumRefIdeal.main_arg0) = m ((c.tc : Thread Cert.FsumRefIdeal.nD Cert.FsumRefIdeal.τ).loc Cert.FsumRefIdeal.main_arg0)
      ∧ r.2.mem ((c.tc : Thread Cert.FsumRefIdeal.nD Cert.FsumRefIdeal.τ).loc Cert.FsumRefIdeal.main_arg1) = m ((c.tc : Thread Cert.FsumRefIdeal.nD Cert.FsumRefIdeal.τ).loc Cert.FsumRefIdeal.main_arg1))
      ∧ r.2.sem = fun _ => 0)

def quiescent_FsumRefIdeal_pre_fsum_finite [hFsumRefIdeal : Cert.FsumRefIdeal.Facts] [hPre_fsum_finite : Cert.Pre_fsum_finite.Facts] : Prop :=
  ∀ (m : (ℓ : Loc Cert.FsumRefIdeal.nD Cert.FsumRefIdeal.τ Cert.FsumRefIdeal.sig) → Buf (Elt Ideal) ℓ) (g : Dev Cert.FsumRefIdeal.nD → PrngReg), Pre_FsumRefIdeal_fsum_finite m →
    θ_run (Cert.FsumRefIdeal.defs (F := Ideal)) (onTc (τ := Cert.FsumRefIdeal.τ) (Cert.FsumRefIdeal.main (F := Ideal))) ⟨m, fun _ => 0, g⟩ (fun r => (∀ c : Dev Cert.FsumRefIdeal.nD,
      r.2.mem ((c.tc : Thread Cert.FsumRefIdeal.nD Cert.FsumRefIdeal.τ).loc Cert.FsumRefIdeal.main_arg0) = m ((c.tc : Thread Cert.FsumRefIdeal.nD Cert.FsumRefIdeal.τ).loc Cert.FsumRefIdeal.main_arg0)
      ∧ r.2.mem ((c.tc : Thread Cert.FsumRefIdeal.nD Cert.FsumRefIdeal.τ).loc Cert.FsumRefIdeal.main_arg1) = m ((c.tc : Thread Cert.FsumRefIdeal.nD Cert.FsumRefIdeal.τ).loc Cert.FsumRefIdeal.main_arg1))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendIdeal_pre_attend_finite [hAttendIdeal : Cert.AttendIdeal.Facts] [hPre_attend_finite : Cert.Pre_attend_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_attend_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3))
      ∧ r.2.sem = fun _ => 0)

def quiescent_AttendRefIdeal_pre_attend_finite [hAttendRefIdeal : Cert.AttendRefIdeal.Facts] [hPre_attend_finite : Cert.Pre_attend_finite.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_attend_finite m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ r.2.sem = fun _ => 0)

def quiescent_ProductRefIdeal [hProductRefIdeal : Cert.ProductRefIdeal.Facts] : Prop :=
  ∀ (m : (ℓ : Loc Cert.ProductRefIdeal.nD Cert.ProductRefIdeal.τ Cert.ProductRefIdeal.sig) → Buf (Elt Ideal) ℓ) (g : Dev Cert.ProductRefIdeal.nD → PrngReg), Pre_ProductRefIdeal m →
    θ_run (Cert.ProductRefIdeal.defs (F := Ideal)) (onTc (τ := Cert.ProductRefIdeal.τ) (Cert.ProductRefIdeal.main (F := Ideal))) ⟨m, fun _ => 0, g⟩ (fun r => (∀ c : Dev Cert.ProductRefIdeal.nD,
      r.2.mem ((c.tc : Thread Cert.ProductRefIdeal.nD Cert.ProductRefIdeal.τ).loc Cert.ProductRefIdeal.main_arg0) = m ((c.tc : Thread Cert.ProductRefIdeal.nD Cert.ProductRefIdeal.τ).loc Cert.ProductRefIdeal.main_arg0)
      ∧ r.2.mem ((c.tc : Thread Cert.ProductRefIdeal.nD Cert.ProductRefIdeal.τ).loc Cert.ProductRefIdeal.main_arg1) = m ((c.tc : Thread Cert.ProductRefIdeal.nD Cert.ProductRefIdeal.τ).loc Cert.ProductRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ r.2.sem = fun _ => 0)

def quiescent_Dscan [hDscan : Cert.Dscan.Facts] : Prop :=
  ∀ (m : (ℓ : Loc Cert.Dscan.nD Cert.Dscan.τ Cert.Dscan.sig) → Buf (Elt Bits) ℓ) (g : Dev Cert.Dscan.nD → PrngReg), Pre_Dscan m →
    θ_run (Cert.Dscan.defs (F := Bits)) (onTc (τ := Cert.Dscan.τ) (Cert.Dscan.main (F := Bits))) ⟨m, fun _ => 0, g⟩ (fun r => (∀ c : Dev Cert.Dscan.nD,
      r.2.mem ((c.tc : Thread Cert.Dscan.nD Cert.Dscan.τ).loc Cert.Dscan.main_arg0) = m ((c.tc : Thread Cert.Dscan.nD Cert.Dscan.τ).loc Cert.Dscan.main_arg0)
      ∧ r.2.mem ((c.tc : Thread Cert.Dscan.nD Cert.Dscan.τ).loc Cert.Dscan.main_arg1) = m ((c.tc : Thread Cert.Dscan.nD Cert.Dscan.τ).loc Cert.Dscan.main_arg1)
      ∧ r.2.mem ((c.tc : Thread Cert.Dscan.nD Cert.Dscan.τ).loc Cert.Dscan.main_arg2) = m ((c.tc : Thread Cert.Dscan.nD Cert.Dscan.τ).loc Cert.Dscan.main_arg2)
      ∧ r.2.mem ((c.tc : Thread Cert.Dscan.nD Cert.Dscan.τ).loc Cert.Dscan.main_arg3) = m ((c.tc : Thread Cert.Dscan.nD Cert.Dscan.τ).loc Cert.Dscan.main_arg3))
      ∧ r.2.sem = fun _ => 0)

def quiescent_DscanIdeal [hDscanIdeal : Cert.DscanIdeal.Facts] : Prop :=
  ∀ (m : (ℓ : Loc Cert.DscanIdeal.nD Cert.DscanIdeal.τ Cert.DscanIdeal.sig) → Buf (Elt Ideal) ℓ) (g : Dev Cert.DscanIdeal.nD → PrngReg), Pre_DscanIdeal m →
    θ_run (Cert.DscanIdeal.defs (F := Ideal)) (onTc (τ := Cert.DscanIdeal.τ) (Cert.DscanIdeal.main (F := Ideal))) ⟨m, fun _ => 0, g⟩ (fun r => (∀ c : Dev Cert.DscanIdeal.nD,
      r.2.mem ((c.tc : Thread Cert.DscanIdeal.nD Cert.DscanIdeal.τ).loc Cert.DscanIdeal.main_arg0) = m ((c.tc : Thread Cert.DscanIdeal.nD Cert.DscanIdeal.τ).loc Cert.DscanIdeal.main_arg0)
      ∧ r.2.mem ((c.tc : Thread Cert.DscanIdeal.nD Cert.DscanIdeal.τ).loc Cert.DscanIdeal.main_arg1) = m ((c.tc : Thread Cert.DscanIdeal.nD Cert.DscanIdeal.τ).loc Cert.DscanIdeal.main_arg1)
      ∧ r.2.mem ((c.tc : Thread Cert.DscanIdeal.nD Cert.DscanIdeal.τ).loc Cert.DscanIdeal.main_arg2) = m ((c.tc : Thread Cert.DscanIdeal.nD Cert.DscanIdeal.τ).loc Cert.DscanIdeal.main_arg2)
      ∧ r.2.mem ((c.tc : Thread Cert.DscanIdeal.nD Cert.DscanIdeal.τ).loc Cert.DscanIdeal.main_arg3) = m ((c.tc : Thread Cert.DscanIdeal.nD Cert.DscanIdeal.τ).loc Cert.DscanIdeal.main_arg3))
      ∧ r.2.sem = fun _ => 0)

def preserves_Dmerge_DmergeIdeal : Prop :=
  True

def algebraic_DmergeIdeal_DmergeRefIdeal [hDmergeIdeal : Cert.DmergeIdeal.Facts] [hDmergeRefIdeal : Cert.DmergeRefIdeal.Facts] : Prop :=
  ∀ (m : (ℓ : Loc Cert.DmergeIdeal.nD Cert.DmergeIdeal.τ Cert.DmergeIdeal.sig) → Buf (Elt Ideal) ℓ) (g : Dev Cert.DmergeIdeal.nD → PrngReg)
    (m' : (ℓ : Loc Cert.DmergeRefIdeal.nD Cert.DmergeRefIdeal.τ Cert.DmergeRefIdeal.sig) → Buf (Elt Ideal) ℓ) (g' : Dev Cert.DmergeRefIdeal.nD → PrngReg), Pre_DmergeIdeal m →
    (∀ c : Dev Cert.DmergeIdeal.nD,
      m' ((c.tc : Thread Cert.DmergeRefIdeal.nD Cert.DmergeRefIdeal.τ).loc Cert.DmergeRefIdeal.main_arg0) = m ((c.tc : Thread Cert.DmergeIdeal.nD Cert.DmergeIdeal.τ).loc Cert.DmergeIdeal.main_arg0)
      ∧ m' ((c.tc : Thread Cert.DmergeRefIdeal.nD Cert.DmergeRefIdeal.τ).loc Cert.DmergeRefIdeal.main_arg1) = m ((c.tc : Thread Cert.DmergeIdeal.nD Cert.DmergeIdeal.τ).loc Cert.DmergeIdeal.main_arg1)
      ∧ m' ((c.tc : Thread Cert.DmergeRefIdeal.nD Cert.DmergeRefIdeal.τ).loc Cert.DmergeRefIdeal.main_arg2) = m ((c.tc : Thread Cert.DmergeIdeal.nD Cert.DmergeIdeal.τ).loc Cert.DmergeIdeal.main_arg2)
      ∧ m' ((c.tc : Thread Cert.DmergeRefIdeal.nD Cert.DmergeRefIdeal.τ).loc Cert.DmergeRefIdeal.main_arg3) = m ((c.tc : Thread Cert.DmergeIdeal.nD Cert.DmergeIdeal.τ).loc Cert.DmergeIdeal.main_arg3)) →
    ∃ (v0 : (c : Dev Cert.DmergeIdeal.nD) → Buf (Elt Ideal) ((c.tc : Thread Cert.DmergeIdeal.nD Cert.DmergeIdeal.τ).loc Cert.DmergeIdeal.main_v7_0)) (v1 : (c : Dev Cert.DmergeIdeal.nD) → Buf (Elt Ideal) ((c.tc : Thread Cert.DmergeIdeal.nD Cert.DmergeIdeal.τ).loc Cert.DmergeIdeal.main_v7_1)) (v2 : (c : Dev Cert.DmergeIdeal.nD) → Buf (Elt Ideal) ((c.tc : Thread Cert.DmergeIdeal.nD Cert.DmergeIdeal.τ).loc Cert.DmergeIdeal.main_v7_2)) (v3 : (c : Dev Cert.DmergeIdeal.nD) → Buf (Elt Ideal) ((c.tc : Thread Cert.DmergeIdeal.nD Cert.DmergeIdeal.τ).loc Cert.DmergeIdeal.main_v7_3)),
      θ_run (Cert.DmergeIdeal.defs (F := Ideal)) (onTc (τ := Cert.DmergeIdeal.τ) (Cert.DmergeIdeal.main (F := Ideal))) ⟨m, fun _ => 0, g⟩ (fun r => ∀ c : Dev Cert.DmergeIdeal.nD,
          r.2.mem ((c.tc : Thread Cert.DmergeIdeal.nD Cert.DmergeIdeal.τ).loc Cert.DmergeIdeal.main_v7_0) = v0 c
          ∧ r.2.mem ((c.tc : Thread Cert.DmergeIdeal.nD Cert.DmergeIdeal.τ).loc Cert.DmergeIdeal.main_v7_1) = v1 c
          ∧ r.2.mem ((c.tc : Thread Cert.DmergeIdeal.nD Cert.DmergeIdeal.τ).loc Cert.DmergeIdeal.main_v7_2) = v2 c
          ∧ r.2.mem ((c.tc : Thread Cert.DmergeIdeal.nD Cert.DmergeIdeal.τ).loc Cert.DmergeIdeal.main_v7_3) = v3 c
          ∧ r.2.mem ((c.tc : Thread Cert.DmergeIdeal.nD Cert.DmergeIdeal.τ).loc Cert.DmergeIdeal.main_arg0) = m ((c.tc : Thread Cert.DmergeIdeal.nD Cert.DmergeIdeal.τ).loc Cert.DmergeIdeal.main_arg0)
          ∧ r.2.mem ((c.tc : Thread Cert.DmergeIdeal.nD Cert.DmergeIdeal.τ).loc Cert.DmergeIdeal.main_arg1) = m ((c.tc : Thread Cert.DmergeIdeal.nD Cert.DmergeIdeal.τ).loc Cert.DmergeIdeal.main_arg1)
          ∧ r.2.mem ((c.tc : Thread Cert.DmergeIdeal.nD Cert.DmergeIdeal.τ).loc Cert.DmergeIdeal.main_arg2) = m ((c.tc : Thread Cert.DmergeIdeal.nD Cert.DmergeIdeal.τ).loc Cert.DmergeIdeal.main_arg2)
          ∧ r.2.mem ((c.tc : Thread Cert.DmergeIdeal.nD Cert.DmergeIdeal.τ).loc Cert.DmergeIdeal.main_arg3) = m ((c.tc : Thread Cert.DmergeIdeal.nD Cert.DmergeIdeal.τ).loc Cert.DmergeIdeal.main_arg3))
      ∧ θ_run (Cert.DmergeRefIdeal.defs (F := Ideal)) (onTc (τ := Cert.DmergeRefIdeal.τ) (Cert.DmergeRefIdeal.main (F := Ideal))) ⟨m', fun _ => 0, g'⟩ (fun r => ∀ c : Dev Cert.DmergeRefIdeal.nD,
          r.2.mem ((c.tc : Thread Cert.DmergeRefIdeal.nD Cert.DmergeRefIdeal.τ).loc Cert.DmergeRefIdeal.main_v39) = v0 c
          ∧ r.2.mem ((c.tc : Thread Cert.DmergeRefIdeal.nD Cert.DmergeRefIdeal.τ).loc Cert.DmergeRefIdeal.main_v40) = v1 c
          ∧ r.2.mem ((c.tc : Thread Cert.DmergeRefIdeal.nD Cert.DmergeRefIdeal.τ).loc Cert.DmergeRefIdeal.main_v41) = v2 c
          ∧ r.2.mem ((c.tc : Thread Cert.DmergeRefIdeal.nD Cert.DmergeRefIdeal.τ).loc Cert.DmergeRefIdeal.main_v42) = v3 c
          ∧ r.2.mem ((c.tc : Thread Cert.DmergeRefIdeal.nD Cert.DmergeRefIdeal.τ).loc Cert.DmergeRefIdeal.main_arg0) = m' ((c.tc : Thread Cert.DmergeRefIdeal.nD Cert.DmergeRefIdeal.τ).loc Cert.DmergeRefIdeal.main_arg0)
          ∧ r.2.mem ((c.tc : Thread Cert.DmergeRefIdeal.nD Cert.DmergeRefIdeal.τ).loc Cert.DmergeRefIdeal.main_arg1) = m' ((c.tc : Thread Cert.DmergeRefIdeal.nD Cert.DmergeRefIdeal.τ).loc Cert.DmergeRefIdeal.main_arg1)
          ∧ r.2.mem ((c.tc : Thread Cert.DmergeRefIdeal.nD Cert.DmergeRefIdeal.τ).loc Cert.DmergeRefIdeal.main_arg2) = m' ((c.tc : Thread Cert.DmergeRefIdeal.nD Cert.DmergeRefIdeal.τ).loc Cert.DmergeRefIdeal.main_arg2)
          ∧ r.2.mem ((c.tc : Thread Cert.DmergeRefIdeal.nD Cert.DmergeRefIdeal.τ).loc Cert.DmergeRefIdeal.main_arg3) = m' ((c.tc : Thread Cert.DmergeRefIdeal.nD Cert.DmergeRefIdeal.τ).loc Cert.DmergeRefIdeal.main_arg3))

def preserves_Dhid_DhidIdeal : Prop :=
  True

def algebraic_DhidIdeal_DhidRefIdeal_pre_dhid_finite [hDhidIdeal : Cert.DhidIdeal.Facts] [hDhidRefIdeal : Cert.DhidRefIdeal.Facts] [hPre_dhid_finite : Cert.Pre_dhid_finite.Facts] : Prop :=
  ∀ (m : (ℓ : Loc Cert.DhidIdeal.nD Cert.DhidIdeal.τ Cert.DhidIdeal.sig) → Buf (Elt Ideal) ℓ) (g : Dev Cert.DhidIdeal.nD → PrngReg)
    (m' : (ℓ : Loc Cert.DhidRefIdeal.nD Cert.DhidRefIdeal.τ Cert.DhidRefIdeal.sig) → Buf (Elt Ideal) ℓ) (g' : Dev Cert.DhidRefIdeal.nD → PrngReg), Pre_DhidIdeal_dhid_finite m →
    (∀ c : Dev Cert.DhidIdeal.nD,
      m' ((c.tc : Thread Cert.DhidRefIdeal.nD Cert.DhidRefIdeal.τ).loc Cert.DhidRefIdeal.main_arg0) = m ((c.tc : Thread Cert.DhidIdeal.nD Cert.DhidIdeal.τ).loc Cert.DhidIdeal.main_arg0)
      ∧ m' ((c.tc : Thread Cert.DhidRefIdeal.nD Cert.DhidRefIdeal.τ).loc Cert.DhidRefIdeal.main_arg1) = m ((c.tc : Thread Cert.DhidIdeal.nD Cert.DhidIdeal.τ).loc Cert.DhidIdeal.main_arg1)) →
    ∃ (v0 : (c : Dev Cert.DhidIdeal.nD) → Buf (Elt Ideal) ((c.tc : Thread Cert.DhidIdeal.nD Cert.DhidIdeal.τ).loc Cert.DhidIdeal.main_v0)),
      θ_run (Cert.DhidIdeal.defs (F := Ideal)) (onTc (τ := Cert.DhidIdeal.τ) (Cert.DhidIdeal.main (F := Ideal))) ⟨m, fun _ => 0, g⟩ (fun r => ∀ c : Dev Cert.DhidIdeal.nD,
          r.2.mem ((c.tc : Thread Cert.DhidIdeal.nD Cert.DhidIdeal.τ).loc Cert.DhidIdeal.main_v0) = v0 c
          ∧ r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
          ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1))
      ∧ θ_run (Cert.DhidRefIdeal.defs (F := Ideal)) (onTc (τ := Cert.DhidRefIdeal.τ) (Cert.DhidRefIdeal.main (F := Ideal))) ⟨m', fun _ => 0, g'⟩ (fun r => ∀ c : Dev Cert.DhidRefIdeal.nD,
          r.2.mem ((c.tc : Thread Cert.DhidRefIdeal.nD Cert.DhidRefIdeal.τ).loc Cert.DhidRefIdeal.main_v8) = v0 c
          ∧ r.2.mem ((c.tc : Thread Cert.DhidRefIdeal.nD Cert.DhidRefIdeal.τ).loc Cert.DhidRefIdeal.main_arg0) = m' ((c.tc : Thread Cert.DhidRefIdeal.nD Cert.DhidRefIdeal.τ).loc Cert.DhidRefIdeal.main_arg0)
          ∧ r.2.mem ((c.tc : Thread Cert.DhidRefIdeal.nD Cert.DhidRefIdeal.τ).loc Cert.DhidRefIdeal.main_arg1) = m' ((c.tc : Thread Cert.DhidRefIdeal.nD Cert.DhidRefIdeal.τ).loc Cert.DhidRefIdeal.main_arg1))

def preserves_Dln_DlnIdeal : Prop :=
  True

def algebraic_DlnIdeal_DlnRefIdeal_pre_dln_finite [hDlnIdeal : Cert.DlnIdeal.Facts] [hDlnRefIdeal : Cert.DlnRefIdeal.Facts] [hPre_dln_finite : Cert.Pre_dln_finite.Facts] : Prop :=
  ∀ (m : (ℓ : Loc Cert.DlnIdeal.nD Cert.DlnIdeal.τ Cert.DlnIdeal.sig) → Buf (Elt Ideal) ℓ) (g : Dev Cert.DlnIdeal.nD → PrngReg)
    (m' : (ℓ : Loc Cert.DlnRefIdeal.nD Cert.DlnRefIdeal.τ Cert.DlnRefIdeal.sig) → Buf (Elt Ideal) ℓ) (g' : Dev Cert.DlnRefIdeal.nD → PrngReg), Pre_DlnIdeal_dln_finite m →
    (∀ c : Dev Cert.DlnIdeal.nD,
      m' ((c.tc : Thread Cert.DlnRefIdeal.nD Cert.DlnRefIdeal.τ).loc Cert.DlnRefIdeal.main_arg0) = m ((c.tc : Thread Cert.DlnIdeal.nD Cert.DlnIdeal.τ).loc Cert.DlnIdeal.main_arg0)
      ∧ m' ((c.tc : Thread Cert.DlnRefIdeal.nD Cert.DlnRefIdeal.τ).loc Cert.DlnRefIdeal.main_arg1) = m ((c.tc : Thread Cert.DlnIdeal.nD Cert.DlnIdeal.τ).loc Cert.DlnIdeal.main_arg1)
      ∧ m' ((c.tc : Thread Cert.DlnRefIdeal.nD Cert.DlnRefIdeal.τ).loc Cert.DlnRefIdeal.main_arg2) = m ((c.tc : Thread Cert.DlnIdeal.nD Cert.DlnIdeal.τ).loc Cert.DlnIdeal.main_arg2)
      ∧ m' ((c.tc : Thread Cert.DlnRefIdeal.nD Cert.DlnRefIdeal.τ).loc Cert.DlnRefIdeal.main_arg3) = m ((c.tc : Thread Cert.DlnIdeal.nD Cert.DlnIdeal.τ).loc Cert.DlnIdeal.main_arg3)
      ∧ m' ((c.tc : Thread Cert.DlnRefIdeal.nD Cert.DlnRefIdeal.τ).loc Cert.DlnRefIdeal.main_arg4) = m ((c.tc : Thread Cert.DlnIdeal.nD Cert.DlnIdeal.τ).loc Cert.DlnIdeal.main_arg4)) →
    ∃ (v0 : (c : Dev Cert.DlnIdeal.nD) → Buf (Elt Ideal) ((c.tc : Thread Cert.DlnIdeal.nD Cert.DlnIdeal.τ).loc Cert.DlnIdeal.main_v1_0)) (v1 : (c : Dev Cert.DlnIdeal.nD) → Buf (Elt Ideal) ((c.tc : Thread Cert.DlnIdeal.nD Cert.DlnIdeal.τ).loc Cert.DlnIdeal.main_v1_1)) (v2 : (c : Dev Cert.DlnIdeal.nD) → Buf (Elt Ideal) ((c.tc : Thread Cert.DlnIdeal.nD Cert.DlnIdeal.τ).loc Cert.DlnIdeal.main_v2)) (v3 : (c : Dev Cert.DlnIdeal.nD) → Buf (Elt Ideal) ((c.tc : Thread Cert.DlnIdeal.nD Cert.DlnIdeal.τ).loc Cert.DlnIdeal.main_v3)),
      θ_run (Cert.DlnIdeal.defs (F := Ideal)) (onTc (τ := Cert.DlnIdeal.τ) (Cert.DlnIdeal.main (F := Ideal))) ⟨m, fun _ => 0, g⟩ (fun r => ∀ c : Dev Cert.DlnIdeal.nD,
          r.2.mem ((c.tc : Thread Cert.DlnIdeal.nD Cert.DlnIdeal.τ).loc Cert.DlnIdeal.main_v1_0) = v0 c
          ∧ r.2.mem ((c.tc : Thread Cert.DlnIdeal.nD Cert.DlnIdeal.τ).loc Cert.DlnIdeal.main_v1_1) = v1 c
          ∧ r.2.mem ((c.tc : Thread Cert.DlnIdeal.nD Cert.DlnIdeal.τ).loc Cert.DlnIdeal.main_v2) = v2 c
          ∧ r.2.mem ((c.tc : Thread Cert.DlnIdeal.nD Cert.DlnIdeal.τ).loc Cert.DlnIdeal.main_v3) = v3 c
          ∧ r.2.mem ((c.tc : Thread Cert.DlnIdeal.nD Cert.DlnIdeal.τ).loc Cert.DlnIdeal.main_arg0) = m ((c.tc : Thread Cert.DlnIdeal.nD Cert.DlnIdeal.τ).loc Cert.DlnIdeal.main_arg0)
          ∧ r.2.mem ((c.tc : Thread Cert.DlnIdeal.nD Cert.DlnIdeal.τ).loc Cert.DlnIdeal.main_arg1) = m ((c.tc : Thread Cert.DlnIdeal.nD Cert.DlnIdeal.τ).loc Cert.DlnIdeal.main_arg1)
          ∧ r.2.mem ((c.tc : Thread Cert.DlnIdeal.nD Cert.DlnIdeal.τ).loc Cert.DlnIdeal.main_arg2) = m ((c.tc : Thread Cert.DlnIdeal.nD Cert.DlnIdeal.τ).loc Cert.DlnIdeal.main_arg2)
          ∧ r.2.mem ((c.tc : Thread Cert.DlnIdeal.nD Cert.DlnIdeal.τ).loc Cert.DlnIdeal.main_arg3) = m ((c.tc : Thread Cert.DlnIdeal.nD Cert.DlnIdeal.τ).loc Cert.DlnIdeal.main_arg3)
          ∧ r.2.mem ((c.tc : Thread Cert.DlnIdeal.nD Cert.DlnIdeal.τ).loc Cert.DlnIdeal.main_arg4) = m ((c.tc : Thread Cert.DlnIdeal.nD Cert.DlnIdeal.τ).loc Cert.DlnIdeal.main_arg4))
      ∧ θ_run (Cert.DlnRefIdeal.defs (F := Ideal)) (onTc (τ := Cert.DlnRefIdeal.τ) (Cert.DlnRefIdeal.main (F := Ideal))) ⟨m', fun _ => 0, g'⟩ (fun r => ∀ c : Dev Cert.DlnRefIdeal.nD,
          r.2.mem ((c.tc : Thread Cert.DlnRefIdeal.nD Cert.DlnRefIdeal.τ).loc Cert.DlnRefIdeal.main_v71) = v0 c
          ∧ r.2.mem ((c.tc : Thread Cert.DlnRefIdeal.nD Cert.DlnRefIdeal.τ).loc Cert.DlnRefIdeal.main_v72) = v1 c
          ∧ r.2.mem ((c.tc : Thread Cert.DlnRefIdeal.nD Cert.DlnRefIdeal.τ).loc Cert.DlnRefIdeal.main_v47) = v2 c
          ∧ r.2.mem ((c.tc : Thread Cert.DlnRefIdeal.nD Cert.DlnRefIdeal.τ).loc Cert.DlnRefIdeal.main_v41) = v3 c
          ∧ r.2.mem ((c.tc : Thread Cert.DlnRefIdeal.nD Cert.DlnRefIdeal.τ).loc Cert.DlnRefIdeal.main_arg0) = m' ((c.tc : Thread Cert.DlnRefIdeal.nD Cert.DlnRefIdeal.τ).loc Cert.DlnRefIdeal.main_arg0)
          ∧ r.2.mem ((c.tc : Thread Cert.DlnRefIdeal.nD Cert.DlnRefIdeal.τ).loc Cert.DlnRefIdeal.main_arg1) = m' ((c.tc : Thread Cert.DlnRefIdeal.nD Cert.DlnRefIdeal.τ).loc Cert.DlnRefIdeal.main_arg1)
          ∧ r.2.mem ((c.tc : Thread Cert.DlnRefIdeal.nD Cert.DlnRefIdeal.τ).loc Cert.DlnRefIdeal.main_arg2) = m' ((c.tc : Thread Cert.DlnRefIdeal.nD Cert.DlnRefIdeal.τ).loc Cert.DlnRefIdeal.main_arg2)
          ∧ r.2.mem ((c.tc : Thread Cert.DlnRefIdeal.nD Cert.DlnRefIdeal.τ).loc Cert.DlnRefIdeal.main_arg3) = m' ((c.tc : Thread Cert.DlnRefIdeal.nD Cert.DlnRefIdeal.τ).loc Cert.DlnRefIdeal.main_arg3)
          ∧ r.2.mem ((c.tc : Thread Cert.DlnRefIdeal.nD Cert.DlnRefIdeal.τ).loc Cert.DlnRefIdeal.main_arg4) = m' ((c.tc : Thread Cert.DlnRefIdeal.nD Cert.DlnRefIdeal.τ).loc Cert.DlnRefIdeal.main_arg4))

def preserves_Dloss_DlossIdeal : Prop :=
  True

def algebraic_DlossIdeal_DlossRefIdeal_pre_dloss_finite [hDlossIdeal : Cert.DlossIdeal.Facts] [hDlossRefIdeal : Cert.DlossRefIdeal.Facts] [hPre_dloss_finite : Cert.Pre_dloss_finite.Facts] : Prop :=
  ∀ (m : (ℓ : Loc Cert.DlossIdeal.nD Cert.DlossIdeal.τ Cert.DlossIdeal.sig) → Buf (Elt Ideal) ℓ) (g : Dev Cert.DlossIdeal.nD → PrngReg)
    (m' : (ℓ : Loc Cert.DlossRefIdeal.nD Cert.DlossRefIdeal.τ Cert.DlossRefIdeal.sig) → Buf (Elt Ideal) ℓ) (g' : Dev Cert.DlossRefIdeal.nD → PrngReg), Pre_DlossIdeal_dloss_finite m →
    (∀ c : Dev Cert.DlossIdeal.nD,
      m' ((c.tc : Thread Cert.DlossRefIdeal.nD Cert.DlossRefIdeal.τ).loc Cert.DlossRefIdeal.main_arg0) = m ((c.tc : Thread Cert.DlossIdeal.nD Cert.DlossIdeal.τ).loc Cert.DlossIdeal.main_arg0)
      ∧ m' ((c.tc : Thread Cert.DlossRefIdeal.nD Cert.DlossRefIdeal.τ).loc Cert.DlossRefIdeal.main_arg1) = m ((c.tc : Thread Cert.DlossIdeal.nD Cert.DlossIdeal.τ).loc Cert.DlossIdeal.main_arg1)
      ∧ m' ((c.tc : Thread Cert.DlossRefIdeal.nD Cert.DlossRefIdeal.τ).loc Cert.DlossRefIdeal.main_arg2) = m ((c.tc : Thread Cert.DlossIdeal.nD Cert.DlossIdeal.τ).loc Cert.DlossIdeal.main_arg2)
      ∧ m' ((c.tc : Thread Cert.DlossRefIdeal.nD Cert.DlossRefIdeal.τ).loc Cert.DlossRefIdeal.main_arg3) = m ((c.tc : Thread Cert.DlossIdeal.nD Cert.DlossIdeal.τ).loc Cert.DlossIdeal.main_arg3)
      ∧ m' ((c.tc : Thread Cert.DlossRefIdeal.nD Cert.DlossRefIdeal.τ).loc Cert.DlossRefIdeal.main_arg4) = m ((c.tc : Thread Cert.DlossIdeal.nD Cert.DlossIdeal.τ).loc Cert.DlossIdeal.main_arg4)) →
    ∃ (v0 : (c : Dev Cert.DlossIdeal.nD) → Buf (Elt Ideal) ((c.tc : Thread Cert.DlossIdeal.nD Cert.DlossIdeal.τ).loc Cert.DlossIdeal.main_v2_0)) (v1 : (c : Dev Cert.DlossIdeal.nD) → Buf (Elt Ideal) ((c.tc : Thread Cert.DlossIdeal.nD Cert.DlossIdeal.τ).loc Cert.DlossIdeal.main_v2_1)) (v2 : (c : Dev Cert.DlossIdeal.nD) → Buf (Elt Ideal) ((c.tc : Thread Cert.DlossIdeal.nD Cert.DlossIdeal.τ).loc Cert.DlossIdeal.main_v5)) (v3 : (c : Dev Cert.DlossIdeal.nD) → Buf (Elt Ideal) ((c.tc : Thread Cert.DlossIdeal.nD Cert.DlossIdeal.τ).loc Cert.DlossIdeal.main_v6)) (v4 : (c : Dev Cert.DlossIdeal.nD) → Buf (Elt Ideal) ((c.tc : Thread Cert.DlossIdeal.nD Cert.DlossIdeal.τ).loc Cert.DlossIdeal.main_v4)),
      θ_run (Cert.DlossIdeal.defs (F := Ideal)) (onTc (τ := Cert.DlossIdeal.τ) (Cert.DlossIdeal.main (F := Ideal))) ⟨m, fun _ => 0, g⟩ (fun r => ∀ c : Dev Cert.DlossIdeal.nD,
          r.2.mem ((c.tc : Thread Cert.DlossIdeal.nD Cert.DlossIdeal.τ).loc Cert.DlossIdeal.main_v2_0) = v0 c
          ∧ r.2.mem ((c.tc : Thread Cert.DlossIdeal.nD Cert.DlossIdeal.τ).loc Cert.DlossIdeal.main_v2_1) = v1 c
          ∧ r.2.mem ((c.tc : Thread Cert.DlossIdeal.nD Cert.DlossIdeal.τ).loc Cert.DlossIdeal.main_v5) = v2 c
          ∧ r.2.mem ((c.tc : Thread Cert.DlossIdeal.nD Cert.DlossIdeal.τ).loc Cert.DlossIdeal.main_v6) = v3 c
          ∧ r.2.mem ((c.tc : Thread Cert.DlossIdeal.nD Cert.DlossIdeal.τ).loc Cert.DlossIdeal.main_v4) = v4 c
          ∧ r.2.mem ((c.tc : Thread Cert.DlossIdeal.nD Cert.DlossIdeal.τ).loc Cert.DlossIdeal.main_arg0) = m ((c.tc : Thread Cert.DlossIdeal.nD Cert.DlossIdeal.τ).loc Cert.DlossIdeal.main_arg0)
          ∧ r.2.mem ((c.tc : Thread Cert.DlossIdeal.nD Cert.DlossIdeal.τ).loc Cert.DlossIdeal.main_arg1) = m ((c.tc : Thread Cert.DlossIdeal.nD Cert.DlossIdeal.τ).loc Cert.DlossIdeal.main_arg1)
          ∧ r.2.mem ((c.tc : Thread Cert.DlossIdeal.nD Cert.DlossIdeal.τ).loc Cert.DlossIdeal.main_arg2) = m ((c.tc : Thread Cert.DlossIdeal.nD Cert.DlossIdeal.τ).loc Cert.DlossIdeal.main_arg2)
          ∧ r.2.mem ((c.tc : Thread Cert.DlossIdeal.nD Cert.DlossIdeal.τ).loc Cert.DlossIdeal.main_arg3) = m ((c.tc : Thread Cert.DlossIdeal.nD Cert.DlossIdeal.τ).loc Cert.DlossIdeal.main_arg3)
          ∧ r.2.mem ((c.tc : Thread Cert.DlossIdeal.nD Cert.DlossIdeal.τ).loc Cert.DlossIdeal.main_arg4) = m ((c.tc : Thread Cert.DlossIdeal.nD Cert.DlossIdeal.τ).loc Cert.DlossIdeal.main_arg4))
      ∧ θ_run (Cert.DlossRefIdeal.defs (F := Ideal)) (onTc (τ := Cert.DlossRefIdeal.τ) (Cert.DlossRefIdeal.main (F := Ideal))) ⟨m', fun _ => 0, g'⟩ (fun r => ∀ c : Dev Cert.DlossRefIdeal.nD,
          r.2.mem ((c.tc : Thread Cert.DlossRefIdeal.nD Cert.DlossRefIdeal.τ).loc Cert.DlossRefIdeal.main_v79) = v0 c
          ∧ r.2.mem ((c.tc : Thread Cert.DlossRefIdeal.nD Cert.DlossRefIdeal.τ).loc Cert.DlossRefIdeal.main_v80) = v1 c
          ∧ r.2.mem ((c.tc : Thread Cert.DlossRefIdeal.nD Cert.DlossRefIdeal.τ).loc Cert.DlossRefIdeal.main_v55) = v2 c
          ∧ r.2.mem ((c.tc : Thread Cert.DlossRefIdeal.nD Cert.DlossRefIdeal.τ).loc Cert.DlossRefIdeal.main_v49) = v3 c
          ∧ r.2.mem ((c.tc : Thread Cert.DlossRefIdeal.nD Cert.DlossRefIdeal.τ).loc Cert.DlossRefIdeal.main_v40) = v4 c
          ∧ r.2.mem ((c.tc : Thread Cert.DlossRefIdeal.nD Cert.DlossRefIdeal.τ).loc Cert.DlossRefIdeal.main_arg0) = m' ((c.tc : Thread Cert.DlossRefIdeal.nD Cert.DlossRefIdeal.τ).loc Cert.DlossRefIdeal.main_arg0)
          ∧ r.2.mem ((c.tc : Thread Cert.DlossRefIdeal.nD Cert.DlossRefIdeal.τ).loc Cert.DlossRefIdeal.main_arg1) = m' ((c.tc : Thread Cert.DlossRefIdeal.nD Cert.DlossRefIdeal.τ).loc Cert.DlossRefIdeal.main_arg1)
          ∧ r.2.mem ((c.tc : Thread Cert.DlossRefIdeal.nD Cert.DlossRefIdeal.τ).loc Cert.DlossRefIdeal.main_arg2) = m' ((c.tc : Thread Cert.DlossRefIdeal.nD Cert.DlossRefIdeal.τ).loc Cert.DlossRefIdeal.main_arg2)
          ∧ r.2.mem ((c.tc : Thread Cert.DlossRefIdeal.nD Cert.DlossRefIdeal.τ).loc Cert.DlossRefIdeal.main_arg3) = m' ((c.tc : Thread Cert.DlossRefIdeal.nD Cert.DlossRefIdeal.τ).loc Cert.DlossRefIdeal.main_arg3)
          ∧ r.2.mem ((c.tc : Thread Cert.DlossRefIdeal.nD Cert.DlossRefIdeal.τ).loc Cert.DlossRefIdeal.main_arg4) = m' ((c.tc : Thread Cert.DlossRefIdeal.nD Cert.DlossRefIdeal.τ).loc Cert.DlossRefIdeal.main_arg4))

def preserves_Dyb_DybIdeal : Prop :=
  True

def algebraic_DybIdeal_DybRefIdeal_pre_dyb_finite [hDybIdeal : Cert.DybIdeal.Facts] [hDybRefIdeal : Cert.DybRefIdeal.Facts] [hPre_dyb_finite : Cert.Pre_dyb_finite.Facts] : Prop :=
  ∀ (m : (ℓ : Loc Cert.DybIdeal.nD Cert.DybIdeal.τ Cert.DybIdeal.sig) → Buf (Elt Ideal) ℓ) (g : Dev Cert.DybIdeal.nD → PrngReg)
    (m' : (ℓ : Loc Cert.DybRefIdeal.nD Cert.DybRefIdeal.τ Cert.DybRefIdeal.sig) → Buf (Elt Ideal) ℓ) (g' : Dev Cert.DybRefIdeal.nD → PrngReg), Pre_DybIdeal_dyb_finite m →
    (∀ c : Dev Cert.DybIdeal.nD,
      m' ((c.tc : Thread Cert.DybRefIdeal.nD Cert.DybRefIdeal.τ).loc Cert.DybRefIdeal.main_arg0) = m ((c.tc : Thread Cert.DybIdeal.nD Cert.DybIdeal.τ).loc Cert.DybIdeal.main_arg0)
      ∧ m' ((c.tc : Thread Cert.DybRefIdeal.nD Cert.DybRefIdeal.τ).loc Cert.DybRefIdeal.main_arg1) = m ((c.tc : Thread Cert.DybIdeal.nD Cert.DybIdeal.τ).loc Cert.DybIdeal.main_arg1)
      ∧ m' ((c.tc : Thread Cert.DybRefIdeal.nD Cert.DybRefIdeal.τ).loc Cert.DybRefIdeal.main_arg2) = m ((c.tc : Thread Cert.DybIdeal.nD Cert.DybIdeal.τ).loc Cert.DybIdeal.main_arg2)
      ∧ m' ((c.tc : Thread Cert.DybRefIdeal.nD Cert.DybRefIdeal.τ).loc Cert.DybRefIdeal.main_arg3) = m ((c.tc : Thread Cert.DybIdeal.nD Cert.DybIdeal.τ).loc Cert.DybIdeal.main_arg3)) →
    ∃ (v0 : (c : Dev Cert.DybIdeal.nD) → Buf (Elt Ideal) ((c.tc : Thread Cert.DybIdeal.nD Cert.DybIdeal.τ).loc Cert.DybIdeal.main_v8_0)) (v1 : (c : Dev Cert.DybIdeal.nD) → Buf (Elt Ideal) ((c.tc : Thread Cert.DybIdeal.nD Cert.DybIdeal.τ).loc Cert.DybIdeal.main_v8_1)) (v2 : (c : Dev Cert.DybIdeal.nD) → Buf (Elt Ideal) ((c.tc : Thread Cert.DybIdeal.nD Cert.DybIdeal.τ).loc Cert.DybIdeal.main_v9)),
      θ_run (Cert.DybIdeal.defs (F := Ideal)) (onTc (τ := Cert.DybIdeal.τ) (Cert.DybIdeal.main (F := Ideal))) ⟨m, fun _ => 0, g⟩ (fun r => ∀ c : Dev Cert.DybIdeal.nD,
          r.2.mem ((c.tc : Thread Cert.DybIdeal.nD Cert.DybIdeal.τ).loc Cert.DybIdeal.main_v8_0) = v0 c
          ∧ r.2.mem ((c.tc : Thread Cert.DybIdeal.nD Cert.DybIdeal.τ).loc Cert.DybIdeal.main_v8_1) = v1 c
          ∧ r.2.mem ((c.tc : Thread Cert.DybIdeal.nD Cert.DybIdeal.τ).loc Cert.DybIdeal.main_v9) = v2 c
          ∧ r.2.mem ((c.tc : Thread Cert.DybIdeal.nD Cert.DybIdeal.τ).loc Cert.DybIdeal.main_arg0) = m ((c.tc : Thread Cert.DybIdeal.nD Cert.DybIdeal.τ).loc Cert.DybIdeal.main_arg0)
          ∧ r.2.mem ((c.tc : Thread Cert.DybIdeal.nD Cert.DybIdeal.τ).loc Cert.DybIdeal.main_arg1) = m ((c.tc : Thread Cert.DybIdeal.nD Cert.DybIdeal.τ).loc Cert.DybIdeal.main_arg1)
          ∧ r.2.mem ((c.tc : Thread Cert.DybIdeal.nD Cert.DybIdeal.τ).loc Cert.DybIdeal.main_arg2) = m ((c.tc : Thread Cert.DybIdeal.nD Cert.DybIdeal.τ).loc Cert.DybIdeal.main_arg2)
          ∧ r.2.mem ((c.tc : Thread Cert.DybIdeal.nD Cert.DybIdeal.τ).loc Cert.DybIdeal.main_arg3) = m ((c.tc : Thread Cert.DybIdeal.nD Cert.DybIdeal.τ).loc Cert.DybIdeal.main_arg3))
      ∧ θ_run (Cert.DybRefIdeal.defs (F := Ideal)) (onTc (τ := Cert.DybRefIdeal.τ) (Cert.DybRefIdeal.main (F := Ideal))) ⟨m', fun _ => 0, g'⟩ (fun r => ∀ c : Dev Cert.DybRefIdeal.nD,
          r.2.mem ((c.tc : Thread Cert.DybRefIdeal.nD Cert.DybRefIdeal.τ).loc Cert.DybRefIdeal.main_v62) = v0 c
          ∧ r.2.mem ((c.tc : Thread Cert.DybRefIdeal.nD Cert.DybRefIdeal.τ).loc Cert.DybRefIdeal.main_v63) = v1 c
          ∧ r.2.mem ((c.tc : Thread Cert.DybRefIdeal.nD Cert.DybRefIdeal.τ).loc Cert.DybRefIdeal.main_v49) = v2 c
          ∧ r.2.mem ((c.tc : Thread Cert.DybRefIdeal.nD Cert.DybRefIdeal.τ).loc Cert.DybRefIdeal.main_arg0) = m' ((c.tc : Thread Cert.DybRefIdeal.nD Cert.DybRefIdeal.τ).loc Cert.DybRefIdeal.main_arg0)
          ∧ r.2.mem ((c.tc : Thread Cert.DybRefIdeal.nD Cert.DybRefIdeal.τ).loc Cert.DybRefIdeal.main_arg1) = m' ((c.tc : Thread Cert.DybRefIdeal.nD Cert.DybRefIdeal.τ).loc Cert.DybRefIdeal.main_arg1)
          ∧ r.2.mem ((c.tc : Thread Cert.DybRefIdeal.nD Cert.DybRefIdeal.τ).loc Cert.DybRefIdeal.main_arg2) = m' ((c.tc : Thread Cert.DybRefIdeal.nD Cert.DybRefIdeal.τ).loc Cert.DybRefIdeal.main_arg2)
          ∧ r.2.mem ((c.tc : Thread Cert.DybRefIdeal.nD Cert.DybRefIdeal.τ).loc Cert.DybRefIdeal.main_arg3) = m' ((c.tc : Thread Cert.DybRefIdeal.nD Cert.DybRefIdeal.τ).loc Cert.DybRefIdeal.main_arg3))

def preserves_Dfgate_DfgateIdeal : Prop :=
  True

def algebraic_DfgateIdeal_DfgateRefIdeal_pre_dfgate_finite [hDfgateIdeal : Cert.DfgateIdeal.Facts] [hDfgateRefIdeal : Cert.DfgateRefIdeal.Facts] [hPre_dfgate_finite : Cert.Pre_dfgate_finite.Facts] : Prop :=
  ∀ (m : (ℓ : Loc Cert.DfgateIdeal.nD Cert.DfgateIdeal.τ Cert.DfgateIdeal.sig) → Buf (Elt Ideal) ℓ) (g : Dev Cert.DfgateIdeal.nD → PrngReg)
    (m' : (ℓ : Loc Cert.DfgateRefIdeal.nD Cert.DfgateRefIdeal.τ Cert.DfgateRefIdeal.sig) → Buf (Elt Ideal) ℓ) (g' : Dev Cert.DfgateRefIdeal.nD → PrngReg), Pre_DfgateIdeal_dfgate_finite m →
    (∀ c : Dev Cert.DfgateIdeal.nD,
      m' ((c.tc : Thread Cert.DfgateRefIdeal.nD Cert.DfgateRefIdeal.τ).loc Cert.DfgateRefIdeal.main_arg0) = m ((c.tc : Thread Cert.DfgateIdeal.nD Cert.DfgateIdeal.τ).loc Cert.DfgateIdeal.main_arg0)
      ∧ m' ((c.tc : Thread Cert.DfgateRefIdeal.nD Cert.DfgateRefIdeal.τ).loc Cert.DfgateRefIdeal.main_arg1) = m ((c.tc : Thread Cert.DfgateIdeal.nD Cert.DfgateIdeal.τ).loc Cert.DfgateIdeal.main_arg1)
      ∧ m' ((c.tc : Thread Cert.DfgateRefIdeal.nD Cert.DfgateRefIdeal.τ).loc Cert.DfgateRefIdeal.main_arg2) = m ((c.tc : Thread Cert.DfgateIdeal.nD Cert.DfgateIdeal.τ).loc Cert.DfgateIdeal.main_arg2)
      ∧ m' ((c.tc : Thread Cert.DfgateRefIdeal.nD Cert.DfgateRefIdeal.τ).loc Cert.DfgateRefIdeal.main_arg3) = m ((c.tc : Thread Cert.DfgateIdeal.nD Cert.DfgateIdeal.τ).loc Cert.DfgateIdeal.main_arg3)) →
    ∃ (v0 : (c : Dev Cert.DfgateIdeal.nD) → Buf (Elt Ideal) ((c.tc : Thread Cert.DfgateIdeal.nD Cert.DfgateIdeal.τ).loc Cert.DfgateIdeal.main_v14)) (v1 : (c : Dev Cert.DfgateIdeal.nD) → Buf (Elt Ideal) ((c.tc : Thread Cert.DfgateIdeal.nD Cert.DfgateIdeal.τ).loc Cert.DfgateIdeal.main_v16)),
      θ_run (Cert.DfgateIdeal.defs (F := Ideal)) (onTc (τ := Cert.DfgateIdeal.τ) (Cert.DfgateIdeal.main (F := Ideal))) ⟨m, fun _ => 0, g⟩ (fun r => ∀ c : Dev Cert.DfgateIdeal.nD,
          r.2.mem ((c.tc : Thread Cert.DfgateIdeal.nD Cert.DfgateIdeal.τ).loc Cert.DfgateIdeal.main_v14) = v0 c
          ∧ r.2.mem ((c.tc : Thread Cert.DfgateIdeal.nD Cert.DfgateIdeal.τ).loc Cert.DfgateIdeal.main_v16) = v1 c
          ∧ r.2.mem ((c.tc : Thread Cert.DfgateIdeal.nD Cert.DfgateIdeal.τ).loc Cert.DfgateIdeal.main_arg0) = m ((c.tc : Thread Cert.DfgateIdeal.nD Cert.DfgateIdeal.τ).loc Cert.DfgateIdeal.main_arg0)
          ∧ r.2.mem ((c.tc : Thread Cert.DfgateIdeal.nD Cert.DfgateIdeal.τ).loc Cert.DfgateIdeal.main_arg1) = m ((c.tc : Thread Cert.DfgateIdeal.nD Cert.DfgateIdeal.τ).loc Cert.DfgateIdeal.main_arg1)
          ∧ r.2.mem ((c.tc : Thread Cert.DfgateIdeal.nD Cert.DfgateIdeal.τ).loc Cert.DfgateIdeal.main_arg2) = m ((c.tc : Thread Cert.DfgateIdeal.nD Cert.DfgateIdeal.τ).loc Cert.DfgateIdeal.main_arg2)
          ∧ r.2.mem ((c.tc : Thread Cert.DfgateIdeal.nD Cert.DfgateIdeal.τ).loc Cert.DfgateIdeal.main_arg3) = m ((c.tc : Thread Cert.DfgateIdeal.nD Cert.DfgateIdeal.τ).loc Cert.DfgateIdeal.main_arg3))
      ∧ θ_run (Cert.DfgateRefIdeal.defs (F := Ideal)) (onTc (τ := Cert.DfgateRefIdeal.τ) (Cert.DfgateRefIdeal.main (F := Ideal))) ⟨m', fun _ => 0, g'⟩ (fun r => ∀ c : Dev Cert.DfgateRefIdeal.nD,
          r.2.mem ((c.tc : Thread Cert.DfgateRefIdeal.nD Cert.DfgateRefIdeal.τ).loc Cert.DfgateRefIdeal.main_v21) = v0 c
          ∧ r.2.mem ((c.tc : Thread Cert.DfgateRefIdeal.nD Cert.DfgateRefIdeal.τ).loc Cert.DfgateRefIdeal.main_v20) = v1 c
          ∧ r.2.mem ((c.tc : Thread Cert.DfgateRefIdeal.nD Cert.DfgateRefIdeal.τ).loc Cert.DfgateRefIdeal.main_arg0) = m' ((c.tc : Thread Cert.DfgateRefIdeal.nD Cert.DfgateRefIdeal.τ).loc Cert.DfgateRefIdeal.main_arg0)
          ∧ r.2.mem ((c.tc : Thread Cert.DfgateRefIdeal.nD Cert.DfgateRefIdeal.τ).loc Cert.DfgateRefIdeal.main_arg1) = m' ((c.tc : Thread Cert.DfgateRefIdeal.nD Cert.DfgateRefIdeal.τ).loc Cert.DfgateRefIdeal.main_arg1)
          ∧ r.2.mem ((c.tc : Thread Cert.DfgateRefIdeal.nD Cert.DfgateRefIdeal.τ).loc Cert.DfgateRefIdeal.main_arg2) = m' ((c.tc : Thread Cert.DfgateRefIdeal.nD Cert.DfgateRefIdeal.τ).loc Cert.DfgateRefIdeal.main_arg2)
          ∧ r.2.mem ((c.tc : Thread Cert.DfgateRefIdeal.nD Cert.DfgateRefIdeal.τ).loc Cert.DfgateRefIdeal.main_arg3) = m' ((c.tc : Thread Cert.DfgateRefIdeal.nD Cert.DfgateRefIdeal.τ).loc Cert.DfgateRefIdeal.main_arg3))

def preserves_Dfox_DfoxIdeal : Prop :=
  True

def algebraic_DfoxIdeal_DfoxRefIdeal_pre_dfox_finite [hDfoxIdeal : Cert.DfoxIdeal.Facts] [hDfoxRefIdeal : Cert.DfoxRefIdeal.Facts] [hPre_dfox_finite : Cert.Pre_dfox_finite.Facts] : Prop :=
  ∀ (m : (ℓ : Loc Cert.DfoxIdeal.nD Cert.DfoxIdeal.τ Cert.DfoxIdeal.sig) → Buf (Elt Ideal) ℓ) (g : Dev Cert.DfoxIdeal.nD → PrngReg)
    (m' : (ℓ : Loc Cert.DfoxRefIdeal.nD Cert.DfoxRefIdeal.τ Cert.DfoxRefIdeal.sig) → Buf (Elt Ideal) ℓ) (g' : Dev Cert.DfoxRefIdeal.nD → PrngReg), Pre_DfoxIdeal_dfox_finite m →
    (∀ c : Dev Cert.DfoxIdeal.nD,
      m' ((c.tc : Thread Cert.DfoxRefIdeal.nD Cert.DfoxRefIdeal.τ).loc Cert.DfoxRefIdeal.main_arg0) = m ((c.tc : Thread Cert.DfoxIdeal.nD Cert.DfoxIdeal.τ).loc Cert.DfoxIdeal.main_arg0)
      ∧ m' ((c.tc : Thread Cert.DfoxRefIdeal.nD Cert.DfoxRefIdeal.τ).loc Cert.DfoxRefIdeal.main_arg1) = m ((c.tc : Thread Cert.DfoxIdeal.nD Cert.DfoxIdeal.τ).loc Cert.DfoxIdeal.main_arg1)
      ∧ m' ((c.tc : Thread Cert.DfoxRefIdeal.nD Cert.DfoxRefIdeal.τ).loc Cert.DfoxRefIdeal.main_arg2) = m ((c.tc : Thread Cert.DfoxIdeal.nD Cert.DfoxIdeal.τ).loc Cert.DfoxIdeal.main_arg2)
      ∧ m' ((c.tc : Thread Cert.DfoxRefIdeal.nD Cert.DfoxRefIdeal.τ).loc Cert.DfoxRefIdeal.main_arg3) = m ((c.tc : Thread Cert.DfoxIdeal.nD Cert.DfoxIdeal.τ).loc Cert.DfoxIdeal.main_arg3)
      ∧ m' ((c.tc : Thread Cert.DfoxRefIdeal.nD Cert.DfoxRefIdeal.τ).loc Cert.DfoxRefIdeal.main_arg4) = m ((c.tc : Thread Cert.DfoxIdeal.nD Cert.DfoxIdeal.τ).loc Cert.DfoxIdeal.main_arg4)) →
    ∃ (v0 : (c : Dev Cert.DfoxIdeal.nD) → Buf (Elt Ideal) ((c.tc : Thread Cert.DfoxIdeal.nD Cert.DfoxIdeal.τ).loc Cert.DfoxIdeal.main_v41_0)) (v1 : (c : Dev Cert.DfoxIdeal.nD) → Buf (Elt Ideal) ((c.tc : Thread Cert.DfoxIdeal.nD Cert.DfoxIdeal.τ).loc Cert.DfoxIdeal.main_v41_1)) (v2 : (c : Dev Cert.DfoxIdeal.nD) → Buf (Elt Ideal) ((c.tc : Thread Cert.DfoxIdeal.nD Cert.DfoxIdeal.τ).loc Cert.DfoxIdeal.main_v41_2)) (v3 : (c : Dev Cert.DfoxIdeal.nD) → Buf (Elt Ideal) ((c.tc : Thread Cert.DfoxIdeal.nD Cert.DfoxIdeal.τ).loc Cert.DfoxIdeal.main_v41_3)) (v4 : (c : Dev Cert.DfoxIdeal.nD) → Buf (Elt Ideal) ((c.tc : Thread Cert.DfoxIdeal.nD Cert.DfoxIdeal.τ).loc Cert.DfoxIdeal.main_v41_4)),
      θ_run (Cert.DfoxIdeal.defs (F := Ideal)) (onTc (τ := Cert.DfoxIdeal.τ) (Cert.DfoxIdeal.main (F := Ideal))) ⟨m, fun _ => 0, g⟩ (fun r => ∀ c : Dev Cert.DfoxIdeal.nD,
          r.2.mem ((c.tc : Thread Cert.DfoxIdeal.nD Cert.DfoxIdeal.τ).loc Cert.DfoxIdeal.main_v41_0) = v0 c
          ∧ r.2.mem ((c.tc : Thread Cert.DfoxIdeal.nD Cert.DfoxIdeal.τ).loc Cert.DfoxIdeal.main_v41_1) = v1 c
          ∧ r.2.mem ((c.tc : Thread Cert.DfoxIdeal.nD Cert.DfoxIdeal.τ).loc Cert.DfoxIdeal.main_v41_2) = v2 c
          ∧ r.2.mem ((c.tc : Thread Cert.DfoxIdeal.nD Cert.DfoxIdeal.τ).loc Cert.DfoxIdeal.main_v41_3) = v3 c
          ∧ r.2.mem ((c.tc : Thread Cert.DfoxIdeal.nD Cert.DfoxIdeal.τ).loc Cert.DfoxIdeal.main_v41_4) = v4 c
          ∧ r.2.mem ((c.tc : Thread Cert.DfoxIdeal.nD Cert.DfoxIdeal.τ).loc Cert.DfoxIdeal.main_arg0) = m ((c.tc : Thread Cert.DfoxIdeal.nD Cert.DfoxIdeal.τ).loc Cert.DfoxIdeal.main_arg0)
          ∧ r.2.mem ((c.tc : Thread Cert.DfoxIdeal.nD Cert.DfoxIdeal.τ).loc Cert.DfoxIdeal.main_arg1) = m ((c.tc : Thread Cert.DfoxIdeal.nD Cert.DfoxIdeal.τ).loc Cert.DfoxIdeal.main_arg1)
          ∧ r.2.mem ((c.tc : Thread Cert.DfoxIdeal.nD Cert.DfoxIdeal.τ).loc Cert.DfoxIdeal.main_arg2) = m ((c.tc : Thread Cert.DfoxIdeal.nD Cert.DfoxIdeal.τ).loc Cert.DfoxIdeal.main_arg2)
          ∧ r.2.mem ((c.tc : Thread Cert.DfoxIdeal.nD Cert.DfoxIdeal.τ).loc Cert.DfoxIdeal.main_arg3) = m ((c.tc : Thread Cert.DfoxIdeal.nD Cert.DfoxIdeal.τ).loc Cert.DfoxIdeal.main_arg3)
          ∧ r.2.mem ((c.tc : Thread Cert.DfoxIdeal.nD Cert.DfoxIdeal.τ).loc Cert.DfoxIdeal.main_arg4) = m ((c.tc : Thread Cert.DfoxIdeal.nD Cert.DfoxIdeal.τ).loc Cert.DfoxIdeal.main_arg4))
      ∧ θ_run (Cert.DfoxRefIdeal.defs (F := Ideal)) (onTc (τ := Cert.DfoxRefIdeal.τ) (Cert.DfoxRefIdeal.main (F := Ideal))) ⟨m', fun _ => 0, g'⟩ (fun r => ∀ c : Dev Cert.DfoxRefIdeal.nD,
          r.2.mem ((c.tc : Thread Cert.DfoxRefIdeal.nD Cert.DfoxRefIdeal.τ).loc Cert.DfoxRefIdeal.main_v87) = v0 c
          ∧ r.2.mem ((c.tc : Thread Cert.DfoxRefIdeal.nD Cert.DfoxRefIdeal.τ).loc Cert.DfoxRefIdeal.main_v91) = v1 c
          ∧ r.2.mem ((c.tc : Thread Cert.DfoxRefIdeal.nD Cert.DfoxRefIdeal.τ).loc Cert.DfoxRefIdeal.main_v92) = v2 c
          ∧ r.2.mem ((c.tc : Thread Cert.DfoxRefIdeal.nD Cert.DfoxRefIdeal.τ).loc Cert.DfoxRefIdeal.main_v90) = v3 c
          ∧ r.2.mem ((c.tc : Thread Cert.DfoxRefIdeal.nD Cert.DfoxRefIdeal.τ).loc Cert.DfoxRefIdeal.main_v94) = v4 c
          ∧ r.2.mem ((c.tc : Thread Cert.DfoxRefIdeal.nD Cert.DfoxRefIdeal.τ).loc Cert.DfoxRefIdeal.main_arg0) = m' ((c.tc : Thread Cert.DfoxRefIdeal.nD Cert.DfoxRefIdeal.τ).loc Cert.DfoxRefIdeal.main_arg0)
          ∧ r.2.mem ((c.tc : Thread Cert.DfoxRefIdeal.nD Cert.DfoxRefIdeal.τ).loc Cert.DfoxRefIdeal.main_arg1) = m' ((c.tc : Thread Cert.DfoxRefIdeal.nD Cert.DfoxRefIdeal.τ).loc Cert.DfoxRefIdeal.main_arg1)
          ∧ r.2.mem ((c.tc : Thread Cert.DfoxRefIdeal.nD Cert.DfoxRefIdeal.τ).loc Cert.DfoxRefIdeal.main_arg2) = m' ((c.tc : Thread Cert.DfoxRefIdeal.nD Cert.DfoxRefIdeal.τ).loc Cert.DfoxRefIdeal.main_arg2)
          ∧ r.2.mem ((c.tc : Thread Cert.DfoxRefIdeal.nD Cert.DfoxRefIdeal.τ).loc Cert.DfoxRefIdeal.main_arg3) = m' ((c.tc : Thread Cert.DfoxRefIdeal.nD Cert.DfoxRefIdeal.τ).loc Cert.DfoxRefIdeal.main_arg3)
          ∧ r.2.mem ((c.tc : Thread Cert.DfoxRefIdeal.nD Cert.DfoxRefIdeal.τ).loc Cert.DfoxRefIdeal.main_arg4) = m' ((c.tc : Thread Cert.DfoxRefIdeal.nD Cert.DfoxRefIdeal.τ).loc Cert.DfoxRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v4) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v2_0)) (v1 : (c : Dev Cert.LnIdeal.nD) → Buf (Elt Ideal) ((c.tc : Thread Cert.LnIdeal.nD Cert.LnIdeal.τ).loc Cert.LnIdeal.main_v2_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2_0) = v0 c
          ∧ r.2.mem ((c.tc : Thread Cert.LnIdeal.nD Cert.LnIdeal.τ).loc Cert.LnIdeal.main_v2_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v26) = v0 c
          ∧ r.2.mem ((c.tc : Thread Cert.LnRefIdeal.nD Cert.LnRefIdeal.τ).loc Cert.LnRefIdeal.main_v27) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Yb_YbIdeal : Prop :=
  True

def algebraic_YbIdeal_YbRefIdeal [hYbIdeal : Cert.YbIdeal.Facts] [hYbRefIdeal : Cert.YbRefIdeal.Facts] : Prop :=
  ∀ (m : (ℓ : Loc Cert.YbIdeal.nD Cert.YbIdeal.τ Cert.YbIdeal.sig) → Buf (Elt Ideal) ℓ) (g : Dev Cert.YbIdeal.nD → PrngReg)
    (m' : (ℓ : Loc Cert.YbRefIdeal.nD Cert.YbRefIdeal.τ Cert.YbRefIdeal.sig) → Buf (Elt Ideal) ℓ) (g' : Dev Cert.YbRefIdeal.nD → PrngReg), Pre_YbIdeal m →
    (∀ c : Dev Cert.YbIdeal.nD,
      m' ((c.tc : Thread Cert.YbRefIdeal.nD Cert.YbRefIdeal.τ).loc Cert.YbRefIdeal.main_arg0) = m ((c.tc : Thread Cert.YbIdeal.nD Cert.YbIdeal.τ).loc Cert.YbIdeal.main_arg0)
      ∧ m' ((c.tc : Thread Cert.YbRefIdeal.nD Cert.YbRefIdeal.τ).loc Cert.YbRefIdeal.main_arg1) = m ((c.tc : Thread Cert.YbIdeal.nD Cert.YbIdeal.τ).loc Cert.YbIdeal.main_arg1)
      ∧ m' ((c.tc : Thread Cert.YbRefIdeal.nD Cert.YbRefIdeal.τ).loc Cert.YbRefIdeal.main_arg2) = m ((c.tc : Thread Cert.YbIdeal.nD Cert.YbIdeal.τ).loc Cert.YbIdeal.main_arg2)) →
    ∃ (v0 : (c : Dev Cert.YbIdeal.nD) → Buf (Elt Ideal) ((c.tc : Thread Cert.YbIdeal.nD Cert.YbIdeal.τ).loc Cert.YbIdeal.main_v8)),
      θ_run (Cert.YbIdeal.defs (F := Ideal)) (onTc (τ := Cert.YbIdeal.τ) (Cert.YbIdeal.main (F := Ideal))) ⟨m, fun _ => 0, g⟩ (fun r => ∀ c : Dev Cert.YbIdeal.nD,
          r.2.mem ((c.tc : Thread Cert.YbIdeal.nD Cert.YbIdeal.τ).loc Cert.YbIdeal.main_v8) = v0 c
          ∧ r.2.mem ((c.tc : Thread Cert.YbIdeal.nD Cert.YbIdeal.τ).loc Cert.YbIdeal.main_arg0) = m ((c.tc : Thread Cert.YbIdeal.nD Cert.YbIdeal.τ).loc Cert.YbIdeal.main_arg0)
          ∧ r.2.mem ((c.tc : Thread Cert.YbIdeal.nD Cert.YbIdeal.τ).loc Cert.YbIdeal.main_arg1) = m ((c.tc : Thread Cert.YbIdeal.nD Cert.YbIdeal.τ).loc Cert.YbIdeal.main_arg1)
          ∧ r.2.mem ((c.tc : Thread Cert.YbIdeal.nD Cert.YbIdeal.τ).loc Cert.YbIdeal.main_arg2) = m ((c.tc : Thread Cert.YbIdeal.nD Cert.YbIdeal.τ).loc Cert.YbIdeal.main_arg2))
      ∧ θ_run (Cert.YbRefIdeal.defs (F := Ideal)) (onTc (τ := Cert.YbRefIdeal.τ) (Cert.YbRefIdeal.main (F := Ideal))) ⟨m', fun _ => 0, g'⟩ (fun r => ∀ c : Dev Cert.YbRefIdeal.nD,
          r.2.mem ((c.tc : Thread Cert.YbRefIdeal.nD Cert.YbRefIdeal.τ).loc Cert.YbRefIdeal.main_v32) = v0 c
          ∧ r.2.mem ((c.tc : Thread Cert.YbRefIdeal.nD Cert.YbRefIdeal.τ).loc Cert.YbRefIdeal.main_arg0) = m' ((c.tc : Thread Cert.YbRefIdeal.nD Cert.YbRefIdeal.τ).loc Cert.YbRefIdeal.main_arg0)
          ∧ r.2.mem ((c.tc : Thread Cert.YbRefIdeal.nD Cert.YbRefIdeal.τ).loc Cert.YbRefIdeal.main_arg1) = m' ((c.tc : Thread Cert.YbRefIdeal.nD Cert.YbRefIdeal.τ).loc Cert.YbRefIdeal.main_arg1)
          ∧ r.2.mem ((c.tc : Thread Cert.YbRefIdeal.nD Cert.YbRefIdeal.τ).loc Cert.YbRefIdeal.main_arg2) = m' ((c.tc : Thread Cert.YbRefIdeal.nD Cert.YbRefIdeal.τ).loc Cert.YbRefIdeal.main_arg2))

def preserves_Fsum_FsumIdeal : Prop :=
  True

def algebraic_FsumIdeal_FsumRefIdeal_pre_fsum_finite [hFsumIdeal : Cert.FsumIdeal.Facts] [hFsumRefIdeal : Cert.FsumRefIdeal.Facts] [hPre_fsum_finite : Cert.Pre_fsum_finite.Facts] : Prop :=
  ∀ (m : (ℓ : Loc Cert.FsumIdeal.nD Cert.FsumIdeal.τ Cert.FsumIdeal.sig) → Buf (Elt Ideal) ℓ) (g : Dev Cert.FsumIdeal.nD → PrngReg)
    (m' : (ℓ : Loc Cert.FsumRefIdeal.nD Cert.FsumRefIdeal.τ Cert.FsumRefIdeal.sig) → Buf (Elt Ideal) ℓ) (g' : Dev Cert.FsumRefIdeal.nD → PrngReg), Pre_FsumIdeal_fsum_finite m →
    (∀ c : Dev Cert.FsumIdeal.nD,
      m' ((c.tc : Thread Cert.FsumRefIdeal.nD Cert.FsumRefIdeal.τ).loc Cert.FsumRefIdeal.main_arg0) = m ((c.tc : Thread Cert.FsumIdeal.nD Cert.FsumIdeal.τ).loc Cert.FsumIdeal.main_arg0)
      ∧ m' ((c.tc : Thread Cert.FsumRefIdeal.nD Cert.FsumRefIdeal.τ).loc Cert.FsumRefIdeal.main_arg1) = m ((c.tc : Thread Cert.FsumIdeal.nD Cert.FsumIdeal.τ).loc Cert.FsumIdeal.main_arg1)) →
    ∃ (v0 : (c : Dev Cert.FsumIdeal.nD) → Buf (Elt Ideal) ((c.tc : Thread Cert.FsumIdeal.nD Cert.FsumIdeal.τ).loc Cert.FsumIdeal.main_v10)),
      θ_run (Cert.FsumIdeal.defs (F := Ideal)) (onTc (τ := Cert.FsumIdeal.τ) (Cert.FsumIdeal.main (F := Ideal))) ⟨m, fun _ => 0, g⟩ (fun r => ∀ c : Dev Cert.FsumIdeal.nD,
          r.2.mem ((c.tc : Thread Cert.FsumIdeal.nD Cert.FsumIdeal.τ).loc Cert.FsumIdeal.main_v10) = v0 c
          ∧ r.2.mem ((c.tc : Thread Cert.FsumIdeal.nD Cert.FsumIdeal.τ).loc Cert.FsumIdeal.main_arg0) = m ((c.tc : Thread Cert.FsumIdeal.nD Cert.FsumIdeal.τ).loc Cert.FsumIdeal.main_arg0)
          ∧ r.2.mem ((c.tc : Thread Cert.FsumIdeal.nD Cert.FsumIdeal.τ).loc Cert.FsumIdeal.main_arg1) = m ((c.tc : Thread Cert.FsumIdeal.nD Cert.FsumIdeal.τ).loc Cert.FsumIdeal.main_arg1))
      ∧ θ_run (Cert.FsumRefIdeal.defs (F := Ideal)) (onTc (τ := Cert.FsumRefIdeal.τ) (Cert.FsumRefIdeal.main (F := Ideal))) ⟨m', fun _ => 0, g'⟩ (fun r => ∀ c : Dev Cert.FsumRefIdeal.nD,
          r.2.mem ((c.tc : Thread Cert.FsumRefIdeal.nD Cert.FsumRefIdeal.τ).loc Cert.FsumRefIdeal.main_v14) = v0 c
          ∧ r.2.mem ((c.tc : Thread Cert.FsumRefIdeal.nD Cert.FsumRefIdeal.τ).loc Cert.FsumRefIdeal.main_arg0) = m' ((c.tc : Thread Cert.FsumRefIdeal.nD Cert.FsumRefIdeal.τ).loc Cert.FsumRefIdeal.main_arg0)
          ∧ r.2.mem ((c.tc : Thread Cert.FsumRefIdeal.nD Cert.FsumRefIdeal.τ).loc Cert.FsumRefIdeal.main_arg1) = m' ((c.tc : Thread Cert.FsumRefIdeal.nD Cert.FsumRefIdeal.τ).loc Cert.FsumRefIdeal.main_arg1))

def preserves_Attend_AttendIdeal : Prop :=
  IdealRules.named_const.Statement Cert.AttendIdeal.κ "mask" .f32 0xF149F2CA#32 ⊥

def algebraic_AttendIdeal_AttendRefIdeal_pre_attend_finite [hAttendIdeal : Cert.AttendIdeal.Facts] [hAttendRefIdeal : Cert.AttendRefIdeal.Facts] [hPre_attend_finite : Cert.Pre_attend_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_attend_finite m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)
      ∧ m' ((c.tc : Thread Cert.AttendRefIdeal.nD Cert.AttendRefIdeal.τ).loc Cert.AttendRefIdeal.main_arg3) = m ((c.tc : Thread Cert.AttendIdeal.nD Cert.AttendIdeal.τ).loc Cert.AttendIdeal.main_arg3)) →
    ∃ (v0 : (c : Dev Cert.AttendIdeal.nD) → Buf (Elt Ideal) ((c.tc : Thread Cert.AttendIdeal.nD Cert.AttendIdeal.τ).loc Cert.AttendIdeal.main_v4_0)) (v1 : (c : Dev Cert.AttendIdeal.nD) → Buf (Elt Ideal) ((c.tc : Thread Cert.AttendIdeal.nD Cert.AttendIdeal.τ).loc Cert.AttendIdeal.main_v4_1)) (v2 : (c : Dev Cert.AttendIdeal.nD) → Buf (Elt Ideal) ((c.tc : Thread Cert.AttendIdeal.nD Cert.AttendIdeal.τ).loc Cert.AttendIdeal.main_v4_2)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v4_0) = v0 c
          ∧ r.2.mem ((c.tc : Thread Cert.AttendIdeal.nD Cert.AttendIdeal.τ).loc Cert.AttendIdeal.main_v4_1) = v1 c
          ∧ r.2.mem ((c.tc : Thread Cert.AttendIdeal.nD Cert.AttendIdeal.τ).loc Cert.AttendIdeal.main_v4_2) = v2 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v34) = v0 c
          ∧ r.2.mem ((c.tc : Thread Cert.AttendRefIdeal.nD Cert.AttendRefIdeal.τ).loc Cert.AttendRefIdeal.main_v48) = v1 c
          ∧ r.2.mem ((c.tc : Thread Cert.AttendRefIdeal.nD Cert.AttendRefIdeal.τ).loc Cert.AttendRefIdeal.main_v47) = v2 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2)
          ∧ r.2.mem ((c.tc : Thread Cert.AttendRefIdeal.nD Cert.AttendRefIdeal.τ).loc Cert.AttendRefIdeal.main_arg3) = m' ((c.tc : Thread Cert.AttendRefIdeal.nD Cert.AttendRefIdeal.τ).loc Cert.AttendRefIdeal.main_arg3))

def preserves_Product_ProductIdeal : Prop :=
  True

def algebraic_ProductIdeal_ProductRefIdeal [hProductIdeal : Cert.ProductIdeal.Facts] [hProductRefIdeal : Cert.ProductRefIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductRefIdeal.nD Cert.ProductRefIdeal.τ Cert.ProductRefIdeal.sig) → Buf (Elt Ideal) ℓ) (g' : Dev Cert.ProductRefIdeal.nD → PrngReg), Pre_ProductIdeal m →
    (∀ c : Dev Cert.ProductIdeal.nD,
      m' ((c.tc : Thread Cert.ProductRefIdeal.nD Cert.ProductRefIdeal.τ).loc Cert.ProductRefIdeal.main_arg0) = m ((c.tc : Thread Cert.ProductIdeal.nD Cert.ProductIdeal.τ).loc Cert.ProductIdeal.main_arg0)
      ∧ m' ((c.tc : Thread Cert.ProductRefIdeal.nD Cert.ProductRefIdeal.τ).loc Cert.ProductRefIdeal.main_arg1) = m ((c.tc : Thread Cert.ProductIdeal.nD Cert.ProductIdeal.τ).loc Cert.ProductIdeal.main_arg1)) →
    ∃ (v0 : (c : Dev Cert.ProductIdeal.nD) → Buf (Elt Ideal) ((c.tc : Thread Cert.ProductIdeal.nD Cert.ProductIdeal.τ).loc Cert.ProductIdeal.main_v0)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v0) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ θ_run (Cert.ProductRefIdeal.defs (F := Ideal)) (onTc (τ := Cert.ProductRefIdeal.τ) (Cert.ProductRefIdeal.main (F := Ideal))) ⟨m', fun _ => 0, g'⟩ (fun r => ∀ c : Dev Cert.ProductRefIdeal.nD,
          r.2.mem ((c.tc : Thread Cert.ProductRefIdeal.nD Cert.ProductRefIdeal.τ).loc Cert.ProductRefIdeal.main_v0) = v0 c
          ∧ r.2.mem ((c.tc : Thread Cert.ProductRefIdeal.nD Cert.ProductRefIdeal.τ).loc Cert.ProductRefIdeal.main_arg0) = m' ((c.tc : Thread Cert.ProductRefIdeal.nD Cert.ProductRefIdeal.τ).loc Cert.ProductRefIdeal.main_arg0)
          ∧ r.2.mem ((c.tc : Thread Cert.ProductRefIdeal.nD Cert.ProductRefIdeal.τ).loc Cert.ProductRefIdeal.main_arg1) = m' ((c.tc : Thread Cert.ProductRefIdeal.nD Cert.ProductRefIdeal.τ).loc Cert.ProductRefIdeal.main_arg1))

def preserves_Adam_AdamIdeal : Prop :=
  IdealRules.named_const.Statement Cert.AdamIdeal.κ "bias1" .f32 0x3FC48605#32 (((5463681 / 8388608)⁻¹ : ℝ) : EReal)
  ∧ IdealRules.named_const.Statement Cert.AdamIdeal.κ "bias2" .f32 0x42C8E6D3#32 (((2672307 / 268435456)⁻¹ : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v10)) (v1 : (c : Dev Cert.AdamIdeal.nD) → Buf (Elt Ideal) ((c.tc : Thread Cert.AdamIdeal.nD Cert.AdamIdeal.τ).loc Cert.AdamIdeal.main_v12)) (v2 : (c : Dev Cert.AdamIdeal.nD) → Buf (Elt Ideal) ((c.tc : Thread Cert.AdamIdeal.nD Cert.AdamIdeal.τ).loc Cert.AdamIdeal.main_v14)) (v3 : (c : Dev Cert.AdamIdeal.nD) → Buf (Elt Ideal) ((c.tc : Thread Cert.AdamIdeal.nD Cert.AdamIdeal.τ).loc Cert.AdamIdeal.main_v16)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v10) = v0 c
          ∧ r.2.mem ((c.tc : Thread Cert.AdamIdeal.nD Cert.AdamIdeal.τ).loc Cert.AdamIdeal.main_v12) = v1 c
          ∧ r.2.mem ((c.tc : Thread Cert.AdamIdeal.nD Cert.AdamIdeal.τ).loc Cert.AdamIdeal.main_v14) = v2 c
          ∧ r.2.mem ((c.tc : Thread Cert.AdamIdeal.nD Cert.AdamIdeal.τ).loc Cert.AdamIdeal.main_v16) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Scan_ScanIdeal : Prop :=
  True

def preserves_Dscan_DscanIdeal : Prop :=
  True

def Claim : Prop :=
  ∃ (hDmerge : Cert.Dmerge.Facts) (hDmergeIdeal : Cert.DmergeIdeal.Facts) (hDmergeRefIdeal : Cert.DmergeRefIdeal.Facts) (hDhid : Cert.Dhid.Facts) (hDhidIdeal : Cert.DhidIdeal.Facts) (hDhidRefIdeal : Cert.DhidRefIdeal.Facts) (hDln : Cert.Dln.Facts) (hDlnIdeal : Cert.DlnIdeal.Facts) (hDlnRefIdeal : Cert.DlnRefIdeal.Facts) (hDloss : Cert.Dloss.Facts) (hDlossIdeal : Cert.DlossIdeal.Facts) (hDlossRefIdeal : Cert.DlossRefIdeal.Facts) (hDyb : Cert.Dyb.Facts) (hDybIdeal : Cert.DybIdeal.Facts) (hDybRefIdeal : Cert.DybRefIdeal.Facts) (hDfgate : Cert.Dfgate.Facts) (hDfgateIdeal : Cert.DfgateIdeal.Facts) (hDfgateRefIdeal : Cert.DfgateRefIdeal.Facts) (hDfox : Cert.Dfox.Facts) (hDfoxIdeal : Cert.DfoxIdeal.Facts) (hDfoxRefIdeal : Cert.DfoxRefIdeal.Facts) (hMerge : Cert.Merge.Facts) (hMergeIdeal : Cert.MergeIdeal.Facts) (hMergeRefIdeal : Cert.MergeRefIdeal.Facts) (hAct : Cert.Act.Facts) (hActIdeal : Cert.ActIdeal.Facts) (hActRefIdeal : Cert.ActRefIdeal.Facts) (hLn : Cert.Ln.Facts) (hLnIdeal : Cert.LnIdeal.Facts) (hLnRefIdeal : Cert.LnRefIdeal.Facts) (hYb : Cert.Yb.Facts) (hYbIdeal : Cert.YbIdeal.Facts) (hYbRefIdeal : Cert.YbRefIdeal.Facts) (hFsum : Cert.Fsum.Facts) (hFsumIdeal : Cert.FsumIdeal.Facts) (hFsumRefIdeal : Cert.FsumRefIdeal.Facts) (hAttend : Cert.Attend.Facts) (hAttendIdeal : Cert.AttendIdeal.Facts) (hAttendRefIdeal : Cert.AttendRefIdeal.Facts) (hProduct : Cert.Product.Facts) (hProductIdeal : Cert.ProductIdeal.Facts) (hProductRefIdeal : Cert.ProductRefIdeal.Facts) (hAdam : Cert.Adam.Facts) (hAdamIdeal : Cert.AdamIdeal.Facts) (hAdamRefIdeal : Cert.AdamRefIdeal.Facts) (hScan : Cert.Scan.Facts) (hScanIdeal : Cert.ScanIdeal.Facts) (hDscan : Cert.Dscan.Facts) (hDscanIdeal : Cert.DscanIdeal.Facts) (hPre_dhid_finite : Cert.Pre_dhid_finite.Facts) (hPre_dln_finite : Cert.Pre_dln_finite.Facts) (hPre_dloss_finite : Cert.Pre_dloss_finite.Facts) (hPre_dyb_finite : Cert.Pre_dyb_finite.Facts) (hPre_dfgate_finite : Cert.Pre_dfgate_finite.Facts) (hPre_dfox_finite : Cert.Pre_dfox_finite.Facts) (hPre_fsum_finite : Cert.Pre_fsum_finite.Facts) (hPre_attend_finite : Cert.Pre_attend_finite.Facts),
    quiescent_Dmerge (hDmerge := hDmerge)
    ∧ quiescent_DmergeIdeal (hDmergeIdeal := hDmergeIdeal)
    ∧ quiescent_DmergeRefIdeal (hDmergeRefIdeal := hDmergeRefIdeal)
    ∧ quiescent_Dhid (hDhid := hDhid)
    ∧ quiescent_DhidIdeal (hDhidIdeal := hDhidIdeal)
    ∧ quiescent_DhidIdeal_pre_dhid_finite (hDhidIdeal := hDhidIdeal) (hPre_dhid_finite := hPre_dhid_finite)
    ∧ quiescent_DhidRefIdeal (hDhidRefIdeal := hDhidRefIdeal)
    ∧ quiescent_DhidRefIdeal_pre_dhid_finite (hDhidRefIdeal := hDhidRefIdeal) (hPre_dhid_finite := hPre_dhid_finite)
    ∧ quiescent_Dln (hDln := hDln)
    ∧ quiescent_DlnIdeal (hDlnIdeal := hDlnIdeal)
    ∧ quiescent_DlnIdeal_pre_dln_finite (hDlnIdeal := hDlnIdeal) (hPre_dln_finite := hPre_dln_finite)
    ∧ quiescent_DlnRefIdeal (hDlnRefIdeal := hDlnRefIdeal)
    ∧ quiescent_DlnRefIdeal_pre_dln_finite (hDlnRefIdeal := hDlnRefIdeal) (hPre_dln_finite := hPre_dln_finite)
    ∧ quiescent_Dloss (hDloss := hDloss)
    ∧ quiescent_DlossIdeal (hDlossIdeal := hDlossIdeal)
    ∧ quiescent_DlossIdeal_pre_dloss_finite (hDlossIdeal := hDlossIdeal) (hPre_dloss_finite := hPre_dloss_finite)
    ∧ quiescent_DlossRefIdeal (hDlossRefIdeal := hDlossRefIdeal)
    ∧ quiescent_DlossRefIdeal_pre_dloss_finite (hDlossRefIdeal := hDlossRefIdeal) (hPre_dloss_finite := hPre_dloss_finite)
    ∧ quiescent_Dyb (hDyb := hDyb)
    ∧ quiescent_DybIdeal (hDybIdeal := hDybIdeal)
    ∧ quiescent_DybIdeal_pre_dyb_finite (hDybIdeal := hDybIdeal) (hPre_dyb_finite := hPre_dyb_finite)
    ∧ quiescent_DybRefIdeal (hDybRefIdeal := hDybRefIdeal)
    ∧ quiescent_DybRefIdeal_pre_dyb_finite (hDybRefIdeal := hDybRefIdeal) (hPre_dyb_finite := hPre_dyb_finite)
    ∧ quiescent_Dfgate (hDfgate := hDfgate)
    ∧ quiescent_DfgateIdeal (hDfgateIdeal := hDfgateIdeal)
    ∧ quiescent_DfgateIdeal_pre_dfgate_finite (hDfgateIdeal := hDfgateIdeal) (hPre_dfgate_finite := hPre_dfgate_finite)
    ∧ quiescent_DfgateRefIdeal (hDfgateRefIdeal := hDfgateRefIdeal)
    ∧ quiescent_DfgateRefIdeal_pre_dfgate_finite (hDfgateRefIdeal := hDfgateRefIdeal) (hPre_dfgate_finite := hPre_dfgate_finite)
    ∧ quiescent_Dfox (hDfox := hDfox)
    ∧ quiescent_DfoxIdeal (hDfoxIdeal := hDfoxIdeal)
    ∧ quiescent_DfoxIdeal_pre_dfox_finite (hDfoxIdeal := hDfoxIdeal) (hPre_dfox_finite := hPre_dfox_finite)
    ∧ quiescent_DfoxRefIdeal (hDfoxRefIdeal := hDfoxRefIdeal)
    ∧ quiescent_DfoxRefIdeal_pre_dfox_finite (hDfoxRefIdeal := hDfoxRefIdeal) (hPre_dfox_finite := hPre_dfox_finite)
    ∧ quiescent_Merge (hMerge := hMerge)
    ∧ quiescent_MergeIdeal (hMergeIdeal := hMergeIdeal)
    ∧ quiescent_MergeRefIdeal (hMergeRefIdeal := hMergeRefIdeal)
    ∧ quiescent_Act (hAct := hAct)
    ∧ quiescent_ActIdeal (hActIdeal := hActIdeal)
    ∧ quiescent_ActRefIdeal (hActRefIdeal := hActRefIdeal)
    ∧ quiescent_Ln (hLn := hLn)
    ∧ quiescent_LnIdeal (hLnIdeal := hLnIdeal)
    ∧ quiescent_LnRefIdeal (hLnRefIdeal := hLnRefIdeal)
    ∧ quiescent_Yb (hYb := hYb)
    ∧ quiescent_YbIdeal (hYbIdeal := hYbIdeal)
    ∧ quiescent_YbRefIdeal (hYbRefIdeal := hYbRefIdeal)
    ∧ quiescent_Fsum (hFsum := hFsum)
    ∧ quiescent_FsumIdeal (hFsumIdeal := hFsumIdeal)
    ∧ quiescent_FsumIdeal_pre_fsum_finite (hFsumIdeal := hFsumIdeal) (hPre_fsum_finite := hPre_fsum_finite)
    ∧ quiescent_FsumRefIdeal (hFsumRefIdeal := hFsumRefIdeal)
    ∧ quiescent_FsumRefIdeal_pre_fsum_finite (hFsumRefIdeal := hFsumRefIdeal) (hPre_fsum_finite := hPre_fsum_finite)
    ∧ quiescent_Attend (hAttend := hAttend)
    ∧ quiescent_AttendIdeal (hAttendIdeal := hAttendIdeal)
    ∧ quiescent_AttendIdeal_pre_attend_finite (hAttendIdeal := hAttendIdeal) (hPre_attend_finite := hPre_attend_finite)
    ∧ quiescent_AttendRefIdeal (hAttendRefIdeal := hAttendRefIdeal)
    ∧ quiescent_AttendRefIdeal_pre_attend_finite (hAttendRefIdeal := hAttendRefIdeal) (hPre_attend_finite := hPre_attend_finite)
    ∧ quiescent_Product (hProduct := hProduct)
    ∧ quiescent_ProductIdeal (hProductIdeal := hProductIdeal)
    ∧ quiescent_ProductRefIdeal (hProductRefIdeal := hProductRefIdeal)
    ∧ quiescent_Adam (hAdam := hAdam)
    ∧ quiescent_AdamIdeal (hAdamIdeal := hAdamIdeal)
    ∧ quiescent_AdamRefIdeal (hAdamRefIdeal := hAdamRefIdeal)
    ∧ quiescent_Scan (hScan := hScan)
    ∧ quiescent_ScanIdeal (hScanIdeal := hScanIdeal)
    ∧ quiescent_Dscan (hDscan := hDscan)
    ∧ quiescent_DscanIdeal (hDscanIdeal := hDscanIdeal)
    ∧ preserves_Dmerge_DmergeIdeal
    ∧ algebraic_DmergeIdeal_DmergeRefIdeal (hDmergeIdeal := hDmergeIdeal) (hDmergeRefIdeal := hDmergeRefIdeal)
    ∧ preserves_Dhid_DhidIdeal
    ∧ algebraic_DhidIdeal_DhidRefIdeal_pre_dhid_finite (hDhidIdeal := hDhidIdeal) (hDhidRefIdeal := hDhidRefIdeal) (hPre_dhid_finite := hPre_dhid_finite)
    ∧ preserves_Dln_DlnIdeal
    ∧ algebraic_DlnIdeal_DlnRefIdeal_pre_dln_finite (hDlnIdeal := hDlnIdeal) (hDlnRefIdeal := hDlnRefIdeal) (hPre_dln_finite := hPre_dln_finite)
    ∧ preserves_Dloss_DlossIdeal
    ∧ algebraic_DlossIdeal_DlossRefIdeal_pre_dloss_finite (hDlossIdeal := hDlossIdeal) (hDlossRefIdeal := hDlossRefIdeal) (hPre_dloss_finite := hPre_dloss_finite)
    ∧ preserves_Dyb_DybIdeal
    ∧ algebraic_DybIdeal_DybRefIdeal_pre_dyb_finite (hDybIdeal := hDybIdeal) (hDybRefIdeal := hDybRefIdeal) (hPre_dyb_finite := hPre_dyb_finite)
    ∧ preserves_Dfgate_DfgateIdeal
    ∧ algebraic_DfgateIdeal_DfgateRefIdeal_pre_dfgate_finite (hDfgateIdeal := hDfgateIdeal) (hDfgateRefIdeal := hDfgateRefIdeal) (hPre_dfgate_finite := hPre_dfgate_finite)
    ∧ preserves_Dfox_DfoxIdeal
    ∧ algebraic_DfoxIdeal_DfoxRefIdeal_pre_dfox_finite (hDfoxIdeal := hDfoxIdeal) (hDfoxRefIdeal := hDfoxRefIdeal) (hPre_dfox_finite := hPre_dfox_finite)
    ∧ preserves_Merge_MergeIdeal
    ∧ algebraic_MergeIdeal_MergeRefIdeal (hMergeIdeal := hMergeIdeal) (hMergeRefIdeal := hMergeRefIdeal)
    ∧ preserves_Act_ActIdeal
    ∧ algebraic_ActIdeal_ActRefIdeal (hActIdeal := hActIdeal) (hActRefIdeal := hActRefIdeal)
    ∧ preserves_Ln_LnIdeal
    ∧ algebraic_LnIdeal_LnRefIdeal (hLnIdeal := hLnIdeal) (hLnRefIdeal := hLnRefIdeal)
    ∧ preserves_Yb_YbIdeal
    ∧ algebraic_YbIdeal_YbRefIdeal (hYbIdeal := hYbIdeal) (hYbRefIdeal := hYbRefIdeal)
    ∧ preserves_Fsum_FsumIdeal
    ∧ algebraic_FsumIdeal_FsumRefIdeal_pre_fsum_finite (hFsumIdeal := hFsumIdeal) (hFsumRefIdeal := hFsumRefIdeal) (hPre_fsum_finite := hPre_fsum_finite)
    ∧ preserves_Attend_AttendIdeal
    ∧ algebraic_AttendIdeal_AttendRefIdeal_pre_attend_finite (hAttendIdeal := hAttendIdeal) (hAttendRefIdeal := hAttendRefIdeal) (hPre_attend_finite := hPre_attend_finite)
    ∧ preserves_Product_ProductIdeal
    ∧ algebraic_ProductIdeal_ProductRefIdeal (hProductIdeal := hProductIdeal) (hProductRefIdeal := hProductRefIdeal)
    ∧ preserves_Adam_AdamIdeal
    ∧ algebraic_AdamIdeal_AdamRefIdeal (hAdamIdeal := hAdamIdeal) (hAdamRefIdeal := hAdamRefIdeal)
    ∧ preserves_Scan_ScanIdeal
    ∧ preserves_Dscan_DscanIdeal
-- ==== Pre_attend_finite.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn_part1 {F : FTy → Type} [FloatOps F] (main_v13 : IVec S_ 1) (main_v16 : IVec S16384x8 1) : IVec S_ 1 :=
  let main_c_5 : IVec S_ 1 := constantI S_ 1 1#1
  let main_v17 : IVec S_ 1 := (fun x v => Host.reduce IntOp.andi x v reducesTo_S16384x8_S_d0_1 h_S_) main_v16 main_c_5
  let main_v18 : IVec S_ 1 := andi main_v13 main_v17
  main_v18

def fn {F : FTy → Type} [FloatOps F] (main_arg0 : FVec F S16384x512 .f32) (main_arg1 : FVec F S16384x512 .f32) (main_arg2 : FVec F S16384x512 .f32) (main_arg3 : FVec F S16384x8 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x8 .f32 := Host.absf main_arg3
  let main_cst_4 : FVec F S_ .f32 := constant S_ .f32 0x7F800000#32
  let main_v15 : FVec F S16384x8 .f32 := broadcastInDim S16384x8 ![] bcast_S_S16384x8 main_cst_4
  let main_v16 : IVec S16384x8 1 := cmpf .olt main_v14 main_v15
  fn_part1 (F := F) main_v13 main_v16
-- ==== Pre_dfgate_finite.lean ====
abbrev S16384x5640 : Shape := ⟨2, ![16384, 5640]⟩
abbrev S8 : Shape := ⟨1, ![8]⟩
abbrev S16384x8 : Shape := ⟨2, ![16384, 8]⟩
abbrev S_ : Shape := ⟨0, ![]⟩

class Facts : Prop where
  bcast_S_S16384x5640 : S_.BroadcastsInDim S16384x5640 (![] : Fin 0 → Fin S16384x5640.rank)
  reducesTo_S16384x5640_S_d0_1 : S16384x5640.ReducesTo [0, 1] S_
  h_S_ : 0 < S_.numel
  bcast_S_S8 : S_.BroadcastsInDim S8 (![] : Fin 0 → Fin S8.rank)
  reducesTo_S8_S_d0 : S8.ReducesTo [0] S_
  bcast_S_S16384x8 : S_.BroadcastsInDim S16384x8 (![] : Fin 0 → Fin S16384x8.rank)
  reducesTo_S16384x8_S_d0_1 : S16384x8.ReducesTo [0, 1] S_

variable [Facts]

def fn_part1 {F : FTy → Type} [FloatOps F] (main_v13 : IVec S_ 1) (main_v16 : IVec S16384x8 1) : IVec S_ 1 :=
  let main_c_5 : IVec S_ 1 := constantI S_ 1 1#1
  let main_v17 : IVec S_ 1 := (fun x v => Host.reduce IntOp.andi x v reducesTo_S16384x8_S_d0_1 h_S_) main_v16 main_c_5
  let main_v18 : IVec S_ 1 := andi main_v13 main_v17
  main_v18

def fn {F : FTy → Type} [FloatOps F] (main_arg0 : FVec F S16384x5640 .f32) (main_arg1 : FVec F S8 .f32) (main_arg2 : FVec F S16384x8 .f32) (main_arg3 : FVec F S16384x8 .f32) : IVec S_ 1 :=
  let main_v0 : FVec F S16384x5640 .f32 := Host.absf main_arg0
  let main_cst : FVec F S_ .f32 := constant S_ .f32 0x7F800000#32
  let main_v1 : FVec F S16384x5640 .f32 := broadcastInDim S16384x5640 ![] bcast_S_S16384x5640 main_cst
  let main_v2 : IVec S16384x5640 1 := cmpf .olt main_v0 main_v1
  let main_c : IVec S_ 1 := constantI S_ 1 1#1
  let main_v3 : IVec S_ 1 := (fun x v => Host.reduce IntOp.andi x v reducesTo_S16384x5640_S_d0_1 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S16384x8 .f32 := Host.absf main_arg2
  let main_cst_2 : FVec F S_ .f32 := constant S_ .f32 0x7F800000#32
  let main_v10 : FVec F S16384x8 .f32 := broadcastInDim S16384x8 ![] bcast_S_S16384x8 main_cst_2
  let main_v11 : IVec S16384x8 1 := cmpf .olt main_v9 main_v10
  let main_c_3 : IVec S_ 1 := constantI S_ 1 1#1
  let main_v12 : IVec S_ 1 := (fun x v => Host.reduce IntOp.andi x v reducesTo_S16384x8_S_d0_1 h_S_) main_v11 main_c_3
  let main_v13 : IVec S_ 1 := andi main_v8 main_v12
  let main_v14 : FVec F S16384x8 .f32 := Host.absf main_arg3
  let main_cst_4 : FVec F S_ .f32 := constant S_ .f32 0x7F800000#32
  let main_v15 : FVec F S16384x8 .f32 := broadcastInDim S16384x8 ![] bcast_S_S16384x8 main_cst_4
  let main_v16 : IVec S16384x8 1 := cmpf .olt main_v14 main_v15
  fn_part1 (F := F) main_v13 main_v16
-- ==== Pre_dfox_finite.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn_part1 {F : FTy → Type} [FloatOps F] (main_arg4 : FVec F S16384x512 .f32) (main_v13 : IVec S_ 1) (main_v16 : IVec S16384x8 1) : IVec S_ 1 :=
  let main_c_5 : IVec S_ 1 := constantI S_ 1 1#1
  let main_v17 : IVec S_ 1 := (fun x v => Host.reduce IntOp.andi x v reducesTo_S16384x8_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  main_v23

def fn {F : FTy → Type} [FloatOps F] (main_arg0 : FVec F S16384x512 .f32) (main_arg1 : FVec F S16384x512 .f32) (main_arg2 : FVec F S16384x512 .f32) (main_arg3 : FVec F S16384x8 .f32) (main_arg4 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x8 .f32 := Host.absf main_arg3
  let main_cst_4 : FVec F S_ .f32 := constant S_ .f32 0x7F800000#32
  let main_v15 : FVec F S16384x8 .f32 := broadcastInDim S16384x8 ![] bcast_S_S16384x8 main_cst_4
  let main_v16 : IVec S16384x8 1 := cmpf .olt main_v14 main_v15
  fn_part1 (F := F) main_arg4 main_v13 main_v16
-- ==== Pre_dhid_finite.lean ====
abbrev S16384x5632 : Shape := ⟨2, ![16384, 5632]⟩
abbrev S16384x2816 : Shape := ⟨2, ![16384, 2816]⟩
abbrev S_ : Shape := ⟨0, ![]⟩

class Facts : Prop where
  bcast_S_S16384x5632 : S_.BroadcastsInDim S16384x5632 (![] : Fin 0 → Fin S16384x5632.rank)
  reducesTo_S16384x5632_S_d0_1 : S16384x5632.ReducesTo [0, 1] S_
  h_S_ : 0 < S_.numel
  bcast_S_S16384x2816 : S_.BroadcastsInDim S16384x2816 (![] : Fin 0 → Fin S16384x2816.rank)
  reducesTo_S16384x2816_S_d0_1 : S16384x2816.ReducesTo [0, 1] S_

variable [Facts]

def fn {F : FTy → Type} [FloatOps F] (main_arg0 : FVec F S16384x5632 .f32) (main_arg1 : FVec F S16384x2816 .f32) : IVec S_ 1 :=
  let main_v0 : FVec F S16384x5632 .f32 := Host.absf main_arg0
  let main_cst : FVec F S_ .f32 := constant S_ .f32 0x7F800000#32
  let main_v1 : FVec F S16384x5632 .f32 := broadcastInDim S16384x5632 ![] bcast_S_S16384x5632 main_cst
  let main_v2 : IVec S16384x5632 1 := cmpf .olt main_v0 main_v1
  let main_c : IVec S_ 1 := constantI S_ 1 1#1
  let main_v3 : IVec S_ 1 := (fun x v => Host.reduce IntOp.andi x v reducesTo_S16384x5632_S_d0_1 h_S_) main_v2 main_c
  let main_v4 : FVec F S16384x2816 .f32 := Host.absf main_arg1
  let main_cst_0 : FVec F S_ .f32 := constant S_ .f32 0x7F800000#32
  let main_v5 : FVec F S16384x2816 .f32 := broadcastInDim S16384x2816 ![] bcast_S_S16384x2816 main_cst_0
  let main_v6 : IVec S16384x2816 1 := cmpf .olt main_v4 main_v5
  let main_c_1 : IVec S_ 1 := constantI S_ 1 1#1
  let main_v7 : IVec S_ 1 := (fun x v => Host.reduce IntOp.andi x v reducesTo_S16384x2816_S_d0_1 h_S_) main_v6 main_c_1
  let main_v8 : IVec S_ 1 := andi main_v3 main_v7
  main_v8
-- ==== Pre_dln_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16384x1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S1024 .f32) (main_arg3 : FVec F S16384x1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_v13 main_v16
-- ==== Pre_dloss_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16384x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S1024 .f32) (main_arg3 : FVec F S1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_dyb_finite.lean ====
abbrev S16384x5640 : Shape := ⟨2, ![16384, 5640]⟩
abbrev S16384x512 : Shape := ⟨2, ![16384, 512]⟩
abbrev S128 : Shape := ⟨1, ![128]⟩
abbrev S_ : Shape := ⟨0, ![]⟩

class Facts : Prop where
  bcast_S_S16384x5640 : S_.BroadcastsInDim S16384x5640 (![] : Fin 0 → Fin S16384x5640.rank)
  reducesTo_S16384x5640_S_d0_1 : S16384x5640.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x5640 .f32) (main_arg1 : FVec F S16384x512 .f32) (main_arg2 : FVec F S128 .f32) (main_arg3 : FVec F S16384x512 .f32) : IVec S_ 1 :=
  let main_v0 : FVec F S16384x5640 .f32 := Host.absf main_arg0
  let main_cst : FVec F S_ .f32 := constant S_ .f32 0x7F800000#32
  let main_v1 : FVec F S16384x5640 .f32 := broadcastInDim S16384x5640 ![] bcast_S_S16384x5640 main_cst
  let main_v2 : IVec S16384x5640 1 := cmpf .olt main_v0 main_v1
  let main_c : IVec S_ 1 := constantI S_ 1 1#1
  let main_v3 : IVec S_ 1 := (fun x v => Host.reduce IntOp.andi x v reducesTo_S16384x5640_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Pre_fsum_finite.lean ====
abbrev S16384x5640 : Shape := ⟨2, ![16384, 5640]⟩
abbrev S8 : Shape := ⟨1, ![8]⟩
abbrev S_ : Shape := ⟨0, ![]⟩

class Facts : Prop where
  bcast_S_S16384x5640 : S_.BroadcastsInDim S16384x5640 (![] : Fin 0 → Fin S16384x5640.rank)
  reducesTo_S16384x5640_S_d0_1 : S16384x5640.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S16384x5640 .f32) (main_arg1 : FVec F S8 .f32) : IVec S_ 1 :=
  let main_v0 : FVec F S16384x5640 .f32 := Host.absf main_arg0
  let main_cst : FVec F S_ .f32 := constant S_ .f32 0x7F800000#32
  let main_v1 : FVec F S16384x5640 .f32 := broadcastInDim S16384x5640 ![] bcast_S_S16384x5640 main_cst
  let main_v2 : IVec S16384x5640 1 := cmpf .olt main_v0 main_v1
  let main_c : IVec S_ 1 := constantI S_ 1 1#1
  let main_v3 : IVec S_ 1 := (fun x v => Host.reduce IntOp.andi x v reducesTo_S16384x5640_S_d0_1 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Dmerge.lean ====
abbrev S16384x5640 : Shape := ⟨2, ![16384, 5640]⟩
abbrev S16384x1024 : Shape := ⟨2, ![16384, 1024]⟩
abbrev S16384x1536 : Shape := ⟨2, ![16384, 1536]⟩
abbrev S16384x2048 : Shape := ⟨2, ![16384, 2048]⟩
abbrev S16384x8 : Shape := ⟨2, ![16384, 8]⟩
abbrev S_ : Shape := ⟨0, ![]⟩
abbrev S16384x120 : Shape := ⟨2, ![16384, 120]⟩
abbrev S16384x5760 : Shape := ⟨2, ![16384, 5760]⟩
abbrev S16384x4224 : Shape := ⟨2, ![16384, 4224]⟩
abbrev S512x1024 : Shape := ⟨2, ![512, 1024]⟩

abbrev nBuf : Space → Nat
  | .hbm => 16
  | .vmem => 18
  | .smem => 0
  | _ => 0

abbrev bufTy : (tb : Table) → Fin (tcTables nBuf tb) → BufTy
  | .hbm, ⟨0, _⟩ => ⟨S16384x5640, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1536, .f32⟩
  | .hbm, ⟨5, _⟩ => ⟨S16384x2048, .f32⟩
  | .hbm, ⟨6, _⟩ => ⟨S16384x2048, .f32⟩
  | .hbm, ⟨7, _⟩ => ⟨S16384x8, .f32⟩
  | .hbm, ⟨8, _⟩ => ⟨S_, .f32⟩
  | .hbm, ⟨9, _⟩ => ⟨S16384x120, .f32⟩
  | .hbm, ⟨10, _⟩ => ⟨S16384x5760, .f32⟩
  | .hbm, ⟨11, _⟩ => ⟨S16384x4224, .f32⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S16384x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DmergeRefIdeal.lean ====
abbrev S16384x5640 : Shape := ⟨2, ![16384, 5640]⟩
abbrev S16384x1024 : Shape := ⟨2, ![16384, 1024]⟩
abbrev S16384x512 : Shape := ⟨2, ![16384, 512]⟩
abbrev S16384x8 : Shape := ⟨2, ![16384, 8]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x5640, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x8, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .bf16⟩
  | .hbm, ⟨50, _⟩ => ⟨S16384x1024, .bf16⟩
  | .hbm, ⟨51, _⟩ => ⟨S16384x1024, .bf16⟩
  | .hbm, ⟨52, _⟩ => ⟨S16384x1024, .bf16⟩
  | _, _ => ⟨S16384x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Dhid.lean ====
abbrev S16384x5632 : Shape := ⟨2, ![16384, 5632]⟩
abbrev S16384x2816 : Shape := ⟨2, ![16384, 2816]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S16384x5632, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x5632, .bf16⟩
  | .local _ .vmem, ⟨7, _⟩ => ⟨S256x5632, .bf16⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DhidRefIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x5632, .f32⟩
  | .hbm, ⟨25, _⟩ => ⟨S16384x5632, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Dln.lean ====
abbrev S16384x1024 : Shape := ⟨2, ![16384, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | .local _ .vmem, ⟨14, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DlnRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S16384x1, .f32⟩
  | .hbm, ⟨75, _⟩ => ⟨S16384x1024, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S16384x1024, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384, .f32⟩
  | .hbm, ⟨97, _⟩ => ⟨S16384x1024, .f32⟩
  | .hbm, ⟨98, _⟩ => ⟨S16384x1024, .f32⟩
  | .hbm, ⟨99, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_cst_17 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_v68 : Ref sig .tc := ⟨.hbm, 94, rfl⟩
abbrev main_cst_20 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Dloss.lean ====
abbrev S16384x1024 : Shape := ⟨2, ![16384, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 20
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1024, .f32⟩
  | .hbm, ⟨18, _⟩ => ⟨S_, .f32⟩
  | .hbm, ⟨19, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DlossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S16384x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S16384x1, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384, .f32⟩
  | .hbm, ⟨102, _⟩ => ⟨S16384x1, .f32⟩
  | .hbm, ⟨103, _⟩ => ⟨S16384x1024, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384, .f32⟩
  | .hbm, ⟨110, _⟩ => ⟨S16384x1024, .f32⟩
  | .hbm, ⟨111, _⟩ => ⟨S16384x1024, .f32⟩
  | .hbm, ⟨112, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_18 : Ref sig .tc := ⟨.hbm, 79, rfl⟩
abbrev main_v55 : Ref sig .tc := ⟨.hbm, 80, rfl⟩
abbrev main_v56 : Ref sig .tc := ⟨.hbm, 81, rfl⟩
abbrev main_cst_19 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_v64 : Ref sig .tc := ⟨.hbm, 91, rfl⟩
abbrev main_cst_21 : Ref sig .tc := ⟨.hbm, 92, rfl⟩
abbrev main_v65 : Ref sig .tc := ⟨.hbm, 93, rfl⟩
abbrev main_v66 : Ref sig .tc := ⟨.hbm, 94, rfl⟩
abbrev main_cst_22 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_24 : Ref sig .tc := ⟨.hbm, 105, rfl⟩
abbrev main_v75 : Ref sig .tc := ⟨.hbm, 106, rfl⟩
abbrev main_v76 : Ref sig .tc := ⟨.hbm, 107, rfl⟩
abbrev main_cst_25 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩

abbrev nD : Nat := 1
abbrev τ : Topo := Topo.v7x

variable {F : FTy → Type} [FloatOps F]
-- ==== Dyb.lean ====
abbrev S16384x5640 : Shape := ⟨2, ![16384, 5640]⟩
abbrev S16384x512 : Shape := ⟨2, ![16384, 512]⟩
abbrev S128 : Shape := ⟨1, ![128]⟩
abbrev S16384x1536 : Shape := ⟨2, ![16384, 1536]⟩
abbrev S16384x2048 : Shape := ⟨2, ![16384, 2048]⟩
abbrev S16384x8 : Shape := ⟨2, ![16384, 8]⟩
abbrev S_ : Shape := ⟨0, ![]⟩
abbrev S16384x120 : Shape := ⟨2, ![16384, 120]⟩
abbrev S16384x5760 : Shape := ⟨2, ![16384, 5760]⟩
abbrev S16384x4224 : Shape := ⟨2, ![16384, 4224]⟩
abbrev S1x128 : Shape := ⟨2, ![1, 128]⟩
abbrev S8x128 : Shape := ⟨2, ![8, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S64x8x128 : Shape := ⟨3, ![64, 8, 128]⟩

abbrev nBuf : Space → Nat
  | .hbm => 18
  | .vmem => 12
  | .smem => 0
  | _ => 0

abbrev bufTy : (tb : Table) → Fin (tcTables nBuf tb) → BufTy
  | .hbm, ⟨0, _⟩ => ⟨S16384x5640, .f32⟩
  | .hbm, ⟨1, _⟩ => ⟨S16384x512, .f32⟩
  | .hbm, ⟨2, _⟩ => ⟨S128, .f32⟩
  | .hbm, ⟨3, _⟩ => ⟨S16384x512, .f32⟩
  | .hbm, ⟨4, _⟩ => ⟨S16384x1536, .f32⟩
  | .hbm, ⟨5, _⟩ => ⟨S16384x2048, .f32⟩
  | .hbm, ⟨6, _⟩ => ⟨S16384x2048, .f32⟩
  | .hbm, ⟨7, _⟩ => ⟨S16384x8, .f32⟩
  | .hbm, ⟨8, _⟩ => ⟨S_, .f32⟩
  | .hbm, ⟨9, _⟩ => ⟨S16384x120, .f32⟩
  | .hbm, ⟨10, _⟩ => ⟨S16384x5760, .f32⟩
  | .hbm, ⟨11, _⟩ => ⟨S16384x4224, .f32⟩
  | .hbm, ⟨12, _⟩ => ⟨S1x128, .f32⟩
  | .hbm, ⟨13, _⟩ => ⟨S16384x512, .f32⟩
  | .hbm, ⟨14, _⟩ => ⟨S16384x512, .bf16⟩
  | .hbm, ⟨15, _⟩ => ⟨S8x128, .f32⟩
  | .hbm, ⟨16, _⟩ => ⟨S_, .f32⟩
  | .hbm, ⟨17, _⟩ => ⟨S128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S8x128, .f32⟩
  | _, _ => ⟨S16384x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_cst_0 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DybRefIdeal.lean ====
abbrev S16384x5640 : Shape := ⟨2, ![16384, 5640]⟩
abbrev S16384x512 : Shape := ⟨2, ![16384, 512]⟩
abbrev S128 : Shape := ⟨1, ![128]⟩
abbrev S16384x8 : Shape := ⟨2, ![16384, 8]⟩
abbrev S16384x1024 : Shape := ⟨2, ![16384, 1024]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S16384x5640, .f32⟩
  | .hbm, ⟨1, _⟩ => ⟨S16384x512, .f32⟩
  | .hbm, ⟨2, _⟩ => ⟨S128, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x8, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S16384x1024, .f32⟩
  | .hbm, ⟨14, _⟩ => ⟨S16384x4x128, .f32⟩
  | .hbm, ⟨15, _⟩ => ⟨S16384x4x128, .f32⟩
  | .hbm, ⟨16, _⟩ => ⟨S_, .f32⟩
  | .hbm, ⟨17, _⟩ => ⟨S16384x4x128, .f32⟩
  | .hbm, ⟨18, _⟩ => ⟨S16384x4x128, .f32⟩
  | .hbm, ⟨19, _⟩ => ⟨S_, .f32⟩
  | .hbm, ⟨20, _⟩ => ⟨S16384x4, .f32⟩
  | .hbm, ⟨21, _⟩ => ⟨S16384x4x1, .f32⟩
  | .hbm, ⟨22, _⟩ => ⟨S_, .f32⟩
  | .hbm, ⟨23, _⟩ => ⟨S16384x4x1, .f32⟩
  | .hbm, ⟨24, _⟩ => ⟨S16384x4x1, .f32⟩
  | .hbm, ⟨25, _⟩ => ⟨S_, .f32⟩
  | .hbm, ⟨26, _⟩ => ⟨S16384x4x1, .f32⟩
  | .hbm, ⟨27, _⟩ => ⟨S16384x4x1, .f32⟩
  | .hbm, ⟨28, _⟩ => ⟨S16384x4x1, .f32⟩
  | .hbm, ⟨29, _⟩ => ⟨S16384x4x1, .f32⟩
  | .hbm, ⟨30, _⟩ => ⟨S_, .f32⟩
  | .hbm, ⟨31, _⟩ => ⟨S16384x4x1, .f32⟩
  | .hbm, ⟨32, _⟩ => ⟨S16384x4x1, .f32⟩
  | .hbm, ⟨33, _⟩ => ⟨S16384x4x128, .f32⟩
  | .hbm, ⟨34, _⟩ => ⟨S16384x4x128, .f32⟩
  | .hbm, ⟨35, _⟩ => ⟨S1x1x128, .f32⟩
  | .hbm, ⟨36, _⟩ => ⟨S16384x4x128, .f32⟩
  | .hbm, ⟨37, _⟩ => ⟨S16384x4x128, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x4x128, .f32⟩
  | .hbm, ⟨56, _⟩ => ⟨S16384x4x128, .f32⟩
  | .hbm, ⟨57, _⟩ => ⟨S_, .f32⟩
  | .hbm, ⟨58, _⟩ => ⟨S128, .f32⟩
  | .hbm, ⟨59, _⟩ => ⟨S1x1x128, .f32⟩
  | .hbm, ⟨60, _⟩ => ⟨S16384x4x128, .f32⟩
  | .hbm, ⟨61, _⟩ => ⟨S16384x4x128, .f32⟩
  | .hbm, ⟨62, _⟩ => ⟨S_, .f32⟩
  | .hbm, ⟨63, _⟩ => ⟨S128, .f32⟩
  | .hbm, ⟨64, _⟩ => ⟨S16384x4x128, .f32⟩
  | .hbm, ⟨65, _⟩ => ⟨S_, .f32⟩
  | .hbm, ⟨66, _⟩ => ⟨S16384x4, .f32⟩
  | .hbm, ⟨67, _⟩ => ⟨S16384x4x1, .f32⟩
  | .hbm, ⟨68, _⟩ => ⟨S16384x4x128, .f32⟩
  | .hbm, ⟨69, _⟩ => ⟨S16384x4x128, .f32⟩
  | .hbm, ⟨70, _⟩ => ⟨S16384x4x1, .f32⟩
  | .hbm, ⟨71, _⟩ => ⟨S_, .f32⟩
  | .hbm, ⟨72, _⟩ => ⟨S16384x4x1, .f32⟩
  | .hbm, ⟨73, _⟩ => ⟨S16384x4x1, .f32⟩
  | .hbm, ⟨74, _⟩ => ⟨S_, .f32⟩
  | .hbm, ⟨75, _⟩ => ⟨S16384x4, .f32⟩
  | .hbm, ⟨76, _⟩ => ⟨S16384x4x128, .f32⟩
  | .hbm, ⟨77, _⟩ => ⟨S16384x4x128, .f32⟩
  | .hbm, ⟨78, _⟩ => ⟨S16384x4x128, .f32⟩
  | .hbm, ⟨79, _⟩ => ⟨S16384x512, .f32⟩
  | .hbm, ⟨80, _⟩ => ⟨S16384x512, .bf16⟩
  | _, _ => ⟨S16384x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Dfgate.lean ====
abbrev S16384x5640 : Shape := ⟨2, ![16384, 5640]⟩
abbrev S8 : Shape := ⟨1, ![8]⟩
abbrev S16384x8 : Shape := ⟨2, ![16384, 8]⟩
abbrev S16384x1536 : Shape := ⟨2, ![16384, 1536]⟩
abbrev S16384x2048 : Shape := ⟨2, ![16384, 2048]⟩
abbrev S_ : Shape := ⟨0, ![]⟩
abbrev S16384x120 : Shape := ⟨2, ![16384, 120]⟩
abbrev S16384x5760 : Shape := ⟨2, ![16384, 5760]⟩
abbrev S16384x4224 : Shape := ⟨2, ![16384, 4224]⟩
abbrev S128 : Shape := ⟨1, ![128]⟩
abbrev S1x128 : Shape := ⟨2, ![1, 128]⟩
abbrev S16384x128 : Shape := ⟨2, ![16384, 128]⟩
abbrev S16384x4x2 : Shape := ⟨3, ![16384, 4, 2]⟩
abbrev S4x16384x2 : Shape := ⟨3, ![4, 16384, 2]⟩
abbrev S4x16384x128 : Shape := ⟨3, ![4, 16384, 128]⟩
abbrev S8x128 : Shape := ⟨2, ![8, 128]⟩
abbrev S256x128 : Shape := ⟨2, ![256, 128]⟩
abbrev S4x256x128 : Shape := ⟨3, ![4, 256, 128]⟩
abbrev S1x256x128 : Shape := ⟨3, ![1, 256, 128]⟩
abbrev S256x256 : Shape := ⟨2, ![256, 256]⟩
abbrev S256x384 : Shape := ⟨2, ![256, 384]⟩
abbrev S32x8x128 : Shape := ⟨3, ![32, 8, 128]⟩

abbrev nBuf : Space → Nat
  | .hbm => 30
  | .vmem => 11
  | .smem => 0
  | _ => 0

abbrev bufTy : (tb : Table) → Fin (tcTables nBuf tb) → BufTy
  | .hbm, ⟨0, _⟩ => ⟨S16384x5640, .f32⟩
  | .hbm, ⟨1, _⟩ => ⟨S8, .f32⟩
  | .hbm, ⟨2, _⟩ => ⟨S16384x8, .f32⟩
  | .hbm, ⟨3, _⟩ => ⟨S16384x8, .f32⟩
  | .hbm, ⟨4, _⟩ => ⟨S16384x1536, .f32⟩
  | .hbm, ⟨5, _⟩ => ⟨S16384x2048, .f32⟩
  | .hbm, ⟨6, _⟩ => ⟨S16384x2048, .f32⟩
  | .hbm, ⟨7, _⟩ => ⟨S16384x8, .f32⟩
  | .hbm, ⟨8, _⟩ => ⟨S_, .f32⟩
  | .hbm, ⟨9, _⟩ => ⟨S16384x120, .f32⟩
  | .hbm, ⟨10, _⟩ => ⟨S16384x5760, .f32⟩
  | .hbm, ⟨11, _⟩ => ⟨S16384x4224, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S16384x128, .f32⟩
  | .hbm, ⟨19, _⟩ => ⟨S16384x4x2, .f32⟩
  | .hbm, ⟨20, _⟩ => ⟨S4x16384x2, .f32⟩
  | .hbm, ⟨21, _⟩ => ⟨S_, .i32⟩
  | .hbm, ⟨22, _⟩ => ⟨S_, .f32⟩
  | .hbm, ⟨23, _⟩ => ⟨S4x16384x128, .f32⟩
  | .hbm, ⟨24, _⟩ => ⟨S16384x128, .bf16⟩
  | .hbm, ⟨25, _⟩ => ⟨S8x128, .f32⟩
  | .hbm, ⟨26, _⟩ => ⟨S16384x8, .bf16⟩
  | .hbm, ⟨27, _⟩ => ⟨S_, .f32⟩
  | .hbm, ⟨28, _⟩ => ⟨S128, .f32⟩
  | .hbm, ⟨29, _⟩ => ⟨S8, .f32⟩
  | .local _ .vmem, ⟨0, _⟩ => ⟨S256x128, .f32⟩
  | .local _ .vmem, ⟨1, _⟩ => ⟨S256x128, .f32⟩
  | .local _ .vmem, ⟨2, _⟩ => ⟨S4x256x128, .f32⟩
  | .local _ .vmem, ⟨3, _⟩ => ⟨S4x256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x128, .bf16⟩
  | .local _ .vmem, ⟨8, _⟩ => ⟨S256x128, .bf16⟩
  | .local _ .vmem, ⟨9, _⟩ => ⟨S8x128, .f32⟩
  | .local _ .vmem, ⟨10, _⟩ => ⟨S1x128, .f32⟩
  | _, _ => ⟨S16384x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c32_i32 : BitVec 32 := 32#32
  let c0_i32 : BitVec 32 := 0#32
  ![v0.toNat, c32_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DfgateRefIdeal.lean ====
abbrev S16384x5640 : Shape := ⟨2, ![16384, 5640]⟩
abbrev S8 : Shape := ⟨1, ![8]⟩
abbrev S16384x8 : Shape := ⟨2, ![16384, 8]⟩
abbrev S16384x512 : Shape := ⟨2, ![16384, 512]⟩
abbrev S16384x1024 : Shape := ⟨2, ![16384, 1024]⟩
abbrev S1x8 : Shape := ⟨2, ![1, 8]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S16384x5640, .f32⟩
  | .hbm, ⟨1, _⟩ => ⟨S8, .f32⟩
  | .hbm, ⟨2, _⟩ => ⟨S16384x8, .f32⟩
  | .hbm, ⟨3, _⟩ => ⟨S16384x8, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x8, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S16384x1024, .f32⟩
  | .hbm, ⟨14, _⟩ => ⟨S1x8, .f32⟩
  | .hbm, ⟨15, _⟩ => ⟨S16384x8, .f32⟩
  | .hbm, ⟨16, _⟩ => ⟨S16384x8, .f32⟩
  | .hbm, ⟨17, _⟩ => ⟨S16384x8, .f32⟩
  | .hbm, ⟨18, _⟩ => ⟨S_, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S16384x8, .i1⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S16384x8, .f32⟩
  | .hbm, ⟨28, _⟩ => ⟨S16384x8, .f32⟩
  | .hbm, ⟨29, _⟩ => ⟨S16384x8, .f32⟩
  | .hbm, ⟨30, _⟩ => ⟨S16384x8, .f32⟩
  | .hbm, ⟨31, _⟩ => ⟨S16384x8, .f32⟩
  | .hbm, ⟨32, _⟩ => ⟨S_, .f32⟩
  | .hbm, ⟨33, _⟩ => ⟨S16384x8, .f32⟩
  | .hbm, ⟨34, _⟩ => ⟨S16384x8, .i1⟩
  | .hbm, ⟨35, _⟩ => ⟨S_, .f32⟩
  | .hbm, ⟨36, _⟩ => ⟨S16384x8, .f32⟩
  | .hbm, ⟨37, _⟩ => ⟨S16384x8, .f32⟩
  | .hbm, ⟨38, _⟩ => ⟨S_, .f32⟩
  | .hbm, ⟨39, _⟩ => ⟨S16384x8, .f32⟩
  | .hbm, ⟨40, _⟩ => ⟨S16384x8, .i1⟩
  | .hbm, ⟨41, _⟩ => ⟨S_, .f32⟩
  | .hbm, ⟨42, _⟩ => ⟨S16384x8, .f32⟩
  | .hbm, ⟨43, _⟩ => ⟨S16384x8, .f32⟩
  | .hbm, ⟨44, _⟩ => ⟨S16384x8, .f32⟩
  | .hbm, ⟨45, _⟩ => ⟨S16384x8, .f32⟩
  | .hbm, ⟨46, _⟩ => ⟨S_, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16384x8, .f32⟩
  | .hbm, ⟨54, _⟩ => ⟨S16384x8, .i1⟩
  | .hbm, ⟨55, _⟩ => ⟨S_, .f32⟩
  | .hbm, ⟨56, _⟩ => ⟨S16384x8, .f32⟩
  | .hbm, ⟨57, _⟩ => ⟨S16384x8, .f32⟩
  | .hbm, ⟨58, _⟩ => ⟨S16384x8, .f32⟩
  | .hbm, ⟨59, _⟩ => ⟨S16384x8, .f32⟩
  | .hbm, ⟨60, _⟩ => ⟨S16384x8, .f32⟩
  | .hbm, ⟨61, _⟩ => ⟨S_, .f32⟩
  | .hbm, ⟨62, _⟩ => ⟨S16384x8, .f32⟩
  | .hbm, ⟨63, _⟩ => ⟨S16384x8, .f32⟩
  | .hbm, ⟨64, _⟩ => ⟨S16384x8, .f32⟩
  | .hbm, ⟨65, _⟩ => ⟨S_, .f32⟩
  | .hbm, ⟨66, _⟩ => ⟨S_, .f32⟩
  | .hbm, ⟨67, _⟩ => ⟨S16384x8, .f32⟩
  | .hbm, ⟨68, _⟩ => ⟨S16384x8, .f32⟩
  | .hbm, ⟨69, _⟩ => ⟨S_, .f32⟩
  | .hbm, ⟨70, _⟩ => ⟨S_, .f32⟩
  | .hbm, ⟨71, _⟩ => ⟨S16384x8, .f32⟩
  | .hbm, ⟨72, _⟩ => ⟨S16384x8, .f32⟩
  | .hbm, ⟨73, _⟩ => ⟨S16384x8, .f32⟩
  | .hbm, ⟨74, _⟩ => ⟨S16384x8, .f32⟩
  | .hbm, ⟨75, _⟩ => ⟨S_, .f32⟩
  | .hbm, ⟨76, _⟩ => ⟨S8, .f32⟩
  | .hbm, ⟨77, _⟩ => ⟨S1x8, .f32⟩
  | .hbm, ⟨78, _⟩ => ⟨S_, .f32⟩
  | .hbm, ⟨79, _⟩ => ⟨S8, .f32⟩
  | .hbm, ⟨80, _⟩ => ⟨S16384x8, .bf16⟩
  | _, _ => ⟨S16384x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1_0 : Ref sig .tc := ⟨.hbm, 31, rfl⟩
abbrev main_call0_call0_cst_0 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst_1 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_cst_2 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_cst_3 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_v13_1 : Ref sig .tc := ⟨.hbm, 45, rfl⟩
abbrev main_call0_call0_cst_4 : Ref sig .tc := ⟨.hbm, 46, rfl⟩
abbrev main_call0_call0_cst_5 : Ref sig .tc := ⟨.hbm, 47, rfl⟩
abbrev main_call0_call0_v23 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v24 : Ref sig .tc := ⟨.hbm, 51, rfl⟩
abbrev main_call0_call0_cst_8 : Ref sig .tc := ⟨.hbm, 52, rfl⟩
abbrev main_call0_call0_v25 : Ref sig .tc := ⟨.hbm, 53, rfl⟩
abbrev main_call0_call0_v26 : Ref sig .tc := ⟨.hbm, 54, rfl⟩
abbrev main_call0_call0_cst_9 : Ref sig .tc := ⟨.hbm, 55, rfl⟩
abbrev main_call0_call0_v27 : Ref sig .tc := ⟨.hbm, 56, rfl⟩
abbrev main_call0_call0_v28 : Ref sig .tc := ⟨.hbm, 57, rfl⟩
abbrev main_call0_call0_v29 : Ref sig .tc := ⟨.hbm, 58, rfl⟩
abbrev main_call0_call0_v30 : Ref sig .tc := ⟨.hbm, 59, rfl⟩
abbrev main_call0_call0_v31 : Ref sig .tc := ⟨.hbm, 60, rfl⟩
abbrev main_call0_call0_cst_10 : Ref sig .tc := ⟨.hbm, 61, rfl⟩
abbrev main_call0_call0_v32 : Ref sig .tc := ⟨.hbm, 62, rfl⟩
abbrev main_v13_2 : Ref sig .tc := ⟨.hbm, 63, rfl⟩
abbrev main_v13_0 : Ref sig .tc := ⟨.hbm, 64, rfl⟩
abbrev main_call1_call0_cst : Ref sig .tc := ⟨.hbm, 65, rfl⟩
abbrev main_call1_call0_v0 : Ref sig .tc := ⟨.hbm, 66, rfl⟩
abbrev main_v14 : Ref sig .tc := ⟨.hbm, 67, rfl⟩
abbrev main_v15 : Ref sig .tc := ⟨.hbm, 68, rfl⟩
abbrev main_call2_call0_cst : Ref sig .tc := ⟨.hbm, 69, rfl⟩
abbrev main_call2_call0_v0 : Ref sig .tc := ⟨.hbm, 70, rfl⟩
abbrev main_v16 : Ref sig .tc := ⟨.hbm, 71, rfl⟩
abbrev main_call3_v0 : Ref sig .tc := ⟨.hbm, 72, rfl⟩
abbrev main_call3_v1 : Ref sig .tc := ⟨.hbm, 73, rfl⟩
abbrev main_v17 : Ref sig .tc := ⟨.hbm, 74, rfl⟩
abbrev main_cst : Ref sig .tc := ⟨.hbm, 75, rfl⟩
abbrev main_v18 : Ref sig .tc := ⟨.hbm, 76, rfl⟩
abbrev main_v19 : Ref sig .tc := ⟨.hbm, 77, rfl⟩
abbrev main_cst_0 : Ref sig .tc := ⟨.hbm, 78, rfl⟩
abbrev main_v20 : Ref sig .tc := ⟨.hbm, 79, rfl⟩
abbrev main_v21 : Ref sig .tc := ⟨.hbm, 80, rfl⟩

abbrev nD : Nat := 1
abbrev τ : Topo := Topo.v7x

variable {F : FTy → Type} [FloatOps F]
-- ==== Dfox.lean ====
abbrev S16384x512 : Shape := ⟨2, ![16384, 512]⟩
abbrev S16384x8 : Shape := ⟨2, ![16384, 8]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384x1 : Shape := ⟨3, ![8, 16384, 1]⟩
abbrev S8x64x16384 : Shape := ⟨3, ![8, 64, 16384]⟩
abbrev S16384x1536 : Shape := ⟨2, ![16384, 1536]⟩
abbrev S16384x128 : Shape := ⟨2, ![16384, 128]⟩
abbrev S8x32x1x512 : Shape := ⟨4, ![8, 32, 1, 512]⟩
abbrev S4x16384x128 : Shape := ⟨3, ![4, 16384, 128]⟩
abbrev S1024x128 : Shape := ⟨2, ![1024, 128]⟩
abbrev S2x32x1x512 : Shape := ⟨4, ![2, 32, 1, 512]⟩
abbrev S1x1024x128 : Shape := ⟨3, ![1, 1024, 128]⟩
abbrev S2x1024x128 : Shape := ⟨3, ![2, 1024, 128]⟩
abbrev S1024 : Shape := ⟨1, ![1024]⟩
abbrev S1024x1 : Shape := ⟨2, ![1024, 1]⟩
abbrev S512x128 : Shape := ⟨2, ![512, 128]⟩
abbrev S1024x512 : Shape := ⟨2, ![1024, 512]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 61
  | .vmem => 25
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S16384x8x64, .f32⟩
  | .hbm, ⟨6, _⟩ => ⟨S16384x8x64, .f32⟩
  | .hbm, ⟨7, _⟩ => ⟨S8x16384x16384, .f32⟩
  | .hbm, ⟨8, _⟩ => ⟨S_, .f32⟩
  | .hbm, ⟨9, _⟩ => ⟨S8x16384x16384, .f32⟩
  | .hbm, ⟨10, _⟩ => ⟨S8x16384x16384, .f32⟩
  | .hbm, ⟨11, _⟩ => ⟨S8x16384, .f32⟩
  | .hbm, ⟨12, _⟩ => ⟨S8x1x16384, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S_, .f32⟩
  | .hbm, ⟨22, _⟩ => ⟨S_, .f32⟩
  | .hbm, ⟨23, _⟩ => ⟨S8x16384x16384, .i1⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384, .f32⟩
  | .hbm, ⟨28, _⟩ => ⟨S8x16384x1, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x1, .f32⟩
  | .hbm, ⟨36, _⟩ => ⟨S8x16384x1, .f32⟩
  | .hbm, ⟨37, _⟩ => ⟨S8x16384, .f32⟩
  | .hbm, ⟨38, _⟩ => ⟨S8x16384x16384, .f32⟩
  | .hbm, ⟨39, _⟩ => ⟨S8x16384x16384, .f32⟩
  | .hbm, ⟨40, _⟩ => ⟨S16384x8x64, .f32⟩
  | .hbm, ⟨41, _⟩ => ⟨S8x64x16384, .f32⟩
  | .hbm, ⟨42, _⟩ => ⟨S16384x8x64, .f32⟩
  | .hbm, ⟨43, _⟩ => ⟨S16384x8x64, .f32⟩
  | .hbm, ⟨44, _⟩ => ⟨S16384x8x64, .f32⟩
  | .hbm, ⟨45, _⟩ => ⟨S_, .f32⟩
  | .hbm, ⟨46, _⟩ => ⟨S16384x8, .f32⟩
  | .hbm, ⟨47, _⟩ => ⟨S8x16384, .f32⟩
  | .hbm, ⟨48, _⟩ => ⟨S16384x1536, .f32⟩
  | .hbm, ⟨49, _⟩ => ⟨S16384x1536, .bf16⟩
  | .hbm, ⟨50, _⟩ => ⟨S_, .i32⟩
  | .hbm, ⟨51, _⟩ => ⟨S_, .f32⟩
  | .hbm, ⟨52, _⟩ => ⟨S16384x128, .f32⟩
  | .hbm, ⟨53, _⟩ => ⟨S16384x512, .bf16⟩
  | .hbm, ⟨54, _⟩ => ⟨S8x32x1x512, .f32⟩
  | .hbm, ⟨55, _⟩ => ⟨S8x32x1x512, .f32⟩
  | .hbm, ⟨56, _⟩ => ⟨S16384x512, .f32⟩
  | .hbm, ⟨57, _⟩ => ⟨S16384x512, .bf16⟩
  | .hbm, ⟨58, _⟩ => ⟨S16384x512, .bf16⟩
  | .hbm, ⟨59, _⟩ => ⟨S4x16384x128, .f32⟩
  | .hbm, ⟨60, _⟩ => ⟨S8x32x1x512, .f32⟩
  | .local _ .vmem, ⟨0, _⟩ => ⟨S16384x128, .bf16⟩
  | .local _ .vmem, ⟨1, _⟩ => ⟨S16384x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S16384x128, .bf16⟩
  | .local _ .vmem, ⟨7, _⟩ => ⟨S2x32x1x512, .f32⟩
  | .local _ .vmem, ⟨8, _⟩ => ⟨S2x32x1x512, .f32⟩
  | .local _ .vmem, ⟨9, _⟩ => ⟨S2x32x1x512, .f32⟩
  | .local _ .vmem, ⟨10, _⟩ => ⟨S2x32x1x512, .f32⟩
  | .local _ .vmem, ⟨11, _⟩ => ⟨S1024x128, .f32⟩
  | .local _ .vmem, ⟨12, _⟩ => ⟨S1024x128, .f32⟩
  | .local _ .vmem, ⟨13, _⟩ => ⟨S16384x128, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1x1024x128, .f32⟩
  | .local _ .vmem, ⟨19, _⟩ => ⟨S1x1024x128, .f32⟩
  | .local _ .vmem, ⟨20, _⟩ => ⟨S2x32x1x512, .f32⟩
  | .local _ .vmem, ⟨21, _⟩ => ⟨S2x32x1x512, .f32⟩
  | .local _ .vmem, ⟨22, _⟩ => ⟨S2x1024x128, .f32⟩
  | .local _ .vmem, ⟨23, _⟩ => ⟨S2x1024x128, .f32⟩
  | .local _ .vmem, ⟨24, _⟩ => ⟨S2x1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_call1_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41_0 : Ref sig .tc := ⟨.hbm, 56, rfl⟩
abbrev main_v41_1 : Ref sig .tc := ⟨.hbm, 57, rfl⟩
abbrev main_v41_2 : Ref sig .tc := ⟨.hbm, 58, rfl⟩
abbrev main_v41_3 : Ref sig .tc := ⟨.hbm, 59, rfl⟩
abbrev main_v41_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c0_i32_32 : BitVec 32 := 0#32
  let v65 : BitVec 32 := Scalar.addi v64 c0_i32_32
  let c512_i32 : BitVec 32 := 512#32
  let v66 : BitVec 32 := Scalar.muli v65 c512_i32
  v66
def k0_off1 (i : grid0.Coords) (c0_i32_32 : BitVec 32) : Fin 2 → Nat :=
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let v65 : BitVec 32 := Scalar.addi v64 c0_i32_32
  let c512_i32 : BitVec 32 := 512#32
  let v66 : BitVec 32 := Scalar.muli v65 c512_i32
  let v67 : BitVec 32 := v66
  let v68 : Index := Scalar.indexCast v67
  let c0_33 : Index := 0#32
  ![v68.toNat, 0]
def k0_off2 (i : grid0.Coords) (c0_i32_32 : BitVec 32) : Fin 4 → Nat :=
  let c0_37 : Index := 0#32
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let v65 : BitVec 32 := Scalar.addi v64 c0_i32_32
  let v79 : Index := Scalar.indexCast v65
  let c0_38 : Index := 0#32
  let c0_39 : Index := 0#32
  ![0, v79.toNat, 0, 0]
def k0_off3 (i : grid0.Coords) (c0_i32_32 : BitVec 32) : Fin 4 → Nat :=
  let c1 : Index := 1#32
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let v65 : BitVec 32 := Scalar.addi v64 c0_i32_32
  let v141 : Index := Scalar.indexCast v65
  let c0_77 : Index := 0#32
  let c0_78 : Index := 0#32
  ![1, v141.toNat, 0, 0]
def k0_mult2 (i : grid0.Coords) : BitVec 32 :=
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c1_i32_117 : BitVec 32 := 1#32
  let v207 : BitVec 32 := Scalar.addi v64 c1_i32_117
  let c512_i32_118 : BitVec 32 := 512#32
  let v208 : BitVec 32 := Scalar.muli v207 c512_i32_118
  v208
@[reducible] def k0_t1_loop (i : grid0.Coords) : Scf.Loop 32 :=
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c2_i32_204 : BitVec 32 := 2#32
  let v349 : BitVec 32 := Scalar.addi v64 c2_i32_204
  let c32_i32 : BitVec 32 := 32#32
  let v350 : BitVec 32 := Scalar.subi c32_i32 v349
  let c1_i32_206 : BitVec 32 := 1#32
  let v352 : BitVec 32 := Scalar.divsi v350 c1_i32_206
  let v353 : BitVec 32 := Scalar.muli v352 c1_i32_206
  let v354 : BitVec 32 := Scalar.addi v349 v353
  let c1_i32_207 : BitVec 32 := 1#32
  ⟨v349, v354, c1_i32_207⟩
def k0_mult3 (i : grid0.Coords) (k0_t1 : Fin (k0_t1_loop i).trips) : BitVec 32 :=
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c2_i32_204 : BitVec 32 := 2#32
  let v349 : BitVec 32 := Scalar.addi v64 c2_i32_204
  let c1_i32_207 : BitVec 32 := 1#32
  let arg17 : BitVec 32 := Scf.iv v349 c1_i32_207 k0_t1
  let c512_i32_239 : BitVec 32 := 512#32
  let v394 : BitVec 32 := Scalar.muli arg17 c512_i32_239
  v394
def k0_off4 (i : grid0.Coords) (k0_t1 : Fin (k0_t1_loop i).trips) : Fin 2 → Nat :=
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c2_i32_204 : BitVec 32 := 2#32
  let v349 : BitVec 32 := Scalar.addi v64 c2_i32_204
  let c1_i32_207 : BitVec 32 := 1#32
  let arg17 : BitVec 32 := Scf.iv v349 c1_i32_207 k0_t1
  let c512_i32_239 : BitVec 32 := 512#32
  let v394 : BitVec 32 := Scalar.muli arg17 c512_i32_239
  let v395 : BitVec 32 := v394
  let v396 : Index := Scalar.indexCast v395
  let c0_240 : Index := 0#32
  ![v396.toNat, 0]
def k0_off5 (i : grid0.Coords) (k0_t1 : Fin (k0_t1_loop i).trips) : Fin 4 → Nat :=
  let c0_244 : Index := 0#32
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c2_i32_204 : BitVec 32 := 2#32
  let v349 : BitVec 32 := Scalar.addi v64 c2_i32_204
  let c1_i32_207 : BitVec 32 := 1#32
  let arg17 : BitVec 32 := Scf.iv v349 c1_i32_207 k0_t1
  let v407 : Index := Scalar.indexCast arg17
  let c0_245 : Index := 0#32
  let c0_246 : Index := 0#32
  ![0, v407.toNat, 0, 0]
def k0_off6 (i : grid0.Coords) (k0_t1 : Fin (k0_t1_loop i).trips) : Fin 4 → Nat :=
  let c1_281 : Index := 1#32
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c2_i32_204 : BitVec 32 := 2#32
  let v349 : BitVec 32 := Scalar.addi v64 c2_i32_204
  let c1_i32_207 : BitVec 32 := 1#32
  let arg17 : BitVec 32 := Scf.iv v349 c1_i32_207 k0_t1
  let v459 : Index := Scalar.indexCast arg17
  let c0_282 : Index := 0#32
  let c0_283 : Index := 0#32
  ![1, v459.toNat, 0, 0]
@[reducible] def k0_t2_loop (i : grid0.Coords) : Scf.Loop 32 :=
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c2_i32_204 : BitVec 32 := 2#32
  let v349 : BitVec 32 := Scalar.addi v64 c2_i32_204
  let c32_i32 : BitVec 32 := 32#32
  let v350 : BitVec 32 := Scalar.subi c32_i32 v349
  let c1_i32_206 : BitVec 32 := 1#32
  let v352 : BitVec 32 := Scalar.divsi v350 c1_i32_206
  let v353 : BitVec 32 := Scalar.muli v352 c1_i32_206
  let v354 : BitVec 32 := Scalar.addi v349 v353
  let v351 : BitVec 32 := Scalar.addi v349 v350
  let c1_i32_208 : BitVec 32 := 1#32
  ⟨v354, v351, c1_i32_208⟩
def k0_mult4 (i : grid0.Coords) (k0_t2 : Fin (k0_t2_loop i).trips) : BitVec 32 :=
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c2_i32_204 : BitVec 32 := 2#32
  let v349 : BitVec 32 := Scalar.addi v64 c2_i32_204
  let c32_i32 : BitVec 32 := 32#32
  let v350 : BitVec 32 := Scalar.subi c32_i32 v349
  let c1_i32_206 : BitVec 32 := 1#32
  let v352 : BitVec 32 := Scalar.divsi v350 c1_i32_206
  let v353 : BitVec 32 := Scalar.muli v352 c1_i32_206
  let v354 : BitVec 32 := Scalar.addi v349 v353
  let c1_i32_208 : BitVec 32 := 1#32
  let arg17 : BitVec 32 := Scf.iv v354 c1_i32_208 k0_t2
  let c512_i32_239 : BitVec 32 := 512#32
  let v394 : BitVec 32 := Scalar.muli arg17 c512_i32_239
  v394
def k0_off7 (i : grid0.Coords) (k0_t2 : Fin (k0_t2_loop i).trips) : Fin 2 → Nat :=
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c2_i32_204 : BitVec 32 := 2#32
  let v349 : BitVec 32 := Scalar.addi v64 c2_i32_204
  let c32_i32 : BitVec 32 := 32#32
  let v350 : BitVec 32 := Scalar.subi c32_i32 v349
  let c1_i32_206 : BitVec 32 := 1#32
  let v352 : BitVec 32 := Scalar.divsi v350 c1_i32_206
  let v353 : BitVec 32 := Scalar.muli v352 c1_i32_206
  let v354 : BitVec 32 := Scalar.addi v349 v353
  let c1_i32_208 : BitVec 32 := 1#32
  let arg17 : BitVec 32 := Scf.iv v354 c1_i32_208 k0_t2
  let c512_i32_239 : BitVec 32 := 512#32
  let v394 : BitVec 32 := Scalar.muli arg17 c512_i32_239
  let v395 : BitVec 32 := v394
  let v396 : Index := Scalar.indexCast v395
  let c0_240 : Index := 0#32
  ![v396.toNat, 0]
def k0_off8 (i : grid0.Coords) (k0_t2 : Fin (k0_t2_loop i).trips) : Fin 4 → Nat :=
  let c0_244 : Index := 0#32
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c2_i32_204 : BitVec 32 := 2#32
  let v349 : BitVec 32 := Scalar.addi v64 c2_i32_204
  let c32_i32 : BitVec 32 := 32#32
  let v350 : BitVec 32 := Scalar.subi c32_i32 v349
  let c1_i32_206 : BitVec 32 := 1#32
  let v352 : BitVec 32 := Scalar.divsi v350 c1_i32_206
  let v353 : BitVec 32 := Scalar.muli v352 c1_i32_206
  let v354 : BitVec 32 := Scalar.addi v349 v353
  let c1_i32_208 : BitVec 32 := 1#32
  let arg17 : BitVec 32 := Scf.iv v354 c1_i32_208 k0_t2
  let v407 : Index := Scalar.indexCast arg17
  let c0_245 : Index := 0#32
  let c0_246 : Index := 0#32
  ![0, v407.toNat, 0, 0]
def k0_off9 (i : grid0.Coords) (k0_t2 : Fin (k0_t2_loop i).trips) : Fin 4 → Nat :=
  let c1_281 : Index := 1#32
  let arg1 : BitVec 32 := BitVec.ofNat 32 (i 1).val
  let c1024_i32 : BitVec 32 := 1024#32
  let v63 : BitVec 32 := Scalar.muli arg1 c1024_i32
  let c9_i32 : BitVec 32 := 9#32
  let v64 : BitVec 32 := Scalar.shrui v63 c9_i32
  let c2_i32_204 : BitVec 32 := 2#32
  let v349 : BitVec 32 := Scalar.addi v64 c2_i32_204
  let c32_i32 : BitVec 32 := 32#32
  let v350 : BitVec 32 := Scalar.subi c32_i32 v349
  let c1_i32_206 : BitVec 32 := 1#32
  let v352 : BitVec 32 := Scalar.divsi v350 c1_i32_206
  let v353 : BitVec 32 := Scalar.muli v352 c1_i32_206
  let v354 : BitVec 32 := Scalar.addi v349 v353
  let c1_i32_208 : BitVec 32 := 1#32
  let arg17 : BitVec 32 := Scf.iv v354 c1_i32_208 k0_t2
  let v459 : Index := Scalar.indexCast arg17
  let c0_282 : Index := 0#32
  let c0_283 : Index := 0#32
  ![1, v459.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2x32x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x32x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S16384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x32x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== DfoxRefIdeal.lean ====
abbrev S16384x512 : Shape := ⟨2, ![16384, 512]⟩
abbrev S16384x8 : Shape := ⟨2, ![16384, 8]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S8x16384x64 : Shape := ⟨3, ![8, 16384, 64]⟩
abbrev S16384x4x2 : Shape := ⟨3, ![16384, 4, 2]⟩
abbrev S4x16384x2 : Shape := ⟨3, ![4, 16384, 2]⟩
abbrev S4x16384x128 : Shape := ⟨3, ![4, 16384, 128]⟩
abbrev S8x32x1x512 : Shape := ⟨4, ![8, 32, 1, 512]⟩

abbrev nBuf : Space → Nat
  | .hbm => 128
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S16384x8x64, .f32⟩
  | .hbm, ⟨6, _⟩ => ⟨S16384x8x64, .f32⟩
  | .hbm, ⟨7, _⟩ => ⟨S8x16384x16384, .f32⟩
  | .hbm, ⟨8, _⟩ => ⟨S_, .f32⟩
  | .hbm, ⟨9, _⟩ => ⟨S8x16384x16384, .f32⟩
  | .hbm, ⟨10, _⟩ => ⟨S8x16384x16384, .f32⟩
  | .hbm, ⟨11, _⟩ => ⟨S8x16384, .f32⟩
  | .hbm, ⟨12, _⟩ => ⟨S8x16384x1, .f32⟩
  | .hbm, ⟨13, _⟩ => ⟨S8x16384x16384, .f32⟩
  | .hbm, ⟨14, _⟩ => ⟨S8x16384x16384, .f32⟩
  | .hbm, ⟨15, _⟩ => ⟨S8x16384, .f32⟩
  | .hbm, ⟨16, _⟩ => ⟨S8x1x16384, .f32⟩
  | .hbm, ⟨17, _⟩ => ⟨S8x16384x16384, .f32⟩
  | .hbm, ⟨18, _⟩ => ⟨S8x16384x16384, .f32⟩
  | .hbm, ⟨19, _⟩ => ⟨S16384, .i32⟩
  | .hbm, ⟨20, _⟩ => ⟨S1x16384, .i32⟩
  | .hbm, ⟨21, _⟩ => ⟨S16384x1, .i32⟩
  | .hbm, ⟨22, _⟩ => ⟨S16384x16384, .i32⟩
  | .hbm, ⟨23, _⟩ => ⟨S16384x16384, .i32⟩
  | .hbm, ⟨24, _⟩ => ⟨S16384x16384, .i1⟩
  | .hbm, ⟨25, _⟩ => ⟨S_, .f32⟩
  | .hbm, ⟨26, _⟩ => ⟨S_, .f32⟩
  | .hbm, ⟨27, _⟩ => ⟨S8x16384x16384, .i1⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .i1⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S8x16384, .f32⟩
  | .hbm, ⟨43, _⟩ => ⟨S_, .f32⟩
  | .hbm, ⟨44, _⟩ => ⟨S8x16384, .f32⟩
  | .hbm, ⟨45, _⟩ => ⟨S8x16384, .i1⟩
  | .hbm, ⟨46, _⟩ => ⟨S_, .f32⟩
  | .hbm, ⟨47, _⟩ => ⟨S8x16384, .f32⟩
  | .hbm, ⟨48, _⟩ => ⟨S8x16384, .i1⟩
  | .hbm, ⟨49, _⟩ => ⟨S_, .f32⟩
  | .hbm, ⟨50, _⟩ => ⟨S8x16384, .f32⟩
  | .hbm, ⟨51, _⟩ => ⟨S_, .f32⟩
  | .hbm, ⟨52, _⟩ => ⟨S8x16384, .f32⟩
  | .hbm, ⟨53, _⟩ => ⟨S_, .f32⟩
  | .hbm, ⟨54, _⟩ => ⟨S8x16384, .f32⟩
  | .hbm, ⟨55, _⟩ => ⟨S8x16384, .f32⟩
  | .hbm, ⟨56, _⟩ => ⟨S8x16384, .f32⟩
  | .hbm, ⟨57, _⟩ => ⟨S8x16384x1, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S_, .f32⟩
  | .hbm, ⟨62, _⟩ => ⟨S8x16384, .f32⟩
  | .hbm, ⟨63, _⟩ => ⟨S8x16384x1, .f32⟩
  | .hbm, ⟨64, _⟩ => ⟨S8x16384x16384, .f32⟩
  | .hbm, ⟨65, _⟩ => ⟨S8x16384x16384, .f32⟩
  | .hbm, ⟨66, _⟩ => ⟨S8x16384x1, .f32⟩
  | .hbm, ⟨67, _⟩ => ⟨S_, .f32⟩
  | .hbm, ⟨68, _⟩ => ⟨S8x16384x1, .f32⟩
  | .hbm, ⟨69, _⟩ => ⟨S8x16384x1, .f32⟩
  | .hbm, ⟨70, _⟩ => ⟨S16384x8x64, .f32⟩
  | .hbm, ⟨71, _⟩ => ⟨S8x64x16384, .f32⟩
  | .hbm, ⟨72, _⟩ => ⟨S16384x8x64, .f32⟩
  | .hbm, ⟨73, _⟩ => ⟨S16384x512, .f32⟩
  | .hbm, ⟨74, _⟩ => ⟨S16384x8x64, .f32⟩
  | .hbm, ⟨75, _⟩ => ⟨S8x64x16384, .f32⟩
  | .hbm, ⟨76, _⟩ => ⟨S8x16384x16384, .f32⟩
  | .hbm, ⟨77, _⟩ => ⟨S8x64x16384, .f32⟩
  | .hbm, ⟨78, _⟩ => ⟨S16384x8x64, .f32⟩
  | .hbm, ⟨79, _⟩ => ⟨S16384x512, .f32⟩
  | .hbm, ⟨80, _⟩ => ⟨S8x16384x16384, .f32⟩
  | .hbm, ⟨81, _⟩ => ⟨S8x16384x16384, .f32⟩
  | .hbm, ⟨82, _⟩ => ⟨S8x16384x16384, .f32⟩
  | .hbm, ⟨83, _⟩ => ⟨S_, .f32⟩
  | .hbm, ⟨84, _⟩ => ⟨S8x16384, .f32⟩
  | .hbm, ⟨85, _⟩ => ⟨S8x16384x1, .f32⟩
  | .hbm, ⟨86, _⟩ => ⟨S8x16384x1, .f32⟩
  | .hbm, ⟨87, _⟩ => ⟨S8x16384x16384, .f32⟩
  | .hbm, ⟨88, _⟩ => ⟨S8x16384x16384, .f32⟩
  | .hbm, ⟨89, _⟩ => ⟨S_, .f32⟩
  | .hbm, ⟨90, _⟩ => ⟨S8x16384, .f32⟩
  | .hbm, ⟨91, _⟩ => ⟨S8x16384x16384, .f32⟩
  | .hbm, ⟨92, _⟩ => ⟨S8x16384x16384, .f32⟩
  | .hbm, ⟨93, _⟩ => ⟨S8x16384x16384, .f32⟩
  | .hbm, ⟨94, _⟩ => ⟨S_, .f32⟩
  | .hbm, ⟨95, _⟩ => ⟨S8x16384x16384, .f32⟩
  | .hbm, ⟨96, _⟩ => ⟨S8x16384x16384, .f32⟩
  | .hbm, ⟨97, _⟩ => ⟨S8x16384x16384, .f32⟩
  | .hbm, ⟨98, _⟩ => ⟨S_, .f32⟩
  | .hbm, ⟨99, _⟩ => ⟨S8x16384, .f32⟩
  | .hbm, ⟨100, _⟩ => ⟨S8x1x16384, .f32⟩
  | .hbm, ⟨101, _⟩ => ⟨S_, .f32⟩
  | .hbm, ⟨102, _⟩ => ⟨S8x16384, .f32⟩
  | .hbm, ⟨103, _⟩ => ⟨S16384x8, .f32⟩
  | .hbm, ⟨104, _⟩ => ⟨S_, .f32⟩
  | .hbm, ⟨105, _⟩ => ⟨S8x16384, .f32⟩
  | .hbm, ⟨106, _⟩ => ⟨S8x16384x1, .f32⟩
  | .hbm, ⟨107, _⟩ => ⟨S_, .f32⟩
  | .hbm, ⟨108, _⟩ => ⟨S8x16384, .f32⟩
  | .hbm, ⟨109, _⟩ => ⟨S16384x8, .f32⟩
  | .hbm, ⟨110, _⟩ => ⟨S_, .f32⟩
  | .hbm, ⟨111, _⟩ => ⟨S8x16384x16384, .f32⟩
  | .hbm, ⟨112, _⟩ => ⟨S8x16384x16384, .f32⟩
  | .hbm, ⟨113, _⟩ => ⟨S8x16384x64, .f32⟩
  | .hbm, ⟨114, _⟩ => ⟨S16384x8x64, .f32⟩
  | .hbm, ⟨115, _⟩ => ⟨S8x16384x64, .f32⟩
  | .hbm, ⟨116, _⟩ => ⟨S16384x8x64, .f32⟩
  | .hbm, ⟨117, _⟩ => ⟨S16384x512, .f32⟩
  | .hbm, ⟨118, _⟩ => ⟨S16384x512, .f32⟩
  | .hbm, ⟨119, _⟩ => ⟨S16384x4x2, .f32⟩
  | .hbm, ⟨120, _⟩ => ⟨S4x16384x2, .f32⟩
  | .hbm, ⟨121, _⟩ => ⟨S_, .i32⟩
  | .hbm, ⟨122, _⟩ => ⟨S_, .f32⟩
  | .hbm, ⟨123, _⟩ => ⟨S4x16384x128, .f32⟩
  | .hbm, ⟨124, _⟩ => ⟨S16384x512, .bf16⟩
  | .hbm, ⟨125, _⟩ => ⟨S16384x512, .bf16⟩
  | .hbm, ⟨126, _⟩ => ⟨S8x16384, .f32⟩
  | .hbm, ⟨127, _⟩ => ⟨S8x32x1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c : Ref sig .tc := ⟨.hbm, 121, rfl⟩
abbrev main_call2_v0 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]
-- ==== Merge.lean ====
abbrev S16384x5640 : Shape := ⟨2, ![16384, 5640]⟩
abbrev S16384x1024 : Shape := ⟨2, ![16384, 1024]⟩
abbrev S16384x1536 : Shape := ⟨2, ![16384, 1536]⟩
abbrev S16384x2048 : Shape := ⟨2, ![16384, 2048]⟩
abbrev S16384x8 : Shape := ⟨2, ![16384, 8]⟩
abbrev S_ : Shape := ⟨0, ![]⟩
abbrev S16384x120 : Shape := ⟨2, ![16384, 120]⟩
abbrev S16384x5760 : Shape := ⟨2, ![16384, 5760]⟩
abbrev S16384x4224 : Shape := ⟨2, ![16384, 4224]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16384x5640, .f32⟩
  | .hbm, ⟨1, _⟩ => ⟨S16384x1024, .f32⟩
  | .hbm, ⟨2, _⟩ => ⟨S16384x1024, .f32⟩
  | .hbm, ⟨3, _⟩ => ⟨S16384x1536, .f32⟩
  | .hbm, ⟨4, _⟩ => ⟨S16384x2048, .f32⟩
  | .hbm, ⟨5, _⟩ => ⟨S16384x2048, .f32⟩
  | .hbm, ⟨6, _⟩ => ⟨S16384x8, .f32⟩
  | .hbm, ⟨7, _⟩ => ⟨S_, .f32⟩
  | .hbm, ⟨8, _⟩ => ⟨S16384x120, .f32⟩
  | .hbm, ⟨9, _⟩ => ⟨S16384x5760, .f32⟩
  | .hbm, ⟨10, _⟩ => ⟨S16384x4224, .f32⟩
  | .hbm, ⟨11, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S16384x5640 : Shape := ⟨2, ![16384, 5640]⟩
abbrev S16384x1024 : Shape := ⟨2, ![16384, 1024]⟩
abbrev S16384x512 : Shape := ⟨2, ![16384, 512]⟩
abbrev S16384x8 : Shape := ⟨2, ![16384, 8]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x5640, .f32⟩
  | .hbm, ⟨1, _⟩ => ⟨S16384x1024, .f32⟩
  | .hbm, ⟨2, _⟩ => ⟨S16384x1024, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x8, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .bf16⟩
  | _, _ => ⟨S16384x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Act.lean ====
abbrev S16384x5632 : Shape := ⟨2, ![16384, 5632]⟩
abbrev S16384x2816 : Shape := ⟨2, ![16384, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S16384x5632, .f32⟩
  | .hbm, ⟨1, _⟩ => ⟨S16384x2816, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .bf16⟩
  | .local _ .vmem, ⟨5, _⟩ => ⟨S256x2816, .bf16⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActRefIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S_, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Ln.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Yb.lean ====
abbrev S16384x5640 : Shape := ⟨2, ![16384, 5640]⟩
abbrev S16384x512 : Shape := ⟨2, ![16384, 512]⟩
abbrev S128 : Shape := ⟨1, ![128]⟩
abbrev S16384x1536 : Shape := ⟨2, ![16384, 1536]⟩
abbrev S16384x2048 : Shape := ⟨2, ![16384, 2048]⟩
abbrev S16384x8 : Shape := ⟨2, ![16384, 8]⟩
abbrev S_ : Shape := ⟨0, ![]⟩
abbrev S16384x120 : Shape := ⟨2, ![16384, 120]⟩
abbrev S16384x5760 : Shape := ⟨2, ![16384, 5760]⟩
abbrev S16384x4224 : Shape := ⟨2, ![16384, 4224]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 7
  | .smem => 0
  | _ => 0

abbrev bufTy : (tb : Table) → Fin (tcTables nBuf tb) → BufTy
  | .hbm, ⟨0, _⟩ => ⟨S16384x5640, .f32⟩
  | .hbm, ⟨1, _⟩ => ⟨S16384x512, .f32⟩
  | .hbm, ⟨2, _⟩ => ⟨S128, .f32⟩
  | .hbm, ⟨3, _⟩ => ⟨S16384x1536, .f32⟩
  | .hbm, ⟨4, _⟩ => ⟨S16384x2048, .f32⟩
  | .hbm, ⟨5, _⟩ => ⟨S16384x2048, .f32⟩
  | .hbm, ⟨6, _⟩ => ⟨S16384x8, .f32⟩
  | .hbm, ⟨7, _⟩ => ⟨S_, .f32⟩
  | .hbm, ⟨8, _⟩ => ⟨S16384x120, .f32⟩
  | .hbm, ⟨9, _⟩ => ⟨S16384x5760, .f32⟩
  | .hbm, ⟨10, _⟩ => ⟨S16384x4224, .f32⟩
  | .hbm, ⟨11, _⟩ => ⟨S1x128, .f32⟩
  | .hbm, ⟨12, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | _, _ => ⟨S16384x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== YbRefIdeal.lean ====
abbrev S16384x5640 : Shape := ⟨2, ![16384, 5640]⟩
abbrev S16384x512 : Shape := ⟨2, ![16384, 512]⟩
abbrev S128 : Shape := ⟨1, ![128]⟩
abbrev S16384x8 : Shape := ⟨2, ![16384, 8]⟩
abbrev S16384x1024 : Shape := ⟨2, ![16384, 1024]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 41
  | .vmem => 0
  | .smem => 0
  | _ => 0

abbrev bufTy : (tb : Table) → Fin (tcTables nBuf tb) → BufTy
  | .hbm, ⟨0, _⟩ => ⟨S16384x5640, .f32⟩
  | .hbm, ⟨1, _⟩ => ⟨S16384x512, .f32⟩
  | .hbm, ⟨2, _⟩ => ⟨S128, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x8, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x4x128, .f32⟩
  | .hbm, ⟨14, _⟩ => ⟨S16384x4x128, .f32⟩
  | .hbm, ⟨15, _⟩ => ⟨S_, .f32⟩
  | .hbm, ⟨16, _⟩ => ⟨S16384x4, .f32⟩
  | .hbm, ⟨17, _⟩ => ⟨S16384x4x1, .f32⟩
  | .hbm, ⟨18, _⟩ => ⟨S_, .f32⟩
  | .hbm, ⟨19, _⟩ => ⟨S16384x4x1, .f32⟩
  | .hbm, ⟨20, _⟩ => ⟨S16384x4x1, .f32⟩
  | .hbm, ⟨21, _⟩ => ⟨S_, .f32⟩
  | .hbm, ⟨22, _⟩ => ⟨S16384x4x1, .f32⟩
  | .hbm, ⟨23, _⟩ => ⟨S16384x4x1, .f32⟩
  | .hbm, ⟨24, _⟩ => ⟨S16384x4x1, .f32⟩
  | .hbm, ⟨25, _⟩ => ⟨S16384x4x128, .f32⟩
  | .hbm, ⟨26, _⟩ => ⟨S16384x4x128, .f32⟩
  | .hbm, ⟨27, _⟩ => ⟨S1x1x128, .f32⟩
  | .hbm, ⟨28, _⟩ => ⟨S16384x4x128, .f32⟩
  | .hbm, ⟨29, _⟩ => ⟨S16384x4x128, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .bf16⟩
  | _, _ => ⟨S16384x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Fsum.lean ====
abbrev S16384x5640 : Shape := ⟨2, ![16384, 5640]⟩
abbrev S8 : Shape := ⟨1, ![8]⟩
abbrev S16384x1536 : Shape := ⟨2, ![16384, 1536]⟩
abbrev S16384x2048 : Shape := ⟨2, ![16384, 2048]⟩
abbrev S16384x8 : Shape := ⟨2, ![16384, 8]⟩
abbrev S_ : Shape := ⟨0, ![]⟩
abbrev S16384x120 : Shape := ⟨2, ![16384, 120]⟩
abbrev S16384x5760 : Shape := ⟨2, ![16384, 5760]⟩
abbrev S16384x4224 : Shape := ⟨2, ![16384, 4224]⟩
abbrev S128 : Shape := ⟨1, ![128]⟩
abbrev S1x128 : Shape := ⟨2, ![1, 128]⟩
abbrev S16384x128 : Shape := ⟨2, ![16384, 128]⟩
abbrev S256x128 : Shape := ⟨2, ![256, 128]⟩
abbrev S256x256 : Shape := ⟨2, ![256, 256]⟩
abbrev S256x384 : Shape := ⟨2, ![256, 384]⟩

abbrev nBuf : Space → Nat
  | .hbm => 16
  | .vmem => 6
  | .smem => 0
  | _ => 0

abbrev bufTy : (tb : Table) → Fin (tcTables nBuf tb) → BufTy
  | .hbm, ⟨0, _⟩ => ⟨S16384x5640, .f32⟩
  | .hbm, ⟨1, _⟩ => ⟨S8, .f32⟩
  | .hbm, ⟨2, _⟩ => ⟨S16384x1536, .f32⟩
  | .hbm, ⟨3, _⟩ => ⟨S16384x2048, .f32⟩
  | .hbm, ⟨4, _⟩ => ⟨S16384x2048, .f32⟩
  | .hbm, ⟨5, _⟩ => ⟨S16384x8, .f32⟩
  | .hbm, ⟨6, _⟩ => ⟨S_, .f32⟩
  | .hbm, ⟨7, _⟩ => ⟨S16384x120, .f32⟩
  | .hbm, ⟨8, _⟩ => ⟨S16384x5760, .f32⟩
  | .hbm, ⟨9, _⟩ => ⟨S16384x4224, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S16384x128, .f32⟩
  | .hbm, ⟨15, _⟩ => ⟨S16384x8, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S1x128, .f32⟩
  | _, _ => ⟨S16384x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FsumRefIdeal.lean ====
abbrev S16384x5640 : Shape := ⟨2, ![16384, 5640]⟩
abbrev S8 : Shape := ⟨1, ![8]⟩
abbrev S16384x512 : Shape := ⟨2, ![16384, 512]⟩
abbrev S16384x8 : Shape := ⟨2, ![16384, 8]⟩
abbrev S16384x1024 : Shape := ⟨2, ![16384, 1024]⟩
abbrev S1x8 : Shape := ⟨2, ![1, 8]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x5640, .f32⟩
  | .hbm, ⟨1, _⟩ => ⟨S8, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x8, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S1x8, .f32⟩
  | .hbm, ⟨13, _⟩ => ⟨S16384x8, .f32⟩
  | .hbm, ⟨14, _⟩ => ⟨S16384x8, .f32⟩
  | .hbm, ⟨15, _⟩ => ⟨S16384x8, .f32⟩
  | .hbm, ⟨16, _⟩ => ⟨S_, .f32⟩
  | .hbm, ⟨17, _⟩ => ⟨S16384x8, .f32⟩
  | .hbm, ⟨18, _⟩ => ⟨S16384x8, .f32⟩
  | .hbm, ⟨19, _⟩ => ⟨S16384x8, .f32⟩
  | .hbm, ⟨20, _⟩ => ⟨S16384x8, .f32⟩
  | .hbm, ⟨21, _⟩ => ⟨S16384x8, .i1⟩
  | .hbm, ⟨22, _⟩ => ⟨S16384x8, .f32⟩
  | .hbm, ⟨23, _⟩ => ⟨S16384x8, .f32⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S16384x8, .f32⟩
  | .hbm, ⟨28, _⟩ => ⟨S16384x8, .f32⟩
  | .hbm, ⟨29, _⟩ => ⟨S16384x8, .f32⟩
  | .hbm, ⟨30, _⟩ => ⟨S16384x8, .f32⟩
  | .hbm, ⟨31, _⟩ => ⟨S_, .f32⟩
  | .hbm, ⟨32, _⟩ => ⟨S_, .f32⟩
  | .hbm, ⟨33, _⟩ => ⟨S16384x8, .f32⟩
  | _, _ => ⟨S16384x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v13 : Ref sig .tc := ⟨.hbm, 30, rfl⟩
abbrev main_call1_call0_cst : Ref sig .tc := ⟨.hbm, 31, rfl⟩
abbrev main_call1_call0_v0 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Attend.lean ====
abbrev S16384x512 : Shape := ⟨2, ![16384, 512]⟩
abbrev S16384x8 : Shape := ⟨2, ![16384, 8]⟩
abbrev S16384x1536 : Shape := ⟨2, ![16384, 1536]⟩
abbrev S8x16384 : Shape := ⟨2, ![8, 16384]⟩
abbrev S8x16x1x1024 : Shape := ⟨4, ![8, 16, 1, 1024]⟩
abbrev S4x16384x128 : Shape := ⟨3, ![4, 16384, 128]⟩
abbrev S1024x128 : Shape := ⟨2, ![1024, 128]⟩
abbrev S16384x128 : Shape := ⟨2, ![16384, 128]⟩
abbrev S2x16x1x1024 : Shape := ⟨4, ![2, 16, 1, 1024]⟩
abbrev S1x1024x128 : Shape := ⟨3, ![1, 1024, 128]⟩
abbrev S2x1024x128 : Shape := ⟨3, ![2, 1024, 128]⟩
abbrev S2x1024x1024 : Shape := ⟨3, ![2, 1024, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 11
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x1536, .f32⟩
  | .hbm, ⟨5, _⟩ => ⟨S16384x1536, .bf16⟩
  | .hbm, ⟨6, _⟩ => ⟨S8x16384, .f32⟩
  | .hbm, ⟨7, _⟩ => ⟨S8x16x1x1024, .f32⟩
  | .hbm, ⟨8, _⟩ => ⟨S16384x512, .f32⟩
  | .hbm, ⟨9, _⟩ => ⟨S16384x512, .bf16⟩
  | .hbm, ⟨10, _⟩ => ⟨S4x16384x128, .f32⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S2x16x1x1024, .f32⟩
  | .local _ .vmem, ⟨7, _⟩ => ⟨S2x16x1x1024, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1x1024x128, .f32⟩
  | .local _ .vmem, ⟨13, _⟩ => ⟨S1x1024x128, .f32⟩
  | .local _ .vmem, ⟨14, _⟩ => ⟨S2x1024x128, .f32⟩
  | .local _ .vmem, ⟨15, _⟩ => ⟨S2x1024x128, .f32⟩
  | .local _ .vmem, ⟨16, _⟩ => ⟨S2x1024x128, .f32⟩
  | .local _ .vmem, ⟨17, _⟩ => ⟨S2x1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_mult1 : BitVec 32 :=
  let c0_i32_14 : BitVec 32 := 0#32
  c0_i32_14
@[reducible] def k0_t1_loop (i : grid0.Coords) : Scf.Loop 32 :=
  let c0_i32_32 : BitVec 32 := 0#32
  let arg1 : BitVec 32 := BitVec.ofNat 32 (i 1).val
  let v45 : BitVec 32 := Scalar.subi arg1 c0_i32_32
  let c1_i32 : BitVec 32 := 1#32
  let v47 : BitVec 32 := Scalar.divsi v45 c1_i32
  let v48 : BitVec 32 := Scalar.muli v47 c1_i32
  let v49 : BitVec 32 := Scalar.addi c0_i32_32 v48
  let c1_i32_33 : BitVec 32 := 1#32
  ⟨c0_i32_32, v49, c1_i32_33⟩
def k0_mult2 (i : grid0.Coords) (k0_t1 : Fin (k0_t1_loop i).trips) : BitVec 32 :=
  let c0_i32_32 : BitVec 32 := 0#32
  let c1_i32_33 : BitVec 32 := 1#32
  let arg13 : BitVec 32 := Scf.iv c0_i32_32 c1_i32_33 k0_t1
  let c1_i32_130 : BitVec 32 := 1#32
  let v194 : BitVec 32 := Scalar.addi arg13 c1_i32_130
  let c1024_i32_131 : BitVec 32 := 1024#32
  let v195 : BitVec 32 := Scalar.muli v194 c1024_i32_131
  v195
def k0_off1 (i : grid0.Coords) (k0_t1 : Fin (k0_t1_loop i).trips) : Fin 2 → Nat :=
  let c0_i32_32 : BitVec 32 := 0#32
  let c1_i32_33 : BitVec 32 := 1#32
  let arg13 : BitVec 32 := Scf.iv c0_i32_32 c1_i32_33 k0_t1
  let c1_i32_130 : BitVec 32 := 1#32
  let v194 : BitVec 32 := Scalar.addi arg13 c1_i32_130
  let c1024_i32_131 : BitVec 32 := 1024#32
  let v195 : BitVec 32 := Scalar.muli v194 c1024_i32_131
  let v196 : BitVec 32 := v195
  let v197 : Index := Scalar.indexCast v196
  let c0_132 : Index := 0#32
  ![v197.toNat, 0]
def k0_off2 (i : grid0.Coords) (k0_t1 : Fin (k0_t1_loop i).trips) : Fin 4 → Nat :=
  let c0_134 : Index := 0#32
  let c0_i32_32 : BitVec 32 := 0#32
  let c1_i32_33 : BitVec 32 := 1#32
  let arg13 : BitVec 32 := Scf.iv c0_i32_32 c1_i32_33 k0_t1
  let c1_i32_130 : BitVec 32 := 1#32
  let v194 : BitVec 32 := Scalar.addi arg13 c1_i32_130
  let v201 : Index := Scalar.indexCast v194
  let c0_135 : Index := 0#32
  let c0_136 : Index := 0#32
  ![0, v201.toNat, 0, 0]
def k0_off3 (i : grid0.Coords) (k0_t1 : Fin (k0_t1_loop i).trips) : Fin 4 → Nat :=
  let c1_138 : Index := 1#32
  let c0_i32_32 : BitVec 32 := 0#32
  let c1_i32_33 : BitVec 32 := 1#32
  let arg13 : BitVec 32 := Scf.iv c0_i32_32 c1_i32_33 k0_t1
  let c1_i32_130 : BitVec 32 := 1#32
  let v194 : BitVec 32 := Scalar.addi arg13 c1_i32_130
  let v207 : Index := Scalar.indexCast v194
  let c0_139 : Index := 0#32
  let c0_140 : Index := 0#32
  ![1, v207.toNat, 0, 0]
def k0_mult3 (i : grid0.Coords) (k0_t1 : Fin (k0_t1_loop i).trips) : BitVec 32 :=
  let c0_i32_32 : BitVec 32 := 0#32
  let c1_i32_33 : BitVec 32 := 1#32
  let arg13 : BitVec 32 := Scf.iv c0_i32_32 c1_i32_33 k0_t1
  let c1024_i32_141 : BitVec 32 := 1024#32
  let v212 : BitVec 32 := Scalar.muli arg13 c1024_i32_141
  v212
def k0_off4 (i : grid0.Coords) (k0_t1 : Fin (k0_t1_loop i).trips) : Fin 2 → Nat :=
  let c0_i32_32 : BitVec 32 := 0#32
  let c1_i32_33 : BitVec 32 := 1#32
  let arg13 : BitVec 32 := Scf.iv c0_i32_32 c1_i32_33 k0_t1
  let c1024_i32_141 : BitVec 32 := 1024#32
  let v212 : BitVec 32 := Scalar.muli arg13 c1024_i32_141
  let v213 : BitVec 32 := v212
  let v214 : Index := Scalar.indexCast v213
  let c0_142 : Index := 0#32
  ![v214.toNat, 0]
@[reducible] def k0_t2_loop (i : grid0.Coords) : Scf.Loop 32 :=
  let c0_i32_32 : BitVec 32 := 0#32
  let arg1 : BitVec 32 := BitVec.ofNat 32 (i 1).val
  let v45 : BitVec 32 := Scalar.subi arg1 c0_i32_32
  let c1_i32 : BitVec 32 := 1#32
  let v47 : BitVec 32 := Scalar.divsi v45 c1_i32
  let v48 : BitVec 32 := Scalar.muli v47 c1_i32
  let v49 : BitVec 32 := Scalar.addi c0_i32_32 v48
  let v46 : BitVec 32 := Scalar.addi c0_i32_32 v45
  let c1_i32_34 : BitVec 32 := 1#32
  ⟨v49, v46, c1_i32_34⟩
def k0_mult4 (i : grid0.Coords) (k0_t2 : Fin (k0_t2_loop i).trips) : BitVec 32 :=
  let c0_i32_32 : BitVec 32 := 0#32
  let arg1 : BitVec 32 := BitVec.ofNat 32 (i 1).val
  let v45 : BitVec 32 := Scalar.subi arg1 c0_i32_32
  let c1_i32 : BitVec 32 := 1#32
  let v47 : BitVec 32 := Scalar.divsi v45 c1_i32
  let v48 : BitVec 32 := Scalar.muli v47 c1_i32
  let v49 : BitVec 32 := Scalar.addi c0_i32_32 v48
  let c1_i32_34 : BitVec 32 := 1#32
  let arg13 : BitVec 32 := Scf.iv v49 c1_i32_34 k0_t2
  let c1_i32_130 : BitVec 32 := 1#32
  let v194 : BitVec 32 := Scalar.addi arg13 c1_i32_130
  let c1024_i32_131 : BitVec 32 := 1024#32
  let v195 : BitVec 32 := Scalar.muli v194 c1024_i32_131
  v195
def k0_off5 (i : grid0.Coords) (k0_t2 : Fin (k0_t2_loop i).trips) : Fin 2 → Nat :=
  let c0_i32_32 : BitVec 32 := 0#32
  let arg1 : BitVec 32 := BitVec.ofNat 32 (i 1).val
  let v45 : BitVec 32 := Scalar.subi arg1 c0_i32_32
  let c1_i32 : BitVec 32 := 1#32
  let v47 : BitVec 32 := Scalar.divsi v45 c1_i32
  let v48 : BitVec 32 := Scalar.muli v47 c1_i32
  let v49 : BitVec 32 := Scalar.addi c0_i32_32 v48
  let c1_i32_34 : BitVec 32 := 1#32
  let arg13 : BitVec 32 := Scf.iv v49 c1_i32_34 k0_t2
  let c1_i32_130 : BitVec 32 := 1#32
  let v194 : BitVec 32 := Scalar.addi arg13 c1_i32_130
  let c1024_i32_131 : BitVec 32 := 1024#32
  let v195 : BitVec 32 := Scalar.muli v194 c1024_i32_131
  let v196 : BitVec 32 := v195
  let v197 : Index := Scalar.indexCast v196
  let c0_132 : Index := 0#32
  ![v197.toNat, 0]
def k0_off6 (i : grid0.Coords) (k0_t2 : Fin (k0_t2_loop i).trips) : Fin 4 → Nat :=
  let c0_134 : Index := 0#32
  let c0_i32_32 : BitVec 32 := 0#32
  let arg1 : BitVec 32 := BitVec.ofNat 32 (i 1).val
  let v45 : BitVec 32 := Scalar.subi arg1 c0_i32_32
  let c1_i32 : BitVec 32 := 1#32
  let v47 : BitVec 32 := Scalar.divsi v45 c1_i32
  let v48 : BitVec 32 := Scalar.muli v47 c1_i32
  let v49 : BitVec 32 := Scalar.addi c0_i32_32 v48
  let c1_i32_34 : BitVec 32 := 1#32
  let arg13 : BitVec 32 := Scf.iv v49 c1_i32_34 k0_t2
  let c1_i32_130 : BitVec 32 := 1#32
  let v194 : BitVec 32 := Scalar.addi arg13 c1_i32_130
  let v201 : Index := Scalar.indexCast v194
  let c0_135 : Index := 0#32
  let c0_136 : Index := 0#32
  ![0, v201.toNat, 0, 0]
def k0_off7 (i : grid0.Coords) (k0_t2 : Fin (k0_t2_loop i).trips) : Fin 4 → Nat :=
  let c1_138 : Index := 1#32
  let c0_i32_32 : BitVec 32 := 0#32
  let arg1 : BitVec 32 := BitVec.ofNat 32 (i 1).val
  let v45 : BitVec 32 := Scalar.subi arg1 c0_i32_32
  let c1_i32 : BitVec 32 := 1#32
  let v47 : BitVec 32 := Scalar.divsi v45 c1_i32
  let v48 : BitVec 32 := Scalar.muli v47 c1_i32
  let v49 : BitVec 32 := Scalar.addi c0_i32_32 v48
  let c1_i32_34 : BitVec 32 := 1#32
  let arg13 : BitVec 32 := Scf.iv v49 c1_i32_34 k0_t2
  let c1_i32_130 : BitVec 32 := 1#32
  let v194 : BitVec 32 := Scalar.addi arg13 c1_i32_130
  let v207 : Index := Scalar.indexCast v194
  let c0_139 : Index := 0#32
  let c0_140 : Index := 0#32
  ![1, v207.toNat, 0, 0]
def k0_mult5 (i : grid0.Coords) (k0_t2 : Fin (k0_t2_loop i).trips) : BitVec 32 :=
  let c0_i32_32 : BitVec 32 := 0#32
  let arg1 : BitVec 32 := BitVec.ofNat 32 (i 1).val
  let v45 : BitVec 32 := Scalar.subi arg1 c0_i32_32
  let c1_i32 : BitVec 32 := 1#32
  let v47 : BitVec 32 := Scalar.divsi v45 c1_i32
  let v48 : BitVec 32 := Scalar.muli v47 c1_i32
  let v49 : BitVec 32 := Scalar.addi c0_i32_32 v48
  let c1_i32_34 : BitVec 32 := 1#32
  let arg13 : BitVec 32 := Scf.iv v49 c1_i32_34 k0_t2
  let c1024_i32_141 : BitVec 32 := 1024#32
  let v212 : BitVec 32 := Scalar.muli arg13 c1024_i32_141
  v212
def k0_off8 (i : grid0.Coords) (k0_t2 : Fin (k0_t2_loop i).trips) : Fin 2 → Nat :=
  let c0_i32_32 : BitVec 32 := 0#32
  let arg1 : BitVec 32 := BitVec.ofNat 32 (i 1).val
  let v45 : BitVec 32 := Scalar.subi arg1 c0_i32_32
  let c1_i32 : BitVec 32 := 1#32
  let v47 : BitVec 32 := Scalar.divsi v45 c1_i32
  let v48 : BitVec 32 := Scalar.muli v47 c1_i32
  let v49 : BitVec 32 := Scalar.addi c0_i32_32 v48
  let c1_i32_34 : BitVec 32 := 1#32
  let arg13 : BitVec 32 := Scf.iv v49 c1_i32_34 k0_t2
  let c1024_i32_141 : BitVec 32 := 1024#32
  let v212 : BitVec 32 := Scalar.muli arg13 c1024_i32_141
  let v213 : BitVec 32 := v212
  let v214 : Index := Scalar.indexCast v213
  let c0_142 : Index := 0#32
  ![v214.toNat, 0]
def k0_mult6 (i : grid0.Coords) : BitVec 32 :=
  let arg1 : BitVec 32 := BitVec.ofNat 32 (i 1).val
  let c1024_i32 : BitVec 32 := 1024#32
  let v54 : BitVec 32 := Scalar.muli arg1 c1024_i32
  v54
def k0_off9 (i : grid0.Coords) : Fin 2 → Nat :=
  let arg1 : BitVec 32 := BitVec.ofNat 32 (i 1).val
  let c1024_i32 : BitVec 32 := 1024#32
  let v54 : BitVec 32 := Scalar.muli arg1 c1024_i32
  let v55 : BitVec 32 := v54
  let v56 : Index := Scalar.indexCast v55
  let c0_41 : Index := 0#32
  ![v56.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x16x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttendIdeal.lean ====
variable {F : FTy → Type} [FloatOps F] [Named F]
def κ : String → Option EReal := fun
  | "mask" => some ⊥
  | _ => none
-- ==== AttendRefIdeal.lean ====
abbrev S16384x512 : Shape := ⟨2, ![16384, 512]⟩
abbrev S16384x8 : Shape := ⟨2, ![16384, 8]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x1x16384 : Shape := ⟨3, ![8, 1, 16384]⟩
abbrev S8x64x16384 : Shape := ⟨3, ![8, 64, 16384]⟩
abbrev S4x2x16384 : Shape := ⟨3, ![4, 2, 16384]⟩
abbrev S4x16384x2 : Shape := ⟨3, ![4, 16384, 2]⟩
abbrev S4x16384x128 : Shape := ⟨3, ![4, 16384, 128]⟩

abbrev nBuf : Space → Nat
  | .hbm => 65
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384, .i32⟩
  | .hbm, ⟨5, _⟩ => ⟨S1x16384, .i32⟩
  | .hbm, ⟨6, _⟩ => ⟨S16384x1, .i32⟩
  | .hbm, ⟨7, _⟩ => ⟨S16384x16384, .i32⟩
  | .hbm, ⟨8, _⟩ => ⟨S16384x16384, .i32⟩
  | .hbm, ⟨9, _⟩ => ⟨S16384x16384, .i1⟩
  | .hbm, ⟨10, _⟩ => ⟨S16384x8x64, .f32⟩
  | .hbm, ⟨11, _⟩ => ⟨S16384x8x64, .f32⟩
  | .hbm, ⟨12, _⟩ => ⟨S8x16384x16384, .f32⟩
  | .hbm, ⟨13, _⟩ => ⟨S_, .f32⟩
  | .hbm, ⟨14, _⟩ => ⟨S8x16384x16384, .f32⟩
  | .hbm, ⟨15, _⟩ => ⟨S8x16384x16384, .f32⟩
  | .hbm, ⟨16, _⟩ => ⟨S8x16384, .f32⟩
  | .hbm, ⟨17, _⟩ => ⟨S8x16384x1, .f32⟩
  | .hbm, ⟨18, _⟩ => ⟨S8x16384x16384, .f32⟩
  | .hbm, ⟨19, _⟩ => ⟨S8x16384x16384, .f32⟩
  | .hbm, ⟨20, _⟩ => ⟨S8x16384, .f32⟩
  | .hbm, ⟨21, _⟩ => ⟨S8x1x16384, .f32⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S_, .f32⟩
  | .hbm, ⟨26, _⟩ => ⟨S8x16384x16384, .i1⟩
  | .hbm, ⟨27, _⟩ => ⟨S8x16384x16384, .f32⟩
  | .hbm, ⟨28, _⟩ => ⟨S8x16384x16384, .f32⟩
  | .hbm, ⟨29, _⟩ => ⟨S_, .f32⟩
  | .hbm, ⟨30, _⟩ => ⟨S8x16384, .f32⟩
  | .hbm, ⟨31, _⟩ => ⟨S_, .f32⟩
  | .hbm, ⟨32, _⟩ => ⟨S8x16384, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .f32⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S8x16384x1, .f32⟩
  | .hbm, ⟨41, _⟩ => ⟨S8x16384x16384, .f32⟩
  | .hbm, ⟨42, _⟩ => ⟨S8x16384x16384, .f32⟩
  | .hbm, ⟨43, _⟩ => ⟨S16384x8x64, .f32⟩
  | .hbm, ⟨44, _⟩ => ⟨S8x64x16384, .f32⟩
  | .hbm, ⟨45, _⟩ => ⟨S16384x8x64, .f32⟩
  | .hbm, ⟨46, _⟩ => ⟨S16384x512, .f32⟩
  | .hbm, ⟨47, _⟩ => ⟨S_, .f32⟩
  | .hbm, ⟨48, _⟩ => ⟨S8x16384, .f32⟩
  | .hbm, ⟨49, _⟩ => ⟨S8x16384x1, .f32⟩
  | .hbm, ⟨50, _⟩ => ⟨S8x16384x16384, .f32⟩
  | .hbm, ⟨51, _⟩ => ⟨S8x16384x16384, .f32⟩
  | .hbm, ⟨52, _⟩ => ⟨S8x16384x16384, .f32⟩
  | .hbm, ⟨53, _⟩ => ⟨S_, .f32⟩
  | .hbm, ⟨54, _⟩ => ⟨S8x16384, .f32⟩
  | .hbm, ⟨55, _⟩ => ⟨S8x16384, .f32⟩
  | .hbm, ⟨56, _⟩ => ⟨S8x16384, .f32⟩
  | .hbm, ⟨57, _⟩ => ⟨S8x16384, .f32⟩
  | .hbm, ⟨58, _⟩ => ⟨S8x16384, .f32⟩
  | .hbm, ⟨59, _⟩ => ⟨S4x2x16384, .f32⟩
  | .hbm, ⟨60, _⟩ => ⟨S4x16384x2, .f32⟩
  | .hbm, ⟨61, _⟩ => ⟨S_, .i32⟩
  | .hbm, ⟨62, _⟩ => ⟨S_, .f32⟩
  | .hbm, ⟨63, _⟩ => ⟨S4x16384x128, .f32⟩
  | .hbm, ⟨64, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_call1_v0 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Product.lean ====
abbrev S16384x1024 : Shape := ⟨2, ![16384, 1024]⟩
abbrev S16384x5760 : Shape := ⟨2, ![16384, 5760]⟩
abbrev S1024x5760 : Shape := ⟨2, ![1024, 5760]⟩
abbrev S4096x1024 : Shape := ⟨2, ![4096, 1024]⟩
abbrev S4096x640 : Shape := ⟨2, ![4096, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5760, .bf16⟩
  | .hbm, ⟨2, _⟩ => ⟨S1024x5760, .f32⟩
  | .local _ .vmem, ⟨0, _⟩ => ⟨S4096x1024, .bf16⟩
  | .local _ .vmem, ⟨1, _⟩ => ⟨S4096x1024, .bf16⟩
  | .local _ .vmem, ⟨2, _⟩ => ⟨S4096x640, .bf16⟩
  | .local _ .vmem, ⟨3, _⟩ => ⟨S4096x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductRefIdeal.lean ====
abbrev S16384x1024 : Shape := ⟨2, ![16384, 1024]⟩
abbrev S16384x5760 : Shape := ⟨2, ![16384, 5760]⟩
abbrev S1024x5760 : Shape := ⟨2, ![1024, 5760]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5760, .bf16⟩
  | .hbm, ⟨2, _⟩ => ⟨S1024x5760, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adam.lean ====
abbrev S8x1024x705 : Shape := ⟨3, ![8, 1024, 705]⟩
abbrev S1024x705 : Shape := ⟨2, ![1024, 705]⟩
abbrev S8x5640x128 : Shape := ⟨3, ![8, 5640, 128]⟩
abbrev S_ : Shape := ⟨0, ![]⟩
abbrev S8x6144x128 : Shape := ⟨3, ![8, 6144, 128]⟩
abbrev S5640x128 : Shape := ⟨2, ![5640, 128]⟩
abbrev S6144x128 : Shape := ⟨2, ![6144, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 32
  | .vmem => 16
  | .smem => 0
  | _ => 0

abbrev bufTy : (tb : Table) → Fin (tcTables nBuf tb) → BufTy
  | .hbm, ⟨0, _⟩ => ⟨S8x1024x705, .f32⟩
  | .hbm, ⟨1, _⟩ => ⟨S1024x705, .f32⟩
  | .hbm, ⟨2, _⟩ => ⟨S1024x705, .f32⟩
  | .hbm, ⟨3, _⟩ => ⟨S1024x705, .f32⟩
  | .hbm, ⟨4, _⟩ => ⟨S8x5640x128, .f32⟩
  | .hbm, ⟨5, _⟩ => ⟨S_, .i32⟩
  | .hbm, ⟨6, _⟩ => ⟨S_, .f32⟩
  | .hbm, ⟨7, _⟩ => ⟨S8x6144x128, .f32⟩
  | .hbm, ⟨8, _⟩ => ⟨S5640x128, .f32⟩
  | .hbm, ⟨9, _⟩ => ⟨S_, .i32⟩
  | .hbm, ⟨10, _⟩ => ⟨S_, .f32⟩
  | .hbm, ⟨11, _⟩ => ⟨S6144x128, .f32⟩
  | .hbm, ⟨12, _⟩ => ⟨S5640x128, .f32⟩
  | .hbm, ⟨13, _⟩ => ⟨S_, .i32⟩
  | .hbm, ⟨14, _⟩ => ⟨S_, .f32⟩
  | .hbm, ⟨15, _⟩ => ⟨S6144x128, .f32⟩
  | .hbm, ⟨16, _⟩ => ⟨S5640x128, .f32⟩
  | .hbm, ⟨17, _⟩ => ⟨S_, .i32⟩
  | .hbm, ⟨18, _⟩ => ⟨S_, .f32⟩
  | .hbm, ⟨19, _⟩ => ⟨S6144x128, .f32⟩
  | .hbm, ⟨20, _⟩ => ⟨S6144x128, .f32⟩
  | .hbm, ⟨21, _⟩ => ⟨S6144x128, .f32⟩
  | .hbm, ⟨22, _⟩ => ⟨S6144x128, .f32⟩
  | .hbm, ⟨23, _⟩ => ⟨S6144x128, .f32⟩
  | .hbm, ⟨24, _⟩ => ⟨S5640x128, .f32⟩
  | .hbm, ⟨25, _⟩ => ⟨S1024x705, .f32⟩
  | .hbm, ⟨26, _⟩ => ⟨S5640x128, .f32⟩
  | .hbm, ⟨27, _⟩ => ⟨S1024x705, .f32⟩
  | .hbm, ⟨28, _⟩ => ⟨S5640x128, .f32⟩
  | .hbm, ⟨29, _⟩ => ⟨S1024x705, .f32⟩
  | .hbm, ⟨30, _⟩ => ⟨S5640x128, .f32⟩
  | .hbm, ⟨31, _⟩ => ⟨S1024x705, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x1024x705, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamIdeal.lean ====
variable {F : FTy → Type} [FloatOps F] [Named F]
def κ : String → Option EReal := fun
  | "bias1" => some (((5463681 / 8388608)⁻¹ : ℝ) : EReal)
  | "bias2" => some (((2672307 / 268435456)⁻¹ : ℝ) : EReal)
  | _ => none
-- ==== AdamRefIdeal.lean ====
abbrev S8x1024x705 : Shape := ⟨3, ![8, 1024, 705]⟩
abbrev S1024x705 : Shape := ⟨2, ![1024, 705]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x705, .f32⟩
  | .hbm, ⟨1, _⟩ => ⟨S1024x705, .f32⟩
  | .hbm, ⟨2, _⟩ => ⟨S1024x705, .f32⟩
  | .hbm, ⟨3, _⟩ => ⟨S1024x705, .f32⟩
  | .hbm, ⟨4, _⟩ => ⟨S_, .f32⟩
  | .hbm, ⟨5, _⟩ => ⟨S1024x705, .f32⟩
  | .hbm, ⟨6, _⟩ => ⟨S_, .f32⟩
  | .hbm, ⟨7, _⟩ => ⟨S1024x705, .f32⟩
  | .hbm, ⟨8, _⟩ => ⟨S1024x705, .f32⟩
  | .hbm, ⟨9, _⟩ => ⟨S_, .f32⟩
  | .hbm, ⟨10, _⟩ => ⟨S1024x705, .f32⟩
  | .hbm, ⟨11, _⟩ => ⟨S1024x705, .f32⟩
  | .hbm, ⟨12, _⟩ => ⟨S1024x705, .f32⟩
  | .hbm, ⟨13, _⟩ => ⟨S_, .f32⟩
  | .hbm, ⟨14, _⟩ => ⟨S1024x705, .f32⟩
  | .hbm, ⟨15, _⟩ => ⟨S1024x705, .f32⟩
  | .hbm, ⟨16, _⟩ => ⟨S1024x705, .f32⟩
  | .hbm, ⟨17, _⟩ => ⟨S_, .f32⟩
  | .hbm, ⟨18, _⟩ => ⟨S1024x705, .f32⟩
  | .hbm, ⟨19, _⟩ => ⟨S1024x705, .f32⟩
  | .hbm, ⟨20, _⟩ => ⟨S1024x705, .f32⟩
  | .hbm, ⟨21, _⟩ => ⟨S_, .f32⟩
  | .hbm, ⟨22, _⟩ => ⟨S1024x705, .f32⟩
  | .hbm, ⟨23, _⟩ => ⟨S1024x705, .f32⟩
  | .hbm, ⟨24, _⟩ => ⟨S_, .f32⟩
  | .hbm, ⟨25, _⟩ => ⟨S1024x705, .f32⟩
  | .hbm, ⟨26, _⟩ => ⟨S1024x705, .f32⟩
  | .hbm, ⟨27, _⟩ => ⟨S1024x705, .f32⟩
  | .hbm, ⟨28, _⟩ => ⟨S_, .f32⟩
  | .hbm, ⟨29, _⟩ => ⟨S1024x705, .f32⟩
  | .hbm, ⟨30, _⟩ => ⟨S1024x705, .f32⟩
  | .hbm, ⟨31, _⟩ => ⟨S1024x705, .f32⟩
  | .hbm, ⟨32, _⟩ => ⟨S_, .f32⟩
  | .hbm, ⟨33, _⟩ => ⟨S1024x705, .f32⟩
  | .hbm, ⟨34, _⟩ => ⟨S1024x705, .f32⟩
  | .hbm, ⟨35, _⟩ => ⟨S1024x705, .f32⟩
  | .hbm, ⟨36, _⟩ => ⟨S_, .f32⟩
  | .hbm, ⟨37, _⟩ => ⟨S1024x705, .f32⟩
  | .hbm, ⟨38, _⟩ => ⟨S1024x705, .f32⟩
  | _, _ => ⟨S8x1024x705, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Scan.lean ====
abbrev S16384x5640 : Shape := ⟨2, ![16384, 5640]⟩
abbrev S512 : Shape := ⟨1, ![512]⟩
abbrev S16384x1536 : Shape := ⟨2, ![16384, 1536]⟩
abbrev S16384x2048 : Shape := ⟨2, ![16384, 2048]⟩
abbrev S16384x8 : Shape := ⟨2, ![16384, 8]⟩
abbrev S_ : Shape := ⟨0, ![]⟩
abbrev S16384x120 : Shape := ⟨2, ![16384, 120]⟩
abbrev S16384x5760 : Shape := ⟨2, ![16384, 5760]⟩
abbrev S16384x4224 : Shape := ⟨2, ![16384, 4224]⟩
abbrev S1x512 : Shape := ⟨2, ![1, 512]⟩
abbrev S16384x512 : Shape := ⟨2, ![16384, 512]⟩
abbrev S4x256x128x128 : Shape := ⟨4, ![4, 256, 128, 128]⟩
abbrev S512x512 : Shape := ⟨2, ![512, 512]⟩
abbrev S4x8x128x128 : Shape := ⟨4, ![4, 8, 128, 128]⟩
abbrev S4x128x128 : Shape := ⟨3, ![4, 128, 128]⟩
abbrev S64x64 : Shape := ⟨2, ![64, 64]⟩
abbrev S64x128 : Shape := ⟨2, ![64, 128]⟩
abbrev S1x128 : Shape := ⟨2, ![1, 128]⟩
abbrev S64x384 : Shape := ⟨2, ![64, 384]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 13
  | .vmem => 12
  | .smem => 0
  | _ => 0

abbrev bufTy : (tb : Table) → Fin (tcTables nBuf tb) → BufTy
  | .hbm, ⟨0, _⟩ => ⟨S16384x5640, .f32⟩
  | .hbm, ⟨1, _⟩ => ⟨S512, .f32⟩
  | .hbm, ⟨2, _⟩ => ⟨S16384x1536, .f32⟩
  | .hbm, ⟨3, _⟩ => ⟨S16384x2048, .f32⟩
  | .hbm, ⟨4, _⟩ => ⟨S16384x2048, .f32⟩
  | .hbm, ⟨5, _⟩ => ⟨S16384x8, .f32⟩
  | .hbm, ⟨6, _⟩ => ⟨S_, .f32⟩
  | .hbm, ⟨7, _⟩ => ⟨S16384x120, .f32⟩
  | .hbm, ⟨8, _⟩ => ⟨S16384x5760, .f32⟩
  | .hbm, ⟨9, _⟩ => ⟨S16384x4224, .f32⟩
  | .hbm, ⟨10, _⟩ => ⟨S1x512, .f32⟩
  | .hbm, ⟨11, _⟩ => ⟨S16384x512, .f32⟩
  | .hbm, ⟨12, _⟩ => ⟨S4x256x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S4x8x128x128, .f32⟩
  | .local _ .vmem, ⟨10, _⟩ => ⟨S4x8x128x128, .f32⟩
  | .local _ .vmem, ⟨11, _⟩ => ⟨S4x128x128, .f32⟩
  | _, _ => ⟨S16384x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_3 : BitVec 32 := 0#32
  let c8_i32 : BitVec 32 := 8#32
  let v11 : BitVec 32 := Scalar.addi c0_i32_3 c8_i32
  let c1_i32 : BitVec 32 := 1#32
  ⟨c0_i32_3, v11, c1_i32⟩
def k0_mult1 (k0_t1 : Fin k0_t1_loop.trips) : BitVec 32 :=
  let c0_i32_3 : BitVec 32 := 0#32
  let c1_i32 : BitVec 32 := 1#32
  let arg8 : BitVec 32 := Scf.iv c0_i32_3 c1_i32 k0_t1
  let c64_i32 : BitVec 32 := 64#32
  let v12 : BitVec 32 := Scalar.muli arg8 c64_i32
  v12
def k0_off1 (k0_t1 : Fin k0_t1_loop.trips) : Fin 2 → Nat :=
  let c0_i32_3 : BitVec 32 := 0#32
  let c1_i32 : BitVec 32 := 1#32
  let arg8 : BitVec 32 := Scf.iv c0_i32_3 c1_i32 k0_t1
  let c64_i32 : BitVec 32 := 64#32
  let v12 : BitVec 32 := Scalar.muli arg8 c64_i32
  let v13 : BitVec 32 := v12
  let v14 : Index := Scalar.indexCast v13
  let c0 : Index := 0#32
  ![v14.toNat, 0]
def k0_off2 (k0_t1 : Fin k0_t1_loop.trips) : Fin 4 → Nat :=
  let c0_15 : Index := 0#32
  let c0_i32_3 : BitVec 32 := 0#32
  let c1_i32 : BitVec 32 := 1#32
  let arg8 : BitVec 32 := Scf.iv c0_i32_3 c1_i32 k0_t1
  let v56 : Index := Scalar.indexCast arg8
  let c0_16 : Index := 0#32
  let c0_17 : Index := 0#32
  ![0, v56.toNat, 0, 0]
def k0_off3 (k0_t1 : Fin k0_t1_loop.trips) : Fin 2 → Nat :=
  let c0_i32_3 : BitVec 32 := 0#32
  let c1_i32 : BitVec 32 := 1#32
  let arg8 : BitVec 32 := Scf.iv c0_i32_3 c1_i32 k0_t1
  let c64_i32 : BitVec 32 := 64#32
  let v12 : BitVec 32 := Scalar.muli arg8 c64_i32
  let v13 : BitVec 32 := v12
  let v98 : Index := Scalar.indexCast v13
  let c128 : Index := 128#32
  ![v98.toNat, 128]
def k0_off4 (k0_t1 : Fin k0_t1_loop.trips) : Fin 4 → Nat :=
  let c1_36 : Index := 1#32
  let c0_i32_3 : BitVec 32 := 0#32
  let c1_i32 : BitVec 32 := 1#32
  let arg8 : BitVec 32 := Scf.iv c0_i32_3 c1_i32 k0_t1
  let v140 : Index := Scalar.indexCast arg8
  let c0_37 : Index := 0#32
  let c0_38 : Index := 0#32
  ![1, v140.toNat, 0, 0]
def k0_off5 (k0_t1 : Fin k0_t1_loop.trips) : Fin 2 → Nat :=
  let c0_i32_3 : BitVec 32 := 0#32
  let c1_i32 : BitVec 32 := 1#32
  let arg8 : BitVec 32 := Scf.iv c0_i32_3 c1_i32 k0_t1
  let c64_i32 : BitVec 32 := 64#32
  let v12 : BitVec 32 := Scalar.muli arg8 c64_i32
  let v13 : BitVec 32 := v12
  let v182 : Index := Scalar.indexCast v13
  let c256 : Index := 256#32
  ![v182.toNat, 256]
def k0_off6 (k0_t1 : Fin k0_t1_loop.trips) : Fin 4 → Nat :=
  let c2_57 : Index := 2#32
  let c0_i32_3 : BitVec 32 := 0#32
  let c1_i32 : BitVec 32 := 1#32
  let arg8 : BitVec 32 := Scf.iv c0_i32_3 c1_i32 k0_t1
  let v224 : Index := Scalar.indexCast arg8
  let c0_58 : Index := 0#32
  let c0_59 : Index := 0#32
  ![2, v224.toNat, 0, 0]
def k0_off7 (k0_t1 : Fin k0_t1_loop.trips) : Fin 2 → Nat :=
  let c0_i32_3 : BitVec 32 := 0#32
  let c1_i32 : BitVec 32 := 1#32
  let arg8 : BitVec 32 := Scf.iv c0_i32_3 c1_i32 k0_t1
  let c64_i32 : BitVec 32 := 64#32
  let v12 : BitVec 32 := Scalar.muli arg8 c64_i32
  let v13 : BitVec 32 := v12
  let v266 : Index := Scalar.indexCast v13
  let c384 : Index := 384#32
  ![v266.toNat, 384]
def k0_off8 (k0_t1 : Fin k0_t1_loop.trips) : Fin 4 → Nat :=
  let c3_78 : Index := 3#32
  let c0_i32_3 : BitVec 32 := 0#32
  let c1_i32 : BitVec 32 := 1#32
  let arg8 : BitVec 32 := Scf.iv c0_i32_3 c1_i32 k0_t1
  let v308 : Index := Scalar.indexCast arg8
  let c0_79 : Index := 0#32
  let c0_80 : Index := 0#32
  ![3, v308.toNat, 0, 0]
def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Dscan.lean ====
abbrev S16384x5640 : Shape := ⟨2, ![16384, 5640]⟩
abbrev S512 : Shape := ⟨1, ![512]⟩
abbrev S4x256x128x128 : Shape := ⟨4, ![4, 256, 128, 128]⟩
abbrev S16384x512 : Shape := ⟨2, ![16384, 512]⟩
abbrev S16384x1536 : Shape := ⟨2, ![16384, 1536]⟩
abbrev S16384x2048 : Shape := ⟨2, ![16384, 2048]⟩
abbrev S16384x8 : Shape := ⟨2, ![16384, 8]⟩
abbrev S_ : Shape := ⟨0, ![]⟩
abbrev S16384x120 : Shape := ⟨2, ![16384, 120]⟩
abbrev S16384x5760 : Shape := ⟨2, ![16384, 5760]⟩
abbrev S16384x4224 : Shape := ⟨2, ![16384, 4224]⟩
abbrev S1x512 : Shape := ⟨2, ![1, 512]⟩
abbrev S8x512 : Shape := ⟨2, ![8, 512]⟩
abbrev S512x512 : Shape := ⟨2, ![512, 512]⟩
abbrev S4x8x128x128 : Shape := ⟨4, ![4, 8, 128, 128]⟩
abbrev S4x128x128 : Shape := ⟨3, ![4, 128, 128]⟩
abbrev S64x64 : Shape := ⟨2, ![64, 64]⟩
abbrev S1x128 : Shape := ⟨2, ![1, 128]⟩
abbrev S64x128 : Shape := ⟨2, ![64, 128]⟩
abbrev S64x384 : Shape := ⟨2, ![64, 384]⟩
abbrev S1x1x128x128 : Shape := ⟨4, ![1, 1, 128, 128]⟩
abbrev S128x128 : Shape := ⟨2, ![128, 128]⟩
abbrev S1x128x128 : Shape := ⟨3, ![1, 128, 128]⟩
abbrev S128 : Shape := ⟨1, ![128]⟩

abbrev nBuf : Space → Nat
  | .hbm => 17
  | .vmem => 19
  | .smem => 0
  | _ => 0

abbrev bufTy : (tb : Table) → Fin (tcTables nBuf tb) → BufTy
  | .hbm, ⟨0, _⟩ => ⟨S16384x5640, .f32⟩
  | .hbm, ⟨1, _⟩ => ⟨S512, .f32⟩
  | .hbm, ⟨2, _⟩ => ⟨S4x256x128x128, .f32⟩
  | .hbm, ⟨3, _⟩ => ⟨S16384x512, .f32⟩
  | .hbm, ⟨4, _⟩ => ⟨S16384x1536, .f32⟩
  | .hbm, ⟨5, _⟩ => ⟨S16384x2048, .f32⟩
  | .hbm, ⟨6, _⟩ => ⟨S16384x2048, .f32⟩
  | .hbm, ⟨7, _⟩ => ⟨S16384x8, .f32⟩
  | .hbm, ⟨8, _⟩ => ⟨S_, .f32⟩
  | .hbm, ⟨9, _⟩ => ⟨S16384x120, .f32⟩
  | .hbm, ⟨10, _⟩ => ⟨S16384x5760, .f32⟩
  | .hbm, ⟨11, _⟩ => ⟨S16384x4224, .f32⟩
  | .hbm, ⟨12, _⟩ => ⟨S1x512, .f32⟩
  | .hbm, ⟨13, _⟩ => ⟨S16384x512, .bf16⟩
  | .hbm, ⟨14, _⟩ => ⟨S16384x512, .bf16⟩
  | .hbm, ⟨15, _⟩ => ⟨S16384x512, .bf16⟩
  | .hbm, ⟨16, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S4x8x128x128, .f32⟩
  | .local _ .vmem, ⟨8, _⟩ => ⟨S4x8x128x128, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S8x512, .f32⟩
  | .local _ .vmem, ⟨18, _⟩ => ⟨S4x128x128, .f32⟩
  | _, _ => ⟨S16384x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_5 : BitVec 32 := 0#32
  let c8_i32 : BitVec 32 := 8#32
  let v17 : BitVec 32 := Scalar.addi c0_i32_5 c8_i32
  let c1_i32 : BitVec 32 := 1#32
  ⟨c0_i32_5, v17, c1_i32⟩
def k0_mult1 (k0_t1 : Fin k0_t1_loop.trips) : BitVec 32 :=
  let c7_i32 : BitVec 32 := 7#32
  let c0_i32_5 : BitVec 32 := 0#32
  let c1_i32 : BitVec 32 := 1#32
  let arg12 : BitVec 32 := Scf.iv c0_i32_5 c1_i32 k0_t1
  let v18 : BitVec 32 := Scalar.subi c7_i32 arg12
  let c64_i32 : BitVec 32 := 64#32
  let v19 : BitVec 32 := Scalar.muli v18 c64_i32
  v19
def k0_off1 (k0_t1 : Fin k0_t1_loop.trips) : Fin 2 → Nat :=
  let c7_i32 : BitVec 32 := 7#32
  let c0_i32_5 : BitVec 32 := 0#32
  let c1_i32 : BitVec 32 := 1#32
  let arg12 : BitVec 32 := Scf.iv c0_i32_5 c1_i32 k0_t1
  let v18 : BitVec 32 := Scalar.subi c7_i32 arg12
  let c64_i32 : BitVec 32 := 64#32
  let v19 : BitVec 32 := Scalar.muli v18 c64_i32
  let v20 : BitVec 32 := v19
  let v23 : Index := Scalar.indexCast v20
  let c0_8 : Index := 0#32
  ![v23.toNat, 0]
def k0_off2 (k0_t1 : Fin k0_t1_loop.trips) : Fin 4 → Nat :=
  let c0_15 : Index := 0#32
  let c7_i32 : BitVec 32 := 7#32
  let c0_i32_5 : BitVec 32 := 0#32
  let c1_i32 : BitVec 32 := 1#32
  let arg12 : BitVec 32 := Scf.iv c0_i32_5 c1_i32 k0_t1
  let v18 : BitVec 32 := Scalar.subi c7_i32 arg12
  let v78 : Index := Scalar.indexCast v18
  let c0_16 : Index := 0#32
  let c0_17 : Index := 0#32
  ![0, v78.toNat, 0, 0]
def k0_off3 (k0_t1 : Fin k0_t1_loop.trips) : Fin 2 → Nat :=
  let c7_i32 : BitVec 32 := 7#32
  let c0_i32_5 : BitVec 32 := 0#32
  let c1_i32 : BitVec 32 := 1#32
  let arg12 : BitVec 32 := Scf.iv c0_i32_5 c1_i32 k0_t1
  let v18 : BitVec 32 := Scalar.subi c7_i32 arg12
  let c64_i32 : BitVec 32 := 64#32
  let v19 : BitVec 32 := Scalar.muli v18 c64_i32
  let v20 : BitVec 32 := v19
  let v200 : Index := Scalar.indexCast v20
  let c128_52 : Index := 128#32
  ![v200.toNat, 128]
def k0_off4 (k0_t1 : Fin k0_t1_loop.trips) : Fin 4 → Nat :=
  let c1 : Index := 1#32
  let c7_i32 : BitVec 32 := 7#32
  let c0_i32_5 : BitVec 32 := 0#32
  let c1_i32 : BitVec 32 := 1#32
  let arg12 : BitVec 32 := Scf.iv c0_i32_5 c1_i32 k0_t1
  let v18 : BitVec 32 := Scalar.subi c7_i32 arg12
  let v255 : Index := Scalar.indexCast v18
  let c0_59 : Index := 0#32
  let c0_60 : Index := 0#32
  ![1, v255.toNat, 0, 0]
def k0_off5 (k0_t1 : Fin k0_t1_loop.trips) : Fin 2 → Nat :=
  let c7_i32 : BitVec 32 := 7#32
  let c0_i32_5 : BitVec 32 := 0#32
  let c1_i32 : BitVec 32 := 1#32
  let arg12 : BitVec 32 := Scf.iv c0_i32_5 c1_i32 k0_t1
  let v18 : BitVec 32 := Scalar.subi c7_i32 arg12
  let c64_i32 : BitVec 32 := 64#32
  let v19 : BitVec 32 := Scalar.muli v18 c64_i32
  let v20 : BitVec 32 := v19
  let v377 : Index := Scalar.indexCast v20
  let c256_95 : Index := 256#32
  ![v377.toNat, 256]
def k0_off6 (k0_t1 : Fin k0_t1_loop.trips) : Fin 4 → Nat :=
  let c2 : Index := 2#32
  let c7_i32 : BitVec 32 := 7#32
  let c0_i32_5 : BitVec 32 := 0#32
  let c1_i32 : BitVec 32 := 1#32
  let arg12 : BitVec 32 := Scf.iv c0_i32_5 c1_i32 k0_t1
  let v18 : BitVec 32 := Scalar.subi c7_i32 arg12
  let v432 : Index := Scalar.indexCast v18
  let c0_102 : Index := 0#32
  let c0_103 : Index := 0#32
  ![2, v432.toNat, 0, 0]
def k0_off7 (k0_t1 : Fin k0_t1_loop.trips) : Fin 2 → Nat :=
  let c7_i32 : BitVec 32 := 7#32
  let c0_i32_5 : BitVec 32 := 0#32
  let c1_i32 : BitVec 32 := 1#32
  let arg12 : BitVec 32 := Scf.iv c0_i32_5 c1_i32 k0_t1
  let v18 : BitVec 32 := Scalar.subi c7_i32 arg12
  let c64_i32 : BitVec 32 := 64#32
  let v19 : BitVec 32 := Scalar.muli v18 c64_i32
  let v20 : BitVec 32 := v19
  let v554 : Index := Scalar.indexCast v20
  let c384_138 : Index := 384#32
  ![v554.toNat, 384]
def k0_off8 (k0_t1 : Fin k0_t1_loop.trips) : Fin 4 → Nat :=
  let c3 : Index := 3#32
  let c7_i32 : BitVec 32 := 7#32
  let c0_i32_5 : BitVec 32 := 0#32
  let c1_i32 : BitVec 32 := 1#32
  let arg12 : BitVec 32 := Scf.iv c0_i32_5 c1_i32 k0_t1
  let v18 : BitVec 32 := Scalar.subi c7_i32 arg12
  let v609 : Index := Scalar.indexCast v18
  let c0_145 : Index := 0#32
  let c0_146 : Index := 0#32
  ![3, v609.toNat, 0, 0]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Proof.DmergeValue.lean ====
/- The value of the merge gate's gradient: the kernel's four result arrays, read index by index, are what the reference computes. -/
module

public import proofs.«01_k».proof.Defs
public import proofs.«01_k».proof.Proof.Gen.DmergeIdeal.Value
public import proofs.«01_k».proof.Proof.Gen.DmergeRefIdeal.Run
public import proofs.«01_k».proof.Proof.Gen.DmergeRefIdeal.Read
public import Idealize.ShloMosaic.Lib.Pipeline.ValueKit
public import Idealize.ShloMosaic.Lib.Pipeline.ValueKit.Point
public import Idealize.ShloMosaic.Lib.IdealHost
public import Idealize.ShloMosaic.Lib.Claim

@[expose] public section

set_option maxRecDepth 16384

noncomputable section

namespace Cert.DmergeValue

open Cert.DmergeIdeal Cert.DmergeIdeal.Gen Idealize.ShloMosaic Idealize.ShloMosaic.TcCoe Idealize.SL.Sem

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 1] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

theorem row_lt (t : Fin cfg0.N) (r : Fin 512) : t.val * 512 + r.val < 16384 := by
  have := t.isLt; have : cfg0.N = 32 := N_0; omega

/-- The incoming gradient's block at point `t`. -/
theorem ct_read (c : Dev nD) (t : Fin cfg0.N) (r : Fin 512) (l : Fin 1024) :
    iblk m c 0 t (ix2 r l) = m ((c : Thread nD τ).loc main_arg3) (ix2 ⟨t.val * 512 + r.val, row_lt t r⟩ l) := by
  blk_ext [iblk, V, e0 t]

/-- The first branch's block at point `t`. -/
theorem pa_read (c : Dev nD) (t : Fin cfg0.N) (r : Fin 512) (l : Fin 1024) :
    iblk m c 3 t (ix2 r l) = m ((c : Thread nD τ).loc main_arg1) (ix2 ⟨t.val * 512 + r.val, row_lt t r⟩ l) := by
  blk_ext [iblk, V, e3 t]

/-- The second branch's block at point `t`. -/
theorem pb_read (c : Dev nD) (t : Fin cfg0.N) (r : Fin 512) (l : Fin 1024) :
    iblk m c 4 t (ix2 r l) = m ((c : Thread nD τ).loc main_arg2) (ix2 ⟨t.val * 512 + r.val, row_lt t r⟩ l) := by
  blk_ext [iblk, V, e4 t]

/-- The projection's columns in the kernel's order, its first 1536 left off. -/
def permuted (x : FVec Ideal S16384x5640 .f32) : FVec Ideal S16384x4224 .f32 :=
  extractStridedSlice S16384x4224 ![0, 1536]
    (concatenate S16384x5760 1
      [⟨S16384x1536, extractStridedSlice S16384x1536 ![0, 0] x slices_S16384x5640_S16384x1536_0_0⟩,
        ⟨S16384x2048, extractStridedSlice S16384x2048 ![0, 3592] x slices_S16384x5640_S16384x2048_0_3592⟩,
        ⟨S16384x2048, extractStridedSlice S16384x2048 ![0, 1544] x slices_S16384x5640_S16384x2048_0_1544⟩,
        ⟨S16384x8, extractStridedSlice S16384x8 ![0, 1536] x slices_S16384x5640_S16384x8_0_1536⟩,
        ⟨S16384x120, broadcastInDim S16384x120 ![] bcast_S_S16384x120 (constant S_ .f32 0x00000000#32)⟩]
      concatenates_S16384x1536_S16384x2048_S16384x2048_S16384x8_S16384x120_S16384x5760_d1)
    slices_S16384x5760_S16384x4224_0_1536

theorem entry_eq (c : Dev nD) : V m c main_v6 = permuted (m ((c : Thread nD τ).loc main_arg0)) := by
  show StableHlo.after hostOps0 (fun b => m (c, b)) (Proc.devRef .tc main_v6) = _
  after_results_simp <;> rfl

/-- The permuted projection at a gate's column. -/
theorem perm_read (x : FVec Ideal S16384x5640 .f32) (r : Fin 16384) (l : Fin 4224) (h : l.val < 2048) :
    permuted x (ix2 r l) = x (ix2 r ⟨3592 + l.val, by omega⟩) := by
  pointwise [permuted]
  rw [dif_pos h]

/-- The first gate's block at point `t`. -/
theorem ga_read (c : Dev nD) (t : Fin cfg0.N) (r : Fin 512) (l : Fin 1024) :
    X0_1 m c t (ix2 r l) = m ((c : Thread nD τ).loc main_arg0) (ix2 ⟨t.val * 512 + r.val, row_lt t r⟩ ⟨3592 + l.val, by omega⟩) := by
  refine Eq.trans ?_ ((congrFun (entry_eq m c) (ix2 ⟨t.val * 512 + r.val, row_lt t r⟩ ⟨l.val, by omega⟩)).trans (perm_read _ _ _ (by show l.val < 2048; omega)))
  unfold X0_1 Pipeline.Window.fill
  rw [dif_pos (moved0_1 t _)]
  blk_ext [iblk, e1 t]

/-- The second gate's block at point `t`. -/
theorem gb_read (c : Dev nD) (t : Fin cfg0.N) (r : Fin 512) (l : Fin 1024) :
    X0_2 m c t (ix2 r l) = m ((c : Thread nD τ).loc main_arg0) (ix2 ⟨t.val * 512 + r.val, row_lt t r⟩ ⟨4616 + l.val, by omega⟩) := by
  refine Eq.trans ?_ ((congrFun (entry_eq m c) (ix2 ⟨t.val * 512 + r.val, row_lt t r⟩ ⟨1024 + l.val, by omega⟩)).trans
    ((perm_read _ _ _ (by show 1024 + l.val < 2048; omega)).trans (congrArg (fun k => m ((c : Thread nD τ).loc main_arg0) (ix2 _ k))
      (Fin.ext (by show 3592 + (1024 + l.val) = 4616 + l.val; omega)))))
  unfold X0_2 Pipeline.Window.fill
  rw [dif_pos (moved0_2 t _)]
  blk_ext [iblk, e2 t]

open Cert.DmergeRefIdeal.Read in
/-- The reference's gradient of the first branch, read at a row and a column. -/
theorem ref39 (x0 : FVec Ideal S16384x5640 .f32) (x3 : FVec Ideal S16384x1024 .f32) (r : Fin 16384) (l : Fin 1024) :
    val_main_v39 (F := Ideal) x0 x3 (ix2 r l) = Ideal.logistic (x0 (ix2 r ⟨3592 + l.val, by omega⟩)) * x3 (ix2 r l) := by
  pointwise [val_main_v39, val_main_v36, val_main_v15, val_main_v14, val_main_v13, val_main_v12, val_main_v11, val_main_v10, val_main_v8, val_main_v31, val_main_cst, val_main_cst_0]
  rfl

open Cert.DmergeRefIdeal.Read in
/-- The reference's gradient of the second branch. -/
theorem ref40 (x0 : FVec Ideal S16384x5640 .f32) (x3 : FVec Ideal S16384x1024 .f32) (r : Fin 16384) (l : Fin 1024) :
    val_main_v40 (F := Ideal) x0 x3 (ix2 r l) = Ideal.logistic (x0 (ix2 r ⟨4616 + l.val, by omega⟩)) * x3 (ix2 r l) := by
  pointwise [val_main_v40, val_main_v33, val_main_v25, val_main_v24, val_main_v23, val_main_v22, val_main_v21, val_main_v20, val_main_v9, val_main_v32, val_main_cst_2, val_main_cst_3]
  rfl

open Cert.DmergeRefIdeal.Read in
/-- The reference's gradient of the first gate. -/
theorem ref41 (x0 : FVec Ideal S16384x5640 .f32) (x1 x3 : FVec Ideal S16384x1024 .f32) (r : Fin 16384) (l : Fin 1024) :
    val_main_v41 (F := Ideal) x0 x1 x3 (ix2 r l) =
      x3 (ix2 r l) * x1 (ix2 r l) * (Ideal.logistic (x0 (ix2 r ⟨3592 + l.val, by omega⟩)) * (1 - Ideal.logistic (x0 (ix2 r ⟨3592 + l.val, by omega⟩)))) := by
  pointwise [val_main_v41, val_main_v38, val_main_v37, val_main_v18, val_main_v17, val_main_v16, val_main_v15, val_main_v14, val_main_v13, val_main_v12, val_main_v11, val_main_v10, val_main_v8, val_main_v31, val_main_cst, val_main_cst_0, val_main_cst_1]
  rfl

open Cert.DmergeRefIdeal.Read in
/-- The reference's gradient of the second gate. -/
theorem ref42 (x0 : FVec Ideal S16384x5640 .f32) (x2 x3 : FVec Ideal S16384x1024 .f32) (r : Fin 16384) (l : Fin 1024) :
    val_main_v42 (F := Ideal) x0 x2 x3 (ix2 r l) =
      x3 (ix2 r l) * x2 (ix2 r l) * (Ideal.logistic (x0 (ix2 r ⟨4616 + l.val, by omega⟩)) * (1 - Ideal.logistic (x0 (ix2 r ⟨4616 + l.val, by omega⟩)))) := by
  pointwise [val_main_v42, val_main_v35, val_main_v34, val_main_v28, val_main_v27, val_main_v26, val_main_v25, val_main_v24, val_main_v23, val_main_v22, val_main_v21, val_main_v20, val_main_v9, val_main_v32, val_main_cst_2, val_main_cst_3, val_main_cst_4]
  rfl

theorem final5 (c : Dev nD) : (dats m 0 c).arrAt 5 cfg0.N
    = Cert.DmergeRefIdeal.Read.val_main_v39 (F := Ideal) (m ((c : Thread nD τ).loc main_arg0)) (m ((c : Thread nD τ).loc main_arg3)) := by
  refine (dats m 0 c).arrAt_eq_of_covers 5 _ (by decide +kernel) fun t hf y => ?_
  blk_simp
  rw [after0_5, outsAt0]; frame_out
  idx_vars y
  pointwise [k0_pay3, k0_pay1]
  rw [show ((View.whole main_v7_0).slice (win0_5.rect t)).emb (ix2 y0 y1) = (ix2 ⟨t.val * 512 + y0.val, row_lt t y0⟩ y1 : S16384x1024.Idx) by blk_ext [e5 t],
    ref39, ct_read, ga_read]
  exact mul_comm (G := EReal) _ _

theorem final6 (c : Dev nD) : (dats m 0 c).arrAt 6 cfg0.N
    = Cert.DmergeRefIdeal.Read.val_main_v40 (F := Ideal) (m ((c : Thread nD τ).loc main_arg0)) (m ((c : Thread nD τ).loc main_arg3)) := by
  refine (dats m 0 c).arrAt_eq_of_covers 6 _ (by decide +kernel) fun t hf y => ?_
  blk_simp
  rw [after0_6, outsAt0]; frame_out
  idx_vars y
  pointwise [k0_pay4, k0_pay2]
  rw [show ((View.whole main_v7_1).slice (win0_6.rect t)).emb (ix2 y0 y1) = (ix2 ⟨t.val * 512 + y0.val, row_lt t y0⟩ y1 : S16384x1024.Idx) by blk_ext [e6 t],
    ref40, ct_read, gb_read]
  exact mul_comm (G := EReal) _ _

theorem final7 (c : Dev nD) : (dats m 0 c).arrAt 7 cfg0.N
    = Cert.DmergeRefIdeal.Read.val_main_v41 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7, outsAt0]; frame_out
  idx_vars y
  pointwise [k0_pay5, k0_pay1]
  rw [show ((View.whole main_v7_2).slice (win0_7.rect t)).emb (ix2 y0 y1) = (ix2 ⟨t.val * 512 + y0.val, row_lt t y0⟩ y1 : S16384x1024.Idx) by blk_ext [e7 t],
    ref41, ct_read, pa_read, ga_read]
  exact mul_assoc (G := EReal) _ _ _

theorem final8 (c : Dev nD) : (dats m 0 c).arrAt 8 cfg0.N
    = Cert.DmergeRefIdeal.Read.val_main_v42 (F := Ideal) (m ((c : Thread nD τ).loc main_arg0)) (m ((c : Thread nD τ).loc main_arg2)) (m ((c : Thread nD τ).loc main_arg3)) := by
  refine (dats m 0 c).arrAt_eq_of_covers 8 _ (by decide +kernel) fun t hf y => ?_
  blk_simp
  rw [after0_8, outsAt0]; frame_out
  idx_vars y
  pointwise [k0_pay6, k0_pay2]
  rw [show ((View.whole main_v7_3).slice (win0_8.rect t)).emb (ix2 y0 y1) = (ix2 ⟨t.val * 512 + y0.val, row_lt t y0⟩ y1 : S16384x1024.Idx) by blk_ext [e8 t],
    ref42, ct_read, pb_read, gb_read]
  exact mul_assoc (G := EReal) _ _ _

/-- The two programs' results are equal, whatever the arguments. -/
theorem value : Cert.algebraic_DmergeIdeal_DmergeRefIdeal := by
  intro m g m' g' _ hm
  refine ⟨fun c => Cert.DmergeRefIdeal.Read.val_main_v39 (F := Ideal) (m ((c : Thread nD τ).loc main_arg0)) (m ((c : Thread nD τ).loc main_arg3)),
    fun c => Cert.DmergeRefIdeal.Read.val_main_v40 (F := Ideal) (m ((c : Thread nD τ).loc main_arg0)) (m ((c : Thread nD τ).loc main_arg3)),
    fun c => Cert.DmergeRefIdeal.Read.val_main_v41 (F := Ideal) (m ((c : Thread nD τ).loc main_arg0)) (m ((c : Thread nD τ).loc main_arg1)) (m ((c : Thread nD τ).loc main_arg3)),
    fun c => Cert.DmergeRefIdeal.Read.val_main_v42 (F := Ideal) (m ((c : Thread nD τ).loc main_arg0)) (m ((c : Thread nD τ).loc main_arg2)) (m ((c : Thread nD τ).loc main_arg3)), ?_, ?_⟩
  · refine θ_run_mono (Cert.DmergeIdeal.Value.run_blocks (F := Ideal) m g) fun r h c => ?_
    obtain ⟨h5, h6, h7, h8, hargs⟩ := h c
    exact ⟨h5.trans (final5 m c), h6.trans (final6 m c), h7.trans (final7 m c), h8.trans (final8 m c), hargs⟩
  · refine θ_run_mono (Cert.DmergeRefIdeal.Value.run (F := Ideal) m' g') fun r h c => ?_
    obtain ⟨h5, h6, h7, h8, hargs⟩ := h c
    obtain ⟨a0, a1, a2, a3⟩ := hm c
    rw [a0, a3] at h5 h6
    rw [a0, a1, a3] at h7
    rw [a0, a2, a3] at h8
    exact ⟨h5.trans (Cert.DmergeRefIdeal.Read.val_main_v39_eq _ _), h6.trans (Cert.DmergeRefIdeal.Read.val_main_v40_eq _ _),
      h7.trans (Cert.DmergeRefIdeal.Read.val_main_v41_eq _ _ _), h8.trans (Cert.DmergeRefIdeal.Read.val_main_v42_eq _ _ _), hargs⟩

/-- The reference runs to its end and leaves its arguments and every counter as they were. -/
theorem frame_ref : Cert.quiescent_DmergeRefIdeal := fun m g _ =>
  θ_run_mono (Cert.DmergeRefIdeal.Value.run (F := Ideal) m g) fun r h =>
    ⟨fun c => (h c).2.2.2.2, sem_eq_zero_of_no_sems (by decide) r.2⟩

end Cert.DmergeValue
-- ==== Proof.Finite.lean ====
/- Finiteness of extended reals: the bit pattern of +infinity, what a comparison `|x| < inf` says, and the calculation rules
   for finite values that the gradient identities use. -/
module

public import Idealize.ShloMosaic.Lib.ReduceAll
public import Idealize.ShloMosaic.Lib.IdealHost
public import Idealize.ShloMosaic.Lib.Pointwise

@[expose] public section

namespace Cert.Fin

open Idealize.ShloMosaic

/-- An extended real that is a real number. -/
def Real? (x : EReal) : Prop := ∃ r : ℝ, x = (r : EReal)

/-- The pattern `0x7F800000` denotes +infinity. -/
theorem ofBits_inf : Ideal.ofBits .f32 0x7F800000#32 = (⊤ : EReal) := by
  simp [Ideal.ofBits, Ideal.ieee]

/-- An element whose absolute value compares below +infinity is a real number. -/
theorem of_abs_lt {x : EReal} (h : Ideal.cmp .olt (max x (-x)) (Ideal.ofBits .f32 0x7F800000#32) = 1#1) : Real? x := by
  rw [ofBits_inf] at h
  induction x using EReal.rec with
  | bot => simp [Ideal.cmp] at h
  | top => simp [Ideal.cmp] at h
  | coe r => exact ⟨r, rfl⟩

end Cert.Fin
-- ==== Proof.DhidValue.lean ====
/- The value of the gated activation's gradient: the kernel's result array, read index by index, is what the reference computes. -/
module

public import proofs.«01_k».proof.Defs
public import proofs.«01_k».proof.Proof.Finite
public import proofs.«01_k».proof.Proof.Gen.DhidIdeal.Value
public import proofs.«01_k».proof.Proof.Gen.DhidRefIdeal.Run
public import proofs.«01_k».proof.Proof.Gen.DhidRefIdeal.Read
public import Idealize.ShloMosaic.Lib.Pipeline.ValueKit
public import Idealize.ShloMosaic.Lib.Pipeline.ValueKit.Point
public import Idealize.ShloMosaic.Lib.Claim

@[expose] public section

set_option maxRecDepth 16384

noncomputable section

namespace Cert.DhidValue

open Cert.DhidIdeal Cert.DhidIdeal.Gen Idealize.ShloMosaic Idealize.ShloMosaic.TcCoe Idealize.SL.Sem
open Cert.Fin

/-- The two spellings of the gate's derivative agree on real numbers. -/
theorem gate_deriv {g u a : EReal} (hg : Real? g) (hu : Real? u) (ha : Real? a) :
    a * u * (Ideal.logistic g * (1 + g * (1 - Ideal.logistic g)))
      = a * u * Ideal.logistic g + g * (a * u) * (Ideal.logistic g * (1 - Ideal.logistic g)) := by
  obtain ⟨g, rfl⟩ := hg
  obtain ⟨u, rfl⟩ := hu
  obtain ⟨a, rfl⟩ := ha
  rw [Ideal.logistic_coe]
  generalize (1 + Real.exp (-g))⁻¹ = s
  norm_cast
  ring

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 1] := (by decide +kernel : ∀ t : Fin grid0.N, _)
theorem e3 : ∀ t : Fin cfg0.N, win0_3.index t = ![t.val, 0] := (by decide +kernel : ∀ t : Fin grid0.N, _)

open Cert.DhidRefIdeal.Read in
/-- The reference's result, before its last cast, read at a row and a column. -/
theorem ref_read (x0 : FVec Ideal Cert.DhidRefIdeal.S16384x5632 .f32) (x1 : FVec Ideal Cert.DhidRefIdeal.S16384x2816 .f32) (r : Fin 16384) (l : Fin 5632) :
    val_main_v7 (F := Ideal) x0 x1 (ix2 r l) =
      if h : l.val < 2816 then
        x0 (ix2 r ⟨2816 + l.val, by omega⟩) * Ideal.logistic (x0 (ix2 r ⟨2816 + l.val, by omega⟩)) * x1 (ix2 r ⟨l.val, h⟩)
      else
        x1 (ix2 r ⟨l.val - 2816, by omega⟩) * x0 (ix2 r ⟨l.val - 2816, by omega⟩) * Ideal.logistic (x0 (ix2 r ⟨2816 + (l.val - 2816), by omega⟩))
          + x0 (ix2 r ⟨2816 + (l.val - 2816), by omega⟩) * (x1 (ix2 r ⟨l.val - 2816, by omega⟩) * x0 (ix2 r ⟨l.val - 2816, by omega⟩))
            * (Ideal.logistic (x0 (ix2 r ⟨2816 + (l.val - 2816), by omega⟩)) * (1 - Ideal.logistic (x0 (ix2 r ⟨2816 + (l.val - 2816), by omega⟩)))) := by
  pointwise [val_main_v8, val_main_v7, val_main_v4, val_main_v6, val_main_call1_v1, val_main_call1_v2, val_main_call1_v0, val_main_v5, val_main_v2_0, val_main_v2_1, val_main_v2_2, val_main_call0_v7, val_main_call0_v6, val_main_call0_v4, val_main_call0_v3, val_main_call0_v2, val_main_call0_v1, val_main_call0_v0, val_main_call0_cst, val_main_call0_cst_0, val_main_call0_cst_1, val_main_v0, val_main_v1]
  rfl

theorem row_lt (t : Fin cfg0.N) (r : Fin 256) : t.val * 256 + r.val < 16384 := by
  have := t.isLt; have : cfg0.N = 64 := N_0; omega

/-- Where point `t`'s block puts its element `(r, l)` in the result array. -/
theorem ix_out (t : Fin cfg0.N) (r : Fin 256) (l : Fin 5632) :
    ((View.whole main_v0).slice (win0_3.rect t)).emb (ix2 r l) = (ix2 ⟨t.val * 256 + r.val, row_lt t r⟩ l : S16384x5632.Idx) := by
  blk_ext [e3 t]

/-- The incoming gradient's block at point `t`. -/
theorem ct_read (c : Dev nD) (t : Fin cfg0.N) (r : Fin 256) (l : Fin 2816) :
    iblk m c 0 t (ix2 r l) = m ((c : Thread nD τ).loc main_arg1) (ix2 ⟨t.val * 256 + r.val, row_lt t r⟩ l) := by
  blk_ext [iblk, V, e0 t]

/-- The value half's block at point `t`. -/
theorem up_read (c : Dev nD) (t : Fin cfg0.N) (r : Fin 256) (l : Fin 2816) :
    iblk m c 1 t (ix2 r l) = m ((c : Thread nD τ).loc main_arg0) (ix2 ⟨t.val * 256 + r.val, row_lt t r⟩ ⟨l.val, by omega⟩) := by
  blk_ext [iblk, V, e1 t]

/-- The gate half's block at point `t`. -/
theorem gate_read (c : Dev nD) (t : Fin cfg0.N) (r : Fin 256) (l : Fin 2816) :
    iblk m c 2 t (ix2 r l) = m ((c : Thread nD τ).loc main_arg0) (ix2 ⟨t.val * 256 + r.val, row_lt t r⟩ ⟨2816 + l.val, by omega⟩) := by
  blk_ext [iblk, V, e2 t]

/-- THE RESULT ARRAY after the kernel, where the two arguments are real numbers, is the reference's result. -/
theorem final_o (c : Dev nD) (h0 : ∀ i, Real? (m ((c : Thread nD τ).loc main_arg0) i)) (h1 : ∀ i, Real? (m ((c : Thread nD τ).loc main_arg1) i)) :
    (dats m 0 c).arrAt 3 cfg0.N = Cert.DhidRefIdeal.Read.val_main_v8 (F := Ideal) (m ((c : Thread nD τ).loc main_arg0)) (m ((c : Thread nD τ).loc main_arg1)) := by
  refine (dats m 0 c).arrAt_eq_of_covers 3 _ (by decide +kernel) fun t hf y => ?_
  blk_simp
  rw [after0_3]; frame_out
  idx_vars y
  pointwise [k0_pay1, Cert.DhidRefIdeal.Read.val_main_v8]
  rw [ix_out, ref_read]
  by_cases h : y1.val < 2816
  · rw [dif_pos h, dif_pos h, ct_read, gate_read]
    exact mul_comm (G := EReal) _ _
  · rw [dif_neg h, dif_neg h, ct_read, gate_read, up_read]
    exact gate_deriv (h0 _) (h0 _) (h1 _)

/-- The shape facts the precondition states. -/
instance preFacts : Cert.Pre_dhid_finite.Facts := by
  constructor <;> decide

/-- Where the precondition holds, both arguments are real numbers. -/
theorem finite_of_pre [Cert.Pre_dhid_finite.Facts] (hp : Cert.Pre_DhidIdeal_dhid_finite m) (c : Dev nD) :
    (∀ i, Real? (m ((c : Thread nD τ).loc main_arg0) i)) ∧ (∀ i, Real? (m ((c : Thread nD τ).loc main_arg1) i)) := by
  have h := congrFun (hp c) ix0
  obtain ⟨h0, h1⟩ := IntOp.andi_eq_one.1 h
  exact ⟨fun i => of_abs_lt (Host.reduce_andi_all _ _ _ _ _ h0 i), fun i => of_abs_lt (Host.reduce_andi_all _ _ _ _ _ h1 i)⟩

/-- The two programs' results are equal where the arguments are real numbers. -/
theorem value [Cert.Pre_dhid_finite.Facts] :
    Cert.algebraic_DhidIdeal_DhidRefIdeal_pre_dhid_finite := by
  intro m g m' g' hp hm
  refine ⟨fun c => Cert.DhidRefIdeal.Read.val_main_v8 (F := Ideal) (m ((c : Thread nD τ).loc main_arg0)) (m ((c : Thread nD τ).loc main_arg1)), ?_, ?_⟩
  · refine θ_run_mono (Cert.DhidIdeal.Value.run_blocks (F := Ideal) m g) fun r h c => ?_
    obtain ⟨hv, ha0, ha1⟩ := h c
    exact ⟨hv.trans (final_o m c (finite_of_pre m hp c).1 (finite_of_pre m hp c).2), ha0, ha1⟩
  · refine θ_run_mono (Cert.DhidRefIdeal.Value.run (F := Ideal) m' g') fun r h c => ?_
    obtain ⟨hv, ha0, ha1⟩ := h c
    refine ⟨hv.trans ?_, ha0, ha1⟩
    rw [(hm c).1, (hm c).2]
    exact Cert.DhidRefIdeal.Read.val_main_v8_eq _ _

/-- The reference runs to its end and leaves its arguments and every counter as they were. -/
theorem frame_ref : Cert.quiescent_DhidRefIdeal := fun m g _ =>
  θ_run_mono (Cert.DhidRefIdeal.Value.run (F := Ideal) m g) fun r h =>
    ⟨fun c => (h c).2, sem_eq_zero_of_no_sems (by decide) r.2⟩

end Cert.DhidValue
-- ==== Proof.Norm.lean ====
/- Norms over a row of real numbers and their gradients: what a hand-written gradient computes, and what the chain rule gives. -/
module

public import Idealize.ShloMosaic.Lib.IdealHost
public import Idealize.ShloMosaic.Lib.Pointwise
public import Idealize.ShloMosaic.Lib.Pipeline.ValueKit.Acc
public import Mathlib.Tactic.Ring
public import Mathlib.Tactic.FieldSimp
public import Mathlib.Tactic.Linarith
public import Mathlib.Tactic.Positivity

@[expose] public section

noncomputable section

namespace Cert.Norm

open Idealize.ShloMosaic

/-! ### The programs' constants -/

theorem sum_coe {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

theorem n1024_eq : Ideal.ofBits .f32 0x44800000#32 = ((1024 : ℝ) : EReal) := by
  simp [Ideal.ofBits, Ideal.ieee]
  rw [← EReal.coe_mul]; norm_num

theorem n128_eq : Ideal.ofBits .f32 0x43000000#32 = ((128 : ℝ) : EReal) := by
  simp [Ideal.ofBits, Ideal.ieee]
  rw [← EReal.coe_mul]; norm_num

theorem two_eq : Ideal.ofBits .f32 0x40000000#32 = ((2 : ℝ) : EReal) := by
  simp [Ideal.ofBits, Ideal.ieee]
  rw [← EReal.coe_mul]; norm_num

theorem neg_half_eq : Ideal.ofBits .f32 0xBF000000#32 = ((-(1 / 2) : ℝ) : EReal) := by
  simp [Ideal.ofBits, Ideal.ieee]
  rw [← EReal.coe_mul]; norm_num

/-- The scale of the residual sum, as the programs hold it. -/
def α : ℝ := 11863283 / 8388608

theorem alpha_eq : Ideal.ofBits .f32 0x3FB504F3#32 = (α : EReal) := by
  simp [Ideal.ofBits, Ideal.ieee]
  rw [← EReal.coe_mul, α]; norm_num

/-- The constant under the root of the layer norm, as the programs hold it. -/
def ε : ℝ := 10995116 / 1099511627776

theorem eps_pos : 0 < ε := by rw [ε]; norm_num

theorem eps_eq : Ideal.ofBits .f32 0x3727C5AC#32 = (ε : EReal) := by
  simp [Ideal.ofBits, Ideal.ieee]
  rw [← EReal.coe_mul, ε]; norm_num

/-- The constant under the root of the gated norm, as the programs hold it. -/
def εg : ℝ := 8796093 / 8796093022208

theorem epsg_pos : 0 < εg := by rw [εg]; norm_num

theorem epsg_eq : Ideal.ofBits .f32 0x358637BD#32 = (εg : EReal) := by
  simp [Ideal.ofBits, Ideal.ieee]
  rw [← EReal.coe_mul, εg]; norm_num

theorem rsqrt_pos {v : ℝ} (h : 0 < v) : Ideal.rsqrt (v : EReal) = (((Real.sqrt v)⁻¹ : ℝ) : EReal) := by
  rw [Ideal.rsqrt_coe, if_neg (not_lt.mpr h.le), if_neg h.ne']

theorem div_real {d : ℝ} (h : d ≠ 0) (x : ℝ) : Ideal.div (x : EReal) (d : EReal) = ((x * (1 / d) : ℝ) : EReal) := by
  rw [Ideal.div_coe h, ← EReal.coe_mul]

/-! ### The norm of a row -/

section Row

variable {n : ℕ} (κ e : ℝ) (y c : Fin n → ℝ)

/-- The mean of a row, `κ` the reciprocal of its length. -/
def mean : ℝ := (∑ l, y l) * κ
/-- A row without its mean. -/
def cen (l : Fin n) : ℝ := y l - mean κ y
/-- The mean of a row's squares, and the constant. -/
def sq : ℝ := (∑ l, y l * y l) * κ + e
/-- The factor that the norm gives a row. -/
def rs : ℝ := (Real.sqrt (sq κ e y))⁻¹

/-- The gradient written out by hand: for a row `y` scaled by `rs`. -/
def byHand (l : Fin n) : ℝ := c l - y l * rs κ e y * ((∑ k, c k * (y k * rs κ e y)) * κ)
/-- The gradient by the chain rule: through the factor, through the root, through the mean of the squares. -/
def slope : ℝ := (∑ k, y k * c k) * (-(1 / 2) * (rs κ e y * (1 / sq κ e y))) * κ
def byRule (l : Fin n) : ℝ := c l * rs κ e y + slope κ e y c * (2 * y l)

variable {κ e}

theorem sq_pos (hκ : 0 < κ) (he : 0 < e) : 0 < sq κ e y := by
  have : 0 ≤ ∑ l, y l * y l := Finset.sum_nonneg fun l _ => mul_self_nonneg (y l)
  rw [sq]; positivity

theorem rs_sq (hκ : 0 < κ) (he : 0 < e) : 1 / sq κ e y = rs κ e y * rs κ e y := by
  rw [rs, ← mul_inv, Real.mul_self_sqrt (sq_pos y hκ he).le, one_div]

theorem hand_sum : (∑ k, c k * (y k * rs κ e y)) = rs κ e y * ∑ k, y k * c k := by
  rw [Finset.mul_sum]; exact Finset.sum_congr rfl fun k _ => by ring

/-- The two gradients of the scaled row are one. -/
theorem rule_eq (hκ : 0 < κ) (he : 0 < e) (l : Fin n) : byRule κ e y c l = rs κ e y * byHand κ e y c l := by
  rw [byRule, slope, byHand, hand_sum, rs_sq y hκ he]; ring

/-- What a mean takes away sums to nothing. -/
theorem sum_cen (hn : κ * n = 1) : ∑ l, cen κ y l = 0 := by
  simp only [cen, Finset.sum_sub_distrib, Finset.sum_const, Finset.card_univ, Fintype.card_fin, nsmul_eq_mul, mean]
  linear_combination -(∑ l, y l) * hn

/-- The layer norm's gradient by the chain rule, its mean's share included. -/
theorem layer_eq (hκ : 0 < κ) (he : 0 < e) (hn : κ * n = 1) (z : Fin n → ℝ) (l : Fin n) :
    byRule κ e (cen κ z) c l + ((∑ k, -(c k * rs κ e (cen κ z))) + ∑ k, -(slope κ e (cen κ z) c * (2 * cen κ z k))) * κ
      = rs κ e (cen κ z) * (c l - mean κ c - cen κ z l * rs κ e (cen κ z) * ((∑ k, c k * (cen κ z k * rs κ e (cen κ z))) * κ)) := by
  have h1 : (∑ k, -(c k * rs κ e (cen κ z))) = -(rs κ e (cen κ z) * ∑ k, c k) := by
    rw [Finset.sum_neg_distrib, Finset.mul_sum]; exact congrArg _ (Finset.sum_congr rfl fun k _ => by ring)
  have h2 : (∑ k, -(slope κ e (cen κ z) c * (2 * cen κ z k))) = 0 := by
    have : (∑ k, slope κ e (cen κ z) c * (2 * cen κ z k)) = slope κ e (cen κ z) c * 2 * ∑ k, cen κ z k := by
      rw [Finset.mul_sum]; exact Finset.sum_congr rfl fun k _ => by ring
    rw [Finset.sum_neg_distrib, this, sum_cen z hn, mul_zero, neg_zero]
  rw [h1, h2, rule_eq _ c hκ he, byHand, mean]; ring

end Row

/-! ### The rows of the residual sum -/

section Rows

variable {ι : Type}

/-- A row of the residual sum. -/
def Z (X Y : ι → Fin 1024 → ℝ) (t : ι) (l : Fin 1024) : ℝ := α * X t l + Y t l
/-- What comes back to the norm's result: from the residual sum that it enters, and from the layer that reads it. -/
def D (U W : ι → Fin 1024 → ℝ) (t : ι) (l : Fin 1024) : ℝ := W t l + α * U t l
/-- A row of it times the norm's scale. -/
def C (U W : ι → Fin 1024 → ℝ) (G : Fin 1024 → ℝ) (t : ι) (l : Fin 1024) : ℝ := D U W t l * G l

end Rows

/-- The reciprocal of a row's length. -/
abbrev κ : ℝ := 1 / 1024

theorem k_ne : (1024 : ℝ) ≠ 0 := by norm_num
theorem k_pos : 0 < κ := by norm_num
theorem k_one : κ * ((1024 : ℕ) : ℝ) = 1 := by norm_num

/-- The gradient of a residual sum through its norm, `d` the norm's result's gradient times its scale. -/
def dz (z d : Fin 1024 → ℝ) (l : Fin 1024) : ℝ :=
  rs κ ε (cen κ z) * (d l - mean κ d - cen κ z l * rs κ ε (cen κ z) * ((∑ k, d k * (cen κ z k * rs κ ε (cen κ z))) * κ))
/-- A normed row. -/
def hat (z : Fin 1024 → ℝ) (l : Fin 1024) : ℝ := cen κ z l * rs κ ε (cen κ z)

/-! ### The loss -/

section Loss

variable {ι : Type} (X Y W : ι → Fin 1024 → ℝ) (G S : Fin 1024 → ℝ) (t : ι) (l : Fin 1024)

/-- How far a row of the norm's result is from its target. -/
def miss : ℝ := hat (Z X Y t) l * G l + S l - W t l
/-- The loss's gradient there. -/
def dmiss : ℝ := miss X Y W G S t l * κ
/-- It, times the norm's scale. -/
def cmiss : ℝ := dmiss X Y W G S t l * G l

end Loss

theorem half_eq : Ideal.ofBits .f32 0x3F000000#32 = ((1 / 2 : ℝ) : EReal) := by
  simp [Ideal.ofBits, Ideal.ieee]
  rw [← EReal.coe_mul]; norm_num

theorem k_eq : Ideal.ofBits .f32 0x3A800000#32 = (κ : EReal) := by
  simp [Ideal.ofBits, Ideal.ieee]
  rw [← EReal.coe_mul]; norm_num

theorem half_k_eq : Ideal.ofBits .f32 0x3A000000#32 = ((1 / 2048 : ℝ) : EReal) := by
  simp [Ideal.ofBits, Ideal.ieee]
  rw [← EReal.coe_mul]; norm_num

/-! ### Rows of four heads -/

/-- The reciprocal of a head's width. -/
abbrev κh : ℝ := 1 / 128

theorem h_ne : (128 : ℝ) ≠ 0 := by norm_num
theorem h_pos : 0 < κh := by norm_num

/-- A gate. -/
def σ (x : ℝ) : ℝ := (1 + Real.exp (-x))⁻¹

/-- A row's head. -/
def head (f : Fin 512 → ℝ) (h : Fin 4) (k : Fin 128) : ℝ := f ⟨h.val * 128 + k.val, by omega⟩
/-- What comes back to the normed row through the gate. -/
def through (v b : Fin 512 → ℝ) (h : Fin 4) (k : Fin 128) : ℝ := head v h k * σ (head b h k)
/-- A normed head. -/
def hatg (o : Fin 512 → ℝ) (h : Fin 4) (k : Fin 128) : ℝ := head o h k * rs κh εg (head o h)
/-- The gradient of a head. -/
def dog (o v b : Fin 512 → ℝ) (N : Fin 128 → ℝ) (h : Fin 4) (k : Fin 128) : ℝ :=
  rs κh εg (head o h) * byHand κh εg (head o h) (fun k => through v b h k * N k) k
/-- The gradient of its gate. -/
def dgg (o v b : Fin 512 → ℝ) (N : Fin 128 → ℝ) (h : Fin 4) (k : Fin 128) : ℝ :=
  head v h k * hatg o h k * N k * σ (head b h k) * (1 - σ (head b h k))

/-- The rows of a whole array, gathered eight apart within each of 32 blocks of 512. -/
theorem sum_rows {N : ℕ} (hN : N = 32) (f : Fin 16384 → ℝ) :
    (∑ s : Fin 8, ∑ t : Fin N, ∑ q : Fin 64, f ⟨t.val * 512 + (q.val * 8 + s.val), by omega⟩) = ∑ i : Fin 16384, f i := by
  subst hN
  have h : ∀ t : Fin 32, (∑ s : Fin 8, ∑ q : Fin 64, f ⟨t.val * 512 + (q.val * 8 + s.val), by omega⟩) = ∑ r : Fin 512, f ⟨t.val * 512 + r.val, by omega⟩ := fun t => by
    rw [Finset.sum_comm]
    exact Fin.sum_mul_add_congr (f := fun r : Fin 512 => f ⟨t.val * 512 + r.val, by omega⟩) fun q s hl => rfl
  rw [Finset.sum_comm]
  simp only [h]
  exact Fin.sum_mul_add_congr (f := f) fun t r hl => rfl

end Cert.Norm

end
-- ==== Proof.DlnRef.lean ====
/- The layer norm's gradient by the chain rule, line by line of the reference, at real arguments. -/
module

public import proofs.«01_k».proof.Defs
public import proofs.«01_k».proof.Proof.Norm
public import proofs.«01_k».proof.Proof.Gen.DlnRefIdeal.Read
public import Idealize.ShloMosaic.Lib.Pipeline.ValueKit.Point
public import Idealize.ShloMosaic.Lib.IdealHost

@[expose] public section

set_option maxRecDepth 16384

noncomputable section

namespace Cert.DlnRef

open Cert.Norm Cert.DlnRefIdeal Cert.DlnRefIdeal.Read Idealize.ShloMosaic

variable {x y u w : FVec Ideal S16384x1024 .f32} {g : FVec Ideal S1024 .f32}
variable {X Y U W : Fin 16384 → Fin 1024 → ℝ} {G : Fin 1024 → ℝ}

section Stat

variable (hx : ∀ t l, x (ix2 t l) = (X t l : EReal)) (hy : ∀ t l, y (ix2 t l) = (Y t l : EReal))
include hx hy

theorem sum_at (t : Fin 16384) (l : Fin 1024) : val_main_v3 (F := Ideal) x y (ix2 t l) = (Z X Y t l : EReal) := by
  pointwise [val_main_v3, val_main_v2, val_main_v1, val_main_cst_0]
  rw [hx, hy, alpha_eq, ← EReal.coe_mul, ← EReal.coe_add]; rfl

theorem mean_at (t : Fin 16384) : val_main_v7 (F := Ideal) x y (ix2 t (0 : Fin 1)) = (mean κ (Z X Y t) : EReal) := by
  pointwise [val_main_v7, val_main_v5, val_main_v4, val_main_v6, val_main_cst_1, val_main_cst_2]
  simp only [sum_at hx hy, sum_coe, n1024_eq, div_real k_ne]
  rfl

theorem cen_at (t : Fin 16384) (l : Fin 1024) : val_main_v9 (F := Ideal) x y (ix2 t l) = (cen κ (Z X Y t) l : EReal) := by
  pointwise [val_main_v9, val_main_v8]
  rw [sum_at hx hy, mean_at hx hy, ← EReal.coe_sub]; rfl

theorem cen_at' (t : Fin 16384) (l : Fin 1024) : val_main_v18 (F := Ideal) x y (ix2 t l) = (cen κ (Z X Y t) l : EReal) := by
  pointwise [val_main_v18, val_main_v17]
  rw [sum_at hx hy, mean_at hx hy, ← EReal.coe_sub]; rfl

theorem sq_at (t : Fin 16384) : val_main_v20 (F := Ideal) x y (ix2 t (0 : Fin 1)) = (sq κ ε (cen κ (Z X Y t)) : EReal) := by
  pointwise [val_main_v20, val_main_v16, val_main_v14, val_main_v13, val_main_v10, val_main_v15, val_main_v19, val_main_cst_4, val_main_cst_5, val_main_cst_6]
  simp only [cen_at hx hy, ← EReal.coe_mul, sum_coe, n1024_eq, div_real k_ne, eps_eq, ← EReal.coe_add]
  rfl

theorem rs_at (t : Fin 16384) : val_main_v21 (F := Ideal) x y (ix2 t (0 : Fin 1)) = (rs κ ε (cen κ (Z X Y t)) : EReal) := by
  pointwise [val_main_v21]
  rw [sq_at hx hy, rsqrt_pos (sq_pos _ k_pos eps_pos)]; rfl

theorem root_at (t : Fin 16384) : val_main_v24 (F := Ideal) x y (ix2 t (0 : Fin 1))
    = ((-(1 / 2) * (rs κ ε (cen κ (Z X Y t)) * (1 / sq κ ε (cen κ (Z X Y t)))) : ℝ) : EReal) := by
  pointwise [val_main_v24, val_main_v23, val_main_v22, val_main_cst_7]
  rw [rs_at hx hy, sq_at hx hy, div_real (sq_pos _ k_pos eps_pos).ne', neg_half_eq, ← EReal.coe_mul]

theorem hat_at (t : Fin 16384) (l : Fin 1024) : val_main_v26 (F := Ideal) x y (ix2 t l)
    = (hat (Z X Y t) l : EReal) := by
  pointwise [val_main_v26, val_main_v25]
  rw [cen_at' hx hy, rs_at hx hy, ← EReal.coe_mul]; rfl

end Stat

section Back

variable (hx : ∀ t l, x (ix2 t l) = (X t l : EReal)) (hy : ∀ t l, y (ix2 t l) = (Y t l : EReal))
variable (hu : ∀ t l, u (ix2 t l) = (U t l : EReal)) (hw : ∀ t l, w (ix2 t l) = (W t l : EReal)) (hg : ∀ l, g (ix1 l) = (G l : EReal))
include hu hw

theorem back_at (t : Fin 16384) (l : Fin 1024) : val_main_v38 (F := Ideal) u w (ix2 t l) = (D U W t l : EReal) := by
  pointwise [val_main_v38, val_main_v37, val_main_v36, val_main_v35, val_main_cst_9]
  rw [hu, hw, alpha_eq, ← EReal.coe_mul, ← EReal.coe_add]; rfl

/-- The shift's gradient. -/
theorem db_at (l : Fin 1024) : val_main_v41 (F := Ideal) u w (ix1 l) = ((∑ t, D U W t l : ℝ) : EReal) := by
  have e := fun t => back_at hu hw t l
  pointwise [val_main_v38] at e
  pointwise [val_main_v41, val_main_v40, val_main_v39, val_main_cst_10, val_main_cst_11]
  rw [Fintype.sum_unique]
  simp only [e, sum_coe]

include hx hy in
/-- The scale's gradient. -/
theorem dg_at (l : Fin 1024) : val_main_v47 (F := Ideal) x y u w (ix1 l)
    = ((∑ t, hat (Z X Y t) l * D U W t l : ℝ) : EReal) := by
  pointwise [val_main_v47, val_main_v44, val_main_v43, val_main_v42, val_main_cst_12, val_main_cst_13]
  rw [Fintype.sum_unique]
  simp only [hat_at hx hy, back_at hu hw, ← EReal.coe_mul, sum_coe]

include hg

theorem scaled_at (t : Fin 16384) (l : Fin 1024) : val_main_v46 (F := Ideal) g u w (ix2 t l) = (C U W G t l : EReal) := by
  pointwise [val_main_v46, val_main_v45, val_main_v27]
  rw [back_at hu hw, hg, ← EReal.coe_mul]; rfl

include hx hy

theorem part_at (t : Fin 16384) (l : Fin 1024) : val_main_v52 (F := Ideal) x y g u w (ix2 t l)
    = ((C U W G t l * rs κ ε (cen κ (Z X Y t)) : ℝ) : EReal) := by
  pointwise [val_main_v52, val_main_v51]
  rw [scaled_at hu hw hg, rs_at hx hy, ← EReal.coe_mul]

theorem slope_at (t : Fin 16384) : val_main_v58 (F := Ideal) x y g u w (ix2 t (0 : Fin 1)) = (slope κ ε (cen κ (Z X Y t)) (C U W G t) : EReal) := by
  pointwise [val_main_v58, val_main_v57, val_main_v53, val_main_v50, val_main_v49, val_main_v48, val_main_cst_14, val_main_cst_16]
  simp only [cen_at' hx hy, scaled_at hu hw hg, root_at hx hy, ← EReal.coe_mul, sum_coe, n1024_eq, div_real k_ne]
  rfl

theorem through_at (t : Fin 16384) (l : Fin 1024) : val_main_v61 (F := Ideal) x y g u w (ix2 t l)
    = ((slope κ ε (cen κ (Z X Y t)) (C U W G t) * (2 * cen κ (Z X Y t) l) : ℝ) : EReal) := by
  have e := slope_at hx hy hu hw hg t
  pointwise [val_main_v61, val_main_v60, val_main_v59, val_main_v12, val_main_v11, val_main_cst_3, val_main_cst_17]
  rw [Fintype.sum_unique, show (default : Fin 1) = 0 from rfl, e, cen_at hx hy, two_eq, ← EReal.coe_mul, ← EReal.coe_mul]

/-- The residual sum's gradient. -/
theorem dz_at (t : Fin 16384) (l : Fin 1024) : val_main_v71 (F := Ideal) x y g u w (ix2 t l)
    = (dz (Z X Y t) (C U W G t) l : EReal) := by
  rw [dz, ← layer_eq (C U W G t) k_pos eps_pos k_one]
  have e1 := fun l => part_at hx hy hu hw hg t l
  have e2 := fun l => through_at hx hy hu hw hg t l
  pointwise [val_main_v71, val_main_v70, val_main_v69, val_main_v68, val_main_v67, val_main_v66, val_main_v65, val_main_v64, val_main_v63, val_main_v62, val_main_v56, val_main_v55, val_main_v54, val_main_cst_15, val_main_cst_18, val_main_cst_19, val_main_cst_20]
  rw [Fintype.sum_unique]
  simp only [e1, e2, ← EReal.coe_neg, sum_coe, ← EReal.coe_add, n1024_eq, div_real k_ne]
  rfl

end Back

end Cert.DlnRef

end
-- ==== Proof.DlnPoint.lean ====
/- What one point of the layer norm's gradient computes, at real arguments. -/
module

public import proofs.«01_k».proof.Defs
public import proofs.«01_k».proof.Proof.Norm
public import proofs.«01_k».proof.Proof.Gen.DlnIdeal.Skeleton
public import Idealize.ShloMosaic.Lib.Pipeline.ValueKit.Point
public import Idealize.ShloMosaic.Lib.IdealHost

@[expose] public section

set_option maxRecDepth 16384

noncomputable section

namespace Cert.DlnPoint

open Cert.Norm Cert.DlnIdeal Cert.DlnIdeal.Gen Idealize.ShloMosaic

variable {x y u w : Vec Ideal S512x1024 .f32} {g : Vec Ideal S1x1024 .f32}
variable {X Y U W : Fin 512 → Fin 1024 → ℝ} {G : Fin 1024 → ℝ}

section Stat

variable (hx : ∀ r l, x (ix2 r l) = (X r l : EReal)) (hy : ∀ r l, y (ix2 r l) = (Y r l : EReal))
include hx hy

theorem cen_at (r : Fin 512) (l : Fin 1024) : k0_pay8 x y (ix2 r l) = (cen κ (Z X Y r) l : EReal) := by
  pointwise [k0_pay8]
  simp only [hx, hy, alpha_eq, ← EReal.coe_mul, ← EReal.coe_add, sum_coe, n1024_eq, div_real k_ne, ← EReal.coe_sub]
  rfl

theorem rs_at (r : Fin 512) : k0_pay9 x y (ix2 r (0 : Fin 1)) = (rs κ ε (cen κ (Z X Y r)) : EReal) := by
  pointwise [k0_pay9]
  simp only [cen_at hx hy, ← EReal.coe_mul, ← EReal.coe_add, sum_coe, n1024_eq, div_real k_ne, eps_eq]
  exact rsqrt_pos (sq_pos _ k_pos eps_pos)

theorem hat_at (r : Fin 512) (l : Fin 1024) : k0_pay10 x y (ix2 r l) = (hat (Z X Y r) l : EReal) := by
  pointwise [k0_pay10]
  rw [cen_at hx hy, rs_at hx hy, ← EReal.coe_mul]; rfl

end Stat

section Back

variable (hu : ∀ r l, u (ix2 r l) = (U r l : EReal)) (hw : ∀ r l, w (ix2 r l) = (W r l : EReal))
include hu hw

theorem back_at (r : Fin 512) (l : Fin 1024) : k0_pay7 u w (ix2 r l) = (D U W r l : EReal) := by
  pointwise [k0_pay7]
  rw [hu, hw, alpha_eq, ← EReal.coe_mul, ← EReal.coe_add, D, add_comm]

variable (hg : ∀ l, g (ix2 (0 : Fin 1) l) = (G l : EReal))
include hg

theorem scaled_at (r : Fin 512) (l : Fin 1024) : k0_pay11 u w g (ix2 r l) = (C U W G r l : EReal) := by
  pointwise [k0_pay11]
  rw [back_at hu hw, hg, ← EReal.coe_mul]; rfl

theorem less_mean_at (r : Fin 512) (l : Fin 1024) : k0_pay12 u w g (ix2 r l) = ((C U W G r l - mean κ (C U W G r) : ℝ) : EReal) := by
  pointwise [k0_pay12]
  simp only [scaled_at hu hw hg, sum_coe, n1024_eq, div_real k_ne, ← EReal.coe_sub]
  rfl

end Back

section Results

variable (hx : ∀ r l, x (ix2 r l) = (X r l : EReal)) (hy : ∀ r l, y (ix2 r l) = (Y r l : EReal))
variable (hu : ∀ r l, u (ix2 r l) = (U r l : EReal)) (hw : ∀ r l, w (ix2 r l) = (W r l : EReal))
include hu hw

/-- The shift's gradient: a point adds the sums of rows eight apart. -/
theorem db_at (acc : Vec Ideal S8x1024 .f32) (s : Fin 8) (l : Fin 1024) :
    k0_pay6 (k0_pay7 u w) acc (ix2 s l) = acc (ix2 s l) + ((∑ q : Fin 64, D U W ⟨q.val * 8 + s.val, by omega⟩ l : ℝ) : EReal) := by
  pointwise [k0_pay6]
  simp only [back_at hu hw, sum_coe]

include hx hy

/-- The scale's gradient, likewise. -/
theorem dg_at (acc : Vec Ideal S8x1024 .f32) (s : Fin 8) (l : Fin 1024) :
    k0_pay5 (k0_pay7 u w) (k0_pay10 x y) acc (ix2 s l)
      = acc (ix2 s l) + ((∑ q : Fin 64, hat (Z X Y ⟨q.val * 8 + s.val, by omega⟩) l * D U W ⟨q.val * 8 + s.val, by omega⟩ l : ℝ) : EReal) := by
  pointwise [k0_pay5]
  simp only [back_at hu hw, hat_at hx hy, ← EReal.coe_mul, sum_coe, mul_comm (D U W _ _)]

variable (hg : ∀ l, g (ix2 (0 : Fin 1) l) = (G l : EReal))
include hg

/-- The residual sum's gradient. -/
theorem dz_at (r : Fin 512) (l : Fin 1024) :
    k0_pay1 (k0_pay9 x y) (k0_pay10 x y) (k0_pay12 u w g) (k0_pay13 x y u w g) (ix2 r l) = (dz (Z X Y r) (C U W G r) l : EReal) := by
  have e : k0_pay13 x y u w g (ix2 r (0 : Fin 1)) = ((∑ k, C U W G r k * hat (Z X Y r) k : ℝ) : EReal) := by
    pointwise [k0_pay13]
    simp only [scaled_at hu hw hg, hat_at hx hy, ← EReal.coe_mul, sum_coe]
  pointwise [k0_pay1]
  rw [e, rs_at hx hy, hat_at hx hy, less_mean_at hu hw hg, n1024_eq, div_real k_ne, ← EReal.coe_mul, ← EReal.coe_sub, ← EReal.coe_mul]
  rfl

end Results

end Cert.DlnPoint

end
-- ==== Proof.DlnValue.lean ====
/- The value of the layer norm's gradient: the kernel's four results, read index by index, are what the reference computes. -/
module

public import proofs.«01_k».proof.Defs
public import proofs.«01_k».proof.Proof.Finite
public import proofs.«01_k».proof.Proof.DlnRef
public import proofs.«01_k».proof.Proof.DlnPoint
public import proofs.«01_k».proof.Proof.Gen.DlnIdeal.Frame
public import proofs.«01_k».proof.Proof.Gen.DlnRefIdeal.Run
public import proofs.«01_k».proof.Proof.Gen.DlnRefIdeal.Read
public import Idealize.ShloMosaic.Lib.Pipeline.ValueKit
public import Idealize.ShloMosaic.Lib.Claim

@[expose] public section

set_option maxRecDepth 16384

noncomputable section

namespace Cert.DlnValue

open Cert.DlnIdeal Cert.DlnIdeal.Gen Idealize.ShloMosaic Idealize.ShloMosaic.TcCoe Idealize.SL.Sem
open Cert.Fin Cert.Norm

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem row_lt (t : Fin cfg0.N) (r : Fin 512) : t.val * 512 + r.val < 16384 := by
  have := t.isLt; have : cfg0.N = 32 := N_0; omega

/-- The row of the whole arrays that a point's row is. -/
abbrev row (t : Fin cfg0.N) (r : Fin 512) : Fin 16384 := ⟨t.val * 512 + r.val, row_lt t r⟩

/-- A device's arguments. -/
abbrev argX (c : Dev nD) : FVec Ideal S16384x1024 .f32 := m ((c : Thread nD τ).loc main_arg0)
abbrev argY (c : Dev nD) : FVec Ideal S16384x1024 .f32 := m ((c : Thread nD τ).loc main_arg1)
abbrev argG (c : Dev nD) : FVec Ideal S1024 .f32 := m ((c : Thread nD τ).loc main_arg2)
abbrev argU (c : Dev nD) : FVec Ideal S16384x1024 .f32 := m ((c : Thread nD τ).loc main_arg3)
abbrev argW (c : Dev nD) : FVec Ideal S16384x1024 .f32 := m ((c : Thread nD τ).loc main_arg4)

/-- The arguments' entries, as real numbers. -/
structure Real5 (c : Dev nD) (X Y U W : Fin 16384 → Fin 1024 → ℝ) (G : Fin 1024 → ℝ) : Prop where
  x : ∀ t l, argX m c (ix2 t l) = (X t l : EReal)
  y : ∀ t l, argY m c (ix2 t l) = (Y t l : EReal)
  g : ∀ l, argG m c (ix1 l) = (G l : EReal)
  u : ∀ t l, argU m c (ix2 t l) = (U t l : EReal)
  w : ∀ t l, argW m c (ix2 t l) = (W t l : EReal)

variable {m} {c : Dev nD} {X Y U W : Fin 16384 → Fin 1024 → ℝ} {G : Fin 1024 → ℝ} (hR : Real5 m c X Y U W G)

section Reads

include hR

theorem x_read (t : Fin cfg0.N) (r : Fin 512) (l : Fin 1024) : iblk m c 0 t (ix2 r l) = (X (row t r) l : EReal) := by
  rw [← hR.x]; blk_ext [iblk, V, e0 t]
theorem y_read (t : Fin cfg0.N) (r : Fin 512) (l : Fin 1024) : iblk m c 1 t (ix2 r l) = (Y (row t r) l : EReal) := by
  rw [← hR.y]; blk_ext [iblk, V, e1 t]
theorem u_read (t : Fin cfg0.N) (r : Fin 512) (l : Fin 1024) : iblk m c 2 t (ix2 r l) = (U (row t r) l : EReal) := by
  rw [← hR.u]; blk_ext [iblk, V, e2 t]
theorem w_read (t : Fin cfg0.N) (r : Fin 512) (l : Fin 1024) : iblk m c 3 t (ix2 r l) = (W (row t r) l : EReal) := by
  rw [← hR.w]; blk_ext [iblk, V, e3 t]

omit hR in
theorem scale_eq (c : Dev nD) (l : Fin 1024) : (V m c main_v0 : Vec Ideal S1x1024 .f32) (ix2 (0 : Fin 1) l) = argG m c (ix1 l) := by
  have e : (V m c main_v0 : Vec Ideal S1x1024 .f32) = shapeCast _ (argG m c) shapeCasts_S1024_S1x1024 := by
    show StableHlo.after hostOps0 (fun b => m (c, b)) (Proc.devRef .tc main_v0) = _
    after_results_simp <;> rfl
  rw [e]
  pointwise []

theorem g_read (t : Fin cfg0.N) (l : Fin 1024) : iblk m c 4 t (ix2 (0 : Fin 1) l) = (G l : EReal) := by
  rw [← hR.g, ← scale_eq]; blk_ext [iblk, e4 t]

end Reads

section Finals

include hR

/-- What the kernel leaves of the residual sum's gradient. -/
theorem final_dz (T : FVec Ideal S16384x1024 .f32) (hT : ∀ t l, T (ix2 t l) = (dz (Z X Y t) (C U W G t) l : EReal)) :
    (dats m 0 c).arrAt 5 cfg0.N = T := by
  refine (dats m 0 c).arrAt_eq_of_covers 5 _ (by decide +kernel) fun t hf y => ?_
  blk_simp
  rw [after0_5]
  idx_vars y
  rw [show ((View.whole main_v1_0).slice (win0_5.rect t)).emb (ix2 y0 y1) = (ix2 (row t y0) y1 : S16384x1024.Idx) by blk_ext [e5 t], hT]
  by_cases h : t.val % 32 = 0
  · rw [outsAt0_A m c t h]; frame_out
    exact DlnPoint.dz_at (x_read hR t) (y_read hR t) (u_read hR t) (w_read hR t) (g_read hR t) y0 y1
  · rw [outsAt0_B m c t h]; frame_out
    exact DlnPoint.dz_at (x_read hR t) (y_read hR t) (u_read hR t) (w_read hR t) (g_read hR t) y0 y1

/-- Its copy in the shorter format. -/
theorem final_dzb (T : FVec Ideal S16384x1024 .bf16) (hT : ∀ t l, T (ix2 t l) = (dz (Z X Y t) (C U W G t) l : EReal)) :
    (dats m 0 c).arrAt 6 cfg0.N = T := by
  refine (dats m 0 c).arrAt_eq_of_covers 6 _ (by decide +kernel) fun t hf y => ?_
  blk_simp
  rw [after0_6]
  idx_vars y
  rw [show ((View.whole main_v1_1).slice (win0_6.rect t)).emb (ix2 y0 y1) = (ix2 (row t y0) y1 : S16384x1024.Idx) by blk_ext [e6 t], hT]
  by_cases h : t.val % 32 = 0
  · rw [outsAt0_A m c t h]; frame_out
    pointwise [k0_pay2]
    exact DlnPoint.dz_at (x_read hR t) (y_read hR t) (u_read hR t) (w_read hR t) (g_read hR t) y0 y1
  · rw [outsAt0_B m c t h]; frame_out
    pointwise [k0_pay2]
    exact DlnPoint.dz_at (x_read hR t) (y_read hR t) (u_read hR t) (w_read hR t) (g_read hR t) y0 y1

/-- The last point of the grid. -/
abbrev tLast : Fin cfg0.N := ⟨31, by rw [show cfg0.N = 32 from N_0]; omega⟩

/-- What a point adds to one row of an accumulator: the rows eight apart. -/
def part (f : Fin 16384 → Fin 1024 → ℝ) (t : Fin cfg0.N) (s : Fin 8) (l : Fin 1024) : ℝ :=
  ∑ q : Fin 64, f (row t ⟨q.val * 8 + s.val, by omega⟩) l

/-- The accumulator of the scale's gradient. -/
theorem final_dg (T : FVec Ideal S8x1024 .f32) (hT : ∀ s l, T (ix2 s l) = ((∑ t : Fin cfg0.N, part (fun t l => hat (Z X Y t) l * D U W t l) t s l : ℝ) : EReal)) :
    (dats m 0 c).arrAt 7 cfg0.N = T := by
  refine (dats m 0 c).arrAt_eq_of_covers 7 _ (by decide +kernel) fun t hf y => ?_
  obtain rfl : t = tLast := Fin.ext (by have := (flush0_7 t).mp hf; have := t.isLt; have : cfg0.N = 32 := N_0; show t.val = 31; omega)
  blk_simp
  idx_vars y
  rw [show ((View.whole main_v1_2).slice (win0_7.rect tLast)).emb (ix2 y0 y1) = (ix2 y0 y1 : S8x1024.Idx) by blk_ext [e7 tLast], hT, after0_7,
    Pipeline.eq_sum_fin_of_reset_step_apply_last (fun n h => (outsAt0 m c n h).2.2.1) 32 (fun _ => (0 : EReal)) (fun t j => (part (fun t l => hat (Z X Y t) l * D U W t l) t (j 0) (j 1) : EReal))
      (fun t h j => by
        rw [outsAt0_A m c t h]; frame_out; idx_vars j
        refine (DlnPoint.dg_at (x_read hR t) (y_read hR t) (u_read hR t) (w_read hR t) _ j0 j1).trans (congrArg (· + _) ?_)
        pointwise [k0_pay3])
      (fun t h j => by
        rw [outsAt0_B m c t h]; frame_out; idx_vars j
        exact DlnPoint.dg_at (x_read hR t) (y_read hR t) (u_read hR t) (w_read hR t) _ j0 j1)
      (le_of_eq N_0) tLast rfl]
  rw [sum_coe, zero_add]
  rfl

/-- The accumulator of the shift's gradient. -/
theorem final_db (T : FVec Ideal S8x1024 .f32) (hT : ∀ s l, T (ix2 s l) = ((∑ t : Fin cfg0.N, part (D U W) t s l : ℝ) : EReal)) :
    (dats m 0 c).arrAt 8 cfg0.N = T := by
  refine (dats m 0 c).arrAt_eq_of_covers 8 _ (by decide +kernel) fun t hf y => ?_
  obtain rfl : t = tLast := Fin.ext (by have := (flush0_8 t).mp hf; have := t.isLt; have : cfg0.N = 32 := N_0; show t.val = 31; omega)
  blk_simp
  idx_vars y
  rw [show ((View.whole main_v1_3).slice (win0_8.rect tLast)).emb (ix2 y0 y1) = (ix2 y0 y1 : S8x1024.Idx) by blk_ext [e8 tLast], hT, after0_8,
    Pipeline.eq_sum_fin_of_reset_step_apply_last (fun n h => (outsAt0 m c n h).2.2.2) 32 (fun _ => (0 : EReal)) (fun t j => (part (D U W) t (j 0) (j 1) : EReal))
      (fun t h j => by
        rw [outsAt0_A m c t h]; frame_out; idx_vars j
        refine (DlnPoint.db_at (u_read hR t) (w_read hR t) _ j0 j1).trans (congrArg (· + _) ?_)
        pointwise [k0_pay4])
      (fun t h j => by
        rw [outsAt0_B m c t h]; frame_out; idx_vars j
        exact DlnPoint.db_at (u_read hR t) (w_read hR t) _ j0 j1)
      (le_of_eq N_0) tLast rfl]
  rw [sum_coe, zero_add]
  rfl

end Finals

section Tail

omit m c in
/-- The sum of an accumulator's eight rows. -/
theorem sum8_at (a : FVec Ideal S8x1024 .f32) (l : Fin 1024) :
    Host.reduceAdd a (constant S_ .f32 0x00000000#32) reducesTo_S8x1024_S1024_d0 h_S_ (ix1 l) = ∑ s : Fin 8, a (ix2 s l) := by
  pointwise []

/-- An array whose rows gather the whole arrays' rows eight apart sums to their sum. -/
theorem gathered (a : FVec Ideal S8x1024 .f32) (f : Fin 16384 → Fin 1024 → ℝ)
    (ha : ∀ s l, a (ix2 s l) = ((∑ t : Fin cfg0.N, part f t s l : ℝ) : EReal)) (T : FVec Ideal S1024 .f32) (hT : ∀ l, T (ix1 l) = ((∑ t, f t l : ℝ) : EReal)) :
    Host.reduceAdd a (constant S_ .f32 0x00000000#32) reducesTo_S8x1024_S1024_d0 h_S_ = T := by
  funext i
  idx_vars i
  rw [sum8_at, hT]
  simp only [ha, sum_coe]
  exact congrArg _ (sum_rows N_0 fun t => f t i0)

variable (m c)

theorem tail_dg : (Pipeline.afterTail₀ cfgs (dats m) 0 (V0 m) [hostOps1] c main_v2 : FVec Ideal S1024 .f32)
    = Host.reduceAdd (F := Ideal) (φ := .f32) ((dats m 0 c).arrAt 7 cfg0.N) (constant S_ .f32 0x00000000#32) reducesTo_S8x1024_S1024_d0 h_S_ := by
  show StableHlo.after hostOps1 _ (Proc.devRef .tc main_v2) = _
  after_results_simp
  exact congrArg (fun a : FVec Ideal S8x1024 .f32 => Host.reduceAdd a (constant S_ .f32 0x00000000#32) reducesTo_S8x1024_S1024_d0 h_S_)
    (Pipeline.withArrays_arr spec0 winFacts0.arr_inj c _ _ 7)

theorem tail_db : (Pipeline.afterTail₀ cfgs (dats m) 0 (V0 m) [hostOps1] c main_v3 : FVec Ideal S1024 .f32)
    = Host.reduceAdd (F := Ideal) (φ := .f32) ((dats m 0 c).arrAt 8 cfg0.N) (constant S_ .f32 0x00000000#32) reducesTo_S8x1024_S1024_d0 h_S_ := by
  show StableHlo.after hostOps1 _ (Proc.devRef .tc main_v3) = _
  after_results_simp
  exact congrArg (fun a : FVec Ideal S8x1024 .f32 => Host.reduceAdd a (constant S_ .f32 0x00000000#32) reducesTo_S8x1024_S1024_d0 h_S_)
    (Pipeline.withArrays_arr spec0 winFacts0.arr_inj c _ _ 8)

end Tail

/-- The shape facts the precondition states. -/
instance preFacts : Cert.Pre_dln_finite.Facts := by
  constructor <;> decide

/-- Where the precondition holds, the arguments are real numbers. -/
theorem reals_of_pre [Cert.Pre_dln_finite.Facts] (hp : Cert.Pre_DlnIdeal_dln_finite m) (c : Dev nD) : ∃ X Y U W G, Real5 m c X Y U W G := by
  have h := congrFun (hp c) ix0
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  choose X hX using fun t l => of_abs_lt (Host.reduce_andi_all _ _ _ _ _ h0 (ix2 t l))
  choose Y hY using fun t l => of_abs_lt (Host.reduce_andi_all _ _ _ _ _ h1 (ix2 t l))
  choose G hG using fun l => of_abs_lt (Host.reduce_andi_all _ _ _ _ _ h2 (ix1 l))
  choose U hU using fun t l => of_abs_lt (Host.reduce_andi_all _ _ _ _ _ h3 (ix2 t l))
  choose W hW using fun t l => of_abs_lt (Host.reduce_andi_all _ _ _ _ _ h4 (ix2 t l))
  exact ⟨X, Y, U, W, G, hX, hY, hG, hU, hW⟩

section Results

open Cert.DlnRefIdeal.Read

include hR

theorem result_dz : (dats m 0 c).arrAt 5 cfg0.N = val_main_v71 (F := Ideal) (argX m c) (argY m c) (argG m c) (argU m c) (argW m c) :=
  final_dz hR _ fun t l => DlnRef.dz_at hR.x hR.y hR.u hR.w hR.g t l
theorem result_dzb : (dats m 0 c).arrAt 6 cfg0.N = val_main_v72 (F := Ideal) (argX m c) (argY m c) (argG m c) (argU m c) (argW m c) :=
  final_dzb hR _ fun t l => by
    pointwise [val_main_v72]
    exact DlnRef.dz_at hR.x hR.y hR.u hR.w hR.g t l
theorem result_dg : (Pipeline.afterTail₀ cfgs (dats m) 0 (V0 m) [hostOps1] c main_v2 : FVec Ideal S1024 .f32)
    = val_main_v47 (F := Ideal) (argX m c) (argY m c) (argU m c) (argW m c) := by
  rw [tail_dg, final_dg hR (fun j => ((∑ t : Fin cfg0.N, part (fun t l => hat (Z X Y t) l * D U W t l) t (j 0) (j 1) : ℝ) : EReal)) fun s l => rfl]
  exact gathered _ _ (fun s l => rfl) _ fun l => DlnRef.dg_at hR.x hR.y hR.u hR.w l
theorem result_db : (Pipeline.afterTail₀ cfgs (dats m) 0 (V0 m) [hostOps1] c main_v3 : FVec Ideal S1024 .f32)
    = val_main_v41 (F := Ideal) (argU m c) (argW m c) := by
  rw [tail_db, final_db hR (fun j => ((∑ t : Fin cfg0.N, part (D U W) t (j 0) (j 1) : ℝ) : EReal)) fun s l => rfl]
  exact gathered _ _ (fun s l => rfl) _ fun l => DlnRef.db_at hR.u hR.w l

end Results

/-- The two programs' results are equal where the arguments are real numbers. -/
theorem value [Cert.Pre_dln_finite.Facts] : Cert.algebraic_DlnIdeal_DlnRefIdeal_pre_dln_finite := by
  intro m g m' g' hp hm
  refine ⟨fun c => Cert.DlnRefIdeal.Read.val_main_v71 (F := Ideal) (argX m c) (argY m c) (argG m c) (argU m c) (argW m c),
    fun c => Cert.DlnRefIdeal.Read.val_main_v72 (F := Ideal) (argX m c) (argY m c) (argG m c) (argU m c) (argW m c),
    fun c => Cert.DlnRefIdeal.Read.val_main_v47 (F := Ideal) (argX m c) (argY m c) (argU m c) (argW m c),
    fun c => Cert.DlnRefIdeal.Read.val_main_v41 (F := Ideal) (argU m c) (argW m c), ?_, ?_⟩
  · refine θ_run_mono (θ_run_and (frame (F := Ideal) m g) (run_main (F := Ideal) m g)) fun r h c => ?_
    obtain ⟨X, Y, U, W, G, hR⟩ := reals_of_pre hp c
    obtain ⟨ha0, ha1, ha2, ha3, ha4⟩ := h.1.1 c
    exact ⟨(h.2.out_eq c 5).trans (result_dz hR), (h.2.out_eq c 6).trans (result_dzb hR),
      (h.2.rest_eq c main_v2 (by decide)).trans (result_dg hR), (h.2.rest_eq c main_v3 (by decide)).trans (result_db hR), ha0, ha1, ha2, ha3, ha4⟩
  · refine θ_run_mono (Cert.DlnRefIdeal.Value.run (F := Ideal) m' g') fun r h c => ?_
    obtain ⟨h0, h1, h2, h3, ha⟩ := h c
    obtain ⟨e0, e1, e2, e3, e4⟩ := hm c
    refine ⟨h0.trans ?_, h1.trans ?_, h2.trans ?_, h3.trans ?_, ha⟩
    · rw [Cert.DlnRefIdeal.Read.val_main_v71_eq m' c, e0, e1, e2, e3, e4]
    · rw [Cert.DlnRefIdeal.Read.val_main_v72_eq m' c, e0, e1, e2, e3, e4]
    · rw [e0, e1, e3, e4]; exact Cert.DlnRefIdeal.Read.val_main_v47_eq _ _ _ _
    · rw [e3, e4]; exact Cert.DlnRefIdeal.Read.val_main_v41_eq _ _

/-- The reference runs to its end and leaves its arguments and every counter as they were. -/
theorem frame_ref : Cert.quiescent_DlnRefIdeal := fun m g _ =>
  θ_run_mono (Cert.DlnRefIdeal.Value.run (F := Ideal) m g) fun r h =>
    ⟨fun c => (h c).2.2.2.2, sem_eq_zero_of_no_sems (by decide) r.2⟩

end Cert.DlnValue

end
-- ==== Proof.DlossRef.lean ====
/- The last norm's gradient with the loss, by the chain rule, line by line of the reference, at real arguments. -/
module

public import proofs.«01_k».proof.Defs
public import proofs.«01_k».proof.Proof.Norm
public import proofs.«01_k».proof.Proof.Gen.DlossRefIdeal.Read
public import Idealize.ShloMosaic.Lib.Pipeline.ValueKit.Point
public import Idealize.ShloMosaic.Lib.IdealHost

@[expose] public section

set_option maxRecDepth 16384

noncomputable section

namespace Cert.DlossRef

open Cert.Norm Cert.DlossRefIdeal Cert.DlossRefIdeal.Read Idealize.ShloMosaic

variable {x y w : FVec Ideal S16384x1024 .f32} {g s : FVec Ideal S1024 .f32}
variable {X Y W : Fin 16384 → Fin 1024 → ℝ} {G S : Fin 1024 → ℝ}

variable (hx : ∀ t l, x (ix2 t l) = (X t l : EReal)) (hy : ∀ t l, y (ix2 t l) = (Y t l : EReal))
include hx hy

theorem sum_at (t : Fin 16384) (l : Fin 1024) : val_main_v2 (F := Ideal) x y (ix2 t l) = (Z X Y t l : EReal) := by
  pointwise [val_main_v2, val_main_v1, val_main_v0, val_main_cst]
  rw [hx, hy, alpha_eq, ← EReal.coe_mul, ← EReal.coe_add]; rfl

theorem mean_at (t : Fin 16384) : val_main_v6 (F := Ideal) x y (ix2 t (0 : Fin 1)) = (mean κ (Z X Y t) : EReal) := by
  pointwise [val_main_v6, val_main_v4, val_main_v3, val_main_v5, val_main_cst_0, val_main_cst_1]
  simp only [sum_at hx hy, sum_coe, n1024_eq, div_real k_ne]
  rfl

theorem cen_at (t : Fin 16384) (l : Fin 1024) : val_main_v8 (F := Ideal) x y (ix2 t l) = (cen κ (Z X Y t) l : EReal) := by
  pointwise [val_main_v8, val_main_v7]
  rw [sum_at hx hy, mean_at hx hy, ← EReal.coe_sub]; rfl

theorem cen_at' (t : Fin 16384) (l : Fin 1024) : val_main_v17 (F := Ideal) x y (ix2 t l) = (cen κ (Z X Y t) l : EReal) := by
  pointwise [val_main_v17, val_main_v16]
  rw [sum_at hx hy, mean_at hx hy, ← EReal.coe_sub]; rfl

theorem sq_at (t : Fin 16384) : val_main_v19 (F := Ideal) x y (ix2 t (0 : Fin 1)) = (sq κ ε (cen κ (Z X Y t)) : EReal) := by
  pointwise [val_main_v19, val_main_v15, val_main_v13, val_main_v12, val_main_v9, val_main_v14, val_main_v18, val_main_cst_3, val_main_cst_4, val_main_cst_5]
  simp only [cen_at hx hy, ← EReal.coe_mul, sum_coe, n1024_eq, div_real k_ne, eps_eq, ← EReal.coe_add]
  rfl

theorem rs_at (t : Fin 16384) : val_main_v20 (F := Ideal) x y (ix2 t (0 : Fin 1)) = (rs κ ε (cen κ (Z X Y t)) : EReal) := by
  pointwise [val_main_v20]
  rw [sq_at hx hy, rsqrt_pos (sq_pos _ k_pos eps_pos)]; rfl

theorem root_at (t : Fin 16384) : val_main_v23 (F := Ideal) x y (ix2 t (0 : Fin 1))
    = ((-(1 / 2) * (rs κ ε (cen κ (Z X Y t)) * (1 / sq κ ε (cen κ (Z X Y t)))) : ℝ) : EReal) := by
  pointwise [val_main_v23, val_main_v22, val_main_v21, val_main_cst_6]
  rw [rs_at hx hy, sq_at hx hy, div_real (sq_pos _ k_pos eps_pos).ne', neg_half_eq, ← EReal.coe_mul]

theorem hat_at (t : Fin 16384) (l : Fin 1024) : val_main_v25 (F := Ideal) x y (ix2 t l)
    = (hat (Z X Y t) l : EReal) := by
  pointwise [val_main_v25, val_main_v24]
  rw [cen_at' hx hy, rs_at hx hy, ← EReal.coe_mul]; rfl

variable (hw : ∀ t l, w (ix2 t l) = (W t l : EReal)) (hg : ∀ l, g (ix1 l) = (G l : EReal)) (hs : ∀ l, s (ix1 l) = (S l : EReal))
include hw hg hs

theorem miss_at (t : Fin 16384) (l : Fin 1024) : val_main_v32 (F := Ideal) x y g s w (ix2 t l) = (miss X Y W G S t l : EReal) := by
  pointwise [val_main_v32, val_main_v31, val_main_v30, val_main_v29, val_main_v28, val_main_v27, val_main_v26]
  rw [hat_at hx hy, hg, hs, hw, ← EReal.coe_mul, ← EReal.coe_add, ← EReal.coe_sub]; rfl

/-- The loss. -/
theorem loss_at : val_main_v40 (F := Ideal) x y g s w ix0 = ((1 / 2048 * ∑ t, ∑ l, miss X Y W G S t l * miss X Y W G S t l : ℝ) : EReal) := by
  pointwise [val_main_v40, val_main_v39, val_main_v38, val_main_v37, val_main_v36, val_main_v33, val_main_cst_8, val_main_cst_9, val_main_cst_10, val_main_cst_11]
  simp only [miss_at hx hy hw hg hs, ← EReal.coe_mul, sum_coe, n1024_eq, div_real k_ne, half_eq, ← Finset.sum_mul]
  exact congrArg _ (by ring)

theorem back_at (t : Fin 16384) (l : Fin 1024) : val_main_v46 (F := Ideal) x y g s w (ix2 t l) = (dmiss X Y W G S t l : EReal) := by
  pointwise [val_main_v46, val_main_v45, val_main_v44, val_main_v43, val_main_v42, val_main_v41, val_main_v35, val_main_v34, val_main_cst_7, val_main_cst_12, val_main_cst_13, val_main_cst_14]
  rw [miss_at hx hy hw hg hs, half_eq, n1024_eq, two_eq]
  simp only [← EReal.coe_one, ← EReal.coe_mul, div_real k_ne]
  exact congrArg _ (by rw [dmiss]; ring)

/-- The shift's gradient. -/
theorem db_at (l : Fin 1024) : val_main_v49 (F := Ideal) x y g s w (ix1 l) = ((∑ t, dmiss X Y W G S t l : ℝ) : EReal) := by
  pointwise [val_main_v49, val_main_v48, val_main_v47, val_main_cst_15, val_main_cst_16]
  rw [Fintype.sum_unique]
  simp only [back_at hx hy hw hg hs, sum_coe]

/-- The scale's gradient. -/
theorem dg_at (l : Fin 1024) : val_main_v55 (F := Ideal) x y g s w (ix1 l) = ((∑ t, hat (Z X Y t) l * dmiss X Y W G S t l : ℝ) : EReal) := by
  pointwise [val_main_v55, val_main_v52, val_main_v51, val_main_v50, val_main_cst_17, val_main_cst_18]
  rw [Fintype.sum_unique]
  simp only [hat_at hx hy, back_at hx hy hw hg hs, ← EReal.coe_mul, sum_coe]

theorem scaled_at (t : Fin 16384) (l : Fin 1024) : val_main_v54 (F := Ideal) x y g s w (ix2 t l) = (cmiss X Y W G S t l : EReal) := by
  pointwise [val_main_v54, val_main_v53, val_main_v26]
  rw [back_at hx hy hw hg hs, hg, ← EReal.coe_mul]; rfl

theorem part_at (t : Fin 16384) (l : Fin 1024) : val_main_v60 (F := Ideal) x y g s w (ix2 t l)
    = ((cmiss X Y W G S t l * rs κ ε (cen κ (Z X Y t)) : ℝ) : EReal) := by
  pointwise [val_main_v60, val_main_v59]
  rw [scaled_at hx hy hw hg hs, rs_at hx hy, ← EReal.coe_mul]

theorem slope_at (t : Fin 16384) : val_main_v66 (F := Ideal) x y g s w (ix2 t (0 : Fin 1)) = (slope κ ε (cen κ (Z X Y t)) (cmiss X Y W G S t) : EReal) := by
  pointwise [val_main_v66, val_main_v65, val_main_v61, val_main_v58, val_main_v57, val_main_v56, val_main_cst_19, val_main_cst_21]
  simp only [cen_at' hx hy, scaled_at hx hy hw hg hs, root_at hx hy, ← EReal.coe_mul, sum_coe, n1024_eq, div_real k_ne]
  rfl

theorem through_at (t : Fin 16384) (l : Fin 1024) : val_main_v69 (F := Ideal) x y g s w (ix2 t l)
    = ((slope κ ε (cen κ (Z X Y t)) (cmiss X Y W G S t) * (2 * cen κ (Z X Y t) l) : ℝ) : EReal) := by
  have e := slope_at hx hy hw hg hs t
  pointwise [val_main_v69, val_main_v68, val_main_v67, val_main_v11, val_main_v10, val_main_cst_2, val_main_cst_22]
  rw [Fintype.sum_unique, show (default : Fin 1) = 0 from rfl, e, cen_at hx hy, two_eq, ← EReal.coe_mul, ← EReal.coe_mul]

/-- The residual sum's gradient. -/
theorem dz_at (t : Fin 16384) (l : Fin 1024) : val_main_v79 (F := Ideal) x y g s w (ix2 t l)
    = (dz (Z X Y t) (cmiss X Y W G S t) l : EReal) := by
  rw [dz, ← layer_eq (cmiss X Y W G S t) k_pos eps_pos k_one]
  have e1 := fun l => part_at hx hy hw hg hs t l
  have e2 := fun l => through_at hx hy hw hg hs t l
  pointwise [val_main_v79, val_main_v78, val_main_v77, val_main_v76, val_main_v75, val_main_v74, val_main_v73, val_main_v72, val_main_v71, val_main_v70, val_main_v64, val_main_v63, val_main_v62, val_main_cst_20, val_main_cst_23, val_main_cst_24, val_main_cst_25]
  rw [Fintype.sum_unique]
  simp only [e1, e2, ← EReal.coe_neg, sum_coe, ← EReal.coe_add, n1024_eq, div_real k_ne]
  rfl

end Cert.DlossRef

end
-- ==== Proof.DlossPoint.lean ====
/- What one point of the last norm's gradient with the loss computes, at real arguments. -/
module

public import proofs.«01_k».proof.Defs
public import proofs.«01_k».proof.Proof.Norm
public import proofs.«01_k».proof.Proof.Gen.DlossIdeal.Skeleton
public import Idealize.ShloMosaic.Lib.Pipeline.ValueKit.Point
public import Idealize.ShloMosaic.Lib.IdealHost

@[expose] public section

set_option maxRecDepth 16384

noncomputable section

namespace Cert.DlossPoint

open Cert.Norm Cert.DlossIdeal Cert.DlossIdeal.Gen Idealize.ShloMosaic

variable {x y w : Vec Ideal S512x1024 .f32} {g s : Vec Ideal S1x1024 .f32}
variable {X Y W : Fin 512 → Fin 1024 → ℝ} {G S : Fin 1024 → ℝ}

/-- How far the norm's result is from its target, in terms of the normed row. -/
theorem miss_lines (x y w : Vec Ideal S512x1024 .f32) (g s : Vec Ideal S1x1024 .f32) : k0_pay8 x y w g s
    = subf (addf (mulf (k0_pay15 (k0_pay10 x y) (k0_pay11 x y) k0_pay12) (broadcastTo S512x1024 (k0_pay7 g) broadcasts_S1x1024_S512x1024))
        (broadcastTo S512x1024 (shapeCast S1x1024 s shapeCasts_S1x1024_S1x1024) broadcasts_S1x1024_S512x1024)) w := rfl

variable (hx : ∀ r l, x (ix2 r l) = (X r l : EReal)) (hy : ∀ r l, y (ix2 r l) = (Y r l : EReal))
include hx hy

theorem cen_at (r : Fin 512) (l : Fin 1024) : k0_pay13 (k0_pay10 x y) (k0_pay11 x y) k0_pay12 (ix2 r l) = (cen κ (Z X Y r) l : EReal) := by
  pointwise [k0_pay13, k0_pay10, k0_pay11, k0_pay12]
  simp only [hx, hy, alpha_eq, ← EReal.coe_mul, ← EReal.coe_add, sum_coe, n1024_eq, div_real k_ne, ← EReal.coe_sub]
  rfl

theorem rs_at (r : Fin 512) : k0_pay14 (k0_pay10 x y) (k0_pay11 x y) k0_pay12 (ix2 r (0 : Fin 1)) = (rs κ ε (cen κ (Z X Y r)) : EReal) := by
  pointwise [k0_pay14]
  simp only [cen_at hx hy, ← EReal.coe_mul, ← EReal.coe_add, sum_coe, n1024_eq, div_real k_ne, eps_eq]
  exact rsqrt_pos (sq_pos _ k_pos eps_pos)

theorem hat_at (r : Fin 512) (l : Fin 1024) : k0_pay15 (k0_pay10 x y) (k0_pay11 x y) k0_pay12 (ix2 r l) = (hat (Z X Y r) l : EReal) := by
  pointwise [k0_pay15]
  rw [cen_at hx hy, rs_at hx hy, ← EReal.coe_mul]; rfl

variable (hw : ∀ r l, w (ix2 r l) = (W r l : EReal)) (hg : ∀ l, g (ix2 (0 : Fin 1) l) = (G l : EReal)) (hs : ∀ l, s (ix2 (0 : Fin 1) l) = (S l : EReal))
include hw hg hs

theorem miss_at (r : Fin 512) (l : Fin 1024) : k0_pay8 x y w g s (ix2 r l) = (miss X Y W G S r l : EReal) := by
  rw [miss_lines]
  pointwise [k0_pay7]
  rw [hat_at hx hy, hg, hs, hw, ← EReal.coe_mul, ← EReal.coe_add, ← EReal.coe_sub]; rfl

theorem back_at (r : Fin 512) (l : Fin 1024) : k0_pay9 x y w g s (ix2 r l) = (dmiss X Y W G S r l : EReal) := by
  pointwise [k0_pay9]
  rw [miss_at hx hy hw hg hs, k_eq, ← EReal.coe_mul]; rfl

/-- The sum of squares: a point adds the sums of rows eight apart. -/
theorem loss_at (acc : Vec Ideal S8x1024 .f32) (a : Fin 8) (l : Fin 1024) :
    k0_pay6 (k0_pay19 (k0_pay8 x y w g s)) acc (ix2 a l)
      = acc (ix2 a l) + ((∑ q : Fin 64, miss X Y W G S ⟨q.val * 8 + a.val, by omega⟩ l * miss X Y W G S ⟨q.val * 8 + a.val, by omega⟩ l : ℝ) : EReal) := by
  pointwise [k0_pay6, k0_pay19]
  simp only [miss_at hx hy hw hg hs, ← EReal.coe_mul, sum_coe]

/-- The shift's gradient, likewise. -/
theorem db_at (acc : Vec Ideal S8x1024 .f32) (a : Fin 8) (l : Fin 1024) :
    k0_pay5 (k0_pay18 (k0_pay9 x y w g s)) acc (ix2 a l)
      = acc (ix2 a l) + ((∑ q : Fin 64, dmiss X Y W G S ⟨q.val * 8 + a.val, by omega⟩ l : ℝ) : EReal) := by
  pointwise [k0_pay5, k0_pay18]
  simp only [back_at hx hy hw hg hs, sum_coe]

/-- The scale's gradient, likewise. -/
theorem dg_at (acc : Vec Ideal S8x1024 .f32) (a : Fin 8) (l : Fin 1024) :
    k0_pay4 (k0_pay17 (k0_pay9 x y w g s) (k0_pay10 x y) (k0_pay11 x y) k0_pay12) acc (ix2 a l)
      = acc (ix2 a l) + ((∑ q : Fin 64, hat (Z X Y ⟨q.val * 8 + a.val, by omega⟩) l * dmiss X Y W G S ⟨q.val * 8 + a.val, by omega⟩ l : ℝ) : EReal) := by
  pointwise [k0_pay4, k0_pay17]
  simp only [back_at hx hy hw hg hs, hat_at hx hy, ← EReal.coe_mul, sum_coe, mul_comm (dmiss _ _ _ _ _ _ _)]

/-- The residual sum's gradient. -/
theorem dz_at (r : Fin 512) (l : Fin 1024) :
    k0_pay16 (k0_pay7 g) (k0_pay9 x y w g s) (k0_pay10 x y) (k0_pay11 x y) k0_pay12 (ix2 r l) = (dz (Z X Y r) (cmiss X Y W G S r) l : EReal) := by
  pointwise [k0_pay16, k0_pay7]
  simp only [back_at hx hy hw hg hs, hg, hat_at hx hy, rs_at hx hy, n1024_eq, ← EReal.coe_mul, sum_coe, div_real k_ne, ← EReal.coe_sub]
  rfl

end Cert.DlossPoint

end
-- ==== Proof.DlossValue.lean ====
/- The value of the last norm's gradient with the loss: the kernel's five results, read index by index, are what the reference computes. -/
module

public import proofs.«01_k».proof.Defs
public import proofs.«01_k».proof.Proof.Finite
public import proofs.«01_k».proof.Proof.DlossRef
public import proofs.«01_k».proof.Proof.DlossPoint
public import proofs.«01_k».proof.Proof.Gen.DlossIdeal.Frame
public import proofs.«01_k».proof.Proof.Gen.DlossRefIdeal.Run
public import proofs.«01_k».proof.Proof.Gen.DlossRefIdeal.Read
public import Idealize.ShloMosaic.Lib.Pipeline.ValueKit
public import Idealize.ShloMosaic.Lib.Claim

@[expose] public section

set_option maxRecDepth 16384

noncomputable section

namespace Cert.DlossValue

open Cert.DlossIdeal Cert.DlossIdeal.Gen Idealize.ShloMosaic Idealize.ShloMosaic.TcCoe Idealize.SL.Sem
open Cert.Fin Cert.Norm

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)

theorem row_lt (t : Fin cfg0.N) (r : Fin 512) : t.val * 512 + r.val < 16384 := by
  have := t.isLt; have : cfg0.N = 32 := N_0; omega

/-- The row of the whole arrays that a point's row is. -/
abbrev row (t : Fin cfg0.N) (r : Fin 512) : Fin 16384 := ⟨t.val * 512 + r.val, row_lt t r⟩

/-- A device's arguments. -/
abbrev argX (c : Dev nD) : FVec Ideal S16384x1024 .f32 := m ((c : Thread nD τ).loc main_arg0)
abbrev argY (c : Dev nD) : FVec Ideal S16384x1024 .f32 := m ((c : Thread nD τ).loc main_arg1)
abbrev argG (c : Dev nD) : FVec Ideal S1024 .f32 := m ((c : Thread nD τ).loc main_arg2)
abbrev argS (c : Dev nD) : FVec Ideal S1024 .f32 := m ((c : Thread nD τ).loc main_arg3)
abbrev argW (c : Dev nD) : FVec Ideal S16384x1024 .f32 := m ((c : Thread nD τ).loc main_arg4)

/-- The arguments' entries, as real numbers. -/
structure Real5 (c : Dev nD) (X Y W : Fin 16384 → Fin 1024 → ℝ) (G S : Fin 1024 → ℝ) : Prop where
  x : ∀ t l, argX m c (ix2 t l) = (X t l : EReal)
  y : ∀ t l, argY m c (ix2 t l) = (Y t l : EReal)
  g : ∀ l, argG m c (ix1 l) = (G l : EReal)
  s : ∀ l, argS m c (ix1 l) = (S l : EReal)
  w : ∀ t l, argW m c (ix2 t l) = (W t l : EReal)

variable {m} {c : Dev nD} {X Y W : Fin 16384 → Fin 1024 → ℝ} {G S : Fin 1024 → ℝ} (hR : Real5 m c X Y W G S)

section Reads

include hR

theorem x_read (t : Fin cfg0.N) (r : Fin 512) (l : Fin 1024) : iblk m c 0 t (ix2 r l) = (X (row t r) l : EReal) := by
  rw [← hR.x]; blk_ext [iblk, V, e0 t]
theorem y_read (t : Fin cfg0.N) (r : Fin 512) (l : Fin 1024) : iblk m c 1 t (ix2 r l) = (Y (row t r) l : EReal) := by
  rw [← hR.y]; blk_ext [iblk, V, e1 t]
theorem w_read (t : Fin cfg0.N) (r : Fin 512) (l : Fin 1024) : iblk m c 2 t (ix2 r l) = (W (row t r) l : EReal) := by
  rw [← hR.w]; blk_ext [iblk, V, e2 t]

omit hR in
theorem scale_eq (c : Dev nD) (l : Fin 1024) : (V m c main_v0 : Vec Ideal S1x1024 .f32) (ix2 (0 : Fin 1) l) = argG m c (ix1 l) := by
  have e : (V m c main_v0 : Vec Ideal S1x1024 .f32) = shapeCast _ (argG m c) shapeCasts_S1024_S1x1024 := by
    show StableHlo.after hostOps0 (fun b => m (c, b)) (Proc.devRef .tc main_v0) = _
    after_results_simp <;> rfl
  rw [e]
  pointwise []

omit hR in
theorem shift_eq (c : Dev nD) (l : Fin 1024) : (V m c main_v1 : Vec Ideal S1x1024 .f32) (ix2 (0 : Fin 1) l) = argS m c (ix1 l) := by
  have e : (V m c main_v1 : Vec Ideal S1x1024 .f32) = shapeCast _ (argS m c) shapeCasts_S1024_S1x1024 := by
    show StableHlo.after hostOps0 (fun b => m (c, b)) (Proc.devRef .tc main_v1) = _
    after_results_simp <;> rfl
  rw [e]
  pointwise []

theorem g_read (t : Fin cfg0.N) (l : Fin 1024) : iblk m c 3 t (ix2 (0 : Fin 1) l) = (G l : EReal) := by
  rw [← hR.g, ← scale_eq]; blk_ext [iblk, e3 t]
theorem s_read (t : Fin cfg0.N) (l : Fin 1024) : iblk m c 4 t (ix2 (0 : Fin 1) l) = (S l : EReal) := by
  rw [← hR.s, ← shift_eq]; blk_ext [iblk, e4 t]

end Reads

section Finals

include hR

/-- What the kernel leaves of the residual sum's gradient. -/
theorem final_dz (T : FVec Ideal S16384x1024 .f32) (hT : ∀ t l, T (ix2 t l) = (dz (Z X Y t) (cmiss X Y W G S t) l : EReal)) :
    (dats m 0 c).arrAt 5 cfg0.N = T := by
  refine (dats m 0 c).arrAt_eq_of_covers 5 _ (by decide +kernel) fun t hf y => ?_
  blk_simp
  rw [after0_5]
  idx_vars y
  rw [show ((View.whole main_v2_0).slice (win0_5.rect t)).emb (ix2 y0 y1) = (ix2 (row t y0) y1 : S16384x1024.Idx) by blk_ext [e5 t], hT]
  by_cases h : t.val % 32 = 0
  · rw [outsAt0_A m c t h]; frame_out
    exact DlossPoint.dz_at (x_read hR t) (y_read hR t) (w_read hR t) (g_read hR t) (s_read hR t) y0 y1
  · rw [outsAt0_B m c t h]; frame_out
    exact DlossPoint.dz_at (x_read hR t) (y_read hR t) (w_read hR t) (g_read hR t) (s_read hR t) y0 y1

/-- Its copy in the shorter format. -/
theorem final_dzb (T : FVec Ideal S16384x1024 .bf16) (hT : ∀ t l, T (ix2 t l) = (dz (Z X Y t) (cmiss X Y W G S t) l : EReal)) :
    (dats m 0 c).arrAt 6 cfg0.N = T := by
  refine (dats m 0 c).arrAt_eq_of_covers 6 _ (by decide +kernel) fun t hf y => ?_
  blk_simp
  rw [after0_6]
  idx_vars y
  rw [show ((View.whole main_v2_1).slice (win0_6.rect t)).emb (ix2 y0 y1) = (ix2 (row t y0) y1 : S16384x1024.Idx) by blk_ext [e6 t], hT]
  by_cases h : t.val % 32 = 0
  · rw [outsAt0_A m c t h]; frame_out
    pointwise [k0_pay20]
    exact DlossPoint.dz_at (x_read hR t) (y_read hR t) (w_read hR t) (g_read hR t) (s_read hR t) y0 y1
  · rw [outsAt0_B m c t h]; frame_out
    pointwise [k0_pay20]
    exact DlossPoint.dz_at (x_read hR t) (y_read hR t) (w_read hR t) (g_read hR t) (s_read hR t) y0 y1

/-- The last point of the grid. -/
abbrev tLast : Fin cfg0.N := ⟨31, by rw [show cfg0.N = 32 from N_0]; omega⟩

/-- What a point adds to one row of an accumulator: the rows eight apart. -/
def part (f : Fin 16384 → Fin 1024 → ℝ) (t : Fin cfg0.N) (s : Fin 8) (l : Fin 1024) : ℝ :=
  ∑ q : Fin 64, f (row t ⟨q.val * 8 + s.val, by omega⟩) l

/-- The accumulator of the scale's gradient. -/
theorem final_dg (T : FVec Ideal S8x1024 .f32) (hT : ∀ s l, T (ix2 s l) = ((∑ t : Fin cfg0.N, part (fun t l => hat (Z X Y t) l * dmiss X Y W G S t l) t s l : ℝ) : EReal)) :
    (dats m 0 c).arrAt 7 cfg0.N = T := by
  refine (dats m 0 c).arrAt_eq_of_covers 7 _ (by decide +kernel) fun t hf y => ?_
  obtain rfl : t = tLast := Fin.ext (by have := (flush0_7 t).mp hf; have := t.isLt; have : cfg0.N = 32 := N_0; show t.val = 31; omega)
  blk_simp
  idx_vars y
  rw [show ((View.whole main_v2_2).slice (win0_7.rect tLast)).emb (ix2 y0 y1) = (ix2 y0 y1 : S8x1024.Idx) by blk_ext [e7 tLast], hT, after0_7,
    Pipeline.eq_sum_fin_of_reset_step_apply_last (fun n h => (outsAt0 m c n h).2.2.1) 32 (fun _ => (0 : EReal)) (fun t j => (part (fun t l => hat (Z X Y t) l * dmiss X Y W G S t l) t (j 0) (j 1) : EReal))
      (fun t h j => by
        rw [outsAt0_A m c t h]; frame_out; idx_vars j
        refine (DlossPoint.dg_at (x_read hR t) (y_read hR t) (w_read hR t) (g_read hR t) (s_read hR t) _ j0 j1).trans (congrArg (· + _) ?_)
        pointwise [k0_pay1])
      (fun t h j => by
        rw [outsAt0_B m c t h]; frame_out; idx_vars j
        exact DlossPoint.dg_at (x_read hR t) (y_read hR t) (w_read hR t) (g_read hR t) (s_read hR t) _ j0 j1)
      (le_of_eq N_0) tLast rfl]
  rw [sum_coe, zero_add]
  rfl

/-- The accumulator of the shift's gradient. -/
theorem final_db (T : FVec Ideal S8x1024 .f32) (hT : ∀ s l, T (ix2 s l) = ((∑ t : Fin cfg0.N, part (dmiss X Y W G S) t s l : ℝ) : EReal)) :
    (dats m 0 c).arrAt 8 cfg0.N = T := by
  refine (dats m 0 c).arrAt_eq_of_covers 8 _ (by decide +kernel) fun t hf y => ?_
  obtain rfl : t = tLast := Fin.ext (by have := (flush0_8 t).mp hf; have := t.isLt; have : cfg0.N = 32 := N_0; show t.val = 31; omega)
  blk_simp
  idx_vars y
  rw [show ((View.whole main_v2_3).slice (win0_8.rect tLast)).emb (ix2 y0 y1) = (ix2 y0 y1 : S8x1024.Idx) by blk_ext [e8 tLast], hT, after0_8,
    Pipeline.eq_sum_fin_of_reset_step_apply_last (fun n h => (outsAt0 m c n h).2.2.2.1) 32 (fun _ => (0 : EReal)) (fun t j => (part (dmiss X Y W G S) t (j 0) (j 1) : EReal))
      (fun t h j => by
        rw [outsAt0_A m c t h]; frame_out; idx_vars j
        refine (DlossPoint.db_at (x_read hR t) (y_read hR t) (w_read hR t) (g_read hR t) (s_read hR t) _ j0 j1).trans (congrArg (· + _) ?_)
        pointwise [k0_pay2])
      (fun t h j => by
        rw [outsAt0_B m c t h]; frame_out; idx_vars j
        exact DlossPoint.db_at (x_read hR t) (y_read hR t) (w_read hR t) (g_read hR t) (s_read hR t) _ j0 j1)
      (le_of_eq N_0) tLast rfl]
  rw [sum_coe, zero_add]
  rfl

/-- The accumulator of the loss. -/
theorem final_loss (T : FVec Ideal S8x1024 .f32) (hT : ∀ s l, T (ix2 s l) = ((∑ t : Fin cfg0.N, part (fun t l => miss X Y W G S t l * miss X Y W G S t l) t s l : ℝ) : EReal)) :
    (dats m 0 c).arrAt 9 cfg0.N = T := by
  refine (dats m 0 c).arrAt_eq_of_covers 9 _ (by decide +kernel) fun t hf y => ?_
  obtain rfl : t = tLast := Fin.ext (by have := (flush0_9 t).mp hf; have := t.isLt; have : cfg0.N = 32 := N_0; show t.val = 31; omega)
  blk_simp
  idx_vars y
  rw [show ((View.whole main_v2_4).slice (win0_9.rect tLast)).emb (ix2 y0 y1) = (ix2 y0 y1 : S8x1024.Idx) by blk_ext [e9 tLast], hT, after0_9,
    Pipeline.eq_sum_fin_of_reset_step_apply_last (fun n h => (outsAt0 m c n h).2.2.2.2) 32 (fun _ => (0 : EReal)) (fun t j => (part (fun t l => miss X Y W G S t l * miss X Y W G S t l) t (j 0) (j 1) : EReal))
      (fun t h j => by
        rw [outsAt0_A m c t h]; frame_out; idx_vars j
        refine (DlossPoint.loss_at (x_read hR t) (y_read hR t) (w_read hR t) (g_read hR t) (s_read hR t) _ j0 j1).trans (congrArg (· + _) ?_)
        pointwise [k0_pay3])
      (fun t h j => by
        rw [outsAt0_B m c t h]; frame_out; idx_vars j
        exact DlossPoint.loss_at (x_read hR t) (y_read hR t) (w_read hR t) (g_read hR t) (s_read hR t) _ j0 j1)
      (le_of_eq N_0) tLast rfl]
  rw [sum_coe, zero_add]
  rfl

end Finals

section Tail

omit m c in
/-- The sum of an accumulator's eight rows. -/
theorem sum8_at (a : FVec Ideal S8x1024 .f32) (l : Fin 1024) :
    Host.reduceAdd a (constant S_ .f32 0x00000000#32) reducesTo_S8x1024_S1024_d0 h_S_ (ix1 l) = ∑ s : Fin 8, a (ix2 s l) := by
  pointwise []

/-- An array whose rows gather the whole arrays' rows eight apart sums to their sum. -/
theorem gathered (a : FVec Ideal S8x1024 .f32) (f : Fin 16384 → Fin 1024 → ℝ)
    (ha : ∀ s l, a (ix2 s l) = ((∑ t : Fin cfg0.N, part f t s l : ℝ) : EReal)) (T : FVec Ideal S1024 .f32) (hT : ∀ l, T (ix1 l) = ((∑ t, f t l : ℝ) : EReal)) :
    Host.reduceAdd a (constant S_ .f32 0x00000000#32) reducesTo_S8x1024_S1024_d0 h_S_ = T := by
  funext i
  idx_vars i
  rw [sum8_at, hT]
  simp only [ha, sum_coe]
  exact congrArg _ (sum_rows N_0 fun t => f t i0)

variable (m c)

theorem tail_dg : (Pipeline.afterTail₀ cfgs (dats m) 0 (V0 m) [hostOps1] c main_v5 : FVec Ideal S1024 .f32)
    = Host.reduceAdd (F := Ideal) (φ := .f32) ((dats m 0 c).arrAt 7 cfg0.N) (constant S_ .f32 0x00000000#32) reducesTo_S8x1024_S1024_d0 h_S_ := by
  show StableHlo.after hostOps1 _ (Proc.devRef .tc main_v5) = _
  after_results_simp
  exact congrArg (fun a : FVec Ideal S8x1024 .f32 => Host.reduceAdd a (constant S_ .f32 0x00000000#32) reducesTo_S8x1024_S1024_d0 h_S_)
    (Pipeline.withArrays_arr spec0 winFacts0.arr_inj c _ _ 7)

theorem tail_db : (Pipeline.afterTail₀ cfgs (dats m) 0 (V0 m) [hostOps1] c main_v6 : FVec Ideal S1024 .f32)
    = Host.reduceAdd (F := Ideal) (φ := .f32) ((dats m 0 c).arrAt 8 cfg0.N) (constant S_ .f32 0x00000000#32) reducesTo_S8x1024_S1024_d0 h_S_ := by
  show StableHlo.after hostOps1 _ (Proc.devRef .tc main_v6) = _
  after_results_simp
  exact congrArg (fun a : FVec Ideal S8x1024 .f32 => Host.reduceAdd a (constant S_ .f32 0x00000000#32) reducesTo_S8x1024_S1024_d0 h_S_)
    (Pipeline.withArrays_arr spec0 winFacts0.arr_inj c _ _ 8)

theorem tail_loss : (Pipeline.afterTail₀ cfgs (dats m) 0 (V0 m) [hostOps1] c main_v4 : FVec Ideal S_ .f32)
    = mulf (F := Ideal) (φ := .f32) (constant S_ .f32 0x3A000000#32) (Host.reduceAdd (F := Ideal) (φ := .f32) ((dats m 0 c).arrAt 9 cfg0.N) (constant S_ .f32 0x00000000#32) reducesTo_S8x1024_S_d0_1 h_S_) := by
  show StableHlo.after hostOps1 _ (Proc.devRef .tc main_v4) = _
  after_results_simp
  exact congrArg (fun a : FVec Ideal S8x1024 .f32 => mulf (F := Ideal) (φ := .f32) (constant S_ .f32 0x3A000000#32) (Host.reduceAdd a (constant S_ .f32 0x00000000#32) reducesTo_S8x1024_S_d0_1 h_S_))
    (Pipeline.withArrays_arr spec0 winFacts0.arr_inj c _ _ 9)

end Tail

/-- The shape facts the precondition states. -/
instance preFacts : Cert.Pre_dloss_finite.Facts := by
  constructor <;> decide

/-- Where the precondition holds, the arguments are real numbers. -/
theorem reals_of_pre [Cert.Pre_dloss_finite.Facts] (hp : Cert.Pre_DlossIdeal_dloss_finite m) (c : Dev nD) : ∃ X Y W G S, Real5 m c X Y W G S := by
  have h := congrFun (hp c) ix0
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  choose X hX using fun t l => of_abs_lt (Host.reduce_andi_all _ _ _ _ _ h0 (ix2 t l))
  choose Y hY using fun t l => of_abs_lt (Host.reduce_andi_all _ _ _ _ _ h1 (ix2 t l))
  choose G hG using fun l => of_abs_lt (Host.reduce_andi_all _ _ _ _ _ h2 (ix1 l))
  choose S hS using fun l => of_abs_lt (Host.reduce_andi_all _ _ _ _ _ h3 (ix1 l))
  choose W hW using fun t l => of_abs_lt (Host.reduce_andi_all _ _ _ _ _ h4 (ix2 t l))
  exact ⟨X, Y, W, G, S, hX, hY, hG, hS, hW⟩

section Results

open Cert.DlossRefIdeal.Read

include hR

theorem result_dz : (dats m 0 c).arrAt 5 cfg0.N = val_main_v79 (F := Ideal) (argX m c) (argY m c) (argG m c) (argS m c) (argW m c) :=
  final_dz hR _ fun t l => DlossRef.dz_at hR.x hR.y hR.w hR.g hR.s t l
theorem result_dzb : (dats m 0 c).arrAt 6 cfg0.N = val_main_v80 (F := Ideal) (argX m c) (argY m c) (argG m c) (argS m c) (argW m c) :=
  final_dzb hR _ fun t l => by
    pointwise [val_main_v80]
    exact DlossRef.dz_at hR.x hR.y hR.w hR.g hR.s t l
theorem result_dg : (Pipeline.afterTail₀ cfgs (dats m) 0 (V0 m) [hostOps1] c main_v5 : FVec Ideal S1024 .f32)
    = val_main_v55 (F := Ideal) (argX m c) (argY m c) (argG m c) (argS m c) (argW m c) := by
  rw [tail_dg, final_dg hR (fun j => ((∑ t : Fin cfg0.N, part (fun t l => hat (Z X Y t) l * dmiss X Y W G S t l) t (j 0) (j 1) : ℝ) : EReal)) fun s l => rfl]
  exact gathered _ _ (fun s l => rfl) _ fun l => DlossRef.dg_at hR.x hR.y hR.w hR.g hR.s l
theorem result_db : (Pipeline.afterTail₀ cfgs (dats m) 0 (V0 m) [hostOps1] c main_v6 : FVec Ideal S1024 .f32)
    = val_main_v49 (F := Ideal) (argX m c) (argY m c) (argG m c) (argS m c) (argW m c) := by
  rw [tail_db, final_db hR (fun j => ((∑ t : Fin cfg0.N, part (dmiss X Y W G S) t (j 0) (j 1) : ℝ) : EReal)) fun s l => rfl]
  exact gathered _ _ (fun s l => rfl) _ fun l => DlossRef.db_at hR.x hR.y hR.w hR.g hR.s l
theorem result_loss : (Pipeline.afterTail₀ cfgs (dats m) 0 (V0 m) [hostOps1] c main_v4 : FVec Ideal S_ .f32)
    = val_main_v40 (F := Ideal) (argX m c) (argY m c) (argG m c) (argS m c) (argW m c) := by
  rw [tail_loss, final_loss hR (fun j => ((∑ t : Fin cfg0.N, part (fun t l => miss X Y W G S t l * miss X Y W G S t l) t (j 0) (j 1) : ℝ) : EReal)) fun s l => rfl]
  funext i
  obtain rfl : i = ix0 := funext fun k => k.elim0
  refine Eq.trans ?_ (DlossRef.loss_at hR.x hR.y hR.w hR.g hR.s).symm
  pointwise []
  simp only [sum_coe, half_k_eq, ← EReal.coe_mul]
  refine congrArg (fun z : ℝ => ((1 / 2048 * z : ℝ) : EReal)) ?_
  rw [Finset.sum_comm, Finset.sum_comm (γ := Fin 16384)]
  exact Finset.sum_congr rfl fun l _ => sum_rows N_0 fun t => miss X Y W G S t l * miss X Y W G S t l

end Results

/-- The two programs' results are equal where the arguments are real numbers. -/
theorem value [Cert.Pre_dloss_finite.Facts] : Cert.algebraic_DlossIdeal_DlossRefIdeal_pre_dloss_finite := by
  intro m g m' g' hp hm
  refine ⟨fun c => Cert.DlossRefIdeal.Read.val_main_v79 (F := Ideal) (argX m c) (argY m c) (argG m c) (argS m c) (argW m c),
    fun c => Cert.DlossRefIdeal.Read.val_main_v80 (F := Ideal) (argX m c) (argY m c) (argG m c) (argS m c) (argW m c),
    fun c => Cert.DlossRefIdeal.Read.val_main_v55 (F := Ideal) (argX m c) (argY m c) (argG m c) (argS m c) (argW m c),
    fun c => Cert.DlossRefIdeal.Read.val_main_v49 (F := Ideal) (argX m c) (argY m c) (argG m c) (argS m c) (argW m c),
    fun c => Cert.DlossRefIdeal.Read.val_main_v40 (F := Ideal) (argX m c) (argY m c) (argG m c) (argS m c) (argW m c), ?_, ?_⟩
  · refine θ_run_mono (θ_run_and (frame (F := Ideal) m g) (run_main (F := Ideal) m g)) fun r h c => ?_
    obtain ⟨X, Y, W, G, S, hR⟩ := reals_of_pre hp c
    obtain ⟨ha0, ha1, ha2, ha3, ha4⟩ := h.1.1 c
    exact ⟨(h.2.out_eq c 5).trans (result_dz hR), (h.2.out_eq c 6).trans (result_dzb hR),
      (h.2.rest_eq c main_v5 (by decide)).trans (result_dg hR), (h.2.rest_eq c main_v6 (by decide)).trans (result_db hR),
      (h.2.rest_eq c main_v4 (by decide)).trans (result_loss hR), ha0, ha1, ha2, ha3, ha4⟩
  · refine θ_run_mono (Cert.DlossRefIdeal.Value.run (F := Ideal) m' g') fun r h c => ?_
    obtain ⟨h0, h1, h2, h3, h4, ha⟩ := h c
    obtain ⟨e0, e1, e2, e3, e4⟩ := hm c
    refine ⟨h0.trans ?_, h1.trans ?_, h2.trans ?_, h3.trans ?_, h4.trans ?_, ha⟩
    · rw [Cert.DlossRefIdeal.Read.val_main_v79_eq m' c, e0, e1, e2, e3, e4]
    · rw [Cert.DlossRefIdeal.Read.val_main_v80_eq m' c, e0, e1, e2, e3, e4]
    · rw [Cert.DlossRefIdeal.Read.val_main_v55_eq m' c, e0, e1, e2, e3, e4]
    · rw [e0, e1, e2, e3, e4]; exact Cert.DlossRefIdeal.Read.val_main_v49_eq _ _ _ _ _
    · rw [Cert.DlossRefIdeal.Read.val_main_v40_eq m' c, e0, e1, e2, e3, e4]

/-- The reference runs to its end and leaves its arguments and every counter as they were. -/
theorem frame_ref : Cert.quiescent_DlossRefIdeal := fun m g _ =>
  θ_run_mono (Cert.DlossRefIdeal.Value.run (F := Ideal) m g) fun r h =>
    ⟨fun c => (h c).2.2.2.2.2, sem_eq_zero_of_no_sems (by decide) r.2⟩

end Cert.DlossValue

end
-- ==== Proof.DybRef.lean ====
/- The reference of the gated norm's gradient, read index by index at real arguments. -/
module

public import proofs.«01_k».proof.Defs
public import proofs.«01_k».proof.Proof.Norm
public import proofs.«01_k».proof.Proof.Gen.DybRefIdeal.Read
public import Idealize.ShloMosaic.Lib.Pointwise
public import Idealize.ShloMosaic.Lib.IdealHost

@[expose] public section

set_option maxRecDepth 16384

noncomputable section

namespace Cert.DybRef

open Cert.Norm Cert.DybRefIdeal Cert.DybRefIdeal.Read Idealize.ShloMosaic

/-- A sum over the first two of three axes. -/
theorem two_axes {n0 n1 n2 : ℕ} (h : (⟨3, ![n0, n1, n2]⟩ : Shape).ReducesTo [0, 1] ⟨1, ![n2]⟩) (v : (⟨3, ![n0, n1, n2]⟩ : Shape).Idx → EReal) (init : EReal)
    (k : Fin n2) : Ideal.hostReduceAdd h v init (ix1 k) = init + ∑ a : Fin n0, ∑ b : Fin n1, v (ix3 a b k) := by
  refine congrArg (init + ·) ((Finset.sum_filter_eq_sum_of_fiber _ (fun p : Fin n0 × Fin n1 => ix3 p.1 p.2 k)
    (fun _ _ e => Prod.ext (congrFun e 0) (congrFun e 1)) (fun i => ⟨fun e => ⟨(i 0, i 1), ?_⟩, ?_⟩) v).trans (by simp only [Fintype.sum_prod_type]))
  · funext a
    match a with
    | ⟨0, _⟩ => rfl
    | ⟨1, _⟩ => rfl
    | ⟨2, _⟩ => exact Fin.ext (congrArg Fin.val (congrFun e 0)).symm
  · rintro ⟨p, rfl⟩
    funext b
    match b with
    | ⟨0, _⟩ => rfl

theorem gcol_lt (l : Fin 512) : 3080 + l.val < 5640 := by omega

/-- The gate's columns of the projection. -/
abbrev gcol (l : Fin 512) : Fin 5640 := ⟨3080 + l.val, gcol_lt l⟩

variable {p : FVec Ideal S16384x5640 .f32} {o v : FVec Ideal S16384x512 .f32} {n : FVec Ideal S128 .f32}
variable {O V B : Fin 16384 → Fin 512 → ℝ} {N : Fin 128 → ℝ}

section Norm

variable (ho : ∀ t l, o (ix2 t l) = (O t l : EReal))
include ho

theorem head_at (t : Fin 16384) (h : Fin 4) (k : Fin 128) : val_main_v10 (F := Ideal) o (ix3 t h k) = (head (O t) h k : EReal) := by
  pointwise [val_main_v10]
  rw [ho]; rfl

theorem sq_at (t : Fin 16384) (h : Fin 4) : val_main_v19 (F := Ideal) o (ix3 t h (0 : Fin 1)) = (sq κh εg (head (O t) h) : EReal) := by
  pointwise [val_main_v19, val_main_v17, val_main_v15, val_main_v14, val_main_v11, val_main_v16, val_main_v18, val_main_cst_0, val_main_cst_1, val_main_cst_2]
  simp only [head_at ho, ← EReal.coe_mul, sum_coe, n128_eq, div_real h_ne, epsg_eq, ← EReal.coe_add]
  rfl

theorem rs_at (t : Fin 16384) (h : Fin 4) : val_main_v20 (F := Ideal) o (ix3 t h (0 : Fin 1)) = (rs κh εg (head (O t) h) : EReal) := by
  pointwise [val_main_v20]
  rw [sq_at ho, rsqrt_pos (sq_pos _ h_pos epsg_pos)]; rfl

theorem root_at (t : Fin 16384) (h : Fin 4) : val_main_v23 (F := Ideal) o (ix3 t h (0 : Fin 1))
    = ((-(1 / 2) * (rs κh εg (head (O t) h) * (1 / sq κh εg (head (O t) h))) : ℝ) : EReal) := by
  pointwise [val_main_v23, val_main_v22, val_main_v21, val_main_cst_3]
  rw [rs_at ho, sq_at ho, div_real (sq_pos _ h_pos epsg_pos).ne', neg_half_eq, ← EReal.coe_mul]

theorem hat_at (t : Fin 16384) (h : Fin 4) (k : Fin 128) : val_main_v25 (F := Ideal) o (ix3 t h k) = (hatg (O t) h k : EReal) := by
  pointwise [val_main_v25, val_main_v24]
  rw [head_at ho, rs_at ho, ← EReal.coe_mul]; rfl

end Norm

section Gate

variable (hb : ∀ t l, p (ix2 t (gcol l)) = (B t l : EReal))
include hb

theorem gate_at (t : Fin 16384) (l : Fin 512) : val_main_v35 (F := Ideal) p (ix2 t l) = (σ (B t l) : EReal) := by
  pointwise [val_main_v35, val_main_v34, val_main_v33, val_main_v32, val_main_v31, val_main_v30, val_main_v7, val_main_cst_4, val_main_cst_5]
  rw [hb, σ, ← Ideal.logistic_coe]; rfl

theorem slope_at (t : Fin 16384) (l : Fin 512) : val_main_v38 (F := Ideal) p (ix2 t l) = ((σ (B t l) * (1 - σ (B t l)) : ℝ) : EReal) := by
  pointwise [val_main_v38, val_main_v37, val_main_v36, val_main_cst_6]
  rw [gate_at hb, ← EReal.coe_one, ← EReal.coe_sub, ← EReal.coe_mul]

variable (hv : ∀ t l, v (ix2 t l) = (V t l : EReal))
include hv

theorem through_at (t : Fin 16384) (h : Fin 4) (k : Fin 128) : val_main_v43 (F := Ideal) p v (ix3 t h k) = (through (V t) (B t) h k : EReal) := by
  pointwise [val_main_v43, val_main_v41]
  rw [hv, gate_at hb, ← EReal.coe_mul]; rfl

variable (ho : ∀ t l, o (ix2 t l) = (O t l : EReal))
include ho

/-- The norm's scale's gradient. -/
theorem dn_at (k : Fin 128) : val_main_v49 (F := Ideal) p o v (ix1 k) = ((∑ t, ∑ h, through (V t) (B t) h k * hatg (O t) h k : ℝ) : EReal) := by
  pointwise [val_main_v49, val_main_v46, val_main_cst_8]
  rw [two_axes, Fintype.sum_unique, Fintype.sum_unique]
  pointwise [val_main_v45, val_main_cst_7]
  rw [two_axes]
  pointwise [val_main_v44]
  simp only [through_at hb hv, hat_at ho, ← EReal.coe_mul, sum_coe, zero_add, mul_comm (hatg _ _ _)]

variable (hn : ∀ k, n (ix1 k) = (N k : EReal))
include hn

/-- The gate's gradient. -/
theorem dg_at (t : Fin 16384) (h : Fin 4) (k : Fin 128) : val_main_v42 (F := Ideal) p o n v (ix2 t ⟨h.val * 128 + k.val, by omega⟩) = (dgg (O t) (V t) (B t) N h k : EReal) := by
  pointwise [val_main_v42, val_main_v40, val_main_v29, val_main_v28, val_main_v27, val_main_v26]
  rw [hat_at ho, hn, hv, slope_at hb, ← EReal.coe_mul, ← EReal.coe_mul, ← EReal.coe_mul, dgg]
  exact congrArg _ (by rw [head, head]; ring)

theorem part_at (t : Fin 16384) (h : Fin 4) (k : Fin 128) : val_main_v48 (F := Ideal) p n v (ix3 t h k) = ((through (V t) (B t) h k * N k : ℝ) : EReal) := by
  pointwise [val_main_v48, val_main_v47, val_main_v26]
  rw [through_at hb hv, hn, ← EReal.coe_mul]

theorem down_at (t : Fin 16384) (h : Fin 4) : val_main_v58 (F := Ideal) p o n v (ix2 t h)
    = (slope κh εg (head (O t) h) (fun k => through (V t) (B t) h k * N k) : EReal) := by
  pointwise [val_main_v58, val_main_v57, val_main_v56, val_main_v55, val_main_v52, val_main_v51, val_main_v50, val_main_cst_9, val_main_cst_10, val_main_cst_11]
  rw [Fintype.sum_unique]
  simp only [show (default : Fin 1) = 0 from rfl, head_at ho, part_at hb hv ho hn, root_at ho, ← EReal.coe_mul, sum_coe, n128_eq, div_real h_ne]
  rfl

/-- The normed row's gradient. -/
theorem do_at (t : Fin 16384) (h : Fin 4) (k : Fin 128) : val_main_v61 (F := Ideal) p o n v (ix3 t h k) = (dog (O t) (V t) (B t) N h k : EReal) := by
  rw [dog, ← rule_eq _ _ h_pos epsg_pos]
  pointwise [val_main_v61, val_main_v60, val_main_v59, val_main_v54, val_main_v53, val_main_v13, val_main_v12, val_main_cst]
  rw [down_at hb hv ho hn, part_at hb hv ho hn, rs_at ho, head_at ho, two_eq, ← EReal.coe_mul, ← EReal.coe_mul, ← EReal.coe_mul, ← EReal.coe_add]
  rfl

end Gate

end Cert.DybRef

end
-- ==== Proof.DybPoint.lean ====
/- What one point of the gated norm's gradient computes, at real arguments: four heads, each by the same lines. -/
module

public import proofs.«01_k».proof.Defs
public import proofs.«01_k».proof.Proof.Norm
public import proofs.«01_k».proof.Proof.Gen.DybIdeal.Skeleton
public import Idealize.ShloMosaic.Lib.Pipeline.ValueKit.Point
public import Idealize.ShloMosaic.Lib.IdealHost

@[expose] public section

set_option maxRecDepth 16384

noncomputable section

namespace Cert.DybPoint

open Cert.Norm Cert.DybIdeal Cert.DybIdeal.Gen Idealize.ShloMosaic

/-! ### A head's lines -/

section Lines

variable {F : FTy → Type} [FloatOps F]

/-- The factor that the norm gives each row of a head. -/
def rsOf (o : FVec F S512x128 .f32) : FVec F S512x1 .f32 :=
  rsqrt (addf (divf (shapeCast S512x1 (multiReduction .add [1] S512 (mulf o o) 0x00000000#32 reduces_S512x128_S512 (.inl rfl) rfl) shapeCasts_S512_S512x1)
    (broadcast S512x1 (Scalar.ofBits .f32 0x43000000#32))) (broadcast S512x1 (Scalar.ofBits .f32 0x358637BD#32)))
/-- The head's gradient, from the norm's scale, the head, what comes back, and the gate. -/
def gradOf (n : FVec F S1x128 .f32) (o v s : FVec F S512x128 .f32) : FVec F S512x128 .f32 := k0_pay33 n o v s (rsOf o)
/-- The gate's gradient. -/
def gateOf (n : FVec F S1x128 .f32) (o v s : FVec F S512x128 .f32) : FVec F S512x128 .f32 := k0_pay32 n o v s (rsOf o)
/-- The norm's scale's gradient, rows eight apart gathered. -/
def sumOf (o v s : FVec F S512x128 .f32) : FVec F S8x128 .f32 :=
  multiReduction .add [0] S8x128 (shapeCast S64x8x128 (mulf (k0_pay31 v s) (k0_pay30 o (rsOf o))) shapeCasts_S512x128_S64x8x128) 0x00000000#32 reduces_S64x8x128_S8x128 (.inl rfl) rfl

theorem fits (h : Fin 4) : S512x512.Slices ![0, h.val * 128] S512x128 := by revert h; decide

/-- A block's head. -/
def sl (x : FVec F S512x512 .f32) (h : Fin 4) : FVec F S512x128 .f32 := extractStridedSlice S512x128 ![0, h.val * 128] x (fits h)
/-- Four heads side by side. -/
def beside (f : Fin 4 → FVec F S512x128 .f32) : FVec F S512x512 .f32 :=
  concatenate S512x512 1 [⟨S512x128, f 0⟩, ⟨S512x128, f 1⟩, ⟨S512x128, f 2⟩, ⟨S512x128, f 3⟩] concatenates_S512x128_S512x128_S512x128_S512x128_S512x512_d1

theorem beside_at (f : Fin 4 → FVec F S512x128 .f32) (r : Fin 512) (h : Fin 4) (k : Fin 128) : beside f (ix2 r ⟨h.val * 128 + k.val, by omega⟩) = f h (ix2 r k) := by
  match h with
  | ⟨0, _⟩ => pointwise [beside]
  | ⟨1, _⟩ => pointwise [beside]
  | ⟨2, _⟩ =>
    pointwise [beside]
    rw [dif_neg (by omega), dif_neg (by omega), dif_pos (by omega)]
    exact congrArg (fun z => f 2 (ix2 r z)) (Fin.ext (by show 256 + k.val - 128 - 128 = k.val; omega))
  | ⟨3, _⟩ =>
    pointwise [beside]
    rw [dif_neg (by omega), dif_neg (by omega), dif_neg (by omega)]
    exact congrArg (fun z => f 3 (ix2 r z)) (Fin.ext (by show 384 + k.val - 128 - 128 - 128 = k.val; omega))

variable (v o b : Vec F S512x512 .f32) (n : Vec F S1x128 .f32)

theorem grad_lines : k0_pay1 (k0_pay5 n) (k0_pay16 (k0_pay10 o) (k0_pay15 v o b n)) (k0_pay25 v o (k0_pay5 n) (k0_pay6 b))
      (k0_pay33 (k0_pay5 n) (k0_pay26 o) (k0_pay27 v) (k0_pay28 (k0_pay6 b)) (k0_pay29 o)) (k0_pay37 o) (k0_pay38 o) (k0_pay39 v (k0_pay6 b))
    = beside fun h => gradOf (k0_pay5 n) (sl o h) (sl v h) (sl (k0_pay6 b) h) := rfl

theorem gate_lines : k0_pay2 (k0_pay13 v o b n) (k0_pay23 v o (k0_pay5 n) (k0_pay6 b))
      (k0_pay32 (k0_pay5 n) (k0_pay26 o) (k0_pay27 v) (k0_pay28 (k0_pay6 b)) (k0_pay29 o)) (k0_pay40 v o (k0_pay5 n) (k0_pay6 b))
    = truncf .bf16 (beside fun h => gateOf (k0_pay5 n) (sl o h) (sl v h) (sl (k0_pay6 b) h)) bitsLt_bf16_f32 := rfl

theorem sum_lines : k0_pay41 v o (k0_pay6 b) (k0_pay24 v o (k0_pay6 b) (k0_pay14 v o b)) (k0_pay26 o) (k0_pay27 v) (k0_pay28 (k0_pay6 b)) (k0_pay29 o)
    = addf (addf (addf (addf (broadcast S8x128 (Scalar.ofBits .f32 0x00000000#32)) (sumOf (sl o 0) (sl v 0) (sl (k0_pay6 b) 0))) (sumOf (sl o 1) (sl v 1) (sl (k0_pay6 b) 1)))
        (sumOf (sl o 2) (sl v 2) (sl (k0_pay6 b) 2))) (sumOf (sl o 3) (sl v 3) (sl (k0_pay6 b) 3)) := rfl

end Lines

/-! ### A head at real arguments -/

section Head

variable {n : FVec Ideal S1x128 .f32} {o v s : FVec Ideal S512x128 .f32}
variable {O V S : Fin 512 → Fin 128 → ℝ} {N : Fin 128 → ℝ}
variable (ho : ∀ r k, o (ix2 r k) = (O r k : EReal))
include ho

theorem rs_at (r : Fin 512) : rsOf o (ix2 r (0 : Fin 1)) = (rs κh εg (O r) : EReal) := by
  pointwise [rsOf]
  simp only [ho, ← EReal.coe_mul, ← EReal.coe_add, sum_coe, n128_eq, div_real h_ne, epsg_eq]
  exact rsqrt_pos (sq_pos _ h_pos epsg_pos)

theorem hat_at (r : Fin 512) (k : Fin 128) : k0_pay30 o (rsOf o) (ix2 r k) = ((O r k * rs κh εg (O r) : ℝ) : EReal) := by
  pointwise [k0_pay30]
  rw [ho, rs_at ho, ← EReal.coe_mul]

variable (hv : ∀ r k, v (ix2 r k) = (V r k : EReal)) (hs : ∀ r k, s (ix2 r k) = (S r k : EReal))
include hv hs

theorem sum_at (a : Fin 8) (k : Fin 128) : sumOf o v s (ix2 a k)
    = ((∑ q : Fin 64, V ⟨q.val * 8 + a.val, by omega⟩ k * S ⟨q.val * 8 + a.val, by omega⟩ k * (O ⟨q.val * 8 + a.val, by omega⟩ k * rs κh εg (O ⟨q.val * 8 + a.val, by omega⟩)) : ℝ) : EReal) := by
  pointwise [sumOf, k0_pay31]
  simp only [hat_at ho, hv, hs, ← EReal.coe_mul, sum_coe]

variable (hn : ∀ k, n (ix2 (0 : Fin 1) k) = (N k : EReal))
include hn

theorem gate_at (r : Fin 512) (k : Fin 128) : gateOf n o v s (ix2 r k) = ((V r k * (O r k * rs κh εg (O r)) * N k * S r k * (1 - S r k) : ℝ) : EReal) := by
  pointwise [gateOf, k0_pay32]
  rw [hat_at ho, hv, hs, hn, ← EReal.coe_one, ← EReal.coe_sub, ← EReal.coe_mul, ← EReal.coe_mul, ← EReal.coe_mul, ← EReal.coe_mul]

theorem grad_at (r : Fin 512) (k : Fin 128) : gradOf n o v s (ix2 r k) = ((rs κh εg (O r) * byHand κh εg (O r) (fun k => V r k * S r k * N k) k : ℝ) : EReal) := by
  pointwise [gradOf, k0_pay33, k0_pay31]
  simp only [hat_at ho, rs_at ho, hv, hs, hn, ← EReal.coe_mul, sum_coe, n128_eq, div_real h_ne, ← EReal.coe_sub]
  rfl

end Head

/-! ### The four heads -/

section Heads

variable {v o b : Vec Ideal S512x512 .f32} {n : Vec Ideal S1x128 .f32}
variable {O V B : Fin 512 → Fin 512 → ℝ} {N : Fin 128 → ℝ}
variable (ho : ∀ r l, o (ix2 r l) = (O r l : EReal)) (hv : ∀ r l, v (ix2 r l) = (V r l : EReal)) (hb : ∀ r l, b (ix2 r l) = (B r l : EReal))

variable (hn : ∀ k, n (ix2 (0 : Fin 1) k) = (N k : EReal))

theorem sl_at {x : FVec Ideal S512x512 .f32} {X : Fin 512 → Fin 512 → ℝ} (hx : ∀ r l, x (ix2 r l) = (X r l : EReal)) (h : Fin 4) (r : Fin 512) (k : Fin 128) :
    sl x h (ix2 r k) = (head (X r) h k : EReal) := by
  pointwise [sl]
  rw [hx]; rfl

include hb in
theorem gates_at (r l : Fin 512) : k0_pay6 b (ix2 r l) = (σ (B r l) : EReal) := by
  pointwise [k0_pay6]
  rw [hb, Ideal.logistic_coe]; rfl

include hn in
theorem scale_at (k : Fin 128) : k0_pay5 n (ix2 (0 : Fin 1) k) = (N k : EReal) := by
  pointwise [k0_pay5]
  rw [hn]

include ho hv hb

/-- The scale's gradient: a point adds the sums of rows eight apart, over the four heads. -/
theorem dn_at (acc : Vec Ideal S8x128 .f32) (a : Fin 8) (k : Fin 128) :
    k0_pay4 (k0_pay41 v o (k0_pay6 b) (k0_pay24 v o (k0_pay6 b) (k0_pay14 v o b)) (k0_pay26 o) (k0_pay27 v) (k0_pay28 (k0_pay6 b)) (k0_pay29 o)) acc (ix2 a k)
      = acc (ix2 a k) + ((∑ q : Fin 64, ∑ h, through (V ⟨q.val * 8 + a.val, by omega⟩) (B ⟨q.val * 8 + a.val, by omega⟩) h k * hatg (O ⟨q.val * 8 + a.val, by omega⟩) h k : ℝ) : EReal) := by
  have e (h : Fin 4) := sum_at (sl_at ho h) (sl_at hv h) (sl_at (gates_at hb) h) a k
  rw [sum_lines]
  pointwise [k0_pay4]
  rw [e, e, e, e, ← EReal.coe_add, ← EReal.coe_add, ← EReal.coe_add, Finset.sum_comm, Fin.sum_univ_four]
  rfl

include hn

/-- The gate's gradient. -/
theorem dg_at (r : Fin 512) (h : Fin 4) (k : Fin 128) :
    k0_pay2 (k0_pay13 v o b n) (k0_pay23 v o (k0_pay5 n) (k0_pay6 b))
      (k0_pay32 (k0_pay5 n) (k0_pay26 o) (k0_pay27 v) (k0_pay28 (k0_pay6 b)) (k0_pay29 o)) (k0_pay40 v o (k0_pay5 n) (k0_pay6 b)) (ix2 r ⟨h.val * 128 + k.val, by omega⟩)
      = (dgg (O r) (V r) (B r) N h k : EReal) := by
  rw [gate_lines]
  refine (beside_at (F := Ideal) (fun h => gateOf (k0_pay5 n) (sl o h) (sl v h) (sl (k0_pay6 b) h)) r h k).trans ?_
  exact (gate_at (sl_at ho h) (sl_at hv h) (sl_at (gates_at hb) h) (scale_at hn) r k)

/-- The normed row's gradient. -/
theorem do_at (r : Fin 512) (h : Fin 4) (k : Fin 128) :
    k0_pay1 (k0_pay5 n) (k0_pay16 (k0_pay10 o) (k0_pay15 v o b n)) (k0_pay25 v o (k0_pay5 n) (k0_pay6 b))
      (k0_pay33 (k0_pay5 n) (k0_pay26 o) (k0_pay27 v) (k0_pay28 (k0_pay6 b)) (k0_pay29 o)) (k0_pay37 o) (k0_pay38 o) (k0_pay39 v (k0_pay6 b)) (ix2 r ⟨h.val * 128 + k.val, by omega⟩)
      = (dog (O r) (V r) (B r) N h k : EReal) := by
  rw [grad_lines, beside_at]
  exact grad_at (sl_at ho h) (sl_at hv h) (sl_at (gates_at hb) h) (scale_at hn) r k

end Heads

end Cert.DybPoint

end
-- ==== Proof.DybValue.lean ====
/- The value of the gradient of the gated norm: the kernel's three results, read index by index, are what the reference computes. -/
module

public import proofs.«01_k».proof.Defs
public import proofs.«01_k».proof.Proof.Finite
public import proofs.«01_k».proof.Proof.DybRef
public import proofs.«01_k».proof.Proof.DybPoint
public import proofs.«01_k».proof.Proof.Gen.DybIdeal.Frame
public import proofs.«01_k».proof.Proof.Gen.DybRefIdeal.Run
public import proofs.«01_k».proof.Proof.Gen.DybRefIdeal.Read
public import Idealize.ShloMosaic.Lib.Pipeline.ValueKit
public import Idealize.ShloMosaic.Lib.Claim

@[expose] public section

set_option maxRecDepth 16384

noncomputable section

namespace Cert.DybValue

open Cert.DybIdeal Cert.DybIdeal.Gen Idealize.ShloMosaic Idealize.ShloMosaic.TcCoe Idealize.SL.Sem
open Cert.Fin Cert.Norm

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 7] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)

theorem row_lt (t : Fin cfg0.N) (r : Fin 512) : t.val * 512 + r.val < 16384 := by
  have := t.isLt; have : cfg0.N = 32 := N_0; omega

/-- The row of the whole arrays that a point's row is. -/
abbrev row (t : Fin cfg0.N) (r : Fin 512) : Fin 16384 := ⟨t.val * 512 + r.val, row_lt t r⟩

/-- A device's arguments. -/
abbrev argP (c : Dev nD) : FVec Ideal S16384x5640 .f32 := m ((c : Thread nD τ).loc main_arg0)
abbrev argO (c : Dev nD) : FVec Ideal S16384x512 .f32 := m ((c : Thread nD τ).loc main_arg1)
abbrev argN (c : Dev nD) : FVec Ideal S128 .f32 := m ((c : Thread nD τ).loc main_arg2)
abbrev argV (c : Dev nD) : FVec Ideal S16384x512 .f32 := m ((c : Thread nD τ).loc main_arg3)

/-- The arguments' entries, as real numbers; of the projection only the gate's columns. -/
structure Real4 (c : Dev nD) (B O V : Fin 16384 → Fin 512 → ℝ) (N : Fin 128 → ℝ) : Prop where
  b : ∀ t l, argP m c (ix2 t (DybRef.gcol l)) = (B t l : EReal)
  o : ∀ t l, argO m c (ix2 t l) = (O t l : EReal)
  n : ∀ l, argN m c (ix1 l) = (N l : EReal)
  v : ∀ t l, argV m c (ix2 t l) = (V t l : EReal)

/-- The projection's columns in the kernel's order, its first 1536 left off. -/
def permuted (x : FVec Ideal S16384x5640 .f32) : FVec Ideal S16384x4224 .f32 :=
  extractStridedSlice S16384x4224 ![0, 1536]
    (concatenate S16384x5760 1
      [⟨S16384x1536, extractStridedSlice S16384x1536 ![0, 0] x slices_S16384x5640_S16384x1536_0_0⟩,
        ⟨S16384x2048, extractStridedSlice S16384x2048 ![0, 3592] x slices_S16384x5640_S16384x2048_0_3592⟩,
        ⟨S16384x2048, extractStridedSlice S16384x2048 ![0, 1544] x slices_S16384x5640_S16384x2048_0_1544⟩,
        ⟨S16384x8, extractStridedSlice S16384x8 ![0, 1536] x slices_S16384x5640_S16384x8_0_1536⟩,
        ⟨S16384x120, broadcastInDim S16384x120 ![] bcast_S_S16384x120 (constant S_ .f32 0x00000000#32)⟩]
      concatenates_S16384x1536_S16384x2048_S16384x2048_S16384x8_S16384x120_S16384x5760_d1)
    slices_S16384x5760_S16384x4224_0_1536

theorem entry_eq (c : Dev nD) : V m c main_v6 = permuted (argP m c) := by
  show StableHlo.after hostOps0 (fun b => m (c, b)) (Proc.devRef .tc main_v6) = _
  after_results_simp <;> rfl

/-- The permuted projection at the gate's column. -/
theorem perm_read (x : FVec Ideal S16384x5640 .f32) (r : Fin 16384) (l : Fin 512) :
    permuted x (ix2 r ⟨3584 + l.val, by omega⟩) = x (ix2 r ⟨3080 + l.val, by omega⟩) := by
  pointwise [permuted]
  rw [dif_neg (by omega), dif_pos (by omega)]
  exact congrArg (fun z => x (ix2 r z)) (Fin.ext (by dsimp only; omega))

variable {m} {c : Dev nD} {B O V : Fin 16384 → Fin 512 → ℝ} {N : Fin 128 → ℝ} (hR : Real4 m c B O V N)

section Reads

include hR

theorem v_read (t : Fin cfg0.N) (r l : Fin 512) : iblk m c 0 t (ix2 r l) = (V (row t r) l : EReal) := by
  rw [← hR.v]; blk_ext [iblk, Gen.V, e0 t]
theorem o_read (t : Fin cfg0.N) (r l : Fin 512) : iblk m c 1 t (ix2 r l) = (O (row t r) l : EReal) := by
  rw [← hR.o]; blk_ext [iblk, Gen.V, e1 t]
theorem b_read (t : Fin cfg0.N) (r l : Fin 512) : X0_2 m c t (ix2 r l) = (B (row t r) l : EReal) := by
  rw [← hR.b]
  refine Eq.trans ?_ ((congrFun (entry_eq m c) (ix2 (row t r) ⟨3584 + l.val, by omega⟩)).trans (perm_read _ _ _))
  unfold X0_2 Pipeline.Window.fill
  rw [dif_pos (moved0_2 t _)]
  blk_ext [iblk, e2 t]

omit hR in
theorem scale_eq (c : Dev nD) (l : Fin 128) : (Gen.V m c main_v7 : Vec Ideal S1x128 .f32) (ix2 (0 : Fin 1) l) = argN m c (ix1 l) := by
  have e : (Gen.V m c main_v7 : Vec Ideal S1x128 .f32) = shapeCast _ (argN m c) shapeCasts_S128_S1x128 := by
    show StableHlo.after hostOps0 (fun b => m (c, b)) (Proc.devRef .tc main_v7) = _
    after_results_simp <;> rfl
  rw [e]
  pointwise []

theorem n_read (t : Fin cfg0.N) (l : Fin 128) : iblk m c 3 t (ix2 (0 : Fin 1) l) = (N l : EReal) := by
  rw [← hR.n, ← scale_eq]; blk_ext [iblk, e3 t]

end Reads

/-- A column of four heads is a head's column. -/
theorem split (l : Fin 512) : ∃ (h : Fin 4) (k : Fin 128), l = ⟨h.val * 128 + k.val, by omega⟩ :=
  ⟨⟨l.val / 128, by omega⟩, ⟨l.val % 128, by omega⟩, Fin.ext (by dsimp only; omega)⟩

section Finals

include hR

/-- What the kernel leaves of the recurrence's output's gradient. -/
theorem final_do (T : FVec Ideal S16384x512 .f32) (hT : ∀ t (h : Fin 4) (k : Fin 128), T (ix2 t ⟨h.val * 128 + k.val, by omega⟩) = (dog (O t) (V t) (B t) N h k : EReal)) :
    (dats m 0 c).arrAt 4 cfg0.N = T := by
  refine (dats m 0 c).arrAt_eq_of_covers 4 _ (by decide +kernel) fun t hf y => ?_
  blk_simp
  rw [after0_4]
  idx_vars y
  obtain ⟨h, k, rfl⟩ := split y1
  rw [show ((View.whole main_v8_0).slice (win0_4.rect t)).emb (ix2 y0 ⟨h.val * 128 + k.val, by omega⟩) = (ix2 (row t y0) ⟨h.val * 128 + k.val, by omega⟩ : S16384x512.Idx) by blk_ext [e4 t], hT]
  by_cases h0 : t.val % 32 = 0
  · rw [outsAt0_A m c t h0]; frame_out
    exact DybPoint.do_at (o_read hR t) (v_read hR t) (b_read hR t) (n_read hR t) y0 h k
  · rw [outsAt0_B m c t h0]; frame_out
    exact DybPoint.do_at (o_read hR t) (v_read hR t) (b_read hR t) (n_read hR t) y0 h k

/-- What it leaves of the gate's gradient. -/
theorem final_dgate (T : FVec Ideal S16384x512 .bf16) (hT : ∀ t (h : Fin 4) (k : Fin 128), T (ix2 t ⟨h.val * 128 + k.val, by omega⟩) = (dgg (O t) (V t) (B t) N h k : EReal)) :
    (dats m 0 c).arrAt 5 cfg0.N = T := by
  refine (dats m 0 c).arrAt_eq_of_covers 5 _ (by decide +kernel) fun t hf y => ?_
  blk_simp
  rw [after0_5]
  idx_vars y
  obtain ⟨h, k, rfl⟩ := split y1
  rw [show ((View.whole main_v8_1).slice (win0_5.rect t)).emb (ix2 y0 ⟨h.val * 128 + k.val, by omega⟩) = (ix2 (row t y0) ⟨h.val * 128 + k.val, by omega⟩ : S16384x512.Idx) by blk_ext [e5 t], hT]
  by_cases h0 : t.val % 32 = 0
  · rw [outsAt0_A m c t h0]; frame_out
    exact DybPoint.dg_at (o_read hR t) (v_read hR t) (b_read hR t) (n_read hR t) y0 h k
  · rw [outsAt0_B m c t h0]; frame_out
    exact DybPoint.dg_at (o_read hR t) (v_read hR t) (b_read hR t) (n_read hR t) y0 h k

/-- The last point of the grid. -/
abbrev tLast : Fin cfg0.N := ⟨31, by rw [show cfg0.N = 32 from N_0]; omega⟩

/-- What a point adds to one row of the accumulator: the rows eight apart. -/
def part (f : Fin 16384 → Fin 128 → ℝ) (t : Fin cfg0.N) (s : Fin 8) (l : Fin 128) : ℝ :=
  ∑ q : Fin 64, f (row t ⟨q.val * 8 + s.val, by omega⟩) l

omit hR in
/-- A row's share of the scale's gradient. -/
def share (B O V : Fin 16384 → Fin 512 → ℝ) (t : Fin 16384) (k : Fin 128) : ℝ := ∑ h, through (V t) (B t) h k * hatg (O t) h k

/-- The accumulator of the scale's gradient. -/
theorem final_dn (T : FVec Ideal S8x128 .f32) (hT : ∀ s l, T (ix2 s l) = ((∑ t : Fin cfg0.N, part (share B O V) t s l : ℝ) : EReal)) :
    (dats m 0 c).arrAt 6 cfg0.N = T := by
  refine (dats m 0 c).arrAt_eq_of_covers 6 _ (by decide +kernel) fun t hf y => ?_
  obtain rfl : t = tLast := Fin.ext (by have := (flush0_6 t).mp hf; have := t.isLt; have : cfg0.N = 32 := N_0; show t.val = 31; omega)
  blk_simp
  idx_vars y
  rw [show ((View.whole main_v8_2).slice (win0_6.rect tLast)).emb (ix2 y0 y1) = (ix2 y0 y1 : S8x128.Idx) by blk_ext [e6 tLast], hT, after0_6,
    Pipeline.eq_sum_fin_of_reset_step_apply_last (fun n h => (outsAt0 m c n h).2.2) 32 (fun _ => (0 : EReal)) (fun t j => (part (share B O V) t (j 0) (j 1) : EReal))
      (fun t h j => by
        rw [outsAt0_A m c t h]; frame_out; idx_vars j
        refine (DybPoint.dn_at (o_read hR t) (v_read hR t) (b_read hR t) _ j0 j1).trans (congrArg (· + _) ?_)
        pointwise [k0_pay3])
      (fun t h j => by
        rw [outsAt0_B m c t h]; frame_out; idx_vars j
        exact DybPoint.dn_at (o_read hR t) (v_read hR t) (b_read hR t) _ j0 j1)
      (le_of_eq N_0) tLast rfl]
  rw [sum_coe, zero_add]
  rfl

end Finals

section Tail

variable (m c)

theorem tail_dn : (Pipeline.afterTail₀ cfgs (dats m) 0 (V0 m) [hostOps1] c main_v9 : FVec Ideal S128 .f32)
    = Host.reduceAdd (F := Ideal) (φ := .f32) ((dats m 0 c).arrAt 6 cfg0.N) (constant S_ .f32 0x00000000#32) reducesTo_S8x128_S128_d0 h_S_ := by
  show StableHlo.after hostOps1 _ (Proc.devRef .tc main_v9) = _
  after_results_simp
  exact congrArg (fun a : FVec Ideal S8x128 .f32 => Host.reduceAdd a (constant S_ .f32 0x00000000#32) reducesTo_S8x128_S128_d0 h_S_)
    (Pipeline.withArrays_arr spec0 winFacts0.arr_inj c _ _ 6)

end Tail

/-- The shape facts the precondition states. -/
instance preFacts : Cert.Pre_dyb_finite.Facts := by
  constructor <;> decide

/-- Where the precondition holds, the arguments are real numbers. -/
theorem reals_of_pre [Cert.Pre_dyb_finite.Facts] (hp : Cert.Pre_DybIdeal_dyb_finite m) (c : Dev nD) : ∃ B O V N, Real4 m c B O V N := by
  have h := congrFun (hp c) ix0
  obtain ⟨h, h3⟩ := IntOp.andi_eq_one.1 h
  obtain ⟨h, h2⟩ := IntOp.andi_eq_one.1 h
  obtain ⟨h0, h1⟩ := IntOp.andi_eq_one.1 h
  choose P hP using fun t l => of_abs_lt (Host.reduce_andi_all _ _ _ _ _ h0 (ix2 t l))
  choose O hO using fun t l => of_abs_lt (Host.reduce_andi_all _ _ _ _ _ h1 (ix2 t l))
  choose N hN using fun l => of_abs_lt (Host.reduce_andi_all _ _ _ _ _ h2 (ix1 l))
  choose V hV using fun t l => of_abs_lt (Host.reduce_andi_all _ _ _ _ _ h3 (ix2 t l))
  exact ⟨fun t l => P t (DybRef.gcol l), O, V, N, fun t l => hP t _, hO, hN, hV⟩

section Results

open Cert.DybRefIdeal.Read

include hR

theorem result_do : (dats m 0 c).arrAt 4 cfg0.N = val_main_v62 (F := Ideal) (argP m c) (argO m c) (argN m c) (argV m c) :=
  final_do hR _ fun t h k => by
    pointwise [val_main_v62]
    exact DybRef.do_at hR.b hR.v hR.o hR.n t h k
theorem result_dgate : (dats m 0 c).arrAt 5 cfg0.N = val_main_v63 (F := Ideal) (argP m c) (argO m c) (argN m c) (argV m c) :=
  final_dgate hR _ fun t h k => by
    pointwise [val_main_v63]
    exact DybRef.dg_at hR.b hR.v hR.o hR.n t h k
theorem result_dn : (Pipeline.afterTail₀ cfgs (dats m) 0 (V0 m) [hostOps1] c main_v9 : FVec Ideal S128 .f32)
    = val_main_v49 (F := Ideal) (argP m c) (argO m c) (argV m c) := by
  rw [tail_dn, final_dn hR (fun j => ((∑ t : Fin cfg0.N, part (share B O V) t (j 0) (j 1) : ℝ) : EReal)) fun s l => rfl]
  funext i
  idx_vars i
  refine Eq.trans ?_ (DybRef.dn_at hR.b hR.v hR.o i0).symm
  pointwise []
  simp only [sum_coe]
  exact congrArg _ (sum_rows N_0 fun t => share B O V t i0)

end Results

/-- The two programs' results are equal where the arguments are real numbers. -/
theorem value [Cert.Pre_dyb_finite.Facts] : Cert.algebraic_DybIdeal_DybRefIdeal_pre_dyb_finite := by
  intro m g m' g' hp hm
  refine ⟨fun c => Cert.DybRefIdeal.Read.val_main_v62 (F := Ideal) (argP m c) (argO m c) (argN m c) (argV m c),
    fun c => Cert.DybRefIdeal.Read.val_main_v63 (F := Ideal) (argP m c) (argO m c) (argN m c) (argV m c),
    fun c => Cert.DybRefIdeal.Read.val_main_v49 (F := Ideal) (argP m c) (argO m c) (argV m c), ?_, ?_⟩
  · refine θ_run_mono (θ_run_and (frame (F := Ideal) m g) (run_main (F := Ideal) m g)) fun r h c => ?_
    obtain ⟨B, O, V, N, hR⟩ := reals_of_pre hp c
    obtain ⟨ha0, ha1, ha2, ha3⟩ := h.1.1 c
    exact ⟨(h.2.out_eq c 4).trans (result_do hR), (h.2.out_eq c 5).trans (result_dgate hR),
      (h.2.rest_eq c main_v9 (by decide)).trans (result_dn hR), ha0, ha1, ha2, ha3⟩
  · refine θ_run_mono (Cert.DybRefIdeal.Value.run (F := Ideal) m' g') fun r h c => ?_
    obtain ⟨h0, h1, h2, ha⟩ := h c
    obtain ⟨e0, e1, e2, e3⟩ := hm c
    refine ⟨h0.trans ?_, h1.trans ?_, h2.trans ?_, ha⟩
    · rw [e0, e1, e2, e3]; exact Cert.DybRefIdeal.Read.val_main_v62_eq _ _ _ _
    · rw [e0, e1, e2, e3]; exact Cert.DybRefIdeal.Read.val_main_v63_eq _ _ _ _
    · rw [e0, e1, e3]; exact Cert.DybRefIdeal.Read.val_main_v49_eq _ _ _

/-- The reference runs to its end and leaves its arguments and every counter as they were. -/
theorem frame_ref : Cert.quiescent_DybRefIdeal := fun m g _ =>
  θ_run_mono (Cert.DybRefIdeal.Value.run (F := Ideal) m g) fun r h =>
    ⟨fun c => (h c).2.2.2, sem_eq_zero_of_no_sems (by decide) r.2⟩

end Cert.DybValue

end
-- ==== Proof.Suffix.lean ====
/- Sums from an index on: the reversed running sum of a column, and its split into a block's own rows and the rows after the block. -/
module

public import proofs.«01_k».proof.Proof.Norm
public import Idealize.ShloMosaic.Lib.Routing.OpsOne
public import Idealize.ShloMosaic.Lib.Pipeline.ValueKit.Point
public import Idealize.ShloMosaic.Lib.IdealHost

@[expose] public section

noncomputable section

namespace Cert.Suffix

open Cert Idealize.ShloMosaic

section
variable {α : Type} [AddCommMonoid α]

/-- A fold that adds one term per entry is the sum of the terms. -/
theorem foldl_sum {N : ℕ} (g : Fin N → α) : (List.finRange N).foldl (fun r n => r + g n) 0 = ∑ n, g n := by
  rw [Fin.sum_univ_def, List.sum_eq_foldl, List.foldl_map]

/-- The terms with index at least `n`, as a sum over an interval. -/
theorem sum_from {N : ℕ} (g : ℕ → α) (n : ℕ) : (∑ i : Fin N, if n ≤ i.val then g i.val else 0) = ∑ i ∈ Finset.Ico n N, g i := by
  rw [Fin.sum_univ_eq_sum_range (fun i => if n ≤ i then g i else 0) N, ← Finset.sum_filter]
  exact Finset.sum_congr (Finset.ext fun i => by simp only [Finset.mem_filter, Finset.mem_range, Finset.mem_Ico]; omega) fun _ _ => rfl

/-- The terms with index at least `n`, counted from `n`. -/
theorem sum_shift {N : ℕ} (g : ℕ → α) (n : ℕ) : (∑ i : Fin N, if n + i.val < N then g (n + i.val) else 0) = ∑ i ∈ Finset.Ico n N, g i := by
  rw [Fin.sum_univ_eq_sum_range (fun i => if n + i < N then g (n + i) else 0) N, ← Finset.sum_filter, Finset.sum_Ico_eq_sum_range]
  exact Finset.sum_congr (Finset.ext fun i => by simp only [Finset.mem_filter, Finset.mem_range]; omega) fun _ _ => rfl

/-- A block's rows from row `r` on and every row after the block are the rows from the block's row `r` on. -/
theorem sum_split {N M : ℕ} (g : ℕ → α) (b r : ℕ) (hr : r ≤ M) (hb : b + M ≤ N) :
    (∑ i ∈ Finset.Ico r M, g (b + i)) + ∑ i ∈ Finset.Ico (b + M) N, g i = ∑ i ∈ Finset.Ico (b + r) N, g i := by
  rw [Finset.sum_Ico_add, Nat.add_comm r b, Nat.add_comm M b, Finset.sum_Ico_consecutive _ (by omega) hb]

end

/-- A function on the first `N` numbers, zero from `N` on. -/
def ext {N : ℕ} (f : Fin N → ℝ) (i : ℕ) : ℝ := if h : i < N then f ⟨i, h⟩ else 0

theorem ext_val {N : ℕ} (f : Fin N → ℝ) (i : Fin N) : ext f i.val = f i := dif_pos i.isLt

/-- The sum of the entries from `n` on. -/
def suffix {N : ℕ} (f : Fin N → ℝ) (n : ℕ) : ℝ := ∑ i ∈ Finset.Ico n N, ext f i

theorem suffix_end {N : ℕ} (f : Fin N → ℝ) : suffix f N = 0 := by
  rw [suffix, Finset.Ico_self, Finset.sum_empty]

/-- The sum from a block's row `r` on: the block's own rows from `r` on and the sum from the next block on. -/
theorem suffix_block {N M : ℕ} (f : Fin N → ℝ) (b : ℕ) (hb : b + M ≤ N) (r : Fin M) :
    (∑ c : Fin M, if r ≤ c then f ⟨b + c.val, by have := c.isLt; omega⟩ else 0) + suffix f (b + M) = suffix f (b + r.val) := by
  rw [suffix, suffix, ← sum_split (M := M) (ext f) b r.val (by omega) hb, ← sum_from (N := M) (fun i => ext f (b + i)) r.val]
  congr 1
  refine Finset.sum_congr rfl fun c _ => ?_
  have hc : ext f (b + c.val) = f ⟨b + c.val, by have := c.isLt; omega⟩ := dif_pos _
  rw [hc]; rfl

/-- The reversed running sum of an `[R, C]` matrix down its columns: entry `(j, c)` sums the entries `(i, c)` with `i` at least `j`. -/
theorem rev_running {R Rm1 C : ℕ} (hR : Rm1 + 1 = R) (x : FVec Ideal ⟨2, ![R, C]⟩ .f32) (f : Fin C → Fin R → ℝ)
    (hx : ∀ (i : Fin R) (c : Fin C), x (ix2 i c) = (f c i : EReal)) (init : FVec Ideal ⟨0, ![]⟩ .f32) (hinit : init ix0 = 0)
    (h : (⟨2, ![R, C]⟩ : Shape).ReduceWindows (![R, 1] : Fin 2 → Nat) ![1, 1] ![0, 0] ![Rm1, 0] ⟨2, ![R, C]⟩)
    (hu : 0 < (⟨0, ![]⟩ : Shape).numel) (j : Fin R) (c : Fin C) :
    Host.reduceWindowAdd (F := Ideal) ![R, 1] ![1, 1] ![0, 0] ![Rm1, 0] x init h hu (ix2 j c) = ((suffix (f c) j.val : ℝ) : EReal) := by
  have hj := j.isLt
  have hv : init (Shape.Idx.first hu) = 0 := (congrArg init (funext fun k => k.elim0)).trans hinit
  show Ideal.hostReduceWindowAdd _ _ _ _ h x (init (Shape.Idx.first hu)) (ix2 j c) = _
  rw [hv]
  unfold Ideal.hostReduceWindowAdd Host.reduceWindow
  refine (foldl_sum (α := EReal) _).trans ?_
  rw [suffix, ← sum_shift (N := R) (ext (f c)) j.val, ← Norm.sum_coe]
  refine Fintype.sum_equiv (finCongr (Routing.numel_col R)) _ _ fun n => ?_
  have hw0 : ((Routing.shape2 R 1).rowMajor.symm n 0).val = n.val := by rw [Routing.symm_col]; rfl
  have hw1 : ((Routing.shape2 R 1).rowMajor.symm n 1).val = 0 := by rw [Routing.symm_col]; rfl
  dsimp only
  have hp : ∀ a : Fin 2, (ix2 j c (a.cast h.1.symm)).val * (![1, 1] : Fin 2 → ℕ) a + ((Routing.shape2 R 1).rowMajor.symm n a).val
      - (![0, 0] : Fin 2 → ℕ) a = (![j.val + n.val, c.val] : Fin 2 → ℕ) a := fun a => by
    match a with
    | ⟨0, _⟩ => show j.val * 1 + ((Routing.shape2 R 1).rowMajor.symm n 0).val - 0 = j.val + n.val; rw [hw0]; omega
    | ⟨1, _⟩ => show c.val * 1 + ((Routing.shape2 R 1).rowMajor.symm n 1).val - 0 = c.val; rw [hw1]; omega
  split
  · next hin =>
    have h0 := (hin 0).2
    change j.val * 1 + ((Routing.shape2 R 1).rowMajor.symm n 0).val - 0 < R at h0
    rw [hw0] at h0
    have hlt : j.val + n.val < R := by omega
    rw [show ((finCongr (Routing.numel_col R)) n).val = n.val from rfl, if_pos hlt]
    refine (congrArg x (funext fun a => Fin.ext ?_)).trans ((hx ⟨j.val + n.val, hlt⟩ c).trans (congrArg _ (ext_val (f c) ⟨j.val + n.val, hlt⟩).symm))
    match a with
    | ⟨0, _⟩ => exact hp 0
    | ⟨1, _⟩ => exact hp 1
  · next hin =>
    have hlt : ¬ j.val + n.val < R := fun hlt => hin fun a => by
      match a with
      | ⟨0, _⟩ => exact ⟨Nat.zero_le _, lt_of_eq_of_lt (hp 0) hlt⟩
      | ⟨1, _⟩ => exact ⟨Nat.zero_le _, lt_of_eq_of_lt (hp 1) c.isLt⟩
    rw [show ((finCongr (Routing.numel_col R)) n).val = n.val from rfl, if_neg hlt]; rfl

end Cert.Suffix
-- ==== Proof.FgateRef.lean ====
/- The forget gate's gradient, by the chain rule, line by line of the reference, at real arguments. -/
module

public import proofs.«01_k».proof.Defs
public import proofs.«01_k».proof.Proof.Norm
public import proofs.«01_k».proof.Proof.Suffix
public import proofs.«01_k».proof.Proof.Finite
public import proofs.«01_k».proof.Proof.Gen.DfgateRefIdeal.Read
public import Idealize.ShloMosaic.Lib.Pipeline.ValueKit.Point
public import Idealize.ShloMosaic.Lib.IdealHost

@[expose] public section

set_option maxRecDepth 16384

noncomputable section

namespace Cert.FgateRef

open Cert.Norm Cert.Suffix Cert.DfgateRefIdeal Cert.DfgateRefIdeal.Read Idealize.ShloMosaic

/-- The softplus of `u` as the reference writes it. -/
def soft (u : ℝ) : ℝ := max u 0 + Real.log (1 + Real.exp (-|u|))

/-- The exponential of `u` less its softplus is the logistic function of `u`. -/
theorem exp_soft (u : ℝ) : Real.exp (u - soft u) = σ u := by
  have hp : 0 < 1 + Real.exp (-|u|) := by positivity
  rw [soft, ← sub_sub, Real.exp_sub, Real.exp_log hp, σ]
  rcases le_total 0 u with h | h
  · rw [max_eq_left h, abs_of_nonneg h, sub_self, Real.exp_zero, one_div]
  · rw [max_eq_right h, abs_of_nonpos h, sub_zero, neg_neg, Real.exp_neg]
    have h1 : Real.exp u ≠ 0 := (Real.exp_pos u).ne'
    have h2 : 1 + Real.exp u ≠ 0 := (by positivity : (0 : ℝ) < 1 + Real.exp u).ne'
    have h3 : 1 + (Real.exp u)⁻¹ ≠ 0 := (by positivity : (0 : ℝ) < 1 + (Real.exp u)⁻¹).ne'
    field_simp
    ring

theorem coe_max (a b : ℝ) : ((max a b : ℝ) : EReal) = max (a : EReal) (b : EReal) := EReal.coe_strictMono.monotone.map_max

theorem log1p_exp (u : ℝ) : Ideal.log1p (Real.exp u : EReal) = ((Real.log (1 + Real.exp u) : ℝ) : EReal) := by
  have hp : 0 < 1 + Real.exp u := by positivity
  rw [Ideal.log1p, ← EReal.coe_one, ← EReal.coe_add]
  exact (Ideal.log_coe _).trans (if_neg (not_le.mpr hp))

/-- The gate column of head `h` in the projection. -/
abbrev gate (h : Fin 8) : Fin 5640 := ⟨1536 + h.val, by omega⟩

variable {x : FVec Ideal S16384x5640 .f32} {b : FVec Ideal S8 .f32} {q k : FVec Ideal S16384x8 .f32}
variable {X : Fin 16384 → Fin 5640 → ℝ} {B : Fin 8 → ℝ} {Q K : Fin 16384 → Fin 8 → ℝ}

/-- Minus the gate before its `log_sigmoid`. -/
def U (X : Fin 16384 → Fin 5640 → ℝ) (B : Fin 8 → ℝ) (t : Fin 16384) (h : Fin 8) : ℝ := -(X t (gate h) + B h)

/-- What reaches the running sum's entry: one part from the queries, one from the keys. -/
def df (Q K : Fin 16384 → Fin 8 → ℝ) (h : Fin 8) (t : Fin 16384) : ℝ := Q t h + K t h

/-- The gradient before the `log_sigmoid`. -/
def dfa (X : Fin 16384 → Fin 5640 → ℝ) (B : Fin 8 → ℝ) (Q K : Fin 16384 → Fin 8 → ℝ) (t : Fin 16384) (h : Fin 8) : ℝ :=
  suffix (df Q K h) t.val * σ (U X B t h)

section
variable (hx : ∀ t l, x (ix2 t l) = (X t l : EReal)) (hb : ∀ h, b (ix1 h) = (B h : EReal))
include hx hb

theorem neg_at (t : Fin 16384) (h : Fin 8) : val_main_call0_v0 (F := Ideal) x b (ix2 t h) = (U X B t h : EReal) := by
  pointwise [val_main_call0_v0, val_main_v12, val_main_v3, val_main_v11, val_main_v10]
  rw [hx, hb, ← EReal.coe_add, ← EReal.coe_neg]; rfl

theorem soft_at (t : Fin 16384) (h : Fin 8) : val_main_call0_v1_0 (F := Ideal) x b (ix2 t h) = (soft (U X B t h) : EReal) := by
  pointwise [val_main_call0_v1_0, val_main_call0_call0_v4, val_main_call0_call0_v6, val_main_call0_call0_v11, val_main_call0_call0_v1,
    val_main_call0_call0_v10, val_main_call0_call0_v9, val_main_call0_call0_v8, val_main_call0_call0_v7, val_main_call0_call0_v3,
    val_main_call0_call0_v2, val_main_call0_call0_v0, val_main_call0_call0_v5, val_main_call0_call0_cst]
  rw [neg_at hx hb]
  rw [if_neg (fun h => h rfl), show FloatOps.absf (F := Ideal) (φ := .f32) (U X B t h : EReal) = ((|U X B t h| : ℝ) : EReal) from
      (coe_max _ _).symm, ← EReal.coe_neg, Ideal.exp_coe, log1p_exp, ← EReal.coe_zero, ← coe_max, ← EReal.coe_add]
  rfl

theorem slope_at (t : Fin 16384) (h : Fin 8) : val_main_v13_1 (F := Ideal) x b (ix2 t h) = (σ (U X B t h) : EReal) := by
  pointwise [val_main_v13_1, val_main_call0_call0_v21, val_main_call0_call0_v16, val_main_call0_call0_v20, val_main_call0_call0_v14,
    val_main_call0_call0_v15, val_main_call0_call0_v18, val_main_call0_call0_v19, val_main_call0_call0_v13, val_main_call0_call0_v17,
    val_main_call0_call0_cst_0, val_main_call0_call0_cst_1, val_main_call0_call0_cst_2, val_main_call0_call0_cst_3]
  rw [neg_at hx hb, soft_at hx hb]
  rw [Cert.Fin.ofBits_inf, if_neg (EReal.coe_ne_top _), if_neg (EReal.coe_ne_top _), ← EReal.coe_sub, Ideal.exp_coe, exp_soft]

end

section
variable (hq : ∀ t h, q (ix2 t h) = (Q t h : EReal)) (hk : ∀ t h, k (ix2 t h) = (K t h : EReal))
include hq hk

theorem run_at (t : Fin 16384) (h : Fin 8) : val_main_v16 (F := Ideal) q k (ix2 t h) = (suffix (df Q K h) t.val : EReal) := by
  unfold val_main_v16
  refine rev_running (R := 16384) (Rm1 := 16383) (C := 8) rfl _ (df Q K) (fun i c => ?_) _ ?_ _ _ t h
  · pointwise [val_main_v15]
    rw [hq, hk, ← EReal.coe_add]; rfl
  · pointwise [val_main_call2_call0_v0, val_main_call2_call0_cst]

variable (hx : ∀ t l, x (ix2 t l) = (X t l : EReal)) (hb : ∀ h, b (ix1 h) = (B h : EReal))
include hx hb

theorem dfa_at (t : Fin 16384) (h : Fin 8) : val_main_v17 (F := Ideal) x b q k (ix2 t h) = (dfa X B Q K t h : EReal) := by
  pointwise [val_main_v17, val_main_call3_v1, val_main_call3_v0]
  rw [run_at hq hk, slope_at hx hb, ← EReal.coe_neg, ← EReal.coe_mul, ← EReal.coe_neg]
  exact congrArg _ (by rw [dfa]; ring)

/-- Result 0: the gate's gradient. -/
theorem out_at (t : Fin 16384) (h : Fin 8) : val_main_v21 (F := Ideal) x b q k (ix2 t h) = (dfa X B Q K t h : EReal) := by
  pointwise [val_main_v21]
  rw [dfa_at hq hk hx hb]

/-- Result 1: the bias's gradient. -/
theorem bias_at (h : Fin 8) : val_main_v20 (F := Ideal) x b q k (ix1 h) = ((∑ t, dfa X B Q K t h : ℝ) : EReal) := by
  pointwise [val_main_v20, val_main_v19, val_main_v18, val_main_cst, val_main_cst_0]
  rw [Fintype.sum_unique]
  simp only [dfa_at hq hk hx hb, sum_coe]

end

end Cert.FgateRef
-- ==== Proof.FgatePoint.lean ====
/- What one point of the forget gate's gradient computes, at real arguments: a block's running sum from the end, and the gate's gradient. -/
module

public import proofs.«01_k».proof.Defs
public import proofs.«01_k».proof.Proof.Norm
public import proofs.«01_k».proof.Proof.Gen.DfgateIdeal.Skeleton
public import Idealize.ShloMosaic.Lib.Pipeline.ValueKit.Point
public import Idealize.ShloMosaic.Lib.IdealHost
public import Idealize.ShloMosaic.Lib.WordCmp

@[expose] public section

set_option maxRecDepth 16384

noncomputable section

namespace Cert.FgatePoint

open Cert.Norm Cert.DfgateIdeal Cert.DfgateIdeal.Gen Idealize.ShloMosaic

/-- The lane of head `h`. -/
abbrev lane (h : Fin 8) : Fin 128 := ⟨h.val, by omega⟩
/-- The lane of head `h` in the `p`-th of three arrays side by side. -/
abbrev lane3 (p : Fin 3) (h : Fin 8) : Fin 384 := ⟨p.val * 128 + h.val, by omega⟩

/-- The point's rows: the queries' part and the four pairs of heads moved to their lanes. -/
def pairs (v3 : Vec Ideal S256x128 .f32) (v5 v8 v12 v16 : Vec Ideal S1x256x128 .f32) : FVec Ideal S256x128 .f32 :=
  addf (addf (addf (addf (shapeCast S256x128 v3 shapeCasts_S256x128_S256x128) (shapeCast S256x128 v5 shapeCasts_S1x256x128_S256x128))
    (dynamicRotate 1 2#32 none (shapeCast S256x128 v8 shapeCasts_S1x256x128_S256x128) rotates_S256x128_d1))
    (dynamicRotate 1 4#32 none (shapeCast S256x128 v12 shapeCasts_S1x256x128_S256x128) rotates_S256x128_d1))
    (dynamicRotate 1 6#32 none (shapeCast S256x128 v16 shapeCasts_S1x256x128_S256x128) rotates_S256x128_d1)

/-- The triangular product with three arrays side by side. -/
def prod (a b c : FVec Ideal S256x128 .bf16) : FVec Ideal S256x384 .f32 :=
  matmul dot_S256x256_S256x384_S256x384_1_0_0_1_n_n none
    (truncf .bf16 (select (cmpi .sle (iota .tc S256x256 32 [0] iota_S256x256_d0_w32) (iota .tc S256x256 32 [1] iota_S256x256_d1_w32))
      (broadcast S256x256 (Scalar.ofBits .f32 0x3F800000#32)) (broadcast S256x256 (Scalar.ofBits .f32 0x00000000#32))) bitsLt_bf16_f32)
    (concatenate S256x384 1 [⟨S256x128, a⟩, ⟨S256x128, b⟩, ⟨S256x128, c⟩] concatenates_S256x128_S256x128_S256x128_S256x384_d1)
    (constant S256x384 .f32 0x00000000#32)

theorem prod_lines (v3 : Vec Ideal S256x128 .f32) (v5 v8 v12 v16 : Vec Ideal S1x256x128 .f32) :
    k0_pay8 v3 v5 v8 v12 v16 = prod (pairs v3 v5 v8 v12 v16)
      (subf (pairs v3 v5 v8 v12 v16) (pairs v3 v5 v8 v12 v16))
      (subf (subf (pairs v3 v5 v8 v12 v16) (pairs v3 v5 v8 v12 v16)) (subf (pairs v3 v5 v8 v12 v16) (pairs v3 v5 v8 v12 v16))) := rfl

/-- A choice by the order of two rows. -/
theorem le_select (r c : Fin 256) (x y : EReal) :
    Scalar.select (IntOp.cmpi .sle (BitVec.ofNat 32 r.val) (BitVec.ofNat 32 c.val)) x y = if r ≤ c then x else y :=
  if_congr (WordCmp.cmpi_sle_ofNat_eq_one_iff (by have := r.isLt; omega) (by have := c.isLt; omega)) rfl rfl

/-- A choice by whether a lane is a head's. -/
theorem lt_select (l : Fin 128) (x y : EReal) : Scalar.select (IntOp.cmpi .slt (BitVec.ofNat 32 l.val) 8#32) x y = if l.val < 8 then x else y :=
  if_congr (WordCmp.cmpi_slt_ofNat_eq_one_iff (w := 32) (b := 8) (by have := l.isLt; omega) (by omega)) rfl rfl

theorem prod_at (a b c : FVec Ideal S256x128 .bf16) (r : Fin 256) (h : Fin 8) :
    prod a b c (ix2 r (lane3 0 h)) = (∑ k : Fin 256, if r ≤ k then a (ix2 k (lane h)) else 0)
    ∧ prod a b c (ix2 r (lane3 1 h)) = (∑ k : Fin 256, if r ≤ k then b (ix2 k (lane h)) else 0)
    ∧ prod a b c (ix2 r (lane3 2 h)) = (∑ k : Fin 256, if r ≤ k then c (ix2 k (lane h)) else 0) := by
  refine ⟨?_, ?_, ?_⟩
  · pointwise [prod]
    refine Finset.sum_congr rfl fun k _ => ?_
    rw [le_select, dif_pos (by omega)]
  · pointwise [prod]
    refine Finset.sum_congr rfl fun k _ => ?_
    rw [le_select, dif_pos (by omega)]
  · pointwise [prod]
    refine Finset.sum_congr rfl fun k _ => ?_
    rw [le_select, dif_neg (by omega), dif_neg (by omega)]
    exact congrArg (fun z => if r ≤ k then c (ix2 k z) else 0) (Fin.ext (by dsimp only; omega))

/-- The product where the second and third arrays are zero. -/
theorem prod_real (a b c : FVec Ideal S256x128 .bf16) (r : Fin 256) (h : Fin 8) {X : Fin 256 → ℝ} (ha : ∀ k, a (ix2 k (lane h)) = (X k : EReal))
    (hb : ∀ k, b (ix2 k (lane h)) = (0 : EReal)) (hc : ∀ k, c (ix2 k (lane h)) = (0 : EReal)) :
    prod a b c (ix2 r (lane3 0 h)) = ((∑ k : Fin 256, if r ≤ k then X k else 0 : ℝ) : EReal)
    ∧ prod a b c (ix2 r (lane3 1 h)) = 0 ∧ prod a b c (ix2 r (lane3 2 h)) = 0 := by
  obtain ⟨e0, e1, e2⟩ := prod_at a b c r h
  refine ⟨e0.trans ((Finset.sum_congr rfl fun k _ => ?_).trans (sum_coe Finset.univ fun k => if r ≤ k then X k else 0)),
    e1.trans (Finset.sum_eq_zero fun k _ => ?_), e2.trans (Finset.sum_eq_zero fun k _ => ?_)⟩
  · rw [ha]; split <;> rfl
  · rw [hb]; split <;> rfl
  · rw [hc]; split <;> rfl

section
variable {v3 : Vec Ideal S256x128 .f32} {v5 v8 v12 v16 : Vec Ideal S1x256x128 .f32} {Q K : Fin 256 → Fin 8 → ℝ}

/-- A pair of heads: its two lanes, and zero beyond. -/
def two (K : Fin 256 → Fin 8 → ℝ) (p : Fin 4) (r : Fin 256) (l : Fin 128) : ℝ :=
  if h : l.val < 2 then K r ⟨p.val * 2 + l.val, by omega⟩ else 0

variable (hq : ∀ r h, v3 (ix2 r (lane h)) = (Q r h : EReal)) (h0 : ∀ r l, v5 (ix3 (0 : Fin 1) r l) = (two K 0 r l : EReal))
  (h1 : ∀ r l, v8 (ix3 (0 : Fin 1) r l) = (two K 1 r l : EReal)) (h2 : ∀ r l, v12 (ix3 (0 : Fin 1) r l) = (two K 2 r l : EReal))
  (h3 : ∀ r l, v16 (ix3 (0 : Fin 1) r l) = (two K 3 r l : EReal))
include hq h0 h1 h2 h3

theorem pairs_at (r : Fin 256) (h : Fin 8) : pairs v3 v5 v8 v12 v16 (ix2 r (lane h)) = ((Q r h + K r h : ℝ) : EReal) := by
  pointwise [pairs]
  simp only [hq, h0, h1, h2, h3]
  rw [← EReal.coe_add, ← EReal.coe_add, ← EReal.coe_add, ← EReal.coe_add]
  refine congrArg _ ?_
  fin_cases h <;> simp [two]

/-- The point's rows summed from each row on, before the rows after the block are added. -/
theorem own_at (r : Fin 256) (h : Fin 8) :
    k0_pay8 v3 v5 v8 v12 v16 (ix2 r (lane3 0 h)) = ((∑ k : Fin 256, if r ≤ k then Q k h + K k h else 0 : ℝ) : EReal)
    ∧ k0_pay8 v3 v5 v8 v12 v16 (ix2 r (lane3 1 h)) = 0 ∧ k0_pay8 v3 v5 v8 v12 v16 (ix2 r (lane3 2 h)) = 0 := by
  have hp : ∀ k, pairs v3 v5 v8 v12 v16 (ix2 k (lane h)) = ((Q k h + K k h : ℝ) : EReal) := fun k => pairs_at hq h0 h1 h2 h3 k h
  have hz : ∀ k, subf (pairs v3 v5 v8 v12 v16) (pairs v3 v5 v8 v12 v16) (ix2 k (lane h)) = 0 := fun k => by
    pointwise []
    rw [hp, ← EReal.coe_sub, sub_self, EReal.coe_zero]
  rw [prod_lines]
  exact prod_real _ _ _ r h hp hz fun k => (congrArg₂ (fun a b : EReal => a - b) (hz k) (hz k)).trans (sub_zero _)

variable {v41 : Vec Ideal S1x128 .f32} {R : Fin 8 → ℝ} (hc : ∀ h, v41 (ix2 (0 : Fin 1) (lane h)) = (R h : EReal))
include hc

/-- The running sum from the end. -/
theorem run_at (r : Fin 256) (h : Fin 8) : k0_pay1 (k0_pay8 v3 v5 v8 v12 v16) v41 (ix2 r (lane h))
    = (((∑ k : Fin 256, if r ≤ k then Q k h + K k h else 0) + R h : ℝ) : EReal) := by
  obtain ⟨e0, e1, e2⟩ := own_at hq h0 h1 h2 h3 r h
  pointwise [k0_pay1]
  rw [show (⟨h.val, by omega⟩ : Fin 384) = lane3 0 h from Fin.ext (by dsimp only; omega), show (⟨128 + h.val, by omega⟩ : Fin 384) = lane3 1 h from
    Fin.ext (by dsimp only; omega), show (⟨256 + h.val, by omega⟩ : Fin 384) = lane3 2 h from Fin.ext (by dsimp only; omega), e0, e1, e2, hc, add_zero,
    add_zero, ← EReal.coe_add]

/-- The sum of the point's rows and of the rows after it. -/
theorem carry_at (h : Fin 8) : k0_pay2 (k0_pay8 v3 v5 v8 v12 v16) v41 (ix2 (0 : Fin 1) (lane h))
    = (((∑ k : Fin 256, if (0 : Fin 256) ≤ k then Q k h + K k h else 0) + R h : ℝ) : EReal) := by
  pointwise [k0_pay2]
  exact run_at hq h0 h1 h2 h3 hc 0 h

variable {v51 : Vec Ideal S256x128 .f32} {v53 : Vec Ideal S1x128 .f32} {A : Fin 256 → Fin 8 → ℝ} {B : Fin 8 → ℝ}
  (ha : ∀ r h, v51 (ix2 r (lane h)) = (A r h : EReal)) (hb : ∀ h, v53 (ix2 (0 : Fin 1) (lane h)) = (B h : EReal))
include ha hb

theorem grad_at (r : Fin 256) (h : Fin 8) : k0_pay3 (k0_pay8 v3 v5 v8 v12 v16) v41 v51 v53 (ix2 r (lane h))
    = ((((∑ k : Fin 256, if r ≤ k then Q k h + K k h else 0) + R h) * σ (-(A r h + B h)) : ℝ) : EReal) := by
  pointwise [k0_pay3]
  refine (lt_select (lane h) _ _).trans ((if_pos h.isLt).trans ?_)
  refine (congrArg₂ (· * ·) (run_at hq h0 h1 h2 h3 hc r h)
    (congrArg (fun z : EReal => Ideal.logistic (0 - z)) (congrArg₂ (· + ·) (ha r h) (hb h)))).trans ?_
  show (_ * Ideal.logistic (0 - ((A r h : EReal) + (B h : EReal))) : EReal) = _
  rw [zero_sub, ← EReal.coe_add, ← EReal.coe_neg, Ideal.logistic_coe, ← EReal.coe_mul]; rfl

omit hq h0 h1 h2 h3 hc ha hb in
theorem grad_zero (v35 : FVec Ideal S256x384 .f32) (r : Fin 256) (l : Fin 128) (hl : ¬ l.val < 8) : k0_pay3 v35 v41 v51 v53 (ix2 r l) = 0 := by
  pointwise [k0_pay3]
  exact (lt_select l _ _).trans (if_neg hl)

omit hq h0 h1 h2 h3 hc ha hb in
theorem acc_at (v35 : FVec Ideal S256x384 .f32) (v65 : Vec Ideal S8x128 .f32) (s : Fin 8) (l : Fin 128) :
    k0_pay5 v35 v41 v51 v53 v65 (ix2 s l) = v65 (ix2 s l) + ∑ q : Fin 32, k0_pay3 v35 v41 v51 v53 (ix2 (⟨q.val * 8 + s.val, by omega⟩ : Fin 256) l) := by
  pointwise [k0_pay5]

end
end Cert.FgatePoint
-- ==== Proof.FgateValue.lean ====
/- The value of the forget gate's gradient: the kernel's two results, read index by index, are what the reference computes. -/
module

public import proofs.«01_k».proof.Defs
public import proofs.«01_k».proof.Proof.Finite
public import proofs.«01_k».proof.Proof.FgateRef
public import proofs.«01_k».proof.Proof.FgatePoint
public import proofs.«01_k».proof.Proof.Gen.DfgateIdeal.Frame
public import proofs.«01_k».proof.Proof.Gen.DfgateRefIdeal.Run
public import proofs.«01_k».proof.Proof.Gen.DfgateRefIdeal.Read
public import Idealize.ShloMosaic.Lib.Pipeline.ValueKit
public import Idealize.ShloMosaic.Lib.Claim

@[expose] public section

set_option maxRecDepth 16384

noncomputable section

namespace Cert.FgateValue

open Cert.DfgateIdeal Cert.DfgateIdeal.Gen Idealize.ShloMosaic Idealize.ShloMosaic.TcCoe Idealize.SL.Sem
open Cert.Fin Cert.Norm Cert.Suffix Cert.FgatePoint
open Cert.FgateRef (gate U df dfa)

variable (m : (ℓ : Loc nD τ sig) → Buf (Elt Ideal) ℓ)

theorem e0 : ∀ t : Fin cfg0.N, win0_0.index t = ![63 - t.val, 0] := (by decide +kernel : ∀ t : Fin grid0.N, _)
theorem e1 : ∀ t : Fin cfg0.N, win0_1.index t = ![0, 63 - t.val, 0] := (by decide +kernel : ∀ t : Fin grid0.N, _)
theorem e2 : ∀ t : Fin cfg0.N, win0_2.index t = ![63 - t.val, 32] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![63 - t.val, 0] := (by decide +kernel : ∀ t : Fin grid0.N, _)
theorem e5 : ∀ t : Fin cfg0.N, win0_5.index t = ![0, 0] := (by decide +kernel : ∀ t : Fin grid0.N, _)

theorem t_lt (t : Fin cfg0.N) : t.val < 64 := lt_of_lt_of_eq t.isLt N_0

theorem row_lt (t : Fin cfg0.N) (r : Fin 256) : (63 - t.val) * 256 + r.val < 16384 := by
  have := t_lt t; omega

/-- The row of the whole arrays that a point's row is: the points go through the blocks from the last to the first. -/
abbrev row (t : Fin cfg0.N) (r : Fin 256) : Fin 16384 := ⟨(63 - t.val) * 256 + r.val, row_lt t r⟩

/-- A device's arguments. -/
abbrev argX (c : Dev nD) : FVec Ideal S16384x5640 .f32 := m ((c : Thread nD τ).loc main_arg0)
abbrev argB (c : Dev nD) : FVec Ideal S8 .f32 := m ((c : Thread nD τ).loc main_arg1)
abbrev argQ (c : Dev nD) : FVec Ideal S16384x8 .f32 := m ((c : Thread nD τ).loc main_arg2)
abbrev argK (c : Dev nD) : FVec Ideal S16384x8 .f32 := m ((c : Thread nD τ).loc main_arg3)

/-- The arguments' entries, as real numbers. -/
structure Real4 (c : Dev nD) (X : Fin 16384 → Fin 5640 → ℝ) (B : Fin 8 → ℝ) (Q K : Fin 16384 → Fin 8 → ℝ) : Prop where
  x : ∀ t l, argX m c (ix2 t l) = (X t l : EReal)
  b : ∀ h, argB m c (ix1 h) = (B h : EReal)
  q : ∀ t h, argQ m c (ix2 t h) = (Q t h : EReal)
  k : ∀ t h, argK m c (ix2 t h) = (K t h : EReal)

section Host

variable (c : Dev nD)

theorem queries_eq (t : Fin 16384) (h : Fin 8) : (V m c main_v9 : Vec Ideal S16384x128 .f32) (ix2 t (lane h)) = argQ m c (ix2 t h) := by
  have e : (V m c main_v9 : Vec Ideal S16384x128 .f32) = pad S16384x128 ![0, 0] ![0, 120] ![0, 0] (argQ m c)
      (sitofp .f32 (constantI S_ 32 0#32)) pads_S16384x8_S16384x128_000_01200 h_S_ := by
    show StableHlo.after (List.flatten [hostOps0, hostOps0_1, hostOps0_2, hostOps0_3, hostOps0_4, hostOps0_5]) (fun b => m (c, b)) (Proc.devRef .tc main_v9) = _
    simp only [hostOps0, hostOps0_1, hostOps0_2, hostOps0_3, hostOps0_4, hostOps0_5, List.flatten_cons, List.flatten_nil, List.cons_append,
      List.nil_append, List.append_nil]
    after_results_simp <;> rfl
  rw [e]
  pointwise []

theorem bias_eq (h : Fin 8) : (V m c main_v8 : Vec Ideal S1x128 .f32) (ix2 (0 : Fin 1) (lane h)) = argB m c (ix1 h) := by
  have e : (V m c main_v8 : Vec Ideal S1x128 .f32) = shapeCast _ (pad S128 ![0] ![120] ![0] (argB m c)
      (sitofp .f32 (constantI S_ 32 0#32)) pads_S8_S128_01200 h_S_) shapeCasts_S128_S1x128 := by
    show StableHlo.after (List.flatten [hostOps0, hostOps0_1, hostOps0_2, hostOps0_3, hostOps0_4, hostOps0_5]) (fun b => m (c, b)) (Proc.devRef .tc main_v8) = _
    simp only [hostOps0, hostOps0_1, hostOps0_2, hostOps0_3, hostOps0_4, hostOps0_5, List.flatten_cons, List.flatten_nil, List.cons_append,
      List.nil_append, List.append_nil]
    after_results_simp <;> rfl
  rw [e]
  pointwise []

theorem keys_eq (p : Fin 4) (t : Fin 16384) (l : Fin 128) : (V m c main_v12 : Vec Ideal S4x16384x128 .f32) (ix3 p t l)
    = if h : l.val < 2 then argK m c (ix2 t ⟨p.val * 2 + l.val, by omega⟩) else 0 := by
  have e : (V m c main_v12 : Vec Ideal S4x16384x128 .f32) = pad S4x16384x128 ![0, 0, 0] ![0, 0, 126] ![0, 0, 0]
      (transpose S4x16384x2 [1, 0, 2] (shapeCast S16384x4x2 (argK m c) shapeCasts_S16384x8_S16384x4x2) transposes_S16384x4x2_S4x16384x2_1_0_2)
      (sitofp .f32 (constantI S_ 32 0#32)) pads_S4x16384x2_S4x16384x128_000_000_01260 h_S_ := by
    show StableHlo.after (List.flatten [hostOps0, hostOps0_1, hostOps0_2, hostOps0_3, hostOps0_4, hostOps0_5]) (fun b => m (c, b)) (Proc.devRef .tc main_v12) = _
    simp only [hostOps0, hostOps0_1, hostOps0_2, hostOps0_3, hostOps0_4, hostOps0_5, List.flatten_cons, List.flatten_nil, List.cons_append,
      List.nil_append, List.append_nil]
    after_results_simp <;> rfl
  rw [e]
  pointwise []
  rw [show FloatOps.sitofp (F := Ideal) .f32 0#32 = (0 : EReal) by
    show (((0#32 : BitVec 32).toInt : ℝ) : EReal) = 0
    simp]

/-- The projection with its columns rearranged. -/
def permuted (x : FVec Ideal S16384x5640 .f32) : FVec Ideal S16384x4224 .f32 :=
  extractStridedSlice S16384x4224 ![0, 1536]
    (concatenate S16384x5760 1
      [⟨S16384x1536, extractStridedSlice S16384x1536 ![0, 0] x slices_S16384x5640_S16384x1536_0_0⟩,
        ⟨S16384x2048, extractStridedSlice S16384x2048 ![0, 3592] x slices_S16384x5640_S16384x2048_0_3592⟩,
        ⟨S16384x2048, extractStridedSlice S16384x2048 ![0, 1544] x slices_S16384x5640_S16384x2048_0_1544⟩,
        ⟨S16384x8, extractStridedSlice S16384x8 ![0, 1536] x slices_S16384x5640_S16384x8_0_1536⟩,
        ⟨S16384x120, broadcastInDim S16384x120 ![] bcast_S_S16384x120 (constant S_ .f32 0x00000000#32)⟩]
      concatenates_S16384x1536_S16384x2048_S16384x2048_S16384x8_S16384x120_S16384x5760_d1)
    slices_S16384x5760_S16384x4224_0_1536

omit m c in
theorem permuted_gate (x : FVec Ideal S16384x5640 .f32) (t : Fin 16384) (h : Fin 8) :
    permuted x (ix2 t (⟨4096 + h.val, by omega⟩ : Fin 4224)) = x (ix2 t (gate h)) := by
  pointwise [permuted]
  rw [dif_neg (by omega), dif_neg (by omega), dif_pos (by omega)]
  exact congrArg (fun z => x (ix2 t z)) (Fin.ext (by dsimp only; omega))

theorem entry_eq : V m c main_v6 = permuted (argX m c) := by
  show StableHlo.after (List.flatten [hostOps0, hostOps0_1, hostOps0_2, hostOps0_3, hostOps0_4, hostOps0_5]) (fun b => m (c, b)) (Proc.devRef .tc main_v6) = _
  simp only [hostOps0, hostOps0_1, hostOps0_2, hostOps0_3, hostOps0_4, hostOps0_5, List.flatten_cons, List.flatten_nil, List.cons_append,
    List.nil_append, List.append_nil]
  after_results_simp <;> rfl

theorem gate_eq (t : Fin 16384) (h : Fin 8) : (V m c main_v6 : Vec Ideal S16384x4224 .f32) (ix2 t (⟨4096 + h.val, by omega⟩ : Fin 4224))
    = argX m c (ix2 t (gate h)) := by
  rw [entry_eq, permuted_gate]

end Host

variable {m} {c : Dev nD} {X : Fin 16384 → Fin 5640 → ℝ} {B : Fin 8 → ℝ} {Q K : Fin 16384 → Fin 8 → ℝ} (hR : Real4 m c X B Q K)

section Reads

include hR

theorem q_read (t : Fin cfg0.N) (r : Fin 256) (h : Fin 8) : iblk m c 0 t (ix2 r (lane h)) = (Q (row t r) h : EReal) := by
  rw [← hR.q, ← queries_eq]; blk_ext [iblk, e0 t]
theorem k_read (t : Fin cfg0.N) (p : Fin 4) (r : Fin 256) (l : Fin 128) : iblk m c 1 t (ix3 p r l) = (two (fun r => K (row t r)) p r l : EReal) := by
  have e : iblk m c 1 t (ix3 p r l) = (V m c main_v12 : Vec Ideal S4x16384x128 .f32) (ix3 p (row t r) l) := by blk_ext [iblk, e1 t]
  rw [e, keys_eq, two]
  split
  · rw [hR.k]
  · rfl
theorem x_read (t : Fin cfg0.N) (r : Fin 256) (h : Fin 8) : iblk m c 2 t (ix2 r (lane h)) = (X (row t r) (gate h) : EReal) := by
  rw [← hR.x, ← gate_eq]; blk_ext [iblk, e2 t]
theorem b_read (t : Fin cfg0.N) (h : Fin 8) : iblk m c 3 t (ix2 (0 : Fin 1) (lane h)) = (B h : EReal) := by
  rw [← hR.b, ← bias_eq]; blk_ext [iblk, e3 t]

theorem pair_read (t : Fin cfg0.N) (p : Fin 4) (inb : ∀ a, (![p.val, 0, 0] : Fin 3 → ℕ) a + (![1, 256, 128] : Fin 3 → ℕ) a ≤ S4x256x128.size a)
    (r : Fin 256) (l : Fin 128) :
    View.ld (iblk m c 1 t) (Rect.unit (s := S4x256x128) ![p.val, 0, 0] ![1, 256, 128] inb) (ix3 (0 : Fin 1) r l) = (two (fun r => K (row t r)) p r l : EReal) :=
  (View.ld_unit_apply_of _ _ _ _ _ (ix3 p r l) fun a => by
    match a with
    | ⟨0, _⟩ => exact (Nat.add_zero _).symm
    | ⟨1, _⟩ => exact (Nat.zero_add _).symm
    | ⟨2, _⟩ => exact (Nat.zero_add _).symm).trans (k_read hR t p r l)

end Reads

/-- A point's triangular product. -/
abbrev own (m : (ℓ : Loc nD τ sig) → Buf (Elt Ideal) ℓ) (c : Dev nD) (t : Fin cfg0.N) : FVec Ideal S256x384 .f32 :=
  k0_pay8 (iblk m c 0 t)
    (View.ld (iblk m c 1 t) (Rect.unit ![0, 0, 0] ![1, 256, 128] inb_S4x256x128_S1x256x128_0_0_0))
    (View.ld (iblk m c 1 t) (Rect.unit ![1, 0, 0] ![1, 256, 128] inb_S4x256x128_S1x256x128_1_0_0))
    (View.ld (iblk m c 1 t) (Rect.unit ![2, 0, 0] ![1, 256, 128] inb_S4x256x128_S1x256x128_2_0_0))
    (View.ld (iblk m c 1 t) (Rect.unit ![3, 0, 0] ![1, 256, 128] inb_S4x256x128_S1x256x128_3_0_0))

/-- The sum of the rows after a point's block. -/
abbrev later (Q K : Fin 16384 → Fin 8 → ℝ) (t : Fin cfg0.N) (h : Fin 8) : ℝ := suffix (df Q K h) ((63 - t.val) * 256 + 256)

/-- The gradient on all the lanes the kernel writes: zero beyond the heads. -/
def wide (X : Fin 16384 → Fin 5640 → ℝ) (B : Fin 8 → ℝ) (Q K : Fin 16384 → Fin 8 → ℝ) (t : Fin 16384) (l : Fin 128) : ℝ :=
  if h : l.val < 8 then dfa X B Q K t ⟨l.val, h⟩ else 0

section Points

include hR

variable {C : Vec Ideal S1x128 .f32} (t : Fin cfg0.N) (hC : ∀ h, C (ix2 (0 : Fin 1) (lane h)) = (later Q K t h : EReal))
include hC

omit hR hC in
theorem block_sum (r : Fin 256) (h : Fin 8) : (∑ k : Fin 256, if r ≤ k then Q (row t k) h + K (row t k) h else 0) + later Q K t h
    = suffix (df Q K h) (row t r).val :=
  suffix_block (N := 16384) (M := 256) (df Q K h) ((63 - t.val) * 256) (by have := t_lt t; omega) r

theorem next_at (h : Fin 8) : k0_pay2 (own m c t) C (ix2 (0 : Fin 1) (lane h)) = (suffix (df Q K h) ((63 - t.val) * 256) : EReal) :=
  (carry_at (q_read hR t) (pair_read hR t 0 _) (pair_read hR t 1 _) (pair_read hR t 2 _) (pair_read hR t 3 _) hC h).trans
    (congrArg _ (block_sum t 0 h))

theorem wide_at (r : Fin 256) (l : Fin 128) : k0_pay3 (own m c t) C (iblk m c 2 t) (iblk m c 3 t) (ix2 r l) = (wide X B Q K (row t r) l : EReal) := by
  by_cases hl : l.val < 8
  · rw [wide, dif_pos hl]
    refine (grad_at (q_read hR t) (pair_read hR t 0 _) (pair_read hR t 1 _) (pair_read hR t 2 _) (pair_read hR t 3 _) hC (x_read hR t) (b_read hR t) r
      ⟨l.val, hl⟩).trans (congrArg _ ?_)
    rw [block_sum]; rfl
  · rw [wide, dif_neg hl]
    exact grad_zero _ r l hl

end Points

section Carry

include hR

theorem start_at (t : Fin cfg0.N) (h0 : t.val % 64 = 0) (h : Fin 8) : k0_pay6 (F := Ideal) (ix2 (0 : Fin 1) (lane h)) = (later Q K t h : EReal) := by
  have e : (63 - t.val) * 256 + 256 = 16384 := by have := t_lt t; omega
  pointwise [k0_pay6]
  rw [later, e, suffix_end, EReal.coe_zero]

/-- What the kernel carries after each point: the sum of the rows from the point's block on. -/
theorem carry (n : ℕ) : ∀ (hn : n < cfg0.N) (h : Fin 8), (outsAt0 m c n hn).2.2 (ix2 (0 : Fin 1) (lane h)) = (suffix (df Q K h) ((63 - n) * 256) : EReal) := by
  induction n with
  | zero =>
    intro hn h
    rw [outsAt0_A m c ⟨0, hn⟩ rfl]; frame_out
    exact next_at hR ⟨0, hn⟩ (start_at hR _ rfl) h
  | succ n ih =>
    intro hn h
    have hN : n + 1 < 64 := lt_of_lt_of_eq hn N_0
    rw [outsAt0_B m c ⟨n + 1, hn⟩ (by show ¬(n + 1) % 64 = 0; omega)]; frame_out
    refine next_at hR ⟨n + 1, hn⟩ (fun h => ?_) h
    refine (congrFun (Memref.IsWhole.read_unread _ _) _).trans ?_
    refine (ih _ h).trans (congrArg (fun k => ((suffix (df Q K h) k : ℝ) : EReal)) ?_)
    show (63 - n) * 256 = (63 - (n + 1)) * 256 + 256
    omega

theorem before_at (t : Fin cfg0.N) (h0 : ¬t.val % 64 = 0) (h : Fin 8) :
    (outsAt0 m c (t.val - 1) (Nat.lt_of_le_of_lt (Nat.sub_le _ _) t.isLt)).2.2 (ix2 (0 : Fin 1) (lane h)) = (later Q K t h : EReal) := by
  refine (carry hR _ _ h).trans (congrArg (fun k => ((suffix (df Q K h) k : ℝ) : EReal)) ?_)
  have := t_lt t; omega

end Carry

section Finals

include hR

/-- What the kernel leaves of the gate's gradient. -/
theorem final_dfa (T : FVec Ideal S16384x128 .bf16) (hT : ∀ t l, T (ix2 t l) = (wide X B Q K t l : EReal)) : (dats m 0 c).arrAt 4 cfg0.N = T := by
  refine (dats m 0 c).arrAt_eq_of_covers 4 _ (by decide +kernel) fun t hf y => ?_
  blk_simp
  rw [after0_4]
  idx_vars y
  rw [show ((View.whole main_v13_0).slice (win0_4.rect t)).emb (ix2 y0 y1) = (ix2 (row t y0) y1 : S16384x128.Idx) by blk_ext [e4 t], hT]
  by_cases h : t.val % 64 = 0
  · rw [outsAt0_A m c t h]; frame_out
    pointwise [k0_pay4]
    exact wide_at hR t (start_at hR t h) y0 y1
  · rw [outsAt0_B m c t h]; frame_out
    pointwise [k0_pay4]
    refine wide_at hR t (fun k => ?_) y0 y1
    refine (congrFun (Memref.IsWhole.read_unread _ _) _).trans ?_
    exact before_at hR t h k

/-- The last point of the grid. -/
abbrev tLast : Fin cfg0.N := ⟨63, by rw [show cfg0.N = 64 from N_0]; omega⟩

/-- What a point adds to one row of the accumulator: the rows eight apart. -/
def part (f : Fin 16384 → Fin 128 → ℝ) (t : Fin cfg0.N) (s : Fin 8) (l : Fin 128) : ℝ :=
  ∑ q : Fin 32, f (row t ⟨q.val * 8 + s.val, by omega⟩) l

theorem add_at (t : Fin cfg0.N) {C : Vec Ideal S1x128 .f32} (hC : ∀ h, C (ix2 (0 : Fin 1) (lane h)) = (later Q K t h : EReal)) (a : Vec Ideal S8x128 .f32)
    (s : Fin 8) (l : Fin 128) : k0_pay5 (own m c t) C (iblk m c 2 t) (iblk m c 3 t) a (ix2 s l) = a (ix2 s l) + (part (wide X B Q K) t s l : EReal) := by
  rw [acc_at]
  simp only [wide_at hR t hC, sum_coe]
  rfl

/-- The accumulator of the bias's gradient. -/
theorem final_db (T : FVec Ideal S8x128 .f32) (hT : ∀ s l, T (ix2 s l) = ((∑ t : Fin cfg0.N, part (wide X B Q K) t s l : ℝ) : EReal)) :
    (dats m 0 c).arrAt 5 cfg0.N = T := by
  refine (dats m 0 c).arrAt_eq_of_covers 5 _ (by decide +kernel) fun t hf y => ?_
  obtain rfl : t = tLast := Fin.ext (by have := (flush0_5 t).mp hf; have := t_lt t; show t.val = 63; omega)
  blk_simp
  idx_vars y
  rw [show ((View.whole main_v13_1).slice (win0_5.rect tLast)).emb (ix2 y0 y1) = (ix2 y0 y1 : S8x128.Idx) by blk_ext [e5 tLast], hT, after0_5,
    Pipeline.eq_sum_fin_of_reset_step_apply_last (fun n h => (outsAt0 m c n h).2.1) 64 (fun _ => (0 : EReal)) (fun t j => (part (wide X B Q K) t (j 0) (j 1) : EReal))
      (fun t h j => by
        rw [outsAt0_A m c t h]; frame_out; idx_vars j
        refine (add_at hR t (start_at hR t h) _ j0 j1).trans (congrArg (· + _) ?_)
        pointwise [k0_pay7])
      (fun t h j => by
        rw [outsAt0_B m c t h]; frame_out; idx_vars j
        refine (add_at hR t (fun k => ?_) _ j0 j1).trans ?_
        · refine (congrFun (Memref.IsWhole.read_unread _ _) _).trans ?_
          exact before_at hR t h k
        · rfl)
      (le_of_eq N_0) tLast rfl]
  rw [sum_coe, zero_add]
  rfl

end Finals

section Tail

omit m c in
/-- The rows of a whole array, gathered eight apart within each of 64 blocks of 256, the last block first. -/
theorem sum_back {N : ℕ} (hN : N = 64) (f : Fin 16384 → ℝ) :
    (∑ s : Fin 8, ∑ t : Fin N, ∑ q : Fin 32, f ⟨(63 - t.val) * 256 + (q.val * 8 + s.val), by omega⟩) = ∑ i : Fin 16384, f i := by
  subst hN
  have h : ∀ t : Fin 64, (∑ s : Fin 8, ∑ q : Fin 32, f ⟨(63 - t.val) * 256 + (q.val * 8 + s.val), by omega⟩)
      = ∑ r : Fin 256, f ⟨(63 - t.val) * 256 + r.val, by omega⟩ := fun t => by
    rw [Finset.sum_comm]
    exact Fin.sum_mul_add_congr (f := fun r : Fin 256 => f ⟨(63 - t.val) * 256 + r.val, by omega⟩) fun q s hl => rfl
  rw [Finset.sum_comm]
  simp only [h]
  refine (Fintype.sum_equiv Fin.revPerm _ (fun t : Fin 64 => ∑ r : Fin 256, f ⟨t.val * 256 + r.val, by omega⟩) fun t => ?_).trans
    (Fin.sum_mul_add_congr (f := f) fun t r hl => rfl)
  refine Finset.sum_congr rfl fun r _ => congrArg f (Fin.ext ?_)
  show (63 - t.val) * 256 + r.val = (64 - (t.val + 1)) * 256 + r.val
  omega

omit m c in
/-- The first eight lanes. -/
def heads (a : FVec Ideal S16384x128 .bf16) : FVec Ideal S16384x8 .bf16 := extractStridedSlice S16384x8 ![0, 0] a slices_S16384x128_S16384x8_0_0

omit m c in
/-- The first eight lanes of the sum of an accumulator's eight rows. -/
def sums (a : FVec Ideal S8x128 .f32) : FVec Ideal S8 .f32 :=
  extractStridedSlice S8 ![0] (Host.reduceAdd a (constant S_ .f32 0x00000000#32) reducesTo_S8x128_S128_d0 h_S_) slices_S128_S8_0

omit m c in
theorem sums_at (a : FVec Ideal S8x128 .f32) (h : Fin 8) : sums a (ix1 h) = ∑ s : Fin 8, a (ix2 s (lane h)) := by
  pointwise [sums]

variable (m c)

theorem tail_dfa : (Pipeline.afterTail₀ cfgs (dats m) 0 (V0 m) [hostOps1] c main_v14 : FVec Ideal S16384x8 .bf16)
    = heads ((dats m 0 c).arrAt 4 cfg0.N) := by
  show StableHlo.after hostOps1 _ (Proc.devRef .tc main_v14) = _
  after_results_simp
  exact congrArg heads (Pipeline.withArrays_arr spec0 winFacts0.arr_inj c _ _ 4)

theorem tail_db : (Pipeline.afterTail₀ cfgs (dats m) 0 (V0 m) [hostOps1] c main_v16 : FVec Ideal S8 .f32)
    = sums ((dats m 0 c).arrAt 5 cfg0.N) := by
  show StableHlo.after hostOps1 _ (Proc.devRef .tc main_v16) = _
  after_results_simp
  exact congrArg sums (Pipeline.withArrays_arr spec0 winFacts0.arr_inj c _ _ 5)

end Tail

/-- The shape facts the precondition states. -/
instance preFacts : Cert.Pre_dfgate_finite.Facts := by
  constructor <;> decide

/-- Where the precondition holds, the arguments are real numbers. -/
theorem reals_of_pre [Cert.Pre_dfgate_finite.Facts] (hp : Cert.Pre_DfgateIdeal_dfgate_finite m) (c : Dev nD) : ∃ X B Q K, Real4 m c X B Q K := by
  have h := congrFun (hp c) ix0
  obtain ⟨h, h3⟩ := IntOp.andi_eq_one.1 h
  obtain ⟨h, h2⟩ := IntOp.andi_eq_one.1 h
  obtain ⟨h0, h1⟩ := IntOp.andi_eq_one.1 h
  choose X hX using fun t l => of_abs_lt (Host.reduce_andi_all _ _ _ _ _ h0 (ix2 t l))
  choose B hB using fun h => of_abs_lt (Host.reduce_andi_all _ _ _ _ _ h1 (ix1 h))
  choose Q hQ using fun t h => of_abs_lt (Host.reduce_andi_all _ _ _ _ _ h2 (ix2 t h))
  choose K hK using fun t h => of_abs_lt (Host.reduce_andi_all _ _ _ _ _ h3 (ix2 t h))
  exact ⟨X, B, Q, K, hX, hB, hQ, hK⟩

section Results

open Cert.DfgateRefIdeal.Read

include hR

theorem wide_lane (t : Fin 16384) (h : Fin 8) : wide X B Q K t (lane h) = dfa X B Q K t h := dif_pos h.isLt

theorem result_dfa : (Pipeline.afterTail₀ cfgs (dats m) 0 (V0 m) [hostOps1] c main_v14 : FVec Ideal S16384x8 .bf16)
    = val_main_v21 (F := Ideal) (argX m c) (argB m c) (argQ m c) (argK m c) := by
  rw [tail_dfa, final_dfa hR (fun j => (wide X B Q K (j 0) (j 1) : EReal)) fun t l => rfl]
  funext i
  idx_vars i
  rw [FgateRef.out_at hR.q hR.k hR.x hR.b]
  pointwise [heads]
  exact congrArg _ (wide_lane hR i0 i1)

theorem result_db : (Pipeline.afterTail₀ cfgs (dats m) 0 (V0 m) [hostOps1] c main_v16 : FVec Ideal S8 .f32)
    = val_main_v20 (F := Ideal) (argX m c) (argB m c) (argQ m c) (argK m c) := by
  rw [tail_db, final_db hR (fun j => ((∑ t : Fin cfg0.N, part (wide X B Q K) t (j 0) (j 1) : ℝ) : EReal)) fun s l => rfl]
  funext i
  idx_vars i
  rw [sums_at, FgateRef.bias_at hR.q hR.k hR.x hR.b]
  refine (sum_coe _ _).trans (congrArg _ ?_)
  refine (sum_back N_0 fun t => wide X B Q K t (lane i0)).trans ?_
  simp only [wide_lane hR]

end Results

/-- The two programs' results are equal where the arguments are real numbers. -/
theorem value [Cert.Pre_dfgate_finite.Facts] : Cert.algebraic_DfgateIdeal_DfgateRefIdeal_pre_dfgate_finite := by
  intro m g m' g' hp hm
  refine ⟨fun c => Cert.DfgateRefIdeal.Read.val_main_v21 (F := Ideal) (argX m c) (argB m c) (argQ m c) (argK m c),
    fun c => Cert.DfgateRefIdeal.Read.val_main_v20 (F := Ideal) (argX m c) (argB m c) (argQ m c) (argK m c), ?_, ?_⟩
  · refine θ_run_mono (θ_run_and (frame (F := Ideal) m g) (run_main (F := Ideal) m g)) fun r h c => ?_
    obtain ⟨X, B, Q, K, hR⟩ := reals_of_pre hp c
    obtain ⟨ha0, ha1, ha2, ha3⟩ := h.1.1 c
    exact ⟨(h.2.rest_eq c main_v14 (by decide)).trans (result_dfa hR), (h.2.rest_eq c main_v16 (by decide)).trans (result_db hR), ha0, ha1, ha2, ha3⟩
  · refine θ_run_mono (Cert.DfgateRefIdeal.Value.run (F := Ideal) m' g') fun r h c => ?_
    obtain ⟨h0, h1, ha⟩ := h c
    obtain ⟨e0, e1, e2, e3⟩ := hm c
    refine ⟨h0.trans ?_, h1.trans ?_, ha⟩
    · rw [Cert.DfgateRefIdeal.Read.val_main_v21_eq m' c, e0, e1, e2, e3]
    · rw [Cert.DfgateRefIdeal.Read.val_main_v20_eq m' c, e0, e1, e2, e3]

/-- The reference runs to its end and leaves its arguments and every counter as they were. -/
theorem frame_ref : Cert.quiescent_DfgateRefIdeal := fun m g _ =>
  θ_run_mono (Cert.DfgateRefIdeal.Value.run (F := Ideal) m g) fun r h =>
    ⟨fun c => (h c).2.2, sem_eq_zero_of_no_sems (by decide) r.2⟩

end Cert.FgateValue

end
-- ==== Proof.MergeValue.lean ====
/- The value of the gated merge: the kernel's result array, read index by index, is what the reference computes. -/
module

public import proofs.«01_k».proof.Defs
public import proofs.«01_k».proof.Proof.DmergeValue
public import proofs.«01_k».proof.Proof.Gen.MergeIdeal.Value
public import proofs.«01_k».proof.Proof.Gen.MergeRefIdeal.Run
public import proofs.«01_k».proof.Proof.Gen.MergeRefIdeal.Read

@[expose] public section

set_option maxRecDepth 16384

noncomputable section

namespace Cert.MergeValue

open Cert.MergeIdeal Cert.MergeIdeal.Gen Idealize.ShloMosaic Idealize.ShloMosaic.TcCoe Idealize.SL.Sem
open Cert.DmergeValue (permuted perm_read)

variable (m : (ℓ : Loc nD τ sig) → Buf (Elt Ideal) ℓ)

theorem row_lt (t : Fin cfg0.N) (r : Fin 512) : t.val * 512 + r.val < 16384 := by
  have := t.isLt; have : cfg0.N = 32 := N_0; omega

/-- The row of the whole arrays that a point's row is. -/
abbrev row (t : Fin cfg0.N) (r : Fin 512) : Fin 16384 := ⟨t.val * 512 + r.val, row_lt t r⟩

theorem e0 : ∀ t : Fin cfg0.N, win0_0.index t = ![t.val, 0] := (by decide +kernel : ∀ t : Fin grid0.N, _)
theorem e1 : ∀ t : Fin cfg0.N, win0_1.index t = ![t.val, 1] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)

/-- The two branches' blocks at point `t`. -/
theorem pa_read (c : Dev nD) (t : Fin cfg0.N) (r : Fin 512) (l : Fin 1024) :
    iblk m c 2 t (ix2 r l) = m ((c : Thread nD τ).loc main_arg1) (ix2 (row t r) l) := by
  blk_ext [iblk, V, e2 t]
theorem pb_read (c : Dev nD) (t : Fin cfg0.N) (r : Fin 512) (l : Fin 1024) :
    iblk m c 3 t (ix2 r l) = m ((c : Thread nD τ).loc main_arg2) (ix2 (row t r) l) := by
  blk_ext [iblk, V, e3 t]

theorem entry_eq (c : Dev nD) : V m c main_v6 = permuted (m ((c : Thread nD τ).loc main_arg0)) := by
  show StableHlo.after hostOps0 (fun b => m (c, b)) (Proc.devRef .tc main_v6) = _
  after_results_simp <;> rfl

/-- The permuted projection at a gate's column. -/
theorem gate_read (c : Dev nD) (t : Fin 16384) (l : Fin 4224) (h : l.val < 2048) :
    (V m c main_v6 : FVec Ideal S16384x4224 .f32) (ix2 t l) = m ((c : Thread nD τ).loc main_arg0) (ix2 t ⟨3592 + l.val, by omega⟩) :=
  (congrFun (entry_eq m c) _).trans (perm_read _ _ _ h)

/-- The two gates' blocks at point `t`. -/
theorem ga_read (c : Dev nD) (t : Fin cfg0.N) (r : Fin 512) (l : Fin 1024) :
    X0_0 m c t (ix2 r l) = m ((c : Thread nD τ).loc main_arg0) (ix2 (row t r) ⟨3592 + l.val, by omega⟩) := by
  refine Eq.trans ?_ (gate_read m c (row t r) ⟨l.val, by omega⟩ (by dsimp only; omega))
  unfold X0_0 Pipeline.Window.fill
  rw [dif_pos (moved0_0 t _)]
  blk_ext [iblk, e0 t]
theorem gb_read (c : Dev nD) (t : Fin cfg0.N) (r : Fin 512) (l : Fin 1024) :
    X0_1 m c t (ix2 r l) = m ((c : Thread nD τ).loc main_arg0) (ix2 (row t r) ⟨4616 + l.val, by omega⟩) := by
  refine Eq.trans ?_ ((gate_read m c (row t r) ⟨1024 + l.val, by omega⟩ (by dsimp only; omega)).trans
    (congrArg (fun k => m ((c : Thread nD τ).loc main_arg0) (ix2 (row t r) k)) (Fin.ext (by dsimp only; omega))))
  unfold X0_1 Pipeline.Window.fill
  rw [dif_pos (moved0_1 t _)]
  blk_ext [iblk, e1 t]

/-- The reference's result. -/
abbrev want (x : FVec Ideal S16384x5640 .f32) (a b : FVec Ideal S16384x1024 .f32) : FVec Ideal S16384x1024 .bf16 :=
  Cert.MergeRefIdeal.Read.val_main_v25 (F := Ideal) x a b

open Cert.MergeRefIdeal.Read in
/-- The reference's result, read at a row and a column. -/
theorem ref_read (x : FVec Ideal S16384x5640 .f32) (a b : FVec Ideal S16384x1024 .f32) (r : Fin 16384) (l : Fin 1024) :
    want x a b (ix2 r l)
      = Ideal.logistic (x (ix2 r ⟨3592 + l.val, by omega⟩)) * a (ix2 r l) + Ideal.logistic (x (ix2 r ⟨4616 + l.val, by omega⟩)) * b (ix2 r l) := by
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_cst, val_main_cst_0, val_main_cst_1, val_main_cst_2]
  rfl

/-- The result array after the kernel is the reference's result. -/
theorem final (c : Dev nD) : (dats m 0 c).arrAt 4 cfg0.N
    = want (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, outsAt0]; frame_out
  idx_vars y
  pointwise [k0_pay1]
  rw [show ((View.whole main_v7).slice (win0_4.rect t)).emb (ix2 y0 y1) = (ix2 (row t y0) y1 : S16384x1024.Idx) by blk_ext [e4 t],
    ref_read, pa_read, pb_read, ga_read, gb_read]

/-- The two programs' results are equal, whatever the arguments. -/
theorem value : Cert.algebraic_MergeIdeal_MergeRefIdeal := by
  intro m g m' g' _ hm
  refine ⟨fun c => want (m ((c : Thread nD τ).loc main_arg0)) (m ((c : Thread nD τ).loc main_arg1)) (m ((c : Thread nD τ).loc main_arg2)), ?_, ?_⟩
  · exact θ_run_mono (Cert.MergeIdeal.Value.run_blocks (F := Ideal) m g) fun r h c => ⟨(h c).1.trans (final m c), (h c).2⟩
  · refine θ_run_mono (Cert.MergeRefIdeal.Value.run (F := Ideal) m' g') fun r h c => ⟨(h c).1.trans ?_, (h c).2⟩
    obtain ⟨a0, a1, a2⟩ := hm c
    rw [a0, a1, a2]
    exact Cert.MergeRefIdeal.Read.val_main_v25_eq _ _ _

/-- The reference runs to its end and leaves its arguments and every counter as they were. -/
theorem frame_ref : Cert.quiescent_MergeRefIdeal := fun m g _ =>
  θ_run_mono (Cert.MergeRefIdeal.Value.run (F := Ideal) m g) fun r h =>
    ⟨fun c => (h c).2, sem_eq_zero_of_no_sems (by decide) r.2⟩

end Cert.MergeValue
-- ==== Proof.ActValue.lean ====
/- The value of the gated activation: the kernel's result array, read index by index, is what the reference computes. -/
module

public import proofs.«01_k».proof.Defs
public import proofs.«01_k».proof.Proof.Gen.ActIdeal.Value
public import proofs.«01_k».proof.Proof.Gen.ActRefIdeal.Run
public import proofs.«01_k».proof.Proof.Gen.ActRefIdeal.Read
public import Idealize.ShloMosaic.Lib.Pipeline.ValueKit
public import Idealize.ShloMosaic.Lib.Pipeline.ValueKit.Point
public import Idealize.ShloMosaic.Lib.Claim

@[expose] public section

set_option maxRecDepth 16384

noncomputable section

namespace Cert.ActValue

open Cert.ActIdeal Cert.ActIdeal.Gen Idealize.ShloMosaic Idealize.ShloMosaic.TcCoe Idealize.SL.Sem

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 1] := (by decide +kernel : ∀ t : Fin grid0.N, _)
theorem e2 : ∀ t : Fin cfg0.N, win0_2.index t = ![t.val, 0] := (by decide +kernel : ∀ t : Fin grid0.N, _)

theorem row_lt (t : Fin cfg0.N) (r : Fin 256) : t.val * 256 + r.val < 16384 := by
  have := t.isLt; have : cfg0.N = 64 := N_0; omega

/-- The row of the whole arrays that a point's row is. -/
abbrev row (t : Fin cfg0.N) (r : Fin 256) : Fin 16384 := ⟨t.val * 256 + r.val, row_lt t r⟩

/-- The value half's and the gate half's blocks at point `t`. -/
theorem up_read (c : Dev nD) (t : Fin cfg0.N) (r : Fin 256) (l : Fin 2816) :
    iblk m c 0 t (ix2 r l) = m ((c : Thread nD τ).loc main_arg0) (ix2 (row t r) ⟨l.val, by omega⟩) := by
  blk_ext [iblk, V, e0 t]
theorem gate_read (c : Dev nD) (t : Fin cfg0.N) (r : Fin 256) (l : Fin 2816) :
    iblk m c 1 t (ix2 r l) = m ((c : Thread nD τ).loc main_arg0) (ix2 (row t r) ⟨2816 + l.val, by omega⟩) := by
  blk_ext [iblk, V, e1 t]

open Cert.ActRefIdeal.Read in
/-- The reference's result, read at a row and a column. -/
theorem ref_read (x : FVec Ideal S16384x5632 .f32) (r : Fin 16384) (l : Fin 2816) :
    (val_main_v4 (F := Ideal) x : FVec Ideal S16384x2816 .bf16) (ix2 r l)
      = x (ix2 r ⟨2816 + l.val, by omega⟩) * Ideal.logistic (x (ix2 r ⟨2816 + l.val, by omega⟩)) * x (ix2 r ⟨l.val, by omega⟩) := by
  pointwise [val_main_v4, val_main_v3, val_main_v2, val_main_v1, val_main_v0, val_main_call0_v5, val_main_call0_v4, val_main_call0_v3,
    val_main_call0_v2, val_main_call0_v1, val_main_call0_v0, val_main_call0_cst, val_main_call0_cst_0]
  rfl

/-- The result array after the kernel is the reference's result. -/
theorem final (c : Dev nD) : (dats m 0 c).arrAt 2 cfg0.N = Cert.ActRefIdeal.Read.val_main_v4 (F := Ideal) (m ((c : Thread nD τ).loc main_arg0)) := by
  refine (dats m 0 c).arrAt_eq_of_covers 2 _ (by decide +kernel) fun t hf y => ?_
  blk_simp
  rw [after0_2]; frame_out
  idx_vars y
  pointwise [k0_pay1]
  rw [show ((View.whole main_v0).slice (win0_2.rect t)).emb (ix2 y0 y1) = (ix2 (row t y0) y1 : S16384x2816.Idx) by blk_ext [e2 t],
    ref_read, up_read, gate_read]

/-- The two programs' results are equal, whatever the argument. -/
theorem value : Cert.algebraic_ActIdeal_ActRefIdeal := by
  intro m g m' g' _ hm
  refine ⟨fun c => Cert.ActRefIdeal.Read.val_main_v4 (F := Ideal) (m ((c : Thread nD τ).loc main_arg0)), ?_, ?_⟩
  · exact θ_run_mono (Cert.ActIdeal.Value.run_blocks (F := Ideal) m g) fun r h c => ⟨(h c).1.trans (final m c), (h c).2⟩
  · refine θ_run_mono (Cert.ActRefIdeal.Value.run (F := Ideal) m' g') fun r h c => ⟨(h c).1.trans ?_, (h c).2⟩
    rw [hm c]
    exact Cert.ActRefIdeal.Read.val_main_v4_eq _

/-- The reference runs to its end and leaves its argument and every counter as they were. -/
theorem frame_ref : Cert.quiescent_ActRefIdeal := fun m g _ =>
  θ_run_mono (Cert.ActRefIdeal.Value.run (F := Ideal) m g) fun r h =>
    ⟨fun c => (h c).2, sem_eq_zero_of_no_sems (by decide) r.2⟩

end Cert.ActValue
-- ==== Proof.LnValue.lean ====
/- The value of the layer norm of a residual sum: the kernel's two results, read index by index, are what the reference computes. -/
module

public import proofs.«01_k».proof.Defs
public import proofs.«01_k».proof.Proof.Gen.LnIdeal.Value
public import proofs.«01_k».proof.Proof.Gen.LnRefIdeal.Run
public import proofs.«01_k».proof.Proof.Gen.LnRefIdeal.Read
public import Idealize.ShloMosaic.Lib.Pipeline.ValueKit
public import Idealize.ShloMosaic.Lib.Pipeline.ValueKit.Point
public import Idealize.ShloMosaic.Lib.IdealHost
public import Idealize.ShloMosaic.Lib.Claim

@[expose] public section

set_option maxRecDepth 16384

noncomputable section

namespace Cert.LnValue

open Cert.LnIdeal Cert.LnIdeal.Gen Idealize.ShloMosaic Idealize.ShloMosaic.TcCoe Idealize.SL.Sem

/-! ### A row's norm -/

/-- A row's mean. -/
def avg (z : Fin 1024 → EReal) : EReal := Ideal.div (∑ l, z l) (Ideal.ofBits .f32 0x44800000#32)
/-- A row's entry less the mean. -/
def dev (z : Fin 1024 → EReal) (l : Fin 1024) : EReal := z l - avg z
/-- A row, centred and scaled to unit variance, then scaled by `g` and shifted by `b`. -/
def normed (z g b : Fin 1024 → EReal) (l : Fin 1024) : EReal :=
  dev z l * Ideal.rsqrt (avg (fun k => dev z k * dev z k) + Ideal.ofBits .f32 0x3727C5AC#32) * g l + b l
/-- The residual sum. -/
def res (x y : Fin 1024 → EReal) (l : Fin 1024) : EReal := Ideal.ofBits .f32 0x3FB504F3#32 * x l + y l

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

theorem row_lt (t : Fin cfg0.N) (r : Fin 512) : t.val * 512 + r.val < 16384 := by
  have := t.isLt; have : cfg0.N = 32 := N_0; omega

/-- The row of the whole arrays that a point's row is. -/
abbrev row (t : Fin cfg0.N) (r : Fin 512) : Fin 16384 := ⟨t.val * 512 + r.val, row_lt t r⟩

/-- A device's arguments. -/
abbrev argX (c : Dev nD) : FVec Ideal S16384x1024 .f32 := m ((c : Thread nD τ).loc main_arg0)
abbrev argY (c : Dev nD) : FVec Ideal S16384x1024 .f32 := m ((c : Thread nD τ).loc main_arg1)
abbrev argG (c : Dev nD) : FVec Ideal S1024 .f32 := m ((c : Thread nD τ).loc main_arg2)
abbrev argB (c : Dev nD) : FVec Ideal S1024 .f32 := m ((c : Thread nD τ).loc main_arg3)

variable (c : Dev nD)

/-! ### A point's blocks -/

theorem x_read (t : Fin cfg0.N) (r : Fin 512) (l : Fin 1024) : iblk m c 0 t (ix2 r l) = argX m c (ix2 (row t r) l) := by
  blk_ext [iblk, V, e0 t]
theorem y_read (t : Fin cfg0.N) (r : Fin 512) (l : Fin 1024) : iblk m c 1 t (ix2 r l) = argY m c (ix2 (row t r) l) := by
  blk_ext [iblk, V, e1 t]

theorem scale_eq : (V m c main_v0 : Vec Ideal S1x1024 .f32) = shapeCast _ (argG m c) shapeCasts_S1024_S1x1024 := by
  show StableHlo.after hostOps0 (fun b => m (c, b)) (Proc.devRef .tc main_v0) = _
  after_results_simp <;> rfl
theorem shift_eq : (V m c main_v1 : Vec Ideal S1x1024 .f32) = shapeCast _ (argB m c) shapeCasts_S1024_S1x1024 := by
  show StableHlo.after hostOps0 (fun b => m (c, b)) (Proc.devRef .tc main_v1) = _
  after_results_simp <;> rfl

omit m c in
theorem flat_at (a : FVec Ideal S1024 .f32) (l : Fin 1024) : shapeCast S1x1024 a shapeCasts_S1024_S1x1024 (ix2 (0 : Fin 1) l) = a (ix1 l) := by
  pointwise []

theorem g_read (t : Fin cfg0.N) (l : Fin 1024) : iblk m c 2 t (ix2 (0 : Fin 1) l) = argG m c (ix1 l) := by
  refine Eq.trans ?_ ((congrFun (scale_eq m c) _).trans (flat_at _ l))
  blk_ext [iblk, e2 t]
theorem b_read (t : Fin cfg0.N) (l : Fin 1024) : iblk m c 3 t (ix2 (0 : Fin 1) l) = argB m c (ix1 l) := by
  refine Eq.trans ?_ ((congrFun (shift_eq m c) _).trans (flat_at _ l))
  blk_ext [iblk, e3 t]

/-! ### What a point computes, and what the reference computes -/

omit m c in
theorem point_at (x y : Vec Ideal S512x1024 .f32) (g b : Vec Ideal S1x1024 .f32) (r : Fin 512) (l : Fin 1024) :
    k0_pay1 x y g b (ix2 r l)
      = normed (res (fun l => x (ix2 r l)) (fun l => y (ix2 r l))) (fun l => g (ix2 (0 : Fin 1) l)) (fun l => b (ix2 (0 : Fin 1) l)) l := by
  pointwise [k0_pay1]
  rfl

/-- The reference's first result. -/
abbrev want (x y : FVec Ideal S16384x1024 .f32) (g b : FVec Ideal S1024 .f32) : FVec Ideal S16384x1024 .f32 :=
  Cert.LnRefIdeal.Read.val_main_v26 (F := Ideal) x y g b
/-- Its copy in the shorter format. -/
abbrev wantb (x y : FVec Ideal S16384x1024 .f32) (g b : FVec Ideal S1024 .f32) : FVec Ideal S16384x1024 .bf16 :=
  Cert.LnRefIdeal.Read.val_main_v27 (F := Ideal) x y g b

omit m c in
open Cert.LnRefIdeal.Read in
theorem ref_at (x y : FVec Ideal S16384x1024 .f32) (g b : FVec Ideal S1024 .f32) (t : Fin 16384) (l : Fin 1024) :
    want x y g b (ix2 t l) = normed (res (fun l => x (ix2 t l)) (fun l => y (ix2 t l))) (fun l => g (ix1 l)) (fun l => b (ix1 l)) l := by
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4]
  rfl

theorem block_at (t : Fin cfg0.N) (r : Fin 512) (l : Fin 1024) :
    k0_pay1 (iblk m c 0 t) (iblk m c 1 t) (iblk m c 2 t) (iblk m c 3 t) (ix2 r l) = want (argX m c) (argY m c) (argG m c) (argB m c) (ix2 (row t r) l) := by
  rw [ref_at]
  refine (point_at _ _ _ _ r l).trans ?_
  simp only [x_read, y_read, g_read, b_read]

/-- The kernel's first result. -/
theorem final : (dats m 0 c).arrAt 4 cfg0.N = want (argX m c) (argY m c) (argG m c) (argB m c) := by
  refine (dats m 0 c).arrAt_eq_of_covers 4 _ (by decide +kernel) fun t hf y => ?_
  blk_simp
  rw [after0_4]; frame_out
  idx_vars y
  rw [show ((View.whole main_v2_0).slice (win0_4.rect t)).emb (ix2 y0 y1) = (ix2 (row t y0) y1 : S16384x1024.Idx) by blk_ext [e4 t]]
  exact block_at m c t y0 y1

/-- Its copy in the shorter format. -/
theorem finalb : (dats m 0 c).arrAt 5 cfg0.N = wantb (argX m c) (argY m c) (argG m c) (argB m c) := by
  refine (dats m 0 c).arrAt_eq_of_covers 5 _ (by decide +kernel) fun t hf y => ?_
  blk_simp
  rw [after0_5]; frame_out
  idx_vars y
  rw [show ((View.whole main_v2_1).slice (win0_5.rect t)).emb (ix2 y0 y1) = (ix2 (row t y0) y1 : S16384x1024.Idx) by blk_ext [e5 t]]
  pointwise [k0_pay2, Cert.LnRefIdeal.Read.val_main_v27]
  exact block_at m c t y0 y1

omit m c in
/-- The two programs' results are equal, whatever the arguments. -/
theorem value : Cert.algebraic_LnIdeal_LnRefIdeal := by
  intro m g m' g' _ hm
  refine ⟨fun c => want (argX m c) (argY m c) (argG m c) (argB m c), fun c => wantb (argX m c) (argY m c) (argG m c) (argB m c), ?_, ?_⟩
  · exact θ_run_mono (Cert.LnIdeal.Value.run_blocks (F := Ideal) m g) fun r h c => ⟨(h c).1.trans (final m c), (h c).2.1.trans (finalb m c), (h c).2.2⟩
  · refine θ_run_mono (Cert.LnRefIdeal.Value.run (F := Ideal) m' g') fun r h c => ⟨(h c).1.trans ?_, (h c).2.1.trans ?_, (h c).2.2⟩ <;>
      obtain ⟨a0, a1, a2, a3⟩ := hm c <;> rw [a0, a1, a2, a3]
    · exact Cert.LnRefIdeal.Read.val_main_v26_eq _ _ _ _
    · exact Cert.LnRefIdeal.Read.val_main_v27_eq _ _ _ _

omit m c in
/-- The reference runs to its end and leaves its arguments and every counter as they were. -/
theorem frame_ref : Cert.quiescent_LnRefIdeal := fun m g _ =>
  θ_run_mono (Cert.LnRefIdeal.Value.run (F := Ideal) m g) fun r h =>
    ⟨fun c => (h c).2.2, sem_eq_zero_of_no_sems (by decide) r.2⟩

end Cert.LnValue
-- ==== Proof.YbValue.lean ====
/- The value of the recurrence's gated norm: the kernel's result array, read index by index, is what the reference computes. -/
module

public import proofs.«01_k».proof.Defs
public import proofs.«01_k».proof.Proof.DybValue
public import proofs.«01_k».proof.Proof.Gen.YbIdeal.Value
public import proofs.«01_k».proof.Proof.Gen.YbRefIdeal.Run
public import proofs.«01_k».proof.Proof.Gen.YbRefIdeal.Read

@[expose] public section

set_option maxRecDepth 16384

noncomputable section

namespace Cert.YbValue

open Cert.YbIdeal Cert.YbIdeal.Gen Idealize.ShloMosaic Idealize.ShloMosaic.TcCoe Idealize.SL.Sem
open Cert.DybPoint (sl beside beside_at rsOf)

/-! ### A head's norm -/

/-- A head of a row, scaled to unit mean square and then by `n`. -/
def normed (o n : Fin 128 → EReal) (k : Fin 128) : EReal :=
  o k * Ideal.rsqrt (Ideal.div (∑ j, o j * o j) (Ideal.ofBits .f32 0x43000000#32) + Ideal.ofBits .f32 0x358637BD#32) * n k

/-- Where a head's lane lies in its row. -/
abbrev at4 (h : Fin 4) (k : Fin 128) : Fin 512 := ⟨h.val * 128 + k.val, by omega⟩

/-- Every column is a head's lane. -/
theorem exists_at4 (l : Fin 512) : ∃ h k, l = at4 h k :=
  ⟨⟨l.val / 128, by omega⟩, ⟨l.val % 128, by omega⟩, Fin.ext (by show l.val = l.val / 128 * 128 + l.val % 128; omega)⟩

/-- A head's lines. -/
def headOf {F : FTy → Type} [FloatOps F] (n : FVec F S1x128 .f32) (o : FVec F S512x128 .f32) : FVec F S512x128 .f32 :=
  mulf (mulf o (broadcastTo S512x128 (rsOf o) broadcasts_S512x1_S512x128)) (broadcastTo S512x128 n broadcasts_S1x128_S512x128)

theorem lines {F : FTy → Type} [FloatOps F] (o b : Vec F S512x512 .f32) (n : Vec F S1x128 .f32) :
    k0_pay1 o (k0_pay2 b) (k0_pay3 n) (k0_pay4 o n) (k0_pay5 o n) (k0_pay6 o n)
      = truncf .bf16 (mulf (beside fun h => headOf (k0_pay3 n) (sl o h)) (logistic (k0_pay2 b))) bitsLt_bf16_f32 := rfl

theorem head_at (n : FVec Ideal S1x128 .f32) (o : FVec Ideal S512x128 .f32) (r : Fin 512) (k : Fin 128) :
    headOf n o (ix2 r k) = normed (fun k => o (ix2 r k)) (fun k => n (ix2 (0 : Fin 1) k)) k := by
  pointwise [headOf, rsOf]
  rfl

theorem point_at (o b : Vec Ideal S512x512 .f32) (n : Vec Ideal S1x128 .f32) (r : Fin 512) (h : Fin 4) (k : Fin 128) :
    k0_pay1 o (k0_pay2 b) (k0_pay3 n) (k0_pay4 o n) (k0_pay5 o n) (k0_pay6 o n) (ix2 r (at4 h k))
      = normed (fun k => o (ix2 r (at4 h k))) (fun k => n (ix2 (0 : Fin 1) k)) k * Ideal.logistic (b (ix2 r (at4 h k))) := by
  refine (congrFun (lines o b n) _).trans ?_
  refine congrArg₂ (· * · : EReal → EReal → EReal) ((beside_at _ r h k).trans ((head_at _ _ r k).trans ?_)) ?_
  · refine congrArg₂ (fun p q => normed p q k) (funext fun k => ?_) (funext fun k => ?_)
    · pointwise [sl]
    · pointwise [k0_pay3]
  · pointwise [k0_pay2]

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![t.val, 7] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)

theorem row_lt (t : Fin cfg0.N) (r : Fin 512) : t.val * 512 + r.val < 16384 := by
  have := t.isLt; have : cfg0.N = 32 := N_0; omega

/-- The row of the whole arrays that a point's row is. -/
abbrev row (t : Fin cfg0.N) (r : Fin 512) : Fin 16384 := ⟨t.val * 512 + r.val, row_lt t r⟩

/-- A device's arguments. -/
abbrev argP : FVec Ideal S16384x5640 .f32 := m ((c : Thread nD τ).loc main_arg0)
abbrev argO : FVec Ideal S16384x512 .f32 := m ((c : Thread nD τ).loc main_arg1)
abbrev argN : FVec Ideal S128 .f32 := m ((c : Thread nD τ).loc main_arg2)

/-! ### A point's blocks -/

theorem o_read (t : Fin cfg0.N) (r : Fin 512) (l : Fin 512) : iblk m c 0 t (ix2 r l) = argO m c (ix2 (row t r) l) := by
  blk_ext [iblk, V, e0 t]

theorem entry_eq : V m c main_v6 = Cert.DybValue.permuted (argP m c) := by
  show StableHlo.after hostOps0 (fun b => m (c, b)) (Proc.devRef .tc main_v6) = _
  after_results_simp <;> rfl

theorem gate_read (t : Fin cfg0.N) (r : Fin 512) (l : Fin 512) : X0_1 m c t (ix2 r l) = argP m c (ix2 (row t r) ⟨3080 + l.val, by omega⟩) := by
  refine Eq.trans ?_ ((congrFun (entry_eq m c) (ix2 (row t r) ⟨3584 + l.val, by omega⟩)).trans (Cert.DybValue.perm_read _ _ _))
  unfold X0_1 Pipeline.Window.fill
  rw [dif_pos (moved0_1 t _)]
  blk_ext [iblk, e1 t]

theorem scale_eq : (V m c main_v7 : Vec Ideal S1x128 .f32) = shapeCast _ (argN m c) shapeCasts_S128_S1x128 := by
  show StableHlo.after hostOps0 (fun b => m (c, b)) (Proc.devRef .tc main_v7) = _
  after_results_simp <;> rfl

omit m c in
theorem flat_at (a : FVec Ideal S128 .f32) (l : Fin 128) : shapeCast S1x128 a shapeCasts_S128_S1x128 (ix2 (0 : Fin 1) l) = a (ix1 l) := by
  pointwise []

theorem n_read (t : Fin cfg0.N) (k : Fin 128) : iblk m c 2 t (ix2 (0 : Fin 1) k) = argN m c (ix1 k) := by
  refine Eq.trans ?_ ((congrFun (scale_eq m c) _).trans (flat_at _ k))
  blk_ext [iblk, e2 t]

/-! ### The reference -/

/-- The reference's result. -/
abbrev want (p : FVec Ideal S16384x5640 .f32) (o : FVec Ideal S16384x512 .f32) (n : FVec Ideal S128 .f32) : FVec Ideal S16384x512 .bf16 :=
  Cert.YbRefIdeal.Read.val_main_v32 (F := Ideal) p o n

omit m c in
open Cert.YbRefIdeal.Read in
theorem ref_head (o : FVec Ideal S16384x512 .f32) (n : FVec Ideal S128 .f32) (t : Fin 16384) (h : Fin 4) (k : Fin 128) :
    val_main_v23 (F := Ideal) o n (ix3 t h k) = normed (fun k => o (ix2 t (at4 h k))) (fun k => n (ix1 k)) k := by
  pointwise [val_main_v23, val_main_v22, val_main_v21, val_main_v20, val_main_v19, val_main_v18, val_main_v17, val_main_v16, val_main_v15,
    val_main_v14, val_main_v13, val_main_v12, val_main_v11, val_main_v10, val_main_cst, val_main_cst_0, val_main_cst_1]
  rfl

omit m c in
open Cert.YbRefIdeal.Read in
theorem ref_at (p : FVec Ideal S16384x5640 .f32) (o : FVec Ideal S16384x512 .f32) (n : FVec Ideal S128 .f32) (t : Fin 16384) (h : Fin 4) (k : Fin 128) :
    want p o n (ix2 t (at4 h k))
      = normed (fun k => o (ix2 t (at4 h k))) (fun k => n (ix1 k)) k * Ideal.logistic (p (ix2 t ⟨3080 + (at4 h k).val, by omega⟩)) := by
  have e : val_main_v24 (F := Ideal) o n (ix2 t (at4 h k)) = val_main_v23 (F := Ideal) o n (ix3 t h k) := by
    pointwise [val_main_v24]
    exact congrArg₂ (fun i j => val_main_v23 (F := Ideal) o n (ix3 t i j)) (Fin.ext (by show (h.val * 128 + k.val) / 128 = h.val; omega))
      (Fin.ext (by show (h.val * 128 + k.val) % 128 = k.val; omega))
  pointwise [val_main_v32, val_main_v31, val_main_v30, val_main_v29, val_main_v28, val_main_v27, val_main_v26, val_main_v25, val_main_v7,
    val_main_cst_2, val_main_cst_3]
  rw [e, ref_head]
  rfl

/-- The result array after the kernel is the reference's result. -/
theorem final : (dats m 0 c).arrAt 3 cfg0.N = want (argP m c) (argO m c) (argN m c) := by
  refine (dats m 0 c).arrAt_eq_of_covers 3 _ (by decide +kernel) fun t hf y => ?_
  blk_simp
  rw [after0_3, outsAt0]; frame_out
  idx_vars y
  rw [show ((View.whole main_v8).slice (win0_3.rect t)).emb (ix2 y0 y1) = (ix2 (row t y0) y1 : S16384x512.Idx) by blk_ext [e3 t]]
  obtain ⟨h, k, rfl⟩ := exists_at4 y1
  rw [ref_at]
  refine (point_at _ _ _ y0 h k).trans ?_
  simp only [o_read, gate_read, n_read]

omit m c in
/-- The two programs' results are equal, whatever the arguments. -/
theorem value : Cert.algebraic_YbIdeal_YbRefIdeal := by
  intro m g m' g' _ hm
  refine ⟨fun c => want (argP m c) (argO m c) (argN m c), ?_, ?_⟩
  · exact θ_run_mono (Cert.YbIdeal.Value.run_blocks (F := Ideal) m g) fun r h c => ⟨(h c).1.trans (final m c), (h c).2⟩
  · refine θ_run_mono (Cert.YbRefIdeal.Value.run (F := Ideal) m' g') fun r h c => ⟨(h c).1.trans ?_, (h c).2⟩
    obtain ⟨a0, a1, a2⟩ := hm c
    rw [a0, a1, a2]
    exact Cert.YbRefIdeal.Read.val_main_v32_eq _ _ _

omit m c in
/-- The reference runs to its end and leaves its arguments and every counter as they were. -/
theorem frame_ref : Cert.quiescent_YbRefIdeal := fun m g _ =>
  θ_run_mono (Cert.YbRefIdeal.Value.run (F := Ideal) m g) fun r h =>
    ⟨fun c => (h c).2, sem_eq_zero_of_no_sems (by decide) r.2⟩

end Cert.YbValue
-- ==== Proof.Running.lean ====
/- Sums up to an index: the running sum of a column, and its split into the rows before a block and the block's own rows. -/
module

public import proofs.«01_k».proof.Proof.Suffix

@[expose] public section

noncomputable section

namespace Cert.Running

open Cert Cert.Suffix Idealize.ShloMosaic

/-- The sum of the first `n` entries. -/
def upto {N : ℕ} (f : Fin N → ℝ) (n : ℕ) : ℝ := ∑ i ∈ Finset.range n, ext f i

theorem upto_zero {N : ℕ} (f : Fin N → ℝ) : upto f 0 = 0 := rfl

/-- The sum up to a block's row `r`: the block's own rows up to `r` and the rows before the block. -/
theorem upto_block {N M : ℕ} (f : Fin N → ℝ) (b : ℕ) (hb : b + M ≤ N) (r : Fin M) :
    (∑ c : Fin M, if c ≤ r then f ⟨b + c.val, by have := c.isLt; omega⟩ else 0) + upto f b = upto f (b + (r.val + 1)) := by
  have hr := r.isLt
  rw [upto, upto, Finset.sum_range_add, add_comm]
  congr 1
  have e : (∑ c : Fin M, if c ≤ r then f ⟨b + c.val, by have := c.isLt; omega⟩ else 0) = ∑ c : Fin M, if c.val < r.val + 1 then ext f (b + c.val) else 0 :=
    Finset.sum_congr rfl fun c _ => if_congr (by rw [Fin.le_def]; omega) (ext_val f ⟨b + c.val, by have := c.isLt; omega⟩).symm rfl
  rw [e, Fin.sum_univ_eq_sum_range (fun i => if i < r.val + 1 then ext f (b + i) else 0) M, ← Finset.sum_filter]
  exact Finset.sum_congr (Finset.ext fun i => by simp only [Finset.mem_filter, Finset.mem_range]; omega) fun _ _ => rfl

/-- The terms of a window that ends at `j`, counted from the window's first place. -/
theorem sum_window {R Rm1 : ℕ} (hR : Rm1 + 1 = R) (g : ℕ → ℝ) (j : ℕ) (hj : j < R) :
    (∑ i : Fin R, if Rm1 ≤ j + i.val then g (j + i.val - Rm1) else 0) = ∑ i ∈ Finset.range (j + 1), g i := by
  rw [Fin.sum_univ_eq_sum_range (fun i => if Rm1 ≤ j + i then g (j + i - Rm1) else 0) R, ← Finset.sum_filter,
    show (Finset.range R).filter (fun i => Rm1 ≤ j + i) = Finset.Ico (Rm1 - j) R from
      Finset.ext fun i => by simp only [Finset.mem_filter, Finset.mem_range, Finset.mem_Ico]; omega,
    Finset.sum_Ico_eq_sum_range, show R - (Rm1 - j) = j + 1 by omega]
  exact Finset.sum_congr rfl fun i _ => congrArg g (by omega)

/-- The running sum of an `[R, C]` matrix down its columns: entry `(j, c)` sums the entries `(i, c)` with `i` at most `j`. -/
theorem running {R Rm1 C : ℕ} (hR : Rm1 + 1 = R) (x : FVec Ideal ⟨2, ![R, C]⟩ .f32) (f : Fin C → Fin R → ℝ)
    (hx : ∀ (i : Fin R) (c : Fin C), x (ix2 i c) = (f c i : EReal)) (init : FVec Ideal ⟨0, ![]⟩ .f32) (hinit : init ix0 = 0)
    (h : (⟨2, ![R, C]⟩ : Shape).ReduceWindows (![R, 1] : Fin 2 → Nat) ![1, 1] ![Rm1, 0] ![0, 0] ⟨2, ![R, C]⟩)
    (hu : 0 < (⟨0, ![]⟩ : Shape).numel) (j : Fin R) (c : Fin C) :
    Host.reduceWindowAdd (F := Ideal) ![R, 1] ![1, 1] ![Rm1, 0] ![0, 0] x init h hu (ix2 j c) = ((upto (f c) (j.val + 1) : ℝ) : EReal) := by
  have hj := j.isLt
  have hv : init (Shape.Idx.first hu) = 0 := (congrArg init (funext fun k => k.elim0)).trans hinit
  show Ideal.hostReduceWindowAdd _ _ _ _ h x (init (Shape.Idx.first hu)) (ix2 j c) = _
  rw [hv]
  unfold Ideal.hostReduceWindowAdd Host.reduceWindow
  refine (foldl_sum (α := EReal) _).trans ?_
  rw [upto, ← sum_window hR (ext (f c)) j.val hj, ← Norm.sum_coe]
  refine Fintype.sum_equiv (finCongr (Routing.numel_col R)) _ _ fun n => ?_
  have hn : n.val < R := lt_of_lt_of_eq n.isLt (Routing.numel_col R)
  have hw0 : ((Routing.shape2 R 1).rowMajor.symm n 0).val = n.val := by rw [Routing.symm_col]; rfl
  have hw1 : ((Routing.shape2 R 1).rowMajor.symm n 1).val = 0 := by rw [Routing.symm_col]; rfl
  dsimp only
  have hp : ∀ a : Fin 2, (ix2 j c (a.cast h.1.symm)).val * (![1, 1] : Fin 2 → ℕ) a + ((Routing.shape2 R 1).rowMajor.symm n a).val
      = (![j.val + n.val, c.val] : Fin 2 → ℕ) a := fun a => by
    match a with
    | ⟨0, _⟩ => show j.val * 1 + ((Routing.shape2 R 1).rowMajor.symm n 0).val = j.val + n.val; rw [hw0]; omega
    | ⟨1, _⟩ => show c.val * 1 + ((Routing.shape2 R 1).rowMajor.symm n 1).val = c.val; rw [hw1]; omega
  rw [show ((finCongr (Routing.numel_col R)) n).val = n.val from rfl]
  split
  · next hin =>
    have h0 := (hin 0).1
    change Rm1 ≤ j.val * 1 + ((Routing.shape2 R 1).rowMajor.symm n 0).val at h0
    rw [hw0] at h0
    have hle : Rm1 ≤ j.val + n.val := by omega
    have hlt : j.val + n.val - Rm1 < R := by omega
    rw [if_pos hle]
    refine (congrArg x (funext fun a => Fin.ext ?_)).trans ((hx ⟨j.val + n.val - Rm1, hlt⟩ c).trans (congrArg _ (ext_val (f c) ⟨j.val + n.val - Rm1, hlt⟩).symm))
    match a with
    | ⟨0, _⟩ => exact congrArg (· - Rm1) (hp 0)
    | ⟨1, _⟩ => exact hp 1
  · next hin =>
    have hle : ¬ Rm1 ≤ j.val + n.val := fun hle => hin fun a => by
      match a with
      | ⟨0, _⟩ => exact ⟨le_of_le_of_eq hle (hp 0).symm, lt_of_eq_of_lt (congrArg (· - Rm1) (hp 0)) (by show j.val + n.val - Rm1 < R; omega)⟩
      | ⟨1, _⟩ => exact ⟨Nat.zero_le _, lt_of_eq_of_lt (hp 1) c.isLt⟩
    rw [if_neg hle]; rfl

end Cert.Running
-- ==== Proof.FsumValue.lean ====
/- The value of the forget gate's running sum: the kernel's result array, read index by index, is what the reference computes. -/
module

public import proofs.«01_k».proof.Defs
public import proofs.«01_k».proof.Proof.FgateValue
public import proofs.«01_k».proof.Proof.Running
public import proofs.«01_k».proof.Proof.Gen.FsumIdeal.Frame
public import proofs.«01_k».proof.Proof.Gen.FsumRefIdeal.Run
public import proofs.«01_k».proof.Proof.Gen.FsumRefIdeal.Read

@[expose] public section

set_option maxRecDepth 16384

noncomputable section

namespace Cert.FsumValue

open Cert.FsumIdeal Cert.FsumIdeal.Gen Idealize.ShloMosaic Idealize.ShloMosaic.TcCoe Idealize.SL.Sem
open Cert.Fin Cert.Norm Cert.Running
open Cert.FgatePoint (lane lt_select)
open Cert.FgateRef (gate soft coe_max)

/-! ### A point -/

/-- The logarithm of the logistic function as both programs compute it. -/
def ls (z : ℝ) : ℝ := min z 0 - Real.log (1 + Real.exp (-|z|))

theorem ls_soft (z : ℝ) : -soft (-z) = ls z := by
  rw [soft, ls, abs_neg, neg_add, ← min_neg_neg, neg_neg, neg_zero, sub_eq_add_neg]

theorem coe_min (a b : ℝ) : ((min a b : ℝ) : EReal) = min (a : EReal) (b : EReal) := EReal.coe_strictMono.monotone.map_min

/-- The column of lane `l` in the `p`-th of three arrays side by side. -/
abbrev third (p : Fin 3) (l : Fin 128) : Fin 384 := ⟨p.val * 128 + l.val, by omega⟩

/-- A point's gates after their `log_sigmoid`, zero beyond the heads. -/
def gates (v6 : Vec Ideal S256x128 .f32) (v8 : Vec Ideal S1x128 .f32) : FVec Ideal S256x128 .f32 :=
  have z : FVec Ideal S256x128 .f32 := addf (shapeCast S256x128 v6 shapeCasts_S256x128_S256x128)
    (broadcastTo S256x128 (shapeCast S1x128 v8 shapeCasts_S1x128_S1x128) broadcasts_S1x128_S256x128)
  select (cmpi .slt (iota .tc S256x128 32 [1] iota_S256x128_d1_w32) (broadcast S256x128 8#32))
    (subf (minimumf z (broadcast S256x128 (Scalar.ofBits .f32 0x00000000#32)))
      (log (addf (broadcast S256x128 (Scalar.ofBits .f32 0x3F800000#32)) (exp (subf (broadcast S256x128 (Scalar.ofBits .f32 0x00000000#32)) (absf z))))))
    (broadcast S256x128 (Scalar.ofBits .f32 0x00000000#32))

/-- The triangular product with three arrays side by side. -/
def prod (a b c : FVec Ideal S256x128 .bf16) : FVec Ideal S256x384 .f32 :=
  matmul dot_S256x256_S256x384_S256x384_1_0_0_1_n_n none
    (truncf .bf16 (select (cmpi .sge (iota .tc S256x256 32 [0] iota_S256x256_d0_w32) (iota .tc S256x256 32 [1] iota_S256x256_d1_w32))
      (broadcast S256x256 (Scalar.ofBits .f32 0x3F800000#32)) (broadcast S256x256 (Scalar.ofBits .f32 0x00000000#32))) bitsLt_bf16_f32)
    (concatenate S256x384 1 [⟨S256x128, a⟩, ⟨S256x128, b⟩, ⟨S256x128, c⟩] concatenates_S256x128_S256x128_S256x128_S256x384_d1)
    (constant S256x384 .f32 0x00000000#32)

theorem lines (v6 : Vec Ideal S256x128 .f32) (v8 : Vec Ideal S1x128 .f32) :
    k0_pay4 v6 v8 = prod (gates v6 v8) (subf (gates v6 v8) (gates v6 v8))
      (subf (subf (gates v6 v8) (gates v6 v8)) (subf (gates v6 v8) (gates v6 v8))) := rfl

/-- A choice by the order of two rows. -/
theorem ge_select (r c : Fin 256) (x y : EReal) :
    Scalar.select (IntOp.cmpi .sge (BitVec.ofNat 32 r.val) (BitVec.ofNat 32 c.val)) x y = if c ≤ r then x else y :=
  if_congr (WordCmp.cmpi_sge_ofNat_eq_one_iff (by have := r.isLt; omega) (by have := c.isLt; omega)) rfl rfl

theorem prod_at (a b c : FVec Ideal S256x128 .bf16) (r : Fin 256) (l : Fin 128) :
    prod a b c (ix2 r (third 0 l)) = (∑ k : Fin 256, if k ≤ r then a (ix2 k l) else 0)
    ∧ prod a b c (ix2 r (third 1 l)) = (∑ k : Fin 256, if k ≤ r then b (ix2 k l) else 0)
    ∧ prod a b c (ix2 r (third 2 l)) = (∑ k : Fin 256, if k ≤ r then c (ix2 k l) else 0) := by
  refine ⟨?_, ?_, ?_⟩
  · pointwise [prod]
    refine Finset.sum_congr rfl fun k _ => ?_
    rw [ge_select]
  · pointwise [prod]
    refine Finset.sum_congr rfl fun k _ => ?_
    rw [ge_select]
  · pointwise [prod]
    refine Finset.sum_congr rfl fun k _ => ?_
    rw [ge_select, dif_neg (by omega), dif_neg (by omega)]
    exact congrArg (fun z => if k ≤ r then c (ix2 k z) else 0) (Fin.ext (by dsimp only; omega))

/-- A row's gates on all lanes. -/
def lanes (A : Fin 8 → ℝ) (B : Fin 8 → ℝ) (l : Fin 128) : ℝ := if h : l.val < 8 then ls (A ⟨l.val, h⟩ + B ⟨l.val, h⟩) else 0

section
variable {v6 : Vec Ideal S256x128 .f32} {v8 : Vec Ideal S1x128 .f32} {A : Fin 256 → Fin 8 → ℝ} {B : Fin 8 → ℝ}
  (ha : ∀ r h, v6 (ix2 r (lane h)) = (A r h : EReal)) (hb : ∀ h, v8 (ix2 (0 : Fin 1) (lane h)) = (B h : EReal))
include ha hb

theorem gates_at (r : Fin 256) (l : Fin 128) : gates v6 v8 (ix2 r l) = (lanes (A r) B l : EReal) := by
  pointwise [gates]
  refine (lt_select l _ _).trans ?_
  by_cases hl : l.val < 8
  · have ea : v6 (ix2 r l) = (A r ⟨l.val, hl⟩ : EReal) := ha r ⟨l.val, hl⟩
    have eb : v8 (ix2 (0 : Fin 1) l) = (B ⟨l.val, hl⟩ : EReal) := hb ⟨l.val, hl⟩
    rw [if_pos hl, lanes, dif_pos hl, ea, eb, ← EReal.coe_add]
    have hp : 0 < 1 + Real.exp (-|A r ⟨l.val, hl⟩ + B ⟨l.val, hl⟩|) := by positivity
    rw [show FloatOps.absf (F := Ideal) (φ := .f32) ((A r ⟨l.val, hl⟩ + B ⟨l.val, hl⟩ : ℝ) : EReal) = ((|A r ⟨l.val, hl⟩ + B ⟨l.val, hl⟩| : ℝ) : EReal) from
      (coe_max _ _).symm, zero_sub, ← EReal.coe_neg, Ideal.exp_coe, ← EReal.coe_one, ← EReal.coe_add, Ideal.log_coe, if_neg (not_le.mpr hp), ← EReal.coe_zero,
      ← coe_min, ← EReal.coe_sub]
    rfl
  · rw [if_neg hl, lanes, dif_neg hl, EReal.coe_zero]

variable {C : Vec Ideal S1x128 .f32} {R : Fin 128 → ℝ} (hc : ∀ l, C (ix2 (0 : Fin 1) l) = (R l : EReal))
include hc

/-- A point's running sum: its own rows, and the rows before it. -/
theorem run_at (r : Fin 256) (l : Fin 128) : k0_pay1 (k0_pay5 v6 v8) (k0_pay6 v6 v8) C (ix2 r l)
    = (((∑ k : Fin 256, if k ≤ r then lanes (A k) B l else 0) + R l : ℝ) : EReal) := by
  have hz : ∀ k, subf (gates v6 v8) (gates v6 v8) (ix2 k l) = 0 := fun k => by
    pointwise []
    rw [gates_at ha hb, ← EReal.coe_sub, sub_self, EReal.coe_zero]
  obtain ⟨e0, e1, e2⟩ := prod_at (gates v6 v8) (subf (gates v6 v8) (gates v6 v8))
    (subf (subf (gates v6 v8) (gates v6 v8)) (subf (gates v6 v8) (gates v6 v8))) r l
  have f0 := e0.trans ((Finset.sum_congr rfl fun k _ => by rw [gates_at ha hb]; split <;> rfl).trans
    (sum_coe Finset.univ fun k => if k ≤ r then lanes (A k) B l else 0))
  have f1 := e1.trans (Finset.sum_eq_zero fun k _ => by split; exacts [hz k, rfl])
  have f2 := e2.trans (Finset.sum_eq_zero fun k _ => by
    split; exacts [(congrArg₂ (fun a b : EReal => a - b) (hz k) (hz k)).trans (sub_zero _), rfl])
  pointwise [k0_pay1, k0_pay5, k0_pay6]
  rw [lines, show (⟨l.val, by omega⟩ : Fin 384) = third 0 l from Fin.ext (by dsimp only; omega), show (⟨128 + l.val, by omega⟩ : Fin 384) = third 1 l from
    Fin.ext (by dsimp only; omega), show (⟨256 + l.val, by omega⟩ : Fin 384) = third 2 l from Fin.ext (by dsimp only; omega), f0, f1, f2, hc, add_zero,
    add_zero, ← EReal.coe_add]

theorem carry_at (l : Fin 128) : k0_pay2 (k0_pay5 v6 v8) (k0_pay6 v6 v8) C (ix2 (0 : Fin 1) l)
    = (((∑ k : Fin 256, if k ≤ (255 : Fin 256) then lanes (A k) B l else 0) + R l : ℝ) : EReal) := by
  pointwise [k0_pay2]
  exact run_at ha hb hc 255 l

end

/-! ### The points' blocks -/

variable (m : (ℓ : Loc nD τ sig) → Buf (Elt Ideal) ℓ)

theorem e0 : ∀ t : Fin cfg0.N, win0_0.index t = ![t.val, 32] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem t_lt (t : Fin cfg0.N) : t.val < 64 := lt_of_lt_of_eq t.isLt N_0

/-- The row of the whole arrays that a point's row is. -/
abbrev row (t : Fin cfg0.N) (r : Fin 256) : Fin 16384 := ⟨t.val * 256 + r.val, by have := t_lt t; omega⟩

/-- A device's arguments. -/
abbrev argX (c : Dev nD) : FVec Ideal S16384x5640 .f32 := m ((c : Thread nD τ).loc main_arg0)
abbrev argB (c : Dev nD) : FVec Ideal S8 .f32 := m ((c : Thread nD τ).loc main_arg1)

/-- The arguments' entries, as real numbers. -/
structure Reals (c : Dev nD) (X : Fin 16384 → Fin 5640 → ℝ) (B : Fin 8 → ℝ) : Prop where
  x : ∀ t l, argX m c (ix2 t l) = (X t l : EReal)
  b : ∀ h, argB m c (ix1 h) = (B h : EReal)

section Host

variable (c : Dev nD)

theorem bias_eq (h : Fin 8) : (V m c main_v8 : Vec Ideal S1x128 .f32) (ix2 (0 : Fin 1) (lane h)) = argB m c (ix1 h) := by
  have e : (V m c main_v8 : Vec Ideal S1x128 .f32) = shapeCast _ (pad S128 ![0] ![120] ![0] (argB m c)
      (sitofp .f32 (constantI S_ 32 0#32)) pads_S8_S128_01200 h_S_) shapeCasts_S128_S1x128 := by
    show StableHlo.after (List.flatten [hostOps0, hostOps0_1, hostOps0_2]) (fun b => m (c, b)) (Proc.devRef .tc main_v8) = _
    simp only [hostOps0, hostOps0_1, hostOps0_2, List.flatten_cons, List.flatten_nil, List.cons_append, List.nil_append, List.append_nil]
    after_results_simp <;> rfl
  rw [e]
  pointwise []

theorem entry_eq : V m c main_v6 = Cert.FgateValue.permuted (argX m c) := by
  show StableHlo.after (List.flatten [hostOps0, hostOps0_1, hostOps0_2]) (fun b => m (c, b)) (Proc.devRef .tc main_v6) = _
  simp only [hostOps0, hostOps0_1, hostOps0_2, List.flatten_cons, List.flatten_nil, List.cons_append, List.nil_append, List.append_nil]
  after_results_simp <;> rfl

end Host

variable {m} {c : Dev nD} {X : Fin 16384 → Fin 5640 → ℝ} {B : Fin 8 → ℝ} (hR : Reals m c X B)

section Points

include hR

theorem x_read (t : Fin cfg0.N) (r : Fin 256) (h : Fin 8) : iblk m c 0 t (ix2 r (lane h)) = (X (row t r) (gate h) : EReal) := by
  refine Eq.trans ?_ ((congrFun (entry_eq m c) (ix2 (row t r) (⟨4096 + h.val, by omega⟩ : Fin 4224))).trans
    ((Cert.FgateValue.permuted_gate _ _ h).trans (hR.x _ _)))
  blk_ext [iblk, e0 t]
theorem b_read (t : Fin cfg0.N) (h : Fin 8) : iblk m c 1 t (ix2 (0 : Fin 1) (lane h)) = (B h : EReal) := by
  rw [← hR.b, ← bias_eq]; blk_ext [iblk, e1 t]

end Points

/-- The whole array's gates on all lanes. -/
def G (X : Fin 16384 → Fin 5640 → ℝ) (B : Fin 8 → ℝ) (l : Fin 128) (t : Fin 16384) : ℝ := lanes (fun h => X t (gate h)) B l

section Carry

include hR

variable {C : Vec Ideal S1x128 .f32} (t : Fin cfg0.N) (hC : ∀ l, C (ix2 (0 : Fin 1) l) = (upto (G X B l) (t.val * 256) : EReal))
include hC

theorem point_at (r : Fin 256) (l : Fin 128) : k0_pay1 (k0_pay5 (iblk m c 0 t) (iblk m c 1 t)) (k0_pay6 (iblk m c 0 t) (iblk m c 1 t)) C (ix2 r l)
    = (upto (G X B l) ((row t r).val + 1) : EReal) :=
  (run_at (x_read hR t) (b_read hR t) hC r l).trans
    (congrArg _ (upto_block (N := 16384) (M := 256) (G X B l) (t.val * 256) (by have := t_lt t; omega) r))

theorem next_at (l : Fin 128) : k0_pay2 (k0_pay5 (iblk m c 0 t) (iblk m c 1 t)) (k0_pay6 (iblk m c 0 t) (iblk m c 1 t)) C (ix2 (0 : Fin 1) l)
    = (upto (G X B l) ((t.val + 1) * 256) : EReal) :=
  (carry_at (x_read hR t) (b_read hR t) hC l).trans
    (congrArg _ ((upto_block (N := 16384) (M := 256) (G X B l) (t.val * 256) (by have := t_lt t; omega) 255).trans
      (congrArg _ (by show t.val * 256 + (255 + 1) = (t.val + 1) * 256; omega))))

omit hC hR in
theorem start_at (h0 : t.val % 64 = 0) (l : Fin 128) : k0_pay3 (F := Ideal) (ix2 (0 : Fin 1) l) = (upto (G X B l) (t.val * 256) : EReal) := by
  have e : t.val * 256 = 0 := by have := t_lt t; omega
  pointwise [k0_pay3]
  rw [e, upto_zero, EReal.coe_zero]

omit hC in
/-- What the kernel carries after each point: the sum of the rows up to the point's block's end. -/
theorem carry (n : ℕ) : ∀ (hn : n < cfg0.N) (l : Fin 128), (outsAt0 m c n hn).2 (ix2 (0 : Fin 1) l) = (upto (G X B l) ((n + 1) * 256) : EReal) := by
  induction n with
  | zero =>
    intro hn l
    rw [outsAt0_A m c ⟨0, hn⟩ rfl]; frame_out
    exact next_at hR ⟨0, hn⟩ (start_at _ rfl) l
  | succ n ih =>
    intro hn l
    have hN : n + 1 < 64 := lt_of_lt_of_eq hn N_0
    rw [outsAt0_B m c ⟨n + 1, hn⟩ (by show ¬(n + 1) % 64 = 0; omega)]; frame_out
    exact next_at hR ⟨n + 1, hn⟩ (fun l => (congrFun (Memref.IsWhole.read_unread _ _) _).trans (ih _ l)) l

omit hC in
/-- What the kernel leaves of the running sum. -/
theorem final (T : FVec Ideal S16384x128 .f32) (hT : ∀ t l, T (ix2 t l) = (upto (G X B l) (t.val + 1) : EReal)) : (dats m 0 c).arrAt 2 cfg0.N = T := by
  refine (dats m 0 c).arrAt_eq_of_covers 2 _ (by decide +kernel) fun t hf y => ?_
  blk_simp
  rw [after0_2]
  idx_vars y
  rw [show ((View.whole main_v9).slice (win0_2.rect t)).emb (ix2 y0 y1) = (ix2 (row t y0) y1 : S16384x128.Idx) by blk_ext [e2 t], hT]
  by_cases h : t.val % 64 = 0
  · rw [outsAt0_A m c t h]; frame_out
    exact point_at hR t (start_at t h) y0 y1
  · rw [outsAt0_B m c t h]; frame_out
    refine point_at hR t (fun l => (congrFun (Memref.IsWhole.read_unread _ _) _).trans ((carry hR _ _ l).trans ?_)) y0 y1
    exact congrArg (fun k => ((upto (G X B l) k : ℝ) : EReal)) (by omega)

end Carry

/-! ### The reference -/

section Ref

open Cert.FsumRefIdeal.Read

variable {x : FVec Ideal S16384x5640 .f32} {b : FVec Ideal S8 .f32} (hx : ∀ t l, x (ix2 t l) = (X t l : EReal)) (hb : ∀ h, b (ix1 h) = (B h : EReal))
include hx hb

omit m c in
theorem ls_at (t : Fin 16384) (h : Fin 8) : val_main_v13 (F := Ideal) x b (ix2 t h) = (G X B (lane h) t : EReal) := by
  have e : val_main_call0_v0 (F := Ideal) x b (ix2 t h) = ((-(X t (gate h) + B h) : ℝ) : EReal) := by
    pointwise [val_main_call0_v0, val_main_v12, val_main_v3, val_main_v11, val_main_v10]
    rw [hx, hb, ← EReal.coe_add, ← EReal.coe_neg]
  pointwise [val_main_v13, val_main_call0_v1, val_main_call0_call0_v4, val_main_call0_call0_v6, val_main_call0_call0_v11, val_main_call0_call0_v1,
    val_main_call0_call0_v10, val_main_call0_call0_v9, val_main_call0_call0_v8, val_main_call0_call0_v7, val_main_call0_call0_v3,
    val_main_call0_call0_v2, val_main_call0_call0_v0, val_main_call0_call0_v5, val_main_call0_call0_cst]
  rw [e]
  rw [if_neg (fun h => h rfl), show FloatOps.absf (F := Ideal) (φ := .f32) ((-(X t (gate h) + B h) : ℝ) : EReal) = ((|-(X t (gate h) + B h)| : ℝ) : EReal)
    from (coe_max _ _).symm, ← EReal.coe_neg, Ideal.exp_coe, Cert.FgateRef.log1p_exp, ← EReal.coe_zero, ← coe_max, ← EReal.coe_add, ← EReal.coe_neg]
  refine congrArg _ ((ls_soft _).trans ?_)
  rw [G, lanes, dif_pos h.isLt]

omit m c in
theorem ref_at (t : Fin 16384) (h : Fin 8) : val_main_v14 (F := Ideal) x b (ix2 t h) = (upto (G X B (lane h)) (t.val + 1) : EReal) := by
  unfold val_main_v14
  refine running (R := 16384) (Rm1 := 16383) (C := 8) rfl _ (fun h => G X B (lane h)) (fun i c => ls_at hx hb i c) _ ?_ _ _ t h
  pointwise [val_main_call1_call0_v0, val_main_call1_call0_cst]

end Ref

/-! ### The claim -/

omit m c in
/-- The first eight lanes. -/
def heads (a : FVec Ideal S16384x128 .f32) : FVec Ideal S16384x8 .f32 := extractStridedSlice S16384x8 ![0, 0] a slices_S16384x128_S16384x8_0_0

variable (m c) in
theorem tail : (Pipeline.afterTail₀ cfgs (dats m) 0 (V0 m) [hostOps1] c main_v10 : FVec Ideal S16384x8 .f32) = heads ((dats m 0 c).arrAt 2 cfg0.N) := by
  show StableHlo.after hostOps1 _ (Proc.devRef .tc main_v10) = _
  after_results_simp
  exact congrArg heads (Pipeline.withArrays_arr spec0 winFacts0.arr_inj c _ _ 2)

/-- The reference's result. -/
abbrev want (x : FVec Ideal S16384x5640 .f32) (b : FVec Ideal S8 .f32) : FVec Ideal S16384x8 .f32 := Cert.FsumRefIdeal.Read.val_main_v14 (F := Ideal) x b

include hR in
theorem result : (Pipeline.afterTail₀ cfgs (dats m) 0 (V0 m) [hostOps1] c main_v10 : FVec Ideal S16384x8 .f32) = want (argX m c) (argB m c) := by
  rw [tail, final hR (fun j => (upto (G X B (j 1)) ((j 0).val + 1) : EReal)) fun t l => rfl]
  funext i
  idx_vars i
  refine Eq.trans ?_ (ref_at hR.x hR.b i0 i1).symm
  pointwise [heads]

/-- The shape facts the precondition states. -/
instance preFacts : Cert.Pre_fsum_finite.Facts := by
  constructor <;> decide

/-- Where the precondition holds, the arguments are real numbers. -/
theorem reals_of_pre [Cert.Pre_fsum_finite.Facts] (hp : Cert.Pre_FsumIdeal_fsum_finite m) (c : Dev nD) : ∃ X B, Reals m c X B := by
  have h := congrFun (hp c) ix0
  obtain ⟨h0, h1⟩ := IntOp.andi_eq_one.1 h
  choose X hX using fun t l => of_abs_lt (Host.reduce_andi_all _ _ _ _ _ h0 (ix2 t l))
  choose B hB using fun h => of_abs_lt (Host.reduce_andi_all _ _ _ _ _ h1 (ix1 h))
  exact ⟨X, B, hX, hB⟩

omit m c in
/-- The two programs' results are equal where the arguments are real numbers. -/
theorem value [Cert.Pre_fsum_finite.Facts] : Cert.algebraic_FsumIdeal_FsumRefIdeal_pre_fsum_finite := by
  intro m g m' g' hp hm
  refine ⟨fun c => want (argX m c) (argB m c), ?_, ?_⟩
  · refine θ_run_mono (θ_run_and (frame (F := Ideal) m g) (run_main (F := Ideal) m g)) fun r h c => ?_
    obtain ⟨X, B, hR⟩ := reals_of_pre hp c
    obtain ⟨ha0, ha1⟩ := h.1.1 c
    exact ⟨(h.2.rest_eq c main_v10 (by decide)).trans (result hR), ha0, ha1⟩
  · refine θ_run_mono (Cert.FsumRefIdeal.Value.run (F := Ideal) m' g') fun r h c => ⟨(h c).1.trans ?_, (h c).2⟩
    obtain ⟨a0, a1⟩ := hm c
    rw [Cert.FsumRefIdeal.Read.val_main_v14_eq, a0, a1]

omit m c in
/-- The reference runs to its end and leaves its arguments and every counter as they were. -/
theorem frame_ref : Cert.quiescent_FsumRefIdeal := fun m g _ =>
  θ_run_mono (Cert.FsumRefIdeal.Value.run (F := Ideal) m g) fun r h =>
    ⟨fun c => (h c).2, sem_eq_zero_of_no_sems (by decide) r.2⟩

end Cert.FsumValue
-- ==== Proof.Held.lean ====
/- Loads and stores of a kernel's body over memrefs held whole at known contents.

   `owns c M q x` holds the memref `M` at the array `x`. A load through a rectangle reads `x` at the rectangle's own
   places; a store through a rectangle of an array replaces `x` on that rectangle. So the contents after a body are a
   pure term in the contents before it, whatever the offsets are. -/
module

public import Idealize.ShloMosaic.Lib.Memref
public import Idealize.ShloMosaic.Lib.Exec
public import Idealize.ShloMosaic.Lib.Tactic

@[expose] public section

noncomputable section

namespace Cert.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels} {defs : Defs nD τ sig Val Λ}
variable (𝒱 : Variants) (c : Thread nD τ) (bd : Option 𝒱.V) (E : Set Name)
variable {s : Shape} {e : EltTy} {α : Type} {Q : α → sProp (MT nD τ sig Ix Val Name U Lvl)}

/-- What a load through the rectangle reads of an array. -/
def get {A : Type} (r : Rect s) (x : s.Idx → A) : r.shape.Idx → A := fun z => x (r.emb z)

/-- The whole array read through its own rectangle is the array. -/
theorem get_all {A : Type} {off : Fin s.rank → ℕ} (h : ∀ a, off a = 0) (inb : ∀ a, off a + s.size a ≤ s.size a)
    (x : s.Idx → A) : get (Rect.unit off s.size inb) x = x := by
  obtain rfl : off = fun _ => 0 := funext h
  funext z; show x ((Rect.whole s).emb z) = x z; rw [Rect.emb_whole_apply]

/-- An array replaced on its own rectangle is the replacement. -/
theorem overlay_all {A : Type} {off : Fin s.rank → ℕ} (h : ∀ a, off a = 0) (inb : ∀ a, off a + s.size a ≤ s.size a)
    (x : s.Idx → A) (w : s.Idx → A) : (Rect.unit off s.size inb).overlay x w = w := by
  obtain rfl : off = fun _ => 0 := funext h
  funext z
  have hz : (Rect.whole s).emb z = z := by rw [Rect.emb_whole_apply]
  have := Rect.overlay_emb (Rect.whole s) x w z
  rw [hz] at this; exact this

/-- A load through a rectangle of a memref held at `x` continues at `x` read there, the memref still held at `x`. -/
theorem load_op {cs : CoreSpace} {M : Memref sig c.2.kind cs s e} {r : Rect s} {hl : M.view.LoadsAt r.toLoadRect}
    {k : (r.shape.Idx → Val e) → Prog (TpuEff nD τ sig Val Λ c.2) α} {q : PosShare TreeShare} {x : s.Idx → Val e} :
    owns c M q x ⊢ iprop((owns c M q x -∗ wp frame (wpE defs 𝒱 c bd) E (k (get r x)) Q)
      -∗ wp frame (wpE defs 𝒱 c bd) E (.op (.load M r.toLoadRect hl) k) Q) := by
  unfold owns
  iintro ⟨%f, %hf, H⟩ Hk
  subst hf
  iapply (wp_load 𝒱 c bd E (m := M) (r := r.toLoadRect) (View.setOn_subset_set _ _)) $$ H
  iintro H
  iapply Hk
  iexists f
  isplitr
  · ipureintro; rfl
  iexact H

/-- A store through a rectangle of a memref held at `x` leaves it held at `x` with the rectangle's part replaced. -/
theorem store_op {cs : CoreSpace} {M : Memref sig c.2.kind cs s e} {r : Rect s} {w : r.shape.Idx → Val e}
    {hx : (M.access r).Stores Finset.univ} {hm : Finset.univ = Finset.univ ∨ ∀ a, r.stride a = 1}
    {k : PUnit → Prog (TpuEff nD τ sig Val Λ c.2) α} {x : s.Idx → Val e} :
    owns c M fullShare x ⊢ iprop((owns c M fullShare (r.overlay x w) -∗ wp frame (wpE defs 𝒱 c bd) E (k ⟨⟩) Q)
      -∗ wp frame (wpE defs 𝒱 c bd) E (.op (.store M r w Finset.univ hx hm) k) Q) := by
  unfold owns
  iintro ⟨%f, %hf, H⟩ Hk
  subst hf
  iapply (wp_store 𝒱 c bd E (m := M) (r := r) (w := w) (hx := hx) (hm := hm) (k := k) (Mk := Finset.univ) (f := f)
    (Memref.setOn_access_subset _ _ _)) $$ H
  iintro H
  iapply Hk
  iexists _
  isplitr
  rotate_left
  · iexact H
  ipureintro
  funext y
  have hs : (M.access r).write Val f w Finset.univ = M.view.writes Val f [⟨r, w⟩] := rfl
  rw [hs]
  by_cases hy : y ∈ r.set
  · obtain ⟨z, rfl⟩ : ∃ z, r.emb z = y := by
      rw [← Rect.map_emb_univ] at hy; simpa using hy
    rw [View.read_writes_cons_emb, Rect.overlay_emb]
  · rw [Rect.overlay_of_not_mem _ _ _ hy, View.read_writes_apply_of_forall_not_mem _ _ y _ (by simpa using hy)]

/-- The same load followed by the rest of the body. -/
theorem load_bind {cs : CoreSpace} {M : Memref sig c.2.kind cs s e} {r : Rect s} {hl : M.view.LoadsAt r.toLoadRect}
    {k : (r.shape.Idx → Val e) → Prog (TpuEff nD τ sig Val Λ c.2) α} {q : PosShare TreeShare} {x : s.Idx → Val e} :
    owns c M q x ⊢ iprop((owns c M q x -∗ wp frame (wpE defs 𝒱 c bd) E (k (get r x)) Q)
      -∗ wp frame (wpE defs 𝒱 c bd) E (Prog.lift (.load M r.toLoadRect hl) >>= k) Q) :=
  load_op 𝒱 c bd E

/-- The same store followed by the rest of the body. -/
theorem store_bind {cs : CoreSpace} {M : Memref sig c.2.kind cs s e} {r : Rect s} {w : r.shape.Idx → Val e}
    {hx : (M.access r).Stores Finset.univ} {hm : Finset.univ = Finset.univ ∨ ∀ a, r.stride a = 1}
    {k : PUnit → Prog (TpuEff nD τ sig Val Λ c.2) α} {x : s.Idx → Val e} :
    owns c M fullShare x ⊢ iprop((owns c M fullShare (r.overlay x w) -∗ wp frame (wpE defs 𝒱 c bd) E (k ⟨⟩) Q)
      -∗ wp frame (wpE defs 𝒱 c bd) E (Prog.lift (.store M r w Finset.univ hx hm) >>= k) Q) :=
  store_op 𝒱 c bd E

end Cert.Held

end
-- ==== Proof.FoxStep.lean ====
/- One block of keys of the attention's gradient: what its steps over the blocks of queries leave in the five arrays
   they change, as pure functions of what those arrays held before.

   A point holds the keys, values and gates of 1024 positions for a pair of heads. It meets 512 queries at a time: two
   steps on the diagonal, where some keys lie after the query, then the queries after the block, one step each. Every
   step adds to the pair's gradients of the keys, the values and the keys' gates, to the queries' gates' gradient of its
   512 queries and to the queries' gradient. -/
module

public import proofs.«01_k».proof.Defs
public import proofs.«01_k».proof.Proof.Gen.DfoxIdeal.Frame
public import proofs.«01_k».proof.Proof.Gen.DfoxIdeal.Skeleton
public import proofs.«01_k».proof.Proof.Held

@[expose] public section

set_option maxRecDepth 65536

noncomputable section

namespace Cert.Fox

open Cert.DfoxIdeal Cert.DfoxIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held

variable {F : FTy → Type} [FloatOps F]

local notation "𝕄" => MT nD τ sig Unit (Elt F) ℕ (UR sig nD τ) ℕ

/-- The five arrays the steps change: the gradients of the queries, of the queries' gates, and the block's own of the
    keys, the values and the keys' gates. -/
structure St (F : FTy → Type) where
  dq : Vec F S16384x128 .f32
  dfq : Vec F S2x32x1x512 .f32
  dk : Vec F S2x1024x128 .f32
  dv : Vec F S2x1024x128 .f32
  df : Vec F S2x1024x128 .f32

/-- The four arrays the steps read: queries, output gradient, log-sums and row products. -/
structure Rows (F : FTy → Type) where
  q : Vec F S16384x128 .bf16
  g : Vec F S16384x128 .bf16
  l : Vec F S2x32x1x512 .f32
  d : Vec F S2x32x1x512 .f32

/-- What a point keeps of its own block: each head's keys twice (for the logits and for the queries' gradient), its
    values and its gates. -/
structure Own (F : FTy → Type) where
  k0 : FVec F S1024x128 .bf16
  k1 : FVec F S1024x128 .bf16
  kq0 : FVec F S1024x128 .bf16
  kq1 : FVec F S1024x128 .bf16
  v0 : FVec F S1024x128 .bf16
  v1 : FVec F S1024x128 .bf16
  f0 : FVec F S1024x1 .f32
  f1 : FVec F S1024x1 .f32

/-- How one step changes the parts it meets: per head the block's gradients of values, keys and gates and the row of
    the queries' gates, and the queries' rows. -/
structure Change (F : FTy → Type) where
  dv0 : Vec F S1x1024x128 .f32 → FVec F S1x1024x128 .f32
  dk0 : Vec F S1x1024x128 .f32 → FVec F S1x1024x128 .f32
  df0 : Vec F S1x1024x128 .f32 → FVec F S1x1024x128 .f32
  fq0 : Vec F S1x1x1x512 .f32 → FVec F S1x1x1x512 .f32
  dv1 : Vec F S1x1024x128 .f32 → FVec F S1x1024x128 .f32
  dk1 : Vec F S1x1024x128 .f32 → FVec F S1x1024x128 .f32
  df1 : Vec F S1x1024x128 .f32 → FVec F S1x1024x128 .f32
  fq1 : Vec F S1x1x1x512 .f32 → FVec F S1x1x1x512 .f32
  dq : Vec F S512x128 .f32 → FVec F S512x128 .f32

/-- The first and the second head's part of a pair's block. -/
abbrev R0 : Rect S2x1024x128 := Rect.unit (s := S2x1024x128) ![0, 0, 0] S1x1024x128.size inb_S2x1024x128_S1x1024x128_0_0_0
abbrev R1 : Rect S2x1024x128 := Rect.unit (s := S2x1024x128) ![1, 0, 0] S1x1024x128.size inb_S2x1024x128_S1x1024x128_1_0_0
/-- 512 queries' rows, and one head's row of 512 queries, from the offsets on. -/
abbrev RQ (o : Fin 2 → ℕ) (h : ∀ a, o a + S512x128.size a ≤ S16384x128.size a) : Rect S16384x128 := Rect.unit (s := S16384x128) o S512x128.size h
abbrev RL (o : Fin 4 → ℕ) (h : ∀ a, o a + S1x1x1x512.size a ≤ S2x32x1x512.size a) : Rect S2x32x1x512 := Rect.unit (s := S2x32x1x512) o S1x1x1x512.size h

/-- A pair's block with both heads' parts changed, the first head's first. -/
def both (x : Vec F S2x1024x128 .f32) (w0 w1 : Vec F S1x1024x128 .f32 → FVec F S1x1024x128 .f32) : Vec F S2x1024x128 .f32 :=
  R1.overlay (R0.overlay x (w0 (get R0 x))) (w1 (get R1 (R0.overlay x (w0 (get R0 x)))))

/-- The arrays after one step: the parts at the step's offsets changed. -/
def step (oq : Fin 2 → ℕ) (hq : ∀ a, oq a + S512x128.size a ≤ S16384x128.size a)
    (o0 : Fin 4 → ℕ) (h0 : ∀ a, o0 a + S1x1x1x512.size a ≤ S2x32x1x512.size a)
    (o1 : Fin 4 → ℕ) (h1 : ∀ a, o1 a + S1x1x1x512.size a ≤ S2x32x1x512.size a) (x : Change F) (s : St F) : St F where
  dq := (RQ oq hq).overlay s.dq (x.dq (get (RQ oq hq) s.dq))
  dfq := (RL o1 h1).overlay ((RL o0 h0).overlay s.dfq (x.fq0 (get (RL o0 h0) s.dfq)))
    (x.fq1 (get (RL o1 h1) ((RL o0 h0).overlay s.dfq (x.fq0 (get (RL o0 h0) s.dfq)))))
  dk := both s.dk x.dk0 x.dk1
  dv := both s.dv x.dv0 x.dv1
  df := both s.df x.df0 x.df1

/-- The change of a step after the diagonal, from the step's queries, output gradients, log-sums and row products. -/
def after (o : Own F) (q g : Vec F S512x128 .bf16) (l0 d0 l1 d1 : Vec F S1x1x1x512 .f32) : Change F where
  dv0 := k0_pay7 o.k0 o.f0 q g l0
  dk0 := k0_pay8 (k0_pay2 q) (k0_pay6 o.k0 o.v0 o.f0 q g l0 d0)
  df0 := k0_pay9 (k0_pay5 o.k0 o.v0 o.f0 q g l0 d0)
  fq0 := k0_pay10 (k0_pay5 o.k0 o.v0 o.f0 q g l0 d0)
  dv1 := k0_pay16 (k0_pay3 g) (k0_pay12 o.k1 o.f1 (k0_pay2 q) l1)
  dk1 := k0_pay17 o.v1 (k0_pay2 q) (k0_pay3 g) (k0_pay12 o.k1 o.f1 (k0_pay2 q) l1) d1
  df1 := k0_pay18 o.v1 (k0_pay3 g) (k0_pay12 o.k1 o.f1 (k0_pay2 q) l1) d1
  fq1 := k0_pay95 (k0_pay14 o.v1 (k0_pay3 g) (k0_pay12 o.k1 o.f1 (k0_pay2 q) l1) d1)
  dq := k0_pay96 o.kq1 (k0_pay11 o.kq0 (k0_pay6 o.k0 o.v0 o.f0 q g l0 d0))
    (k0_pay15 o.v1 (k0_pay3 g) (k0_pay12 o.k1 o.f1 (k0_pay2 q) l1) d1)

/-- The point's place along the keys, and the number of its first block of queries. -/
abbrev blk (i : grid0.Coords) : BitVec 32 := BitVec.ofNat 32 (i 1).val
abbrev row (i : grid0.Coords) : BitVec 32 := Scalar.shrui (Scalar.muli (blk i) 1024#32) 9#32

/-- The change of the first diagonal step. -/
def diag0 (i : grid0.Coords) (o : Own F) (q g : Vec F S512x128 .bf16) (l0 d0 l1 d1 : Vec F S1x1x1x512 .f32) : Change F :=
  let n : BitVec 32 := Scalar.addi (row i) 0#32
  let s0 := k0_pay57 (blk i) o.k0 o.v0 o.f0 n (k0_pay53 q) g l0 d0
  let b0 := k0_pay58 (blk i) o.k0 o.v0 o.f0 n (k0_pay53 q) g l0 d0
  let p1 := k0_pay64 o.k1 o.f1 (k0_pay54 (k0_pay53 q))
  let s1 := k0_pay66 (blk i) o.v1 n (k0_pay55 g) p1 l1 d1
  let b1 := k0_pay67 (blk i) o.v1 n (k0_pay55 g) p1 l1 d1
  { dv0 := k0_pay59 (blk i) o.k0 o.f0 n (k0_pay53 q) g l0
    dk0 := k0_pay60 (k0_pay54 (k0_pay53 q)) b0
    df0 := k0_pay61 s0
    fq0 := k0_pay62 s0
    dv1 := k0_pay68 (blk i) n (k0_pay55 g) p1 l1
    dk1 := fun r => k0_pay70 (k0_pay69 (blk i) o.v1 n (k0_pay54 (k0_pay53 q)) (k0_pay55 g) p1 l1 d1 r)
    df1 := k0_pay71 s1
    fq1 := k0_pay72 s1
    dq := k0_pay73 o.kq1 (k0_pay63 o.kq0 b0) b1 }

/-- The change of the second diagonal step. -/
def diag1 (i : grid0.Coords) (o : Own F) (q g : Vec F S512x128 .bf16) (l0 d0 l1 d1 : Vec F S1x1x1x512 .f32) : Change F :=
  let n : BitVec 32 := Scalar.addi (row i) 1#32
  let q2 := k0_pay76 (k0_pay74 q) k0_pay75
  let s0 := k0_pay79 (blk i) o.k0 o.v0 o.f0 n (k0_pay74 q) k0_pay75 g l0 d0
  let b0 := k0_pay80 (blk i) o.k0 o.v0 o.f0 n (k0_pay74 q) k0_pay75 g l0 d0
  let p1 := k0_pay86 o.k1 o.f1 q2
  let s1 := k0_pay88 (blk i) o.v1 n (k0_pay77 g) p1 l1 d1
  let b1 := k0_pay89 (blk i) o.v1 n (k0_pay77 g) p1 l1 d1
  { dv0 := k0_pay81 (blk i) o.k0 o.f0 n (k0_pay74 q) k0_pay75 g l0
    dk0 := k0_pay82 q2 b0
    df0 := k0_pay83 s0
    fq0 := k0_pay84 s0
    dv1 := k0_pay90 (blk i) n (k0_pay77 g) p1 l1
    dk1 := k0_pay91 (blk i) o.v1 n q2 (k0_pay77 g) p1 l1 d1
    df1 := k0_pay92 s1
    fq1 := k0_pay93 s1
    dq := k0_pay94 o.kq1 (k0_pay85 o.kq0 b0) b1 }

/-- The arrays after one step after the diagonal. -/
def stepAfter (i : grid0.Coords) (o : Own F) (x : Rows F) (t : Fin (k0_t1_loop i).trips) (s : St F) : St F :=
  step (k0_off4 i t) (k0_off4_inb i t) (k0_off5 i t) (k0_off5_inb i t) (k0_off6 i t) (k0_off6_inb i t)
    (after o (get (RQ (k0_off4 i t) (k0_off4_inb i t)) x.q) (get (RQ (k0_off4 i t) (k0_off4_inb i t)) x.g)
      (get (RL (k0_off5 i t) (k0_off5_inb i t)) x.l) (get (RL (k0_off5 i t) (k0_off5_inb i t)) x.d)
      (get (RL (k0_off6 i t) (k0_off6_inb i t)) x.l) (get (RL (k0_off6 i t) (k0_off6_inb i t)) x.d)) s

/-- The arrays after the two diagonal steps. -/
def stepDiag0 (i : grid0.Coords) (o : Own F) (x : Rows F) (s : St F) : St F :=
  step (k0_off1 i 0#32) (k0_off1_inb i 0) (k0_off2 i 0#32) (k0_off2_inb i 0) (k0_off3 i 0#32) (k0_off3_inb i 0)
    (diag0 i o (get (RQ (k0_off1 i 0#32) (k0_off1_inb i 0)) x.q) (get (RQ (k0_off1 i 0#32) (k0_off1_inb i 0)) x.g)
      (get (RL (k0_off2 i 0#32) (k0_off2_inb i 0)) x.l) (get (RL (k0_off2 i 0#32) (k0_off2_inb i 0)) x.d)
      (get (RL (k0_off3 i 0#32) (k0_off3_inb i 0)) x.l) (get (RL (k0_off3 i 0#32) (k0_off3_inb i 0)) x.d)) s

def stepDiag1 (i : grid0.Coords) (o : Own F) (x : Rows F) (s : St F) : St F :=
  step (k0_off1 i 1#32) (k0_off1_inb i 1) (k0_off2 i 1#32) (k0_off2_inb i 1) (k0_off3 i 1#32) (k0_off3_inb i 1)
    (diag1 i o (get (RQ (k0_off1 i 1#32) (k0_off1_inb i 1)) x.q) (get (RQ (k0_off1 i 1#32) (k0_off1_inb i 1)) x.g)
      (get (RL (k0_off2 i 1#32) (k0_off2_inb i 1)) x.l) (get (RL (k0_off2 i 1#32) (k0_off2_inb i 1)) x.d)
      (get (RL (k0_off3 i 1#32) (k0_off3_inb i 1)) x.l) (get (RL (k0_off3 i 1#32) (k0_off3_inb i 1)) x.d)) s

/-- The arrays after the first `n` steps after the diagonal. -/
def trips (i : grid0.Coords) (o : Own F) (x : Rows F) (s : St F) : ℕ → St F
  | 0 => s
  | n + 1 => if h : n < (k0_t1_loop i).trips then stepAfter i o x ⟨n, h⟩ (trips i o x s n) else trips i o x s n

theorem trips_succ (i : grid0.Coords) (o : Own F) (x : Rows F) (s : St F) (t : Fin (k0_t1_loop i).trips) :
    trips i o x s (t.val + 1) = stepAfter i o x t (trips i o x s t.val) := dif_pos t.isLt

/-- Whether the point is the first of its pair of heads: it clears what the whole pair gathers. -/
abbrev isFirst (i : grid0.Coords) : Prop := Scalar.cmpi .ne ((Scalar.extui (Scalar.cmpi .eq (blk i) 0#32) : BitVec 32)) 0#32 = 1#1

/-- The arrays a point starts from. -/
def start (i : grid0.Coords) (dq : Vec F S16384x128 .f32) (dfq : Vec F S2x32x1x512 .f32) : St F where
  dq := if isFirst i then k0_pay51 else dq
  dfq := if isFirst i then k0_pay52 else dfq
  dk := k0_pay48
  dv := k0_pay49
  df := k0_pay50

/-- What a point keeps of its block, from the keys, the values and the padded gates. -/
def own (i : grid0.Coords) (k v : Vec F S1024x128 .bf16) (f : Vec F S1024x128 .f32) : Own F where
  k0 := k0_pay38 k
  k1 := k0_pay39 k
  kq0 := k0_pay41 k
  kq1 := k0_pay42 k
  v0 := k0_pay44 v
  v1 := k0_pay45 v
  f0 := k0_pay46 i f
  f1 := k0_pay47 (iota .tc S1024x128 32 [1] iota_S1024x128_d1_w32) (Scalar.muli 2#32 (BitVec.ofNat 32 (i 0).val)) f

/-- The arrays after a point's steps. -/
def fin (i : grid0.Coords) (o : Own F) (x : Rows F) (s : St F) : St F :=
  trips i o x (stepDiag1 i o x (stepDiag0 i o x s)) (k0_t1_loop i).trips

/-- A point's results of its own block, the pair's two heads joined. -/
def outK (s : St F) : FVec F S1024x128 .bf16 := k0_pay99 k0_pay36 (get R0 s.dk) (get R1 s.dk)
def outV (s : St F) : FVec F S1024x128 .bf16 := k0_pay100 k0_pay36 (get R0 s.dv) (get R1 s.dv)
def outF (s : St F) : FVec F S1x1024x128 .f32 :=
  k0_pay1 (k0_pay101 (get R0 s.df)) k0_pay102 k0_pay103 (Scalar.ofBits .f32 0x00000000#32) (k0_pay104 (get R1 s.df))

end Cert.Fox

end
-- ==== Proof.FoxBody.lean ====
/- The body of the attention's gradient as triples: holding every array it touches whole, a point leaves the arrays of
   its block's steps (`fin`) and its block's own results (`outK`, `outV`, `outF`). -/
module

public import proofs.«01_k».proof.Defs
public import proofs.«01_k».proof.Proof.Gen.DfoxIdeal.Frame
public import proofs.«01_k».proof.Proof.Gen.DfoxIdeal.Skeleton
public import proofs.«01_k».proof.Proof.Held
public import proofs.«01_k».proof.Proof.FoxStep

@[expose] public section

set_option maxRecDepth 65536

noncomputable section

namespace Cert.Fox

open Cert.DfoxIdeal Cert.DfoxIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held

variable {F : FTy → Type} [FloatOps F]

local notation "𝕄" => MT nD τ sig Unit (Elt F) ℕ (UR sig nD τ) ℕ

/-- A load and a store of the body over an array held whole, at the body's own handlers. -/
theorem ld {c : Dev nD} {s : Shape} {e : EltTy} {α : Type} {Q : α → sProp 𝕄} {M : Memref sig .tc .vmem s e} {r : Rect s}
    {hl : M.view.LoadsAt r.toLoadRect} {k : (r.shape.Idx → Elt F e) → Prog (TpuEff nD τ sig (Elt F) Λ₀ .tc) α} {x : s.Idx → Elt F e} :
    owns (c : Thread nD τ) M fullShare x ⊢ iprop((owns (c : Thread nD τ) M fullShare x -∗ wp frame (wpE (defs₀ (F := F)) Variants.none (c : Thread nD τ) none) Set.univ (k (get r x)) Q)
      -∗ wp frame (wpE (defs₀ (F := F)) Variants.none (c : Thread nD τ) none) Set.univ (Prog.lift (.load M r.toLoadRect hl) >>= k) Q) :=
  load_bind Variants.none (c : Thread nD τ) none Set.univ

theorem st {c : Dev nD} {s : Shape} {e : EltTy} {α : Type} {Q : α → sProp 𝕄} {M : Memref sig .tc .vmem s e} {r : Rect s}
    {w : r.shape.Idx → Elt F e} {hx : (M.access r).Stores Finset.univ} {hm : Finset.univ = Finset.univ ∨ ∀ a, r.stride a = 1}
    {k : PUnit → Prog (TpuEff nD τ sig (Elt F) Λ₀ .tc) α} {x : s.Idx → Elt F e} :
    owns (c : Thread nD τ) M fullShare x ⊢ iprop((owns (c : Thread nD τ) M fullShare (r.overlay x w) -∗ wp frame (wpE (defs₀ (F := F)) Variants.none (c : Thread nD τ) none) Set.univ (k ⟨⟩) Q)
      -∗ wp frame (wpE (defs₀ (F := F)) Variants.none (c : Thread nD τ) none) Set.univ (Prog.lift (.store M r w Finset.univ hx hm) >>= k) Q) :=
  store_bind Variants.none (c : Thread nD τ) none Set.univ

/-- A load of a whole array, and a store over one. -/
theorem ld_all {c : Dev nD} {s : Shape} {e : EltTy} {α : Type} {Q : α → sProp 𝕄} {M : Memref sig .tc .vmem s e} {off : Fin s.rank → ℕ}
    {inb : ∀ a, off a + s.size a ≤ s.size a} (h : ∀ a, off a = 0) {hl : M.view.LoadsAt (Rect.unit off s.size inb).toLoadRect}
    {k : (s.Idx → Elt F e) → Prog (TpuEff nD τ sig (Elt F) Λ₀ .tc) α} {x : s.Idx → Elt F e} :
    owns (c : Thread nD τ) M fullShare x ⊢ iprop((owns (c : Thread nD τ) M fullShare x -∗ wp frame (wpE (defs₀ (F := F)) Variants.none (c : Thread nD τ) none) Set.univ (k x) Q)
      -∗ wp frame (wpE (defs₀ (F := F)) Variants.none (c : Thread nD τ) none) Set.univ (Prog.lift (.load M (Rect.unit off s.size inb).toLoadRect hl) >>= k) Q) := by
  have := ld (F := F) (c := c) (Q := Q) (M := M) (r := Rect.unit off s.size inb) (hl := hl) (k := k) (x := x)
  rwa [get_all h inb x] at this

theorem st_all {c : Dev nD} {s : Shape} {e : EltTy} {α : Type} {Q : α → sProp 𝕄} {M : Memref sig .tc .vmem s e} {off : Fin s.rank → ℕ}
    {inb : ∀ a, off a + s.size a ≤ s.size a} (h : ∀ a, off a = 0) {w : s.Idx → Elt F e}
    {hx : (M.access (Rect.unit off s.size inb)).Stores Finset.univ} {hm : Finset.univ = Finset.univ ∨ ∀ a, (Rect.unit off s.size inb).stride a = 1}
    {k : PUnit → Prog (TpuEff nD τ sig (Elt F) Λ₀ .tc) α} {x : s.Idx → Elt F e} :
    owns (c : Thread nD τ) M fullShare x ⊢ iprop((owns (c : Thread nD τ) M fullShare w -∗ wp frame (wpE (defs₀ (F := F)) Variants.none (c : Thread nD τ) none) Set.univ (k ⟨⟩) Q)
      -∗ wp frame (wpE (defs₀ (F := F)) Variants.none (c : Thread nD τ) none) Set.univ (Prog.lift (.store M (Rect.unit off s.size inb) w Finset.univ hx hm) >>= k) Q) := by
  have := st (F := F) (c := c) (Q := Q) (M := M) (r := Rect.unit off s.size inb) (w := w) (hx := hx) (hm := hm) (k := k) (x := x)
  rwa [overlay_all h inb x w] at this

theorem hz2 : ∀ a, (![0, 0] : Fin 2 → ℕ) a = 0 := by decide
theorem hz3 : ∀ a, (![0, 0, 0] : Fin 3 → ℕ) a = 0 := by decide
theorem hz4 : ∀ a, (![0, 0, 0, 0] : Fin 4 → ℕ) a = 0 := by decide

variable (c : Dev nD) (i : grid0.Coords)
  (arg2 : Memref sig .tc .vmem S16384x128 .bf16) (harg2 : arg2.IsWhole)
  (arg3 : Memref sig .tc .vmem S1024x128 .bf16) (harg3 : arg3.IsWhole)
  (arg4 : Memref sig .tc .vmem S1024x128 .bf16) (harg4 : arg4.IsWhole)
  (arg5 : Memref sig .tc .vmem S16384x128 .bf16) (harg5 : arg5.IsWhole)
  (arg6 : Memref sig .tc .vmem S2x32x1x512 .f32) (harg6 : arg6.IsWhole)
  (arg7 : Memref sig .tc .vmem S2x32x1x512 .f32) (harg7 : arg7.IsWhole)
  (arg8 : Memref sig .tc .vmem S1024x128 .f32) (harg8 : arg8.IsWhole)
  (arg9 : Memref sig .tc .vmem S16384x128 .f32) (harg9 : arg9.IsWhole)
  (arg10 : Memref sig .tc .vmem S1024x128 .bf16) (harg10 : arg10.IsWhole)
  (arg11 : Memref sig .tc .vmem S1024x128 .bf16) (harg11 : arg11.IsWhole)
  (arg12 : Memref sig .tc .vmem S1x1024x128 .f32) (harg12 : arg12.IsWhole)
  (arg13 : Memref sig .tc .vmem S2x32x1x512 .f32) (harg13 : arg13.IsWhole)
  (arg14 : Memref sig .tc .vmem S2x1024x128 .f32) (harg14 : arg14.IsWhole)
  (arg15 : Memref sig .tc .vmem S2x1024x128 .f32) (harg15 : arg15.IsWhole)
  (arg16 : Memref sig .tc .vmem S2x1024x128 .f32) (harg16 : arg16.IsWhole)

/-- The arrays the steps read and change, held. -/
def held (x : Rows F) (s : St F) : sProp 𝕄 :=
  iprop(owns (c : Thread nD τ) arg2 fullShare x.q ∗ owns (c : Thread nD τ) arg5 fullShare x.g ∗ owns (c : Thread nD τ) arg6 fullShare x.l ∗ owns (c : Thread nD τ) arg7 fullShare x.d ∗ owns (c : Thread nD τ) arg9 fullShare s.dq ∗ owns (c : Thread nD τ) arg13 fullShare s.dfq ∗ owns (c : Thread nD τ) arg14 fullShare s.dk ∗ owns (c : Thread nD τ) arg15 fullShare s.dv ∗ owns (c : Thread nD τ) arg16 fullShare s.df)

/-- One step after the diagonal. -/
theorem trip_triple (o : Own F) (x : Rows F) (v64 v207 v209 : BitVec 32) (v279 : FVec F S512x128 .f32) (v305 : FVec F S1024x512 .f32)
    (v306 : FVec F S1024x512 .bf16) (v349 : BitVec 32) (t : Fin (k0_t1_loop i).trips) (s : St F) :
    held c arg2 arg5 arg6 arg7 arg9 arg13 arg14 arg15 arg16 x s
      ⊢ wp frame (wpE (defs₀ (F := F)) Variants.none (c : Thread nD τ) none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 o.k0 o.k1 o.kq0 o.kq1 o.v0 o.v1 o.f0 o.f1 v64 v207 v209 v279 v305 v306 v349 t ())
        (fun _ => held c arg2 arg5 arg6 arg7 arg9 arg13 arg14 arg15 arg16 x (stepAfter i o x t s)) := by
  unfold k0_t1_body held
  simp only [stepAfter, step, both, after]
  simp only [k0_part1_eq_skeleton, k0_part1_skel, k0_part2_eq_skeleton, k0_part2_skel, k0_part3_eq_skeleton, k0_part3_skel, bind_assoc, pure_bind]
  iintro ⟨H2, H5, H6, H7, H9, H13, H14, H15, H16⟩
  iapply ld $$ H2; iintro H2
  iapply ld $$ H5; iintro H5
  iapply ld $$ H6; iintro H6
  iapply ld $$ H7; iintro H7
  iapply ld $$ H15; iintro H15
  iapply ld $$ H15; iintro H15
  iapply st $$ H15; iintro H15
  iapply ld $$ H14; iintro H14
  iapply ld $$ H14; iintro H14
  iapply st $$ H14; iintro H14
  iapply ld $$ H16; iintro H16
  iapply ld $$ H16; iintro H16
  iapply st $$ H16; iintro H16
  iapply ld $$ H13; iintro H13
  iapply ld $$ H13; iintro H13
  iapply st $$ H13; iintro H13
  iapply ld $$ H6; iintro H6
  iapply ld $$ H7; iintro H7
  iapply ld $$ H15; iintro H15
  iapply ld $$ H15; iintro H15
  iapply st $$ H15; iintro H15
  iapply ld $$ H14; iintro H14
  iapply ld $$ H14; iintro H14
  iapply st $$ H14; iintro H14
  iapply ld $$ H16; iintro H16
  iapply ld $$ H16; iintro H16
  iapply st $$ H16; iintro H16
  iapply ld $$ H13; iintro H13
  iapply ld $$ H13; iintro H13
  iapply st $$ H13; iintro H13
  iapply ld $$ H9; iintro H9
  iapply ld $$ H9; iintro H9
  iapply st $$ H9; iintro H9
  rw [show (Pure.pure PUnit.unit : Prog (TpuEff nD τ sig (Elt F) Λ₀ .tc) Unit) = .ret () from rfl, wp_ret]; imodintro
  isplitl [H2]; · iexact H2
  isplitl [H5]; · iexact H5
  isplitl [H6]; · iexact H6
  isplitl [H7]; · iexact H7
  isplitl [H9]; · iexact H9
  isplitl [H13]; · iexact H13
  isplitl [H14]; · iexact H14
  isplitl [H15]; · iexact H15
  iexact H16

/-- The opening of the body, from where the block's keys, values and first gates are read: it clears the block's arrays,
    at the pair's first point also what the whole pair gathers, and reads the first queries. -/
theorem open_triple (v27 : IVec S1024x128 32) (v38 : BitVec 32) (q : Vec F S16384x128 .bf16) (f : Vec F S1024x128 .f32)
    (dq : Vec F S16384x128 .f32) (dfq : Vec F S2x32x1x512 .f32) (dk dv df : Vec F S2x1024x128 .f32) {α : Type} {Q : α → sProp 𝕄}
    {k : (Σ' (v47 : FVec F S1024x1 .f32) (v64 : BitVec 32) (v65 : BitVec 32) (v67 : BitVec 32), FVec F S512x128 .bf16) → Prog (TpuEff nD τ sig (Elt F) Λ₀ .tc) α} :
    iprop(owns (c : Thread nD τ) arg2 fullShare q ∗ owns (c : Thread nD τ) arg8 fullShare f ∗ owns (c : Thread nD τ) arg9 fullShare dq ∗ owns (c : Thread nD τ) arg13 fullShare dfq ∗ owns (c : Thread nD τ) arg14 fullShare dk ∗ owns (c : Thread nD τ) arg15 fullShare dv ∗ owns (c : Thread nD τ) arg16 fullShare df)
      ⊢ iprop(((owns (c : Thread nD τ) arg2 fullShare q ∗ owns (c : Thread nD τ) arg8 fullShare f ∗ owns (c : Thread nD τ) arg9 fullShare (start i dq dfq).dq ∗ owns (c : Thread nD τ) arg13 fullShare (start i dq dfq).dfq ∗ owns (c : Thread nD τ) arg14 fullShare (start i dq dfq).dk ∗ owns (c : Thread nD τ) arg15 fullShare (start i dq dfq).dv ∗ owns (c : Thread nD τ) arg16 fullShare (start i dq dfq).df)
          -∗ wp frame (wpE (defs₀ (F := F)) Variants.none (c : Thread nD τ) none) Set.univ (k ⟨k0_pay47 v27 v38 f, row i, Scalar.addi (row i) 0#32, Scalar.muli (Scalar.addi (row i) 0#32) 512#32, k0_pay53 (get (RQ (k0_off1 i 0#32) (k0_off1_inb i 0)) q)⟩) Q)
        -∗ wp frame (wpE (defs₀ (F := F)) Variants.none (c : Thread nD τ) none) Set.univ (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i) v27 v38 >>= k) Q) := by
  rw [k0_part8_eq_skeleton]
  simp only [k0_part8_skel, start, bind_assoc, pure_bind]
  by_cases h : isFirst i
  · simp only [dif_pos h, if_pos h]
    simp only [bind_assoc, pure_bind]
    iintro ⟨H2, H8, H9, H13, H14, H15, H16⟩ HK
    iapply (ld_all (s := S1024x128) hz2) $$ H8; iintro H8
    iapply (ld_all (s := S2x1024x128) hz3) $$ H14; iintro H14
    iapply (st_all (s := S2x1024x128) hz3) $$ H14; iintro H14
    iapply (ld_all (s := S2x1024x128) hz3) $$ H15; iintro H15
    iapply (st_all (s := S2x1024x128) hz3) $$ H15; iintro H15
    iapply (ld_all (s := S2x1024x128) hz3) $$ H16; iintro H16
    iapply (st_all (s := S2x1024x128) hz3) $$ H16; iintro H16
    iapply (ld_all (s := S16384x128) hz2) $$ H9; iintro H9
    iapply (st_all (s := S16384x128) hz2) $$ H9; iintro H9
    iapply (ld_all (s := S2x32x1x512) hz4) $$ H13; iintro H13
    iapply (st_all (s := S2x32x1x512) hz4) $$ H13; iintro H13
    iapply ld $$ H2; iintro H2
    iapply HK
    isplitl [H2]; · iexact H2
    isplitl [H8]; · iexact H8
    isplitl [H9]; · iexact H9
    isplitl [H13]; · iexact H13
    isplitl [H14]; · iexact H14
    isplitl [H15]; · iexact H15
    iexact H16
  · simp only [dif_neg h, if_neg h]
    simp only [bind_assoc, pure_bind]
    iintro ⟨H2, H8, H9, H13, H14, H15, H16⟩ HK
    iapply (ld_all (s := S1024x128) hz2) $$ H8; iintro H8
    iapply (ld_all (s := S2x1024x128) hz3) $$ H14; iintro H14
    iapply (st_all (s := S2x1024x128) hz3) $$ H14; iintro H14
    iapply (ld_all (s := S2x1024x128) hz3) $$ H15; iintro H15
    iapply (st_all (s := S2x1024x128) hz3) $$ H15; iintro H15
    iapply (ld_all (s := S2x1024x128) hz3) $$ H16; iintro H16
    iapply (st_all (s := S2x1024x128) hz3) $$ H16; iintro H16
    iapply ld $$ H2; iintro H2
    iapply HK
    isplitl [H2]; · iexact H2
    isplitl [H8]; · iexact H8
    isplitl [H9]; · iexact H9
    isplitl [H13]; · iexact H13
    isplitl [H14]; · iexact H14
    isplitl [H15]; · iexact H15
    iexact H16

/-- The last loop of the body has no trips: the steps before it end at the last block of queries. -/
theorem t2_trips : ∀ i : grid0.Coords, (k0_t2_loop i).trips = 0 := by decide +kernel

theorem t2_none {α : Type} (x : α) (b : Fin (k0_t2_loop i).trips → α → Prog (TpuEff nD τ sig (Elt F) Λ₀ .tc) α) :
    Scf.Loop.for (k0_t2_loop i) (k0_t2_ok i) x b = pure x := by
  have h : List.finRange (k0_t2_loop i).trips = [] := List.eq_nil_of_length_eq_zero (by rw [List.length_finRange]; exact t2_trips i)
  show Scf.for _ _ _ _ _ _ = _
  rw [Scf.for_eq]
  exact (congrArg (fun l => Scf.forFrom b l x) h).trans rfl

/-- A point's body. -/
theorem body_triple (k v : Vec F S1024x128 .bf16) (f : Vec F S1024x128 .f32) (x : Rows F) (s : St F)
    (bk bv : Vec F S1024x128 .bf16) (bf : Vec F S1x1024x128 .f32) (Q : PUnit → sProp 𝕄) :
    iprop((held c arg2 arg5 arg6 arg7 arg9 arg13 arg14 arg15 arg16 x s ∗ owns (c : Thread nD τ) arg3 fullShare k ∗ owns (c : Thread nD τ) arg4 fullShare v ∗ owns (c : Thread nD τ) arg8 fullShare f ∗ owns (c : Thread nD τ) arg10 fullShare bk ∗ owns (c : Thread nD τ) arg11 fullShare bv ∗ owns (c : Thread nD τ) arg12 fullShare bf)
        ∗ ((held c arg2 arg5 arg6 arg7 arg9 arg13 arg14 arg15 arg16 x (fin i (own i k v f) x (start i s.dq s.dfq)) ∗ owns (c : Thread nD τ) arg3 fullShare k ∗ owns (c : Thread nD τ) arg4 fullShare v ∗ owns (c : Thread nD τ) arg8 fullShare f
            ∗ owns (c : Thread nD τ) arg10 fullShare (outK (fin i (own i k v f) x (start i s.dq s.dfq))) ∗ owns (c : Thread nD τ) arg11 fullShare (outV (fin i (own i k v f) x (start i s.dq s.dfq))) ∗ owns (c : Thread nD τ) arg12 fullShare (outF (fin i (own i k v f) x (start i s.dq s.dfq)))) -∗ Q ⟨⟩))
      ⊢ wp frame (wpE (defs₀ (F := F)) Variants.none (c : Thread nD τ) none) Set.univ (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_fox_bwd_eq_skeleton]
  simp only [cc0_fox_bwd_skel, k0_part7_eq_skeleton, k0_part7_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, t2_none, bind_assoc, pure_bind]
  generalize hs : start i s.dq s.dfq = s0
  iintro ⟨⟨H, H3, H4, H8, H10, H11, H12⟩, HK⟩
  unfold held
  icases H with ⟨H2, H5, H6, H7, H9, H13, H14, H15, H16⟩
  iapply (ld_all (s := S1024x128) hz2) $$ H3; iintro H3
  iapply (ld_all (s := S1024x128) hz2) $$ H4; iintro H4
  iapply (ld_all (s := S1024x128) hz2) $$ H8; iintro H8
  iapply (open_triple c i arg2 harg2 arg3 harg3 arg4 harg4 arg5 harg5 arg6 harg6 arg7 harg7 arg8 harg8 arg9 harg9 arg10 harg10 arg11 harg11 arg12 harg12 arg13 harg13 arg14 harg14 arg15 harg15 arg16 harg16) $$ [H2 H8 H9 H13 H14 H15 H16]
  · isplitl [H2]; · iexact H2
    isplitl [H8]; · iexact H8
    isplitl [H9]; · iexact H9
    isplitl [H13]; · iexact H13
    isplitl [H14]; · iexact H14
    isplitl [H15]; · iexact H15
    iexact H16
  iintro ⟨H2, H8, H9, H13, H14, H15, H16⟩
  rw [hs]
  iapply ld $$ H5; iintro H5
  iapply ld $$ H6; iintro H6
  iapply ld $$ H7; iintro H7
  iapply ld $$ H15; iintro H15
  iapply ld $$ H15; iintro H15
  iapply st $$ H15; iintro H15
  iapply ld $$ H14; iintro H14
  iapply ld $$ H14; iintro H14
  iapply st $$ H14; iintro H14
  iapply ld $$ H16; iintro H16
  iapply ld $$ H16; iintro H16
  iapply st $$ H16; iintro H16
  iapply ld $$ H13; iintro H13
  iapply ld $$ H13; iintro H13
  iapply st $$ H13; iintro H13
  iapply ld $$ H6; iintro H6
  iapply ld $$ H7; iintro H7
  iapply ld $$ H15; iintro H15
  iapply ld $$ H15; iintro H15
  iapply st $$ H15; iintro H15
  iapply ld $$ H14; iintro H14
  iapply ld $$ H14; iintro H14
  iapply st $$ H14; iintro H14
  iapply ld $$ H16; iintro H16
  iapply ld $$ H16; iintro H16
  iapply st $$ H16; iintro H16
  iapply ld $$ H13; iintro H13
  iapply ld $$ H13; iintro H13
  iapply st $$ H13; iintro H13
  iapply ld $$ H9; iintro H9
  iapply ld $$ H9; iintro H9
  iapply st $$ H9; iintro H9
  iapply ld $$ H2; iintro H2
  iapply ld $$ H5; iintro H5
  iapply ld $$ H6; iintro H6
  iapply ld $$ H7; iintro H7
  iapply ld $$ H15; iintro H15
  iapply ld $$ H15; iintro H15
  iapply st $$ H15; iintro H15
  iapply ld $$ H14; iintro H14
  iapply ld $$ H14; iintro H14
  iapply st $$ H14; iintro H14
  iapply ld $$ H16; iintro H16
  iapply ld $$ H16; iintro H16
  iapply st $$ H16; iintro H16
  iapply ld $$ H13; iintro H13
  iapply ld $$ H13; iintro H13
  iapply st $$ H13; iintro H13
  iapply ld $$ H6; iintro H6
  iapply ld $$ H7; iintro H7
  iapply ld $$ H15; iintro H15
  iapply ld $$ H15; iintro H15
  iapply st $$ H15; iintro H15
  iapply ld $$ H14; iintro H14
  iapply ld $$ H14; iintro H14
  iapply st $$ H14; iintro H14
  iapply ld $$ H16; iintro H16
  iapply ld $$ H16; iintro H16
  iapply st $$ H16; iintro H16
  iapply ld $$ H13; iintro H13
  iapply ld $$ H13; iintro H13
  iapply st $$ H13; iintro H13
  iapply ld $$ H9; iintro H9
  iapply ld $$ H9; iintro H9
  iapply st $$ H9; iintro H9
  iapply (Scf.wp_for_bind frame (wpE (defs₀ (F := F)) Variants.none (c : Thread nD τ) none) Set.univ _ _ _ _ _ _
      (fun n _ => held c arg2 arg5 arg6 arg7 arg9 arg13 arg14 arg15 arg16 x (trips i (own i k v f) x (stepDiag1 i (own i k v f) x (stepDiag0 i (own i k v f) x s0)) n))
      fun t _ => by rw [trips_succ]; exact trip_triple c i arg2 harg2 arg3 harg3 arg4 harg4 arg5 harg5 arg6 harg6 arg7 harg7 arg8 harg8 arg9 harg9 arg10 harg10 arg11 harg11 arg12 harg12 arg13 harg13 arg14 harg14 arg15 harg15 arg16 harg16 (own i k v f) x _ _ _ _ _ _ _ t _) $$ [H2 H5 H6 H7 H9 H13 H14 H15 H16]
  · simp only [held, trips, stepDiag0, stepDiag1, step, both, diag0, diag1]
    isplitl [H2]; · iexact H2
    isplitl [H5]; · iexact H5
    isplitl [H6]; · iexact H6
    isplitl [H7]; · iexact H7
    isplitl [H9]; · iexact H9
    isplitl [H13]; · iexact H13
    isplitl [H14]; · iexact H14
    isplitl [H15]; · iexact H15
    iexact H16
  iintro %_ H
  unfold held fin
  icases H with ⟨H2, H5, H6, H7, H9, H13, H14, H15, H16⟩
  iapply ld $$ H14; iintro H14
  iapply ld $$ H14; iintro H14
  iapply (ld_all (s := S1024x128) hz2) $$ H10; iintro H10
  iapply (st_all (s := S1024x128) hz2) $$ H10; iintro H10
  iapply ld $$ H15; iintro H15
  iapply ld $$ H15; iintro H15
  iapply (ld_all (s := S1024x128) hz2) $$ H11; iintro H11
  iapply (st_all (s := S1024x128) hz2) $$ H11; iintro H11
  iapply ld $$ H16; iintro H16
  iapply ld $$ H16; iintro H16
  iapply (ld_all (s := S1x1024x128) hz3) $$ H12; iintro H12
  iapply (st_all (s := S1x1024x128) hz3) $$ H12; iintro H12
  rw [show (Pure.pure PUnit.unit : Prog (TpuEff nD τ sig (Elt F) Λ₀ .tc) Unit) = .ret () from rfl, wp_ret]; imodintro
  iapply HK
  isplitl [H2 H5 H6 H7 H9 H13 H14 H15 H16]
  · isplitl [H2]; · iexact H2
    isplitl [H5]; · iexact H5
    isplitl [H6]; · iexact H6
    isplitl [H7]; · iexact H7
    isplitl [H9]; · iexact H9
    isplitl [H13]; · iexact H13
    isplitl [H14]; · iexact H14
    isplitl [H15]; · iexact H15
    iexact H16
  simp only [outK, outV, outF]
  isplitl [H3]; · iexact H3
  isplitl [H4]; · iexact H4
  isplitl [H8]; · iexact H8
  isplitl [H10]; · iexact H10
  isplitl [H11]; · iexact H11
  iexact H12

end Cert.Fox

end
-- ==== Proof.FoxFrame.lean ====
/- The frame of the attention's gradient: what the two arrays gathered over a pair of heads hold after each point, the
   pipeline's data and the run, at any values. -/
module

public import proofs.«01_k».proof.Defs
public import proofs.«01_k».proof.Proof.Gen.DfoxIdeal.Frame
public import proofs.«01_k».proof.Proof.Gen.DfoxIdeal.Skeleton
public import proofs.«01_k».proof.Proof.Held
public import proofs.«01_k».proof.Proof.FoxBody
public import proofs.«01_k».proof.Proof.Gen.DfoxIdeal.Points
public import proofs.«01_k».proof.Proof.Gen.DfoxIdeal.Launch
public import Idealize.ShloMosaic.Lib.Pipeline.Value
public import Idealize.ShloMosaic.Lib.Claim

@[expose] public section

set_option maxRecDepth 65536

noncomputable section

namespace Cert.Fox

open Cert.DfoxIdeal Cert.DfoxIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The point is its pair's first exactly at the positions divisible by 16. -/
theorem first_iff : ∀ t : Fin cfg0.N, isFirst (grid0.coords t) ↔ t.val % 16 = 0 :=
  (by decide +kernel : ∀ t : Fin grid0.N, isFirst (grid0.coords t) ↔ t.val % 16 = 0)

/-- The rows a point reads. -/
def rows (t : Fin cfg0.N) : Rows F where
  q := iblk m c 0 t
  g := iblk m c 3 t
  l := iblk m c 4 t
  d := iblk m c 5 t

/-- What a point leaves, from what it finds of the arrays gathered over the pair. -/
def point (t : Fin cfg0.N) (dq : Vec F S16384x128 .f32) (dfq : Vec F S2x32x1x512 .f32) : St F :=
  fin (grid0.coords t) (own (grid0.coords t) (iblk m c 1 t) (iblk m c 2 t) (iblk m c 6 t)) (rows m c t)
    (start (grid0.coords t) dq dfq)

/-- What each point leaves. -/
def outs : (n : ℕ) → n < cfg0.N → St F
  | 0, h => point m c ⟨0, h⟩ k0_pay51 k0_pay52
  | n + 1, h => point m c ⟨n + 1, h⟩ (outs n (Nat.lt_of_succ_lt h)).dq (outs n (Nat.lt_of_succ_lt h)).dfq

/-- At a pair's first point what the point finds does not matter. -/
theorem point_first (t : Fin cfg0.N) (h : t.val % 16 = 0) (dq dq' dfq dfq') :
    point m c t dq dfq = point m c t dq' dfq' := by
  have := (first_iff t).mpr h
  unfold point start; rw [if_pos this, if_pos this, if_pos this, if_pos this]

theorem outs_first (t : Fin cfg0.N) (h : t.val % 16 = 0) (dq dfq) : outs m c t.val t.isLt = point m c t dq dfq := by
  obtain ⟨n, hn⟩ := t
  cases n <;> exact point_first m c _ h _ _ _ _

theorem outs_next (t : Fin cfg0.N) (h : ¬t.val % 16 = 0) :
    outs m c t.val t.isLt = point m c t (outs m c (t.val - 1) (Nat.lt_of_le_of_lt (Nat.sub_le _ _) t.isLt)).dq
      (outs m c (t.val - 1) (Nat.lt_of_le_of_lt (Nat.sub_le _ _) t.isLt)).dfq := by
  obtain ⟨n, hn⟩ := t
  cases n with
  | zero => exact absurd rfl h
  | succ n => rfl

/-- The pipeline's data: every input's buffer at its block, the outputs' at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).dq
    | ⟨8, _⟩ => outK (outs m c t.val t.isLt)
    | ⟨9, _⟩ => outV (outs m c t.val t.isLt)
    | ⟨10, _⟩ => outF (outs m c t.val t.isLt)
    | ⟨11, _⟩ => (outs m c t.val t.isLt).dfq
  Φ _ := Pipeline.ΦA spec0 c
  q w := Pipeline.shareOf spec0 w
  owed _ := 0

theorem A_eq (w : Fin cfg0.W) : (dats m 0 c).A w = V m c (Pipeline.arrRef spec0 w) := by
  dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = (outs m c t.val t.isLt).dq := by dsimp only [dats]
theorem after0_8 (t : Fin cfg0.N) : (dats m 0 c).after 8 t = outK (outs m c t.val t.isLt) := by dsimp only [dats]
theorem after0_9 (t : Fin cfg0.N) : (dats m 0 c).after 9 t = outV (outs m c t.val t.isLt) := by dsimp only [dats]
theorem after0_10 (t : Fin cfg0.N) : (dats m 0 c).after 10 t = outF (outs m c t.val t.isLt) := by dsimp only [dats]
theorem after0_11 (t : Fin cfg0.N) : (dats m 0 c).after 11 t = (outs m c t.val t.isLt).dfq := by dsimp only [dats]

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d
theorem before0_6 (t : Fin cfg0.N) (d) : (dats m 0 c).before 6 t d = iblk m c 6 t :=
  before0_6_of m (dats m 0 c) (A_eq m c 6) (after0_6 m c) t d

/-- At a point that is not its pair's first, what the pair gathers is what the point before left. -/
theorem before0_7 (t : Fin cfg0.N) (h0 : ¬t.val % 16 = 0) (d) :
    (dats m 0 c).before 7 t d = (outs m c (t.val - 1) (Nat.lt_of_le_of_lt (Nat.sub_le _ _) t.isLt)).dq := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

theorem before0_11 (t : Fin cfg0.N) (h0 : ¬t.val % 16 = 0) (d) :
    (dats m 0 c).before 11 t d = (outs m c (t.val - 1) (Nat.lt_of_le_of_lt (Nat.sub_le _ _) t.isLt)).dfq := by
  have hN : t.val < 64 := lt_of_lt_of_eq t.isLt (show cfg0.N = 64 from N_0)
  rw [Dat.before_out_kept _ 11 rfl t (by omega) (Bool.eq_false_iff.mpr fun h => by have := (flush0_11 _).mp h; dsimp only at this; omega)
    (fun _ => rfl) (fun _ _ => rfl)]
  dsimp only [dats]

/-- Whatever the two gathered arrays' buffers hold, the point leaves `outs`. -/
theorem outs_eq (t : Fin cfg0.N) (d7 d11) :
    outs m c t.val t.isLt = point m c t ((dats m 0 c).before 7 t d7) ((dats m 0 c).before 11 t d11) := by
  by_cases h : t.val % 16 = 0
  · exact outs_first m c t h _ _
  · rw [before0_7 m c t h, before0_11 m c t h]; exact outs_next m c t h

theorem ΦA_eq : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- What the body is called with at a point, and what it returns. -/
def bodyPre (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))

def bodyPost (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))

set_option maxHeartbeats 3200000 in
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = Pipeline.ΦA spec0 c from rfl, show (dats m 0 c).Φ t.castSucc = Pipeline.ΦA spec0 c from rfl, ΦA_eq]
  iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [outs_eq m c t d7 d11]
  iapply (body_triple c (grid0.coords t) _ _ _ _ _ _ _ _ _ _ _ _ _ _ _ _ _ _ _ _ _ _ _ _ _ _ _ _ _ _ (iblk m c 1 t) (iblk m c 2 t) (iblk m c 6 t) (rows m c t)
    ⟨(dats m 0 c).before 7 t d7, (dats m 0 c).before 11 t d11, e0, e1, e2⟩ ((dats m 0 c).before 8 t d8) ((dats m 0 c).before 9 t d9) ((dats m 0 c).before 10 t d10) _)
  unfold held
  isplitl [H0 H1 H2 H3 H4 H5 H6 H7 H8 H9 H10 H11 HS0 HS1 HS2]
  · isplitl [H0 H3 H4 H5 H7 H11 HS0 HS1 HS2]
    · isplitl [H0]; · iexact H0
      isplitl [H3]; · iexact H3
      isplitl [H4]; · iexact H4
      isplitl [H5]; · iexact H5
      isplitl [H7]; · iexact H7
      isplitl [H11]; · iexact H11
      isplitl [HS0]; · iexact HS0
      isplitl [HS1]; · iexact HS1
      iexact HS2
    isplitl [H1]; · iexact H1
    isplitl [H2]; · iexact H2
    isplitl [H6]; · iexact H6
    isplitl [H8]; · iexact H8
    isplitl [H9]; · iexact H9
    iexact H10
  iintro ⟨⟨H0, H3, H4, H5, H7, H11, HS0, HS1, HS2⟩, H1, H2, H6, H8, H9, H10⟩
  isplitl [HS0 HS1 HS2 Hg]
  · isplitl [HS0 HS1 HS2]
    · isplitl [HS0]; · iexists _; iexact HS0
      isplitl [HS1]; · iexists _; iexact HS1
      iexists _; iexact HS2
    iexact Hg
  isplitl [Ho]; · iexact Ho
  unfold point
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at a point is the body there. -/
theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends with the pipeline's arrays at what its data say, every other array as the region found it and
    every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Fox

end
-- ==== Proof.FoxHost.lean ====
/- What the host lines before the call prepare from the arguments: queries, keys and values side by side, the padded
   gates, each query's log-sum and its weighted mean of the weights' gradients. -/
module

public import proofs.«01_k».proof.Defs
public import proofs.«01_k».proof.Proof.FoxFrame
public import Idealize.ShloMosaic.Lib.Pipeline.ValueKit
public import Idealize.ShloMosaic.Lib.Pipeline.ValueKit.Point
public import Idealize.ShloMosaic.Lib.IdealHost

@[expose] public section

set_option maxRecDepth 16384

noncomputable section

namespace Cert.Fox

open Cert.DfoxIdeal Cert.DfoxIdeal.Gen Idealize.ShloMosaic Idealize.ShloMosaic.TcCoe

/-! ### The lines as functions of the arguments -/

/-- The logits, minus infinity where the key lies after the query. -/
def hS (q k : FVec Ideal S16384x512 .f32) (f : FVec Ideal S16384x8 .f32) : FVec Ideal S8x16384x16384 .f32 :=
  select (broadcastInDim S8x16384x16384 ![1, 2] bcast_S16384x16384_S8x16384x16384_1_2
      (cmpi .sle (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    (subf (mulf (Host.dotGeneral dot_S16384x8x64_S16384x8x64_S8x16384x16384_2_2_0_0_1_1 none
          (shapeCast _ q shapeCasts_S16384x512_S16384x8x64) (shapeCast _ k shapeCasts_S16384x512_S16384x8x64))
        (broadcastInDim S8x16384x16384 ![] bcast_S_S8x16384x16384 (constant S_ .f32 0x3E000000#32)))
      (broadcastInDim S8x16384x16384 ![0, 1, 2] bcast_S8x1x16384_S8x16384x16384_0_1_2
        (broadcastInDim S8x1x16384 ![0, 2] bcast_S8x16384_S8x1x16384_0_2 (transpose S8x16384 [1, 0] f transposes_S16384x8_S8x16384_1_0))))
    (broadcastInDim S8x16384x16384 ![] bcast_S_S8x16384x16384 (id (constant S_ .f32 0xFF800000#32)))

/-- Each query's greatest logit. -/
def hM (q k : FVec Ideal S16384x512 .f32) (f : FVec Ideal S16384x8 .f32) : FVec Ideal S8x16384x1 .f32 :=
  broadcastInDim S8x16384x1 ![0, 1] bcast_S8x16384_S8x16384x1_0_1
    (Host.reduce FloatOps.maximumf (hS q k f) (constant S_ .f32 0xFF800000#32) reducesTo_S8x16384x16384_S8x16384_d2 h_S_)

/-- The exponentials of the logits less their greatest. -/
def hE (q k : FVec Ideal S16384x512 .f32) (f : FVec Ideal S16384x8 .f32) : FVec Ideal S8x16384x16384 .f32 :=
  Host.exp (subf (hS q k f) (broadcastInDim S8x16384x16384 ![0, 1, 2] bcast_S8x16384x1_S8x16384x16384_0_1_2 (hM q k f)))

/-- Each query's sum of them. -/
def hL (q k : FVec Ideal S16384x512 .f32) (f : FVec Ideal S16384x8 .f32) : FVec Ideal S8x16384x1 .f32 :=
  broadcastInDim S8x16384x1 ![0, 1] bcast_S8x16384_S8x16384x1_0_1
    (Host.reduceAdd (hE q k f) (constant S_ .f32 0x00000000#32) reducesTo_S8x16384x16384_S8x16384_d2 h_S_)

/-- The log-sums as the call takes them. -/
def hLse (q k : FVec Ideal S16384x512 .f32) (f : FVec Ideal S16384x8 .f32) : FVec Ideal S8x32x1x512 .f32 :=
  shapeCast _ (shapeCast S8x16384 (addf (hM q k f) (Host.log (hL q k f))) shapeCasts_S8x16384x1_S8x16384) shapeCasts_S8x16384_S8x32x1x512

/-- The attention's result by place, head and column of the head. -/
def hO (q k v : FVec Ideal S16384x512 .f32) (f : FVec Ideal S16384x8 .f32) : FVec Ideal S16384x8x64 .f32 :=
  transpose S16384x8x64 [2, 0, 1]
    (Host.dotGeneral dot_S16384x8x64_S8x16384x16384_S8x64x16384_0_2_2_1_1_0 none (shapeCast _ v shapeCasts_S16384x512_S16384x8x64)
      (Host.divf (hE q k f) (broadcastInDim S8x16384x16384 ![0, 1, 2] bcast_S8x16384x1_S8x16384x16384_0_1_2 (hL q k f))))
    transposes_S8x64x16384_S16384x8x64_2_0_1

/-- The products of the result with the incoming gradient, summed over a head's columns, as the call takes them. -/
def hD (q k v : FVec Ideal S16384x512 .f32) (f : FVec Ideal S16384x8 .f32) (g : FVec Ideal S16384x512 .f32) : FVec Ideal S8x32x1x512 .f32 :=
  shapeCast _ (transpose S8x16384 [1, 0]
      (Host.reduceAdd (mulf (shapeCast _ g shapeCasts_S16384x512_S16384x8x64) (hO q k v f)) (constant S_ .f32 0x00000000#32) reducesTo_S16384x8x64_S16384x8_d2 h_S_)
      transposes_S16384x8_S8x16384_1_0) shapeCasts_S8x16384_S8x32x1x512

/-- Queries, keys and values side by side. -/
def hQkv (q k v : FVec Ideal S16384x512 .f32) : FVec Ideal S16384x1536 .bf16 :=
  truncf .bf16 (concatenate S16384x1536 1 [⟨S16384x512, q⟩, ⟨S16384x512, k⟩, ⟨S16384x512, v⟩] concatenates_S16384x512_S16384x512_S16384x512_S16384x1536_d1) bitsLt_bf16_f32

/-- The gates with zero columns after them. -/
def hPad (f : FVec Ideal S16384x8 .f32) : FVec Ideal S16384x128 .f32 :=
  pad S16384x128 ![0, 0] ![0, 120] ![0, 0] f (sitofp .f32 (constantI S_ 32 0#32)) pads_S16384x8_S16384x128_000_01200 h_S_

variable (m : (ℓ : Loc nD τ sig) → Buf (Elt Ideal) ℓ) (c : Dev nD)

abbrev argQ : FVec Ideal S16384x512 .f32 := m ((c : Thread nD τ).loc main_arg0)
abbrev argK : FVec Ideal S16384x512 .f32 := m ((c : Thread nD τ).loc main_arg1)
abbrev argV : FVec Ideal S16384x512 .f32 := m ((c : Thread nD τ).loc main_arg2)
abbrev argF : FVec Ideal S16384x8 .f32 := m ((c : Thread nD τ).loc main_arg3)
abbrev argG : FVec Ideal S16384x512 .f32 := m ((c : Thread nD τ).loc main_arg4)

theorem entry36 : V m c main_v36 = hQkv (argQ m c) (argK m c) (argV m c) := by
  show StableHlo.after (List.flatten [hostOps0, hostOps0_1, hostOps0_2, hostOps0_3, hostOps0_4]) (fun b => m (c, b)) (Proc.devRef .tc main_v36) = _
  simp only [hostOps0, hostOps0_1, hostOps0_2, hostOps0_3, hostOps0_4, List.flatten_cons, List.flatten_nil, List.cons_append, List.nil_append, List.append_nil]
  after_results_simp <;> rfl

theorem entry37 : V m c main_v37 = hPad (argF m c) := by
  show StableHlo.after (List.flatten [hostOps0, hostOps0_1, hostOps0_2, hostOps0_3, hostOps0_4]) (fun b => m (c, b)) (Proc.devRef .tc main_v37) = _
  simp only [hostOps0, hostOps0_1, hostOps0_2, hostOps0_3, hostOps0_4, List.flatten_cons, List.flatten_nil, List.cons_append, List.nil_append, List.append_nil]
  after_results_simp <;> rfl

theorem entry38 : V m c main_v38 = truncf (F := Ideal) .bf16 (argG m c) bitsLt_bf16_f32 := by
  show StableHlo.after (List.flatten [hostOps0, hostOps0_1, hostOps0_2, hostOps0_3, hostOps0_4]) (fun b => m (c, b)) (Proc.devRef .tc main_v38) = _
  simp only [hostOps0, hostOps0_1, hostOps0_2, hostOps0_3, hostOps0_4, List.flatten_cons, List.flatten_nil, List.cons_append, List.nil_append, List.append_nil]
  after_results_simp <;> rfl

theorem entry39 : V m c main_v39 = hLse (argQ m c) (argK m c) (argF m c) := by
  show StableHlo.after (List.flatten [hostOps0, hostOps0_1, hostOps0_2, hostOps0_3, hostOps0_4]) (fun b => m (c, b)) (Proc.devRef .tc main_v39) = _
  simp only [hostOps0, hostOps0_1, hostOps0_2, hostOps0_3, hostOps0_4, List.flatten_cons, List.flatten_nil, List.cons_append, List.nil_append, List.append_nil]
  after_results_simp <;> rfl

theorem entry40 : V m c main_v40 = hD (argQ m c) (argK m c) (argV m c) (argF m c) (argG m c) := by
  show StableHlo.after (List.flatten [hostOps0, hostOps0_1, hostOps0_2, hostOps0_3, hostOps0_4]) (fun b => m (c, b)) (Proc.devRef .tc main_v40) = _
  simp only [hostOps0, hostOps0_1, hostOps0_2, hostOps0_3, hostOps0_4, List.flatten_cons, List.flatten_nil, List.cons_append, List.nil_append, List.append_nil]
  after_results_simp <;> rfl

end Cert.Fox

end
-- ==== Proof.FoxPoint.lean ====
/- One step of the attention's gradient over the extended reals, read at an index: with `p` the step's attention weights
   and `slope` the gradient of its logits, every array the step changes gains a sum over the step's keys or queries. -/
module

public import proofs.«01_k».proof.Defs
public import proofs.«01_k».proof.Proof.FoxStep
public import Idealize.ShloMosaic.Lib.Pipeline.ValueKit
public import Idealize.ShloMosaic.Lib.Pipeline.ValueKit.Point
public import Idealize.ShloMosaic.Lib.IdealHost
public import Idealize.ShloMosaic.Lib.Claim

@[expose] public section

set_option maxRecDepth 16384

noncomputable section

namespace Cert.Fox

open Cert.DfoxIdeal Cert.DfoxIdeal.Gen Idealize.ShloMosaic Idealize.ShloMosaic.TcCoe

/-- The scale of the logits, the constant `1/8`. -/
abbrev eighth : EReal := Ideal.ofBits .bf16 0x3E00#16

/-- The weights of a step's keys at its queries, from the keys, the gates, the queries and the log-sums. -/
def weight (k : FVec Ideal S1024x128 .bf16) (f : FVec Ideal S1024x1 .f32) (q : Vec Ideal S512x128 .bf16)
    (l : Vec Ideal S1x1x1x512 .f32) (a : Fin 1024) (r : Fin 512) : EReal :=
  Ideal.exp ((∑ j : Fin 128, k (ix2 a j) * (q (ix2 r j) * eighth)) - f (ix2 a 0) - l (ix4 0 0 0 r))

/-- The gradient of the logits, from the weights, the values, the output's gradient and the row products. -/
def slope (p : Fin 1024 → Fin 512 → EReal) (v : FVec Ideal S1024x128 .bf16) (g : Vec Ideal S512x128 .bf16)
    (d : Vec Ideal S1x1x1x512 .f32) (a : Fin 1024) (r : Fin 512) : EReal :=
  p a r * ((∑ j : Fin 128, v (ix2 a j) * g (ix2 r j)) - d (ix4 0 0 0 r))

/-- What a step adds where its weights are `p0` and `p1`. -/
structure Adds (x : Change Ideal) (o : Own Ideal) (q g : Vec Ideal S512x128 .bf16) (d0 d1 : Vec Ideal S1x1x1x512 .f32)
    (p0 p1 : Fin 1024 → Fin 512 → EReal) : Prop where
  dv0 : ∀ w a j, x.dv0 w (ix3 0 a j) = w (ix3 0 a j) + ∑ r : Fin 512, p0 a r * g (ix2 r j)
  dv1 : ∀ w a j, x.dv1 w (ix3 0 a j) = w (ix3 0 a j) + ∑ r : Fin 512, p1 a r * g (ix2 r j)
  dk0 : ∀ w a j, x.dk0 w (ix3 0 a j) = w (ix3 0 a j) + ∑ r : Fin 512, slope p0 o.v0 g d0 a r * (q (ix2 r j) * eighth)
  dk1 : ∀ w a j, x.dk1 w (ix3 0 a j) = w (ix3 0 a j) + ∑ r : Fin 512, slope p1 o.v1 g d1 a r * (q (ix2 r j) * eighth)
  df0 : ∀ w a j, x.df0 w (ix3 0 a j) = w (ix3 0 a j) + ∑ r : Fin 512, slope p0 o.v0 g d0 a r
  df1 : ∀ w a j, x.df1 w (ix3 0 a j) = w (ix3 0 a j) + ∑ r : Fin 512, slope p1 o.v1 g d1 a r
  fq0 : ∀ w r, x.fq0 w (ix4 0 0 0 r) = w (ix4 0 0 0 r) + ∑ a : Fin 1024, slope p0 o.v0 g d0 a r
  fq1 : ∀ w r, x.fq1 w (ix4 0 0 0 r) = w (ix4 0 0 0 r) + ∑ a : Fin 1024, slope p1 o.v1 g d1 a r
  dq : ∀ w r j, x.dq w (ix2 r j) = w (ix2 r j) + ((∑ a : Fin 1024, slope p0 o.v0 g d0 a r * o.kq0 (ix2 a j))
    + ∑ a : Fin 1024, slope p1 o.v1 g d1 a r * o.kq1 (ix2 a j))

variable (o : Own Ideal) (q g : Vec Ideal S512x128 .bf16) (l0 d0 l1 d1 : Vec Ideal S1x1x1x512 .f32)

/-! ### After the diagonal -/

theorem scaled (r : Fin 512) (j : Fin 128) : k0_pay2 q (ix2 r j) = q (ix2 r j) * eighth := by pointwise [k0_pay2]

theorem after_p0 (a : Fin 1024) (r : Fin 512) : k0_pay4 o.k0 o.f0 q l0 (ix2 a r) = weight o.k0 o.f0 q l0 a r := by
  pointwise [k0_pay4, k0_pay2, weight]

theorem after_s0 (a : Fin 1024) (r : Fin 512) :
    k0_pay5 o.k0 o.v0 o.f0 q g l0 d0 (ix2 a r) = slope (weight o.k0 o.f0 q l0) o.v0 g d0 a r := by
  pointwise [k0_pay5, k0_pay3, slope, after_p0]

theorem after_p1 (a : Fin 1024) (r : Fin 512) :
    k0_pay13 (k0_pay12 o.k1 o.f1 (k0_pay2 q) l1) (ix2 a r) = weight o.k1 o.f1 q l1 a r := by
  pointwise [k0_pay13, k0_pay12, k0_pay2, weight]

theorem after_s1 (a : Fin 1024) (r : Fin 512) :
    k0_pay14 o.v1 (k0_pay3 g) (k0_pay12 o.k1 o.f1 (k0_pay2 q) l1) d1 (ix2 a r) = slope (weight o.k1 o.f1 q l1) o.v1 g d1 a r := by
  pointwise [k0_pay14, k0_pay3, slope, after_p1]

theorem after_adds : Adds (after o q g l0 d0 l1 d1) o q g d0 d1 (weight o.k0 o.f0 q l0) (weight o.k1 o.f1 q l1) where
  dv0 w a j := by pointwise [after, k0_pay7, k0_pay3, after_p0]
  dv1 w a j := by pointwise [after, k0_pay16, k0_pay3, after_p1]
  dk0 w a j := by pointwise [after, k0_pay8, k0_pay6, scaled, after_s0]
  dk1 w a j := by pointwise [after, k0_pay17, k0_pay15, scaled, after_s1]
  df0 w a j := by pointwise [after, k0_pay9, after_s0]
  df1 w a j := by pointwise [after, k0_pay18, after_s1]
  fq0 w r := by pointwise [after, k0_pay10, after_s0]
  fq1 w r := by pointwise [after, k0_pay95, k0_pay19, after_s1]
  dq w r j := by pointwise [after, k0_pay96, k0_pay11, k0_pay6, k0_pay15, after_s0, after_s1]

/-! ### On the diagonal -/

/-- Whether a step on the diagonal sees a key at a query: the key is not after the query. -/
def sees (d : ℕ) (a : Fin 1024) (r : Fin 512) : Prop := a.val ≤ d * 512 + r.val

instance (d a r) : Decidable (sees d a r) := Nat.decLe _ _

/-- The weights with those of the later keys struck out. -/
def upto (d : ℕ) (p : Fin 1024 → Fin 512 → EReal) (a : Fin 1024) (r : Fin 512) : EReal := if sees d a r then p a r else 0

/-- The places of a point's first and second block of queries against its keys'. -/
theorem place0 : ∀ i : grid0.Coords, Scalar.subi (Scalar.muli (blk i) 1024#32) (Scalar.muli (Scalar.addi (row i) 0#32) 512#32) = 0#32 := by
  decide +kernel
theorem place1 : ∀ i : grid0.Coords, Scalar.subi (Scalar.muli (blk i) 1024#32) (Scalar.muli (Scalar.addi (row i) 1#32) 512#32) = (-512#32 : BitVec 32) := by
  decide +kernel

/-- The kernel's comparison of a query's and a key's place within the blocks. -/
theorem seen (d : ℕ) (hd : d < 2) (a : Fin 1024) (r : Fin 512) :
    IntOp.cmpi .sge (IntOp.subi (BitVec.ofNat 32 r.val) (BitVec.ofNat 32 a.val)) (-BitVec.ofNat 32 (d * 512)) = 1#1 ↔ sees d a r := by
  have ha := a.isLt; have hr := r.isLt
  have e : (IntOp.subi (BitVec.ofNat 32 r.val) (BitVec.ofNat 32 a.val)).toInt = (r.val : ℤ) - a.val := by
    rw [IntOp.subi, BitVec.toInt_sub, BitVec.toInt_ofNat', BitVec.toInt_ofNat']
    simp only [Int.bmod_def]; omega
  have e' : (-BitVec.ofNat 32 (d * 512)).toInt = -((d * 512 : ℕ) : ℤ) := by
    rw [BitVec.toInt_neg, BitVec.toInt_ofNat']
    simp only [Int.bmod_def]; omega
  simp only [IntOp.cmpi, BitVec.sle, e, e', sees]
  by_cases h : a.val ≤ d * 512 + r.val
  · rw [decide_eq_true (by omega)]; simp [h]
  · rw [decide_eq_false (by omega)]; simp [h]

theorem struck (d : ℕ) (hd : d < 2) (p : Fin 1024 → Fin 512 → EReal) (a : Fin 1024) (r : Fin 512) (c : BitVec 32)
    (hc : c = -BitVec.ofNat 32 (d * 512)) :
    Scalar.select (IntOp.cmpi .sge (IntOp.subi (BitVec.ofNat 32 r.val) (BitVec.ofNat 32 a.val)) c) (p a r) (0 : EReal) = upto d p a r := by
  subst hc
  unfold upto
  by_cases h : sees d a r
  · rw [(seen d hd a r).mpr h, if_pos h]; rfl
  · rw [if_neg h]; exact if_neg fun e => h ((seen d hd a r).mp e)

variable (i : grid0.Coords)

theorem diag0_p0 (a : Fin 1024) (r : Fin 512) :
    k0_pay56 (blk i) o.k0 o.f0 (Scalar.addi (row i) 0#32) (k0_pay53 q) l0 (ix2 a r) = upto 0 (weight o.k0 o.f0 q l0) a r := by
  rw [← struck 0 (by decide) _ a r 0#32 rfl]
  pointwise [k0_pay56, k0_pay54, k0_pay53, place0, weight]

theorem diag0_p1 (a : Fin 1024) (r : Fin 512) :
    k0_pay65 (blk i) (Scalar.addi (row i) 0#32) (k0_pay64 o.k1 o.f1 (k0_pay54 (k0_pay53 q))) l1 (ix2 a r) = upto 0 (weight o.k1 o.f1 q l1) a r := by
  rw [← struck 0 (by decide) _ a r 0#32 rfl]
  pointwise [k0_pay65, k0_pay64, k0_pay54, k0_pay53, place0, weight]

theorem diag1_p0 (a : Fin 1024) (r : Fin 512) :
    k0_pay78 (blk i) o.k0 o.f0 (Scalar.addi (row i) 1#32) (k0_pay74 q) k0_pay75 l0 (ix2 a r) = upto 1 (weight o.k0 o.f0 q l0) a r := by
  rw [← struck 1 (by decide) _ a r (-512#32) rfl]
  pointwise [k0_pay78, k0_pay74, k0_pay75, k0_pay76, place1, weight]

theorem diag1_p1 (a : Fin 1024) (r : Fin 512) :
    k0_pay87 (blk i) (Scalar.addi (row i) 1#32) (k0_pay86 o.k1 o.f1 (k0_pay76 (k0_pay74 q) k0_pay75)) l1 (ix2 a r) = upto 1 (weight o.k1 o.f1 q l1) a r := by
  rw [← struck 1 (by decide) _ a r (-512#32) rfl]
  pointwise [k0_pay87, k0_pay86, k0_pay74, k0_pay75, k0_pay76, place1, weight]

theorem diag0_s0 (a : Fin 1024) (r : Fin 512) :
    k0_pay57 (blk i) o.k0 o.v0 o.f0 (Scalar.addi (row i) 0#32) (k0_pay53 q) g l0 d0 (ix2 a r) = slope (upto 0 (weight o.k0 o.f0 q l0)) o.v0 g d0 a r := by
  pointwise [k0_pay57, k0_pay55, slope, diag0_p0]

theorem diag0_s1 (a : Fin 1024) (r : Fin 512) :
    k0_pay66 (blk i) o.v1 (Scalar.addi (row i) 0#32) (k0_pay55 g) (k0_pay64 o.k1 o.f1 (k0_pay54 (k0_pay53 q))) l1 d1 (ix2 a r)
      = slope (upto 0 (weight o.k1 o.f1 q l1)) o.v1 g d1 a r := by
  pointwise [k0_pay66, k0_pay55, slope, diag0_p1]

theorem diag1_s0 (a : Fin 1024) (r : Fin 512) :
    k0_pay79 (blk i) o.k0 o.v0 o.f0 (Scalar.addi (row i) 1#32) (k0_pay74 q) k0_pay75 g l0 d0 (ix2 a r) = slope (upto 1 (weight o.k0 o.f0 q l0)) o.v0 g d0 a r := by
  pointwise [k0_pay79, k0_pay77, slope, diag1_p0]

theorem diag1_s1 (a : Fin 1024) (r : Fin 512) :
    k0_pay88 (blk i) o.v1 (Scalar.addi (row i) 1#32) (k0_pay77 g) (k0_pay86 o.k1 o.f1 (k0_pay76 (k0_pay74 q) k0_pay75)) l1 d1 (ix2 a r)
      = slope (upto 1 (weight o.k1 o.f1 q l1)) o.v1 g d1 a r := by
  pointwise [k0_pay88, k0_pay77, slope, diag1_p1]

theorem scaled0 (r : Fin 512) (j : Fin 128) : k0_pay54 (k0_pay53 q) (ix2 r j) = q (ix2 r j) * eighth := by
  pointwise [k0_pay54, k0_pay53]
theorem scaled1 (r : Fin 512) (j : Fin 128) : k0_pay76 (k0_pay74 q) k0_pay75 (ix2 r j) = q (ix2 r j) * eighth := by
  pointwise [k0_pay76, k0_pay74, k0_pay75]

theorem diag0_adds : Adds (diag0 i o q g l0 d0 l1 d1) o q g d0 d1 (upto 0 (weight o.k0 o.f0 q l0)) (upto 0 (weight o.k1 o.f1 q l1)) where
  dv0 w a j := by pointwise [diag0, k0_pay59, k0_pay55, diag0_p0]
  dv1 w a j := by pointwise [diag0, k0_pay68, k0_pay55, diag0_p1]
  dk0 w a j := by pointwise [diag0, k0_pay60, k0_pay58, scaled0, diag0_s0]
  dk1 w a j := by pointwise [diag0, k0_pay70, k0_pay69, k0_pay67, scaled0, diag0_s1]
  df0 w a j := by pointwise [diag0, k0_pay61, diag0_s0]
  df1 w a j := by pointwise [diag0, k0_pay71, diag0_s1]
  fq0 w r := by pointwise [diag0, k0_pay62, diag0_s0]
  fq1 w r := by pointwise [diag0, k0_pay72, diag0_s1]
  dq w r j := by pointwise [diag0, k0_pay73, k0_pay63, k0_pay58, k0_pay67, diag0_s0, diag0_s1]

theorem diag1_adds : Adds (diag1 i o q g l0 d0 l1 d1) o q g d0 d1 (upto 1 (weight o.k0 o.f0 q l0)) (upto 1 (weight o.k1 o.f1 q l1)) where
  dv0 w a j := by pointwise [diag1, k0_pay81, k0_pay77, diag1_p0]
  dv1 w a j := by pointwise [diag1, k0_pay90, k0_pay77, diag1_p1]
  dk0 w a j := by pointwise [diag1, k0_pay82, k0_pay80, scaled1, diag1_s0]
  dk1 w a j := by pointwise [diag1, k0_pay91, k0_pay89, scaled1, diag1_s1]
  df0 w a j := by pointwise [diag1, k0_pay83, diag1_s0]
  df1 w a j := by pointwise [diag1, k0_pay92, diag1_s1]
  fq0 w r := by pointwise [diag1, k0_pay84, diag1_s0]
  fq1 w r := by pointwise [diag1, k0_pay93, diag1_s1]
  dq w r j := by pointwise [diag1, k0_pay94, k0_pay85, k0_pay80, k0_pay89, diag1_s0, diag1_s1]

end Cert.Fox
end
-- ==== Proof.FoxSum.lean ====
/- A point of the attention's gradient at real arguments: the steps over its blocks of queries gather sums over all the
   queries from the block's first key on, and leave a sum over the block's keys at each of those queries. -/
module

public import proofs.«01_k».proof.Defs
public import proofs.«01_k».proof.Proof.FoxStep
public import proofs.«01_k».proof.Proof.FoxPoint
public import Mathlib.Data.EReal.Operations

@[expose] public section

set_option maxRecDepth 16384

noncomputable section

namespace Cert.Fox

open Cert.DfoxIdeal Cert.DfoxIdeal.Gen Idealize.ShloMosaic Idealize.ShloMosaic.TcCoe
open Cert.Held

/-! ### Real sums as extended reals -/

theorem coe_sum {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

theorem eighth_eq : eighth = ((1 / 8 : ℝ) : EReal) := by
  simp [eighth, Ideal.ofBits, Ideal.ieee]
  rw [← EReal.coe_mul]; norm_num

/-- A sum over the places from `A` on, one more block of places at its end. -/
theorem sum_block (f : ℕ → ℝ) (A n b : ℕ) (h : A ≤ b * n) :
    (∑ t ∈ Finset.Ico A (b * n), f t) + ∑ r : Fin n, f (b * n + r.val) = ∑ t ∈ Finset.Ico A ((b + 1) * n), f t := by
  rw [← Finset.sum_Ico_consecutive f h (by rw [add_one_mul]; exact Nat.le_add_right _ _ : b * n ≤ (b + 1) * n),
    Finset.sum_Ico_eq_sum_range f (b * n), show (b + 1) * n - b * n = n by rw [add_one_mul]; omega,
    ← Fin.sum_univ_eq_sum_range (fun r => f (b * n + r))]

/-! ### A pair of heads -/

/-- What a pair of heads computes with, by place and lane: queries and output gradients, each head's keys and values (zero on
    the other head's lanes), gates, log-sums and row products. -/
structure Pair where
  q : ℕ → Fin 128 → ℝ
  g : ℕ → Fin 128 → ℝ
  k : Fin 2 → ℕ → Fin 128 → ℝ
  v : Fin 2 → ℕ → Fin 128 → ℝ
  f : Fin 2 → ℕ → ℝ
  l : Fin 2 → ℕ → ℝ
  d : Fin 2 → ℕ → ℝ

variable (A : Pair)

/-- The attention weight of key `s` at query `t`: zero where the key lies after the query. -/
def Pair.w (h : Fin 2) (s t : ℕ) : ℝ :=
  if s ≤ t then Real.exp ((∑ j : Fin 128, A.k h s j * (A.q t j * (1 / 8))) - A.f h s - A.l h t) else 0

/-- The gradient of the logit of key `s` at query `t`. -/
def Pair.s (h : Fin 2) (s t : ℕ) : ℝ := A.w h s t * ((∑ j : Fin 128, A.v h s j * A.g t j) - A.d h t)

/-- What key `s` adds to the gradient of query `t`. -/
def Pair.c (s t : ℕ) (j : Fin 128) : ℝ := A.s 0 s t * (A.k 0 s j * (1 / 8)) + A.s 1 s t * (A.k 1 s j * (1 / 8))

theorem Pair.s_later (h : Fin 2) {s t : ℕ} (ht : t < s) : A.s h s t = 0 := by
  rw [Pair.s, Pair.w, if_neg (by omega), zero_mul]

/-- What block `j` keeps is the pair's. -/
structure OwnIs (j : ℕ) (o : Own Ideal) : Prop where
  k0 : ∀ (a : Fin 1024) (j' : Fin 128), o.k0 (ix2 a j') = (A.k 0 (j * 1024 + a.val) j' : EReal)
  k1 : ∀ (a : Fin 1024) (j' : Fin 128), o.k1 (ix2 a j') = (A.k 1 (j * 1024 + a.val) j' : EReal)
  kq0 : ∀ (a : Fin 1024) (j' : Fin 128), o.kq0 (ix2 a j') = (A.k 0 (j * 1024 + a.val) j' * (1 / 8) : ℝ)
  kq1 : ∀ (a : Fin 1024) (j' : Fin 128), o.kq1 (ix2 a j') = (A.k 1 (j * 1024 + a.val) j' * (1 / 8) : ℝ)
  v0 : ∀ (a : Fin 1024) (j' : Fin 128), o.v0 (ix2 a j') = (A.v 0 (j * 1024 + a.val) j' : EReal)
  v1 : ∀ (a : Fin 1024) (j' : Fin 128), o.v1 (ix2 a j') = (A.v 1 (j * 1024 + a.val) j' : EReal)
  f0 : ∀ a : Fin 1024, o.f0 (ix2 a (0 : Fin 1)) = (A.f 0 (j * 1024 + a.val) : EReal)
  f1 : ∀ a : Fin 1024, o.f1 (ix2 a (0 : Fin 1)) = (A.f 1 (j * 1024 + a.val) : EReal)

/-- The arrays the steps read are the pair's. -/
structure RowsAre (x : Rows Ideal) : Prop where
  q : ∀ (t : Fin 16384) (j : Fin 128), x.q (ix2 t j) = (A.q t.val j : EReal)
  g : ∀ (t : Fin 16384) (j : Fin 128), x.g (ix2 t j) = (A.g t.val j : EReal)
  l : ∀ (h : Fin 2) (c : Fin 32) (r : Fin 512), x.l (ix4 h c (0 : Fin 1) r) = (A.l h (c.val * 512 + r.val) : EReal)
  d : ∀ (h : Fin 2) (c : Fin 32) (r : Fin 512), x.d (ix4 h c (0 : Fin 1) r) = (A.d h (c.val * 512 + r.val) : EReal)

/-- The arrays of block `j` once it has met the queries up to block `b`, from what they held of the pair's gathered sums. -/
structure Met (dq0 : ℕ → Fin 128 → ℝ) (fq0 : Fin 2 → ℕ → ℝ) (j b : ℕ) (s : St Ideal) : Prop where
  dv : ∀ (h : Fin 2) (a : Fin 1024) (j' : Fin 128), s.dv (ix3 h a j') = ((∑ t ∈ Finset.Ico (j * 1024) (b * 512), A.w h (j * 1024 + a.val) t * A.g t j' : ℝ) : EReal)
  dk : ∀ (h : Fin 2) (a : Fin 1024) (j' : Fin 128), s.dk (ix3 h a j') = ((∑ t ∈ Finset.Ico (j * 1024) (b * 512), A.s h (j * 1024 + a.val) t * (A.q t j' * (1 / 8)) : ℝ) : EReal)
  df : ∀ (h : Fin 2) (a : Fin 1024) (j' : Fin 128), s.df (ix3 h a j') = ((∑ t ∈ Finset.Ico (j * 1024) (b * 512), A.s h (j * 1024 + a.val) t : ℝ) : EReal)
  dq : ∀ (t : Fin 16384) (j' : Fin 128), s.dq (ix2 t j') = ((dq0 t.val j' + if j * 1024 ≤ t.val ∧ t.val < b * 512 then ∑ a : Fin 1024, A.c (j * 1024 + a.val) t.val j' else 0 : ℝ) : EReal)
  dfq : ∀ (h : Fin 2) (c : Fin 32) (r : Fin 512), s.dfq (ix4 h c (0 : Fin 1) r) = ((fq0 h (c.val * 512 + r.val) + if j * 1024 ≤ c.val * 512 + r.val ∧ c.val * 512 + r.val < b * 512
    then ∑ a : Fin 1024, A.s h (j * 1024 + a.val) (c.val * 512 + r.val) else 0 : ℝ) : EReal)

/-! ### One step -/

/-- A rectangle's replacement read on the rectangle and off it. -/
theorem overlay_on {sh : Shape} {α : Type} (r : Rect sh) (X : sh.Idx → α) (G : r.shape.Idx → α) {i : r.shape.Idx} {y : sh.Idx}
    (e : r.emb i = y) : r.overlay X G y = G i := by
  subst e; exact r.overlay_emb X G i

theorem overlay_off {sh : Shape} {α : Type} {o : Fin sh.rank → ℕ} {z : Fin sh.rank → ℕ} (h : ∀ a, o a + z a ≤ sh.size a) (X : sh.Idx → α)
    (G : (Rect.unit (s := sh) o z h).shape.Idx → α) {y : sh.Idx} (a : Fin sh.rank) (e : (y a).val < o a ∨ o a + z a ≤ (y a).val) :
    (Rect.unit (s := sh) o z h).overlay X G y = X y := by
  refine Rect.overlay_of_not_mem _ _ _ fun hm => ?_
  rw [Rect.mem_set_unit] at hm
  have := hm a
  omega

theorem get_on {sh : Shape} {α : Type} (r : Rect sh) (X : sh.Idx → α) {i : r.shape.Idx} {y : sh.Idx} (e : r.emb i = y) :
    Held.get r X i = X y := congrArg X e

/-- The second head's part does not see what is written of the first's, nor the first's what is written of the second's. -/
theorem first_kept (x : Vec Ideal S2x1024x128 .f32) (G : R0.shape.Idx → EReal) (a : Fin 1024) (l : Fin 128) :
    R0.overlay x G (ix3 (1 : Fin 2) a l) = x (ix3 (1 : Fin 2) a l) := by
  refine Rect.overlay_of_not_mem _ _ _ fun hm => ?_
  rw [Rect.mem_set_unit] at hm
  have h2 := (hm (0 : Fin 3)).2
  have h3 : (1 : Fin 2).val < 0 + 1 := h2
  exact Nat.lt_irrefl _ h3

theorem second_kept (x : Vec Ideal S2x1024x128 .f32) (G : R1.shape.Idx → EReal) (a : Fin 1024) (l : Fin 128) :
    R1.overlay x G (ix3 (0 : Fin 2) a l) = x (ix3 0 a l) := by
  refine Rect.overlay_of_not_mem _ _ _ fun hm => ?_
  rw [Rect.mem_set_unit] at hm
  have h2 := (hm (0 : Fin 3)).1
  have h3 : 1 ≤ (0 : Fin 2).val := h2
  exact Nat.not_succ_le_zero _ h3

theorem emb_first (a : Fin 1024) (l : Fin 128) : R0.emb (ix3 0 a l) = ix3 (0 : Fin 2) a l := by blk_ext []
theorem emb_second (a : Fin 1024) (l : Fin 128) : R1.emb (ix3 0 a l) = ix3 (1 : Fin 2) a l := by blk_ext []

theorem both_first (x : Vec Ideal S2x1024x128 .f32) (w0 w1) (a : Fin 1024) (l : Fin 128) :
    both x w0 w1 (ix3 0 a l) = w0 (Held.get R0 x) (ix3 0 a l) :=
  (second_kept _ _ a l).trans (overlay_on R0 _ _ (emb_first a l))

theorem both_second (x : Vec Ideal S2x1024x128 .f32) (w0 w1) (a : Fin 1024) (l : Fin 128) :
    both x w0 w1 (ix3 (1 : Fin 2) a l) = w1 (Held.get R1 (R0.overlay x (w0 (Held.get R0 x)))) (ix3 0 a l) :=
  overlay_on R1 _ _ (emb_second a l)

theorem get_first (x : Vec Ideal S2x1024x128 .f32) (a : Fin 1024) (l : Fin 128) : Held.get R0 x (ix3 0 a l) = x (ix3 0 a l) :=
  get_on R0 x (emb_first a l)

theorem get_second (x : Vec Ideal S2x1024x128 .f32) (G : R0.shape.Idx → EReal) (a : Fin 1024) (l : Fin 128) :
    Held.get R1 (R0.overlay x G) (ix3 0 a l) = x (ix3 (1 : Fin 2) a l) :=
  (get_on R1 (R0.overlay x G) (emb_second a l)).trans (first_kept x G a l)

/-- Both heads' parts of a block, each changed by a sum over one more block of queries. -/
theorem both_gains {j b : ℕ} (hj : j * 1024 ≤ b * 512) {x : Vec Ideal S2x1024x128 .f32} {w0 w1 : Vec Ideal S1x1024x128 .f32 → FVec Ideal S1x1024x128 .f32}
    (f : Fin 2 → Fin 1024 → Fin 128 → ℕ → ℝ)
    (hx : ∀ h a l, x (ix3 h a l) = ((∑ t ∈ Finset.Ico (j * 1024) (b * 512), f h a l t : ℝ) : EReal))
    (h0 : ∀ y a l, w0 y (ix3 0 a l) = y (ix3 0 a l) + ((∑ r : Fin 512, f 0 a l (b * 512 + r.val) : ℝ) : EReal))
    (h1 : ∀ y a l, w1 y (ix3 0 a l) = y (ix3 0 a l) + ((∑ r : Fin 512, f 1 a l (b * 512 + r.val) : ℝ) : EReal))
    (h : Fin 2) (a : Fin 1024) (l : Fin 128) :
    both x w0 w1 (ix3 h a l) = ((∑ t ∈ Finset.Ico (j * 1024) ((b + 1) * 512), f h a l t : ℝ) : EReal) := by
  rw [← sum_block _ _ _ _ hj, EReal.coe_add, ← hx]
  rcases (show h = 0 ∨ h = 1 by omega) with rfl | rfl
  · rw [both_first, h0, get_first]
  · rw [both_second, h1, get_second]

variable {A} {dq0 : ℕ → Fin 128 → ℝ} {fq0 : Fin 2 → ℕ → ℝ} {j b : ℕ} {o : Own Ideal} {x : Rows Ideal} {s : St Ideal}

/-- A step's weights at real arguments. -/
theorem weight_real {k : FVec Ideal S1024x128 .bf16} {f : FVec Ideal S1024x1 .f32} {q : Vec Ideal S512x128 .bf16}
    {l : Vec Ideal S1x1x1x512 .f32} {a : Fin 1024} {r : Fin 512} {h : Fin 2} {n t : ℕ}
    (hk : ∀ j, k (ix2 a j) = (A.k h n j : EReal)) (hf : f (ix2 a (0 : Fin 1)) = (A.f h n : EReal))
    (hq : ∀ j, q (ix2 r j) = (A.q t j : EReal)) (hl : l (ix4 0 0 0 r) = (A.l h t : EReal)) :
    weight k f q l a r = ((Real.exp ((∑ j : Fin 128, A.k h n j * (A.q t j * (1 / 8))) - A.f h n - A.l h t) : ℝ) : EReal) := by
  unfold weight
  simp only [hk, hf, hq, hl, eighth_eq, ← EReal.coe_mul, coe_sum, ← EReal.coe_sub, Ideal.exp_coe]

theorem slope_real {p : Fin 1024 → Fin 512 → EReal} {v : FVec Ideal S1024x128 .bf16} {g : Vec Ideal S512x128 .bf16}
    {d : Vec Ideal S1x1x1x512 .f32} {a : Fin 1024} {r : Fin 512} {h : Fin 2} {n t : ℕ}
    (hp : p a r = (A.w h n t : EReal)) (hv : ∀ j, v (ix2 a j) = (A.v h n j : EReal))
    (hg : ∀ j, g (ix2 r j) = (A.g t j : EReal)) (hd : d (ix4 0 0 0 r) = (A.d h t : EReal)) :
    slope p v g d a r = (A.s h n t : EReal) := by
  unfold slope Pair.s
  simp only [hp, hv, hg, hd, ← EReal.coe_mul, coe_sum, ← EReal.coe_sub]

section
variable (hqb : ∀ a, ![b * 512, 0] a + S512x128.size a ≤ S16384x128.size a)
variable (h0 : ∀ a, ![0, b, 0, 0] a + S1x1x1x512.size a ≤ S2x32x1x512.size a)
variable (h1 : ∀ a, ![1, b, 0, 0] a + S1x1x1x512.size a ≤ S2x32x1x512.size a)

theorem emb_q (hb : b < 32) (r : Fin 512) (j' : Fin 128) :
    (RQ ![b * 512, 0] hqb).emb (ix2 r j') = ix2 (⟨b * 512 + r.val, by omega⟩ : Fin 16384) j' := by
  blk_ext []

theorem emb_0 (hb : b < 32) (r : Fin 512) : (RL ![0, b, 0, 0] h0).emb (ix4 0 0 0 r) = ix4 (0 : Fin 2) (⟨b, hb⟩ : Fin 32) 0 r := by
  blk_ext []

theorem emb_1 (hb : b < 32) (r : Fin 512) : (RL ![1, b, 0, 0] h1).emb (ix4 0 0 0 r) = ix4 (1 : Fin 2) (⟨b, hb⟩ : Fin 32) 0 r := by
  blk_ext []

/-- The second head's row does not see what is written of the first's. -/
theorem row_kept (x : Vec Ideal S2x32x1x512 .f32) (G : (RL ![0, b, 0, 0] h0).shape.Idx → EReal) (c : Fin 32) (r : Fin 512) :
    (RL ![0, b, 0, 0] h0).overlay x G (ix4 (1 : Fin 2) c 0 r) = x (ix4 (1 : Fin 2) c 0 r) := by
  refine Rect.overlay_of_not_mem _ _ _ fun hm => ?_
  rw [Rect.mem_set_unit] at hm
  have h2 := (hm (0 : Fin 4)).2
  have h3 : (1 : Fin 2).val < 0 + 1 := h2
  exact Nat.lt_irrefl _ h3

/-- The queries' rows, those of block `b` changed. -/
theorem rows_gain (hb : b < 32) {x : Vec Ideal S16384x128 .f32} {w : Vec Ideal S512x128 .f32 → FVec Ideal S512x128 .f32}
    {f g : ℕ → Fin 128 → ℝ}
    (hx : ∀ (t : Fin 16384) l, x (ix2 t l) = ((f t.val l + if j * 1024 ≤ t.val ∧ t.val < b * 512 then g t.val l else 0 : ℝ) : EReal))
    (hw : ∀ y r l, w y (ix2 r l) = y (ix2 r l) + (g (b * 512 + r.val) l : EReal)) (hj : j * 1024 ≤ b * 512) (t : Fin 16384) (l : Fin 128) :
    (RQ ![b * 512, 0] hqb).overlay x (w (Held.get (RQ ![b * 512, 0] hqb) x)) (ix2 t l)
      = ((f t.val l + if j * 1024 ≤ t.val ∧ t.val < (b + 1) * 512 then g t.val l else 0 : ℝ) : EReal) := by
  by_cases ht : b * 512 ≤ t.val ∧ t.val < (b + 1) * 512
  · obtain ⟨r, hr⟩ : ∃ r : Fin 512, t = (⟨b * 512 + r.val, by omega⟩ : Fin 16384) :=
      ⟨⟨t.val - b * 512, by omega⟩, Fin.ext (by show t.val = b * 512 + (t.val - b * 512); omega)⟩
    have ht' : t.val = b * 512 + r.val := congrArg Fin.val hr
    have e : (RQ ![b * 512, 0] hqb).emb (ix2 r l) = ix2 t l := by rw [hr]; exact emb_q hqb hb r l
    rw [overlay_on _ _ _ e, hw]
    unfold Held.get
    rw [e, hx, if_neg (fun h => absurd h.2 (by omega)), if_pos (by omega), add_zero, EReal.coe_add, ht']
  · have : (j * 1024 ≤ t.val ∧ t.val < b * 512) ↔ (j * 1024 ≤ t.val ∧ t.val < (b + 1) * 512) := by omega
    rw [← if_congr this rfl rfl, ← hx]
    exact overlay_off _ _ _ (0 : Fin 2) (show t.val < b * 512 ∨ b * 512 + 512 ≤ t.val by omega)

/-- The queries' gates' rows, both heads' of block `b` changed. -/
theorem row_gains (hb : b < 32) {x : Vec Ideal S2x32x1x512 .f32} {w0 w1 : Vec Ideal S1x1x1x512 .f32 → FVec Ideal S1x1x1x512 .f32}
    {f g : Fin 2 → ℕ → ℝ}
    (hx : ∀ h (c : Fin 32) (r : Fin 512), x (ix4 h c (0 : Fin 1) r) = ((f h (c.val * 512 + r.val)
      + if j * 1024 ≤ c.val * 512 + r.val ∧ c.val * 512 + r.val < b * 512 then g h (c.val * 512 + r.val) else 0 : ℝ) : EReal))
    (hw0 : ∀ y r, w0 y (ix4 0 0 0 r) = y (ix4 0 0 0 r) + (g 0 (b * 512 + r.val) : EReal))
    (hw1 : ∀ y r, w1 y (ix4 0 0 0 r) = y (ix4 0 0 0 r) + (g 1 (b * 512 + r.val) : EReal)) (hj : j * 1024 ≤ b * 512)
    (h : Fin 2) (c : Fin 32) (r : Fin 512) :
    (RL ![1, b, 0, 0] h1).overlay ((RL ![0, b, 0, 0] h0).overlay x (w0 (Held.get (RL ![0, b, 0, 0] h0) x)))
        (w1 (Held.get (RL ![1, b, 0, 0] h1) ((RL ![0, b, 0, 0] h0).overlay x (w0 (Held.get (RL ![0, b, 0, 0] h0) x))))) (ix4 h c (0 : Fin 1) r)
      = ((f h (c.val * 512 + r.val) + if j * 1024 ≤ c.val * 512 + r.val ∧ c.val * 512 + r.val < (b + 1) * 512
          then g h (c.val * 512 + r.val) else 0 : ℝ) : EReal) := by
  by_cases hcb : c.val = b
  · have hn : ¬(j * 1024 ≤ c.val * 512 + r.val ∧ c.val * 512 + r.val < b * 512) := by omega
    have hxe := hx h c r
    rw [if_neg hn, add_zero] at hxe
    rw [if_pos (by omega), EReal.coe_add, ← hxe]
    obtain rfl : c = ⟨b, hb⟩ := Fin.ext hcb
    rcases (show h = 0 ∨ h = 1 by omega) with rfl | rfl
    · refine (overlay_off _ _ _ (0 : Fin 4) (.inl (show (0 : ℕ) < 1 by decide))).trans ?_
      rw [overlay_on _ _ _ (emb_0 h0 hb r), hw0]
      unfold Held.get
      rw [emb_0 h0 hb r]
    · rw [overlay_on _ _ _ (emb_1 h1 hb r), hw1]
      unfold Held.get
      rw [emb_1 h1 hb r]
      rw [row_kept h0]
  · have : (j * 1024 ≤ c.val * 512 + r.val ∧ c.val * 512 + r.val < b * 512)
        ↔ (j * 1024 ≤ c.val * 512 + r.val ∧ c.val * 512 + r.val < (b + 1) * 512) := by omega
    rw [← if_congr this rfl rfl, ← hx]
    refine (overlay_off _ _ _ (1 : Fin 4) (show c.val < b ∨ b + 1 ≤ c.val by omega)).trans ?_
    exact overlay_off _ _ _ (1 : Fin 4) (show c.val < b ∨ b + 1 ≤ c.val by omega)

/-- One step: the block that has met the queries up to block `b` meets block `b`. -/
theorem met_step (hs : Met A dq0 fq0 j b s) (ho : OwnIs A j o) (hx : RowsAre A x) (hj : 2 * j ≤ b) (hb : b < 32) {ch : Change Ideal}
    {p0 p1 : Fin 1024 → Fin 512 → EReal}
    (hp0 : ∀ a r, p0 a r = (A.w 0 (j * 1024 + a.val) (b * 512 + r.val) : EReal))
    (hp1 : ∀ a r, p1 a r = (A.w 1 (j * 1024 + a.val) (b * 512 + r.val) : EReal))
    (hc : Adds ch o (Held.get (RQ ![b * 512, 0] hqb) x.q) (Held.get (RQ ![b * 512, 0] hqb) x.g)
      (Held.get (RL ![0, b, 0, 0] h0) x.d) (Held.get (RL ![1, b, 0, 0] h1) x.d) p0 p1) :
    Met A dq0 fq0 j (b + 1) (step ![b * 512, 0] hqb ![0, b, 0, 0] h0 ![1, b, 0, 0] h1 ch s) := by
  have hjb : j * 1024 ≤ b * 512 := by omega
  have hq (r : Fin 512) (l : Fin 128) : Held.get (RQ ![b * 512, 0] hqb) x.q (ix2 r l) = (A.q (b * 512 + r.val) l : EReal) := by
    unfold Held.get; rw [emb_q hqb hb]; exact hx.q _ _
  have hg (r : Fin 512) (l : Fin 128) : Held.get (RQ ![b * 512, 0] hqb) x.g (ix2 r l) = (A.g (b * 512 + r.val) l : EReal) := by
    unfold Held.get; rw [emb_q hqb hb]; exact hx.g _ _
  have hs0 (a : Fin 1024) (r : Fin 512) : slope p0 o.v0 (Held.get (RQ ![b * 512, 0] hqb) x.g) (Held.get (RL ![0, b, 0, 0] h0) x.d) a r
      = (A.s 0 (j * 1024 + a.val) (b * 512 + r.val) : EReal) :=
    slope_real (hp0 a r) (ho.v0 a) (hg r) (by unfold Held.get; rw [emb_0 h0 hb]; exact hx.d _ _ _)
  have hs1 (a : Fin 1024) (r : Fin 512) : slope p1 o.v1 (Held.get (RQ ![b * 512, 0] hqb) x.g) (Held.get (RL ![1, b, 0, 0] h1) x.d) a r
      = (A.s 1 (j * 1024 + a.val) (b * 512 + r.val) : EReal) :=
    slope_real (hp1 a r) (ho.v1 a) (hg r) (by unfold Held.get; rw [emb_1 h1 hb]; exact hx.d _ _ _)
  refine ⟨?_, ?_, ?_, ?_, ?_⟩
  · exact both_gains hjb (fun h a l t => A.w h (j * 1024 + a.val) t * A.g t l) hs.dv
      (fun y a l => by rw [hc.dv0]; simp only [hp0, hg, ← EReal.coe_mul, coe_sum])
      (fun y a l => by rw [hc.dv1]; simp only [hp1, hg, ← EReal.coe_mul, coe_sum])
  · exact both_gains hjb (fun h a l t => A.s h (j * 1024 + a.val) t * (A.q t l * (1 / 8))) hs.dk
      (fun y a l => by rw [hc.dk0]; simp only [hs0, hq, eighth_eq, ← EReal.coe_mul, coe_sum])
      (fun y a l => by rw [hc.dk1]; simp only [hs1, hq, eighth_eq, ← EReal.coe_mul, coe_sum])
  · exact both_gains hjb (fun h a l t => A.s h (j * 1024 + a.val) t) hs.df
      (fun y a l => by rw [hc.df0]; simp only [hs0, coe_sum])
      (fun y a l => by rw [hc.df1]; simp only [hs1, coe_sum])
  · exact rows_gain hqb hb (f := dq0) (g := fun t l => ∑ a : Fin 1024, A.c (j * 1024 + a.val) t l) hs.dq (hj := hjb) fun y r l => by
      rw [hc.dq]
      simp only [hs0, hs1, ho.kq0, ho.kq1, ← EReal.coe_mul, coe_sum, ← EReal.coe_add, ← Finset.sum_add_distrib]
      rfl
  · have e0 (y : Vec Ideal S1x1x1x512 .f32) (r : Fin 512) : ch.fq0 y (ix4 0 0 0 r) = y (ix4 0 0 0 r)
        + ((∑ a : Fin 1024, A.s 0 (j * 1024 + a.val) (b * 512 + r.val) : ℝ) : EReal) := by rw [hc.fq0]; simp only [hs0, coe_sum]
    have e1 (y : Vec Ideal S1x1x1x512 .f32) (r : Fin 512) : ch.fq1 y (ix4 0 0 0 r) = y (ix4 0 0 0 r)
        + ((∑ a : Fin 1024, A.s 1 (j * 1024 + a.val) (b * 512 + r.val) : ℝ) : EReal) := by rw [hc.fq1]; simp only [hs1, coe_sum]
    intro h c r
    have t := row_gains h0 h1 hb (f := fq0) (g := fun h t => ∑ a : Fin 1024, A.s h (j * 1024 + a.val) t) hs.dfq e0 e1 hjb h c r
    unfold step
    dsimp only at t ⊢
    exact t

end

end Cert.Fox
end
-- ==== Proof.FoxReal.lean ====
/- The attention's gradient at real arguments, in closed form, and a pair of heads' sums told by it. -/
module

public import proofs.«01_k».proof.Defs
public import proofs.«01_k».proof.Proof.FoxSum

@[expose] public section

set_option maxRecDepth 16384

noncomputable section

namespace Cert.Fox

open Finset

/-- Real arguments: queries, keys, values and the incoming gradient by place and column, the gates' running sums by
    place and head. -/
structure Args where
  q : ℕ → ℕ → ℝ
  k : ℕ → ℕ → ℝ
  v : ℕ → ℕ → ℝ
  g : ℕ → ℕ → ℝ
  F : ℕ → ℕ → ℝ

namespace Args

variable (R : Args)

/-- A head's product of two rows. -/
def dot (x y : ℕ → ℕ → ℝ) (h t s : ℕ) : ℝ := ∑ c : Fin 64, x t (h * 64 + c.val) * y s (h * 64 + c.val)

/-- The logit of query `t` at key `s`, without the query's own gate. -/
def logit (h t s : ℕ) : ℝ := dot R.q R.k h t s * (1 / 8) - R.F s h

/-- The sum of the exponentials of the logits a query sees. -/
def Z (h t : ℕ) : ℝ := ∑ s : Fin 16384, if s.val ≤ t then Real.exp (R.logit h t s.val) else 0

/-- The attention's weight. -/
def P (h t s : ℕ) : ℝ := if s ≤ t then Real.exp (R.logit h t s) / R.Z h t else 0

/-- The weight's gradient. -/
def dp (h t s : ℕ) : ℝ := dot R.g R.v h t s

/-- The weighted mean of the weights' gradients. -/
def D (h t : ℕ) : ℝ := ∑ s : Fin 16384, R.P h t s.val * R.dp h t s.val

/-- The logit's gradient. -/
def ds (h t s : ℕ) : ℝ := R.P h t s * (R.dp h t s - R.D h t)

/-- The gradients of queries, keys and values at a place and a column. -/
def dq (t C : ℕ) : ℝ := ∑ s : Fin 16384, R.ds (C / 64) t s.val * (R.k s.val C * (1 / 8))
def dk (s C : ℕ) : ℝ := ∑ t : Fin 16384, R.ds (C / 64) t.val s * (R.q t.val C * (1 / 8))
def dv (s C : ℕ) : ℝ := ∑ t : Fin 16384, R.P (C / 64) t.val s * R.g t.val C

/-- The sums of the logits' gradients over the queries of a key and over the keys of a query. -/
def fk (s h : ℕ) : ℝ := ∑ t : Fin 16384, R.ds h t.val s
def fq (t h : ℕ) : ℝ := ∑ s : Fin 16384, R.ds h t s.val

theorem Z_pos {h t : ℕ} (ht : t < 16384) : 0 < R.Z h t := by
  refine sum_pos' (fun s _ => ?_) ⟨⟨t, ht⟩, mem_univ _, ?_⟩
  · split
    · exact (Real.exp_pos _).le
    · exact le_rfl
  · rw [if_pos (le_refl t)]; exact Real.exp_pos _

theorem P_later {h t s : ℕ} (hl : ¬s ≤ t) : R.P h t s = 0 := if_neg hl
theorem ds_later {h t s : ℕ} (hl : ¬s ≤ t) : R.ds h t s = 0 := by rw [ds, P_later R hl, zero_mul]

/-- The pair of heads at columns `128 p`, each head's keys and values zero at the other's columns. -/
def pair (p : ℕ) : Pair where
  q t l := R.q t (p * 128 + l.val)
  g t l := R.g t (p * 128 + l.val)
  k h s l := if l.val / 64 = h.val then R.k s (p * 128 + l.val) else 0
  v h s l := if l.val / 64 = h.val then R.v s (p * 128 + l.val) else 0
  f h s := R.F s (2 * p + h.val)
  l h t := Real.log (R.Z (2 * p + h.val) t)
  d h t := R.D (2 * p + h.val) t

/-- A sum over a pair's columns that only one head's columns enter. -/
theorem sum_half (h : Fin 2) (f : ℕ → ℝ) : (∑ l : Fin 128, if l.val / 64 = h.val then f l.val else 0) = ∑ c : Fin 64, f (h.val * 64 + c.val) := by
  rw [← sum_range (fun l => if l / 64 = h.val then f l else 0), ← sum_range (fun c => f (h.val * 64 + c)),
    show (128 : ℕ) = 64 + 64 from rfl, sum_range_add]
  rcases (show h = 0 ∨ h = 1 by omega) with rfl | rfl
  · rw [sum_congr rfl fun c hc => if_pos (show c / 64 = (0 : Fin 2).val by have := mem_range.mp hc; show c / 64 = 0; omega),
      sum_congr (s₁ := range 64) rfl fun c hc => if_neg (show ¬(64 + c) / 64 = (0 : Fin 2).val by show ¬(64 + c) / 64 = 0; omega)]
    simp
  · rw [sum_congr rfl fun c hc => if_neg (show ¬c / 64 = (1 : Fin 2).val by have := mem_range.mp hc; show ¬c / 64 = 1; omega),
      sum_congr (s₁ := range 64) rfl fun c hc => if_pos (show (64 + c) / 64 = (1 : Fin 2).val by have := mem_range.mp hc; show (64 + c) / 64 = 1; omega)]
    simp

theorem pair_d (p : ℕ) (h : Fin 2) (t : ℕ) : (R.pair p).d h t = R.D (2 * p + h.val) t := by simp only [pair]

theorem pair_w (p : ℕ) (h : Fin 2) (s t : ℕ) (ht : t < 16384) : (R.pair p).w h s t = R.P (2 * p + h.val) t s := by
  unfold Pair.w P
  by_cases hl : s ≤ t
  · rw [if_pos hl, if_pos hl]
    have e : (∑ x : Fin 128, (R.pair p).k h s x * ((R.pair p).q t x * (1 / 8))) = dot R.q R.k (2 * p + h.val) t s * (1 / 8) := by
      rw [dot, sum_mul, show (∑ x : Fin 128, (R.pair p).k h s x * ((R.pair p).q t x * (1 / 8)))
          = ∑ l : Fin 128, if l.val / 64 = h.val then R.q t (p * 128 + l.val) * R.k s (p * 128 + l.val) * (1 / 8) else 0 from
        sum_congr rfl fun l _ => by
          show (if l.val / 64 = h.val then _ else _) * _ = _
          split <;> simp only [pair] <;> ring]
      rw [sum_half h (fun l => R.q t (p * 128 + l) * R.k s (p * 128 + l) * (1 / 8))]
      refine sum_congr rfl fun c _ => ?_
      rw [show p * 128 + (h.val * 64 + c.val) = (2 * p + h.val) * 64 + c.val by omega]
    rw [e]
    show Real.exp (dot R.q R.k (2 * p + h.val) t s * (1 / 8) - R.F s (2 * p + h.val) - Real.log (R.Z (2 * p + h.val) t)) = _
    rw [Real.exp_sub, Real.exp_log (R.Z_pos ht)]
    rfl
  · rw [if_neg hl, if_neg hl]

theorem pair_s (p : ℕ) (h : Fin 2) (s t : ℕ) (ht : t < 16384) : (R.pair p).s h s t = R.ds (2 * p + h.val) t s := by
  unfold Pair.s
  rw [pair_w R p h s t ht]
  have e : (∑ x : Fin 128, (R.pair p).v h s x * (R.pair p).g t x) = R.dp (2 * p + h.val) t s := by
    rw [dp, dot, show (∑ x : Fin 128, (R.pair p).v h s x * (R.pair p).g t x)
        = ∑ l : Fin 128, if l.val / 64 = h.val then R.g t (p * 128 + l.val) * R.v s (p * 128 + l.val) else 0 from
      sum_congr rfl fun l _ => by
        show (if l.val / 64 = h.val then _ else _) * _ = _
        split <;> simp only [pair] <;> ring]
    rw [sum_half h (fun l => R.g t (p * 128 + l) * R.v s (p * 128 + l))]
    refine sum_congr rfl fun c _ => ?_
    rw [show p * 128 + (h.val * 64 + c.val) = (2 * p + h.val) * 64 + c.val by omega]
  rw [e, ds, pair_d]

theorem pair_c (p : ℕ) (s t : ℕ) (ht : t < 16384) (l : Fin 128) :
    (R.pair p).c s t l = R.ds ((p * 128 + l.val) / 64) t s * (R.k s (p * 128 + l.val) * (1 / 8)) := by
  unfold Pair.c
  rw [pair_s R p 0 s t ht, pair_s R p 1 s t ht]
  show _ * ((if l.val / 64 = 0 then _ else _) * _) + _ * ((if l.val / 64 = 1 then _ else _) * _) = _
  rcases (show l.val / 64 = 0 ∨ l.val / 64 = 1 by omega) with e | e
  · rw [e, if_pos rfl, if_neg (by omega), show (p * 128 + l.val) / 64 = 2 * p + (0 : Fin 2).val by show _ = 2 * p + 0; omega]; ring
  · rw [e, if_pos rfl, if_neg (by omega), show (p * 128 + l.val) / 64 = 2 * p + (1 : Fin 2).val by show _ = 2 * p + 1; omega]; ring

/-- A sum over the places from a block's on is the sum over all places where the earlier places add nothing. -/
theorem sum_late (n : ℕ) (f : ℕ → ℝ) (h0 : ∀ t, t < n → f t = 0) : ∑ t ∈ Ico n 16384, f t = ∑ t : Fin 16384, f t.val := by
  rw [← sum_range f]
  refine sum_subset (fun t ht => mem_range.mpr (mem_Ico.mp ht).2) fun t ht hn => h0 t ?_
  have h1 := mem_range.mp ht
  by_contra hc
  exact hn (mem_Ico.mpr ⟨by omega, h1⟩)

/-- A block's key meets all the queries: the three sums of its pair. -/
theorem late_v (p n s : ℕ) (hs : n ≤ s) (h : Fin 2) (l : Fin 128) (hl : l.val / 64 = h.val) :
    ∑ t ∈ Ico n 16384, (R.pair p).w h s t * (R.pair p).g t l = R.dv s (p * 128 + l.val) := by
  rw [sum_congr rfl fun t ht => by rw [pair_w R p h s t (mem_Ico.mp ht).2]]
  rw [sum_late n (fun t => R.P (2 * p + h.val) t s * (R.pair p).g t l) fun t ht => by rw [P_later R (by omega), zero_mul],
    dv, show (p * 128 + l.val) / 64 = 2 * p + h.val by omega]
  rfl

theorem late_k (p n s : ℕ) (hs : n ≤ s) (h : Fin 2) (l : Fin 128) (hl : l.val / 64 = h.val) :
    ∑ t ∈ Ico n 16384, (R.pair p).s h s t * ((R.pair p).q t l * (1 / 8)) = R.dk s (p * 128 + l.val) := by
  rw [sum_congr rfl fun t ht => by rw [pair_s R p h s t (mem_Ico.mp ht).2]]
  rw [sum_late n (fun t => R.ds (2 * p + h.val) t s * ((R.pair p).q t l * (1 / 8))) fun t ht => by rw [ds_later R (by omega), zero_mul],
    dk, show (p * 128 + l.val) / 64 = 2 * p + h.val by omega]
  rfl

theorem late_f (p n s : ℕ) (hs : n ≤ s) (h : Fin 2) : ∑ t ∈ Ico n 16384, (R.pair p).s h s t = R.fk s (2 * p + h.val) := by
  rw [sum_congr rfl fun t ht => by rw [pair_s R p h s t (mem_Ico.mp ht).2]]
  rw [sum_late n (fun t => R.ds (2 * p + h.val) t s) fun t ht => ds_later R (by omega)]
  rfl

/-- A query has met all the keys: the two sums gathered over its pair. -/
theorem all_q (p t : ℕ) (ht : t < 16384) (l : Fin 128) : ∑ s ∈ range 16384, (R.pair p).c s t l = R.dq t (p * 128 + l.val) := by
  rw [sum_congr rfl fun s _ => pair_c R p s t ht l, sum_range]; rfl

theorem all_f (p t : ℕ) (ht : t < 16384) (h : Fin 2) : ∑ s ∈ range 16384, (R.pair p).s h s t = R.fq t (2 * p + h.val) := by
  rw [sum_congr rfl fun s _ => pair_s R p h s t ht, sum_range]; rfl

/-- A block's part of such a sum: nothing where the block lies after the query. -/
theorem block_part (f : ℕ → ℝ) (j t : ℕ) (hf : ∀ s, t < s → f s = 0) (ht : t < 16384) :
    (∑ s ∈ range (j * 1024), f s) + (if j * 1024 ≤ t ∧ t < 32 * 512 then ∑ a : Fin 1024, f (j * 1024 + a.val) else 0)
      = ∑ s ∈ range ((j + 1) * 1024), f s := by
  rw [show (j + 1) * 1024 = j * 1024 + 1024 by ring, sum_range_add]
  congr 1
  split
  · rw [← sum_range (fun a => f (j * 1024 + a))]
  · exact (sum_eq_zero fun a _ => hf _ (by omega)).symm

end Args

end Cert.Fox

end
-- ==== Proof.FoxSoft.lean ====
/- A row of logits of which the later ones are minus infinity: its greatest, its exponentials and their sum are reals. -/
module

public import proofs.«01_k».proof.Defs
public import proofs.«01_k».proof.Proof.FoxHost
public import proofs.«01_k».proof.Proof.FoxReal

@[expose] public section

set_option maxRecDepth 16384

noncomputable section

namespace Cert.Fox

open Cert.DfoxIdeal Cert.DfoxIdeal.Gen Idealize.ShloMosaic Idealize.ShloMosaic.TcCoe

/-- Real arguments behind the arrays. -/
structure ArgsAre (R : Args) (q k v g : FVec Ideal S16384x512 .f32) (f : FVec Ideal S16384x8 .f32) : Prop where
  q : ∀ (t : Fin 16384) (C : Fin 512), q (ix2 t C) = (R.q t.val C.val : EReal)
  k : ∀ (t : Fin 16384) (C : Fin 512), k (ix2 t C) = (R.k t.val C.val : EReal)
  v : ∀ (t : Fin 16384) (C : Fin 512), v (ix2 t C) = (R.v t.val C.val : EReal)
  g : ∀ (t : Fin 16384) (C : Fin 512), g (ix2 t C) = (R.g t.val C.val : EReal)
  f : ∀ (t : Fin 16384) (h : Fin 8), f (ix2 t h) = (R.F t.val h.val : EReal)

/-! ### Constants -/

theorem least_eq : Ideal.ofBits .f32 0xFF800000#32 = ⊥ := by
  simp [Ideal.ofBits, Ideal.ieee]

theorem eighth32_eq : Ideal.ofBits .f32 0x3E000000#32 = ((1 / 8 : ℝ) : EReal) := by
  simp [Ideal.ofBits, Ideal.ieee]
  rw [← EReal.coe_mul]; norm_num

theorem sees_eq (t s : Fin 16384) : IntOp.cmpi .sle (BitVec.ofNat 32 s.val) (BitVec.ofNat 32 t.val) = if s.val ≤ t.val then 1#1 else 0#1 := by
  by_cases h : s.val ≤ t.val
  · rw [if_pos h]; exact (WordCmp.cmpi_sle_ofNat_eq_one_iff (by have := s.isLt; omega) (by have := t.isLt; omega)).mpr h
  · rw [if_neg h]; exact (WordCmp.cmpi_sle_ofNat_eq_zero_iff (by have := s.isLt; omega) (by have := t.isLt; omega)).mpr (by omega)

theorem pick (p : Prop) [Decidable p] (x y : EReal) : Scalar.select (if p then 1#1 else 0#1) x y = if p then x else y := by
  by_cases h : p
  · rw [if_pos h, if_pos h]; rfl
  · rw [if_neg h, if_neg h]; rfl

/-! ### A row -/

/-- A row's greatest entry is a real. -/
theorem top_real (X : Fin 16384 → EReal) (t : Fin 16384) (x : ℕ → ℝ) (hX : ∀ s : Fin 16384, X s = if s.val ≤ t.val then (x s.val : EReal) else ⊥) :
    ∃ μ : ℝ, Finset.fold max ⊥ X Finset.univ = (μ : EReal) := by
  have hb : Finset.fold max ⊥ X Finset.univ ≠ ⊥ := by
    intro h
    have : X t ≤ ⊥ := h ▸ (Finset.le_sup (f := X) (Finset.mem_univ t) : X t ≤ Finset.univ.sup X)
    rw [hX t, if_pos (le_refl _)] at this
    exact absurd (le_bot_iff.mp this) (EReal.coe_ne_bot _)
  have ht : Finset.fold max ⊥ X Finset.univ ≠ ⊤ := by
    refine ne_of_lt ((Finset.sup_lt_iff (f := X) bot_lt_top).mpr fun s _ => ?_)
    rw [hX s]; split
    · exact EReal.coe_lt_top _
    · exact bot_lt_top
  exact ⟨_, (EReal.coe_toReal ht hb).symm⟩

/-- The exponential of an entry less a real. -/
theorem exp_row (p : Prop) [Decidable p] (x μ : ℝ) : Ideal.exp ((if p then (x : EReal) else ⊥) - (μ : EReal)) = ((if p then Real.exp (x - μ) else 0 : ℝ) : EReal) := by
  split
  · rw [← EReal.coe_sub, Ideal.exp_coe]
  · rw [EReal.bot_sub, Ideal.exp_bot, EReal.coe_zero]

/-- The sum of a row's exponentials, the logits told up to a shift. -/
theorem sum_row (R : Args) (h t : ℕ) (β : ℝ) : (∑ s : Fin 16384, if s.val ≤ t then Real.exp (R.logit h t s.val + β) else 0) = R.Z h t * Real.exp β := by
  rw [Args.Z, Finset.sum_mul]
  refine Finset.sum_congr rfl fun s _ => ?_
  split
  · rw [Real.exp_add]
  · rw [zero_mul]

/-- An exponential over the row's sum is the weight, whatever the shift. -/
theorem weight_row (R : Args) (h t s : ℕ) (β : ℝ) : (if s ≤ t then Real.exp (R.logit h t s + β) else 0) * (1 / (R.Z h t * Real.exp β)) = R.P h t s := by
  rw [Args.P]
  split
  · rw [Real.exp_add, one_div, mul_inv]
    have := Real.exp_ne_zero β
    field_simp
  · rw [zero_mul]

/-! ### The lines at real arguments -/

variable {R : Args} {q k v g : FVec Ideal S16384x512 .f32} {f : FVec Ideal S16384x8 .f32}

theorem dot_real {x y : FVec Ideal S16384x512 .f32} {a b : ℕ → ℕ → ℝ} (hx : ∀ (t : Fin 16384) (C : Fin 512), x (ix2 t C) = (a t.val C.val : EReal))
    (hy : ∀ (t : Fin 16384) (C : Fin 512), y (ix2 t C) = (b t.val C.val : EReal)) (h : Fin 8) (t s : Fin 16384) :
    (∑ c : Fin 64, x (ix2 t ⟨h.val * 64 + c.val, by omega⟩) * y (ix2 s ⟨h.val * 64 + c.val, by omega⟩)) = (Args.dot a b h.val t.val s.val : EReal) := by
  rw [Args.dot, ← coe_sum]
  exact Finset.sum_congr rfl fun c _ => by rw [hx, hy, ← EReal.coe_mul]

theorem hS_real (hR : ArgsAre R q k v g f) (h : Fin 8) (t s : Fin 16384) :
    hS q k f (ix3 h t s) = if s.val ≤ t.val then (R.logit h.val t.val s.val : EReal) else ⊥ := by
  have e := dot_real hR.q hR.k h t s
  pointwise [hS]
  rw [sees_eq t s, pick, eighth32_eq, hR.f, e, ← EReal.coe_mul, ← EReal.coe_sub]
  exact congrArg (fun z => if s.val ≤ t.val then (R.logit h.val t.val s.val : EReal) else z) least_eq

theorem hM_real (hR : ArgsAre R q k v g f) (h : Fin 8) (t : Fin 16384) : ∃ μ : ℝ, hM q k f (ix3 h t (0 : Fin 1)) = (μ : EReal) := by
  obtain ⟨μ, e⟩ := top_real (fun s => hS q k f (ix3 h t s)) t (fun s => R.logit h.val t.val s) (fun s => hS_real hR h t s)
  refine ⟨μ, ?_⟩
  pointwise [hM]
  rw [least_eq]; exact e

theorem hE_real (hR : ArgsAre R q k v g f) {h : Fin 8} {t : Fin 16384} {μ : ℝ} (hμ : hM q k f (ix3 h t (0 : Fin 1)) = (μ : EReal)) (s : Fin 16384) :
    hE q k f (ix3 h t s) = ((if s.val ≤ t.val then Real.exp (R.logit h.val t.val s.val + -μ) else 0 : ℝ) : EReal) := by
  have e := hS_real hR h t s
  pointwise [hE]
  rw [hμ, e, exp_row, sub_eq_add_neg]

theorem hL_real (hR : ArgsAre R q k v g f) {h : Fin 8} {t : Fin 16384} {μ : ℝ} (hμ : hM q k f (ix3 h t (0 : Fin 1)) = (μ : EReal)) :
    hL q k f (ix3 h t (0 : Fin 1)) = ((R.Z h.val t.val * Real.exp (-μ) : ℝ) : EReal) := by
  have e := fun s => hE_real hR hμ s
  rw [← sum_row, ← coe_sum]
  pointwise [hL]
  exact Finset.sum_congr rfl fun s _ => e s

theorem rows_apply (M L : FVec Ideal S8x16384x1 .f32) (h : Fin 8) (b : Fin 32) (r : Fin 512) :
    shapeCast S8x32x1x512 (shapeCast S8x16384 (addf M (Host.log L)) shapeCasts_S8x16384x1_S8x16384) shapeCasts_S8x16384_S8x32x1x512 (ix4 h b (0 : Fin 1) r)
      = M (ix3 h (⟨b.val * 512 + r.val, by omega⟩ : Fin 16384) (0 : Fin 1))
      + Ideal.log (L (ix3 h (⟨b.val * 512 + r.val, by omega⟩ : Fin 16384) (0 : Fin 1))) := by
  pointwise

theorem hLse_apply (q k : FVec Ideal S16384x512 .f32) (f : FVec Ideal S16384x8 .f32) (h : Fin 8) (b : Fin 32) (r : Fin 512) :
    hLse q k f (ix4 h b (0 : Fin 1) r) = hM q k f (ix3 h (⟨b.val * 512 + r.val, by omega⟩ : Fin 16384) (0 : Fin 1))
      + Ideal.log (hL q k f (ix3 h (⟨b.val * 512 + r.val, by omega⟩ : Fin 16384) (0 : Fin 1))) := by
  rw [hLse]; exact rows_apply _ _ h b r

/-- The log-sum: the shift goes. -/
theorem hLse_at (hR : ArgsAre R q k v g f) (h : Fin 8) (t : Fin 16384) :
    hM q k f (ix3 h t (0 : Fin 1)) + Ideal.log (hL q k f (ix3 h t (0 : Fin 1))) = (Real.log (R.Z h.val t.val) : EReal) := by
  obtain ⟨μ, hμ⟩ := hM_real hR h t
  have hz := R.Z_pos (h := h.val) t.isLt
  have e : μ + Real.log (R.Z h.val t.val * Real.exp (-μ)) = Real.log (R.Z h.val t.val) := by
    rw [Real.log_mul hz.ne' (Real.exp_ne_zero _), Real.log_exp]; ring
  rw [hL_real hR hμ, hμ, Ideal.log_coe, if_neg (not_le.mpr (mul_pos hz (Real.exp_pos _))), ← EReal.coe_add, e]

theorem hLse_real (hR : ArgsAre R q k v g f) (h : Fin 8) (b : Fin 32) (r : Fin 512) :
    hLse q k f (ix4 h b (0 : Fin 1) r) = (Real.log (R.Z h.val (b.val * 512 + r.val)) : EReal) :=
  (hLse_apply q k f h b r).trans (hLse_at hR h _)

theorem hPad_real (hR : ArgsAre R q k v g f) (t : Fin 16384) (l : Fin 128) (hl : l.val < 8) : hPad f (ix2 t l) = (R.F t.val l.val : EReal) := by
  have e := hR.f t ⟨l.val, hl⟩
  pointwise [hPad]
  rw [dif_pos hl, e]

theorem hQkv_q (hR : ArgsAre R q k v g f) (t : Fin 16384) (l : Fin 512) : hQkv q k v (ix2 t (⟨l.val, by omega⟩ : Fin 1536)) = (R.q t.val l.val : EReal) := by
  rw [← hR.q t l]
  pointwise [hQkv]
theorem hQkv_k (hR : ArgsAre R q k v g f) (t : Fin 16384) (l : Fin 512) : hQkv q k v (ix2 t (⟨512 + l.val, by omega⟩ : Fin 1536)) = (R.k t.val l.val : EReal) := by
  rw [← hR.k t l]
  pointwise [hQkv]
theorem hQkv_v (hR : ArgsAre R q k v g f) (t : Fin 16384) (l : Fin 512) : hQkv q k v (ix2 t (⟨1024 + l.val, by omega⟩ : Fin 1536)) = (R.v t.val l.val : EReal) := by
  rw [← hR.v t l]
  pointwise [hQkv]
  rw [dif_neg (show ¬1024 + l.val < 512 by omega), dif_neg (show ¬1024 + l.val - 512 < 512 by omega)]
  exact congrArg (fun z => v (ix2 t z)) (Fin.ext (show 1024 + l.val - 512 - 512 = l.val by omega))

end Cert.Fox

end
-- ==== Proof.FoxDot.lean ====
/- The weighted mean of the weights' gradients, as the host lines compute it: through the attention's result. -/
module

public import proofs.«01_k».proof.Defs
public import proofs.«01_k».proof.Proof.FoxSoft

@[expose] public section

set_option maxRecDepth 16384

noncomputable section

namespace Cert.Fox

open Cert.DfoxIdeal Cert.DfoxIdeal.Gen Idealize.ShloMosaic Idealize.ShloMosaic.TcCoe

theorem dotO (x : FVec Ideal S16384x8x64 .f32) (y : FVec Ideal S8x16384x16384 .f32) (h : Fin 8) (c : Fin 64) (t : Fin 16384) :
    Host.dotGeneral dot_S16384x8x64_S8x16384x16384_S8x64x16384_0_2_2_1_1_0 none x y (ix3 h c t) = ∑ s : Fin 16384, x (ix3 s h c) * y (ix3 h t s) := by
  have l1 : ∀ (i : S8x64x16384.Idx) (q : dot_S16384x8x64_S8x16384x16384_S8x64x16384_0_2_2_1_1_0.contr.Idx), (dot_S16384x8x64_S8x16384x16384_S8x64x16384_0_2_2_1_1_0.lhsIdx i q 1).val = (i 0).val := fun i q => by
    unfold DotDims.lhsIdx
    rw [dif_pos (show (1 : Fin S16384x8x64.rank) ∈ dot_S16384x8x64_S8x16384x16384_S8x64x16384_0_2_2_1_1_0.lhsBatch by decide)]; rfl
  have l2 : ∀ (i : S8x64x16384.Idx) (q : dot_S16384x8x64_S8x16384x16384_S8x64x16384_0_2_2_1_1_0.contr.Idx), (dot_S16384x8x64_S8x16384x16384_S8x64x16384_0_2_2_1_1_0.lhsIdx i q 2).val = (i 1).val := fun i q => by
    unfold DotDims.lhsIdx
    rw [dif_neg (show ¬(2 : Fin S16384x8x64.rank) ∈ dot_S16384x8x64_S8x16384x16384_S8x64x16384_0_2_2_1_1_0.lhsBatch by decide),
      dif_pos (show (2 : Fin S16384x8x64.rank) ∈ dot_S16384x8x64_S8x16384x16384_S8x64x16384_0_2_2_1_1_0.lhsNonContracting by decide)]; rfl
  have r0 : ∀ (i : S8x64x16384.Idx) (q : dot_S16384x8x64_S8x16384x16384_S8x64x16384_0_2_2_1_1_0.contr.Idx), (dot_S16384x8x64_S8x16384x16384_S8x64x16384_0_2_2_1_1_0.rhsIdx i q 0).val = (i 0).val := fun i q => by
    unfold DotDims.rhsIdx
    rw [dif_pos (show (0 : Fin S8x16384x16384.rank) ∈ dot_S16384x8x64_S8x16384x16384_S8x64x16384_0_2_2_1_1_0.rhsBatch by decide)]; rfl
  have r1 : ∀ (i : S8x64x16384.Idx) (q : dot_S16384x8x64_S8x16384x16384_S8x64x16384_0_2_2_1_1_0.contr.Idx), (dot_S16384x8x64_S8x16384x16384_S8x64x16384_0_2_2_1_1_0.rhsIdx i q 1).val = (i 2).val := fun i q => by
    unfold DotDims.rhsIdx
    rw [dif_neg (show ¬(1 : Fin S8x16384x16384.rank) ∈ dot_S16384x8x64_S8x16384x16384_S8x64x16384_0_2_2_1_1_0.rhsBatch by decide),
      dif_pos (show (1 : Fin S8x16384x16384.rank) ∈ dot_S16384x8x64_S8x16384x16384_S8x64x16384_0_2_2_1_1_0.rhsNonContracting by decide)]; rfl
  have hq := ValueIdx.contrEquiv1_symm_val dot_S16384x8x64_S8x16384x16384_S8x64x16384_0_2_2_1_1_0 16384 rfl rfl
  have hl : ∀ (i : S8x64x16384.Idx) (s : Fin 16384), dot_S16384x8x64_S8x16384x16384_S8x64x16384_0_2_2_1_1_0.lhsIdx i ((ValueIdx.contrEquiv1 dot_S16384x8x64_S8x16384x16384_S8x64x16384_0_2_2_1_1_0 16384 rfl rfl).symm s) = ix3 s (i 0) (i 1) :=
    fun i s => funext fun a => Fin.ext (by
      match a with
      | ⟨0, _⟩ => exact (dot_S16384x8x64_S8x16384x16384_S8x64x16384_0_2_2_1_1_0.lhsIdx_val_of_single rfl i _).trans (hq s)
      | ⟨1, _⟩ => exact l1 _ _
      | ⟨2, _⟩ => exact l2 _ _)
  have hr : ∀ (i : S8x64x16384.Idx) (s : Fin 16384), dot_S16384x8x64_S8x16384x16384_S8x64x16384_0_2_2_1_1_0.rhsIdx i ((ValueIdx.contrEquiv1 dot_S16384x8x64_S8x16384x16384_S8x64x16384_0_2_2_1_1_0 16384 rfl rfl).symm s) = ix3 (i 0) (i 2) s :=
    fun i s => funext fun a => Fin.ext (by
      match a with
      | ⟨0, _⟩ => exact r0 _ _
      | ⟨1, _⟩ => exact r1 _ _
      | ⟨2, _⟩ => exact (dot_S16384x8x64_S8x16384x16384_S8x64x16384_0_2_2_1_1_0.rhsIdx_val_of_single rfl i _).trans (hq s))
  simp only [Host.dotGeneral]
  rw [Ideal.dotGeneral_apply, ← Equiv.sum_comp (ValueIdx.contrEquiv1 dot_S16384x8x64_S8x16384x16384_S8x64x16384_0_2_2_1_1_0 16384 rfl rfl).symm]
  refine Finset.sum_congr rfl fun s _ => ?_
  rw [hl, hr]
  rfl

theorem hO_apply (q k v : FVec Ideal S16384x512 .f32) (f : FVec Ideal S16384x8 .f32) (t : Fin 16384) (h : Fin 8) (c : Fin 64) :
    hO q k v f (ix3 t h c) = ∑ s : Fin 16384, v (ix2 s ⟨h.val * 64 + c.val, by omega⟩) * Ideal.div (hE q k f (ix3 h t s)) (hL q k f (ix3 h t (0 : Fin 1))) := by
  rw [hO]
  refine Eq.trans ?_ ((dotO (shapeCast _ v shapeCasts_S16384x512_S16384x8x64) (Host.divf (hE q k f) (broadcastInDim S8x16384x16384 ![0, 1, 2] bcast_S8x16384x1_S8x16384x16384_0_1_2 (hL q k f))) h c t).trans ?_)
  · pointwise []
  · refine Finset.sum_congr rfl fun s _ => ?_
    pointwise []

theorem hD_apply (q k v : FVec Ideal S16384x512 .f32) (f : FVec Ideal S16384x8 .f32) (g : FVec Ideal S16384x512 .f32) (h : Fin 8) (b : Fin 32) (r : Fin 512) :
    hD q k v f g (ix4 h b (0 : Fin 1) r) = ∑ c : Fin 64, g (ix2 ⟨b.val * 512 + r.val, by omega⟩ ⟨h.val * 64 + c.val, by omega⟩) * hO q k v f (ix3 (⟨b.val * 512 + r.val, by omega⟩ : Fin 16384) h c) := by
  pointwise [hD]

variable {R : Args} {q k v g : FVec Ideal S16384x512 .f32} {f : FVec Ideal S16384x8 .f32}

theorem hO_real (hR : ArgsAre R q k v g f) (t : Fin 16384) (h : Fin 8) (c : Fin 64) :
    hO q k v f (ix3 t h c) = ((∑ s : Fin 16384, R.v s.val (h.val * 64 + c.val) * R.P h.val t.val s.val : ℝ) : EReal) := by
  obtain ⟨μ, hμ⟩ := hM_real hR h t
  have hz := R.Z_pos (h := h.val) t.isLt
  rw [hO_apply, ← coe_sum]
  refine Finset.sum_congr rfl fun s _ => ?_
  rw [hR.v, hE_real hR hμ, hL_real hR hμ, Ideal.div_coe (mul_pos hz (Real.exp_pos _)).ne', ← EReal.coe_mul, ← EReal.coe_mul, weight_row]

theorem hD_at (hR : ArgsAre R q k v g f) (h : Fin 8) (t : Fin 16384) :
    (∑ c : Fin 64, g (ix2 t ⟨h.val * 64 + c.val, by omega⟩) * hO q k v f (ix3 t h c)) = (R.D h.val t.val : EReal) := by
  have e : R.D h.val t.val = ∑ c : Fin 64, R.g t.val (h.val * 64 + c.val) * ∑ s : Fin 16384, R.v s.val (h.val * 64 + c.val) * R.P h.val t.val s.val := by
    rw [Args.D]
    simp only [Args.dp, Args.dot, Finset.mul_sum]
    rw [Finset.sum_comm]
    exact Finset.sum_congr rfl fun c _ => Finset.sum_congr rfl fun s _ => by ring
  rw [e, ← coe_sum]
  exact Finset.sum_congr rfl fun c _ => by rw [hR.g, hO_real hR, ← EReal.coe_mul]

theorem hD_real (hR : ArgsAre R q k v g f) (h : Fin 8) (b : Fin 32) (r : Fin 512) :
    hD q k v f g (ix4 h b (0 : Fin 1) r) = (R.D h.val (b.val * 512 + r.val) : EReal) :=
  (hD_apply q k v f g h b r).trans (hD_at hR h _)

end Cert.Fox

end
-- ==== Proof.FoxPair.lean ====
/- All the steps of a point of the attention's gradient at real arguments. -/
module

public import proofs.«01_k».proof.Defs
public import proofs.«01_k».proof.Proof.FoxSum

@[expose] public section

set_option maxRecDepth 16384

noncomputable section

namespace Cert.Fox

open Cert.DfoxIdeal Cert.DfoxIdeal.Gen Idealize.ShloMosaic Idealize.ShloMosaic.TcCoe
open Cert.Held

/-! ### The steps' places -/

theorem off1 : ∀ (i : grid0.Coords) (n : Fin 2), k0_off1 i (BitVec.ofNat 32 n.val) = ![(2 * (i 1).val + n.val) * 512, 0] := by decide +kernel
theorem off2 : ∀ (i : grid0.Coords) (n : Fin 2), k0_off2 i (BitVec.ofNat 32 n.val) = ![0, 2 * (i 1).val + n.val, 0, 0] := by decide +kernel
theorem off3 : ∀ (i : grid0.Coords) (n : Fin 2), k0_off3 i (BitVec.ofNat 32 n.val) = ![1, 2 * (i 1).val + n.val, 0, 0] := by decide +kernel
theorem off4 : ∀ (i : grid0.Coords) (t : Fin (k0_t1_loop i).trips), k0_off4 i t = ![(2 * (i 1).val + 2 + t.val) * 512, 0] := by decide +kernel
theorem off5 : ∀ (i : grid0.Coords) (t : Fin (k0_t1_loop i).trips), k0_off5 i t = ![0, 2 * (i 1).val + 2 + t.val, 0, 0] := by decide +kernel
theorem off6 : ∀ (i : grid0.Coords) (t : Fin (k0_t1_loop i).trips), k0_off6 i t = ![1, 2 * (i 1).val + 2 + t.val, 0, 0] := by decide +kernel
theorem trips_eq : ∀ i : grid0.Coords, 2 * (i 1).val + 2 + (k0_t1_loop i).trips = 32 := by decide +kernel
theorem key_lt : ∀ i : grid0.Coords, (i 1).val < 16 := by decide +kernel

variable {A : Pair} {dq0 : ℕ → Fin 128 → ℝ} {fq0 : Fin 2 → ℕ → ℝ} {j b : ℕ} {o : Own Ideal} {x : Rows Ideal} {s : St Ideal}

/-- One step at the offsets of block `b`, whatever its change's weights are written as. -/
theorem met_at {oq : Fin 2 → ℕ} {hq} {o0 : Fin 4 → ℕ} {h0} {o1 : Fin 4 → ℕ} {h1} (eq : oq = ![b * 512, 0]) (e0 : o0 = ![0, b, 0, 0])
    (e1 : o1 = ![1, b, 0, 0]) (hs : Met A dq0 fq0 j b s) (ho : OwnIs A j o) (hx : RowsAre A x) (hj : 2 * j ≤ b) (hb : b < 32) {ch : Change Ideal}
    {p0 p1 : Fin 1024 → Fin 512 → EReal}
    (hp0 : ∀ a r, p0 a r = (A.w 0 (j * 1024 + a.val) (b * 512 + r.val) : EReal))
    (hp1 : ∀ a r, p1 a r = (A.w 1 (j * 1024 + a.val) (b * 512 + r.val) : EReal))
    (hc : Adds ch o (Held.get (RQ oq hq) x.q) (Held.get (RQ oq hq) x.g) (Held.get (RL o0 h0) x.d) (Held.get (RL o1 h1) x.d) p0 p1) :
    Met A dq0 fq0 j (b + 1) (step oq hq o0 h0 o1 h1 ch s) := by
  subst eq e0 e1
  exact met_step hq h0 h1 hs ho hx hj hb hp0 hp1 hc

theorem weight0 {oq : Fin 2 → ℕ} {hq} {o0 : Fin 4 → ℕ} {h0} (eq : oq = ![b * 512, 0]) (e0 : o0 = ![0, b, 0, 0]) (ho : OwnIs A j o) (hx : RowsAre A x)
    (hb : b < 32) (a : Fin 1024) (r : Fin 512) (hv : j * 1024 + a.val ≤ b * 512 + r.val) :
    weight o.k0 o.f0 (Held.get (RQ oq hq) x.q) (Held.get (RL o0 h0) x.l) a r = (A.w 0 (j * 1024 + a.val) (b * 512 + r.val) : EReal) := by
  subst eq e0
  rw [Pair.w, if_pos hv]
  exact weight_real (ho.k0 a) (ho.f0 a) (fun l => (get_on _ _ (emb_q hq hb r l)).trans (hx.q _ _)) ((get_on _ _ (emb_0 h0 hb r)).trans (hx.l _ _ _))

theorem weight1 {oq : Fin 2 → ℕ} {hq} {o1 : Fin 4 → ℕ} {h1} (eq : oq = ![b * 512, 0]) (e1 : o1 = ![1, b, 0, 0]) (ho : OwnIs A j o) (hx : RowsAre A x)
    (hb : b < 32) (a : Fin 1024) (r : Fin 512) (hv : j * 1024 + a.val ≤ b * 512 + r.val) :
    weight o.k1 o.f1 (Held.get (RQ oq hq) x.q) (Held.get (RL o1 h1) x.l) a r = (A.w 1 (j * 1024 + a.val) (b * 512 + r.val) : EReal) := by
  subst eq e1
  rw [Pair.w, if_pos hv]
  exact weight_real (ho.k1 a) (ho.f1 a) (fun l => (get_on _ _ (emb_q hq hb r l)).trans (hx.q _ _)) ((get_on _ _ (emb_1 h1 hb r)).trans (hx.l _ _ _))

/-- On the diagonal the struck weights are the pair's, zero where the key is later. -/
theorem upto_eq {d : ℕ} {h : Fin 2} {p : Fin 1024 → Fin 512 → EReal} (a : Fin 1024) (r : Fin 512)
    (hp : j * 1024 + a.val ≤ (2 * j + d) * 512 + r.val → p a r = (A.w h (j * 1024 + a.val) ((2 * j + d) * 512 + r.val) : EReal)) :
    upto d p a r = (A.w h (j * 1024 + a.val) ((2 * j + d) * 512 + r.val) : EReal) := by
  unfold upto
  by_cases hv : sees d a r
  · rw [if_pos hv]; exact hp (by unfold sees at hv; omega)
  · rw [if_neg hv, Pair.w, if_neg (by unfold sees at hv; omega), EReal.coe_zero]

variable {i : grid0.Coords}

theorem met_diag0 (hs : Met A dq0 fq0 (i 1).val (2 * (i 1).val) s) (ho : OwnIs A (i 1).val o) (hx : RowsAre A x) :
    Met A dq0 fq0 (i 1).val (2 * (i 1).val + 1) (stepDiag0 i o x s) :=
  have hb : 2 * (i 1).val + 0 < 32 := by have := key_lt i; omega
  met_at (b := 2 * (i 1).val + 0) (off1 i 0) (off2 i 0) (off3 i 0) hs ho hx (Nat.le_refl _) hb
    (fun a r => upto_eq (d := 0) a r (weight0 (off1 i 0) (off2 i 0) ho hx hb a r))
    (fun a r => upto_eq (d := 0) a r (weight1 (off1 i 0) (off3 i 0) ho hx hb a r)) (diag0_adds o _ _ _ _ _ _ i)

theorem met_diag1 (hs : Met A dq0 fq0 (i 1).val (2 * (i 1).val + 1) s) (ho : OwnIs A (i 1).val o) (hx : RowsAre A x) :
    Met A dq0 fq0 (i 1).val (2 * (i 1).val + 2) (stepDiag1 i o x s) :=
  have hb : 2 * (i 1).val + 1 < 32 := by have := key_lt i; omega
  met_at (b := 2 * (i 1).val + 1) (off1 i 1) (off2 i 1) (off3 i 1) hs ho hx (Nat.le_succ _) hb
    (fun a r => upto_eq (d := 1) a r (weight0 (off1 i 1) (off2 i 1) ho hx hb a r))
    (fun a r => upto_eq (d := 1) a r (weight1 (off1 i 1) (off3 i 1) ho hx hb a r)) (diag1_adds o _ _ _ _ _ _ i)

theorem met_after (t : Fin (k0_t1_loop i).trips) (hs : Met A dq0 fq0 (i 1).val (2 * (i 1).val + 2 + t.val) s) (ho : OwnIs A (i 1).val o)
    (hx : RowsAre A x) : Met A dq0 fq0 (i 1).val (2 * (i 1).val + 2 + t.val + 1) (stepAfter i o x t s) :=
  have hb : 2 * (i 1).val + 2 + t.val < 32 := by have := trips_eq i; have := t.isLt; omega
  met_at (off4 i t) (off5 i t) (off6 i t) hs ho hx (by omega) hb
    (fun a r => weight0 (off4 i t) (off5 i t) ho hx hb a r (by omega))
    (fun a r => weight1 (off4 i t) (off6 i t) ho hx hb a r (by omega)) (after_adds o _ _ _ _ _ _)

theorem met_trips (hs : Met A dq0 fq0 (i 1).val (2 * (i 1).val + 2) s) (ho : OwnIs A (i 1).val o) (hx : RowsAre A x) (n : ℕ)
    (hn : n ≤ (k0_t1_loop i).trips) : Met A dq0 fq0 (i 1).val (2 * (i 1).val + 2 + n) (trips i o x s n) := by
  induction n with
  | zero => exact hs
  | succ n ih =>
    have := met_after ⟨n, hn⟩ (ih (Nat.le_of_succ_le hn)) ho hx
    rw [trips_succ i o x s ⟨n, hn⟩]
    exact this

/-- A point's arrays: its block has met every query. -/
theorem met_fin (hs : Met A dq0 fq0 (i 1).val (2 * (i 1).val) s) (ho : OwnIs A (i 1).val o) (hx : RowsAre A x) :
    Met A dq0 fq0 (i 1).val 32 (fin i o x s) := by
  have := met_trips (met_diag1 (met_diag0 hs ho hx) ho hx) ho hx (k0_t1_loop i).trips (Nat.le_refl _)
  rwa [trips_eq i] at this

/-- A point starts from nothing of its own block. -/
theorem met_start {dq : Vec Ideal S16384x128 .f32} {dfq : Vec Ideal S2x32x1x512 .f32}
    (hq : ∀ (t : Fin 16384) (l : Fin 128), (start i dq dfq).dq (ix2 t l) = (dq0 t.val l : EReal))
    (hf : ∀ (h : Fin 2) (c : Fin 32) (r : Fin 512), (start i dq dfq).dfq (ix4 h c (0 : Fin 1) r) = (fq0 h (c.val * 512 + r.val) : EReal)) :
    Met A dq0 fq0 (i 1).val (2 * (i 1).val) (start i dq dfq) := by
  have e : 2 * (i 1).val * 512 = (i 1).val * 1024 := by omega
  refine ⟨fun h a l => ?_, fun h a l => ?_, fun h a l => ?_, fun t l => ?_, fun h c r => ?_⟩
  · rw [e, Finset.Ico_self, Finset.sum_empty, EReal.coe_zero]; pointwise [start, k0_pay49]
  · rw [e, Finset.Ico_self, Finset.sum_empty, EReal.coe_zero]; pointwise [start, k0_pay48]
  · rw [e, Finset.Ico_self, Finset.sum_empty, EReal.coe_zero]; pointwise [start, k0_pay50]
  · rw [if_neg (by omega), add_zero]; exact hq t l
  · rw [if_neg (by omega), add_zero]; exact hf h c r

end Cert.Fox
end
-- ==== Proof.FoxOwn.lean ====
/- What a point keeps of its block of keys, and what it writes of its gathered sums, read at an index. -/
module

public import proofs.«01_k».proof.Defs
public import proofs.«01_k».proof.Proof.FoxPair

@[expose] public section

set_option maxRecDepth 16384

noncomputable section

namespace Cert.Fox

open Cert.DfoxIdeal Cert.DfoxIdeal.Gen Idealize.ShloMosaic Idealize.ShloMosaic.TcCoe
open Cert.Held

/-- The lanes of the first head. -/
theorem lane_first (a : Fin 1024) (l : Fin 128) : k0_pay36 (ix2 a l) = if l.val < 64 then 1#1 else 0#1 := by
  pointwise [k0_pay36]
  revert l; decide +kernel

theorem zero_int : (Scalar.sitofp .bf16 0#32 : Ideal .bf16) = 0 := by
  rw [Ideal.scalar_sitofp_def]; simp

/-- A block's two copies: each head's columns, zero at the other's. -/
theorem keep0 (x : Vec Ideal S1024x128 .bf16) (a : Fin 1024) (l : Fin 128) : k0_pay38 x (ix2 a l) = if l.val / 64 = 0 then x (ix2 a l) else 0 := by
  have e := lane_first a l
  pointwise [k0_pay38, k0_pay37]
  rw [e]
  by_cases h : l.val < 64
  · rw [if_pos h, if_pos (by omega)]; rfl
  · rw [if_neg h, if_neg (by omega)]; exact zero_int
theorem keep1 (x : Vec Ideal S1024x128 .bf16) (a : Fin 1024) (l : Fin 128) : k0_pay39 x (ix2 a l) = if l.val / 64 = 1 then x (ix2 a l) else 0 := by
  have e := lane_first a l
  pointwise [k0_pay39, k0_pay37]
  rw [e]
  by_cases h : l.val < 64
  · rw [if_pos h, if_neg (by omega)]; exact zero_int
  · rw [if_neg h, if_pos (by omega)]; rfl
theorem keptEighth0 (x : Vec Ideal S1024x128 .bf16) (a : Fin 1024) (l : Fin 128) : k0_pay41 x (ix2 a l) = if l.val / 64 = 0 then x (ix2 a l) * eighth else 0 := by
  have e := lane_first a l
  pointwise [k0_pay41, k0_pay40, k0_pay37]
  rw [e]
  by_cases h : l.val < 64
  · rw [if_pos h, if_pos (by omega)]; rfl
  · rw [if_neg h, if_neg (by omega)]; exact zero_int
theorem keptEighth1 (x : Vec Ideal S1024x128 .bf16) (a : Fin 1024) (l : Fin 128) : k0_pay42 x (ix2 a l) = if l.val / 64 = 1 then x (ix2 a l) * eighth else 0 := by
  have e := lane_first a l
  pointwise [k0_pay42, k0_pay40, k0_pay37]
  rw [e]
  by_cases h : l.val < 64
  · rw [if_pos h, if_neg (by omega)]; exact zero_int
  · rw [if_neg h, if_pos (by omega)]; rfl
theorem same0 (x : Vec Ideal S1024x128 .bf16) (a : Fin 1024) (l : Fin 128) : k0_pay44 x (ix2 a l) = if l.val / 64 = 0 then x (ix2 a l) else 0 := by
  rw [← keep0]; rfl
theorem same1 (x : Vec Ideal S1024x128 .bf16) (a : Fin 1024) (l : Fin 128) : k0_pay45 x (ix2 a l) = if l.val / 64 = 1 then x (ix2 a l) else 0 := by
  rw [← keep1]; rfl

/-- A sum over the lanes that one lane enters. -/
theorem sum_lane (n : ℕ) (hn : n < 128) (f : Fin 128 → EReal) : (∑ l : Fin 128, if l.val = n then f l else 0) = f ⟨n, hn⟩ := by
  rw [Finset.sum_eq_single ⟨n, hn⟩ (fun l _ h => if_neg fun e => h (Fin.ext e)) (fun h => absurd (Finset.mem_univ _) h), if_pos rfl]

theorem pair_bound (i : grid0.Coords) : (i 0).val < 4 := (i 0).isLt

theorem lane_eq : ∀ (p : Fin 4) (n : Fin 2) (l : Fin 128), IntOp.cmpi .eq (BitVec.ofNat 32 l.val) (Scalar.addi (Scalar.muli 2#32 (BitVec.ofNat 32 p.val)) (BitVec.ofNat 32 n.val))
    = if l.val = 2 * p.val + n.val then 1#1 else 0#1 := by decide +kernel

theorem gate_sum (p : ℕ) (hp : p < 4) (n : Fin 2) (f : Fin 128 → EReal) :
    (∑ l : Fin 128, Scalar.select (IntOp.cmpi .eq (BitVec.ofNat 32 l.val) (Scalar.addi (Scalar.muli 2#32 (BitVec.ofNat 32 p)) (BitVec.ofNat 32 n.val))) (f l) 0)
      = f ⟨2 * p + n.val, by omega⟩ := by
  rw [← sum_lane (2 * p + n.val) (by omega) f]
  refine Finset.sum_congr rfl fun l _ => ?_
  rw [lane_eq ⟨p, hp⟩ n l]
  by_cases h : l.val = 2 * p + n.val
  · rw [if_pos h, if_pos h]; rfl
  · rw [if_neg h, if_neg h]; rfl

/-- The head's own gates out of the padded ones. -/
theorem gate0 (i : grid0.Coords) (x : Vec Ideal S1024x128 .f32) (a : Fin 1024) :
    k0_pay46 i x (ix2 a (0 : Fin 1)) = x (ix2 a ⟨2 * (i 0).val + (0 : Fin 2).val, by have := pair_bound i; show 2 * (i 0).val + 0 < 128; omega⟩) := by
  pointwise [k0_pay46]
  exact gate_sum _ (pair_bound i) 0 fun l => x (ix2 a l)
theorem gate1 (i : grid0.Coords) (x : Vec Ideal S1024x128 .f32) (a : Fin 1024) :
    k0_pay47 (iota .tc S1024x128 32 [1] iota_S1024x128_d1_w32) (Scalar.muli 2#32 (BitVec.ofNat 32 (i 0).val)) x (ix2 a (0 : Fin 1))
      = x (ix2 a ⟨2 * (i 0).val + (1 : Fin 2).val, by have := pair_bound i; show 2 * (i 0).val + 1 < 128; omega⟩) := by
  pointwise [k0_pay47]
  exact gate_sum _ (pair_bound i) 1 fun l => x (ix2 a l)

/-- A block's result takes each head's columns from that head's sums. -/
theorem chosen (x : Vec Ideal S2x1024x128 .f32) (a : Fin 1024) (l : Fin 128) :
    Scalar.select (k0_pay36 (ix2 a l)) (Held.get R0 x (ix3 0 a l)) (Held.get R1 x (ix3 0 a l))
      = x (ix3 (⟨l.val / 64, by omega⟩ : Fin 2) a l) := by
  rw [lane_first a l, get_on R0 x (emb_first a l), get_on R1 x (emb_second a l)]
  by_cases h : l.val < 64
  · rw [if_pos h, show (⟨l.val / 64, by omega⟩ : Fin 2) = 0 from Fin.ext (by show l.val / 64 = 0; omega)]; rfl
  · rw [if_neg h, show (⟨l.val / 64, by omega⟩ : Fin 2) = 1 from Fin.ext (by show l.val / 64 = 1; omega)]; rfl

theorem outK_apply (s : St Ideal) (a : Fin 1024) (l : Fin 128) : outK s (ix2 a l) = s.dk (ix3 (⟨l.val / 64, by omega⟩ : Fin 2) a l) := by
  refine Eq.trans ?_ (chosen s.dk a l)
  pointwise [outK, k0_pay99]
theorem outV_apply (s : St Ideal) (a : Fin 1024) (l : Fin 128) : outV s (ix2 a l) = s.dv (ix3 (⟨l.val / 64, by omega⟩ : Fin 2) a l) := by
  refine Eq.trans ?_ (chosen s.dv a l)
  pointwise [outV, k0_pay100]

theorem lane_is : ∀ (n : Fin 2) (l : Fin 128), IntOp.cmpi .eq (BitVec.ofNat 32 l.val) (BitVec.ofNat 32 n.val) = if l.val = n.val then 1#1 else 0#1 := by
  decide +kernel

/-- The gates' result holds the two heads' sums, negated, in its first two lanes. -/
theorem outF_apply (s : St Ideal) (a : Fin 1024) (l : Fin 128) : outF s (ix3 (0 : Fin 1) a l)
    = if l.val = 0 then 0 - s.df (ix3 (0 : Fin 2) a (0 : Fin 128)) else if l.val = 1 then 0 - s.df (ix3 (1 : Fin 2) a (0 : Fin 128)) else 0 := by
  have e0 := lane_is 0 l
  have e1 := lane_is 1 l
  have g0 := get_on R0 s.df (emb_first a 0)
  have g1 := get_on R1 s.df (emb_second a 0)
  pointwise [outF, k0_pay1, k0_pay101, k0_pay104, k0_pay102, k0_pay103]
  refine (congrArg₂ (fun x y => Scalar.select _ (0 - x) (Scalar.select _ (0 - y) (0 : EReal))) g0 g1).trans ?_
  rw [show IntOp.cmpi .eq (BitVec.ofNat 32 l.val) 0#32 = _ from e0, show IntOp.cmpi .eq (BitVec.ofNat 32 l.val) 1#32 = _ from e1]
  by_cases h0 : l.val = (0 : Fin 2).val
  · rw [if_pos h0, if_pos (show l.val = 0 from h0)]; rfl
  · rw [if_neg h0, if_neg (show ¬l.val = 0 from h0)]
    by_cases h1 : l.val = (1 : Fin 2).val
    · rw [if_pos h1, if_pos (show l.val = 1 from h1)]; rfl
    · rw [if_neg h1, if_neg (show ¬l.val = 1 from h1)]; rfl

end Cert.Fox

end
-- ==== Proof.FoxPoints.lean ====
/- What each point of the attention's gradient leaves, at real arguments. -/
module

public import proofs.«01_k».proof.Defs
public import proofs.«01_k».proof.Proof.FoxPair
public import proofs.«01_k».proof.Proof.FoxReal
public import proofs.«01_k».proof.Proof.FoxFrame

@[expose] public section

set_option maxRecDepth 16384

noncomputable section

namespace Cert.Fox

open Cert.DfoxIdeal Cert.DfoxIdeal.Gen Idealize.ShloMosaic Idealize.ShloMosaic.TcCoe
open Finset

variable (m : (ℓ : Loc nD τ sig) → Buf (Elt Ideal) ℓ) (c : Dev nD) (R : Args)

theorem coord0 : ∀ t : Fin cfg0.N, (grid0.coords t 0).val = t.val / 16 := (by decide +kernel : ∀ t : Fin grid0.N, _)
theorem coord1 : ∀ t : Fin cfg0.N, (grid0.coords t 1).val = t.val % 16 := (by decide +kernel : ∀ t : Fin grid0.N, _)

/-- Every point's blocks are its pair's. -/
structure BlocksAre : Prop where
  rows : ∀ t : Fin cfg0.N, RowsAre (R.pair (t.val / 16)) (rows m c t)
  own : ∀ t : Fin cfg0.N, OwnIs (R.pair (t.val / 16)) (t.val % 16) (own (grid0.coords t) (iblk m c 1 t) (iblk m c 2 t) (iblk m c 6 t))

/-- What a pair's queries have gathered before block `j`. -/
def gq (p j : ℕ) (t : ℕ) (l : Fin 128) : ℝ := ∑ s ∈ range (j * 1024), (R.pair p).c s t l
def gf (p j : ℕ) (h : Fin 2) (t : ℕ) : ℝ := ∑ s ∈ range (j * 1024), (R.pair p).s h s t

variable {m c R}

theorem point_met (hb : BlocksAre m c R) (t : Fin cfg0.N) {dq : Vec Ideal S16384x128 .f32} {dfq : Vec Ideal S2x32x1x512 .f32}
    (hq : ∀ (t' : Fin 16384) (l : Fin 128), (start (grid0.coords t) dq dfq).dq (ix2 t' l) = (gq R (t.val / 16) (t.val % 16) t'.val l : EReal))
    (hf : ∀ (h : Fin 2) (x : Fin 32) (r : Fin 512), (start (grid0.coords t) dq dfq).dfq (ix4 h x (0 : Fin 1) r) = (gf R (t.val / 16) (t.val % 16) h (x.val * 512 + r.val) : EReal)) :
    Met (R.pair (t.val / 16)) (gq R (t.val / 16) (t.val % 16)) (gf R (t.val / 16) (t.val % 16)) (t.val % 16) 32 (point m c t dq dfq) := by
  have h0 := hb.own t
  have := met_fin (A := R.pair (t.val / 16)) (i := grid0.coords t) (met_start hq hf) (by rw [coord1]; exact h0) (hb.rows t)
  rwa [coord1] at this

/-- The gathered sums after a point are the next block's. -/
theorem met_next {p j : ℕ} {s : St Ideal} (hs : Met (R.pair p) (gq R p j) (gf R p j) j 32 s) :
    (∀ (t : Fin 16384) (l : Fin 128), s.dq (ix2 t l) = (gq R p (j + 1) t.val l : EReal))
    ∧ ∀ (h : Fin 2) (x : Fin 32) (r : Fin 512), s.dfq (ix4 h x (0 : Fin 1) r) = (gf R p (j + 1) h (x.val * 512 + r.val) : EReal) := by
  refine ⟨fun t l => (hs.dq t l).trans (congrArg _ ?_), fun h x r => (hs.dfq h x r).trans (congrArg _ ?_)⟩
  · exact Args.block_part (fun s => (R.pair p).c s t.val l) j t.val
      (fun s hs => by rw [Pair.c, Pair.s_later _ _ hs, Pair.s_later _ _ hs, zero_mul, zero_mul, add_zero]) t.isLt
  · exact Args.block_part (fun s => (R.pair p).s h s (x.val * 512 + r.val)) j (x.val * 512 + r.val)
      (fun s hs => Pair.s_later _ _ hs) (by omega)

theorem start_dq {i : grid0.Coords} (h : isFirst i) (dq dfq) : (start (F := Ideal) i dq dfq).dq = k0_pay51 (F := Ideal) := by
  unfold start; exact if_pos h
theorem start_dfq {i : grid0.Coords} (h : isFirst i) (dq dfq) : (start (F := Ideal) i dq dfq).dfq = k0_pay52 (F := Ideal) := by
  unfold start; exact if_pos h
theorem keep_dq {i : grid0.Coords} (h : ¬isFirst i) (dq dfq) : (start (F := Ideal) i dq dfq).dq = dq := by
  unfold start; exact if_neg h
theorem keep_dfq {i : grid0.Coords} (h : ¬isFirst i) (dq dfq) : (start (F := Ideal) i dq dfq).dfq = dfq := by
  unfold start; exact if_neg h

/-- A pair's first point starts from nothing. -/
theorem first_met (hb : BlocksAre m c R) (t : Fin cfg0.N) (h0 : t.val % 16 = 0) :
    Met (R.pair (t.val / 16)) (gq R (t.val / 16) (t.val % 16)) (gf R (t.val / 16) (t.val % 16)) (t.val % 16) 32 (outs m c t.val t.isLt) := by
  rw [outs_first m c t h0 (k0_pay51 (F := Ideal)) (k0_pay52 (F := Ideal))]
  refine point_met hb t (fun t' l => ?_) fun h' x r => ?_
  · rw [gq, h0, zero_mul, sum_range_zero, EReal.coe_zero, start_dq ((first_iff t).mpr h0)]
    pointwise [k0_pay51]
  · rw [gf, h0, zero_mul, sum_range_zero, EReal.coe_zero, start_dfq ((first_iff t).mpr h0)]
    pointwise [k0_pay52]

/-- What each point leaves: its block's sums over all the queries, and the gathered sums with its block's part. -/
theorem outs_met (hb : BlocksAre m c R) : ∀ (n : ℕ) (h : n < cfg0.N),
    Met (R.pair (n / 16)) (gq R (n / 16) (n % 16)) (gf R (n / 16) (n % 16)) (n % 16) 32 (outs m c n h) := by
  intro n
  induction n with
  | zero => exact fun h => first_met hb ⟨0, h⟩ rfl
  | succ n ih =>
    intro h
    by_cases h0 : (n + 1) % 16 = 0
    · exact first_met hb ⟨n + 1, h⟩ h0
    · obtain ⟨hq, hf⟩ := met_next (ih (Nat.lt_of_succ_lt h))
      have e1 : (n + 1) / 16 = n / 16 := by omega
      have e2 : (n + 1) % 16 = n % 16 + 1 := by omega
      have hne : ¬isFirst (grid0.coords ⟨n + 1, h⟩) := fun hc => h0 ((first_iff ⟨n + 1, h⟩).mp hc)
      rw [outs_next m c ⟨n + 1, h⟩ h0]
      refine point_met hb ⟨n + 1, h⟩ (fun t' l => ?_) fun h' x r => ?_
      · rw [keep_dq hne]; show _ = (gq R ((n + 1) / 16) ((n + 1) % 16) t'.val l : EReal); rw [e1, e2]; exact hq t' l
      · rw [keep_dfq hne]; show _ = (gf R ((n + 1) / 16) ((n + 1) % 16) h' (x.val * 512 + r.val) : EReal); rw [e1, e2]; exact hf h' x r

/-- The keys' and the values' gradients of a point's block, and its gates' sums. -/
theorem outs_dk (hb : BlocksAre m c R) (t : Fin cfg0.N) (h : Fin 2) (a : Fin 1024) (l : Fin 128) (hl : l.val / 64 = h.val) :
    (outs m c t.val t.isLt).dk (ix3 h a l) = (R.dk (t.val % 16 * 1024 + a.val) (t.val / 16 * 128 + l.val) : EReal) :=
  ((outs_met hb t.val t.isLt).dk h a l).trans (congrArg _ (R.late_k (t.val / 16) (t.val % 16 * 1024) _ (Nat.le_add_right _ _) h l hl))
theorem outs_dv (hb : BlocksAre m c R) (t : Fin cfg0.N) (h : Fin 2) (a : Fin 1024) (l : Fin 128) (hl : l.val / 64 = h.val) :
    (outs m c t.val t.isLt).dv (ix3 h a l) = (R.dv (t.val % 16 * 1024 + a.val) (t.val / 16 * 128 + l.val) : EReal) :=
  ((outs_met hb t.val t.isLt).dv h a l).trans (congrArg _ (R.late_v (t.val / 16) (t.val % 16 * 1024) _ (Nat.le_add_right _ _) h l hl))
theorem outs_df (hb : BlocksAre m c R) (t : Fin cfg0.N) (h : Fin 2) (a : Fin 1024) (l : Fin 128) :
    (outs m c t.val t.isLt).df (ix3 h a l) = (R.fk (t.val % 16 * 1024 + a.val) (2 * (t.val / 16) + h.val) : EReal) :=
  ((outs_met hb t.val t.isLt).df h a l).trans (congrArg _ (R.late_f (t.val / 16) (t.val % 16 * 1024) _ (Nat.le_add_right _ _) h))

/-- The queries' gradients and their gates' sums after a pair's last point. -/
theorem outs_dq (hb : BlocksAre m c R) (t : Fin cfg0.N) (hl : t.val % 16 = 15) (x : Fin 16384) (l : Fin 128) :
    (outs m c t.val t.isLt).dq (ix2 x l) = (R.dq x.val (t.val / 16 * 128 + l.val) : EReal) := by
  refine ((met_next (outs_met hb t.val t.isLt)).1 x l).trans (congrArg _ ?_)
  rw [gq, hl]
  exact R.all_q (t.val / 16) x.val x.isLt l
theorem outs_dfq (hb : BlocksAre m c R) (t : Fin cfg0.N) (hl : t.val % 16 = 15) (h : Fin 2) (x : Fin 32) (r : Fin 512) :
    (outs m c t.val t.isLt).dfq (ix4 h x (0 : Fin 1) r) = (R.fq (x.val * 512 + r.val) (2 * (t.val / 16) + h.val) : EReal) := by
  refine ((met_next (outs_met hb t.val t.isLt)).2 h x r).trans (congrArg _ ?_)
  rw [gf, hl]
  exact R.all_f (t.val / 16) (x.val * 512 + r.val) (by omega) h

end Cert.Fox

end
-- ==== Proof.FoxBlocks.lean ====
/- The blocks the attention's gradient meets, at real arguments. -/
module

public import proofs.«01_k».proof.Defs
public import proofs.«01_k».proof.Proof.FoxDot
public import proofs.«01_k».proof.Proof.FoxOwn
public import proofs.«01_k».proof.Proof.FoxPoints
public import Idealize.ShloMosaic.Lib.Pipeline.ValueKit
public import Idealize.ShloMosaic.Lib.Pipeline.ValueKit.Point

@[expose] public section

set_option maxRecDepth 16384

noncomputable section

namespace Cert.Fox

open Cert.DfoxIdeal Cert.DfoxIdeal.Gen Idealize.ShloMosaic Idealize.ShloMosaic.TcCoe

variable {m : (ℓ : Loc nD τ sig) → Buf (Elt Ideal) ℓ} {c : Dev nD} {R : Args}

theorem e0 : ∀ t : Fin cfg0.N, win0_0.index t = ![0, t.val / 16] := (by decide +kernel : ∀ t : Fin grid0.N, _)
theorem e1 : ∀ t : Fin cfg0.N, win0_1.index t = ![t.val % 16, 4 + t.val / 16] := (by decide +kernel : ∀ t : Fin grid0.N, _)
theorem e2 : ∀ t : Fin cfg0.N, win0_2.index t = ![t.val % 16, 8 + t.val / 16] := (by decide +kernel : ∀ t : Fin grid0.N, _)
theorem e3 : ∀ t : Fin cfg0.N, win0_3.index t = ![0, t.val / 16] := (by decide +kernel : ∀ t : Fin grid0.N, _)
theorem e4 : ∀ t : Fin cfg0.N, win0_4.index t = ![t.val / 16, 0, 0, 0] := (by decide +kernel : ∀ t : Fin grid0.N, _)
theorem e5 : ∀ t : Fin cfg0.N, win0_5.index t = ![t.val / 16, 0, 0, 0] := (by decide +kernel : ∀ t : Fin grid0.N, _)
theorem e6 : ∀ t : Fin cfg0.N, win0_6.index t = ![t.val % 16, 0] := (by decide +kernel : ∀ t : Fin grid0.N, _)

theorem pair_lt (t : Fin cfg0.N) : t.val / 16 < 4 := by have := t.isLt; have : cfg0.N = 64 := N_0; omega
theorem col_lt (t : Fin cfg0.N) (l : Fin 128) : t.val / 16 * 128 + l.val < 512 := by have := pair_lt t; omega
theorem head_lt (t : Fin cfg0.N) (h : Fin 2) : 2 * (t.val / 16) + h.val < 8 := by have := pair_lt t; omega
theorem own_lt (t : Fin cfg0.N) (a : Fin 1024) : t.val % 16 * 1024 + a.val < 16384 := by omega

/-- The arguments are the reals' arrays. -/
abbrev ArgsOf (m : (ℓ : Loc nD τ sig) → Buf (Elt Ideal) ℓ) (c : Dev nD) (R : Args) : Prop :=
  ArgsAre R (argQ m c) (argK m c) (argV m c) (argG m c) (argF m c)

/-! ### Each window's block -/

theorem q_read (hR : ArgsOf m c R) (t : Fin cfg0.N) (x : Fin 16384) (l : Fin 128) :
    iblk m c 0 t (ix2 x l) = (R.q x.val (t.val / 16 * 128 + l.val) : EReal) := by
  refine Eq.trans ?_ ((congrFun (entry36 m c) (ix2 x (⟨t.val / 16 * 128 + l.val, by have := col_lt t l; omega⟩ : Fin 1536))).trans
    (hQkv_q hR x ⟨t.val / 16 * 128 + l.val, col_lt t l⟩))
  blk_ext [iblk, e0 t]

theorem k_read (hR : ArgsOf m c R) (t : Fin cfg0.N) (a : Fin 1024) (l : Fin 128) :
    iblk m c 1 t (ix2 a l) = (R.k (t.val % 16 * 1024 + a.val) (t.val / 16 * 128 + l.val) : EReal) := by
  refine Eq.trans ?_ ((congrFun (entry36 m c) (ix2 (⟨t.val % 16 * 1024 + a.val, own_lt t a⟩ : Fin 16384) (⟨512 + (t.val / 16 * 128 + l.val), by have := col_lt t l; omega⟩ : Fin 1536))).trans
    (hQkv_k hR ⟨t.val % 16 * 1024 + a.val, own_lt t a⟩ ⟨t.val / 16 * 128 + l.val, col_lt t l⟩))
  blk_ext [iblk, e1 t]

theorem v_read (hR : ArgsOf m c R) (t : Fin cfg0.N) (a : Fin 1024) (l : Fin 128) :
    iblk m c 2 t (ix2 a l) = (R.v (t.val % 16 * 1024 + a.val) (t.val / 16 * 128 + l.val) : EReal) := by
  refine Eq.trans ?_ ((congrFun (entry36 m c) (ix2 (⟨t.val % 16 * 1024 + a.val, own_lt t a⟩ : Fin 16384) (⟨1024 + (t.val / 16 * 128 + l.val), by have := col_lt t l; omega⟩ : Fin 1536))).trans
    (hQkv_v hR ⟨t.val % 16 * 1024 + a.val, own_lt t a⟩ ⟨t.val / 16 * 128 + l.val, col_lt t l⟩))
  blk_ext [iblk, e2 t]

theorem g_read (hR : ArgsOf m c R) (t : Fin cfg0.N) (x : Fin 16384) (l : Fin 128) :
    iblk m c 3 t (ix2 x l) = (R.g x.val (t.val / 16 * 128 + l.val) : EReal) := by
  refine Eq.trans ?_ ((congrFun (entry38 m c) (ix2 x (⟨t.val / 16 * 128 + l.val, col_lt t l⟩ : Fin 512))).trans
    (hR.g x ⟨t.val / 16 * 128 + l.val, col_lt t l⟩))
  blk_ext [iblk, e3 t]

/-- Where a pair's two heads lie in an array of rows. -/
theorem l_at (A : Vec Ideal S8x32x1x512 .f32) (t : Fin cfg0.N) (h : Fin 2) (x : Fin 32) (r : Fin 512) :
    View.read (Elt Ideal) ((cfg0.win 4).blk t).view A (ix4 h x (0 : Fin 1) r) = A (ix4 (⟨2 * (t.val / 16) + h.val, head_lt t h⟩ : Fin 8) x (0 : Fin 1) r) := by
  blk_ext [e4 t]
theorem d_at (A : Vec Ideal S8x32x1x512 .f32) (t : Fin cfg0.N) (h : Fin 2) (x : Fin 32) (r : Fin 512) :
    View.read (Elt Ideal) ((cfg0.win 5).blk t).view A (ix4 h x (0 : Fin 1) r) = A (ix4 (⟨2 * (t.val / 16) + h.val, head_lt t h⟩ : Fin 8) x (0 : Fin 1) r) := by
  blk_ext [e5 t]

theorem l_read (hR : ArgsOf m c R) (t : Fin cfg0.N) (h : Fin 2) (x : Fin 32) (r : Fin 512) :
    iblk m c 4 t (ix4 h x (0 : Fin 1) r) = (Real.log (R.Z (2 * (t.val / 16) + h.val) (x.val * 512 + r.val)) : EReal) := by
  unfold iblk
  exact (l_at _ t h x r).trans ((congrFun (entry39 m c) _).trans (hLse_real hR ⟨2 * (t.val / 16) + h.val, head_lt t h⟩ x r))

theorem d_read (hR : ArgsOf m c R) (t : Fin cfg0.N) (h : Fin 2) (x : Fin 32) (r : Fin 512) :
    iblk m c 5 t (ix4 h x (0 : Fin 1) r) = (R.D (2 * (t.val / 16) + h.val) (x.val * 512 + r.val) : EReal) := by
  unfold iblk
  exact (d_at _ t h x r).trans ((congrFun (entry40 m c) _).trans (hD_real hR ⟨2 * (t.val / 16) + h.val, head_lt t h⟩ x r))

theorem f_read (hR : ArgsOf m c R) (t : Fin cfg0.N) (a : Fin 1024) (l : Fin 128) (hl : l.val < 8) :
    iblk m c 6 t (ix2 a l) = (R.F (t.val % 16 * 1024 + a.val) l.val : EReal) := by
  refine Eq.trans ?_ ((congrFun (entry37 m c) (ix2 (⟨t.val % 16 * 1024 + a.val, own_lt t a⟩ : Fin 16384) l)).trans
    (hPad_real hR ⟨t.val % 16 * 1024 + a.val, own_lt t a⟩ l hl))
  blk_ext [iblk, e6 t]

/-! ### What a point reads and keeps -/

theorem kept {p : Prop} [Decidable p] {x : EReal} {y : ℝ} (h : x = (y : EReal)) : (if p then x else 0) = ((if p then y else 0 : ℝ) : EReal) := by
  split
  · exact h
  · rfl
theorem keptEighth {p : Prop} [Decidable p] {x : EReal} {y : ℝ} (h : x = (y : EReal)) : (if p then x * eighth else 0) = (((if p then y else 0) * (1 / 8) : ℝ) : EReal) := by
  split
  · rw [h, eighth_eq, EReal.coe_mul]
  · rw [zero_mul, EReal.coe_zero]

theorem gate_read (hR : ArgsOf m c R) (t : Fin cfg0.N) (h : Fin 2) (a : Fin 1024) (hl : 2 * (grid0.coords t 0).val + h.val < 128) :
    iblk m c 6 t (ix2 a (⟨2 * (grid0.coords t 0).val + h.val, hl⟩ : Fin 128)) = (R.F (t.val % 16 * 1024 + a.val) (2 * (t.val / 16) + h.val) : EReal) := by
  have e : 2 * (grid0.coords t 0).val + h.val = 2 * (t.val / 16) + h.val := by rw [coord0]
  exact (f_read hR t a _ (by show 2 * (grid0.coords t 0).val + h.val < 8; rw [e]; exact head_lt t h)).trans
    (congrArg (fun z => (R.F (t.val % 16 * 1024 + a.val) z : EReal)) e)

theorem pair_log (p : ℕ) (h : Fin 2) (t : ℕ) : Real.log (R.Z (2 * p + h.val) t) = (R.pair p).l h t := by rw [Args.pair]
theorem pair_mean (p : ℕ) (h : Fin 2) (t : ℕ) : R.D (2 * p + h.val) t = (R.pair p).d h t := by rw [Args.pair]

/-- Rows that are the pair's. -/
theorem rows_of (p : ℕ) (q g : Vec Ideal S16384x128 .bf16) (l d : Vec Ideal S2x32x1x512 .f32)
    (hq : ∀ (x : Fin 16384) (l : Fin 128), q (ix2 x l) = (R.q x.val (p * 128 + l.val) : EReal))
    (hg : ∀ (x : Fin 16384) (l : Fin 128), g (ix2 x l) = (R.g x.val (p * 128 + l.val) : EReal))
    (hl : ∀ (h : Fin 2) (x : Fin 32) (r : Fin 512), l (ix4 h x (0 : Fin 1) r) = (Real.log (R.Z (2 * p + h.val) (x.val * 512 + r.val)) : EReal))
    (hd : ∀ (h : Fin 2) (x : Fin 32) (r : Fin 512), d (ix4 h x (0 : Fin 1) r) = (R.D (2 * p + h.val) (x.val * 512 + r.val) : EReal)) :
    RowsAre (R.pair p) ⟨q, g, l, d⟩ where
  q := hq
  g := hg
  l h x r := (hl h x r).trans (congrArg _ (pair_log p h _))
  d h x r := (hd h x r).trans (congrArg _ (pair_mean p h _))

theorem rows_are (hR : ArgsOf m c R) (t : Fin cfg0.N) : RowsAre (R.pair (t.val / 16)) (rows m c t) := by
  unfold rows
  exact rows_of _ _ _ _ _ (q_read hR t) (g_read hR t) (l_read hR t) (d_read hR t)

/-- What a point keeps of blocks that are the pair's. -/
theorem own_are (p : ℕ) (i : grid0.Coords) (j : ℕ) (k v : Vec Ideal S1024x128 .bf16) (f : Vec Ideal S1024x128 .f32)
    (hk : ∀ (a : Fin 1024) (l : Fin 128), k (ix2 a l) = (R.k (j * 1024 + a.val) (p * 128 + l.val) : EReal))
    (hv : ∀ (a : Fin 1024) (l : Fin 128), v (ix2 a l) = (R.v (j * 1024 + a.val) (p * 128 + l.val) : EReal))
    (h0 : ∀ a : Fin 1024, k0_pay46 i f (ix2 a (0 : Fin 1)) = (R.F (j * 1024 + a.val) (2 * p + (0 : Fin 2).val) : EReal))
    (h1 : ∀ a : Fin 1024, k0_pay47 (iota .tc S1024x128 32 [1] iota_S1024x128_d1_w32) (Scalar.muli 2#32 (BitVec.ofNat 32 (i 0).val)) f (ix2 a (0 : Fin 1))
      = (R.F (j * 1024 + a.val) (2 * p + (1 : Fin 2).val) : EReal)) :
    OwnIs (R.pair p) j (own i k v f) where
  k0 a l := (keep0 k a l).trans (kept (hk a l))
  k1 a l := (keep1 k a l).trans (kept (hk a l))
  kq0 a l := (keptEighth0 k a l).trans (keptEighth (hk a l))
  kq1 a l := (keptEighth1 k a l).trans (keptEighth (hk a l))
  v0 a l := (same0 v a l).trans (kept (hv a l))
  v1 a l := (same1 v a l).trans (kept (hv a l))
  f0 a := h0 a
  f1 a := h1 a

theorem blocks_are (hR : ArgsOf m c R) : BlocksAre m c R where
  rows t := rows_are hR t
  own t := own_are _ _ _ _ _ _ (fun a l => k_read hR t a l) (fun a l => v_read hR t a l)
    (fun a => (gate0 _ _ a).trans (gate_read hR t 0 a _)) (fun a => (gate1 _ _ a).trans (gate_read hR t 1 a _))

end Cert.Fox

end
-- ==== Proof.FoxFinal.lean ====
/- The five result arrays of the attention's gradient after the kernel, at real arguments. -/
module

public import proofs.«01_k».proof.Defs
public import proofs.«01_k».proof.Proof.FoxBlocks
public import Idealize.ShloMosaic.Lib.Pipeline.ValueKit
public import Idealize.ShloMosaic.Lib.Pipeline.ValueKit.Point

@[expose] public section

set_option maxRecDepth 16384

noncomputable section

namespace Cert.Fox

open Cert.DfoxIdeal Cert.DfoxIdeal.Gen Idealize.ShloMosaic Idealize.ShloMosaic.TcCoe

variable {m : (ℓ : Loc nD τ sig) → Buf (Elt Ideal) ℓ} {c : Dev nD} {R : Args}

theorem e7 : ∀ t : Fin cfg0.N, win0_7.index t = ![0, t.val / 16] := (by decide +kernel : ∀ t : Fin grid0.N, _)
theorem e8 : ∀ t : Fin cfg0.N, win0_8.index t = ![t.val % 16, t.val / 16] := (by decide +kernel : ∀ t : Fin grid0.N, _)
theorem e9 : ∀ t : Fin cfg0.N, win0_9.index t = ![t.val % 16, t.val / 16] := (by decide +kernel : ∀ t : Fin grid0.N, _)
theorem e10 : ∀ t : Fin cfg0.N, win0_10.index t = ![t.val / 16, t.val % 16, 0] := (by decide +kernel : ∀ t : Fin grid0.N, _)
theorem e11 : ∀ t : Fin cfg0.N, win0_11.index t = ![t.val / 16, 0, 0, 0] := (by decide +kernel : ∀ t : Fin grid0.N, _)

/-- The queries' gradients. -/
theorem final_dq (hb : BlocksAre m c R) (T : FVec Ideal S16384x512 .f32)
    (hT : ∀ (t : Fin 16384) (C : Fin 512), T (ix2 t C) = (R.dq t.val C.val : EReal)) : (dats m 0 c).arrAt 7 cfg0.N = T := by
  refine (dats m 0 c).arrAt_eq_of_covers 7 _ (by decide +kernel) fun t hf y => ?_
  have hl := (flush0_7 t).mp hf
  blk_simp
  rw [after0_7]
  idx_vars y
  rw [show ((View.whole main_v41_0).slice (win0_7.rect t)).emb (ix2 y0 y1) = (ix2 y0 ⟨t.val / 16 * 128 + y1.val, col_lt t y1⟩ : S16384x512.Idx) by blk_ext [e7 t], hT]
  exact outs_dq hb t hl y0 y1

/-- The keys' gradients. -/
theorem final_dk (hb : BlocksAre m c R) (T : FVec Ideal S16384x512 .bf16)
    (hT : ∀ (t : Fin 16384) (C : Fin 512), T (ix2 t C) = (R.dk t.val C.val : EReal)) : (dats m 0 c).arrAt 8 cfg0.N = T := by
  refine (dats m 0 c).arrAt_eq_of_covers 8 _ (by decide +kernel) fun t hf y => ?_
  blk_simp
  rw [after0_8]
  idx_vars y
  rw [show ((View.whole main_v41_1).slice (win0_8.rect t)).emb (ix2 y0 y1)
      = (ix2 ⟨t.val % 16 * 1024 + y0.val, own_lt t y0⟩ ⟨t.val / 16 * 128 + y1.val, col_lt t y1⟩ : S16384x512.Idx) by blk_ext [e8 t], hT]
  exact (outK_apply _ y0 y1).trans (outs_dk hb t _ y0 y1 rfl)

/-- The values' gradients. -/
theorem final_dv (hb : BlocksAre m c R) (T : FVec Ideal S16384x512 .bf16)
    (hT : ∀ (t : Fin 16384) (C : Fin 512), T (ix2 t C) = (R.dv t.val C.val : EReal)) : (dats m 0 c).arrAt 9 cfg0.N = T := by
  refine (dats m 0 c).arrAt_eq_of_covers 9 _ (by decide +kernel) fun t hf y => ?_
  blk_simp
  rw [after0_9]
  idx_vars y
  rw [show ((View.whole main_v41_2).slice (win0_9.rect t)).emb (ix2 y0 y1)
      = (ix2 ⟨t.val % 16 * 1024 + y0.val, own_lt t y0⟩ ⟨t.val / 16 * 128 + y1.val, col_lt t y1⟩ : S16384x512.Idx) by blk_ext [e9 t], hT]
  exact (outV_apply _ y0 y1).trans (outs_dv hb t _ y0 y1 rfl)

/-- The two lanes of a pair's heads, and nothing on the others. -/
theorem lanes_are (hb : BlocksAre m c R) (t : Fin cfg0.N) (a : Fin 1024) (l : Fin 128) :
    outF (outs m c t.val t.isLt) (ix3 (0 : Fin 1) a l)
      = if l.val < 2 then ((-R.fk (t.val % 16 * 1024 + a.val) (2 * (t.val / 16) + l.val) : ℝ) : EReal) else 0 := by
  rw [outF_apply]
  by_cases h0 : l.val = 0
  · rw [if_pos h0, if_pos (by omega), outs_df hb, h0, zero_sub, EReal.coe_neg]; rfl
  · rw [if_neg h0]
    by_cases h1 : l.val = 1
    · rw [if_pos h1, if_pos (by omega), outs_df hb, h1, zero_sub, EReal.coe_neg]; rfl
    · rw [if_neg h1, if_neg (by omega)]

/-- The keys' gates' sums. -/
theorem final_df (hb : BlocksAre m c R) (T : FVec Ideal S4x16384x128 .f32)
    (hT : ∀ (p : Fin 4) (s : Fin 16384) (l : Fin 128), T (ix3 p s l) = if l.val < 2 then ((-R.fk s.val (2 * p.val + l.val) : ℝ) : EReal) else 0) :
    (dats m 0 c).arrAt 10 cfg0.N = T := by
  refine (dats m 0 c).arrAt_eq_of_covers 10 _ (by decide +kernel) fun t hf y => ?_
  blk_simp
  rw [after0_10]
  idx_vars y
  rw [show ((View.whole main_v41_3).slice (win0_10.rect t)).emb (ix3 y0 y1 y2)
      = (ix3 ⟨t.val / 16, pair_lt t⟩ ⟨t.val % 16 * 1024 + y1.val, own_lt t y1⟩ y2 : S4x16384x128.Idx) by blk_ext [e10 t], hT]
  rw [show y0 = (0 : Fin 1) from Subsingleton.elim _ _]
  exact lanes_are hb t y1 y2

/-- The queries' gates' sums. -/
theorem final_dfq (hb : BlocksAre m c R) (T : FVec Ideal S8x32x1x512 .f32)
    (hT : ∀ (h : Fin 8) (b : Fin 32) (r : Fin 512), T (ix4 h b (0 : Fin 1) r) = (R.fq (b.val * 512 + r.val) h.val : EReal)) :
    (dats m 0 c).arrAt 11 cfg0.N = T := by
  refine (dats m 0 c).arrAt_eq_of_covers 11 _ (by decide +kernel) fun t hf y => ?_
  have hl := (flush0_11 t).mp hf
  blk_simp
  rw [after0_11]
  idx_vars y
  rw [show y2 = (0 : Fin 1) from Subsingleton.elim _ _,
    show ((View.whole main_v41_4).slice (win0_11.rect t)).emb (ix4 y0 y1 (0 : Fin 1) y3)
      = (ix4 ⟨2 * (t.val / 16) + y0.val, head_lt t y0⟩ y1 (0 : Fin 1) y3 : S8x32x1x512.Idx) by blk_ext [e11 t], hT]
  exact outs_dfq hb t hl y0 y1 y3

end Cert.Fox

end
-- ==== Proof.FoxRun.lean ====
/- The reference's run: its operations in the two parts the program is written in, and what they leave. -/
module

public import proofs.«01_k».proof.Proof.Gen.DfoxRefIdeal
public import Idealize.ShloMosaic.Lib.StableHlo.Run

@[expose] public section

set_option maxRecDepth 8192

noncomputable section

namespace Cert.FoxRef

open Cert.DfoxRefIdeal Cert.DfoxRefIdeal.Gen Idealize.ShloMosaic Idealize.ShloMosaic.TcCoe Idealize.SL.Sem Idealize.ShloMosaic.StableHlo

variable {F : FTy → Type} [FloatOps F]

/-- The operations of the program's first part: the logits, their softmax and its sums. -/
abbrev lines0 : List (HloOp τ sig (Elt F)) :=
  [ reshape main_arg0 main_v0 (rfl : (.f32 : EltTy) = .f32) shapeCasts_S16384x512_S16384x8x64,
    reshape main_arg1 main_v1 (rfl : (.f32 : EltTy) = .f32) shapeCasts_S16384x512_S16384x8x64,
    binary main_v0 main_v1 main_v2 ((fun l r => Host.dotGeneral dot_S16384x8x64_S16384x8x64_S8x16384x16384_2_2_0_0_1_1 none l r) : (⟨S16384x8x64, .f32⟩ : BufTy).Contents (Elt F) → (⟨S16384x8x64, .f32⟩ : BufTy).Contents (Elt F) → (⟨S8x16384x16384, .f32⟩ : BufTy).Contents (Elt F)),
    nullary main_cst (constant S_ .f32 0x3E000000#32),
    unary main_cst main_v3 (broadcastInDim S8x16384x16384 ![] bcast_S_S8x16384x16384 : (⟨S_, .f32⟩ : BufTy).Contents (Elt F) → (⟨S8x16384x16384, .f32⟩ : BufTy).Contents (Elt F)),
    binary main_v2 main_v3 main_v4 (mulf : (⟨S8x16384x16384, .f32⟩ : BufTy).Contents (Elt F) → (⟨S8x16384x16384, .f32⟩ : BufTy).Contents (Elt F) → (⟨S8x16384x16384, .f32⟩ : BufTy).Contents (Elt F)),
    unary main_arg3 main_v5 ((transpose S8x16384 [1, 0] · transposes_S16384x8_S8x16384_1_0) : (⟨S16384x8, .f32⟩ : BufTy).Contents (Elt F) → (⟨S8x16384, .f32⟩ : BufTy).Contents (Elt F)),
    unary main_v5 main_v6 (broadcastInDim S8x16384x1 ![0, 1] bcast_S8x16384_S8x16384x1_0_1 : (⟨S8x16384, .f32⟩ : BufTy).Contents (Elt F) → (⟨S8x16384x1, .f32⟩ : BufTy).Contents (Elt F)),
    unary main_v6 main_v7 (broadcastInDim S8x16384x16384 ![0, 1, 2] bcast_S8x16384x1_S8x16384x16384_0_1_2 : (⟨S8x16384x1, .f32⟩ : BufTy).Contents (Elt F) → (⟨S8x16384x16384, .f32⟩ : BufTy).Contents (Elt F)),
    binary main_v4 main_v7 main_v8 (addf : (⟨S8x16384x16384, .f32⟩ : BufTy).Contents (Elt F) → (⟨S8x16384x16384, .f32⟩ : BufTy).Contents (Elt F) → (⟨S8x16384x16384, .f32⟩ : BufTy).Contents (Elt F)),
    unary main_arg3 main_v9 ((transpose S8x16384 [1, 0] · transposes_S16384x8_S8x16384_1_0) : (⟨S16384x8, .f32⟩ : BufTy).Contents (Elt F) → (⟨S8x16384, .f32⟩ : BufTy).Contents (Elt F)),
    unary main_v9 main_v10 (broadcastInDim S8x1x16384 ![0, 2] bcast_S8x16384_S8x1x16384_0_2 : (⟨S8x16384, .f32⟩ : BufTy).Contents (Elt F) → (⟨S8x1x16384, .f32⟩ : BufTy).Contents (Elt F)),
    unary main_v10 main_v11 (broadcastInDim S8x16384x16384 ![0, 1, 2] bcast_S8x1x16384_S8x16384x16384_0_1_2 : (⟨S8x1x16384, .f32⟩ : BufTy).Contents (Elt F) → (⟨S8x16384x16384, .f32⟩ : BufTy).Contents (Elt F)),
    binary main_v8 main_v11 main_v12 (subf : (⟨S8x16384x16384, .f32⟩ : BufTy).Contents (Elt F) → (⟨S8x16384x16384, .f32⟩ : BufTy).Contents (Elt F) → (⟨S8x16384x16384, .f32⟩ : BufTy).Contents (Elt F)),
    nullary main_v13 (iotaInDim S16384 32 0),
    unary main_v13 main_v14 (broadcastInDim S1x16384 ![1] bcast_S16384_S1x16384_1 : (⟨S16384, .i32⟩ : BufTy).Contents (Elt F) → (⟨S1x16384, .i32⟩ : BufTy).Contents (Elt F)),
    unary main_v13 main_v15 (broadcastInDim S16384x1 ![0] bcast_S16384_S16384x1_0 : (⟨S16384, .i32⟩ : BufTy).Contents (Elt F) → (⟨S16384x1, .i32⟩ : BufTy).Contents (Elt F)),
    unary main_v14 main_v16 (broadcastInDim S16384x16384 ![0, 1] bcast_S1x16384_S16384x16384_0_1 : (⟨S1x16384, .i32⟩ : BufTy).Contents (Elt F) → (⟨S16384x16384, .i32⟩ : BufTy).Contents (Elt F)),
    unary main_v15 main_v17 (broadcastInDim S16384x16384 ![0, 1] bcast_S16384x1_S16384x16384_0_1 : (⟨S16384x1, .i32⟩ : BufTy).Contents (Elt F) → (⟨S16384x16384, .i32⟩ : BufTy).Contents (Elt F)),
    binary main_v16 main_v17 main_v18 (cmpi .sle : (⟨S16384x16384, .i32⟩ : BufTy).Contents (Elt F) → (⟨S16384x16384, .i32⟩ : BufTy).Contents (Elt F) → (⟨S16384x16384, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S16384x16384, .i1⟩) main_v18) (TRef.of (T := ⟨S8x16384x16384, .i1⟩) main_v19_1) (broadcastInDim S8x16384x16384 ![1, 2] bcast_S16384x16384_S8x16384x16384_1_2),
    TRef.unary (TRef.of (T := ⟨S_, .f32⟩) main_call0_v0) (TRef.of (T := ⟨S8x16384x16384, .f32⟩) main_call0_v2) (broadcastInDim S8x16384x16384 ![] bcast_S_S8x16384x16384),
    TRef.ternary (TRef.of (T := ⟨S8x16384x16384, .i1⟩) main_v19_1) (TRef.of (T := ⟨S8x16384x16384, .f32⟩) main_v12) (TRef.of (T := ⟨S8x16384x16384, .f32⟩) main_call0_v2) (TRef.of (T := ⟨S8x16384x16384, .f32⟩) main_v19_0) select,
    TRef.nullary (TRef.of (T := ⟨S_, .f32⟩) main_call0_cst) (constant S_ .f32 0x00000000#32),
    TRef.unary (TRef.of (T := ⟨S_, .f32⟩) main_call0_cst) (TRef.of (T := ⟨S8x16384x16384, .f32⟩) main_v19_2) (broadcastInDim S8x16384x16384 ![] bcast_S_S8x16384x16384),
    nullary main_cst_1 (constant S_ .f32 0xFF800000#32),
    binary main_v19_0 main_cst_1 main_v20 ((fun x v => Host.reduce FloatOps.maximumf x v reducesTo_S8x16384x16384_S8x16384_d2 h_S_) : (⟨S8x16384x16384, .f32⟩ : BufTy).Contents (Elt F) → (⟨S_, .f32⟩ : BufTy).Contents (Elt F) → (⟨S8x16384, .f32⟩ : BufTy).Contents (Elt F)),
    reshape main_v20 main_v21 (rfl : (.f32 : EltTy) = .f32) shapeCasts_S8x16384_S8x16384x1,
    unary main_v21 main_v22 (broadcastInDim S8x16384x16384 ![0, 1, 2] bcast_S8x16384x1_S8x16384x16384_0_1_2 : (⟨S8x16384x1, .f32⟩ : BufTy).Contents (Elt F) → (⟨S8x16384x16384, .f32⟩ : BufTy).Contents (Elt F)),
    binary main_v19_0 main_v22 main_v23 (cmpf .oeq : (⟨S8x16384x16384, .f32⟩ : BufTy).Contents (Elt F) → (⟨S8x16384x16384, .f32⟩ : BufTy).Contents (Elt F) → (⟨S8x16384x16384, .i1⟩ : BufTy).Contents (Elt F)),
    unary main_v23 main_v24 (uitofp .f32 : (⟨S8x16384x16384, .i1⟩ : BufTy).Contents (Elt F) → (⟨S8x16384x16384, .f32⟩ : BufTy).Contents (Elt F)),
    nullary main_cst_2 (constant S_ .f32 0x00000000#32),
    binary main_v24 main_cst_2 main_v25 ((fun x v => Host.reduceAdd x v reducesTo_S8x16384x16384_S8x16384_d2 h_S_) : (⟨S8x16384x16384, .f32⟩ : BufTy).Contents (Elt F) → (⟨S_, .f32⟩ : BufTy).Contents (Elt F) → (⟨S8x16384, .f32⟩ : BufTy).Contents (Elt F)),
    nullary main_cst_3 (constant S_ .f32 0xFF800000#32),
    unary main_cst_3 main_v26 (broadcastInDim S8x16384 ![] bcast_S_S8x16384 : (⟨S_, .f32⟩ : BufTy).Contents (Elt F) → (⟨S8x16384, .f32⟩ : BufTy).Contents (Elt F)),
    binary main_v26 main_v20 main_v27 (maximumf : (⟨S8x16384, .f32⟩ : BufTy).Contents (Elt F) → (⟨S8x16384, .f32⟩ : BufTy).Contents (Elt F) → (⟨S8x16384, .f32⟩ : BufTy).Contents (Elt F)),
    nullary main_cst_4 (constant S_ .f32 0xFF800000#32),
    unary main_cst_4 main_v28 (broadcastInDim S8x16384 ![] bcast_S_S8x16384 : (⟨S_, .f32⟩ : BufTy).Contents (Elt F) → (⟨S8x16384, .f32⟩ : BufTy).Contents (Elt F)),
    binary main_v20 main_v28 main_v29 (cmpf .ogt : (⟨S8x16384, .f32⟩ : BufTy).Contents (Elt F) → (⟨S8x16384, .f32⟩ : BufTy).Contents (Elt F) → (⟨S8x16384, .i1⟩ : BufTy).Contents (Elt F)),
    nullary main_cst_5 (constant S_ .f32 0xFF800000#32),
    unary main_cst_5 main_v30 (broadcastInDim S8x16384 ![] bcast_S_S8x16384 : (⟨S_, .f32⟩ : BufTy).Contents (Elt F) → (⟨S8x16384, .f32⟩ : BufTy).Contents (Elt F)),
    binary main_v20 main_v30 main_v31 (cmpf .oeq : (⟨S8x16384, .f32⟩ : BufTy).Contents (Elt F) → (⟨S8x16384, .f32⟩ : BufTy).Contents (Elt F) → (⟨S8x16384, .i1⟩ : BufTy).Contents (Elt F)),
    nullary main_cst_6 (constant S_ .f32 0x3F800000#32),
    unary main_cst_6 main_v32 (broadcastInDim S8x16384 ![] bcast_S_S8x16384 : (⟨S_, .f32⟩ : BufTy).Contents (Elt F) → (⟨S8x16384, .f32⟩ : BufTy).Contents (Elt F)),
    nullary main_cst_7 (constant S_ .f32 0x00000000#32),
    unary main_cst_7 main_v33 (broadcastInDim S8x16384 ![] bcast_S_S8x16384 : (⟨S_, .f32⟩ : BufTy).Contents (Elt F) → (⟨S8x16384, .f32⟩ : BufTy).Contents (Elt F)),
    nullary main_cst_8 (constant S_ .f32 0x3F000000#32),
    unary main_cst_8 main_v34 (broadcastInDim S8x16384 ![] bcast_S_S8x16384 : (⟨S_, .f32⟩ : BufTy).Contents (Elt F) → (⟨S8x16384, .f32⟩ : BufTy).Contents (Elt F)),
    ternary main_v31 main_v34 main_v33 main_v35 (select : (⟨S8x16384, .i1⟩ : BufTy).Contents (Elt F) → (⟨S8x16384, .f32⟩ : BufTy).Contents (Elt F) → (⟨S8x16384, .f32⟩ : BufTy).Contents (Elt F) → (⟨S8x16384, .f32⟩ : BufTy).Contents (Elt F)),
    ternary main_v29 main_v32 main_v35 main_v36 (select : (⟨S8x16384, .i1⟩ : BufTy).Contents (Elt F) → (⟨S8x16384, .f32⟩ : BufTy).Contents (Elt F) → (⟨S8x16384, .f32⟩ : BufTy).Contents (Elt F) → (⟨S8x16384, .f32⟩ : BufTy).Contents (Elt F)),
    unary main_v27 main_v37 (broadcastInDim S8x16384x1 ![0, 1] bcast_S8x16384_S8x16384x1_0_1 : (⟨S8x16384, .f32⟩ : BufTy).Contents (Elt F) → (⟨S8x16384x1, .f32⟩ : BufTy).Contents (Elt F)),
    unary main_v37 main_v38 (broadcastInDim S8x16384x16384 ![0, 1, 2] bcast_S8x16384x1_S8x16384x16384_0_1_2 : (⟨S8x16384x1, .f32⟩ : BufTy).Contents (Elt F) → (⟨S8x16384x16384, .f32⟩ : BufTy).Contents (Elt F)),
    binary main_v19_0 main_v38 main_v39 (subf : (⟨S8x16384x16384, .f32⟩ : BufTy).Contents (Elt F) → (⟨S8x16384x16384, .f32⟩ : BufTy).Contents (Elt F) → (⟨S8x16384x16384, .f32⟩ : BufTy).Contents (Elt F)),
    unary main_v39 main_v40 (Host.exp : (⟨S8x16384x16384, .f32⟩ : BufTy).Contents (Elt F) → (⟨S8x16384x16384, .f32⟩ : BufTy).Contents (Elt F)),
    nullary main_cst_9 (constant S_ .f32 0x00000000#32),
    binary main_v40 main_cst_9 main_v41 ((fun x v => Host.reduceAdd x v reducesTo_S8x16384x16384_S8x16384_d2 h_S_) : (⟨S8x16384x16384, .f32⟩ : BufTy).Contents (Elt F) → (⟨S_, .f32⟩ : BufTy).Contents (Elt F) → (⟨S8x16384, .f32⟩ : BufTy).Contents (Elt F)),
    unary main_v41 main_v42 (broadcastInDim S8x16384x1 ![0, 1] bcast_S8x16384_S8x16384x1_0_1 : (⟨S8x16384, .f32⟩ : BufTy).Contents (Elt F) → (⟨S8x16384x1, .f32⟩ : BufTy).Contents (Elt F)),
    unary main_v42 main_v43 (broadcastInDim S8x16384x16384 ![0, 1, 2] bcast_S8x16384x1_S8x16384x16384_0_1_2 : (⟨S8x16384x1, .f32⟩ : BufTy).Contents (Elt F) → (⟨S8x16384x16384, .f32⟩ : BufTy).Contents (Elt F)),
    binary main_v40 main_v43 main_v44 (Host.divf : (⟨S8x16384x16384, .f32⟩ : BufTy).Contents (Elt F) → (⟨S8x16384x16384, .f32⟩ : BufTy).Contents (Elt F) → (⟨S8x16384x16384, .f32⟩ : BufTy).Contents (Elt F)),
    binary main_v42 main_v42 main_v45 (mulf : (⟨S8x16384x1, .f32⟩ : BufTy).Contents (Elt F) → (⟨S8x16384x1, .f32⟩ : BufTy).Contents (Elt F) → (⟨S8x16384x1, .f32⟩ : BufTy).Contents (Elt F)),
    nullary main_cst_10 (constant S_ .f32 0x3F800000#32),
    unary main_cst_10 main_v46 (broadcastInDim S8x16384x1 ![] bcast_S_S8x16384x1 : (⟨S_, .f32⟩ : BufTy).Contents (Elt F) → (⟨S8x16384x1, .f32⟩ : BufTy).Contents (Elt F)),
    binary main_v46 main_v45 main_v47 (Host.divf : (⟨S8x16384x1, .f32⟩ : BufTy).Contents (Elt F) → (⟨S8x16384x1, .f32⟩ : BufTy).Contents (Elt F) → (⟨S8x16384x1, .f32⟩ : BufTy).Contents (Elt F)) ]

/-- The operations of its second part: the gradients. -/
abbrev lines1 : List (HloOp τ sig (Elt F)) :=
  [ reshape main_arg2 main_v48 (rfl : (.f32 : EltTy) = .f32) shapeCasts_S16384x512_S16384x8x64,
    binary main_v48 main_v44 main_v49 ((fun l r => Host.dotGeneral dot_S16384x8x64_S8x16384x16384_S8x64x16384_0_2_2_1_1_0 none l r) : (⟨S16384x8x64, .f32⟩ : BufTy).Contents (Elt F) → (⟨S8x16384x16384, .f32⟩ : BufTy).Contents (Elt F) → (⟨S8x64x16384, .f32⟩ : BufTy).Contents (Elt F)),
    unary main_v49 main_v50 ((transpose S16384x8x64 [2, 0, 1] · transposes_S8x64x16384_S16384x8x64_2_0_1) : (⟨S8x64x16384, .f32⟩ : BufTy).Contents (Elt F) → (⟨S16384x8x64, .f32⟩ : BufTy).Contents (Elt F)),
    reshape main_v50 main_v51 (rfl : (.f32 : EltTy) = .f32) shapeCasts_S16384x8x64_S16384x512,
    reshape main_arg4 main_v52 (rfl : (.f32 : EltTy) = .f32) shapeCasts_S16384x512_S16384x8x64,
    unary main_v52 main_v53 ((transpose S8x64x16384 [1, 2, 0] · transposes_S16384x8x64_S8x64x16384_1_2_0) : (⟨S16384x8x64, .f32⟩ : BufTy).Contents (Elt F) → (⟨S8x64x16384, .f32⟩ : BufTy).Contents (Elt F)),
    binary main_v53 main_v48 main_v54 ((fun l r => Host.dotGeneral dot_S8x64x16384_S16384x8x64_S8x16384x16384_1_2_2_0_0_1 none l r) : (⟨S8x64x16384, .f32⟩ : BufTy).Contents (Elt F) → (⟨S16384x8x64, .f32⟩ : BufTy).Contents (Elt F) → (⟨S8x16384x16384, .f32⟩ : BufTy).Contents (Elt F)),
    binary main_v53 main_v44 main_v55 ((fun l r => Host.dotGeneral dot_S8x64x16384_S8x16384x16384_S8x64x16384_2_1_1_2_0_0 none l r) : (⟨S8x64x16384, .f32⟩ : BufTy).Contents (Elt F) → (⟨S8x16384x16384, .f32⟩ : BufTy).Contents (Elt F) → (⟨S8x64x16384, .f32⟩ : BufTy).Contents (Elt F)),
    unary main_v55 main_v56 ((transpose S16384x8x64 [2, 0, 1] · transposes_S8x64x16384_S16384x8x64_2_0_1) : (⟨S8x64x16384, .f32⟩ : BufTy).Contents (Elt F) → (⟨S16384x8x64, .f32⟩ : BufTy).Contents (Elt F)),
    reshape main_v56 main_v57 (rfl : (.f32 : EltTy) = .f32) shapeCasts_S16384x8x64_S16384x512,
    unary main_v47 main_v58 (broadcastInDim S8x16384x16384 ![0, 1, 2] bcast_S8x16384x1_S8x16384x16384_0_1_2 : (⟨S8x16384x1, .f32⟩ : BufTy).Contents (Elt F) → (⟨S8x16384x16384, .f32⟩ : BufTy).Contents (Elt F)),
    binary main_v54 main_v58 main_v59 (mulf : (⟨S8x16384x16384, .f32⟩ : BufTy).Contents (Elt F) → (⟨S8x16384x16384, .f32⟩ : BufTy).Contents (Elt F) → (⟨S8x16384x16384, .f32⟩ : BufTy).Contents (Elt F)),
    binary main_v59 main_v40 main_v60 (mulf : (⟨S8x16384x16384, .f32⟩ : BufTy).Contents (Elt F) → (⟨S8x16384x16384, .f32⟩ : BufTy).Contents (Elt F) → (⟨S8x16384x16384, .f32⟩ : BufTy).Contents (Elt F)),
    nullary main_cst_11 (constant S_ .f32 0x00000000#32),
    binary main_v60 main_cst_11 main_v61 ((fun x v => Host.reduceAdd x v reducesTo_S8x16384x16384_S8x16384_d2 h_S_) : (⟨S8x16384x16384, .f32⟩ : BufTy).Contents (Elt F) → (⟨S_, .f32⟩ : BufTy).Contents (Elt F) → (⟨S8x16384, .f32⟩ : BufTy).Contents (Elt F)),
    reshape main_v61 main_v62 (rfl : (.f32 : EltTy) = .f32) shapeCasts_S8x16384_S8x16384x1,
    unary main_v62 main_v63 (Host.negf : (⟨S8x16384x1, .f32⟩ : BufTy).Contents (Elt F) → (⟨S8x16384x1, .f32⟩ : BufTy).Contents (Elt F)),
    unary main_v42 main_v64 (broadcastInDim S8x16384x16384 ![0, 1, 2] bcast_S8x16384x1_S8x16384x16384_0_1_2 : (⟨S8x16384x1, .f32⟩ : BufTy).Contents (Elt F) → (⟨S8x16384x16384, .f32⟩ : BufTy).Contents (Elt F)),
    binary main_v54 main_v64 main_v65 (Host.divf : (⟨S8x16384x16384, .f32⟩ : BufTy).Contents (Elt F) → (⟨S8x16384x16384, .f32⟩ : BufTy).Contents (Elt F) → (⟨S8x16384x16384, .f32⟩ : BufTy).Contents (Elt F)),
    nullary main_cst_12 (constant S_ .f32 0x00000000#32),
    binary main_v63 main_cst_12 main_v66 ((fun x v => Host.reduceAdd x v reducesTo_S8x16384x1_S8x16384_d2 h_S_) : (⟨S8x16384x1, .f32⟩ : BufTy).Contents (Elt F) → (⟨S_, .f32⟩ : BufTy).Contents (Elt F) → (⟨S8x16384, .f32⟩ : BufTy).Contents (Elt F)),
    unary main_v66 main_v67 (broadcastInDim S8x16384x16384 ![0, 1] bcast_S8x16384_S8x16384x16384_0_1 : (⟨S8x16384, .f32⟩ : BufTy).Contents (Elt F) → (⟨S8x16384x16384, .f32⟩ : BufTy).Contents (Elt F)),
    binary main_v65 main_v67 main_v68 (addf : (⟨S8x16384x16384, .f32⟩ : BufTy).Contents (Elt F) → (⟨S8x16384x16384, .f32⟩ : BufTy).Contents (Elt F) → (⟨S8x16384x16384, .f32⟩ : BufTy).Contents (Elt F)),
    binary main_v68 main_v40 main_v69 (mulf : (⟨S8x16384x16384, .f32⟩ : BufTy).Contents (Elt F) → (⟨S8x16384x16384, .f32⟩ : BufTy).Contents (Elt F) → (⟨S8x16384x16384, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x16384x16384, .f32⟩) main_call1_v0) (broadcastInDim S8x16384x16384 ![] bcast_S_S8x16384x16384),
    TRef.ternary (TRef.of (T := ⟨S8x16384x16384, .i1⟩) main_v19_1) (TRef.of (T := ⟨S8x16384x16384, .f32⟩) main_v69) (TRef.of (T := ⟨S8x16384x16384, .f32⟩) main_call1_v0) (TRef.of (T := ⟨S8x16384x16384, .f32⟩) main_v70) select,
    unary main_v70 main_v71 (Host.negf : (⟨S8x16384x16384, .f32⟩ : BufTy).Contents (Elt F) → (⟨S8x16384x16384, .f32⟩ : BufTy).Contents (Elt F)),
    nullary main_cst_13 (constant S_ .f32 0x00000000#32),
    binary main_v71 main_cst_13 main_v72 ((fun x v => Host.reduceAdd x v reducesTo_S8x16384x16384_S8x16384_d1 h_S_) : (⟨S8x16384x16384, .f32⟩ : BufTy).Contents (Elt F) → (⟨S_, .f32⟩ : BufTy).Contents (Elt F) → (⟨S8x16384, .f32⟩ : BufTy).Contents (Elt F)),
    reshape main_v72 main_v73 (rfl : (.f32 : EltTy) = .f32) shapeCasts_S8x16384_S8x1x16384,
    nullary main_cst_14 (constant S_ .f32 0x00000000#32),
    binary main_v73 main_cst_14 main_v74 ((fun x v => Host.reduceAdd x v reducesTo_S8x1x16384_S8x16384_d1 h_S_) : (⟨S8x1x16384, .f32⟩ : BufTy).Contents (Elt F) → (⟨S_, .f32⟩ : BufTy).Contents (Elt F) → (⟨S8x16384, .f32⟩ : BufTy).Contents (Elt F)),
    unary main_v74 main_v75 ((transpose S16384x8 [1, 0] · transposes_S8x16384_S16384x8_1_0) : (⟨S8x16384, .f32⟩ : BufTy).Contents (Elt F) → (⟨S16384x8, .f32⟩ : BufTy).Contents (Elt F)),
    nullary main_cst_15 (constant S_ .f32 0x00000000#32),
    binary main_v70 main_cst_15 main_v76 ((fun x v => Host.reduceAdd x v reducesTo_S8x16384x16384_S8x16384_d2 h_S_) : (⟨S8x16384x16384, .f32⟩ : BufTy).Contents (Elt F) → (⟨S_, .f32⟩ : BufTy).Contents (Elt F) → (⟨S8x16384, .f32⟩ : BufTy).Contents (Elt F)),
    reshape main_v76 main_v77 (rfl : (.f32 : EltTy) = .f32) shapeCasts_S8x16384_S8x16384x1,
    nullary main_cst_16 (constant S_ .f32 0x00000000#32),
    binary main_v77 main_cst_16 main_v78 ((fun x v => Host.reduceAdd x v reducesTo_S8x16384x1_S8x16384_d2 h_S_) : (⟨S8x16384x1, .f32⟩ : BufTy).Contents (Elt F) → (⟨S_, .f32⟩ : BufTy).Contents (Elt F) → (⟨S8x16384, .f32⟩ : BufTy).Contents (Elt F)),
    unary main_v78 main_v79 ((transpose S16384x8 [1, 0] · transposes_S8x16384_S16384x8_1_0) : (⟨S8x16384, .f32⟩ : BufTy).Contents (Elt F) → (⟨S16384x8, .f32⟩ : BufTy).Contents (Elt F)),
    nullary main_cst_17 (constant S_ .f32 0x3E000000#32),
    unary main_cst_17 main_v80 (broadcastInDim S8x16384x16384 ![] bcast_S_S8x16384x16384 : (⟨S_, .f32⟩ : BufTy).Contents (Elt F) → (⟨S8x16384x16384, .f32⟩ : BufTy).Contents (Elt F)),
    binary main_v70 main_v80 main_v81 (mulf : (⟨S8x16384x16384, .f32⟩ : BufTy).Contents (Elt F) → (⟨S8x16384x16384, .f32⟩ : BufTy).Contents (Elt F) → (⟨S8x16384x16384, .f32⟩ : BufTy).Contents (Elt F)),
    binary main_v81 main_v0 main_v82 ((fun l r => Host.dotGeneral dot_S8x16384x16384_S16384x8x64_S8x16384x64_1_0_2_2_0_1 none l r) : (⟨S8x16384x16384, .f32⟩ : BufTy).Contents (Elt F) → (⟨S16384x8x64, .f32⟩ : BufTy).Contents (Elt F) → (⟨S8x16384x64, .f32⟩ : BufTy).Contents (Elt F)),
    unary main_v82 main_v83 ((transpose S16384x8x64 [1, 0, 2] · transposes_S8x16384x64_S16384x8x64_1_0_2) : (⟨S8x16384x64, .f32⟩ : BufTy).Contents (Elt F) → (⟨S16384x8x64, .f32⟩ : BufTy).Contents (Elt F)),
    binary main_v81 main_v1 main_v84 ((fun l r => Host.dotGeneral dot_S8x16384x16384_S16384x8x64_S8x16384x64_2_0_1_2_0_1 none l r) : (⟨S8x16384x16384, .f32⟩ : BufTy).Contents (Elt F) → (⟨S16384x8x64, .f32⟩ : BufTy).Contents (Elt F) → (⟨S8x16384x64, .f32⟩ : BufTy).Contents (Elt F)),
    unary main_v84 main_v85 ((transpose S16384x8x64 [1, 0, 2] · transposes_S8x16384x64_S16384x8x64_1_0_2) : (⟨S8x16384x64, .f32⟩ : BufTy).Contents (Elt F) → (⟨S16384x8x64, .f32⟩ : BufTy).Contents (Elt F)),
    reshape main_v83 main_v86 (rfl : (.f32 : EltTy) = .f32) shapeCasts_S16384x8x64_S16384x512,
    reshape main_v85 main_v87 (rfl : (.f32 : EltTy) = .f32) shapeCasts_S16384x8x64_S16384x512,
    reshape main_v75 main_v88 (rfl : (.f32 : EltTy) = .f32) shapeCasts_S16384x8_S16384x4x2,
    unary main_v88 main_v89 ((transpose S4x16384x2 [1, 0, 2] · transposes_S16384x4x2_S4x16384x2_1_0_2) : (⟨S16384x4x2, .f32⟩ : BufTy).Contents (Elt F) → (⟨S4x16384x2, .f32⟩ : BufTy).Contents (Elt F)),
    nullary main_c (constantI S_ 32 0#32),
    TRef.unary (TRef.of (T := ⟨S_, .i32⟩) main_c) (TRef.of (T := ⟨S_, .f32⟩) main_call2_v0) (sitofp .f32),
    TRef.binary (TRef.of (T := ⟨S4x16384x2, .f32⟩) main_v89) (TRef.of (T := ⟨S_, .f32⟩) main_call2_v0) (TRef.of (T := ⟨S4x16384x128, .f32⟩) main_v90) (fun x v => pad S4x16384x128 ![0, 0, 0] ![0, 0, 126] ![0, 0, 0] x v pads_S4x16384x2_S4x16384x128_000_000_01260 h_S_),
    unary main_v86 main_v91 ((truncf .bf16 · bitsLt_bf16_f32) : (⟨S16384x512, .f32⟩ : BufTy).Contents (Elt F) → (⟨S16384x512, .bf16⟩ : BufTy).Contents (Elt F)),
    unary main_v57 main_v92 ((truncf .bf16 · bitsLt_bf16_f32) : (⟨S16384x512, .f32⟩ : BufTy).Contents (Elt F) → (⟨S16384x512, .bf16⟩ : BufTy).Contents (Elt F)),
    unary main_v79 main_v93 ((transpose S8x16384 [1, 0] · transposes_S16384x8_S8x16384_1_0) : (⟨S16384x8, .f32⟩ : BufTy).Contents (Elt F) → (⟨S8x16384, .f32⟩ : BufTy).Contents (Elt F)),
    reshape main_v93 main_v94 (rfl : (.f32 : EltTy) = .f32) shapeCasts_S8x16384_S8x32x1x512 ]

set_option maxHeartbeats 4000000 in
theorem part0_eq (c : Dev nD) : main_part0 (F := F) c = seq lines0 := rfl
set_option maxHeartbeats 4000000 in
theorem part1_eq (c : Dev nD) : main_part1 (F := F) c = seq lines1 := rfl

theorem main_eq (c : Dev nD) : main (F := F) c = seq (lines0 ++ lines1) := by
  rw [seq_append, ← part0_eq c, ← part1_eq c]; rfl

theorem scopedRefs_eq : (Finset.univ.filter fun b : Ref sig .tc => b.isScoped) = ∅ := by decide
theorem scopedSems_eq : (Finset.univ.filter fun sm : SemLoc sig => sm.isScoped .tc) = ∅ := by decide

theorem lines0_sub : (lines0 : List (HloOp τ sig (Elt F))).Forall fun op => op.bufs ⊆ tcRefs τ sig :=
  ⟨reshape_bufs_sub .., reshape_bufs_sub .., binary_bufs_sub .., nullary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., unary_bufs_sub .., nullary_bufs_sub .., binary_bufs_sub .., reshape_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub ..⟩
theorem lines1_sub : (lines1 : List (HloOp τ sig (Elt F))).Forall fun op => op.bufs ⊆ tcRefs τ sig :=
  ⟨reshape_bufs_sub .., binary_bufs_sub .., unary_bufs_sub .., reshape_bufs_sub .., reshape_bufs_sub .., unary_bufs_sub .., binary_bufs_sub .., binary_bufs_sub .., unary_bufs_sub .., reshape_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub .., nullary_bufs_sub .., unary_bufs_sub .., ternary_bufs_sub .., unary_bufs_sub .., nullary_bufs_sub .., binary_bufs_sub .., reshape_bufs_sub .., nullary_bufs_sub .., binary_bufs_sub .., unary_bufs_sub .., nullary_bufs_sub .., binary_bufs_sub .., reshape_bufs_sub .., nullary_bufs_sub .., binary_bufs_sub .., unary_bufs_sub .., nullary_bufs_sub .., unary_bufs_sub .., binary_bufs_sub .., binary_bufs_sub .., unary_bufs_sub .., binary_bufs_sub .., unary_bufs_sub .., reshape_bufs_sub .., reshape_bufs_sub .., reshape_bufs_sub .., unary_bufs_sub .., nullary_bufs_sub .., unary_bufs_sub .., binary_bufs_sub .., unary_bufs_sub .., unary_bufs_sub .., unary_bufs_sub .., reshape_bufs_sub ..⟩

theorem lines_sub : (lines0 ++ lines1 : List (HloOp τ sig (Elt F))).Forall fun op => op.bufs ⊆ tcRefs τ sig := by
  rw [List.forall_iff_forall_mem]
  intro op h
  rcases List.mem_append.mp h with h | h
  · exact List.forall_iff_forall_mem.mp lines0_sub op h
  · exact List.forall_iff_forall_mem.mp lines1_sub op h

/-- Every run ends with each buffer as the operations leave it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (lines0 ++ lines1) (fun b => m (c, b)) (Proc.devRef .tc b) :=
  run_seq scopedRefs_eq scopedSems_eq defs main (fun _ => lines0 ++ lines1) main_eq (fun _ => lines_sub) m ρ

end Cert.FoxRef

end
-- ==== Proof.FoxLines.lean ====
/- The reference's gradient of the attention, line by line. -/
module

public import proofs.«01_k».proof.Defs
public import proofs.«01_k».proof.Proof.FoxSoft
public import proofs.«01_k».proof.Proof.FoxRun

@[expose] public section

set_option maxRecDepth 16384

noncomputable section

namespace Cert.FoxRef

open Cert.DfoxRefIdeal Cert.DfoxRefIdeal.Gen Idealize.ShloMosaic Idealize.ShloMosaic.TcCoe Idealize.ShloMosaic.StableHlo

/-- The keys a query sees. -/
def rSees : IVec S8x16384x16384 1 :=
  broadcastInDim S8x16384x16384 ![1, 2] bcast_S16384x16384_S8x16384x16384_1_2
    (cmpi .sle (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- The logits a query sees; minus infinity at later keys. -/
def rS (q k : FVec Ideal S16384x512 .f32) (f : FVec Ideal S16384x8 .f32) : FVec Ideal S8x16384x16384 .f32 :=
  select rSees
    (subf (addf (mulf (Host.dotGeneral dot_S16384x8x64_S16384x8x64_S8x16384x16384_2_2_0_0_1_1 none (shapeCast _ q shapeCasts_S16384x512_S16384x8x64) (shapeCast _ k shapeCasts_S16384x512_S16384x8x64))
          (broadcastInDim S8x16384x16384 ![] bcast_S_S8x16384x16384 (constant S_ .f32 0x3E000000#32)))
        (broadcastInDim S8x16384x16384 ![0, 1, 2] bcast_S8x16384x1_S8x16384x16384_0_1_2
          (broadcastInDim S8x16384x1 ![0, 1] bcast_S8x16384_S8x16384x1_0_1 (transpose S8x16384 [1, 0] f transposes_S16384x8_S8x16384_1_0))))
      (broadcastInDim S8x16384x16384 ![0, 1, 2] bcast_S8x1x16384_S8x16384x16384_0_1_2
        (broadcastInDim S8x1x16384 ![0, 2] bcast_S8x16384_S8x1x16384_0_2 (transpose S8x16384 [1, 0] f transposes_S16384x8_S8x16384_1_0))))
    (broadcastInDim S8x16384x16384 ![] bcast_S_S8x16384x16384 (id (constant S_ .f32 0xFF800000#32)))

/-- Each query's greatest logit. -/
def rM (q k : FVec Ideal S16384x512 .f32) (f : FVec Ideal S16384x8 .f32) : FVec Ideal S8x16384 .f32 :=
  maximumf (broadcastInDim S8x16384 ![] bcast_S_S8x16384 (constant S_ .f32 0xFF800000#32))
    (Host.reduce FloatOps.maximumf (rS q k f) (constant S_ .f32 0xFF800000#32) reducesTo_S8x16384x16384_S8x16384_d2 h_S_)

/-- The exponentials of the logits less their greatest. -/
def rE (q k : FVec Ideal S16384x512 .f32) (f : FVec Ideal S16384x8 .f32) : FVec Ideal S8x16384x16384 .f32 :=
  Host.exp (subf (rS q k f) (broadcastInDim S8x16384x16384 ![0, 1, 2] bcast_S8x16384x1_S8x16384x16384_0_1_2
    (broadcastInDim S8x16384x1 ![0, 1] bcast_S8x16384_S8x16384x1_0_1 (rM q k f))))

/-- Each query's sum of them, and one over its square. -/
def rL (q k : FVec Ideal S16384x512 .f32) (f : FVec Ideal S16384x8 .f32) : FVec Ideal S8x16384x1 .f32 :=
  broadcastInDim S8x16384x1 ![0, 1] bcast_S8x16384_S8x16384x1_0_1
    (Host.reduceAdd (rE q k f) (constant S_ .f32 0x00000000#32) reducesTo_S8x16384x16384_S8x16384_d2 h_S_)
def rLL (q k : FVec Ideal S16384x512 .f32) (f : FVec Ideal S16384x8 .f32) : FVec Ideal S8x16384x1 .f32 :=
  Host.divf (broadcastInDim S8x16384x1 ![] bcast_S_S8x16384x1 (constant S_ .f32 0x3F800000#32)) (mulf (rL q k f) (rL q k f))

/-- The attention's weights. -/
def rP (q k : FVec Ideal S16384x512 .f32) (f : FVec Ideal S16384x8 .f32) : FVec Ideal S8x16384x16384 .f32 :=
  Host.divf (rE q k f) (broadcastInDim S8x16384x16384 ![0, 1, 2] bcast_S8x16384x1_S8x16384x16384_0_1_2 (rL q k f))

/-- The incoming gradient by head, column of the head and place. -/
def rG (g : FVec Ideal S16384x512 .f32) : FVec Ideal S8x64x16384 .f32 :=
  transpose S8x64x16384 [1, 2, 0] (shapeCast S16384x8x64 g shapeCasts_S16384x512_S16384x8x64) transposes_S16384x8x64_S8x64x16384_1_2_0

/-- The weights' gradients. -/
def rDp (v g : FVec Ideal S16384x512 .f32) : FVec Ideal S8x16384x16384 .f32 :=
  Host.dotGeneral dot_S8x64x16384_S16384x8x64_S8x16384x16384_1_2_2_0_0_1 none (rG g) (shapeCast _ v shapeCasts_S16384x512_S16384x8x64)

/-- What the sums pass back to each of a query's exponentials. -/
def rC (q k v : FVec Ideal S16384x512 .f32) (f : FVec Ideal S16384x8 .f32) (g : FVec Ideal S16384x512 .f32) : FVec Ideal S8x16384x1 .f32 :=
  Host.negf (shapeCast _ (Host.reduceAdd (mulf (mulf (rDp v g) (broadcastInDim S8x16384x16384 ![0, 1, 2] bcast_S8x16384x1_S8x16384x16384_0_1_2 (rLL q k f))) (rE q k f))
    (constant S_ .f32 0x00000000#32) reducesTo_S8x16384x16384_S8x16384_d2 h_S_) shapeCasts_S8x16384_S8x16384x1)

/-- The logits' gradients. -/
def rDs (q k v : FVec Ideal S16384x512 .f32) (f : FVec Ideal S16384x8 .f32) (g : FVec Ideal S16384x512 .f32) : FVec Ideal S8x16384x16384 .f32 :=
  select rSees
    (mulf (addf (Host.divf (rDp v g) (broadcastInDim S8x16384x16384 ![0, 1, 2] bcast_S8x16384x1_S8x16384x16384_0_1_2 (rL q k f)))
        (broadcastInDim S8x16384x16384 ![0, 1] bcast_S8x16384_S8x16384x16384_0_1
          (Host.reduceAdd (rC q k v f g) (constant S_ .f32 0x00000000#32) reducesTo_S8x16384x1_S8x16384_d2 h_S_)))
      (rE q k f))
    (broadcastInDim S8x16384x16384 ![] bcast_S_S8x16384x16384 (constant S_ .f32 0x00000000#32))

/-- The same, scaled as the products are. -/
def rDsc (q k v : FVec Ideal S16384x512 .f32) (f : FVec Ideal S16384x8 .f32) (g : FVec Ideal S16384x512 .f32) : FVec Ideal S8x16384x16384 .f32 :=
  mulf (rDs q k v f g) (broadcastInDim S8x16384x16384 ![] bcast_S_S8x16384x16384 (constant S_ .f32 0x3E000000#32))

/-- The five gradients: queries, keys, values, and the gates' by key and by query. -/
def rDq (q k v : FVec Ideal S16384x512 .f32) (f : FVec Ideal S16384x8 .f32) (g : FVec Ideal S16384x512 .f32) : FVec Ideal S16384x512 .f32 :=
  shapeCast _ (transpose S16384x8x64 [1, 0, 2]
    (Host.dotGeneral dot_S8x16384x16384_S16384x8x64_S8x16384x64_2_0_1_2_0_1 none (rDsc q k v f g) (shapeCast _ k shapeCasts_S16384x512_S16384x8x64))
    transposes_S8x16384x64_S16384x8x64_1_0_2) shapeCasts_S16384x8x64_S16384x512
def rDk (q k v : FVec Ideal S16384x512 .f32) (f : FVec Ideal S16384x8 .f32) (g : FVec Ideal S16384x512 .f32) : FVec Ideal S16384x512 .bf16 :=
  truncf .bf16 (shapeCast S16384x512 (transpose S16384x8x64 [1, 0, 2]
    (Host.dotGeneral dot_S8x16384x16384_S16384x8x64_S8x16384x64_1_0_2_2_0_1 none (rDsc q k v f g) (shapeCast _ q shapeCasts_S16384x512_S16384x8x64))
    transposes_S8x16384x64_S16384x8x64_1_0_2) shapeCasts_S16384x8x64_S16384x512) bitsLt_bf16_f32
def rDv (q k : FVec Ideal S16384x512 .f32) (f : FVec Ideal S16384x8 .f32) (g : FVec Ideal S16384x512 .f32) : FVec Ideal S16384x512 .bf16 :=
  truncf .bf16 (shapeCast S16384x512 (transpose S16384x8x64 [2, 0, 1]
    (Host.dotGeneral dot_S8x64x16384_S8x16384x16384_S8x64x16384_2_1_1_2_0_0 none (rG g) (rP q k f))
    transposes_S8x64x16384_S16384x8x64_2_0_1) shapeCasts_S16384x8x64_S16384x512) bitsLt_bf16_f32
def rFk (q k v : FVec Ideal S16384x512 .f32) (f : FVec Ideal S16384x8 .f32) (g : FVec Ideal S16384x512 .f32) : FVec Ideal S4x16384x128 .f32 :=
  pad S4x16384x128 ![0, 0, 0] ![0, 0, 126] ![0, 0, 0]
    (transpose S4x16384x2 [1, 0, 2] (shapeCast S16384x4x2 (transpose S16384x8 [1, 0]
      (Host.reduceAdd (shapeCast S8x1x16384 (Host.reduceAdd (Host.negf (rDs q k v f g)) (constant S_ .f32 0x00000000#32) reducesTo_S8x16384x16384_S8x16384_d1 h_S_) shapeCasts_S8x16384_S8x1x16384)
        (constant S_ .f32 0x00000000#32) reducesTo_S8x1x16384_S8x16384_d1 h_S_)
      transposes_S8x16384_S16384x8_1_0) shapeCasts_S16384x8_S16384x4x2) transposes_S16384x4x2_S4x16384x2_1_0_2)
    (sitofp .f32 (constantI S_ 32 0#32)) pads_S4x16384x2_S4x16384x128_000_000_01260 h_S_
def rFq (q k v : FVec Ideal S16384x512 .f32) (f : FVec Ideal S16384x8 .f32) (g : FVec Ideal S16384x512 .f32) : FVec Ideal S8x32x1x512 .f32 :=
  shapeCast _ (transpose S8x16384 [1, 0] (transpose S16384x8 [1, 0]
    (Host.reduceAdd (shapeCast S8x16384x1 (Host.reduceAdd (rDs q k v f g) (constant S_ .f32 0x00000000#32) reducesTo_S8x16384x16384_S8x16384_d2 h_S_) shapeCasts_S8x16384_S8x16384x1)
      (constant S_ .f32 0x00000000#32) reducesTo_S8x16384x1_S8x16384_d2 h_S_)
    transposes_S8x16384_S16384x8_1_0) transposes_S16384x8_S8x16384_1_0) shapeCasts_S8x16384_S8x32x1x512

variable (m : (ℓ : Loc nD τ sig) → Buf (Elt Ideal) ℓ) (c : Dev nD)

/-- The program's arguments. -/
abbrev argQ : FVec Ideal S16384x512 .f32 := m ((c : Thread nD τ).loc main_arg0)
abbrev argK : FVec Ideal S16384x512 .f32 := m ((c : Thread nD τ).loc main_arg1)
abbrev argV : FVec Ideal S16384x512 .f32 := m ((c : Thread nD τ).loc main_arg2)
abbrev argF : FVec Ideal S16384x8 .f32 := m ((c : Thread nD τ).loc main_arg3)
abbrev argG : FVec Ideal S16384x512 .f32 := m ((c : Thread nD τ).loc main_arg4)

/-- What the operations leave. -/
abbrev atEnd (b : Ref sig .tc) : Buf (Elt Ideal) ((c : Thread nD τ).loc b) := after (lines0 ++ lines1) (fun b => m (c, b)) (Proc.devRef .tc b)

theorem end_v87 : atEnd m c main_v87 = rDq (argQ m c) (argK m c) (argV m c) (argF m c) (argG m c) := by
  simp only [atEnd, lines0, lines1, List.cons_append, List.nil_append, TRef.binary, TRef.nullary, TRef.ternary, TRef.unary, TRef.toBuf, TRef.ofBuf, cast_eq]
  after_results_simp <;> rfl
theorem end_v91 : atEnd m c main_v91 = rDk (argQ m c) (argK m c) (argV m c) (argF m c) (argG m c) := by
  simp only [atEnd, lines0, lines1, List.cons_append, List.nil_append, TRef.binary, TRef.nullary, TRef.ternary, TRef.unary, TRef.toBuf, TRef.ofBuf, cast_eq]
  after_results_simp <;> rfl
theorem end_v92 : atEnd m c main_v92 = rDv (argQ m c) (argK m c) (argF m c) (argG m c) := by
  simp only [atEnd, lines0, lines1, List.cons_append, List.nil_append, TRef.binary, TRef.nullary, TRef.ternary, TRef.unary, TRef.toBuf, TRef.ofBuf, cast_eq]
  after_results_simp <;> rfl
theorem end_v90 : atEnd m c main_v90 = rFk (argQ m c) (argK m c) (argV m c) (argF m c) (argG m c) := by
  simp only [atEnd, lines0, lines1, List.cons_append, List.nil_append, TRef.binary, TRef.nullary, TRef.ternary, TRef.unary, TRef.toBuf, TRef.ofBuf, cast_eq]
  after_results_simp <;> rfl
theorem end_v94 : atEnd m c main_v94 = rFq (argQ m c) (argK m c) (argV m c) (argF m c) (argG m c) := by
  simp only [atEnd, lines0, lines1, List.cons_append, List.nil_append, TRef.binary, TRef.nullary, TRef.ternary, TRef.unary, TRef.toBuf, TRef.ofBuf, cast_eq]
  after_results_simp <;> rfl
theorem end_arg0 : atEnd m c main_arg0 = m ((c : Thread nD τ).loc main_arg0) := by
  simp only [atEnd, lines0, lines1, List.cons_append, List.nil_append, TRef.binary, TRef.nullary, TRef.ternary, TRef.unary, TRef.toBuf, TRef.ofBuf, cast_eq]
  after_results_simp <;> rfl
theorem end_arg1 : atEnd m c main_arg1 = m ((c : Thread nD τ).loc main_arg1) := by
  simp only [atEnd, lines0, lines1, List.cons_append, List.nil_append, TRef.binary, TRef.nullary, TRef.ternary, TRef.unary, TRef.toBuf, TRef.ofBuf, cast_eq]
  after_results_simp <;> rfl
theorem end_arg2 : atEnd m c main_arg2 = m ((c : Thread nD τ).loc main_arg2) := by
  simp only [atEnd, lines0, lines1, List.cons_append, List.nil_append, TRef.binary, TRef.nullary, TRef.ternary, TRef.unary, TRef.toBuf, TRef.ofBuf, cast_eq]
  after_results_simp <;> rfl
theorem end_arg3 : atEnd m c main_arg3 = m ((c : Thread nD τ).loc main_arg3) := by
  simp only [atEnd, lines0, lines1, List.cons_append, List.nil_append, TRef.binary, TRef.nullary, TRef.ternary, TRef.unary, TRef.toBuf, TRef.ofBuf, cast_eq]
  after_results_simp <;> rfl
theorem end_arg4 : atEnd m c main_arg4 = m ((c : Thread nD τ).loc main_arg4) := by
  simp only [atEnd, lines0, lines1, List.cons_append, List.nil_append, TRef.binary, TRef.nullary, TRef.ternary, TRef.unary, TRef.toBuf, TRef.ofBuf, cast_eq]
  after_results_simp <;> rfl

end Cert.FoxRef

end
-- ==== Proof.FoxDots.lean ====
/- The products of the reference's gradient, read at an index. -/
module

public import proofs.«01_k».proof.Defs
public import proofs.«01_k».proof.Proof.FoxLines

@[expose] public section

set_option maxRecDepth 16384

noncomputable section

namespace Cert.FoxRef

open Cert.DfoxRefIdeal Cert.DfoxRefIdeal.Gen Idealize.ShloMosaic Idealize.ShloMosaic.TcCoe

theorem dot_dp (x : FVec Ideal S8x64x16384 .f32) (y : FVec Ideal S16384x8x64 .f32) (h : Fin 8) (t s : Fin 16384) :
    Host.dotGeneral dot_S8x64x16384_S16384x8x64_S8x16384x16384_1_2_2_0_0_1 none x y (ix3 h t s) = ∑ c : Fin 64, x (ix3 h c t) * y (ix3 s h c) := by
  pointwise []
theorem dot_dq (x : FVec Ideal S8x16384x16384 .f32) (y : FVec Ideal S16384x8x64 .f32) (h : Fin 8) (t : Fin 16384) (c : Fin 64) :
    Host.dotGeneral dot_S8x16384x16384_S16384x8x64_S8x16384x64_2_0_1_2_0_1 none x y (ix3 h t c) = ∑ s : Fin 16384, x (ix3 h t s) * y (ix3 s h c) := by
  pointwise []
theorem dot_dk (x : FVec Ideal S8x16384x16384 .f32) (y : FVec Ideal S16384x8x64 .f32) (h : Fin 8) (s : Fin 16384) (c : Fin 64) :
    Host.dotGeneral dot_S8x16384x16384_S16384x8x64_S8x16384x64_1_0_2_2_0_1 none x y (ix3 h s c) = ∑ t : Fin 16384, x (ix3 h t s) * y (ix3 t h c) := by
  pointwise []
theorem dot_dv (x : FVec Ideal S8x64x16384 .f32) (y : FVec Ideal S8x16384x16384 .f32) (h : Fin 8) (c : Fin 64) (s : Fin 16384) :
    Host.dotGeneral dot_S8x64x16384_S8x16384x16384_S8x64x16384_2_1_1_2_0_0 none x y (ix3 h c s) = ∑ t : Fin 16384, x (ix3 h c t) * y (ix3 h t s) := by
  pointwise []

end Cert.FoxRef

end
-- ==== Proof.FoxRef.lean ====
/- The reference's gradient of the attention at real arguments. -/
module

public import proofs.«01_k».proof.Defs
public import proofs.«01_k».proof.Proof.FoxDots

@[expose] public section

set_option maxRecDepth 16384

noncomputable section

namespace Cert.FoxRef

open Cert.DfoxRefIdeal Cert.DfoxRefIdeal.Gen Idealize.ShloMosaic Idealize.ShloMosaic.TcCoe
open Cert.Fox (Args ArgsAre least_eq eighth32_eq sees_eq pick top_real exp_row sum_row weight_row dot_real coe_sum)

variable {R : Args} {q k v g : FVec Ideal S16384x512 .f32} {f : FVec Ideal S16384x8 .f32}

/-! ### The softmax -/

theorem sees_at (h : Fin 8) (t s : Fin 16384) : rSees (ix3 h t s) = if s.val ≤ t.val then 1#1 else 0#1 := by
  rw [← sees_eq]
  pointwise [rSees]

theorem rS_real (hR : ArgsAre R q k v g f) (h : Fin 8) (t s : Fin 16384) :
    rS q k f (ix3 h t s) = if s.val ≤ t.val then ((R.logit h.val t.val s.val + R.F t.val h.val : ℝ) : EReal) else ⊥ := by
  have e := dot_real hR.q hR.k h t s
  have e' : Args.dot R.q R.k h.val t.val s.val * (1 / 8) + R.F t.val h.val - R.F s.val h.val = R.logit h.val t.val s.val + R.F t.val h.val := by
    rw [Args.logit]; ring
  have es := sees_at h t s
  pointwise [rS]
  rw [es, pick, eighth32_eq, hR.f, hR.f, e, ← EReal.coe_mul, ← EReal.coe_add, ← EReal.coe_sub, e']
  exact congrArg (fun z => if s.val ≤ t.val then ((R.logit h.val t.val s.val + R.F t.val h.val : ℝ) : EReal) else z) least_eq

/-- The greatest of a value and minus infinity is the value. -/
theorem top_at (Y : FVec Ideal S8x16384 .f32) (i : S8x16384.Idx) :
    maximumf (broadcastInDim S8x16384 ![] bcast_S_S8x16384 (constant S_ .f32 0xFF800000#32)) Y i = Y i := by
  refine Eq.trans (b := max (Ideal.ofBits .f32 0xFF800000#32) (Y i)) rfl ?_
  rw [least_eq, max_eq_right bot_le]

theorem fold_at (X : FVec Ideal S8x16384x16384 .f32) (h : Fin 8) (t : Fin 16384) :
    Host.reduce FloatOps.maximumf X (constant S_ .f32 0xFF800000#32) reducesTo_S8x16384x16384_S8x16384_d2 h_S_ (ix2 h t)
      = Finset.fold max (Ideal.ofBits .f32 0xFF800000#32) (fun s => X (ix3 h t s)) Finset.univ := by
  pointwise

theorem rM_real (hR : ArgsAre R q k v g f) (h : Fin 8) (t : Fin 16384) : ∃ μ : ℝ, rM q k f (ix2 h t) = (μ : EReal) := by
  obtain ⟨μ, e⟩ := top_real (fun s => rS q k f (ix3 h t s)) t (fun s => R.logit h.val t.val s + R.F t.val h.val) (fun s => rS_real hR h t s)
  refine ⟨μ, ?_⟩
  rw [rM, top_at, fold_at, least_eq]; exact e

/-- A query's exponentials and their sum, with the shift the query's own gate and its greatest logit make. -/
theorem rows_real (hR : ArgsAre R q k v g f) (h : Fin 8) (t : Fin 16384) : ∃ β : ℝ,
    (∀ s : Fin 16384, rE q k f (ix3 h t s) = ((if s.val ≤ t.val then Real.exp (R.logit h.val t.val s.val + β) else 0 : ℝ) : EReal))
    ∧ rL q k f (ix3 h t (0 : Fin 1)) = ((R.Z h.val t.val * Real.exp β : ℝ) : EReal) := by
  obtain ⟨μ, hμ⟩ := rM_real hR h t
  have hE : ∀ s : Fin 16384, rE q k f (ix3 h t s) = ((if s.val ≤ t.val then Real.exp (R.logit h.val t.val s.val + (R.F t.val h.val - μ)) else 0 : ℝ) : EReal) := fun s => by
    have e := rS_real hR h t s
    pointwise [rE]
    rw [hμ, e, exp_row, add_sub_assoc]
  refine ⟨R.F t.val h.val - μ, hE, ?_⟩
  rw [← sum_row, ← coe_sum]
  pointwise [rL]
  exact Finset.sum_congr rfl fun s _ => hE s

theorem rP_real (hR : ArgsAre R q k v g f) (h : Fin 8) (t s : Fin 16384) : rP q k f (ix3 h t s) = (R.P h.val t.val s.val : EReal) := by
  obtain ⟨β, hE, hL⟩ := rows_real hR h t
  have hz := R.Z_pos (h := h.val) t.isLt
  have e := hE s
  pointwise [rP]
  rw [e, hL, Ideal.div_coe (mul_pos hz (Real.exp_pos _)).ne', ← EReal.coe_mul, weight_row]

/-! ### The gradients of the weights and the logits -/

theorem rG_real (hR : ArgsAre R q k v g f) (h : Fin 8) (c : Fin 64) (t : Fin 16384) :
    rG g (ix3 h c t) = (R.g t.val (h.val * 64 + c.val) : EReal) := by
  rw [← hR.g t ⟨h.val * 64 + c.val, by omega⟩]
  pointwise [rG]

/-- An array of rows by head. -/
theorem heads_real {x : FVec Ideal S16384x512 .f32} {a : ℕ → ℕ → ℝ} (hx : ∀ (t : Fin 16384) (C : Fin 512), x (ix2 t C) = (a t.val C.val : EReal))
    (t : Fin 16384) (h : Fin 8) (c : Fin 64) :
    shapeCast S16384x8x64 x shapeCasts_S16384x512_S16384x8x64 (ix3 t h c) = (a t.val (h.val * 64 + c.val) : EReal) := by
  rw [← hx t ⟨h.val * 64 + c.val, by omega⟩]
  pointwise []

theorem rDp_real (hR : ArgsAre R q k v g f) (h : Fin 8) (t s : Fin 16384) : rDp v g (ix3 h t s) = (R.dp h.val t.val s.val : EReal) := by
  rw [rDp, dot_dp, Args.dp, Args.dot, ← coe_sum]
  exact Finset.sum_congr rfl fun c _ => by rw [rG_real hR, heads_real hR.v, ← EReal.coe_mul]

/-- The gradient of one logit, from the row's exponentials and a sum of them. -/
theorem logit_row (R : Args) (h t s : ℕ) (l : ℝ) (e : ℕ → ℝ) (he : ∀ s', e s' * (1 / l) = R.P h t s') :
    (R.dp h t s * (1 / l) + -(∑ s' : Fin 16384, R.dp h t s'.val * (1 / (l * l)) * e s'.val)) * e s = R.ds h t s := by
  have hs : (∑ s' : Fin 16384, R.dp h t s'.val * (1 / (l * l)) * e s'.val) = 1 / l * R.D h t := by
    rw [Args.D, Finset.mul_sum]
    exact Finset.sum_congr rfl fun s' _ => by rw [← he s'.val, ← one_div_mul_one_div]; ring
  rw [hs, Args.ds, ← he s]
  ring

theorem rLL_at (q k : FVec Ideal S16384x512 .f32) (f : FVec Ideal S16384x8 .f32) (h : Fin 8) (t : Fin 16384) {l : ℝ} (hl : l ≠ 0)
    (e : rL q k f (ix3 h t (0 : Fin 1)) = (l : EReal)) : rLL q k f (ix3 h t (0 : Fin 1)) = ((1 / (l * l) : ℝ) : EReal) := by
  pointwise [rLL]
  rw [e, ← EReal.coe_mul, Ideal.div_coe (mul_ne_zero hl hl), one_mul]

theorem rC_real (hR : ArgsAre R q k v g f) (h : Fin 8) (t : Fin 16384) {l : ℝ} {e : ℕ → ℝ} (hl : l ≠ 0)
    (hL : rL q k f (ix3 h t (0 : Fin 1)) = (l : EReal)) (hE : ∀ s : Fin 16384, rE q k f (ix3 h t s) = (e s.val : EReal)) :
    rC q k v f g (ix3 h t (0 : Fin 1)) = ((-(∑ s : Fin 16384, R.dp h.val t.val s.val * (1 / (l * l)) * e s.val) : ℝ) : EReal) := by
  have hLL := rLL_at q k f h t hl hL
  have hd := fun s => rDp_real hR h t s
  rw [EReal.coe_neg, ← coe_sum]
  pointwise [rC]
  refine congrArg _ (Finset.sum_congr rfl fun s _ => ?_)
  rw [hd, hLL, hE, ← EReal.coe_mul, ← EReal.coe_mul]

theorem rDs_real (hR : ArgsAre R q k v g f) (h : Fin 8) (t s : Fin 16384) : rDs q k v f g (ix3 h t s) = (R.ds h.val t.val s.val : EReal) := by
  obtain ⟨β, hE, hL⟩ := rows_real hR h t
  have hl := (mul_pos (R.Z_pos (h := h.val) t.isLt) (Real.exp_pos β)).ne'
  have hC := rC_real hR h t (e := fun s => if s ≤ t.val then Real.exp (R.logit h.val t.val s + β) else 0) hl hL hE
  have hd := rDp_real hR h t s
  have hr := logit_row R h.val t.val s.val _ (fun s => if s ≤ t.val then Real.exp (R.logit h.val t.val s + β) else 0) (fun s' => weight_row R h.val t.val s' β)
  have es := sees_at h t s
  have e := hE s
  pointwise [rDs]
  rw [es, pick, hd, hL, e, Fintype.sum_unique, show (default : Fin 1) = 0 from rfl, hC, Ideal.div_coe hl, ← EReal.coe_mul, ← EReal.coe_add, ← EReal.coe_mul, hr]
  split
  · rfl
  · rw [R.ds_later ‹_›, EReal.coe_zero]

end Cert.FoxRef

end
-- ==== Proof.FoxGrads.lean ====
/- The reference's five results of the attention's gradient, at real arguments. -/
module

public import proofs.«01_k».proof.Defs
public import proofs.«01_k».proof.Proof.FoxRef

@[expose] public section

set_option maxRecDepth 16384

noncomputable section

namespace Cert.FoxRef

open Cert.DfoxRefIdeal Cert.DfoxRefIdeal.Gen Idealize.ShloMosaic Idealize.ShloMosaic.TcCoe
open Cert.Fox (Args ArgsAre eighth32_eq coe_sum)

variable {R : Args} {q k v g : FVec Ideal S16384x512 .f32} {f : FVec Ideal S16384x8 .f32}

/-! ### Where the lines put an array's entries -/

theorem by_place (X : FVec Ideal S8x16384x64 .f32) (t : Fin 16384) (C : Fin 512) :
    shapeCast S16384x512 (transpose S16384x8x64 [1, 0, 2] X transposes_S8x16384x64_S16384x8x64_1_0_2) shapeCasts_S16384x8x64_S16384x512 (ix2 t C)
      = X (ix3 (⟨C.val / 64, by omega⟩ : Fin 8) t (⟨C.val % 64, by omega⟩ : Fin 64)) := by
  pointwise
theorem by_place' (X : FVec Ideal S8x64x16384 .f32) (t : Fin 16384) (C : Fin 512) :
    shapeCast S16384x512 (transpose S16384x8x64 [2, 0, 1] X transposes_S8x64x16384_S16384x8x64_2_0_1) shapeCasts_S16384x8x64_S16384x512 (ix2 t C)
      = X (ix3 (⟨C.val / 64, by omega⟩ : Fin 8) (⟨C.val % 64, by omega⟩ : Fin 64) t) := by
  pointwise
theorem scaled_at (X : FVec Ideal S8x16384x16384 .f32) (i : S8x16384x16384.Idx) :
    mulf X (broadcastInDim S8x16384x16384 ![] bcast_S_S8x16384x16384 (constant S_ .f32 0x3E000000#32)) i = X i * ((1 / 8 : ℝ) : EReal) := by
  rw [← eighth32_eq]; rfl

theorem cast_at (Y : FVec Ideal S16384x512 .f32) (i : S16384x512.Idx) : truncf .bf16 Y bitsLt_bf16_f32 i = Y i := rfl

theorem zero32 : (FloatOps.sitofp .f32 (0#32 : BitVec 32) : Ideal .f32) = 0 := by
  refine (Ideal.scalar_sitofp_def (φ := .f32) (0#32 : BitVec 32)).trans ?_
  simp

theorem keys_at (X : FVec Ideal S8x16384x16384 .f32) (p : Fin 4) (s : Fin 16384) (l : Fin 128) :
    pad S4x16384x128 ![0, 0, 0] ![0, 0, 126] ![0, 0, 0]
      (transpose S4x16384x2 [1, 0, 2] (shapeCast S16384x4x2 (transpose S16384x8 [1, 0]
        (Host.reduceAdd (shapeCast S8x1x16384 (Host.reduceAdd (Host.negf X) (constant S_ .f32 0x00000000#32) reducesTo_S8x16384x16384_S8x16384_d1 h_S_) shapeCasts_S8x16384_S8x1x16384)
          (constant S_ .f32 0x00000000#32) reducesTo_S8x1x16384_S8x16384_d1 h_S_)
        transposes_S8x16384_S16384x8_1_0) shapeCasts_S16384x8_S16384x4x2) transposes_S16384x4x2_S4x16384x2_1_0_2)
      (sitofp .f32 (constantI S_ 32 0#32)) pads_S4x16384x2_S4x16384x128_000_000_01260 h_S_ (ix3 p s l)
      = if hl : l.val < 2 then ∑ _ : Fin 1, ∑ t : Fin 16384, -X (ix3 (⟨2 * p.val + l.val, by omega⟩ : Fin 8) t s) else 0 := by
  pointwise
  refine dite_congr rfl (fun hl => ?_) fun _ => zero32
  refine Finset.sum_congr rfl fun _ _ => Finset.sum_congr rfl fun t _ => congrArg _ ?_
  exact congrArg (fun z => X (ix3 z t s)) (Fin.ext (congrArg (· + l.val) (mul_comm p.val 2)))

theorem queries_at (X : FVec Ideal S8x16384x16384 .f32) (h : Fin 8) (b : Fin 32) (r : Fin 512) :
    shapeCast S8x32x1x512 (transpose S8x16384 [1, 0] (transpose S16384x8 [1, 0]
      (Host.reduceAdd (shapeCast S8x16384x1 (Host.reduceAdd X (constant S_ .f32 0x00000000#32) reducesTo_S8x16384x16384_S8x16384_d2 h_S_) shapeCasts_S8x16384_S8x16384x1)
        (constant S_ .f32 0x00000000#32) reducesTo_S8x16384x1_S8x16384_d2 h_S_)
      transposes_S8x16384_S16384x8_1_0) transposes_S16384x8_S8x16384_1_0) shapeCasts_S8x16384_S8x32x1x512 (ix4 h b (0 : Fin 1) r)
      = ∑ _ : Fin 1, ∑ s : Fin 16384, X (ix3 h (⟨b.val * 512 + r.val, by omega⟩ : Fin 16384) s) := by
  pointwise

/-! ### The results -/

theorem column (C : Fin 512) : C.val / 64 * 64 + C.val % 64 = C.val := by omega

theorem rDsc_real (hR : ArgsAre R q k v g f) (h : Fin 8) (t s : Fin 16384) : rDsc q k v f g (ix3 h t s) = ((R.ds h.val t.val s.val * (1 / 8) : ℝ) : EReal) := by
  rw [rDsc, scaled_at, rDs_real hR, ← EReal.coe_mul]

theorem rDq_real (hR : ArgsAre R q k v g f) (t : Fin 16384) (C : Fin 512) : rDq q k v f g (ix2 t C) = (R.dq t.val C.val : EReal) := by
  rw [rDq, by_place, dot_dq, Args.dq, ← coe_sum]
  refine Finset.sum_congr rfl fun s _ => ?_
  rw [rDsc_real hR, heads_real hR.k, ← EReal.coe_mul]
  show ((R.ds (C.val / 64) t.val s.val * (1 / 8) * R.k s.val (C.val / 64 * 64 + C.val % 64) : ℝ) : EReal) = _
  rw [column, mul_assoc, mul_comm (1 / 8)]

theorem rDk_real (hR : ArgsAre R q k v g f) (s : Fin 16384) (C : Fin 512) : rDk q k v f g (ix2 s C) = (R.dk s.val C.val : EReal) := by
  rw [rDk, cast_at, by_place, dot_dk, Args.dk, ← coe_sum]
  refine Finset.sum_congr rfl fun t _ => ?_
  rw [rDsc_real hR, heads_real hR.q, ← EReal.coe_mul]
  show ((R.ds (C.val / 64) t.val s.val * (1 / 8) * R.q t.val (C.val / 64 * 64 + C.val % 64) : ℝ) : EReal) = _
  rw [column, mul_assoc, mul_comm (1 / 8)]

theorem rDv_real (hR : ArgsAre R q k v g f) (s : Fin 16384) (C : Fin 512) : rDv q k f g (ix2 s C) = (R.dv s.val C.val : EReal) := by
  rw [rDv, cast_at, by_place', dot_dv, Args.dv, ← coe_sum]
  refine Finset.sum_congr rfl fun t _ => ?_
  rw [rG_real hR, rP_real hR, ← EReal.coe_mul]
  show ((R.g t.val (C.val / 64 * 64 + C.val % 64) * R.P (C.val / 64) t.val s.val : ℝ) : EReal) = _
  rw [column, mul_comm]

theorem rFk_real (hR : ArgsAre R q k v g f) (p : Fin 4) (s : Fin 16384) (l : Fin 128) :
    rFk q k v f g (ix3 p s l) = if l.val < 2 then ((-R.fk s.val (2 * p.val + l.val) : ℝ) : EReal) else 0 := by
  rw [rFk, keys_at]
  split
  · rw [Fintype.sum_unique, Args.fk, ← Finset.sum_neg_distrib, ← coe_sum]
    exact Finset.sum_congr rfl fun t _ => by rw [rDs_real hR, EReal.coe_neg]
  · rfl

theorem rFq_real (hR : ArgsAre R q k v g f) (h : Fin 8) (b : Fin 32) (r : Fin 512) :
    rFq q k v f g (ix4 h b (0 : Fin 1) r) = (R.fq (b.val * 512 + r.val) h.val : EReal) := by
  rw [rFq, queries_at, Fintype.sum_unique, Args.fq, ← coe_sum]
  exact Finset.sum_congr rfl fun s _ => rDs_real hR h _ s

end Cert.FoxRef

end
-- ==== Proof.FoxValue.lean ====
/- The attention's gradient: the kernel's five results are the reference's wherever the arguments are real numbers. -/
module

public import proofs.«01_k».proof.Defs
public import proofs.«01_k».proof.Proof.Gen.Dfox
public import proofs.«01_k».proof.Proof.Finite
public import proofs.«01_k».proof.Proof.FoxFinal
public import proofs.«01_k».proof.Proof.FoxGrads
public import proofs.«01_k».proof.Proof.FoxLines
public import Idealize.ShloMosaic.Lib.Claim
public import Idealize.ShloMosaic.Lib.Tactic

@[expose] public section

set_option maxRecDepth 16384

noncomputable section

namespace Cert.FoxValue

open Cert.Fin Idealize.ShloMosaic Idealize.ShloMosaic.TcCoe Idealize.SL.Sem
open Cert.Fox (Args ArgsAre ArgsOf)

/-- The shape facts the precondition states. -/
instance preFacts : Cert.Pre_dfox_finite.Facts := by
  constructor <;> decide

section Reals

/-- An array of real numbers read at two natural numbers: zero outside. -/
def entries {n k : ℕ} (x : (⟨2, ![n, k]⟩ : Shape).Idx → EReal) (a b : ℕ) : ℝ :=
  if h : a < n ∧ b < k then (x (ix2 ⟨a, h.1⟩ ⟨b, h.2⟩)).toReal else 0

theorem entries_eq {n k : ℕ} (x : (⟨2, ![n, k]⟩ : Shape).Idx → EReal) (hx : ∀ i, Real? (x i)) (a : Fin n) (b : Fin k) :
    x (ix2 a b) = (entries x a.val b.val : EReal) := by
  obtain ⟨r, hr⟩ := hx (ix2 a b)
  rw [entries, dif_pos ⟨a.isLt, b.isLt⟩]
  change x (ix2 a b) = ((x (ix2 a b)).toReal : EReal)
  rw [hr, EReal.toReal_coe]

end Reals

/-- A function of five arguments takes equal values at equal arguments. -/
theorem same {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

open Cert.DfoxIdeal Cert.DfoxIdeal.Gen

variable (m : (ℓ : Loc nD τ sig) → Buf (Elt Ideal) ℓ)

/-- The arguments' real numbers. -/
def reals (c : Dev nD) : Args where
  q := entries (Cert.Fox.argQ m c)
  k := entries (Cert.Fox.argK m c)
  v := entries (Cert.Fox.argV m c)
  g := entries (Cert.Fox.argG m c)
  F := entries (Cert.Fox.argF m c)

/-- Where the precondition holds, the arguments are real numbers. -/
theorem reals_of_pre [Cert.Pre_dfox_finite.Facts] (hp : Cert.Pre_DfoxIdeal_dfox_finite m) (c : Dev nD) : ArgsOf m c (reals m c) := by
  have h := congrFun (hp c) ix0
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨entries_eq _ fun i => of_abs_lt (Host.reduce_andi_all _ _ _ _ _ h0 i), entries_eq _ fun i => of_abs_lt (Host.reduce_andi_all _ _ _ _ _ h1 i),
    entries_eq _ fun i => of_abs_lt (Host.reduce_andi_all _ _ _ _ _ h2 i), entries_eq _ fun i => of_abs_lt (Host.reduce_andi_all _ _ _ _ _ h4 i),
    entries_eq _ fun i => of_abs_lt (Host.reduce_andi_all _ _ _ _ _ h3 i)⟩

section Results

variable {m} {c : Dev nD} {R : Args} (hR : ArgsOf m c R)
include hR

theorem result_dq : (Cert.Fox.dats m 0 c).arrAt 7 cfg0.N = Cert.FoxRef.rDq (Cert.Fox.argQ m c) (Cert.Fox.argK m c) (Cert.Fox.argV m c) (Cert.Fox.argF m c) (Cert.Fox.argG m c) :=
  Cert.Fox.final_dq (Cert.Fox.blocks_are hR) _ (Cert.FoxRef.rDq_real hR)
theorem result_dk : (Cert.Fox.dats m 0 c).arrAt 8 cfg0.N = Cert.FoxRef.rDk (Cert.Fox.argQ m c) (Cert.Fox.argK m c) (Cert.Fox.argV m c) (Cert.Fox.argF m c) (Cert.Fox.argG m c) :=
  Cert.Fox.final_dk (Cert.Fox.blocks_are hR) _ (Cert.FoxRef.rDk_real hR)
theorem result_dv : (Cert.Fox.dats m 0 c).arrAt 9 cfg0.N = Cert.FoxRef.rDv (Cert.Fox.argQ m c) (Cert.Fox.argK m c) (Cert.Fox.argF m c) (Cert.Fox.argG m c) :=
  Cert.Fox.final_dv (Cert.Fox.blocks_are hR) _ (Cert.FoxRef.rDv_real hR)
theorem result_df : (Cert.Fox.dats m 0 c).arrAt 10 cfg0.N = Cert.FoxRef.rFk (Cert.Fox.argQ m c) (Cert.Fox.argK m c) (Cert.Fox.argV m c) (Cert.Fox.argF m c) (Cert.Fox.argG m c) :=
  Cert.Fox.final_df (Cert.Fox.blocks_are hR) _ (Cert.FoxRef.rFk_real hR)
theorem result_dfq : (Cert.Fox.dats m 0 c).arrAt 11 cfg0.N = Cert.FoxRef.rFq (Cert.Fox.argQ m c) (Cert.Fox.argK m c) (Cert.Fox.argV m c) (Cert.Fox.argF m c) (Cert.Fox.argG m c) :=
  Cert.Fox.final_dfq (Cert.Fox.blocks_are hR) _ (Cert.FoxRef.rFq_real hR)

end Results

/-- The two programs' results are equal where the arguments are real numbers. -/
theorem value [Cert.Pre_dfox_finite.Facts] : Cert.algebraic_DfoxIdeal_DfoxRefIdeal_pre_dfox_finite := by
  intro m g m' g' hp hm
  refine ⟨fun c => Cert.FoxRef.rDq (Cert.Fox.argQ m c) (Cert.Fox.argK m c) (Cert.Fox.argV m c) (Cert.Fox.argF m c) (Cert.Fox.argG m c), fun c => Cert.FoxRef.rDk (Cert.Fox.argQ m c) (Cert.Fox.argK m c) (Cert.Fox.argV m c) (Cert.Fox.argF m c) (Cert.Fox.argG m c), fun c => Cert.FoxRef.rDv (Cert.Fox.argQ m c) (Cert.Fox.argK m c) (Cert.Fox.argF m c) (Cert.Fox.argG m c), fun c => Cert.FoxRef.rFk (Cert.Fox.argQ m c) (Cert.Fox.argK m c) (Cert.Fox.argV m c) (Cert.Fox.argF m c) (Cert.Fox.argG m c), fun c => Cert.FoxRef.rFq (Cert.Fox.argQ m c) (Cert.Fox.argK m c) (Cert.Fox.argV m c) (Cert.Fox.argF m c) (Cert.Fox.argG m c), ?_, ?_⟩
  · refine θ_run_mono (θ_run_and (Cert.Fox.frame (F := Ideal) m g) (Cert.Fox.run_main (F := Ideal) m g)) fun r h c => ?_
    have hR := reals_of_pre m hp c
    obtain ⟨ha0, ha1, ha2, ha3, ha4⟩ := h.1.1 c
    exact ⟨(h.2.out_eq c 7).trans (result_dq hR), (h.2.out_eq c 8).trans (result_dk hR), (h.2.out_eq c 9).trans (result_dv hR),
      (h.2.out_eq c 10).trans (result_df hR), (h.2.out_eq c 11).trans (result_dfq hR), ha0, ha1, ha2, ha3, ha4⟩
  · refine θ_run_mono (Cert.FoxRef.run (F := Ideal) m' g') fun r h c => ?_
    obtain ⟨h0, h1, h2, h3, h4⟩ := hm c
    have hq : Cert.FoxRef.argQ m' c = Cert.Fox.argQ m c := h0
    have hk : Cert.FoxRef.argK m' c = Cert.Fox.argK m c := h1
    have hv : Cert.FoxRef.argV m' c = Cert.Fox.argV m c := h2
    have hf : Cert.FoxRef.argF m' c = Cert.Fox.argF m c := h3
    have hg : Cert.FoxRef.argG m' c = Cert.Fox.argG m c := h4
    refine ⟨(h c _).trans ((Cert.FoxRef.end_v87 m' c).trans ?_), (h c _).trans ((Cert.FoxRef.end_v91 m' c).trans ?_), (h c _).trans ((Cert.FoxRef.end_v92 m' c).trans ?_),
      (h c _).trans ((Cert.FoxRef.end_v90 m' c).trans ?_), (h c _).trans ((Cert.FoxRef.end_v94 m' c).trans ?_),
      (h c _).trans (Cert.FoxRef.end_arg0 m' c), (h c _).trans (Cert.FoxRef.end_arg1 m' c), (h c _).trans (Cert.FoxRef.end_arg2 m' c),
      (h c _).trans (Cert.FoxRef.end_arg3 m' c), (h c _).trans (Cert.FoxRef.end_arg4 m' c)⟩
    · exact same (Cert.FoxRef.rDq) hq hk hv hf hg
    · exact same (Cert.FoxRef.rDk) hq hk hv hf hg
    · exact same (fun q k _ f g => Cert.FoxRef.rDv q k f g) hq hk hv hf hg
    · exact same (Cert.FoxRef.rFk) hq hk hv hf hg
    · exact same (Cert.FoxRef.rFq) hq hk hv hf hg

/-- The program's frame over floating-point values, of the text that the ideal program shares with it. -/
def BitsFrame : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem bits_same : BitsFrame = Cert.quiescent_Dfox := by sl_kernel_rfl

/-- The kernel with floating-point arithmetic runs to its end and leaves its arguments and every counter as they were. -/
theorem frame_bits : Cert.quiescent_Dfox := bits_same ▸ fun m g _ => Cert.Fox.frame (F := Bits) m g

/-- The kernel over the reals does too. -/
theorem frame_ideal : Cert.quiescent_DfoxIdeal := fun m g _ => Cert.Fox.frame (F := Ideal) m g

/-- And the reference. -/
theorem frame_ref : Cert.quiescent_DfoxRefIdeal := fun m g _ =>
  θ_run_mono (Cert.FoxRef.run (F := Ideal) m g) fun r h =>
    ⟨fun c => ⟨(h c _).trans (Cert.FoxRef.end_arg0 m c), (h c _).trans (Cert.FoxRef.end_arg1 m c), (h c _).trans (Cert.FoxRef.end_arg2 m c),
      (h c _).trans (Cert.FoxRef.end_arg3 m c), (h c _).trans (Cert.FoxRef.end_arg4 m c)⟩, sem_eq_zero_of_no_sems (by decide) r.2⟩

end Cert.FoxValue

end
-- ==== Proof.AttnRun.lean ====
/- The attention's forward kernel as a sequence of steps: what the four scratch arrays hold after each block of keys, and
   what a point leaves in its results. -/
module

public import proofs.«01_k».proof.Proof.Gen.AttendIdeal.Frame

@[expose] public section

set_option maxRecDepth 8192
set_option maxHeartbeats 1000000

noncomputable section

namespace Cert.Attn

open Cert.AttendIdeal Cert.AttendIdeal.Gen Idealize.ShloMosaic Idealize.ShloMosaic.TcCoe Idealize.SL Idealize.SL.RA Idealize.SL.Sem

variable {F : FTy → Type} [FloatOps F] [Named F]

/-- The two heads' halves of an array of the running maxima, sums or weighted sums, and of the logits. -/
abbrev half0 : Rect S2x1024x128 := Rect.unit (s := S2x1024x128) ![0, 0, 0] S1x1024x128.size inb_S2x1024x128_S1x1024x128_0_0_0
abbrev half1 : Rect S2x1024x128 := Rect.unit (s := S2x1024x128) ![1, 0, 0] S1x1024x128.size inb_S2x1024x128_S1x1024x128_1_0_0
abbrev head0 : Rect S2x1024x1024 := Rect.unit (s := S2x1024x1024) ![0, 0, 0] S1x1024x1024.size inb_S2x1024x1024_S1x1024x1024_0_0_0
abbrev head1 : Rect S2x1024x1024 := Rect.unit (s := S2x1024x1024) ![1, 0, 0] S1x1024x1024.size inb_S2x1024x1024_S1x1024x1024_1_0_0

/-- What the scratch arrays hold: each head's running maxima, sums and weighted sums, and the logits of the next block. -/
structure St (F : FTy → Type) where
  m0 : Vec F S1x1024x128 .f32
  m1 : Vec F S1x1024x128 .f32
  l0 : Vec F S1x1024x128 .f32
  l1 : Vec F S1x1024x128 .f32
  a0 : Vec F S1x1024x128 .f32
  a1 : Vec F S1x1024x128 .f32
  s0 : Vec F S1x1024x1024 .f32
  s1 : Vec F S1x1024x1024 .f32

section Read

variable (M9 M10 M11 : Memref sig .tc .vmem S2x1024x128 .f32) (M12 : Memref sig .tc .vmem S2x1024x1024 .f32)

/-- The arrays' contents as such a state. -/
def held (f9 : BufTy.Contents (Elt F) M9.view.ty) (f10 : BufTy.Contents (Elt F) M10.view.ty) (f11 : BufTy.Contents (Elt F) M11.view.ty)
    (f12 : BufTy.Contents (Elt F) M12.view.ty) : St F where
  m0 := M9.view.readAt (Elt F) half0.toLoadRect f9
  m1 := M9.view.readAt (Elt F) half1.toLoadRect f9
  l0 := M10.view.readAt (Elt F) half0.toLoadRect f10
  l1 := M10.view.readAt (Elt F) half1.toLoadRect f10
  a0 := M11.view.readAt (Elt F) half0.toLoadRect f11
  a1 := M11.view.readAt (Elt F) half1.toLoadRect f11
  s0 := M12.view.readAt (Elt F) head0.toLoadRect f12
  s1 := M12.view.readAt (Elt F) head1.toLoadRect f12

end Read

/-- The step over a block of keys that are all seen: `q0`, `q1` the heads' queries, `k` the NEXT block's keys with their
    gates `g0`, `g1`, `v` this block's values. -/
def next (q0 q1 : FVec F S1024x128 .bf16) (k v : Vec F S1024x128 .bf16) (g0 g1 : Vec F S1x1x1x1024 .f32) (s : St F) : St F where
  m0 := k0_pay15 (k0_pay9 s.s0 s.m0)
  m1 := k0_pay52 (k0_pay17 (k0_pay3 s.s1) s.m1)
  l0 := k0_pay13 (k0_pay8 s.m0) (k0_pay9 s.s0 s.m0) (k0_pay10 s.s0 s.m0) s.l0
  l1 := k0_pay50 (k0_pay18 (k0_pay3 s.s1) s.m1) (k0_pay19 (k0_pay3 s.s1) s.m1) s.l1
  a0 := k0_pay14 (k0_pay7 v) (k0_pay8 s.m0) (k0_pay9 s.s0 s.m0) (k0_pay10 s.s0 s.m0) s.a0
  a1 := k0_pay51 (k0_pay7 v) (k0_pay18 (k0_pay3 s.s1) s.m1) (k0_pay19 (k0_pay3 s.s1) s.m1) s.a1
  s0 := k0_pay53 (k0_pay5 q0 k g0)
  s1 := k0_pay54 (k0_pay6 q1 k g1)

/-- The step over the queries' own block `b`, of whose keys each query sees those not after it. -/
def last (b : BitVec 32) (v : Vec F S1024x128 .bf16) (s : St F) : St F where
  m0 := k0_pay72 (k0_pay67 b (k0_pay61 s.s0) k0_pay64 s.m0)
  m1 := k0_pay81 (k0_pay75 b (k0_pay62 s.s1) s.m1)
  l0 := k0_pay70 b (k0_pay61 s.s0) k0_pay64 s.m0 s.l0
  l1 := k0_pay78 b (k0_pay62 s.s1) s.m1 s.l1
  a0 := k0_pay71 b (k0_pay61 s.s0) (k0_pay63 v) k0_pay64 s.m0 s.a0
  a1 := k0_pay80 (k0_pay63 v) (k0_pay76 b (k0_pay62 s.s1) s.m1) (k0_pay77 b (k0_pay62 s.s1) s.m1) (k0_pay79 s.a1)
  s0 := s.s0
  s1 := s.s1

/-- A load through the last write's own rectangle reads what it wrote. -/
theorem read_last {s : Shape} {e : EltTy} {M : Memref sig .tc .vmem s e} (f : BufTy.Contents (Elt F) M.view.ty) (r : Rect s) (w : r.shape.Idx → Elt F e)
    (L : List (View.Piece (Elt F) s e)) : M.view.readAt (Elt F) r.toLoadRect (M.view.writes (Elt F) f (⟨r, w⟩ :: L)) = w :=
  (View.readAt_writes_of_cover M.view f _ _ fun j => ⟨_, List.mem_cons_self, r.idx_mem j⟩).trans (View.readCov_cons_toLoadRect M.view r w L)

/-- A load apart from the last write reads what was there before it. -/
theorem read_past {s : Shape} {e : EltTy} {M : Memref sig .tc .vmem s e} (f : BufTy.Contents (Elt F) M.view.ty) (r : Rect s) (w : r.shape.Idx → Elt F e)
    (L : List (View.Piece (Elt F) s e)) (B : LoadRect s) (h : LoadRect.disj r B = true) :
    M.view.readAt (Elt F) B (M.view.writes (Elt F) f (⟨r, w⟩ :: L)) = M.view.readAt (Elt F) B (M.view.writes (Elt F) f L) := by
  rw [← List.singleton_append, View.writes_append]
  exact View.readAt_writes_of_forall_not_mem M.view _ [⟨r, w⟩] B (LoadRect.forall_not_mem_of_disjAll [⟨r, w⟩] B (by simp [LoadRect.disjAll, h]))

theorem apart10 : LoadRect.disj half1 half0.toLoadRect = true := by decide +kernel
theorem apart01 : LoadRect.disj half0 half1.toLoadRect = true := by decide +kernel
theorem logits10 : LoadRect.disj head1 head0.toLoadRect = true := by decide +kernel

/-- Both halves written, in the order the kernel writes them, are what the arrays then hold. -/
theorem held_written {M9 M10 M11 : Memref sig .tc .vmem S2x1024x128 .f32} {M12 : Memref sig .tc .vmem S2x1024x1024 .f32}
    (f9 : BufTy.Contents (Elt F) M9.view.ty) (f10 : BufTy.Contents (Elt F) M10.view.ty) (f11 : BufTy.Contents (Elt F) M11.view.ty)
    (f12 : BufTy.Contents (Elt F) M12.view.ty) (L9 L10 L11 : List (View.Piece (Elt F) S2x1024x128 .f32)) (L12 : List (View.Piece (Elt F) S2x1024x1024 .f32)) (t : St F) :
    held M9 M10 M11 M12 (M9.view.writes (Elt F) f9 (⟨half1, t.m1⟩ :: ⟨half0, t.m0⟩ :: L9)) (M10.view.writes (Elt F) f10 (⟨half1, t.l1⟩ :: ⟨half0, t.l0⟩ :: L10))
      (M11.view.writes (Elt F) f11 (⟨half1, t.a1⟩ :: ⟨half0, t.a0⟩ :: L11)) (M12.view.writes (Elt F) f12 (⟨head1, t.s1⟩ :: ⟨head0, t.s0⟩ :: L12)) = t := by
  unfold held
  simp only [read_last, read_past _ half1 _ _ half0.toLoadRect apart10, read_past _ head1 _ _ head0.toLoadRect logits10]

section Trip

variable (c : Dev nD) (i : grid0.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x16x1x1024 .f32) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x1024 .f32) (harg12 : arg12.IsWhole)
  (b : BitVec 32) (q0 q1 v28 : FVec F S1024x128 .bf16) (v29 : FVec F S1024x1024 .f32) (X3 : BufTy.Contents (Elt F) arg3.view.ty)
  (X4 : BufTy.Contents (Elt F) arg4.view.ty) (X5 : BufTy.Contents (Elt F) arg5.view.ty) (k : Fin (k0_t1_loop i).trips)
  (f9 : BufTy.Contents (Elt F) arg9.view.ty) (f10 : BufTy.Contents (Elt F) arg10.view.ty) (f11 : BufTy.Contents (Elt F) arg11.view.ty)
  (f12 : BufTy.Contents (Elt F) arg12.view.ty)

/-- What trip `k` reads of the keys, the values and the gates. -/
abbrev keys : Vec F S1024x128 .bf16 := arg3.view.readAt (Elt F) (Rect.unit (s := S16384x128) (k0_off1 i k) S1024x128.size (k0_off1_inb i k)).toLoadRect X3
abbrev vals : Vec F S1024x128 .bf16 := arg4.view.readAt (Elt F) (Rect.unit (s := S16384x128) (k0_off4 i k) S1024x128.size (k0_off4_inb i k)).toLoadRect X4
abbrev gate0 : Vec F S1x1x1x1024 .f32 := arg5.view.readAt (Elt F) (Rect.unit (s := S2x16x1x1024) (k0_off2 i k) S1x1x1x1024.size (k0_off2_inb i k)).toLoadRect X5
abbrev gate1 : Vec F S1x1x1x1024 .f32 := arg5.view.readAt (Elt F) (Rect.unit (s := S2x16x1x1024) (k0_off3 i k) S1x1x1x1024.size (k0_off3_inb i k)).toLoadRect X5

/-- A trip's stores are its step's halves. -/
theorem trip_stores : tripL_k0_t1 (F := F) Variants.none c none i arg2 harg2 arg3 harg3 arg4 harg4 arg5 harg5 arg6 harg6 arg7 harg7 arg8 harg8 arg9 harg9 arg10 harg10 arg11 harg11 arg12 harg12 b q0 q1 v28 v29 X3 X4 X5 k f9 f10 f11 f12
    = let t := next q0 q1 (keys i arg3 X3 k) (vals i arg4 X4 k) (gate0 i arg5 X5 k) (gate1 i arg5 X5 k) (held arg9 arg10 arg11 arg12 f9 f10 f11 f12)
      ([⟨half1, t.m1⟩, ⟨half0, t.m0⟩], [⟨half1, t.l1⟩, ⟨half0, t.l0⟩], [⟨half1, t.a1⟩, ⟨half0, t.a0⟩], [⟨head1, t.s1⟩, ⟨head0, t.s0⟩]) := by
  unfold tripL_k0_t1 trip_k0_t1
  rfl

/-- What the arrays hold before trip `n`. -/
abbrev before (n : ℕ) : St F :=
  let p := pb_k0_t1 (F := F) Variants.none c none i arg2 harg2 arg3 harg3 arg4 harg4 arg5 harg5 arg6 harg6 arg7 harg7 arg8 harg8 arg9 harg9 arg10 harg10 arg11 harg11 arg12 harg12 b q0 q1 v28 v29 X3 X4 X5 f9 f10 f11 f12 n
  held arg9 arg10 arg11 arg12 (arg9.view.writes (Elt F) f9 p.1) (arg10.view.writes (Elt F) f10 p.2.1) (arg11.view.writes (Elt F) f11 p.2.2.1) (arg12.view.writes (Elt F) f12 p.2.2.2)

/-- A property of what the arrays hold, kept by every trip, holds before each. -/
theorem before_ind (P : ℕ → St F → Prop) (h0 : P 0 (held arg9 arg10 arg11 arg12 f9 f10 f11 f12))
    (hs : ∀ (k : Fin (k0_t1_loop i).trips) (s : St F), P k.val s → P (k.val + 1) (next q0 q1 (keys i arg3 X3 k) (vals i arg4 X4 k) (gate0 i arg5 X5 k) (gate1 i arg5 X5 k) s))
    (n : ℕ) (hn : n ≤ (k0_t1_loop i).trips) : P n (before c i arg2 harg2 arg3 harg3 arg4 harg4 arg5 harg5 arg6 harg6 arg7 harg7 arg8 harg8 arg9 harg9 arg10 harg10 arg11 harg11 arg12 harg12 b q0 q1 v28 v29 X3 X4 X5 f9 f10 f11 f12 n) := by
  induction n with
  | zero => exact h0
  | succ n ih =>
    have e := pb_k0_t1_succ (F := F) Variants.none c none i arg2 harg2 arg3 harg3 arg4 harg4 arg5 harg5 arg6 harg6 arg7 harg7 arg8 harg8 arg9 harg9 arg10 harg10 arg11 harg11 arg12 harg12 b q0 q1 v28 v29 X3 X4 X5 f9 f10 f11 f12 ⟨n, hn⟩
    unfold before
    rw [show n + 1 = (⟨n, hn⟩ : Fin (k0_t1_loop i).trips).val + 1 from rfl, e, trip_stores]
    dsimp only [List.cons_append, List.nil_append]
    rw [held_written]
    exact hs ⟨n, hn⟩ _ (ih (Nat.le_of_succ_le hn))

end Trip

end Cert.Attn
-- ==== Proof.AttnStep.lean ====
/- One step of the attention's forward kernel at real arguments: what a block of keys adds to a row's running maximum,
   sum and weighted sums. -/
module

public import proofs.«01_k».proof.Proof.AttnRun
public import proofs.«01_k».proof.Proof.FoxSoft

@[expose] public section

set_option maxRecDepth 8192
set_option maxHeartbeats 1000000

noncomputable section

namespace Cert.Attn

open Cert.AttendIdeal Cert.AttendIdeal.Gen Idealize.ShloMosaic Idealize.ShloMosaic.TcCoe
open Cert.Fox (least_eq exp_row coe_sum)

/-- The running maxima after the logits `S`, and the sums and the weighted sums of the values `v` told by them. -/
def upM (S : FVec Ideal S1024x1024 .f32) (M : Vec Ideal S1x1024x128 .f32) : FVec Ideal S1x1024x128 .f32 := k0_pay52 (k0_pay17 S M)
def upL (S : FVec Ideal S1024x1024 .f32) (M L : Vec Ideal S1x1024x128 .f32) : FVec Ideal S1x1024x128 .f32 := k0_pay50 (k0_pay18 S M) (k0_pay19 S M) L
def upA (S : FVec Ideal S1024x1024 .f32) (v : Vec Ideal S1024x128 .bf16) (M A : Vec Ideal S1x1024x128 .f32) : FVec Ideal S1x1024x128 .f32 :=
  k0_pay51 (k0_pay7 v) (k0_pay18 S M) (k0_pay19 S M) A

/-- A head's logits, and those a query of block `b` sees of its own block. -/
abbrev flat (s : Vec Ideal S1x1024x1024 .f32) : FVec Ideal S1024x1024 .f32 := k0_pay3 s
abbrev seen (b : BitVec 32) (s : Vec Ideal S1x1024x1024 .f32) : FVec Ideal S1024x1024 .f32 := k0_pay73 b (k0_pay62 s)

theorem next_eq (q0 q1 : FVec Ideal S1024x128 .bf16) (k v : Vec Ideal S1024x128 .bf16) (g0 g1 : Vec Ideal S1x1x1x1024 .f32) (s : St Ideal) :
    next q0 q1 k v g0 g1 s = ⟨upM (flat s.s0) s.m0, upM (flat s.s1) s.m1, upL (flat s.s0) s.m0 s.l0, upL (flat s.s1) s.m1 s.l1,
      upA (flat s.s0) v s.m0 s.a0, upA (flat s.s1) v s.m1 s.a1, k0_pay53 (k0_pay5 q0 k g0), k0_pay54 (k0_pay5 q1 k g1)⟩ := rfl

theorem last_eq (b : BitVec 32) (v : Vec Ideal S1024x128 .bf16) (s : St Ideal) :
    last b v s = ⟨upM (seen b s.s0) s.m0, upM (seen b s.s1) s.m1, upL (seen b s.s0) s.m0 s.l0, upL (seen b s.s1) s.m1 s.l1,
      upA (seen b s.s0) v s.m0 s.a0, upA (seen b s.s1) v s.m1 s.a1, s.s0, s.s1⟩ := rfl

theorem upM_at (S : FVec Ideal S1024x1024 .f32) (M : Vec Ideal S1x1024x128 .f32) (r : Fin 1024) (l : Fin 128) :
    upM S M (ix3 (0 : Fin 1) r l) = max (M (ix3 (0 : Fin 1) r l)) (Finset.fold max ⊥ (fun s => S (ix2 r s)) Finset.univ) := by
  rw [← least_eq]
  pointwise [upM, k0_pay52, k0_pay17, k0_pay16]

theorem upL_at (S : FVec Ideal S1024x1024 .f32) (M L : Vec Ideal S1x1024x128 .f32) (r : Fin 1024) (l : Fin 128) :
    upL S M L (ix3 (0 : Fin 1) r l) = Ideal.exp (M (ix3 (0 : Fin 1) r l) - upM S M (ix3 (0 : Fin 1) r l)) * L (ix3 (0 : Fin 1) r l)
      + ∑ s : Fin 1024, Ideal.exp (S (ix2 r s) - upM S M (ix3 (0 : Fin 1) r (0 : Fin 128))) := by
  rw [upM_at, upM_at, ← least_eq]
  pointwise [upL, k0_pay50, k0_pay18, k0_pay19, k0_pay49, k0_pay17, k0_pay16]

theorem upA_at (S : FVec Ideal S1024x1024 .f32) (v : Vec Ideal S1024x128 .bf16) (M A : Vec Ideal S1x1024x128 .f32) (r : Fin 1024) (l : Fin 128) :
    upA S v M A (ix3 (0 : Fin 1) r l) = Ideal.exp (M (ix3 (0 : Fin 1) r l) - upM S M (ix3 (0 : Fin 1) r l)) * A (ix3 (0 : Fin 1) r l)
      + ∑ s : Fin 1024, Ideal.exp (S (ix2 r s) - upM S M (ix3 (0 : Fin 1) r (0 : Fin 128))) * v (ix2 s l) := by
  rw [upM_at, upM_at, ← least_eq]
  pointwise [upA, k0_pay51, k0_pay7, k0_pay18, k0_pay19, k0_pay49, k0_pay17, k0_pay16]

/-! ### A row -/

/-- The weight a query at place `t` gives a key, unscaled. -/
def wt (t : ℕ) (x : ℕ → ℝ) (s : ℕ) : ℝ := if s ≤ t then Real.exp (x s) else 0

/-- After `n` keys a row holds nothing yet, or a real shift, the sum of the weights and the weighted sums under that shift. -/
def RowIs (n t : ℕ) (x : ℕ → ℝ) (y : ℕ → ℕ → ℝ) (r : Fin 1024) (M L A : Vec Ideal S1x1024x128 .f32) : Prop :=
  (n = 0 ∧ ∀ l : Fin 128, M (ix3 (0 : Fin 1) r l) = ⊥ ∧ L (ix3 (0 : Fin 1) r l) = 0 ∧ A (ix3 (0 : Fin 1) r l) = 0) ∨
  ∃ μ : ℝ, ∀ l : Fin 128, M (ix3 (0 : Fin 1) r l) = (μ : EReal)
    ∧ L (ix3 (0 : Fin 1) r l) = (((∑ s ∈ Finset.range n, wt t x s) * Real.exp (-μ) : ℝ) : EReal)
    ∧ A (ix3 (0 : Fin 1) r l) = (((∑ s ∈ Finset.range n, wt t x s * y s l.val) * Real.exp (-μ) : ℝ) : EReal)

/-- A block's greatest logit, where the first is seen, is a real. -/
theorem block_top (n t : ℕ) (hn : n ≤ t) (x : ℕ → ℝ) (X : Fin 1024 → EReal) (hX : ∀ s : Fin 1024, X s = if n + s.val ≤ t then (x (n + s.val) : EReal) else ⊥) :
    ∃ μ : ℝ, Finset.fold max ⊥ X Finset.univ = (μ : EReal) := by
  have hb : Finset.fold max ⊥ X Finset.univ ≠ ⊥ := fun h => by
    have h0 : X 0 ≤ ⊥ := h ▸ (Finset.le_sup (f := X) (Finset.mem_univ 0) : X 0 ≤ Finset.univ.sup X)
    rw [hX 0, if_pos (show n + (0 : Fin 1024).val ≤ t from hn)] at h0
    exact absurd (le_bot_iff.mp h0) (EReal.coe_ne_bot _)
  have ht : Finset.fold max ⊥ X Finset.univ ≠ ⊤ := by
    refine ne_of_lt ((Finset.sup_lt_iff (f := X) bot_lt_top).mpr fun s _ => ?_)
    rw [hX s]; split
    · exact EReal.coe_lt_top _
    · exact bot_lt_top
  exact ⟨_, (EReal.coe_toReal ht hb).symm⟩

theorem real_max (a b : ℝ) : max (a : EReal) (b : EReal) = ((max a b : ℝ) : EReal) := (EReal.coe_strictMono.monotone.map_max).symm

/-- What is kept of a sum when the shift moves. -/
theorem moved (μ ν W : ℝ) : Ideal.exp ((μ : EReal) - (ν : EReal)) * ((W * Real.exp (-μ) : ℝ) : EReal) = ((W * Real.exp (-ν) : ℝ) : EReal) := by
  rw [← EReal.coe_sub, Ideal.exp_coe, ← EReal.coe_mul, mul_left_comm, ← Real.exp_add]
  congr 3; ring

/-- A sum grown by a block. -/
theorem grown (n : ℕ) (f : ℕ → ℝ) (ν : ℝ) (X : Fin 1024 → EReal) (hX : ∀ s : Fin 1024, X s = ((f (n + s.val) * Real.exp (-ν) : ℝ) : EReal)) :
    (((∑ s ∈ Finset.range n, f s) * Real.exp (-ν) : ℝ) : EReal) + ∑ s : Fin 1024, X s = (((∑ s ∈ Finset.range (n + 1024), f s) * Real.exp (-ν) : ℝ) : EReal) := by
  rw [Finset.sum_congr rfl fun s _ => hX s, coe_sum, ← EReal.coe_add, Finset.sum_range_add, add_mul, Finset.sum_range (fun s => f (n + s)), Finset.sum_mul (s := (Finset.univ : Finset (Fin 1024)))]

theorem seen_exp (t s : ℕ) (x : ℕ → ℝ) (ν : ℝ) :
    Ideal.exp ((if s ≤ t then (x s : EReal) else ⊥) - (ν : EReal)) = ((wt t x s * Real.exp (-ν) : ℝ) : EReal) := by
  rw [exp_row, wt]
  congr 1
  split
  · rw [sub_eq_add_neg, Real.exp_add]
  · rw [zero_mul]

/-- A block of keys of which the row sees the first adds its weights. -/
theorem row_step {n t : ℕ} {x : ℕ → ℝ} {y : ℕ → ℕ → ℝ} {r : Fin 1024} {M L A : Vec Ideal S1x1024x128 .f32} {S : FVec Ideal S1024x1024 .f32}
    {v : Vec Ideal S1024x128 .bf16} (h : RowIs n t x y r M L A) (hn : n ≤ t)
    (hS : ∀ s : Fin 1024, S (ix2 r s) = if n + s.val ≤ t then (x (n + s.val) : EReal) else ⊥)
    (hv : ∀ (s : Fin 1024) (l : Fin 128), v (ix2 s l) = (y (n + s.val) l.val : EReal)) :
    RowIs (n + 1024) t x y r (upM S M) (upL S M L) (upA S v M A) := by
  obtain ⟨b, hb⟩ := block_top n t hn x (fun s => S (ix2 r s)) hS
  have hkeep : ∃ ν : ℝ, ∀ l : Fin 128, upM S M (ix3 (0 : Fin 1) r l) = (ν : EReal)
      ∧ Ideal.exp (M (ix3 (0 : Fin 1) r l) - (ν : EReal)) * L (ix3 (0 : Fin 1) r l) = (((∑ s ∈ Finset.range n, wt t x s) * Real.exp (-ν) : ℝ) : EReal)
      ∧ Ideal.exp (M (ix3 (0 : Fin 1) r l) - (ν : EReal)) * A (ix3 (0 : Fin 1) r l) = (((∑ s ∈ Finset.range n, wt t x s * y s l.val) * Real.exp (-ν) : ℝ) : EReal) := by
    rcases h with ⟨rfl, h⟩ | ⟨μ, h⟩
    · refine ⟨b, fun l => ?_⟩
      obtain ⟨h1, h2, h3⟩ := h l
      refine ⟨?_, ?_, ?_⟩
      · rw [upM_at, h1, hb, max_eq_right bot_le]
      · rw [h2, mul_zero, Finset.sum_range_zero, zero_mul, EReal.coe_zero]
      · rw [h3, mul_zero, Finset.sum_range_zero, zero_mul, EReal.coe_zero]
    · refine ⟨max μ b, fun l => ?_⟩
      obtain ⟨h1, h2, h3⟩ := h l
      refine ⟨?_, ?_, ?_⟩
      · rw [upM_at, h1, hb, real_max]
      · rw [h1, h2, moved]
      · rw [h1, h3, moved]
  obtain ⟨ν, h⟩ := hkeep
  refine Or.inr ⟨ν, fun l => ⟨(h l).1, ?_, ?_⟩⟩
  · rw [upL_at, (h l).1, (h 0).1, (h l).2.1]
    exact grown n (wt t x) ν _ fun s => by rw [hS, seen_exp]
  · rw [upA_at, (h l).1, (h 0).1, (h l).2.2]
    exact grown n (fun s => wt t x s * y s l.val) ν _ fun s => by
      rw [hS, seen_exp, hv, ← EReal.coe_mul]
      congr 1; ring

end Cert.Attn
-- ==== Proof.AttnPoint.lean ====
/- What a point of the attention's forward kernel leaves in its three results, told by what its scratch arrays hold. -/
module

public import proofs.«01_k».proof.Proof.AttnRun

@[expose] public section

set_option maxRecDepth 16384
set_option maxHeartbeats 4000000

noncomputable section

namespace Cert.Attn

open Cert.AttendIdeal Cert.AttendIdeal.Gen Idealize.ShloMosaic Idealize.ShloMosaic.TcCoe Idealize.SL Idealize.SL.RA Idealize.SL.Sem

variable {F : FTy → Type} [FloatOps F] [Named F]

section Finish

variable (M9 M10 M11 : Memref sig .tc .vmem S2x1024x128 .f32) (M12 : Memref sig .tc .vmem S2x1024x1024 .f32)
  (b : BitVec 32) (v : Vec F S1024x128 .bf16) (L9 L10 L11 : List (View.Piece (Elt F) S2x1024x128 .f32)) (L12 : List (View.Piece (Elt F) S2x1024x1024 .f32))

/-- What the arrays hold after the writes `L9` to `L12`. -/
abbrev heldBy : St F := held M9 M10 M11 M12 (M9.view.writes (Elt F) M9.view.junk L9) (M10.view.writes (Elt F) M10.view.junk L10)
  (M11.view.writes (Elt F) M11.view.junk L11) (M12.view.writes (Elt F) M12.view.junk L12)

/-- The own block's step in the order of its stores: the first head's, then the second's. -/
def m9a : List (View.Piece (Elt F) S2x1024x128 .f32) :=
  ⟨half0, k0_pay72 (k0_pay67 b (k0_pay61 (M12.view.readCov L12 head0.toLoadRect)) k0_pay64 (M9.view.readCov L9 half0.toLoadRect))⟩ :: L9
def l10a : List (View.Piece (Elt F) S2x1024x128 .f32) :=
  ⟨half0, k0_pay70 b (k0_pay61 (M12.view.readCov L12 head0.toLoadRect)) k0_pay64 (M9.view.readCov L9 half0.toLoadRect) (M10.view.readCov L10 half0.toLoadRect)⟩ :: L10
def a11a : List (View.Piece (Elt F) S2x1024x128 .f32) :=
  ⟨half0, k0_pay71 b (k0_pay61 (M12.view.readCov L12 head0.toLoadRect)) (k0_pay63 v) k0_pay64 (M9.view.readCov L9 half0.toLoadRect) (M11.view.readCov L11 half0.toLoadRect)⟩ :: L11
def m9b : List (View.Piece (Elt F) S2x1024x128 .f32) :=
  ⟨half1, k0_pay81 (k0_pay75 b (k0_pay62 (M12.view.readCov L12 head1.toLoadRect)) (M9.view.readCov (m9a M9 M12 b L9 L12) half1.toLoadRect))⟩ :: m9a M9 M12 b L9 L12
def l10b : List (View.Piece (Elt F) S2x1024x128 .f32) :=
  ⟨half1, k0_pay78 b (k0_pay62 (M12.view.readCov L12 head1.toLoadRect)) (M9.view.readCov (m9a M9 M12 b L9 L12) half1.toLoadRect)
    (M10.view.readCov (l10a M9 M10 M12 b L9 L10 L12) half1.toLoadRect)⟩ :: l10a M9 M10 M12 b L9 L10 L12
def a11b : List (View.Piece (Elt F) S2x1024x128 .f32) :=
  ⟨half1, k0_pay80 (k0_pay63 v) (k0_pay76 b (k0_pay62 (M12.view.readCov L12 head1.toLoadRect)) (M9.view.readCov (m9a M9 M12 b L9 L12) half1.toLoadRect))
    (k0_pay77 b (k0_pay62 (M12.view.readCov L12 head1.toLoadRect)) (M9.view.readCov (m9a M9 M12 b L9 L12) half1.toLoadRect))
    (k0_pay79 (M11.view.readCov (a11a M9 M11 M12 b v L9 L11 L12) half1.toLoadRect))⟩ :: a11a M9 M11 M12 b v L9 L11 L12

/-- Its stores are the step's halves. -/
theorem m9b_eq : m9b M9 M12 b L9 L12 = ⟨half1, (last b v (heldBy M9 M10 M11 M12 L9 L10 L11 L12)).m1⟩ :: ⟨half0, (last b v (heldBy M9 M10 M11 M12 L9 L10 L11 L12)).m0⟩ :: L9 := by
  rw [m9b, show M9.view.readCov (m9a M9 M12 b L9 L12) half1.toLoadRect = M9.view.readCov L9 half1.toLoadRect from read_past _ half0 _ _ half1.toLoadRect apart01]
  rfl
theorem l10b_eq : l10b M9 M10 M12 b L9 L10 L12 = ⟨half1, (last b v (heldBy M9 M10 M11 M12 L9 L10 L11 L12)).l1⟩ :: ⟨half0, (last b v (heldBy M9 M10 M11 M12 L9 L10 L11 L12)).l0⟩ :: L10 := by
  rw [l10b, show M9.view.readCov (m9a M9 M12 b L9 L12) half1.toLoadRect = M9.view.readCov L9 half1.toLoadRect from read_past _ half0 _ _ half1.toLoadRect apart01,
    show M10.view.readCov (l10a M9 M10 M12 b L9 L10 L12) half1.toLoadRect = M10.view.readCov L10 half1.toLoadRect from read_past _ half0 _ _ half1.toLoadRect apart01]
  rfl
theorem a11b_eq : a11b M9 M11 M12 b v L9 L11 L12 = ⟨half1, (last b v (heldBy M9 M10 M11 M12 L9 L10 L11 L12)).a1⟩ :: ⟨half0, (last b v (heldBy M9 M10 M11 M12 L9 L10 L11 L12)).a0⟩ :: L11 := by
  rw [a11b, show M9.view.readCov (m9a M9 M12 b L9 L12) half1.toLoadRect = M9.view.readCov L9 half1.toLoadRect from read_past _ half0 _ _ half1.toLoadRect apart01,
    show M11.view.readCov (a11a M9 M11 M12 b v L9 L11 L12) half1.toLoadRect = M11.view.readCov L11 half1.toLoadRect from read_past _ half0 _ _ half1.toLoadRect apart01]
  rfl

/-- Both halves of an array after those stores. -/
theorem both (M : Memref sig .tc .vmem S2x1024x128 .f32) (x y : Vec F S1x1024x128 .f32) (L : List (View.Piece (Elt F) S2x1024x128 .f32)) :
    M.view.readCov (⟨half1, x⟩ :: ⟨half0, y⟩ :: L) half1.toLoadRect = x ∧ M.view.readCov (⟨half1, x⟩ :: ⟨half0, y⟩ :: L) half0.toLoadRect = y :=
  ⟨read_last _ _ _ _, (read_past _ half1 _ _ half0.toLoadRect apart10).trans (read_last _ _ _ _)⟩

end Finish

/-- The second of the loops has no trips. -/
theorem none_left : ∀ i : grid0.Coords, (k0_t2_loop i).trips = 0 := by decide +kernel

section Point

variable (c : Dev nD) (i : grid0.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x16x1x1024 .f32) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x1024 .f32) (harg12 : arg12.IsWhole)
  (x0 : Vec F S1024x128 .bf16) (x1 x2 : Vec F S16384x128 .bf16) (x3 : Vec F S2x16x1x1024 .f32)

/-- The block of the queries, and the first block of the keys. -/
abbrev own : Vec F S1024x128 .bf16 := arg2.view.readAt (Elt F) (Rect.unit (s := S1024x128) ![0, 0] S1024x128.size inb_S1024x128_S1024x128_0_0).toLoadRect (harg2.unread x0)
abbrev first : Vec F S1024x128 .bf16 := arg3.view.readAt (Elt F) (Rect.unit (s := S16384x128) ![0, 0] S1024x128.size inb_S16384x128_S1024x128_0_0).toLoadRect (harg3.unread x1)
/-- The first block's gates, by head. -/
abbrev gates0 : Vec F S1x1x1x1024 .f32 := arg5.view.readAt (Elt F) (Rect.unit (s := S2x16x1x1024) ![0, 0, 0, 0] S1x1x1x1024.size inb_S2x16x1x1024_S1x1x1x1024_0_0_0_0).toLoadRect (harg5.unread x3)
abbrev gates1 : Vec F S1x1x1x1024 .f32 := arg5.view.readAt (Elt F) (Rect.unit (s := S2x16x1x1024) ![1, 0, 0, 0] S1x1x1x1024.size inb_S2x16x1x1024_S1x1x1x1024_1_0_0_0).toLoadRect (harg5.unread x3)
/-- The queries' own block of the values. -/
abbrev ownVals : Vec F S1024x128 .bf16 := arg4.view.readAt (Elt F) (Rect.unit (s := S16384x128) (k0_off9 i) S1024x128.size (k0_off9_inb i)).toLoadRect (harg4.unread x2)

/-- The arrays as the loop finds them. -/
abbrev start9 : List (View.Piece (Elt F) S2x1024x128 .f32) := [⟨Rect.unit (s := S2x1024x128) ![0, 0, 0] S2x1024x128.size inb_S2x1024x128_S2x1024x128_0_0_0, k0_pay42⟩]
abbrev start10 : List (View.Piece (Elt F) S2x1024x128 .f32) := [⟨Rect.unit (s := S2x1024x128) ![0, 0, 0] S2x1024x128.size inb_S2x1024x128_S2x1024x128_0_0_0, k0_pay43⟩]
abbrev start11 : List (View.Piece (Elt F) S2x1024x128 .f32) := [⟨Rect.unit (s := S2x1024x128) ![0, 0, 0] S2x1024x128.size inb_S2x1024x128_S2x1024x128_0_0_0, k0_pay44⟩]
abbrev start12 : List (View.Piece (Elt F) S2x1024x1024 .f32) :=
  [⟨head1, k0_pay48 (k0_pay41 (own arg2 harg2 x0)) (k0_pay45 (first arg3 harg3 x1)) (gates1 arg5 harg5 x3)⟩,
   ⟨head0, k0_pay47 (k0_pay46 (own arg2 harg2 x0) (first arg3 harg3 x1)) (gates0 arg5 harg5 x3)⟩]

/-- What the loop writes. -/
abbrev loop1 := pb_k0_t1 (F := F) Variants.none c none i arg2 harg2 arg3 harg3 arg4 harg4 arg5 harg5 arg6 harg6 arg7 harg7 arg8 harg8 arg9 harg9 arg10 harg10 arg11 harg11 arg12 harg12
  (BitVec.ofNat 32 (i 1).val) (k0_pay40 (own arg2 harg2 x0)) (k0_pay41 (own arg2 harg2 x0)) (k0_pay45 (first arg3 harg3 x1)) (k0_pay46 (own arg2 harg2 x0) (first arg3 harg3 x1))
  (harg3.unread x1) (harg4.unread x2) (harg5.unread x3) (arg9.view.writes (Elt F) arg9.view.junk start9) (arg10.view.writes (Elt F) arg10.view.junk start10)
  (arg11.view.writes (Elt F) arg11.view.junk start11) (arg12.view.writes (Elt F) arg12.view.junk (start12 arg2 harg2 arg3 harg3 arg5 harg5 x0 x1 x3)) (k0_t1_loop i).trips

/-- What the loop without trips writes. -/
abbrev loop2 := pb_k0_t2 (F := F) Variants.none c none i arg2 harg2 arg3 harg3 arg4 harg4 arg5 harg5 arg6 harg6 arg7 harg7 arg8 harg8 arg9 harg9 arg10 harg10 arg11 harg11 arg12 harg12
  (BitVec.ofNat 32 (i 1).val) (k0_pay40 (own arg2 harg2 x0)) (k0_pay41 (own arg2 harg2 x0)) (k0_pay45 (first arg3 harg3 x1)) (k0_pay46 (own arg2 harg2 x0) (first arg3 harg3 x1))
  (Scalar.addi 0#32 (Scalar.muli (Scalar.divsi (Scalar.subi (BitVec.ofNat 32 (i 1).val) 0#32) 1#32) 1#32))
  (harg3.unread x1) (harg4.unread x2) (harg5.unread x3)
  (arg9.view.writes (Elt F) arg9.view.junk ((loop1 c i arg2 harg2 arg3 harg3 arg4 harg4 arg5 harg5 arg6 harg6 arg7 harg7 arg8 harg8 arg9 harg9 arg10 harg10 arg11 harg11 arg12 harg12 x0 x1 x2 x3).1 ++ start9))
  (arg10.view.writes (Elt F) arg10.view.junk ((loop1 c i arg2 harg2 arg3 harg3 arg4 harg4 arg5 harg5 arg6 harg6 arg7 harg7 arg8 harg8 arg9 harg9 arg10 harg10 arg11 harg11 arg12 harg12 x0 x1 x2 x3).2.1 ++ start10))
  (arg11.view.writes (Elt F) arg11.view.junk ((loop1 c i arg2 harg2 arg3 harg3 arg4 harg4 arg5 harg5 arg6 harg6 arg7 harg7 arg8 harg8 arg9 harg9 arg10 harg10 arg11 harg11 arg12 harg12 x0 x1 x2 x3).2.2.1 ++ start11))
  (arg12.view.writes (Elt F) arg12.view.junk ((loop1 c i arg2 harg2 arg3 harg3 arg4 harg4 arg5 harg5 arg6 harg6 arg7 harg7 arg8 harg8 arg9 harg9 arg10 harg10 arg11 harg11 arg12 harg12 x0 x1 x2 x3).2.2.2 ++ start12 arg2 harg2 arg3 harg3 arg5 harg5 x0 x1 x3))
  (k0_t2_loop i).trips

theorem loop2_none : loop2 c i arg2 harg2 arg3 harg3 arg4 harg4 arg5 harg5 arg6 harg6 arg7 harg7 arg8 harg8 arg9 harg9 arg10 harg10 arg11 harg11 arg12 harg12 x0 x1 x2 x3 = ([], [], [], []) := by
  unfold loop2
  rw [none_left, pb_k0_t2.eq_1]

/-- All the writes before the own block's step. -/
abbrev w9 := (loop2 c i arg2 harg2 arg3 harg3 arg4 harg4 arg5 harg5 arg6 harg6 arg7 harg7 arg8 harg8 arg9 harg9 arg10 harg10 arg11 harg11 arg12 harg12 x0 x1 x2 x3).1 ++ ((loop1 c i arg2 harg2 arg3 harg3 arg4 harg4 arg5 harg5 arg6 harg6 arg7 harg7 arg8 harg8 arg9 harg9 arg10 harg10 arg11 harg11 arg12 harg12 x0 x1 x2 x3).1 ++ start9)
abbrev w10 := (loop2 c i arg2 harg2 arg3 harg3 arg4 harg4 arg5 harg5 arg6 harg6 arg7 harg7 arg8 harg8 arg9 harg9 arg10 harg10 arg11 harg11 arg12 harg12 x0 x1 x2 x3).2.1 ++ ((loop1 c i arg2 harg2 arg3 harg3 arg4 harg4 arg5 harg5 arg6 harg6 arg7 harg7 arg8 harg8 arg9 harg9 arg10 harg10 arg11 harg11 arg12 harg12 x0 x1 x2 x3).2.1 ++ start10)
abbrev w11 := (loop2 c i arg2 harg2 arg3 harg3 arg4 harg4 arg5 harg5 arg6 harg6 arg7 harg7 arg8 harg8 arg9 harg9 arg10 harg10 arg11 harg11 arg12 harg12 x0 x1 x2 x3).2.2.1 ++ ((loop1 c i arg2 harg2 arg3 harg3 arg4 harg4 arg5 harg5 arg6 harg6 arg7 harg7 arg8 harg8 arg9 harg9 arg10 harg10 arg11 harg11 arg12 harg12 x0 x1 x2 x3).2.2.1 ++ start11)
abbrev w12 := (loop2 c i arg2 harg2 arg3 harg3 arg4 harg4 arg5 harg5 arg6 harg6 arg7 harg7 arg8 harg8 arg9 harg9 arg10 harg10 arg11 harg11 arg12 harg12 x0 x1 x2 x3).2.2.2 ++ ((loop1 c i arg2 harg2 arg3 harg3 arg4 harg4 arg5 harg5 arg6 harg6 arg7 harg7 arg8 harg8 arg9 harg9 arg10 harg10 arg11 harg11 arg12 harg12 x0 x1 x2 x3).2.2.2 ++ start12 arg2 harg2 arg3 harg3 arg5 harg5 x0 x1 x3)

/-- The arrays' writes after the own block's step, in the order above. -/
abbrev e9 := m9b arg9 arg12 (BitVec.ofNat 32 (i 1).val) (w9 c i arg2 harg2 arg3 harg3 arg4 harg4 arg5 harg5 arg6 harg6 arg7 harg7 arg8 harg8 arg9 harg9 arg10 harg10 arg11 harg11 arg12 harg12 x0 x1 x2 x3) (w12 c i arg2 harg2 arg3 harg3 arg4 harg4 arg5 harg5 arg6 harg6 arg7 harg7 arg8 harg8 arg9 harg9 arg10 harg10 arg11 harg11 arg12 harg12 x0 x1 x2 x3)
abbrev e10 := l10b arg9 arg10 arg12 (BitVec.ofNat 32 (i 1).val) (w9 c i arg2 harg2 arg3 harg3 arg4 harg4 arg5 harg5 arg6 harg6 arg7 harg7 arg8 harg8 arg9 harg9 arg10 harg10 arg11 harg11 arg12 harg12 x0 x1 x2 x3) (w10 c i arg2 harg2 arg3 harg3 arg4 harg4 arg5 harg5 arg6 harg6 arg7 harg7 arg8 harg8 arg9 harg9 arg10 harg10 arg11 harg11 arg12 harg12 x0 x1 x2 x3) (w12 c i arg2 harg2 arg3 harg3 arg4 harg4 arg5 harg5 arg6 harg6 arg7 harg7 arg8 harg8 arg9 harg9 arg10 harg10 arg11 harg11 arg12 harg12 x0 x1 x2 x3)
abbrev e11 := a11b arg9 arg11 arg12 (BitVec.ofNat 32 (i 1).val) (ownVals i arg4 harg4 x2) (w9 c i arg2 harg2 arg3 harg3 arg4 harg4 arg5 harg5 arg6 harg6 arg7 harg7 arg8 harg8 arg9 harg9 arg10 harg10 arg11 harg11 arg12 harg12 x0 x1 x2 x3) (w11 c i arg2 harg2 arg3 harg3 arg4 harg4 arg5 harg5 arg6 harg6 arg7 harg7 arg8 harg8 arg9 harg9 arg10 harg10 arg11 harg11 arg12 harg12 x0 x1 x2 x3) (w12 c i arg2 harg2 arg3 harg3 arg4 harg4 arg5 harg5 arg6 harg6 arg7 harg7 arg8 harg8 arg9 harg9 arg10 harg10 arg11 harg11 arg12 harg12 x0 x1 x2 x3)

/-- What the arrays hold at the end of a point. -/
abbrev atEnd : St F := last (BitVec.ofNat 32 (i 1).val) (ownVals i arg4 harg4 x2)
  (before c i arg2 harg2 arg3 harg3 arg4 harg4 arg5 harg5 arg6 harg6 arg7 harg7 arg8 harg8 arg9 harg9 arg10 harg10 arg11 harg11 arg12 harg12
    (BitVec.ofNat 32 (i 1).val) (k0_pay40 (own arg2 harg2 x0)) (k0_pay41 (own arg2 harg2 x0)) (k0_pay45 (first arg3 harg3 x1)) (k0_pay46 (own arg2 harg2 x0) (first arg3 harg3 x1))
    (harg3.unread x1) (harg4.unread x2) (harg5.unread x3) (arg9.view.writes (Elt F) arg9.view.junk start9) (arg10.view.writes (Elt F) arg10.view.junk start10)
    (arg11.view.writes (Elt F) arg11.view.junk start11) (arg12.view.writes (Elt F) arg12.view.junk (start12 arg2 harg2 arg3 harg3 arg5 harg5 x0 x1 x3)) (k0_t1_loop i).trips)

theorem atEnd_eq : last (BitVec.ofNat 32 (i 1).val) (ownVals i arg4 harg4 x2) (heldBy arg9 arg10 arg11 arg12 (w9 c i arg2 harg2 arg3 harg3 arg4 harg4 arg5 harg5 arg6 harg6 arg7 harg7 arg8 harg8 arg9 harg9 arg10 harg10 arg11 harg11 arg12 harg12 x0 x1 x2 x3) (w10 c i arg2 harg2 arg3 harg3 arg4 harg4 arg5 harg5 arg6 harg6 arg7 harg7 arg8 harg8 arg9 harg9 arg10 harg10 arg11 harg11 arg12 harg12 x0 x1 x2 x3) (w11 c i arg2 harg2 arg3 harg3 arg4 harg4 arg5 harg5 arg6 harg6 arg7 harg7 arg8 harg8 arg9 harg9 arg10 harg10 arg11 harg11 arg12 harg12 x0 x1 x2 x3) (w12 c i arg2 harg2 arg3 harg3 arg4 harg4 arg5 harg5 arg6 harg6 arg7 harg7 arg8 harg8 arg9 harg9 arg10 harg10 arg11 harg11 arg12 harg12 x0 x1 x2 x3))
    = atEnd c i arg2 harg2 arg3 harg3 arg4 harg4 arg5 harg5 arg6 harg6 arg7 harg7 arg8 harg8 arg9 harg9 arg10 harg10 arg11 harg11 arg12 harg12 x0 x1 x2 x3 := by
  unfold w9 w10 w11 w12 heldBy
  rw [loop2_none]
  dsimp only [List.nil_append]
  rw [View.writes_append, View.writes_append, View.writes_append, View.writes_append]

/-- The run's one store of each result. -/
theorem run_o : (kernelRun0_A (F := F) c i arg2 harg2 arg3 harg3 arg4 harg4 arg5 harg5 arg6 harg6 arg7 harg7 arg8 harg8 arg9 harg9 arg10 harg10 arg11 harg11 arg12 harg12 x0 x1 x2 x3).1
    = [⟨Rect.unit (s := S1024x128) ![0, 0] S1024x128.size inb_S1024x128_S1024x128_0_0,
        k0_pay82 k0_pay38 (atEnd c i arg2 harg2 arg3 harg3 arg4 harg4 arg5 harg5 arg6 harg6 arg7 harg7 arg8 harg8 arg9 harg9 arg10 harg10 arg11 harg11 arg12 harg12 x0 x1 x2 x3).a0 (atEnd c i arg2 harg2 arg3 harg3 arg4 harg4 arg5 harg5 arg6 harg6 arg7 harg7 arg8 harg8 arg9 harg9 arg10 harg10 arg11 harg11 arg12 harg12 x0 x1 x2 x3).l0 (atEnd c i arg2 harg2 arg3 harg3 arg4 harg4 arg5 harg5 arg6 harg6 arg7 harg7 arg8 harg8 arg9 harg9 arg10 harg10 arg11 harg11 arg12 harg12 x0 x1 x2 x3).a1 (atEnd c i arg2 harg2 arg3 harg3 arg4 harg4 arg5 harg5 arg6 harg6 arg7 harg7 arg8 harg8 arg9 harg9 arg10 harg10 arg11 harg11 arg12 harg12 x0 x1 x2 x3).l1⟩] := by
  have h : (kernelRun0_A (F := F) c i arg2 harg2 arg3 harg3 arg4 harg4 arg5 harg5 arg6 harg6 arg7 harg7 arg8 harg8 arg9 harg9 arg10 harg10 arg11 harg11 arg12 harg12 x0 x1 x2 x3).1
      = [⟨Rect.unit (s := S1024x128) ![0, 0] S1024x128.size inb_S1024x128_S1024x128_0_0,
        k0_pay82 k0_pay38 (arg11.view.readCov (e11 c i arg2 harg2 arg3 harg3 arg4 harg4 arg5 harg5 arg6 harg6 arg7 harg7 arg8 harg8 arg9 harg9 arg10 harg10 arg11 harg11 arg12 harg12 x0 x1 x2 x3) half0.toLoadRect) (arg10.view.readCov (e10 c i arg2 harg2 arg3 harg3 arg4 harg4 arg5 harg5 arg6 harg6 arg7 harg7 arg8 harg8 arg9 harg9 arg10 harg10 arg11 harg11 arg12 harg12 x0 x1 x2 x3) half0.toLoadRect)
          (arg11.view.readCov (e11 c i arg2 harg2 arg3 harg3 arg4 harg4 arg5 harg5 arg6 harg6 arg7 harg7 arg8 harg8 arg9 harg9 arg10 harg10 arg11 harg11 arg12 harg12 x0 x1 x2 x3) half1.toLoadRect) (arg10.view.readCov (e10 c i arg2 harg2 arg3 harg3 arg4 harg4 arg5 harg5 arg6 harg6 arg7 harg7 arg8 harg8 arg9 harg9 arg10 harg10 arg11 harg11 arg12 harg12 x0 x1 x2 x3) half1.toLoadRect)⟩] := rfl
  rw [h, e10, e11, l10b_eq arg9 arg10 arg11 arg12 _ (ownVals i arg4 harg4 x2), a11b_eq arg9 arg10 arg11 arg12, atEnd_eq, (both _ _ _ _).1, (both _ _ _ _).2, (both _ _ _ _).1, (both _ _ _ _).2]

theorem run_ob : (kernelRun0_A (F := F) c i arg2 harg2 arg3 harg3 arg4 harg4 arg5 harg5 arg6 harg6 arg7 harg7 arg8 harg8 arg9 harg9 arg10 harg10 arg11 harg11 arg12 harg12 x0 x1 x2 x3).2.1
    = [⟨Rect.unit (s := S1024x128) ![0, 0] S1024x128.size inb_S1024x128_S1024x128_0_0,
        k0_pay83 k0_pay38 (atEnd c i arg2 harg2 arg3 harg3 arg4 harg4 arg5 harg5 arg6 harg6 arg7 harg7 arg8 harg8 arg9 harg9 arg10 harg10 arg11 harg11 arg12 harg12 x0 x1 x2 x3).a0 (atEnd c i arg2 harg2 arg3 harg3 arg4 harg4 arg5 harg5 arg6 harg6 arg7 harg7 arg8 harg8 arg9 harg9 arg10 harg10 arg11 harg11 arg12 harg12 x0 x1 x2 x3).l0 (atEnd c i arg2 harg2 arg3 harg3 arg4 harg4 arg5 harg5 arg6 harg6 arg7 harg7 arg8 harg8 arg9 harg9 arg10 harg10 arg11 harg11 arg12 harg12 x0 x1 x2 x3).a1 (atEnd c i arg2 harg2 arg3 harg3 arg4 harg4 arg5 harg5 arg6 harg6 arg7 harg7 arg8 harg8 arg9 harg9 arg10 harg10 arg11 harg11 arg12 harg12 x0 x1 x2 x3).l1⟩] := by
  have h : (kernelRun0_A (F := F) c i arg2 harg2 arg3 harg3 arg4 harg4 arg5 harg5 arg6 harg6 arg7 harg7 arg8 harg8 arg9 harg9 arg10 harg10 arg11 harg11 arg12 harg12 x0 x1 x2 x3).2.1
      = [⟨Rect.unit (s := S1024x128) ![0, 0] S1024x128.size inb_S1024x128_S1024x128_0_0,
        k0_pay83 k0_pay38 (arg11.view.readCov (e11 c i arg2 harg2 arg3 harg3 arg4 harg4 arg5 harg5 arg6 harg6 arg7 harg7 arg8 harg8 arg9 harg9 arg10 harg10 arg11 harg11 arg12 harg12 x0 x1 x2 x3) half0.toLoadRect) (arg10.view.readCov (e10 c i arg2 harg2 arg3 harg3 arg4 harg4 arg5 harg5 arg6 harg6 arg7 harg7 arg8 harg8 arg9 harg9 arg10 harg10 arg11 harg11 arg12 harg12 x0 x1 x2 x3) half0.toLoadRect)
          (arg11.view.readCov (e11 c i arg2 harg2 arg3 harg3 arg4 harg4 arg5 harg5 arg6 harg6 arg7 harg7 arg8 harg8 arg9 harg9 arg10 harg10 arg11 harg11 arg12 harg12 x0 x1 x2 x3) half1.toLoadRect) (arg10.view.readCov (e10 c i arg2 harg2 arg3 harg3 arg4 harg4 arg5 harg5 arg6 harg6 arg7 harg7 arg8 harg8 arg9 harg9 arg10 harg10 arg11 harg11 arg12 harg12 x0 x1 x2 x3) half1.toLoadRect)⟩] := rfl
  rw [h, e10, e11, l10b_eq arg9 arg10 arg11 arg12 _ (ownVals i arg4 harg4 x2), a11b_eq arg9 arg10 arg11 arg12, atEnd_eq, (both _ _ _ _).1, (both _ _ _ _).2, (both _ _ _ _).1, (both _ _ _ _).2]

theorem run_lse : (kernelRun0_A (F := F) c i arg2 harg2 arg3 harg3 arg4 harg4 arg5 harg5 arg6 harg6 arg7 harg7 arg8 harg8 arg9 harg9 arg10 harg10 arg11 harg11 arg12 harg12 x0 x1 x2 x3).2.2.1
    = [⟨Rect.unit (s := S1x1024x128) ![0, 0, 0] S1x1024x128.size inb_S1x1024x128_S1x1024x128_0_0_0,
        k0_pay1 (k0_pay84 (atEnd c i arg2 harg2 arg3 harg3 arg4 harg4 arg5 harg5 arg6 harg6 arg7 harg7 arg8 harg8 arg9 harg9 arg10 harg10 arg11 harg11 arg12 harg12 x0 x1 x2 x3).m0) (atEnd c i arg2 harg2 arg3 harg3 arg4 harg4 arg5 harg5 arg6 harg6 arg7 harg7 arg8 harg8 arg9 harg9 arg10 harg10 arg11 harg11 arg12 harg12 x0 x1 x2 x3).l0 (atEnd c i arg2 harg2 arg3 harg3 arg4 harg4 arg5 harg5 arg6 harg6 arg7 harg7 arg8 harg8 arg9 harg9 arg10 harg10 arg11 harg11 arg12 harg12 x0 x1 x2 x3).m1 (atEnd c i arg2 harg2 arg3 harg3 arg4 harg4 arg5 harg5 arg6 harg6 arg7 harg7 arg8 harg8 arg9 harg9 arg10 harg10 arg11 harg11 arg12 harg12 x0 x1 x2 x3).l1⟩] := by
  have h : (kernelRun0_A (F := F) c i arg2 harg2 arg3 harg3 arg4 harg4 arg5 harg5 arg6 harg6 arg7 harg7 arg8 harg8 arg9 harg9 arg10 harg10 arg11 harg11 arg12 harg12 x0 x1 x2 x3).2.2.1
      = [⟨Rect.unit (s := S1x1024x128) ![0, 0, 0] S1x1024x128.size inb_S1x1024x128_S1x1024x128_0_0_0,
        k0_pay1 (k0_pay84 (arg9.view.readCov (e9 c i arg2 harg2 arg3 harg3 arg4 harg4 arg5 harg5 arg6 harg6 arg7 harg7 arg8 harg8 arg9 harg9 arg10 harg10 arg11 harg11 arg12 harg12 x0 x1 x2 x3) half0.toLoadRect)) (arg10.view.readCov (e10 c i arg2 harg2 arg3 harg3 arg4 harg4 arg5 harg5 arg6 harg6 arg7 harg7 arg8 harg8 arg9 harg9 arg10 harg10 arg11 harg11 arg12 harg12 x0 x1 x2 x3) half0.toLoadRect)
          (arg9.view.readCov (e9 c i arg2 harg2 arg3 harg3 arg4 harg4 arg5 harg5 arg6 harg6 arg7 harg7 arg8 harg8 arg9 harg9 arg10 harg10 arg11 harg11 arg12 harg12 x0 x1 x2 x3) half1.toLoadRect) (arg10.view.readCov (e10 c i arg2 harg2 arg3 harg3 arg4 harg4 arg5 harg5 arg6 harg6 arg7 harg7 arg8 harg8 arg9 harg9 arg10 harg10 arg11 harg11 arg12 harg12 x0 x1 x2 x3) half1.toLoadRect)⟩] := rfl
  rw [h, e9, e10, l10b_eq arg9 arg10 arg11 arg12 _ (ownVals i arg4 harg4 x2), m9b_eq arg9 arg10 arg11 arg12 _ (ownVals i arg4 harg4 x2), atEnd_eq, (both _ _ _ _).1, (both _ _ _ _).2, (both _ _ _ _).1, (both _ _ _ _).2]

end Point

end Cert.Attn
-- ==== Proof.AttnRows.lean ====
/- A point of the attention's forward kernel at real arguments: what each row's running maxima, sums and weighted sums are
   after the blocks of keys before the queries' own, and after it. -/
module

public import proofs.«01_k».proof.Proof.AttnStep
public import proofs.«01_k».proof.Proof.AttnPoint
public import proofs.«01_k».proof.Proof.FoxReal
public import proofs.«01_k».proof.Proof.FoxOwn

@[expose] public section

set_option maxRecDepth 16384
set_option maxHeartbeats 1000000

noncomputable section

namespace Cert.Attn

open Cert.AttendIdeal Cert.AttendIdeal.Gen Idealize.ShloMosaic Idealize.ShloMosaic.TcCoe Idealize.SL Idealize.SL.RA Idealize.SL.Sem
open Cert.Fox (Args coe_sum pick)

/-! ### Places -/

theorem off1 : ∀ (i : grid0.Coords) (k : Fin (k0_t1_loop i).trips), k0_off1 i k = ![(k.val + 1) * 1024, 0] := by decide +kernel
theorem off2 : ∀ (i : grid0.Coords) (k : Fin (k0_t1_loop i).trips), k0_off2 i k = ![0, k.val + 1, 0, 0] := by decide +kernel
theorem off3 : ∀ (i : grid0.Coords) (k : Fin (k0_t1_loop i).trips), k0_off3 i k = ![1, k.val + 1, 0, 0] := by decide +kernel
theorem off4 : ∀ (i : grid0.Coords) (k : Fin (k0_t1_loop i).trips), k0_off4 i k = ![k.val * 1024, 0] := by decide +kernel
theorem off9 : ∀ i : grid0.Coords, k0_off9 i = ![(i 1).val * 1024, 0] := by decide +kernel
theorem trips_eq : ∀ i : grid0.Coords, (k0_t1_loop i).trips = (i 1).val := by decide +kernel
theorem own_lt : ∀ i : grid0.Coords, (i 1).val < 16 := by decide +kernel

section Read

variable {F : FTy → Type} [FloatOps F] [Named F]

/-- A block of rows read at an offset, and a block of gates. -/
theorem rows_read (M : Memref sig .tc .vmem S16384x128 .bf16) (hM : M.IsWhole) (X : Vec F S16384x128 .bf16) {off : Fin 2 → ℕ} {inb} {n : ℕ}
    (e : off = ![n * 1024, 0]) (hn : n < 16) (r : Fin 1024) (l : Fin 128) :
    M.view.readAt (Elt F) (Rect.unit (s := S16384x128) off S1024x128.size inb).toLoadRect (hM.unread X) (ix2 r l)
      = X (ix2 (⟨n * 1024 + r.val, by omega⟩ : Fin 16384) l) := by
  subst e
  rw [View.readAt_eq_ld, Memref.IsWhole.read_unread]
  pointwise

theorem gates_read0 (M : Memref sig .tc .vmem S2x16x1x1024 .f32) (hM : M.IsWhole) (X : Vec F S2x16x1x1024 .f32) {off : Fin 4 → ℕ} {inb} {n : ℕ}
    (e : off = ![0, n, 0, 0]) (hn : n < 16) (c : Fin 1024) :
    M.view.readAt (Elt F) (Rect.unit (s := S2x16x1x1024) off S1x1x1x1024.size inb).toLoadRect (hM.unread X) (ix4 0 0 0 c)
      = X (ix4 (0 : Fin 2) (⟨n, hn⟩ : Fin 16) 0 c) := by
  subst e
  rw [View.readAt_eq_ld, Memref.IsWhole.read_unread]
  pointwise

theorem gates_read1 (M : Memref sig .tc .vmem S2x16x1x1024 .f32) (hM : M.IsWhole) (X : Vec F S2x16x1x1024 .f32) {off : Fin 4 → ℕ} {inb} {n : ℕ}
    (e : off = ![1, n, 0, 0]) (hn : n < 16) (c : Fin 1024) :
    M.view.readAt (Elt F) (Rect.unit (s := S2x16x1x1024) off S1x1x1x1024.size inb).toLoadRect (hM.unread X) (ix4 0 0 0 c)
      = X (ix4 (1 : Fin 2) (⟨n, hn⟩ : Fin 16) 0 c) := by
  subst e
  rw [View.readAt_eq_ld, Memref.IsWhole.read_unread]
  pointwise

theorem own_read (M : Memref sig .tc .vmem S1024x128 .bf16) (hM : M.IsWhole) (X : Vec F S1024x128 .bf16) (r : Fin 1024) (l : Fin 128) :
    own M hM X (ix2 r l) = X (ix2 r l) := by
  unfold own
  rw [View.readAt_eq_ld, Memref.IsWhole.read_unread]
  pointwise

end Read

/-! ### Logits -/

theorem lane_first (a : Fin 1024) (l : Fin 128) : k0_pay38 (ix2 a l) = if l.val < 64 then 1#1 else 0#1 := by
  pointwise [k0_pay38]
  revert l; decide +kernel

/-- The block's queries scaled by an eighth, each head's on its own columns. -/
theorem kept0 (x : Vec Ideal S1024x128 .bf16) (a : Fin 1024) (l : Fin 128) :
    k0_pay40 x (ix2 a l) = if l.val / 64 = (0 : Fin 2).val then x (ix2 a l) * Cert.Fox.eighth else 0 := by
  have e := lane_first a l
  pointwise [k0_pay40, k0_pay39]
  rw [e]
  by_cases h : l.val < 64
  · rw [if_pos h, if_pos (show l.val / 64 = 0 by omega)]; rfl
  · rw [if_neg h, if_neg (show ¬l.val / 64 = 0 by omega)]; exact Cert.Fox.zero_int
theorem kept1 (x : Vec Ideal S1024x128 .bf16) (a : Fin 1024) (l : Fin 128) :
    k0_pay41 x (ix2 a l) = if l.val / 64 = (1 : Fin 2).val then x (ix2 a l) * Cert.Fox.eighth else 0 := by
  have e := lane_first a l
  pointwise [k0_pay41, k0_pay39]
  rw [e]
  by_cases h : l.val < 64
  · rw [if_pos h, if_neg (show ¬l.val / 64 = 1 by omega)]; exact Cert.Fox.zero_int
  · rw [if_neg h, if_pos (show l.val / 64 = 1 by omega)]; rfl

theorem next0_at (q k : Vec Ideal S1024x128 .bf16) (g : Vec Ideal S1x1x1x1024 .f32) (r c : Fin 1024) :
    k0_pay53 (k0_pay5 q k g) (ix3 (0 : Fin 1) r c) = (∑ l : Fin 128, q (ix2 r l) * k (ix2 c l)) - g (ix4 0 0 0 c) := by
  pointwise [k0_pay53, k0_pay5, k0_pay4]
theorem next1_at (q k : Vec Ideal S1024x128 .bf16) (g : Vec Ideal S1x1x1x1024 .f32) (r c : Fin 1024) :
    k0_pay54 (k0_pay5 q k g) (ix3 (0 : Fin 1) r c) = (∑ l : Fin 128, q (ix2 r l) * k (ix2 c l)) - g (ix4 0 0 0 c) :=
  next0_at q k g r c
theorem first0_at (q k : Vec Ideal S1024x128 .bf16) (g : Vec Ideal S1x1x1x1024 .f32) (r c : Fin 1024) :
    k0_pay47 (k0_pay46 q k) g (ix3 (0 : Fin 1) r c) = (∑ l : Fin 128, k0_pay40 q (ix2 r l) * k (ix2 c l)) - g (ix4 0 0 0 c) := by
  pointwise [k0_pay47, k0_pay46, k0_pay45]
theorem first1_at (q k : Vec Ideal S1024x128 .bf16) (g : Vec Ideal S1x1x1x1024 .f32) (r c : Fin 1024) :
    k0_pay48 (k0_pay41 q) (k0_pay45 k) g (ix3 (0 : Fin 1) r c) = (∑ l : Fin 128, k0_pay41 q (ix2 r l) * k (ix2 c l)) - g (ix4 0 0 0 c) := by
  pointwise [k0_pay48, k0_pay45]

theorem flat_at (s : Vec Ideal S1x1024x1024 .f32) (r c : Fin 1024) : flat s (ix2 r c) = s (ix3 (0 : Fin 1) r c) := by
  pointwise [flat, k0_pay3]

theorem mask_bot : (Named.named (F := Ideal) Cert.AttendIdeal.κ "mask" (φ := .f32) 0xF149F2CA#32) = (⊥ : EReal) := rfl

theorem sees_block : ∀ (b : Fin 16) (r c : Fin 1024),
    IntOp.cmpi .sge (IntOp.subi (BitVec.ofNat 32 r.val) (BitVec.ofNat 32 c.val)) (Scalar.subi (Scalar.muli (BitVec.ofNat 32 b.val) 1024#32) (Scalar.muli (BitVec.ofNat 32 b.val) 1024#32))
      = if c.val ≤ r.val then 1#1 else 0#1 := by
  intro b r c
  have e : Scalar.subi (Scalar.muli (BitVec.ofNat 32 b.val) 1024#32) (Scalar.muli (BitVec.ofNat 32 b.val) 1024#32) = (0#32 : BitVec 32) := BitVec.sub_self _
  rw [e]
  show BitVec.ofBool (BitVec.sle 0#32 (BitVec.ofNat 32 r.val - BitVec.ofNat 32 c.val)) = _
  have z : ∀ x < 1024, (BitVec.ofNat 32 x).toInt = (x : ℤ) := fun x hx => by
    rw [BitVec.toInt_eq_toNat_cond, BitVec.toNat_ofNat, Nat.mod_eq_of_lt (by omega), if_pos (by omega)]
  have d : BitVec.sle 0#32 (BitVec.ofNat 32 r.val - BitVec.ofNat 32 c.val) = decide (c.val ≤ r.val) := by
    rw [BitVec.sle_eq_decide, decide_eq_decide, BitVec.toInt_sub, show (0#32 : BitVec 32).toInt = 0 from rfl, z _ r.isLt, z _ c.isLt]
    have := r.isLt; have := c.isLt
    rw [Int.bmod_def]
    split <;> omega
  rw [d]
  by_cases h : c.val ≤ r.val
  · rw [if_pos h, decide_eq_true h]; rfl
  · rw [if_neg h, decide_eq_false h]; rfl

theorem seen_at (b : Fin 16) (s : Vec Ideal S1x1024x1024 .f32) (r c : Fin 1024) :
    seen (BitVec.ofNat 32 b.val) s (ix2 r c) = if c.val ≤ r.val then s (ix3 (0 : Fin 1) r c) else ⊥ := by
  rw [← pick, ← sees_block b r c, ← mask_bot]
  pointwise [seen, k0_pay73, k0_pay62]

variable {R : Args} {p : ℕ}

/-- A head's logit out of a row of scaled queries, a row of keys and a gate. -/
theorem logit_real (h : Fin 2) (t s : ℕ) {q k : Fin 128 → EReal} {g : EReal}
    (hq : ∀ l, q l = if l.val / 64 = h.val then (R.q t (p * 128 + l.val) : EReal) * Cert.Fox.eighth else 0)
    (hk : ∀ l, k l = (R.k s (p * 128 + l.val) : EReal)) (hg : g = (R.F s (2 * p + h.val) : EReal)) :
    (∑ l : Fin 128, q l * k l) - g = (R.logit (2 * p + h.val) t s : EReal) := by
  have e : ∀ l : Fin 128, q l * k l = ((if l.val / 64 = h.val then R.q t (p * 128 + l.val) * R.k s (p * 128 + l.val) * (1 / 8) else 0 : ℝ) : EReal) := fun l => by
    rw [hq, hk, Cert.Fox.eighth_eq]
    split
    · rw [← EReal.coe_mul, ← EReal.coe_mul]; congr 1; ring
    · rw [zero_mul, EReal.coe_zero]
  rw [hg, Finset.sum_congr rfl fun l _ => e l, coe_sum, ← EReal.coe_sub, Cert.Fox.Args.logit, Cert.Fox.Args.dot,
    Cert.Fox.Args.sum_half h (fun l => R.q t (p * 128 + l) * R.k s (p * 128 + l) * (1 / 8)), Finset.sum_mul]
  congr 2
  refine Finset.sum_congr rfl fun c _ => ?_
  rw [show p * 128 + (h.val * 64 + c.val) = (2 * p + h.val) * 64 + c.val by omega]

/-! ### The state of a point -/

/-- A head's part of the state after `n` blocks at queries of block `j`, with the logits of the next block. -/
structure HeadIs (R : Args) (p j n : ℕ) (h : Fin 2) (m l a : Vec Ideal S1x1024x128 .f32) (s : Vec Ideal S1x1024x1024 .f32) : Prop where
  row : ∀ r : Fin 1024, RowIs (n * 1024) (j * 1024 + r.val) (R.logit (2 * p + h.val) (j * 1024 + r.val)) (fun s l => R.v s (p * 128 + l)) r m l a
  logit : ∀ r c : Fin 1024, s (ix3 (0 : Fin 1) r c) = (R.logit (2 * p + h.val) (j * 1024 + r.val) (n * 1024 + c.val) : EReal)

structure Met (R : Args) (p j n : ℕ) (s : St Ideal) : Prop where
  first : HeadIs R p j n 0 s.m0 s.l0 s.a0 s.s0
  second : HeadIs R p j n 1 s.m1 s.l1 s.a1 s.s1

/-- The values of block `n`, and a head's scaled queries of block `j`. -/
abbrev ValsAre (R : Args) (p n : ℕ) (v : Vec Ideal S1024x128 .bf16) : Prop := ∀ (r : Fin 1024) (l : Fin 128), v (ix2 r l) = (R.v (n * 1024 + r.val) (p * 128 + l.val) : EReal)
abbrev KeysAre (R : Args) (p n : ℕ) (k : Vec Ideal S1024x128 .bf16) : Prop := ∀ (r : Fin 1024) (l : Fin 128), k (ix2 r l) = (R.k (n * 1024 + r.val) (p * 128 + l.val) : EReal)
abbrev GateIs (R : Args) (p n : ℕ) (h : Fin 2) (g : Vec Ideal S1x1x1x1024 .f32) : Prop := ∀ c : Fin 1024, g (ix4 0 0 0 c) = (R.F (n * 1024 + c.val) (2 * p + h.val) : EReal)
abbrev QueriesAre (R : Args) (p j : ℕ) (h : Fin 2) (q : FVec Ideal S1024x128 .bf16) : Prop :=
  ∀ (r : Fin 1024) (l : Fin 128), q (ix2 r l) = if l.val / 64 = h.val then (R.q (j * 1024 + r.val) (p * 128 + l.val) : EReal) * Cert.Fox.eighth else 0

variable {j n : ℕ} {q0 q1 : FVec Ideal S1024x128 .bf16} {k v : Vec Ideal S1024x128 .bf16} {g0 g1 : Vec Ideal S1x1x1x1024 .f32} {s : St Ideal}

theorem head_row {h : Fin 2} {m l a : Vec Ideal S1x1024x128 .f32} {s : Vec Ideal S1x1024x1024 .f32} (H : HeadIs R p j n h m l a s) (hn : n < j)
    (hv : ValsAre R p n v) (r : Fin 1024) :
    RowIs ((n + 1) * 1024) (j * 1024 + r.val) (R.logit (2 * p + h.val) (j * 1024 + r.val)) (fun s l => R.v s (p * 128 + l)) r
      (upM (flat s) m) (upL (flat s) m l) (upA (flat s) v m a) := by
  rw [Nat.succ_mul]
  refine row_step (H.row r) (by omega) (fun c => ?_) fun c l => hv c l
  rw [flat_at, H.logit, if_pos (by omega)]

/-- A block all seen, and the next one's logits. -/
theorem met_next (H : Met R p j n s) (hn : n < j) (hq0 : QueriesAre R p j 0 q0) (hq1 : QueriesAre R p j 1 q1) (hk : KeysAre R p (n + 1) k)
    (hv : ValsAre R p n v) (hg0 : GateIs R p (n + 1) 0 g0) (hg1 : GateIs R p (n + 1) 1 g1) : Met R p j (n + 1) (next q0 q1 k v g0 g1 s) := by
  rw [next_eq]
  exact ⟨⟨head_row H.first hn hv, fun r c => (next0_at _ _ _ r c).trans (logit_real 0 _ _ (hq0 r) (hk c) (hg0 c))⟩,
    ⟨head_row H.second hn hv, fun r c => (next1_at _ _ _ r c).trans (logit_real 1 _ _ (hq1 r) (hk c) (hg1 c))⟩⟩

/-- The own block: a row sees the keys up to its own place. -/
theorem head_last {h : Fin 2} {m l a : Vec Ideal S1x1024x128 .f32} {s : Vec Ideal S1x1024x1024 .f32} (H : HeadIs R p j j h m l a s) (hj : j < 16)
    (hv : ValsAre R p j v) (r : Fin 1024) :
    RowIs ((j + 1) * 1024) (j * 1024 + r.val) (R.logit (2 * p + h.val) (j * 1024 + r.val)) (fun s l => R.v s (p * 128 + l)) r
      (upM (seen (BitVec.ofNat 32 j) s) m) (upL (seen (BitVec.ofNat 32 j) s) m l) (upA (seen (BitVec.ofNat 32 j) s) v m a) := by
  rw [Nat.succ_mul]
  refine row_step (H.row r) (by omega) (fun c => ?_) fun c l => hv c l
  rw [seen_at ⟨j, hj⟩, H.logit]
  exact if_congr (by omega) rfl rfl

/-- What a point reads. -/
structure BlocksAre (R : Args) (p j : ℕ) (x0 : Vec Ideal S1024x128 .bf16) (x1 x2 : Vec Ideal S16384x128 .bf16) (x3 : Vec Ideal S2x16x1x1024 .f32) : Prop where
  q : ∀ (r : Fin 1024) (l : Fin 128), x0 (ix2 r l) = (R.q (j * 1024 + r.val) (p * 128 + l.val) : EReal)
  k : ∀ (s : Fin 16384) (l : Fin 128), x1 (ix2 s l) = (R.k s.val (p * 128 + l.val) : EReal)
  v : ∀ (s : Fin 16384) (l : Fin 128), x2 (ix2 s l) = (R.v s.val (p * 128 + l.val) : EReal)
  g : ∀ (h : Fin 2) (b : Fin 16) (c : Fin 1024), x3 (ix4 h b 0 c) = (R.F (b.val * 1024 + c.val) (2 * p + h.val) : EReal)

section Point

variable (c : Dev nD) (i : grid0.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x16x1x1024 .f32) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x1024 .f32) (harg12 : arg12.IsWhole)
  {x0 : Vec Ideal S1024x128 .bf16} {x1 x2 : Vec Ideal S16384x128 .bf16} {x3 : Vec Ideal S2x16x1x1024 .f32} (B : BlocksAre R p (i 1).val x0 x1 x2 x3)

include B

theorem queries0 : QueriesAre R p (i 1).val 0 (k0_pay40 (own arg2 harg2 x0)) := fun r l => by rw [kept0, own_read, B.q]
theorem queries1 : QueriesAre R p (i 1).val 1 (k0_pay41 (own arg2 harg2 x0)) := fun r l => by rw [kept1, own_read, B.q]

omit B in
/-- An array all of one value reads as that value. -/
theorem start_read (M : Memref sig .tc .vmem S2x1024x128 .f32) {w : Vec Ideal S2x1024x128 .f32} {x : EReal} (hw : w = fun _ => x) (y : S1x1024x128.Idx) :
    M.view.readAt (Elt Ideal) half0.toLoadRect (M.view.writes (Elt Ideal) M.view.junk [⟨Rect.unit (s := S2x1024x128) ![0, 0, 0] S2x1024x128.size inb_S2x1024x128_S2x1024x128_0_0_0, w⟩]) y = x
    ∧ M.view.readAt (Elt Ideal) half1.toLoadRect (M.view.writes (Elt Ideal) M.view.junk [⟨Rect.unit (s := S2x1024x128) ![0, 0, 0] S2x1024x128.size inb_S2x1024x128_S2x1024x128_0_0_0, w⟩]) y = x := by
  subst hw
  exact ⟨congrFun (View.readAt_writes_const_of_hit (Val := Elt Ideal) M.view M.view.junk _ half0.toLoadRect 0 _ x rfl (by simp only [List.map_cons, List.map_nil]; decide +kernel)) y,
    congrFun (View.readAt_writes_const_of_hit (Val := Elt Ideal) M.view M.view.junk _ half1.toLoadRect 0 _ x rfl (by simp only [List.map_cons, List.map_nil]; decide +kernel)) y⟩

omit B in
theorem low : k0_pay42 (F := Ideal) = fun _ => (⊥ : EReal) := rfl
omit B in
theorem none10 : k0_pay43 (F := Ideal) = fun _ => (0 : EReal) := funext fun _ => Ideal.ofBits_zero .f32
omit B in
theorem none11 : k0_pay44 (F := Ideal) = fun _ => (0 : EReal) := funext fun _ => Ideal.ofBits_zero .f32

/-- What the arrays hold as the loop starts. -/
theorem met_start : Met R p (i 1).val 0 (heldBy arg9 arg10 arg11 arg12 start9 start10 start11 (start12 arg2 harg2 arg3 harg3 arg5 harg5 x0 x1 x3)) where
  first := {
    row := fun r => Or.inl ⟨rfl, fun l => ⟨(start_read arg9 low _).1, (start_read arg10 none10 _).1, (start_read arg11 none11 _).1⟩⟩
    logit := fun r c => by
      show arg12.view.readAt (Elt Ideal) head0.toLoadRect _ _ = _
      rw [read_past _ head1 _ _ head0.toLoadRect logits10, read_last, first0_at]
      exact logit_real 0 _ _ (queries0 i arg2 harg2 B r) (fun l => (rows_read arg3 harg3 x1 (n := 0) rfl (by omega) c l).trans (B.k _ _))
        ((gates_read0 arg5 harg5 x3 (n := 0) rfl (by omega) c).trans (B.g 0 _ c)) }
  second := {
    row := fun r => Or.inl ⟨rfl, fun l => ⟨(start_read arg9 low _).2, (start_read arg10 none10 _).2, (start_read arg11 none11 _).2⟩⟩
    logit := fun r c => by
      show arg12.view.readAt (Elt Ideal) head1.toLoadRect _ _ = _
      rw [read_last, first1_at]
      exact logit_real 1 _ _ (queries1 i arg2 harg2 B r) (fun l => (rows_read arg3 harg3 x1 (n := 0) rfl (by omega) c l).trans (B.k _ _))
        ((gates_read1 arg5 harg5 x3 (n := 0) rfl (by omega) c).trans (B.g 1 _ c)) }

/-- What they hold at the point's end: every row's sums over the keys up to its block. -/
theorem at_end : let e := atEnd c i arg2 harg2 arg3 harg3 arg4 harg4 arg5 harg5 arg6 harg6 arg7 harg7 arg8 harg8 arg9 harg9 arg10 harg10 arg11 harg11 arg12 harg12 x0 x1 x2 x3
    (∀ r : Fin 1024, RowIs (((i 1).val + 1) * 1024) ((i 1).val * 1024 + r.val) (R.logit (2 * p + (0 : Fin 2).val) ((i 1).val * 1024 + r.val)) (fun s l => R.v s (p * 128 + l)) r e.m0 e.l0 e.a0)
    ∧ (∀ r : Fin 1024, RowIs (((i 1).val + 1) * 1024) ((i 1).val * 1024 + r.val) (R.logit (2 * p + (1 : Fin 2).val) ((i 1).val * 1024 + r.val)) (fun s l => R.v s (p * 128 + l)) r e.m1 e.l1 e.a1) := by
  intro e
  have H := before_ind c i arg2 harg2 arg3 harg3 arg4 harg4 arg5 harg5 arg6 harg6 arg7 harg7 arg8 harg8 arg9 harg9 arg10 harg10 arg11 harg11 arg12 harg12
    (BitVec.ofNat 32 (i 1).val) (k0_pay40 (own arg2 harg2 x0)) (k0_pay41 (own arg2 harg2 x0)) (k0_pay45 (first arg3 harg3 x1)) (k0_pay46 (own arg2 harg2 x0) (first arg3 harg3 x1))
    (harg3.unread x1) (harg4.unread x2) (harg5.unread x3) _ _ _ _ (fun n s => Met R p (i 1).val n s)
    (met_start i arg2 harg2 arg3 harg3 arg5 harg5 arg9 arg10 arg11 arg12 B)
    (fun k s hs => by
      have hk : k.val < (i 1).val := (trips_eq i) ▸ k.isLt
      have hi := own_lt i
      exact met_next hs hk (queries0 i arg2 harg2 B) (queries1 i arg2 harg2 B) (fun r l => (rows_read arg3 harg3 x1 (off1 i k) (by omega) r l).trans (B.k _ _))
        (fun r l => (rows_read arg4 harg4 x2 (off4 i k) (by omega) r l).trans (B.v _ _)) (fun z => (gates_read0 arg5 harg5 x3 (off2 i k) (by omega) z).trans (B.g 0 _ z))
        (fun z => (gates_read1 arg5 harg5 x3 (off3 i k) (by omega) z).trans (B.g 1 _ z)))
    (k0_t1_loop i).trips le_rfl
  have hv : ValsAre R p (i 1).val (ownVals i arg4 harg4 x2) := fun r l => (rows_read arg4 harg4 x2 (off9 i) (own_lt i) r l).trans (B.v _ _)
  rw [trips_eq] at H
  have ee : e = atEnd c i arg2 harg2 arg3 harg3 arg4 harg4 arg5 harg5 arg6 harg6 arg7 harg7 arg8 harg8 arg9 harg9 arg10 harg10 arg11 harg11 arg12 harg12 x0 x1 x2 x3 := rfl
  unfold atEnd at ee
  rw [last_eq, trips_eq] at ee
  rw [ee]
  exact ⟨head_last H.first (own_lt i) hv, head_last H.second (own_lt i) hv⟩

end Point

end Cert.Attn
-- ==== Proof.AttnFinal.lean ====
/- The three result arrays of the attention's forward kernel at real arguments. -/
module

public import proofs.«01_k».proof.Proof.AttnRows
public import Idealize.ShloMosaic.Lib.Pipeline.ValueKit
public import Idealize.ShloMosaic.Lib.Pipeline.ValueKit.Point
public import Idealize.ShloMosaic.Lib.IdealHost

@[expose] public section

set_option maxRecDepth 16384
set_option maxHeartbeats 1000000

noncomputable section

namespace Cert.Attn

open Cert.AttendIdeal Cert.AttendIdeal.Gen Idealize.ShloMosaic Idealize.ShloMosaic.TcCoe
open Cert.Fox (Args coe_sum)

variable {R : Args}

/-! ### A row at the end of its point -/

/-- The attention's result at a place and a column. -/
def attended (R : Args) (t C : ℕ) : ℝ := ∑ s : Fin 16384, R.v s.val C * R.P (C / 64) t s.val

theorem wt_sum (n t : ℕ) (hn : n ≤ 16384) (ht : t < n) (x y : ℕ → ℝ) : (∑ s ∈ Finset.range n, wt t x s * y s) = ∑ s : Fin 16384, wt t x s.val * y s.val := by
  rw [← Finset.sum_range (n := 16384) fun s => wt t x s * y s]
  refine Finset.sum_subset (Finset.range_subset_range.mpr hn) fun s _ hs => ?_
  rw [wt, if_neg (by rw [Finset.mem_range] at hs; omega), zero_mul]

theorem wt_total (t : ℕ) (x : ℕ → ℝ) (N : ℕ) : (∑ s : Fin N, wt t x s.val) = ∑ s : Fin N, if s.val ≤ t then Real.exp (x s.val) else 0 := rfl

theorem wt_Z (n t h : ℕ) (hn : n ≤ 16384) (ht : t < n) : (∑ s ∈ Finset.range n, wt t (R.logit h t) s) = R.Z h t := by
  have e := wt_sum n t hn ht (R.logit h t) fun _ => 1
  simp only [mul_one] at e
  exact e.trans (wt_total t _ 16384)

variable {n t h p : ℕ} {r : Fin 1024} {M L A : Vec Ideal S1x1024x128 .f32}

/-- The quotient of the weighted sums by the sum is the weights' mean of the values. -/
theorem row_mean (H : RowIs n t (R.logit h t) (fun s l => R.v s (p * 128 + l)) r M L A) (hn : n ≤ 16384) (ht : t < n) (l : Fin 128)
    (hl : (p * 128 + l.val) / 64 = h) :
    Ideal.div (A (ix3 (0 : Fin 1) r l)) (L (ix3 (0 : Fin 1) r l)) = (attended R t (p * 128 + l.val) : EReal) := by
  rcases H with ⟨h0, _⟩ | ⟨μ, H⟩
  · omega
  have hz := R.Z_pos (h := h) (t := t) (by omega)
  rw [(H l).2.1, (H l).2.2, wt_Z n t h hn ht, wt_sum n t hn ht (R.logit h t) fun s => R.v s (p * 128 + l.val),
    Ideal.div_coe (mul_pos hz (Real.exp_pos _)).ne', ← EReal.coe_mul]
  refine EReal.coe_eq_coe_iff.2 ?_
  rw [attended, hl, Finset.sum_mul, Finset.sum_mul]
  refine Finset.sum_congr rfl fun s _ => ?_
  have he := (Real.exp_pos (-μ)).ne'
  rw [wt, Args.P]
  split
  · field_simp
  · simp

/-- The shift and the logarithm of the sum are the logarithm of the weights' sum. -/
theorem row_log (H : RowIs n t (R.logit h t) (fun s l => R.v s (p * 128 + l)) r M L A) (hn : n ≤ 16384) (ht : t < n) (l : Fin 128) :
    M (ix3 (0 : Fin 1) r l) + Ideal.log (L (ix3 (0 : Fin 1) r l)) = (Real.log (R.Z h t) : EReal) := by
  rcases H with ⟨h0, _⟩ | ⟨μ, H⟩
  · omega
  have hz := R.Z_pos (h := h) (t := t) (by omega)
  rw [(H l).1, (H l).2.1, wt_Z n t h hn ht, Ideal.log_coe, if_neg (not_le.mpr (mul_pos hz (Real.exp_pos _))), ← EReal.coe_add,
    Real.log_mul hz.ne' (Real.exp_pos _).ne', Real.log_exp]
  exact EReal.coe_eq_coe_iff.2 (by ring)

/-! ### What the call takes -/

variable (m : (ℓ : Loc nD τ sig) → Buf (Elt Ideal) ℓ) (c : Dev nD)

abbrev argQ : FVec Ideal S16384x512 .f32 := m ((c : Thread nD τ).loc main_arg0)
abbrev argK : FVec Ideal S16384x512 .f32 := m ((c : Thread nD τ).loc main_arg1)
abbrev argV : FVec Ideal S16384x512 .f32 := m ((c : Thread nD τ).loc main_arg2)
abbrev argF : FVec Ideal S16384x8 .f32 := m ((c : Thread nD τ).loc main_arg3)

/-- The gates by head, as the call takes them. -/
def gateRows (f : FVec Ideal S16384x8 .f32) : FVec Ideal S8x16x1x1024 .f32 :=
  shapeCast _ (transpose S8x16384 [1, 0] f transposes_S16384x8_S8x16384_1_0) shapeCasts_S8x16384_S8x16x1x1024

theorem entry1 : V m c main_v1 = Cert.Fox.hQkv (argQ m c) (argK m c) (argV m c) := by
  show StableHlo.after (List.flatten [hostOps0]) (fun b => m (c, b)) (Proc.devRef .tc main_v1) = _
  simp only [hostOps0, List.flatten_cons, List.flatten_nil, List.cons_append, List.nil_append, List.append_nil]
  after_results_simp <;> rfl

theorem entry3 : V m c main_v3 = gateRows (argF m c) := by
  show StableHlo.after (List.flatten [hostOps0]) (fun b => m (c, b)) (Proc.devRef .tc main_v3) = _
  simp only [hostOps0, List.flatten_cons, List.flatten_nil, List.cons_append, List.nil_append, List.append_nil]
  after_results_simp <;> rfl

theorem gateRows_at (f : FVec Ideal S16384x8 .f32) (h : Fin 8) (b : Fin 16) (c : Fin 1024) :
    gateRows f (ix4 h b (0 : Fin 1) c) = f (ix2 (⟨b.val * 1024 + c.val, by omega⟩ : Fin 16384) h) := by
  pointwise [gateRows]

theorem e0 : ∀ t : Fin cfg0.N, win0_0.index t = ![t.val % 16, t.val / 16] := (by decide +kernel : ∀ t : Fin grid0.N, _)
theorem e1 : ∀ t : Fin cfg0.N, win0_1.index t = ![0, 4 + t.val / 16] := (by decide +kernel : ∀ t : Fin grid0.N, _)
theorem e2 : ∀ t : Fin cfg0.N, win0_2.index t = ![0, 8 + t.val / 16] := (by decide +kernel : ∀ t : Fin grid0.N, _)
theorem e3 : ∀ t : Fin cfg0.N, win0_3.index t = ![t.val / 16, 0, 0, 0] := (by decide +kernel : ∀ t : Fin grid0.N, _)
theorem e4 : ∀ t : Fin cfg0.N, win0_4.index t = ![t.val % 16, t.val / 16] := (by decide +kernel : ∀ t : Fin grid0.N, _)
theorem e5 : ∀ t : Fin cfg0.N, win0_5.index t = ![t.val % 16, t.val / 16] := (by decide +kernel : ∀ t : Fin grid0.N, _)
theorem e6 : ∀ t : Fin cfg0.N, win0_6.index t = ![t.val / 16, t.val % 16, 0] := (by decide +kernel : ∀ t : Fin grid0.N, _)
theorem coord1 : ∀ t : Fin cfg0.N, (grid0.coords t 1).val = t.val % 16 := (by decide +kernel : ∀ t : Fin grid0.N, _)

theorem pair_lt (t : Fin cfg0.N) : t.val / 16 < 4 := by have := t.isLt; have : cfg0.N = 64 := N_0; omega
theorem col_lt (t : Fin cfg0.N) (l : Fin 128) : t.val / 16 * 128 + l.val < 512 := by have := pair_lt t; omega
theorem head_lt (t : Fin cfg0.N) (h : Fin 2) : 2 * (t.val / 16) + h.val < 8 := by have := pair_lt t; omega
theorem place_lt (t : Fin cfg0.N) (a : Fin 1024) : t.val % 16 * 1024 + a.val < 16384 := by omega

variable {m c}

/-- The arguments are the reals' arrays. -/
abbrev ArgsOf (m : (ℓ : Loc nD τ sig) → Buf (Elt Ideal) ℓ) (c : Dev nD) (R : Args) : Prop :=
  Cert.Fox.ArgsAre R (argQ m c) (argK m c) (argV m c) (fun i => (R.g (i 0).val (i 1).val : EReal)) (argF m c)

theorem q_read (hR : ArgsOf m c R) (t : Fin cfg0.N) (a : Fin 1024) (l : Fin 128) :
    iblk m c 0 t (ix2 a l) = (R.q (t.val % 16 * 1024 + a.val) (t.val / 16 * 128 + l.val) : EReal) := by
  refine Eq.trans ?_ ((congrFun (entry1 m c) (ix2 (⟨t.val % 16 * 1024 + a.val, place_lt t a⟩ : Fin 16384) (⟨t.val / 16 * 128 + l.val, by have := col_lt t l; omega⟩ : Fin 1536))).trans
    (Cert.Fox.hQkv_q hR ⟨t.val % 16 * 1024 + a.val, place_lt t a⟩ ⟨t.val / 16 * 128 + l.val, col_lt t l⟩))
  blk_ext [iblk, e0 t]

theorem k_read (hR : ArgsOf m c R) (t : Fin cfg0.N) (s : Fin 16384) (l : Fin 128) :
    iblk m c 1 t (ix2 s l) = (R.k s.val (t.val / 16 * 128 + l.val) : EReal) := by
  refine Eq.trans ?_ ((congrFun (entry1 m c) (ix2 s (⟨512 + (t.val / 16 * 128 + l.val), by have := col_lt t l; omega⟩ : Fin 1536))).trans
    (Cert.Fox.hQkv_k hR s ⟨t.val / 16 * 128 + l.val, col_lt t l⟩))
  blk_ext [iblk, e1 t]

theorem v_read (hR : ArgsOf m c R) (t : Fin cfg0.N) (s : Fin 16384) (l : Fin 128) :
    iblk m c 2 t (ix2 s l) = (R.v s.val (t.val / 16 * 128 + l.val) : EReal) := by
  refine Eq.trans ?_ ((congrFun (entry1 m c) (ix2 s (⟨1024 + (t.val / 16 * 128 + l.val), by have := col_lt t l; omega⟩ : Fin 1536))).trans
    (Cert.Fox.hQkv_v hR s ⟨t.val / 16 * 128 + l.val, col_lt t l⟩))
  blk_ext [iblk, e2 t]

theorem f_read (hR : ArgsOf m c R) (t : Fin cfg0.N) (h : Fin 2) (b : Fin 16) (a : Fin 1024) :
    iblk m c 3 t (ix4 h b (0 : Fin 1) a) = (R.F (b.val * 1024 + a.val) (2 * (t.val / 16) + h.val) : EReal) := by
  refine Eq.trans ?_ ((congrFun (entry3 m c) (ix4 (⟨2 * (t.val / 16) + h.val, head_lt t h⟩ : Fin 8) b (0 : Fin 1) a)).trans
    ((gateRows_at _ _ b a).trans (hR.f ⟨b.val * 1024 + a.val, by omega⟩ ⟨2 * (t.val / 16) + h.val, head_lt t h⟩)))
  blk_ext [iblk, e3 t]

/-- A point's blocks are its pair's. -/
theorem blocks_are (hR : ArgsOf m c R) (t : Fin cfg0.N) :
    BlocksAre R (t.val / 16) (grid0.coords t 1).val (iblk m c 0 t) (iblk m c 1 t) (iblk m c 2 t) (iblk m c 3 t) where
  q a l := by rw [coord1]; exact q_read hR t a l
  k := k_read hR t
  v := v_read hR t
  g := f_read hR t

/-! ### A point's results -/

/-- The state a point ends in. -/
abbrev endOf (m : (ℓ : Loc nD τ sig) → Buf (Elt Ideal) ℓ) (c : Dev nD) (t : Fin cfg0.N) : St Ideal :=
  atEnd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) scM0_3 (Memref.isWhole_whole _) (iblk m c 0 t) (iblk m c 1 t) (iblk m c 2 t) (iblk m c 3 t)

theorem outs_o (t : Fin cfg0.N) : (outsAt0 m c t).1 = k0_pay82 k0_pay38 (endOf m c t).a0 (endOf m c t).l0 (endOf m c t).a1 (endOf m c t).l1 := by
  unfold outsAt0 out0_A_4
  dsimp only
  rw [run_o]
  frame_out
theorem outs_ob (t : Fin cfg0.N) : (outsAt0 m c t).2.1 = k0_pay83 k0_pay38 (endOf m c t).a0 (endOf m c t).l0 (endOf m c t).a1 (endOf m c t).l1 := by
  unfold outsAt0 out0_A_5
  dsimp only
  rw [run_ob]
  frame_out
theorem outs_lse (t : Fin cfg0.N) : (outsAt0 m c t).2.2 = k0_pay1 (k0_pay84 (endOf m c t).m0) (endOf m c t).l0 (endOf m c t).m1 (endOf m c t).l1 := by
  unfold outsAt0 out0_A_6
  dsimp only
  rw [run_lse]
  frame_out

theorem pick_at (a0 l0 a1 l1 : Vec Ideal S1x1024x128 .f32) (r : Fin 1024) (l : Fin 128) :
    k0_pay82 k0_pay38 a0 l0 a1 l1 (ix2 r l) = if l.val < 64 then Ideal.div (a0 (ix3 (0 : Fin 1) r l)) (l0 (ix3 (0 : Fin 1) r l))
      else Ideal.div (a1 (ix3 (0 : Fin 1) r l)) (l1 (ix3 (0 : Fin 1) r l)) := by
  have e := lane_first r l
  rw [← Cert.Fox.pick, ← e]
  pointwise [k0_pay82]

theorem lane_at : ∀ (l : Fin 128) (n : Fin 2), IntOp.cmpi .eq (BitVec.ofNat 32 l.val) (BitVec.ofNat 32 n.val) = if l.val = n.val then 1#1 else 0#1 := by decide +kernel

theorem two_at (m0 l0 m1 l1 : Vec Ideal S1x1024x128 .f32) (r : Fin 1024) (l : Fin 128) :
    k0_pay1 (k0_pay84 m0) l0 m1 l1 (ix3 (0 : Fin 1) r l) = if l.val = 0 then m0 (ix3 (0 : Fin 1) r (0 : Fin 128)) + Ideal.log (l0 (ix3 (0 : Fin 1) r (0 : Fin 128)))
      else if l.val = 1 then m1 (ix3 (0 : Fin 1) r (0 : Fin 128)) + Ideal.log (l1 (ix3 (0 : Fin 1) r (0 : Fin 128))) else 0 := by
  pointwise [k0_pay1, k0_pay84]
  have f0 := lane_at l 0
  have f1 := lane_at l 1
  simp only [Fin.val_zero, Fin.val_one] at f0 f1
  rw [f0, f1, Cert.Fox.pick, Cert.Fox.pick]

theorem point_end (t : Fin cfg0.N) (r : Fin 1024) : t.val % 16 * 1024 + r.val < (t.val % 16 + 1) * 1024 ∧ (t.val % 16 + 1) * 1024 ≤ 16384 := by
  have := r.isLt; omega

theorem outs_o_at (hR : ArgsOf m c R) (t : Fin cfg0.N) (r : Fin 1024) (l : Fin 128) :
    k0_pay82 k0_pay38 (endOf m c t).a0 (endOf m c t).l0 (endOf m c t).a1 (endOf m c t).l1 (ix2 r l)
      = (attended R (t.val % 16 * 1024 + r.val) (t.val / 16 * 128 + l.val) : EReal) := by
  obtain ⟨h0, h1⟩ := at_end c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) scM0_3 (Memref.isWhole_whole _) (blocks_are hR t)
  rw [coord1] at h0 h1
  rw [pick_at]
  by_cases hl : l.val < 64
  · rw [if_pos hl]
    exact row_mean (h0 r) (point_end t r).2 (point_end t r).1 l (by show _ = 2 * (t.val / 16) + 0; omega)
  · rw [if_neg hl]
    exact row_mean (h1 r) (point_end t r).2 (point_end t r).1 l (by show _ = 2 * (t.val / 16) + 1; omega)

theorem outs_lse_at (hR : ArgsOf m c R) (t : Fin cfg0.N) (r : Fin 1024) (l : Fin 128) :
    k0_pay1 (k0_pay84 (endOf m c t).m0) (endOf m c t).l0 (endOf m c t).m1 (endOf m c t).l1 (ix3 (0 : Fin 1) r l)
      = if l.val < 2 then (Real.log (R.Z (2 * (t.val / 16) + l.val) (t.val % 16 * 1024 + r.val)) : EReal) else 0 := by
  obtain ⟨h0, h1⟩ := at_end c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) scM0_3 (Memref.isWhole_whole _) (blocks_are hR t)
  rw [coord1] at h0 h1
  rw [two_at]
  by_cases e0 : l.val = 0
  · rw [if_pos e0, if_pos (by omega), e0]
    exact row_log (h0 r) (point_end t r).2 (point_end t r).1 0
  · rw [if_neg e0]
    by_cases e1 : l.val = 1
    · rw [if_pos e1, if_pos (by omega), e1]
      exact row_log (h1 r) (point_end t r).2 (point_end t r).1 0
    · rw [if_neg e1, if_neg (by omega)]

/-! ### The arrays -/

theorem final_o (hR : ArgsOf m c R) (T : FVec Ideal S16384x512 .f32)
    (hT : ∀ (t : Fin 16384) (C : Fin 512), T (ix2 t C) = (attended R t.val C.val : EReal)) : (dats m 0 c).arrAt 4 cfg0.N = T := by
  refine (dats m 0 c).arrAt_eq_of_covers 4 _ (by decide +kernel) fun t hf y => ?_
  blk_simp
  rw [after0_4]
  idx_vars y
  rw [show ((View.whole main_v4_0).slice (win0_4.rect t)).emb (ix2 y0 y1)
      = (ix2 ⟨t.val % 16 * 1024 + y0.val, place_lt t y0⟩ ⟨t.val / 16 * 128 + y1.val, col_lt t y1⟩ : S16384x512.Idx) by blk_ext [e4 t], hT, outs_o]
  exact outs_o_at hR t y0 y1

theorem final_ob (hR : ArgsOf m c R) (T : FVec Ideal S16384x512 .bf16)
    (hT : ∀ (t : Fin 16384) (C : Fin 512), T (ix2 t C) = (attended R t.val C.val : EReal)) : (dats m 0 c).arrAt 5 cfg0.N = T := by
  refine (dats m 0 c).arrAt_eq_of_covers 5 _ (by decide +kernel) fun t hf y => ?_
  blk_simp
  rw [after0_5]
  idx_vars y
  rw [show ((View.whole main_v4_1).slice (win0_5.rect t)).emb (ix2 y0 y1)
      = (ix2 ⟨t.val % 16 * 1024 + y0.val, place_lt t y0⟩ ⟨t.val / 16 * 128 + y1.val, col_lt t y1⟩ : S16384x512.Idx) by blk_ext [e5 t], hT, outs_ob]
  exact outs_o_at hR t y0 y1

theorem final_lse (hR : ArgsOf m c R) (T : FVec Ideal S4x16384x128 .f32)
    (hT : ∀ (p : Fin 4) (t : Fin 16384) (l : Fin 128), T (ix3 p t l) = if l.val < 2 then (Real.log (R.Z (2 * p.val + l.val) t.val) : EReal) else 0) :
    (dats m 0 c).arrAt 6 cfg0.N = T := by
  refine (dats m 0 c).arrAt_eq_of_covers 6 _ (by decide +kernel) fun t hf y => ?_
  blk_simp
  rw [after0_6]
  idx_vars y
  rw [show ((View.whole main_v4_2).slice (win0_6.rect t)).emb (ix3 y0 y1 y2)
      = (ix3 ⟨t.val / 16, pair_lt t⟩ ⟨t.val % 16 * 1024 + y1.val, place_lt t y1⟩ y2 : S4x16384x128.Idx) by blk_ext [e6 t], hT, outs_lse, Subsingleton.elim y0 0]
  exact outs_lse_at hR t y1 y2

end Cert.Attn
-- ==== Proof.AttnLines.lean ====
/- The reference's run: its operations, and what they leave. -/
module

public import proofs.«01_k».proof.Defs
public import proofs.«01_k».proof.Proof.Gen.AttendRefIdeal
public import proofs.«01_k».proof.Proof.FoxLines
public import Idealize.ShloMosaic.Lib.StableHlo.Run

@[expose] public section

set_option maxRecDepth 16384

noncomputable section

namespace Cert.AttnRef

open Cert.AttendRefIdeal Cert.AttendRefIdeal.Gen Idealize.ShloMosaic Idealize.ShloMosaic.TcCoe Idealize.SL.Sem Idealize.ShloMosaic.StableHlo
open Cert.FoxRef (rS rP)

section
variable {F : FTy → Type} [FloatOps F]

/-- The program's operations. -/
abbrev lines : List (HloOp τ sig (Elt F)) :=
  [ nullary main_v0 (iotaInDim S16384 32 0),
    unary main_v0 main_v1 (broadcastInDim S1x16384 ![1] bcast_S16384_S1x16384_1 : (⟨S16384, .i32⟩ : BufTy).Contents (Elt F) → (⟨S1x16384, .i32⟩ : BufTy).Contents (Elt F)),
    unary main_v0 main_v2 (broadcastInDim S16384x1 ![0] bcast_S16384_S16384x1_0 : (⟨S16384, .i32⟩ : BufTy).Contents (Elt F) → (⟨S16384x1, .i32⟩ : BufTy).Contents (Elt F)),
    unary main_v1 main_v3 (broadcastInDim S16384x16384 ![0, 1] bcast_S1x16384_S16384x16384_0_1 : (⟨S1x16384, .i32⟩ : BufTy).Contents (Elt F) → (⟨S16384x16384, .i32⟩ : BufTy).Contents (Elt F)),
    unary main_v2 main_v4 (broadcastInDim S16384x16384 ![0, 1] bcast_S16384x1_S16384x16384_0_1 : (⟨S16384x1, .i32⟩ : BufTy).Contents (Elt F) → (⟨S16384x16384, .i32⟩ : BufTy).Contents (Elt F)),
    binary main_v3 main_v4 main_v5 (cmpi .sle : (⟨S16384x16384, .i32⟩ : BufTy).Contents (Elt F) → (⟨S16384x16384, .i32⟩ : BufTy).Contents (Elt F) → (⟨S16384x16384, .i1⟩ : BufTy).Contents (Elt F)),
    reshape main_arg0 main_v6 (rfl : (.f32 : EltTy) = .f32) shapeCasts_S16384x512_S16384x8x64,
    reshape main_arg1 main_v7 (rfl : (.f32 : EltTy) = .f32) shapeCasts_S16384x512_S16384x8x64,
    binary main_v6 main_v7 main_v8 ((fun l r => Host.dotGeneral dot_S16384x8x64_S16384x8x64_S8x16384x16384_2_2_0_0_1_1 none l r) : (⟨S16384x8x64, .f32⟩ : BufTy).Contents (Elt F) → (⟨S16384x8x64, .f32⟩ : BufTy).Contents (Elt F) → (⟨S8x16384x16384, .f32⟩ : BufTy).Contents (Elt F)),
    nullary main_cst (constant S_ .f32 0x3E000000#32),
    unary main_cst main_v9 (broadcastInDim S8x16384x16384 ![] bcast_S_S8x16384x16384 : (⟨S_, .f32⟩ : BufTy).Contents (Elt F) → (⟨S8x16384x16384, .f32⟩ : BufTy).Contents (Elt F)),
    binary main_v8 main_v9 main_v10 (mulf : (⟨S8x16384x16384, .f32⟩ : BufTy).Contents (Elt F) → (⟨S8x16384x16384, .f32⟩ : BufTy).Contents (Elt F) → (⟨S8x16384x16384, .f32⟩ : BufTy).Contents (Elt F)),
    unary main_arg3 main_v11 ((transpose S8x16384 [1, 0] · transposes_S16384x8_S8x16384_1_0) : (⟨S16384x8, .f32⟩ : BufTy).Contents (Elt F) → (⟨S8x16384, .f32⟩ : BufTy).Contents (Elt F)),
    unary main_v11 main_v12 (broadcastInDim S8x16384x1 ![0, 1] bcast_S8x16384_S8x16384x1_0_1 : (⟨S8x16384, .f32⟩ : BufTy).Contents (Elt F) → (⟨S8x16384x1, .f32⟩ : BufTy).Contents (Elt F)),
    unary main_v12 main_v13 (broadcastInDim S8x16384x16384 ![0, 1, 2] bcast_S8x16384x1_S8x16384x16384_0_1_2 : (⟨S8x16384x1, .f32⟩ : BufTy).Contents (Elt F) → (⟨S8x16384x16384, .f32⟩ : BufTy).Contents (Elt F)),
    binary main_v10 main_v13 main_v14 (addf : (⟨S8x16384x16384, .f32⟩ : BufTy).Contents (Elt F) → (⟨S8x16384x16384, .f32⟩ : BufTy).Contents (Elt F) → (⟨S8x16384x16384, .f32⟩ : BufTy).Contents (Elt F)),
    unary main_arg3 main_v15 ((transpose S8x16384 [1, 0] · transposes_S16384x8_S8x16384_1_0) : (⟨S16384x8, .f32⟩ : BufTy).Contents (Elt F) → (⟨S8x16384, .f32⟩ : BufTy).Contents (Elt F)),
    unary main_v15 main_v16 (broadcastInDim S8x1x16384 ![0, 2] bcast_S8x16384_S8x1x16384_0_2 : (⟨S8x16384, .f32⟩ : BufTy).Contents (Elt F) → (⟨S8x1x16384, .f32⟩ : BufTy).Contents (Elt F)),
    unary main_v16 main_v17 (broadcastInDim S8x16384x16384 ![0, 1, 2] bcast_S8x1x16384_S8x16384x16384_0_1_2 : (⟨S8x1x16384, .f32⟩ : BufTy).Contents (Elt F) → (⟨S8x16384x16384, .f32⟩ : BufTy).Contents (Elt F)),
    binary main_v14 main_v17 main_v18 (subf : (⟨S8x16384x16384, .f32⟩ : BufTy).Contents (Elt F) → (⟨S8x16384x16384, .f32⟩ : BufTy).Contents (Elt F) → (⟨S8x16384x16384, .f32⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S16384x16384, .i1⟩) main_v5) (TRef.of (T := ⟨S8x16384x16384, .i1⟩) main_call0_v1) (broadcastInDim S8x16384x16384 ![1, 2] bcast_S16384x16384_S8x16384x16384_1_2),
    TRef.unary (TRef.of (T := ⟨S_, .f32⟩) main_call0_v0) (TRef.of (T := ⟨S8x16384x16384, .f32⟩) main_call0_v2) (broadcastInDim S8x16384x16384 ![] bcast_S_S8x16384x16384),
    TRef.ternary (TRef.of (T := ⟨S8x16384x16384, .i1⟩) main_call0_v1) (TRef.of (T := ⟨S8x16384x16384, .f32⟩) main_v18) (TRef.of (T := ⟨S8x16384x16384, .f32⟩) main_call0_v2) (TRef.of (T := ⟨S8x16384x16384, .f32⟩) main_v19) select,
    nullary main_cst_1 (constant S_ .f32 0xFF800000#32),
    binary main_v19 main_cst_1 main_v20 ((fun x v => Host.reduce FloatOps.maximumf x v reducesTo_S8x16384x16384_S8x16384_d2 h_S_) : (⟨S8x16384x16384, .f32⟩ : BufTy).Contents (Elt F) → (⟨S_, .f32⟩ : BufTy).Contents (Elt F) → (⟨S8x16384, .f32⟩ : BufTy).Contents (Elt F)),
    nullary main_cst_2 (constant S_ .f32 0xFF800000#32),
    unary main_cst_2 main_v21 (broadcastInDim S8x16384 ![] bcast_S_S8x16384 : (⟨S_, .f32⟩ : BufTy).Contents (Elt F) → (⟨S8x16384, .f32⟩ : BufTy).Contents (Elt F)),
    binary main_v21 main_v20 main_v22 (maximumf : (⟨S8x16384, .f32⟩ : BufTy).Contents (Elt F) → (⟨S8x16384, .f32⟩ : BufTy).Contents (Elt F) → (⟨S8x16384, .f32⟩ : BufTy).Contents (Elt F)),
    unary main_v22 main_v23 (broadcastInDim S8x16384x1 ![0, 1] bcast_S8x16384_S8x16384x1_0_1 : (⟨S8x16384, .f32⟩ : BufTy).Contents (Elt F) → (⟨S8x16384x1, .f32⟩ : BufTy).Contents (Elt F)),
    unary main_v23 main_v24 (broadcastInDim S8x16384x16384 ![0, 1, 2] bcast_S8x16384x1_S8x16384x16384_0_1_2 : (⟨S8x16384x1, .f32⟩ : BufTy).Contents (Elt F) → (⟨S8x16384x16384, .f32⟩ : BufTy).Contents (Elt F)),
    binary main_v19 main_v24 main_v25 (subf : (⟨S8x16384x16384, .f32⟩ : BufTy).Contents (Elt F) → (⟨S8x16384x16384, .f32⟩ : BufTy).Contents (Elt F) → (⟨S8x16384x16384, .f32⟩ : BufTy).Contents (Elt F)),
    unary main_v25 main_v26 (Host.exp : (⟨S8x16384x16384, .f32⟩ : BufTy).Contents (Elt F) → (⟨S8x16384x16384, .f32⟩ : BufTy).Contents (Elt F)),
    nullary main_cst_3 (constant S_ .f32 0x00000000#32),
    binary main_v26 main_cst_3 main_v27 ((fun x v => Host.reduceAdd x v reducesTo_S8x16384x16384_S8x16384_d2 h_S_) : (⟨S8x16384x16384, .f32⟩ : BufTy).Contents (Elt F) → (⟨S_, .f32⟩ : BufTy).Contents (Elt F) → (⟨S8x16384, .f32⟩ : BufTy).Contents (Elt F)),
    unary main_v27 main_v28 (broadcastInDim S8x16384x1 ![0, 1] bcast_S8x16384_S8x16384x1_0_1 : (⟨S8x16384, .f32⟩ : BufTy).Contents (Elt F) → (⟨S8x16384x1, .f32⟩ : BufTy).Contents (Elt F)),
    unary main_v28 main_v29 (broadcastInDim S8x16384x16384 ![0, 1, 2] bcast_S8x16384x1_S8x16384x16384_0_1_2 : (⟨S8x16384x1, .f32⟩ : BufTy).Contents (Elt F) → (⟨S8x16384x16384, .f32⟩ : BufTy).Contents (Elt F)),
    binary main_v26 main_v29 main_v30 (Host.divf : (⟨S8x16384x16384, .f32⟩ : BufTy).Contents (Elt F) → (⟨S8x16384x16384, .f32⟩ : BufTy).Contents (Elt F) → (⟨S8x16384x16384, .f32⟩ : BufTy).Contents (Elt F)),
    reshape main_arg2 main_v31 (rfl : (.f32 : EltTy) = .f32) shapeCasts_S16384x512_S16384x8x64,
    binary main_v31 main_v30 main_v32 ((fun l r => Host.dotGeneral dot_S16384x8x64_S8x16384x16384_S8x64x16384_0_2_2_1_1_0 none l r) : (⟨S16384x8x64, .f32⟩ : BufTy).Contents (Elt F) → (⟨S8x16384x16384, .f32⟩ : BufTy).Contents (Elt F) → (⟨S8x64x16384, .f32⟩ : BufTy).Contents (Elt F)),
    unary main_v32 main_v33 ((transpose S16384x8x64 [2, 0, 1] · transposes_S8x64x16384_S16384x8x64_2_0_1) : (⟨S8x64x16384, .f32⟩ : BufTy).Contents (Elt F) → (⟨S16384x8x64, .f32⟩ : BufTy).Contents (Elt F)),
    reshape main_v33 main_v34 (rfl : (.f32 : EltTy) = .f32) shapeCasts_S16384x8x64_S16384x512,
    nullary main_cst_4 (constant S_ .f32 0xFF800000#32),
    binary main_v19 main_cst_4 main_v35 ((fun x v => Host.reduce FloatOps.maximumf x v reducesTo_S8x16384x16384_S8x16384_d2 h_S_) : (⟨S8x16384x16384, .f32⟩ : BufTy).Contents (Elt F) → (⟨S_, .f32⟩ : BufTy).Contents (Elt F) → (⟨S8x16384, .f32⟩ : BufTy).Contents (Elt F)),
    unary main_v35 main_v36 (broadcastInDim S8x16384x1 ![0, 1] bcast_S8x16384_S8x16384x1_0_1 : (⟨S8x16384, .f32⟩ : BufTy).Contents (Elt F) → (⟨S8x16384x1, .f32⟩ : BufTy).Contents (Elt F)),
    unary main_v36 main_v37 (broadcastInDim S8x16384x16384 ![0, 1, 2] bcast_S8x16384x1_S8x16384x16384_0_1_2 : (⟨S8x16384x1, .f32⟩ : BufTy).Contents (Elt F) → (⟨S8x16384x16384, .f32⟩ : BufTy).Contents (Elt F)),
    binary main_v19 main_v37 main_v38 (subf : (⟨S8x16384x16384, .f32⟩ : BufTy).Contents (Elt F) → (⟨S8x16384x16384, .f32⟩ : BufTy).Contents (Elt F) → (⟨S8x16384x16384, .f32⟩ : BufTy).Contents (Elt F)),
    unary main_v38 main_v39 (Host.exp : (⟨S8x16384x16384, .f32⟩ : BufTy).Contents (Elt F) → (⟨S8x16384x16384, .f32⟩ : BufTy).Contents (Elt F)),
    nullary main_cst_5 (constant S_ .f32 0x00000000#32),
    binary main_v39 main_cst_5 main_v40 ((fun x v => Host.reduceAdd x v reducesTo_S8x16384x16384_S8x16384_d2 h_S_) : (⟨S8x16384x16384, .f32⟩ : BufTy).Contents (Elt F) → (⟨S_, .f32⟩ : BufTy).Contents (Elt F) → (⟨S8x16384, .f32⟩ : BufTy).Contents (Elt F)),
    unary main_v40 main_v41 (Host.log : (⟨S8x16384, .f32⟩ : BufTy).Contents (Elt F) → (⟨S8x16384, .f32⟩ : BufTy).Contents (Elt F)),
    binary main_v35 main_v41 main_v42 (addf : (⟨S8x16384, .f32⟩ : BufTy).Contents (Elt F) → (⟨S8x16384, .f32⟩ : BufTy).Contents (Elt F) → (⟨S8x16384, .f32⟩ : BufTy).Contents (Elt F)),
    unary main_arg3 main_v43 ((transpose S8x16384 [1, 0] · transposes_S16384x8_S8x16384_1_0) : (⟨S16384x8, .f32⟩ : BufTy).Contents (Elt F) → (⟨S8x16384, .f32⟩ : BufTy).Contents (Elt F)),
    binary main_v42 main_v43 main_v44 (subf : (⟨S8x16384, .f32⟩ : BufTy).Contents (Elt F) → (⟨S8x16384, .f32⟩ : BufTy).Contents (Elt F) → (⟨S8x16384, .f32⟩ : BufTy).Contents (Elt F)),
    reshape main_v44 main_v45 (rfl : (.f32 : EltTy) = .f32) shapeCasts_S8x16384_S4x2x16384,
    unary main_v45 main_v46 ((transpose S4x16384x2 [0, 2, 1] · transposes_S4x2x16384_S4x16384x2_0_2_1) : (⟨S4x2x16384, .f32⟩ : BufTy).Contents (Elt F) → (⟨S4x16384x2, .f32⟩ : BufTy).Contents (Elt F)),
    nullary main_c (constantI S_ 32 0#32),
    TRef.unary (TRef.of (T := ⟨S_, .i32⟩) main_c) (TRef.of (T := ⟨S_, .f32⟩) main_call1_v0) (sitofp .f32),
    TRef.binary (TRef.of (T := ⟨S4x16384x2, .f32⟩) main_v46) (TRef.of (T := ⟨S_, .f32⟩) main_call1_v0) (TRef.of (T := ⟨S4x16384x128, .f32⟩) main_v47) (fun x v => pad S4x16384x128 ![0, 0, 0] ![0, 0, 126] ![0, 0, 0] x v pads_S4x16384x2_S4x16384x128_000_000_01260 h_S_),
    unary main_v34 main_v48 ((truncf .bf16 · bitsLt_bf16_f32) : (⟨S16384x512, .f32⟩ : BufTy).Contents (Elt F) → (⟨S16384x512, .bf16⟩ : BufTy).Contents (Elt F)) ]

set_option maxHeartbeats 4000000 in
theorem main_eq (c : Dev nD) : main (F := F) c = seq lines := rfl

theorem scopedRefs_eq : (Finset.univ.filter fun b : Ref sig .tc => b.isScoped) = ∅ := by decide
theorem scopedSems_eq : (Finset.univ.filter fun sm : SemLoc sig => sm.isScoped .tc) = ∅ := by decide

theorem lines_sub : (lines : List (HloOp τ sig (Elt F))).Forall fun op => op.bufs ⊆ tcRefs τ sig :=
  ⟨nullary_bufs_sub .., unary_bufs_sub .., unary_bufs_sub .., unary_bufs_sub .., unary_bufs_sub .., binary_bufs_sub .., reshape_bufs_sub .., reshape_bufs_sub .., binary_bufs_sub .., nullary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., binary_bufs_sub .., unary_bufs_sub .., reshape_bufs_sub .., nullary_bufs_sub .., binary_bufs_sub .., unary_bufs_sub .., unary_bufs_sub .., binary_bufs_sub .., unary_bufs_sub .., nullary_bufs_sub .., binary_bufs_sub .., unary_bufs_sub .., binary_bufs_sub .., unary_bufs_sub .., binary_bufs_sub .., reshape_bufs_sub .., unary_bufs_sub .., nullary_bufs_sub .., unary_bufs_sub .., binary_bufs_sub .., unary_bufs_sub ..⟩

/-- Every run ends with each buffer as the operations leave it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after lines (fun b => m (c, b)) (Proc.devRef .tc b) :=
  run_seq scopedRefs_eq scopedSems_eq defs main (fun _ => lines) main_eq (fun _ => lines_sub) m ρ

end

/-- The weights' means of the values. -/
def aO (q k v : FVec Ideal S16384x512 .f32) (f : FVec Ideal S16384x8 .f32) : FVec Ideal S16384x512 .f32 :=
  shapeCast _ (transpose S16384x8x64 [2, 0, 1]
    (Host.dotGeneral dot_S16384x8x64_S8x16384x16384_S8x64x16384_0_2_2_1_1_0 none (shapeCast _ v shapeCasts_S16384x512_S16384x8x64) (rP q k f))
    transposes_S8x64x16384_S16384x8x64_2_0_1) shapeCasts_S16384x8x64_S16384x512
def aOb (q k v : FVec Ideal S16384x512 .f32) (f : FVec Ideal S16384x8 .f32) : FVec Ideal S16384x512 .bf16 := truncf .bf16 (aO q k v f) bitsLt_bf16_f32

/-- Each query's greatest logit. -/
def aTop (q k : FVec Ideal S16384x512 .f32) (f : FVec Ideal S16384x8 .f32) : FVec Ideal S8x16384 .f32 :=
  Host.reduce FloatOps.maximumf (rS q k f) (constant S_ .f32 0xFF800000#32) reducesTo_S8x16384x16384_S8x16384_d2 h_S_

/-- The exponentials of the logits less their greatest, and their sum. -/
def aE (q k : FVec Ideal S16384x512 .f32) (f : FVec Ideal S16384x8 .f32) : FVec Ideal S8x16384x16384 .f32 :=
  Host.exp (subf (rS q k f) (broadcastInDim S8x16384x16384 ![0, 1, 2] bcast_S8x16384x1_S8x16384x16384_0_1_2
    (broadcastInDim S8x16384x1 ![0, 1] bcast_S8x16384_S8x16384x1_0_1 (aTop q k f))))
def aSum (q k : FVec Ideal S16384x512 .f32) (f : FVec Ideal S16384x8 .f32) : FVec Ideal S8x16384 .f32 :=
  Host.reduceAdd (aE q k f) (constant S_ .f32 0x00000000#32) reducesTo_S8x16384x16384_S8x16384_d2 h_S_

/-- The logarithms of the sums of the exponentials, less the query's gate. -/
def aLog (q k : FVec Ideal S16384x512 .f32) (f : FVec Ideal S16384x8 .f32) : FVec Ideal S8x16384 .f32 :=
  subf (addf (aTop q k f) (Host.log (aSum q k f))) (transpose S8x16384 [1, 0] f transposes_S16384x8_S8x16384_1_0)

/-- The same by pair and place, the pair's two heads on the first two lanes. -/
def aLse (q k : FVec Ideal S16384x512 .f32) (f : FVec Ideal S16384x8 .f32) : FVec Ideal S4x16384x128 .f32 :=
  pad S4x16384x128 ![0, 0, 0] ![0, 0, 126] ![0, 0, 0]
    (transpose S4x16384x2 [0, 2, 1] (shapeCast S4x2x16384 (aLog q k f) shapeCasts_S8x16384_S4x2x16384) transposes_S4x2x16384_S4x16384x2_0_2_1)
    (sitofp .f32 (constantI S_ 32 0#32)) pads_S4x16384x2_S4x16384x128_000_000_01260 h_S_

variable (m : (ℓ : Loc nD τ sig) → Buf (Elt Ideal) ℓ) (c : Dev nD)

/-- The program's arguments. -/
abbrev argQ : FVec Ideal S16384x512 .f32 := m ((c : Thread nD τ).loc main_arg0)
abbrev argK : FVec Ideal S16384x512 .f32 := m ((c : Thread nD τ).loc main_arg1)
abbrev argV : FVec Ideal S16384x512 .f32 := m ((c : Thread nD τ).loc main_arg2)
abbrev argF : FVec Ideal S16384x8 .f32 := m ((c : Thread nD τ).loc main_arg3)

/-- What the operations leave. -/
abbrev atEnd (b : Ref sig .tc) : Buf (Elt Ideal) ((c : Thread nD τ).loc b) := after lines (fun b => m (c, b)) (Proc.devRef .tc b)

theorem end_v34 : atEnd m c main_v34 = aO (argQ m c) (argK m c) (argV m c) (argF m c) := by
  simp only [atEnd, lines, TRef.binary, TRef.nullary, TRef.ternary, TRef.unary, TRef.toBuf, TRef.ofBuf, cast_eq]
  after_results_simp <;> rfl
theorem end_v48 : atEnd m c main_v48 = aOb (argQ m c) (argK m c) (argV m c) (argF m c) := by
  simp only [atEnd, lines, TRef.binary, TRef.nullary, TRef.ternary, TRef.unary, TRef.toBuf, TRef.ofBuf, cast_eq]
  after_results_simp <;> rfl
theorem end_v47 : atEnd m c main_v47 = aLse (argQ m c) (argK m c) (argF m c) := by
  simp only [atEnd, lines, TRef.binary, TRef.nullary, TRef.ternary, TRef.unary, TRef.toBuf, TRef.ofBuf, cast_eq]
  after_results_simp <;> rfl

/-- The operations write no argument. -/
theorem end_args : atEnd m c main_arg0 = m ((c : Thread nD τ).loc main_arg0) ∧ atEnd m c main_arg1 = m ((c : Thread nD τ).loc main_arg1)
    ∧ atEnd m c main_arg2 = m ((c : Thread nD τ).loc main_arg2) ∧ atEnd m c main_arg3 = m ((c : Thread nD τ).loc main_arg3) := by
  simp only [atEnd, lines, TRef.binary, TRef.nullary, TRef.ternary, TRef.unary, TRef.toBuf, TRef.ofBuf, cast_eq]
  refine ⟨?_, ?_, ?_, ?_⟩ <;> after_results_simp <;> rfl

end Cert.AttnRef

end
-- ==== Proof.AttnRef.lean ====
/- The reference's attention at real arguments. -/
module

public import proofs.«01_k».proof.Defs
public import proofs.«01_k».proof.Proof.FoxRef
public import proofs.«01_k».proof.Proof.FoxGrads
public import proofs.«01_k».proof.Proof.FoxDot
public import proofs.«01_k».proof.Proof.AttnFinal
public import proofs.«01_k».proof.Proof.AttnLines

@[expose] public section

set_option maxRecDepth 16384

noncomputable section

namespace Cert.AttnRef

open Cert.AttendRefIdeal Cert.AttendRefIdeal.Gen Idealize.ShloMosaic Idealize.ShloMosaic.TcCoe
open Cert.Fox (Args ArgsAre least_eq top_real exp_row sum_row coe_sum)
open Cert.FoxRef (rS rP rS_real rP_real heads_real column zero32)
open Cert.Attn (attended)

variable {R : Args} {q k v g : FVec Ideal S16384x512 .f32} {f : FVec Ideal S16384x8 .f32}

theorem heads_at (X : FVec Ideal S8x64x16384 .f32) (t : Fin 16384) (C : Fin 512) :
    shapeCast S16384x512 (transpose S16384x8x64 [2, 0, 1] X transposes_S8x64x16384_S16384x8x64_2_0_1) shapeCasts_S16384x8x64_S16384x512 (ix2 t C)
      = X (ix3 (⟨C.val / 64, by omega⟩ : Fin 8) (⟨C.val % 64, by omega⟩ : Fin 64) t) := by
  pointwise

theorem aO_real (hR : ArgsAre R q k v g f) (t : Fin 16384) (C : Fin 512) : aO q k v f (ix2 t C) = (attended R t.val C.val : EReal) := by
  rw [aO, heads_at, attended, ← coe_sum]
  refine (Cert.Fox.dotO _ _ _ _ _).trans (Finset.sum_congr rfl fun s _ => ?_)
  rw [rP_real hR, EReal.coe_mul]
  refine congrArg (· * _) ((heads_real hR.v s _ _).trans ?_)
  dsimp only
  rw [column]

theorem aOb_real (hR : ArgsAre R q k v g f) (t : Fin 16384) (C : Fin 512) : aOb q k v f (ix2 t C) = (attended R t.val C.val : EReal) :=
  aO_real hR t C

theorem top_at (X : FVec Ideal S8x16384x16384 .f32) (h : Fin 8) (t : Fin 16384) :
    Host.reduce FloatOps.maximumf X (constant S_ .f32 0xFF800000#32) reducesTo_S8x16384x16384_S8x16384_d2 h_S_ (ix2 h t)
      = Finset.fold max (Ideal.ofBits .f32 0xFF800000#32) (fun s => X (ix3 h t s)) Finset.univ := by
  pointwise

theorem aTop_real (hR : ArgsAre R q k v g f) (h : Fin 8) (t : Fin 16384) : ∃ μ : ℝ, aTop q k f (ix2 h t) = (μ : EReal) := by
  obtain ⟨μ, e⟩ := top_real (fun s => rS q k f (ix3 h t s)) t (fun s => R.logit h.val t.val s + R.F t.val h.val) (fun s => rS_real hR h t s)
  refine ⟨μ, ?_⟩
  rw [aTop, top_at, least_eq]; exact e

theorem aE_at (q k : FVec Ideal S16384x512 .f32) (f : FVec Ideal S16384x8 .f32) (h : Fin 8) (t s : Fin 16384) :
    aE q k f (ix3 h t s) = Ideal.exp (rS q k f (ix3 h t s) - aTop q k f (ix2 h t)) := by
  pointwise [aE]

theorem aSum_at (X : FVec Ideal S8x16384x16384 .f32) (h : Fin 8) (t : Fin 16384) :
    Host.reduceAdd X (constant S_ .f32 0x00000000#32) reducesTo_S8x16384x16384_S8x16384_d2 h_S_ (ix2 h t) = ∑ s : Fin 16384, X (ix3 h t s) := by
  pointwise

theorem aLog_at (a b : FVec Ideal S8x16384 .f32) (f : FVec Ideal S16384x8 .f32) (h : Fin 8) (t : Fin 16384) :
    subf (addf a (Host.log b)) (transpose S8x16384 [1, 0] f transposes_S16384x8_S8x16384_1_0) (ix2 h t) = a (ix2 h t) + Ideal.log (b (ix2 h t)) - f (ix2 t h) := by
  pointwise

/-- A shift and the logarithm of the sum under it. -/
theorem log_row (μ z F : ℝ) (hz : 0 < z) : (μ : EReal) + Ideal.log ((z * Real.exp (F - μ) : ℝ) : EReal) - (F : EReal) = (Real.log z : EReal) := by
  rw [Ideal.log_coe, if_neg (not_le.mpr (mul_pos hz (Real.exp_pos _))), ← EReal.coe_add, ← EReal.coe_sub, Real.log_mul hz.ne' (Real.exp_pos _).ne', Real.log_exp]
  exact EReal.coe_eq_coe_iff.2 (by ring)

theorem aSum_real (hR : ArgsAre R q k v g f) (h : Fin 8) (t : Fin 16384) {μ : ℝ} (hμ : aTop q k f (ix2 h t) = (μ : EReal)) :
    aSum q k f (ix2 h t) = ((R.Z h.val t.val * Real.exp (R.F t.val h.val - μ) : ℝ) : EReal) := by
  rw [aSum, aSum_at, ← sum_row, ← coe_sum]
  refine Finset.sum_congr rfl fun s _ => ?_
  rw [aE_at, rS_real hR, hμ, exp_row, add_sub_assoc]

theorem aLog_real (hR : ArgsAre R q k v g f) (h : Fin 8) (t : Fin 16384) : aLog q k f (ix2 h t) = (Real.log (R.Z h.val t.val) : EReal) := by
  obtain ⟨μ, hμ⟩ := aTop_real hR h t
  rw [aLog, aLog_at, hμ, aSum_real hR h t hμ, hR.f]
  exact log_row μ _ _ (R.Z_pos t.isLt)

theorem lanes_at (X : FVec Ideal S8x16384 .f32) (p : Fin 4) (t : Fin 16384) (l : Fin 128) :
    pad S4x16384x128 ![0, 0, 0] ![0, 0, 126] ![0, 0, 0]
      (transpose S4x16384x2 [0, 2, 1] (shapeCast S4x2x16384 X shapeCasts_S8x16384_S4x2x16384) transposes_S4x2x16384_S4x16384x2_0_2_1)
      (sitofp .f32 (constantI S_ 32 0#32)) pads_S4x16384x2_S4x16384x128_000_000_01260 h_S_ (ix3 p t l)
      = if hl : l.val < 2 then X (ix2 (⟨2 * p.val + l.val, by omega⟩ : Fin 8) t) else 0 := by
  pointwise
  refine dite_congr rfl (fun hl => ?_) fun _ => zero32
  exact congrArg (fun z => X (ix2 z t)) (Fin.ext (congrArg (· + l.val) (mul_comm p.val 2)))

theorem aLse_real (hR : ArgsAre R q k v g f) (p : Fin 4) (t : Fin 16384) (l : Fin 128) :
    aLse q k f (ix3 p t l) = if l.val < 2 then (Real.log (R.Z (2 * p.val + l.val) t.val) : EReal) else 0 := by
  rw [aLse, lanes_at]
  by_cases hl : l.val < 2
  · rw [dif_pos hl, if_pos hl, aLog_real hR]
  · rw [dif_neg hl, if_neg hl]

end Cert.AttnRef

end
-- ==== Proof.AttnValue.lean ====
/- The attention: the kernel's three results are the reference's wherever the arguments are real numbers. -/
module

public import proofs.«01_k».proof.Defs
public import proofs.«01_k».proof.Proof.Gen.Attend.Frame
public import proofs.«01_k».proof.Proof.FoxValue
public import proofs.«01_k».proof.Proof.AttnRef

@[expose] public section

set_option maxRecDepth 16384

noncomputable section

namespace Cert.AttnValue

open Cert.Fin Idealize.ShloMosaic Idealize.ShloMosaic.TcCoe Idealize.SL.Sem
open Cert.Fox (Args)
open Cert.FoxValue (entries entries_eq)
open Cert.Attn (ArgsOf argQ argK argV argF)
open Cert.AttnRef (aO aOb aLse)

/-- The shape facts the precondition states. -/
instance preFacts : Cert.Pre_attend_finite.Facts := by
  constructor <;> decide

open Cert.AttendIdeal Cert.AttendIdeal.Gen

variable (m : (ℓ : Loc nD τ sig) → Buf (Elt Ideal) ℓ)

/-- The arguments' real numbers; no gradient comes in. -/
def reals (c : Dev nD) : Args where
  q := entries (argQ m c)
  k := entries (argK m c)
  v := entries (argV m c)
  g := fun _ _ => 0
  F := entries (argF m c)

/-- Where the precondition holds, the arguments are real numbers. -/
theorem reals_of_pre [Cert.Pre_attend_finite.Facts] (hp : Cert.Pre_AttendIdeal_attend_finite m) (c : Dev nD) : ArgsOf m c (reals m c) := by
  have h := congrFun (hp c) ix0
  obtain ⟨h, h3⟩ := IntOp.andi_eq_one.1 h
  obtain ⟨h, h2⟩ := IntOp.andi_eq_one.1 h
  obtain ⟨h0, h1⟩ := IntOp.andi_eq_one.1 h
  exact ⟨entries_eq _ fun i => of_abs_lt (Host.reduce_andi_all _ _ _ _ _ h0 i), entries_eq _ fun i => of_abs_lt (Host.reduce_andi_all _ _ _ _ _ h1 i),
    entries_eq _ fun i => of_abs_lt (Host.reduce_andi_all _ _ _ _ _ h2 i), fun _ _ => rfl,
    entries_eq _ fun i => of_abs_lt (Host.reduce_andi_all _ _ _ _ _ h3 i)⟩

/-- The two programs' results are equal where the arguments are real numbers. -/
theorem value [Cert.Pre_attend_finite.Facts] : Cert.algebraic_AttendIdeal_AttendRefIdeal_pre_attend_finite := by
  intro m g m' g' hp hm
  refine ⟨fun c => aO (argQ m c) (argK m c) (argV m c) (argF m c), fun c => aOb (argQ m c) (argK m c) (argV m c) (argF m c),
    fun c => aLse (argQ m c) (argK m c) (argF m c), ?_, ?_⟩
  · refine θ_run_mono (θ_run_and (frame (F := Ideal) m g) (run_main (F := Ideal) m g)) fun r h c => ?_
    have hR := reals_of_pre m hp c
    obtain ⟨ha0, ha1, ha2, ha3⟩ := h.1.1 c
    exact ⟨(h.2.out_eq c 4).trans (Cert.Attn.final_o hR _ (Cert.AttnRef.aO_real hR)), (h.2.out_eq c 5).trans (Cert.Attn.final_ob hR _ (Cert.AttnRef.aOb_real hR)),
      (h.2.out_eq c 6).trans (Cert.Attn.final_lse hR _ (Cert.AttnRef.aLse_real hR)), ha0, ha1, ha2, ha3⟩
  · refine θ_run_mono (Cert.AttnRef.run (F := Ideal) m' g') fun r h c => ?_
    obtain ⟨h0, h1, h2, h3⟩ := hm c
    have hq : Cert.AttnRef.argQ m' c = argQ m c := h0
    have hk : Cert.AttnRef.argK m' c = argK m c := h1
    have hv : Cert.AttnRef.argV m' c = argV m c := h2
    have hf : Cert.AttnRef.argF m' c = argF m c := h3
    obtain ⟨e0, e1, e2, e3⟩ := Cert.AttnRef.end_args m' c
    refine ⟨(h c _).trans ((Cert.AttnRef.end_v34 m' c).trans ?_), (h c _).trans ((Cert.AttnRef.end_v48 m' c).trans ?_), (h c _).trans ((Cert.AttnRef.end_v47 m' c).trans ?_),
      (h c _).trans e0, (h c _).trans e1, (h c _).trans e2, (h c _).trans e3⟩
    · rw [hq, hk, hv, hf]
    · rw [hq, hk, hv, hf]
    · rw [hq, hk, hf]

/-- The reference runs to its end and leaves its arguments and every counter as they were. -/
theorem frame_ref : Cert.quiescent_AttendRefIdeal := fun m g _ =>
  θ_run_mono (Cert.AttnRef.run (F := Ideal) m g) fun r h =>
    ⟨fun c => by
      obtain ⟨e0, e1, e2, e3⟩ := Cert.AttnRef.end_args m c
      exact ⟨(h c _).trans e0, (h c _).trans e1, (h c _).trans e2, (h c _).trans e3⟩, sem_eq_zero_of_no_sems (by decide) r.2⟩

/-- The mask's literal is read as minus infinity. -/
theorem preserves : Cert.preserves_Attend_AttendIdeal :=
  IdealRules.named_const.statement Cert.AttendIdeal.κ "mask" .f32 0xF149F2CA#32 ⊥ rfl

end Cert.AttnValue

end
-- ==== Proof.ProductValue.lean ====
/- The value of a weight's gradient: the kernel adds four blocks of tokens to each tile of the product, and ends with the sum over all of them. -/
module

public import proofs.«01_k».proof.Defs
public import proofs.«01_k».proof.Proof.Gen.ProductIdeal.Frame
public import proofs.«01_k».proof.Proof.Gen.ProductRefIdeal.Run
public import Idealize.ShloMosaic.Adequacy
public import Idealize.ShloMosaic.Init
public import Idealize.ShloMosaic.Lib.Quiescent
public import Idealize.ShloMosaic.Lib.Pointwise
public import Idealize.ShloMosaic.Lib.Pipeline.ValueKit
public import Idealize.ShloMosaic.Lib.Pipeline.ValueKit.Point
public import Idealize.ShloMosaic.Lib.IdealHost
public import Idealize.ShloMosaic.Lib.Claim

@[expose] public section

set_option maxRecDepth 16384

noncomputable section

namespace Cert.ProductValue

open Cert.ProductIdeal Cert.ProductIdeal.Gen Idealize.ShloMosaic Idealize.ShloMosaic.TcCoe Idealize.SL.Sem

variable (m : (ℓ : Loc nD τ sig) → Buf (Elt Ideal) ℓ)

/-- A device's arguments. -/
abbrev argX (c : Dev nD) : FVec Ideal S16384x1024 .bf16 := m ((c : Thread nD τ).loc main_arg0)
abbrev argD (c : Dev nD) : FVec Ideal S16384x5760 .bf16 := m ((c : Thread nD τ).loc main_arg1)

/-! ### Sums over the first tokens -/

/-- Token `k`'s part of an entry of the product. -/
def term (x : FVec Ideal S16384x1024 .bf16) (d : FVec Ideal S16384x5760 .bf16) (i : Fin 1024) (j : Fin 5760) (k : ℕ) : EReal :=
  if h : k < 16384 then x (ix2 (⟨k, h⟩ : Fin 16384) i) * d (ix2 (⟨k, h⟩ : Fin 16384) j) else 0

/-- The sum over the first `n` tokens. -/
def first (x : FVec Ideal S16384x1024 .bf16) (d : FVec Ideal S16384x5760 .bf16) (i : Fin 1024) (j : Fin 5760) (n : ℕ) : EReal :=
  ∑ k ∈ Finset.range n, term x d i j k

/-- A block's sum after the sum over the tokens before it. -/
theorem first_block (x : FVec Ideal S16384x1024 .bf16) (d : FVec Ideal S16384x5760 .bf16) (i : Fin 1024) (j : Fin 5760) (b : ℕ) (hb : b + 4096 ≤ 16384) :
    first x d i j b + ∑ r : Fin 4096, x (ix2 (⟨b + r.val, by omega⟩ : Fin 16384) i) * d (ix2 (⟨b + r.val, by omega⟩ : Fin 16384) j)
      = first x d i j (b + 4096) := by
  rw [first, first, Finset.sum_range_add]
  refine congrArg _ ((Finset.sum_congr rfl fun r _ => ?_).trans (Finset.sum_range fun r => term x d i j (b + r)).symm)
  rw [term, dif_pos (by omega)]

/-- The product's entry is the sum over all tokens. -/
theorem first_all (x : FVec Ideal S16384x1024 .bf16) (d : FVec Ideal S16384x5760 .bf16) (i : Fin 1024) (j : Fin 5760) :
    first x d i j 16384 = ∑ k : Fin 16384, x (ix2 k i) * d (ix2 k j) := by
  rw [first, Finset.sum_range]
  refine Finset.sum_congr rfl fun k _ => ?_
  rw [term, dif_pos k.isLt]

/-! ### A point -/

theorem tile_at (a : Vec Ideal S4096x1024 .bf16) (b : Vec Ideal S4096x640 .bf16) (i : Fin 1024) (j : Fin 640) :
    k0_pay1 a b (ix2 i j) = ∑ r : Fin 4096, a (ix2 r i) * b (ix2 r j) := by
  pointwise [k0_pay1]

theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)
theorem e2 : ∀ t : Fin cfg0.N, win0_2.index t = ![0, t.val / 4] := (by decide +kernel : ∀ t : Fin grid0.N, _)

theorem t_lt (t : Fin cfg0.N) : t.val < 36 := lt_of_lt_of_eq t.isLt N_0

/-- The token that a point's row is, and the column of the result that a point's column is. -/
abbrev token (t : Fin cfg0.N) (r : Fin 4096) : Fin 16384 := ⟨t.val % 4 * 4096 + r.val, by omega⟩
abbrev col (t : Fin cfg0.N) (j : Fin 640) : Fin 5760 := ⟨t.val / 4 * 640 + j.val, by have := t_lt t; omega⟩

variable (c : Dev nD)

theorem x_read (t : Fin cfg0.N) (r : Fin 4096) (i : Fin 1024) : iblk m c 0 t (ix2 r i) = argX m c (ix2 (token t r) i) := by
  blk_ext [iblk, e0 t]
theorem d_read (t : Fin cfg0.N) (r : Fin 4096) (j : Fin 640) : iblk m c 1 t (ix2 r j) = argD m c (ix2 (token t r) (col t j)) := by
  blk_ext [iblk, e1 t]

/-- The sum after a point's block, from the sum before it. -/
theorem point_at (t : Fin cfg0.N) (i : Fin 1024) (j : Fin 640) :
    first (argX m c) (argD m c) i (col t j) (t.val % 4 * 4096) + k0_pay1 (iblk m c 0 t) (iblk m c 1 t) (ix2 i j)
      = first (argX m c) (argD m c) i (col t j) (t.val % 4 * 4096 + 4096) := by
  rw [tile_at, ← first_block _ _ _ _ _ (by omega)]
  refine congrArg _ (Finset.sum_congr rfl fun r _ => ?_)
  rw [x_read, d_read]

/-- The tile starts from its first block. -/
theorem start_at (t : Fin cfg0.N) (h0 : t.val % 4 = 0) (i : Fin 1024) (j : Fin 640) :
    k0_pay2 (iblk m c 0 t) (iblk m c 1 t) (ix2 i j) = first (argX m c) (argD m c) i (col t j) (t.val % 4 * 4096 + 4096) := by
  rw [← point_at, h0]
  pointwise [k0_pay2]
  exact (zero_add _).symm

/-- A later block is added to what the points before it left. -/
theorem next_at (t : Fin cfg0.N) (s : Vec Ideal S1024x640 .f32) (i : Fin 1024) (j : Fin 640)
    (hs : s (ix2 i j) = first (argX m c) (argD m c) i (col t j) (t.val % 4 * 4096)) :
    k0_pay3 (iblk m c 0 t) (iblk m c 1 t) s (ix2 i j) = first (argX m c) (argD m c) i (col t j) (t.val % 4 * 4096 + 4096) := by
  rw [← point_at, ← hs]
  pointwise [k0_pay3]

/-- What the kernel carries after each point: the tile's sum over the tokens up to the point's block's end. -/
theorem carry (n : ℕ) : ∀ (hn : n < cfg0.N) (i : Fin 1024) (j : Fin 640),
    (outsAt0 m c n hn).2 (ix2 i j) = first (argX m c) (argD m c) i (col ⟨n, hn⟩ j) (n % 4 * 4096 + 4096) := by
  induction n with
  | zero =>
    intro hn i j
    rw [outsAt0_A m c ⟨0, hn⟩ rfl (by show ¬1 ≤ 0 % 4; decide) (by show ¬0 % 4 = 3; decide)]; frame_out
    exact start_at m c ⟨0, hn⟩ rfl i j
  | succ n ih =>
    intro hn i j
    by_cases h0 : (n + 1) % 4 = 0
    · rw [outsAt0_A m c ⟨n + 1, hn⟩ h0 (by show ¬1 ≤ (n + 1) % 4; omega) (by show ¬(n + 1) % 4 = 3; omega)]; frame_out
      exact start_at m c ⟨n + 1, hn⟩ h0 i j
    · have hs : (outsAt0 m c n (Nat.lt_of_succ_lt hn)).2 (ix2 i j)
          = first (argX m c) (argD m c) i (col ⟨n + 1, hn⟩ j) ((n + 1) % 4 * 4096) := by
        rw [ih, show col ⟨n, Nat.lt_of_succ_lt hn⟩ j = col ⟨n + 1, hn⟩ j from Fin.ext (by dsimp only; omega)]
        exact congrArg _ (by omega)
      by_cases h2 : (n + 1) % 4 = 3
      · rw [outsAt0_C m c ⟨n + 1, hn⟩ h0 (by show 1 ≤ (n + 1) % 4; omega) h2]; frame_out
        exact next_at m c ⟨n + 1, hn⟩ _ i j ((congrFun (Memref.IsWhole.read_unread _ _) _).trans hs)
      · rw [outsAt0_B m c ⟨n + 1, hn⟩ h0 (by show 1 ≤ (n + 1) % 4; omega) h2]; frame_out
        exact next_at m c ⟨n + 1, hn⟩ _ i j ((congrFun (Memref.IsWhole.read_unread _ _) _).trans hs)

/-- At a tile's last point the result is what the kernel carries. -/
theorem last (t : Fin cfg0.N) (h2 : t.val % 4 = 3) : (outsAt0 m c t.val t.isLt).1 = (outsAt0 m c t.val t.isLt).2 := by
  rw [outsAt0_C m c t (by omega) (by omega) h2]; frame_out

/-! ### The claim -/

/-- The reference's result. -/
abbrev want (x : FVec Ideal S16384x1024 .bf16) (d : FVec Ideal S16384x5760 .bf16) : FVec Ideal S1024x5760 .f32 :=
  Host.dotGeneral (F := Ideal) Cert.ProductRefIdeal.dot_S16384x1024_S16384x5760_S1024x5760_0_0_1_1_n_n none x d

theorem want_at (x : FVec Ideal S16384x1024 .bf16) (d : FVec Ideal S16384x5760 .bf16) (i : Fin 1024) (j : Fin 5760) :
    want x d (ix2 i j) = ∑ k : Fin 16384, x (ix2 k i) * d (ix2 k j) := by
  pointwise [want]

theorem final : (dats m 0 c).arrAt 2 cfg0.N = want (argX m c) (argD m c) := by
  refine (dats m 0 c).arrAt_eq_of_covers 2 _ (by decide +kernel) fun t hf y => ?_
  have h2 : t.val % 4 = 3 := (flush0_2 t).1 hf
  blk_simp
  rw [after0_2, last m c t h2]
  idx_vars y
  rw [show ((View.whole main_v0).slice (win0_2.rect t)).emb (ix2 y0 y1) = (ix2 y0 (col t y1) : S1024x5760.Idx) by blk_ext [e2 t], want_at, carry, ← first_all]
  exact congrArg _ (by omega)

/-- The two programs' results are equal. -/
theorem value : Cert.algebraic_ProductIdeal_ProductRefIdeal := by
  intro m g m' g' _ hm
  refine ⟨fun c => want (argX m c) (argD m c), ?_, ?_⟩
  · refine θ_run_mono (θ_run_and (frame (F := Ideal) m g) (run_main (F := Ideal) m g)) fun r h c => ?_
    obtain ⟨ha0, ha1⟩ := h.1.1 c
    exact ⟨((h.2 c).1 2).trans (final m c), ha0, ha1⟩
  · refine θ_run_mono (Cert.ProductRefIdeal.Value.run (F := Ideal) m' g') fun r h c => ⟨(h c).1.trans ?_, (h c).2⟩
    obtain ⟨a0, a1⟩ := hm c
    rw [a0, a1]

/-- The reference runs to its end and leaves its arguments and every counter as they were. -/
theorem frame_ref : Cert.quiescent_ProductRefIdeal := fun m g _ =>
  θ_run_mono (Cert.ProductRefIdeal.Value.run (F := Ideal) m g) fun r h =>
    ⟨fun c => (h c).2, sem_eq_zero_of_no_sems (by decide) r.2⟩

end Cert.ProductValue
-- ==== Proof.AdamValue.lean ====
/- The value of the optimiser: the kernel sums the eight devices' parts of a gradient and takes one AdamW step on rows of 128 packed weights; unpacked, its results are the reference's. -/
module

public import proofs.«01_k».proof.Defs
public import proofs.«01_k».proof.Proof.Gen.AdamIdeal.Frame
public import proofs.«01_k».proof.Proof.Gen.AdamRefIdeal.Run
public import proofs.«01_k».proof.Proof.Gen.AdamRefIdeal.Read
public import Idealize.ShloMosaic.Adequacy
public import Idealize.ShloMosaic.Init
public import Idealize.ShloMosaic.Lib.Quiescent
public import Idealize.ShloMosaic.Lib.Pointwise
public import Idealize.ShloMosaic.Lib.Pipeline.ValueKit
public import Idealize.ShloMosaic.Lib.Pipeline.ValueKit.Point
public import Idealize.ShloMosaic.Lib.IdealHost
public import Idealize.ShloMosaic.Lib.Claim

@[expose] public section

set_option maxRecDepth 16384

noncomputable section

namespace Cert.AdamValue

open Cert.AdamIdeal Cert.AdamIdeal.Gen Idealize.ShloMosaic Idealize.ShloMosaic.TcCoe Idealize.SL.Sem

/-! ### A weight's step -/

/-- The sum of the devices' parts of a weight's gradient. -/
def grad (p : Fin 8 → EReal) : EReal := p 0 + p 1 + p 2 + p 3 + p 4 + p 5 + p 6 + p 7

/-- A decayed average: `a` of the old value and `b` of the new one. -/
def blend (a b : BitVec 32) (old new : EReal) : EReal :=
  Scalar.ofBits (F := Ideal) .f32 a * old + Scalar.ofBits (F := Ideal) .f32 b * new

/-- The new first and second moments. -/
def mom (p : Fin 8 → EReal) (m : EReal) : EReal := blend 0x3F666666#32 0x3DCCCCCD#32 m (grad p)
def sq (p : Fin 8 → EReal) (v : EReal) : EReal := blend 0x3F7FBE77#32 0x3A83126F#32 v (grad p * grad p)

/-- The weight's step. -/
def delta (p : Fin 8 → EReal) (w m v : EReal) : EReal :=
  Scalar.ofBits (F := Ideal) .f32 0xBA83126F#32
    * (Ideal.div (mom p m * (((5463681 / 8388608)⁻¹ : ℝ) : EReal))
        (Ideal.sqrt (sq p v * (((2672307 / 268435456)⁻¹ : ℝ) : EReal)) + Scalar.ofBits (F := Ideal) .f32 0x322BCC77#32)
      + Scalar.ofBits (F := Ideal) .f32 0x3C23D70A#32 * w)

section Point

variable (x0 : Vec Ideal S8x512x128 .f32) (x1 x2 x3 : Vec Ideal S512x128 .f32) (r : Fin 512) (l : Fin 128)

theorem sum_at : k0_pay5 x0 x1 x2 x3 (ix2 r l) = grad fun s => x0 (ix3 s r l) := by
  pointwise [k0_pay5, k0_pay3, grad]

theorem grad_at : out0_4 x0 x1 x2 x3 (ix2 r l) = grad fun s => x0 (ix3 s r l) := by
  frame_out
  exact sum_at x0 x1 x2 x3 r l

theorem mom_at' : k0_pay6 x0 x1 x2 x3 (ix2 r l) = mom (fun s => x0 (ix3 s r l)) (x2 (ix2 r l)) := by
  pointwise [k0_pay6, k0_pay4, k0_pay3, mom, blend, grad]

theorem mom_at : out0_6 x0 x1 x2 x3 (ix2 r l) = mom (fun s => x0 (ix3 s r l)) (x2 (ix2 r l)) := by
  frame_out
  exact mom_at' x0 x1 x2 x3 r l

theorem sq_at (g : FVec Ideal S512x128 .f32) (p : Fin 8 → EReal) (hg : g (ix2 r l) = grad p) : k0_pay1 g x3 (ix2 r l) = sq p (x3 (ix2 r l)) := by
  pointwise [k0_pay1, sq, blend]
  rw [hg]

theorem named1 : (Named.named (F := Ideal) κ "bias1" (φ := .f32) 0x3FC48605#32) = (((5463681 / 8388608)⁻¹ : ℝ) : EReal) := rfl
theorem named2 : (Named.named (F := Ideal) κ "bias2" (φ := .f32) 0x42C8E6D3#32) = (((2672307 / 268435456)⁻¹ : ℝ) : EReal) := rfl

theorem delta_at' (g n : FVec Ideal S512x128 .f32) (p : Fin 8 → EReal) (m : EReal) (hg : g (ix2 r l) = grad p) (hn : n (ix2 r l) = mom p m) :
    k0_pay2 g n x3 x1 (ix2 r l) = delta p (x1 (ix2 r l)) m (x3 (ix2 r l)) := by
  pointwise [k0_pay2, delta]
  rw [sq_at x3 r l g p hg, hn, named1, named2]

theorem sq_out : out0_7 x0 x1 x2 x3 (ix2 r l) = sq (fun s => x0 (ix3 s r l)) (x3 (ix2 r l)) := by
  frame_out
  exact sq_at _ r l _ _ (sum_at x0 x1 x2 x3 r l)

theorem delta_at : out0_5 x0 x1 x2 x3 (ix2 r l)
    = delta (fun s => x0 (ix3 s r l)) (x1 (ix2 r l)) (x2 (ix2 r l)) (x3 (ix2 r l)) := by
  frame_out
  exact delta_at' _ _ r l _ _ _ _ (sum_at x0 x1 x2 x3 r l) (mom_at' x0 x1 x2 x3 r l)

end Point

/-! ### The reference -/

theorem bias1_eq : Ideal.ofBits .f32 0x3F26BD02#32 = ((5463681 / 8388608 : ℝ) : EReal) := by
  simp [Ideal.ofBits, Ideal.ieee]
  rw [← EReal.coe_mul]; norm_num

theorem bias2_eq : Ideal.ofBits .f32 0x3C231ACC#32 = ((2672307 / 268435456 : ℝ) : EReal) := by
  simp [Ideal.ofBits, Ideal.ieee]
  rw [← EReal.coe_mul]; norm_num

/-- A quotient by a number other than zero is the product with its inverse. -/
theorem div_inv {y : ℝ} (h : y ≠ 0) (x : EReal) : Ideal.div x (y : EReal) = x * ((y⁻¹ : ℝ) : EReal) := by
  rw [Ideal.div_coe h, one_div]

section Ref

open Cert.AdamRefIdeal.Read

variable (p : FVec Ideal Cert.AdamRefIdeal.S8x1024x705 .f32) (w a v : FVec Ideal Cert.AdamRefIdeal.S1024x705 .f32) (i : Fin 1024) (j : Fin 705)

theorem grad_ref : val_main_v0 (F := Ideal) p (ix2 i j) = grad fun s => p (ix3 s i j) := by
  pointwise [val_main_v0, val_main_cst]
  simp only [Fin.sum_univ_eight, grad]

theorem mom_ref : val_main_v5 (F := Ideal) p a (ix2 i j) = mom (fun s => p (ix3 s i j)) (a (ix2 i j)) := by
  pointwise [val_main_v5, val_main_v4, val_main_v3, val_main_v2, val_main_v1, val_main_cst_0, val_main_cst_1, mom, blend]
  rw [grad_ref]

theorem sq_ref : val_main_v11 (F := Ideal) p v (ix2 i j) = sq (fun s => p (ix3 s i j)) (v (ix2 i j)) := by
  pointwise [val_main_v11, val_main_v10, val_main_v9, val_main_v8, val_main_v7, val_main_v6, val_main_cst_2, val_main_cst_3, sq, blend]
  rw [grad_ref]

theorem delta_ref : val_main_v24 (F := Ideal) p w a v (ix2 i j)
    = delta (fun s => p (ix3 s i j)) (w (ix2 i j)) (a (ix2 i j)) (v (ix2 i j)) := by
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8, delta]
  rw [mom_ref, sq_ref, bias1_eq, bias2_eq, div_inv (by norm_num), div_inv (by norm_num)]

end Ref

/-! ### The packing -/

/-- The packed row and lane of a weight. -/
abbrev prow (i : Fin 1024) (j : Fin 705) : Fin 6144 := ⟨(i.val * 705 + j.val) / 128, by omega⟩
abbrev plane (i : Fin 1024) (j : Fin 705) : Fin 128 := ⟨(i.val * 705 + j.val) % 128, by omega⟩

/-- A weight array in rows of 128, with rows of zero at its end; the devices' parts, each so packed; and the way back. -/
def packed (x : FVec Ideal S1024x705 .f32) : FVec Ideal S6144x128 .f32 :=
  pad S6144x128 ![0, 0] ![504, 0] ![0, 0] (shapeCast S5640x128 x shapeCasts_S1024x705_S5640x128)
    (sitofp .f32 (constantI S_ 32 0#32)) pads_S5640x128_S6144x128_05040_000 h_S_

def packed8 (x : FVec Ideal S8x1024x705 .f32) : FVec Ideal S8x6144x128 .f32 :=
  pad S8x6144x128 ![0, 0, 0] ![0, 504, 0] ![0, 0, 0] (shapeCast S8x5640x128 x shapeCasts_S8x1024x705_S8x5640x128)
    (sitofp .f32 (constantI S_ 32 0#32)) pads_S8x5640x128_S8x6144x128_000_05040_000 h_S_

def unpacked (x : FVec Ideal S6144x128 .f32) : FVec Ideal S1024x705 .f32 :=
  shapeCast S1024x705 (extractStridedSlice S5640x128 ![0, 0] x slices_S6144x128_S5640x128_0_0) shapeCasts_S5640x128_S1024x705

section Packing

variable (i : Fin 1024) (j : Fin 705)

theorem prow_lt : (prow i j).val < 5640 := by show (i.val * 705 + j.val) / 128 < 5640; omega

theorem packed_at (x : FVec Ideal S1024x705 .f32) : packed x (ix2 (prow i j) (plane i j)) = x (ix2 i j) := by
  have h := prow_lt i j
  pointwise [packed]
  rw [dif_pos (by omega)]

theorem packed8_at (x : FVec Ideal S8x1024x705 .f32) (s : Fin 8) : packed8 x (ix3 s (prow i j) (plane i j)) = x (ix3 s i j) := by
  have h := prow_lt i j
  pointwise [packed8]
  rw [dif_pos (by omega)]

theorem unpacked_at (x : FVec Ideal S6144x128 .f32) : unpacked x (ix2 i j) = x (ix2 (prow i j) (plane i j)) := by
  refine (shapeCast_apply _ _ (ix2 i j) (ix2 (⟨(prow i j).val, prow_lt i j⟩ : Fin 5640) (plane i j)) ?_).trans ?_
  · simp only [Shape.rowMajor_val_two]
    show (i.val * 705 + j.val) / 128 * 128 + (i.val * 705 + j.val) % 128 = i.val * 705 + j.val
    omega
  · pointwise []

end Packing

/-! ### The kernel's arrays -/

variable (m : (ℓ : Loc nD τ sig) → Buf (Elt Ideal) ℓ)

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

theorem t_lt (t : Fin cfg0.N) : t.val < 12 := lt_of_lt_of_eq t.isLt N_0

/-- The row of the whole arrays that a point's row is. -/
abbrev row (t : Fin cfg0.N) (r : Fin 512) : Fin 6144 := ⟨t.val * 512 + r.val, by have := t_lt t; omega⟩

/-- A device's arguments. -/
abbrev argP (c : Dev nD) : FVec Ideal S8x1024x705 .f32 := m ((c : Thread nD τ).loc main_arg0)
abbrev argW (c : Dev nD) : FVec Ideal S1024x705 .f32 := m ((c : Thread nD τ).loc main_arg1)
abbrev argM (c : Dev nD) : FVec Ideal S1024x705 .f32 := m ((c : Thread nD τ).loc main_arg2)
abbrev argV (c : Dev nD) : FVec Ideal S1024x705 .f32 := m ((c : Thread nD τ).loc main_arg3)

section Host

variable (c : Dev nD)

theorem entries : V m c main_v1 = packed8 (argP m c) ∧ V m c main_v3 = packed (argW m c)
    ∧ V m c main_v5 = packed (argM m c) ∧ V m c main_v7 = packed (argV m c) := by
  refine ⟨?_, ?_, ?_, ?_⟩ <;>
  · show StableHlo.after (List.flatten [hostOps0, hostOps0_1, hostOps0_2, hostOps0_3, hostOps0_4, hostOps0_5, hostOps0_6, hostOps0_7])
      (fun b => m (c, b)) (Proc.devRef .tc _) = _
    simp only [hostOps0, hostOps0_1, hostOps0_2, hostOps0_3, hostOps0_4, hostOps0_5, hostOps0_6, hostOps0_7, List.flatten_cons, List.flatten_nil,
      List.cons_append, List.nil_append, List.append_nil]
    after_results_simp <;> rfl

variable (t : Fin cfg0.N) (r : Fin 512) (l : Fin 128)

theorem p_read (s : Fin 8) : iblk m c 0 t (ix3 s r l) = packed8 (argP m c) (ix3 s (row t r) l) := by
  rw [← (entries m c).1]; blk_ext [iblk, e0 t]
theorem w_read : iblk m c 1 t (ix2 r l) = packed (argW m c) (ix2 (row t r) l) := by
  rw [← (entries m c).2.1]; blk_ext [iblk, e1 t]
theorem m_read : iblk m c 2 t (ix2 r l) = packed (argM m c) (ix2 (row t r) l) := by
  rw [← (entries m c).2.2.1]; blk_ext [iblk, e2 t]
theorem v_read : iblk m c 3 t (ix2 r l) = packed (argV m c) (ix2 (row t r) l) := by
  rw [← (entries m c).2.2.2]; blk_ext [iblk, e3 t]

/-- The four result arrays, packed. -/
def gradA : FVec Ideal S6144x128 .f32 := fun q => grad fun s => packed8 (argP m c) (ix3 s (q 0) (q 1))
def deltaA : FVec Ideal S6144x128 .f32 := fun q =>
  delta (fun s => packed8 (argP m c) (ix3 s (q 0) (q 1))) (packed (argW m c) (ix2 (q 0) (q 1))) (packed (argM m c) (ix2 (q 0) (q 1)))
    (packed (argV m c) (ix2 (q 0) (q 1)))
def momA : FVec Ideal S6144x128 .f32 := fun q => mom (fun s => packed8 (argP m c) (ix3 s (q 0) (q 1))) (packed (argM m c) (ix2 (q 0) (q 1)))
def sqA : FVec Ideal S6144x128 .f32 := fun q => sq (fun s => packed8 (argP m c) (ix3 s (q 0) (q 1))) (packed (argV m c) (ix2 (q 0) (q 1)))

theorem final4 : (dats m 0 c).arrAt 4 cfg0.N = gradA m c := by
  refine (dats m 0 c).arrAt_eq_of_covers 4 _ (by decide +kernel) fun t hf y => ?_
  blk_simp
  rw [after0_4]
  idx_vars y
  rw [show ((View.whole main_v8_0).slice (win0_4.rect t)).emb (ix2 y0 y1) = (ix2 (row t y0) y1 : S6144x128.Idx) by blk_ext [e4 t], grad_at]
  simp only [p_read, w_read, m_read, v_read]
  rfl

theorem final5 : (dats m 0 c).arrAt 5 cfg0.N = deltaA m c := by
  refine (dats m 0 c).arrAt_eq_of_covers 5 _ (by decide +kernel) fun t hf y => ?_
  blk_simp
  rw [after0_5]
  idx_vars y
  rw [show ((View.whole main_v8_1).slice (win0_5.rect t)).emb (ix2 y0 y1) = (ix2 (row t y0) y1 : S6144x128.Idx) by blk_ext [e5 t], delta_at]
  simp only [p_read, w_read, m_read, v_read]
  rfl

theorem final6 : (dats m 0 c).arrAt 6 cfg0.N = momA m c := by
  refine (dats m 0 c).arrAt_eq_of_covers 6 _ (by decide +kernel) fun t hf y => ?_
  blk_simp
  rw [after0_6]
  idx_vars y
  rw [show ((View.whole main_v8_2).slice (win0_6.rect t)).emb (ix2 y0 y1) = (ix2 (row t y0) y1 : S6144x128.Idx) by blk_ext [e6 t], mom_at]
  simp only [p_read, w_read, m_read, v_read]
  rfl

theorem final7 : (dats m 0 c).arrAt 7 cfg0.N = sqA m c := by
  refine (dats m 0 c).arrAt_eq_of_covers 7 _ (by decide +kernel) fun t hf y => ?_
  blk_simp
  rw [after0_7]
  idx_vars y
  rw [show ((View.whole main_v8_3).slice (win0_7.rect t)).emb (ix2 y0 y1) = (ix2 (row t y0) y1 : S6144x128.Idx) by blk_ext [e7 t], sq_out]
  simp only [p_read, w_read, m_read, v_read]
  rfl

/-! ### The results -/

open Cert.AdamRefIdeal.Read

theorem unpack_eq {a : FVec Ideal S6144x128 .f32} {b : FVec Ideal S1024x705 .f32} (h : ∀ i j, a (ix2 (prow i j) (plane i j)) = b (ix2 i j)) :
    unpacked a = b := by
  funext q
  idx_vars q
  exact (unpacked_at q0 q1 a).trans (h q0 q1)

theorem res_g : unpacked (gradA m c) = val_main_v0 (F := Ideal) (argP m c) := unpack_eq fun i j => by
  show grad (fun s => packed8 (argP m c) (ix3 s (prow i j) (plane i j))) = _
  rw [grad_ref]; simp only [packed8_at]

theorem res_d : unpacked (deltaA m c) = val_main_v24 (F := Ideal) (argP m c) (argW m c) (argM m c) (argV m c) := unpack_eq fun i j => by
  show delta (fun s => packed8 (argP m c) (ix3 s (prow i j) (plane i j))) (packed (argW m c) (ix2 (prow i j) (plane i j)))
    (packed (argM m c) (ix2 (prow i j) (plane i j))) (packed (argV m c) (ix2 (prow i j) (plane i j))) = _
  rw [delta_ref]; simp only [packed8_at, packed_at]

theorem res_m : unpacked (momA m c) = val_main_v5 (F := Ideal) (argP m c) (argM m c) := unpack_eq fun i j => by
  show mom (fun s => packed8 (argP m c) (ix3 s (prow i j) (plane i j))) (packed (argM m c) (ix2 (prow i j) (plane i j))) = _
  rw [mom_ref]; simp only [packed8_at, packed_at]

theorem res_v : unpacked (sqA m c) = val_main_v11 (F := Ideal) (argP m c) (argV m c) := unpack_eq fun i j => by
  show sq (fun s => packed8 (argP m c) (ix3 s (prow i j) (plane i j))) (packed (argV m c) (ix2 (prow i j) (plane i j))) = _
  rw [sq_ref]; simp only [packed8_at, packed_at]

end Host

/-- The kernel's named constants are the inverses of the bias corrections. -/
theorem preserves : Cert.preserves_Adam_AdamIdeal :=
  ⟨IdealRules.named_const.statement κ "bias1" .f32 0x3FC48605#32 _ rfl, IdealRules.named_const.statement κ "bias2" .f32 0x42C8E6D3#32 _ rfl⟩

/-- The reference runs to its end and leaves its arguments and every counter as they were. -/
theorem frame_ref : Cert.quiescent_AdamRefIdeal := fun m g _ =>
  θ_run_mono (Cert.AdamRefIdeal.Value.run (F := Ideal) m g) fun r h =>
    ⟨fun c => (h c).2.2.2.2, sem_eq_zero_of_no_sems (by decide) r.2⟩

section

variable (c : Dev nD)

/-! The host's lines after the kernel unpack its four arrays. -/

theorem tail0 : (Pipeline.afterTail₀ cfgs (dats m) 0 (V0 m) [hostOps1] c main_v10 : FVec Ideal S1024x705 .f32) = unpacked ((dats m 0 c).arrAt 4 cfg0.N) := by
  show StableHlo.after hostOps1 _ (Proc.devRef .tc main_v10) = _
  after_results_simp
  exact congrArg unpacked (Pipeline.withArrays_arr spec0 winFacts0.arr_inj c _ _ 4)
theorem tail1 : (Pipeline.afterTail₀ cfgs (dats m) 0 (V0 m) [hostOps1] c main_v12 : FVec Ideal S1024x705 .f32) = unpacked ((dats m 0 c).arrAt 5 cfg0.N) := by
  show StableHlo.after hostOps1 _ (Proc.devRef .tc main_v12) = _
  after_results_simp
  exact congrArg unpacked (Pipeline.withArrays_arr spec0 winFacts0.arr_inj c _ _ 5)
theorem tail2 : (Pipeline.afterTail₀ cfgs (dats m) 0 (V0 m) [hostOps1] c main_v14 : FVec Ideal S1024x705 .f32) = unpacked ((dats m 0 c).arrAt 6 cfg0.N) := by
  show StableHlo.after hostOps1 _ (Proc.devRef .tc main_v14) = _
  after_results_simp
  exact congrArg unpacked (Pipeline.withArrays_arr spec0 winFacts0.arr_inj c _ _ 6)
theorem tail3 : (Pipeline.afterTail₀ cfgs (dats m) 0 (V0 m) [hostOps1] c main_v16 : FVec Ideal S1024x705 .f32) = unpacked ((dats m 0 c).arrAt 7 cfg0.N) := by
  show StableHlo.after hostOps1 _ (Proc.devRef .tc main_v16) = _
  after_results_simp
  exact congrArg unpacked (Pipeline.withArrays_arr spec0 winFacts0.arr_inj c _ _ 7)

end

omit m in
open Cert.AdamRefIdeal.Read in
/-- The two programs' results are equal. -/
theorem value : Cert.algebraic_AdamIdeal_AdamRefIdeal := by
  intro m g m' g' _ hm
  refine ⟨fun c => val_main_v0 (F := Ideal) (argP m c), fun c => val_main_v24 (F := Ideal) (argP m c) (argW m c) (argM m c) (argV m c),
    fun c => val_main_v5 (F := Ideal) (argP m c) (argM m c), fun c => val_main_v11 (F := Ideal) (argP m c) (argV m c), ?_, ?_⟩
  · refine θ_run_mono (θ_run_and (frame (F := Ideal) m g) (run_main (F := Ideal) m g)) fun r h c => ?_
    refine ⟨(h.2.rest_eq c main_v10 (by decide)).trans ((tail0 m c).trans ?_), (h.2.rest_eq c main_v12 (by decide)).trans ((tail1 m c).trans ?_),
      (h.2.rest_eq c main_v14 (by decide)).trans ((tail2 m c).trans ?_), (h.2.rest_eq c main_v16 (by decide)).trans ((tail3 m c).trans ?_), h.1.1 c⟩
    · rw [final4, res_g]
    · rw [final5, res_d]
    · rw [final6, res_m]
    · rw [final7, res_v]
  · refine θ_run_mono (Cert.AdamRefIdeal.Value.run (F := Ideal) m' g') fun r h c => ?_
    obtain ⟨h0, h1, h2, h3, ha⟩ := h c
    obtain ⟨a0, a1, a2, a3⟩ := hm c
    exact ⟨h0.trans (by rw [val_main_v0_eq, a0]), h1.trans (by rw [val_main_v24_eq, a0, a1, a2, a3]),
      h2.trans (by rw [val_main_v5_eq, a0, a2]), h3.trans (by rw [val_main_v11_eq, a0, a3]), ha⟩

end Cert.AdamValue
-- ==== Proof.ScanFrame.lean ====
/- The frame of the gated recurrence's forward call: its body runs to its end from any states and any contents of its two
   results, and leaves its inputs as it found them; the pipeline's data name nothing of the results or the states. -/
module

public import proofs.«01_k».proof.Defs
public import proofs.«01_k».proof.Proof.Gen.ScanIdeal.Frame.Runs
public import proofs.«01_k».proof.Proof.Gen.Scan
public import Idealize.ShloMosaic.Lib.Claim
public import Idealize.ShloMosaic.Lib.Tactic

@[expose] public section

set_option maxRecDepth 65536

noncomputable section

namespace Cert.Recur

open Cert.ScanIdeal Cert.ScanIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

/-! ## The body, from any states -/

set_option maxHeartbeats 1600000 in
/-- Through the chunks the inputs stay as they are; of the results and the states nothing is said. -/
@[instance_reducible] def chunks (c : Dev nD) (E : Set ℕ) (i : grid0.Coords)
    (q : Memref sig .tc .vmem S512x512 .f32) (hq : q.IsWhole) (f : Memref sig .tc .vmem S512x512 .f32) (hf : f.IsWhole)
    (v : Memref sig .tc .vmem S512x512 .f32) (hv : v.IsWhole) (l : Memref sig .tc .vmem S1x512 .f32) (hl : l.IsWhole)
    (o : Memref sig .tc .vmem S512x512 .f32) (ho : o.IsWhole) (st : Memref sig .tc .vmem S4x8x128x128 .f32) (hst : st.IsWhole)
    (s : Memref sig .tc .vmem S4x128x128 .f32) (hs : s.IsWhole)
    (xq : BufTy.Contents (Elt F) q.view.ty) (xf : BufTy.Contents (Elt F) f.view.ty)
    (xv : BufTy.Contents (Elt F) v.view.ty) (xl : BufTy.Contents (Elt F) l.view.ty) :
    LoopInvTy_k0_t1 (F := F) Unit ℕ (UR sig nD τ) ℕ Variants.none c none E i q hq f hf v hv l hl o ho st hst s hs where
  inv _ _ := iprop((q.view.loc (c : Thread nD τ) ↦[q.view.set]{fullShare} xq)
    ∗ (f.view.loc (c : Thread nD τ) ↦[f.view.set]{fullShare} xf)
    ∗ (v.view.loc (c : Thread nD τ) ↦[v.view.set]{fullShare} xv)
    ∗ (l.view.loc (c : Thread nD τ) ↦[l.view.set]{fullShare} xl)
    ∗ (∃ d, o.view.loc (c : Thread nD τ) ↦[o.view.set]{fullShare} d)
    ∗ (∃ d, st.view.loc (c : Thread nD τ) ↦[st.view.set]{fullShare} d)
    ∗ (∃ d, s.view.loc (c : Thread nD τ) ↦[s.view.set]{fullShare} d))
  step k acc := by
    have hk : k.val < 8 := Nat.lt_of_lt_of_le k.isLt k0_t1_abs.2.1
    iintro ⟨Hq, Hf, Hv, Hl, ⟨%d5, Ho⟩, ⟨%d6, Ht⟩, ⟨%d7, Hs⟩⟩
    unfold k0_t1_body
    sl_exec
    sl_step
    isplitl [Hq]; · iexact Hq
    isplitl [Hf]; · iexact Hf
    isplitl [Hv]; · iexact Hv
    isplitl [Hl]; · iexact Hl
    isplitl [Ho]; · iexists _; iexact Ho
    isplitl [Ht]; · iexists _; iexact Ht
    iexists _; iexact Hs

set_option maxHeartbeats 1600000 in
theorem body_runs (c : Dev nD) (i : grid0.Coords)
    (q : Memref sig .tc .vmem S512x512 .f32) (hq : q.IsWhole) (f : Memref sig .tc .vmem S512x512 .f32) (hf : f.IsWhole)
    (v : Memref sig .tc .vmem S512x512 .f32) (hv : v.IsWhole) (l : Memref sig .tc .vmem S1x512 .f32) (hl : l.IsWhole)
    (o : Memref sig .tc .vmem S512x512 .f32) (ho : o.IsWhole) (st : Memref sig .tc .vmem S4x8x128x128 .f32) (hst : st.IsWhole)
    (s : Memref sig .tc .vmem S4x128x128 .f32) (hs : s.IsWhole)
    (xq xf xv : Vec F S512x512 .f32) (xl : Vec F S1x512 .f32) (E : Set ℕ) (K : PUnit → sProp 𝕄) :
    iprop(owns (c : Thread nD τ) q fullShare xq ∗ owns (c : Thread nD τ) f fullShare xf ∗ owns (c : Thread nD τ) v fullShare xv
        ∗ owns (c : Thread nD τ) l fullShare xl ∗ (∃ d, owns (c : Thread nD τ) o fullShare d)
        ∗ (∃ d, owns (c : Thread nD τ) st fullShare d) ∗ (∃ d, owns (c : Thread nD τ) s fullShare d)
        ∗ (iprop(owns (c : Thread nD τ) q fullShare xq ∗ owns (c : Thread nD τ) f fullShare xf ∗ owns (c : Thread nD τ) v fullShare xv
            ∗ owns (c : Thread nD τ) l fullShare xl ∗ (∃ d, owns (c : Thread nD τ) o fullShare d)
            ∗ (∃ d, owns (c : Thread nD τ) st fullShare d) ∗ (∃ d, owns (c : Thread nD τ) s fullShare d)) -∗ K ⟨⟩))
      ⊢ wp frame (wpE (defs₀ (F := F)) Variants.none c none) E (cc0_hgrn_fwd i q hq f hf v hv l hl o ho st hst s hs) K := by
  simp only [cc0_hgrn_fwd_eq_skeleton]; unfold cc0_hgrn_fwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩,
    ⟨%d6, %f6, -, H6⟩, Hk⟩
  let L := chunks c E i q hq f hf v hv l hl o ho st hst s hs f0 f1 f2 f3
  by_cases hc : cond0_0 i
  all_goals
    sl_exec (disch := first | sl_exact hc)
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; iexists _; isplitr; swap; · iexact H4
                    ipureintro; rfl
    isplitl [H5]; · iexists _; iexists _; isplitr; swap; · iexact H5
                    ipureintro; rfl
    iexists _; iexists _; isplitr; swap; · iexact H6
    ipureintro; rfl

/-! ## The pipeline's data and the run -/

variable (m : (ℓ : Loc nD τ sig) → Buf (Elt F) ℓ) (ρ : Dev nD → PrngReg) (c : Dev nD)

/-- The two results. -/
def unread : Fin 6 → Bool := fun w => decide (4 ≤ w.val)

/-- Every input's buffer at its block; nothing of the results. -/
def kept (_ : Fin 1) (c : Dev nD) : Dat τ (Elt F) Unit ℕ (UR sig nD τ) ℕ cfg0 c where
  A w := V m c (arrRef spec0 w)
  after w t := match w with
    | ⟨0, _⟩ => X0_0 m c t
    | ⟨1, _⟩ => X0_1 m c t
    | ⟨2, _⟩ => X0_2 m c t
    | ⟨3, _⟩ => iblk m c 3 t
    | ⟨4, h⟩ => Dat.unnamed (cfg := cfg0) ⟨4, h⟩ t
    | ⟨5, h⟩ => Dat.unnamed (cfg := cfg0) ⟨5, h⟩ t
  Φ _ := ΦA spec0 c
  q w := shareOf spec0 w
  owed _ := 0

theorem kept_arrays (w : Fin cfg0.W) : (kept m 0 c).A w = V m c (arrRef spec0 w) := by dsimp only [kept]

theorem kept_q (t : Fin cfg0.N) (d) : (kept m 0 c).before 0 t d = X0_0 m c t :=
  before0_0_of m (kept m 0 c) (kept_arrays m c 0) (fun _ => by dsimp only [kept]) t d
theorem kept_f (t : Fin cfg0.N) (d) : (kept m 0 c).before 1 t d = X0_1 m c t :=
  before0_1_of m (kept m 0 c) (kept_arrays m c 1) (fun _ => by dsimp only [kept]) t d
theorem kept_v (t : Fin cfg0.N) (d) : (kept m 0 c).before 2 t d = X0_2 m c t :=
  before0_2_of m (kept m 0 c) (kept_arrays m c 2) (fun _ => by dsimp only [kept]) t d
theorem kept_l (t : Fin cfg0.N) (d) : (kept m 0 c).before 3 t d = iblk m c 3 t :=
  before0_3_of m (kept m 0 c) (kept_arrays m c 3) (fun _ => by dsimp only [kept]) t d

/-- The body at a point, on the point's buffers. -/
theorem point_runs (t : Fin cfg0.N) :
    iprop(ΦA spec0 c ∗ (kept m 0 c).owesAt () t.castSucc
        ∗ (∃ d, owns (c : Thread nD τ) (ms0_0 t) fullShare ((kept m 0 c).before 0 t d))
        ∗ (∃ d, owns (c : Thread nD τ) (ms0_1 t) fullShare ((kept m 0 c).before 1 t d))
        ∗ (∃ d, owns (c : Thread nD τ) (ms0_2 t) fullShare ((kept m 0 c).before 2 t d))
        ∗ (∃ d, owns (c : Thread nD τ) (ms0_3 t) fullShare ((kept m 0 c).before 3 t d))
        ∗ (∃ d, owns (c : Thread nD τ) (ms0_4 t) fullShare d)
        ∗ (∃ d, owns (c : Thread nD τ) (ms0_5 t) fullShare d))
      ⊢ wp frame (wpE (defs₀ (F := F)) Variants.none c none) Set.univ (bodyAt0 t) (fun _ =>
        iprop(ΦA spec0 c ∗ (kept m 0 c).owesAt () t.castSucc
        ∗ owns (c : Thread nD τ) (ms0_0 t) fullShare (X0_0 m c t)
        ∗ owns (c : Thread nD τ) (ms0_1 t) fullShare (X0_1 m c t)
        ∗ owns (c : Thread nD τ) (ms0_2 t) fullShare (X0_2 m c t)
        ∗ owns (c : Thread nD τ) (ms0_3 t) fullShare (iblk m c 3 t)
        ∗ (∃ d, owns (c : Thread nD τ) (ms0_4 t) fullShare d)
        ∗ (∃ d, owns (c : Thread nD τ) (ms0_5 t) fullShare d))) := by
  unfold bodyAt0
  simp only [kept_q, kept_f, kept_v, kept_l]
  rw [PhiA0_eq]
  iintro ⟨⟨Hs, Hg⟩, Hw, ⟨%d0, H0⟩, ⟨%d1, H1⟩, ⟨%d2, H2⟩, ⟨%d3, H3⟩, H4, H5⟩
  iapply (body_runs c (grid0.coords t) _ _ _ _ _ _ _ _ _ _ _ _ _ _ (X0_0 m c t) (X0_1 m c t) (X0_2 m c t) (iblk m c 3 t))
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, Hs⟩
  isplitl [Hs Hg]
  · isplitl [Hs]; · iexact Hs
    iexact Hg
  isplitl [Hw]; · iexact Hw
  isplitl [H0]; · iexact H0
  isplitl [H1]; · iexact H1
  isplitl [H2]; · iexact H2
  isplitl [H3]; · iexact H3
  isplitl [H4]; · iexact H4
  iexact H5

theorem obligation : BodyObligation (kept (F := F) m 0 c) (defs₀ (F := F)) Variants.none () Set.univ unread := fun t => by
  rw [bigSep_W0, bigSep_W0, show defs₀ (F := F) .tc cfg0.body (cfg0.bodyArgs t (cfg0.slots t)) = bodyAt0 t by
    unfold defs₀; rw [Defs.onTc_tc]]
  exact triple_restated (point_runs m c t) rfl .rfl fun _ => .rfl

set_option backward.isDefEq.respectTransparency.types false in
theorem run : θ_run defs (onTc (τ := τ) (main (F := F))) (s₀ m ρ)
    (fun r => (RDat.FramePost (cfgs 0) (fun c => (kept m 0 c).toRForget unread) (V m)) r ∧ r.2.sem = fun _ => 0) :=
  θ_run_frame_track_forget_shared (Q' := _) cfgs (kept m) (0 : Fin 1) launch₀0 defs₀ Variants.none unread m ρ main
    (hbody := fun c => (obligation m c).loose) (hq := fun _ _ _ => rfl) (howed := fun _ _ => rfl) (V := V m)
    (hmain := hmain m Variants.none) (hA := fun c => kept_arrays m c)
    (hin := fun _ => Idealize.SL.BI.Entails.refl _) (hout := fun _ => Idealize.SL.BI.Entails.refl _)

/-- The frame at any values. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (mem_restRefs_of main_arg0 (by decide) (by decide))).trans (V_main_arg0 m c),
      ((h.1 c).2 main_arg1 (mem_restRefs_of main_arg1 (by decide) (by decide))).trans (V_main_arg1 m c)⟩, h.2⟩) (run m ρ)

/-- The program's frame over floating-point values, of the text that the ideal program shares with it. -/
def BitsFrame : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem bits_same : BitsFrame = Cert.quiescent_Scan := by sl_kernel_rfl

/-- The kernel with floating-point arithmetic runs to its end and leaves its arguments and every counter as they were. -/
theorem frame_bits : Cert.quiescent_Scan := bits_same ▸ fun m g _ => unchanged (F := Bits) m g

/-- The kernel over the reals does too. -/
theorem frame_ideal : Cert.quiescent_ScanIdeal := fun m g _ => unchanged (F := Ideal) m g

end Cert.Recur

end
-- ==== Proof.DscanFrame.lean ====
/- The frame of the gated recurrence's gradient: its body runs to its end from any gradient of the states and any contents of
   its four results, and leaves its inputs as it found them; the pipeline's data name nothing of the results or of what is
   carried between the points. -/
module

public import proofs.«01_k».proof.Defs
public import proofs.«01_k».proof.Proof.Gen.DscanIdeal.Frame.Runs
public import proofs.«01_k».proof.Proof.Gen.DscanIdeal.Loops
public import proofs.«01_k».proof.Proof.Gen.DscanIdeal.Skeleton
public import proofs.«01_k».proof.Proof.Gen.Dscan
public import Idealize.ShloMosaic.Lib.Claim
public import Idealize.ShloMosaic.Lib.Tactic

@[expose] public section

set_option maxRecDepth 65536

noncomputable section

namespace Cert.RecurBack

open Cert.DscanIdeal Cert.DscanIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

/-- The point is the first. -/
abbrev first (i : grid0.Coords) : Prop :=
  (Scalar.cmpi .ne (Scalar.extui (Scalar.cmpi .eq (BitVec.ofNat 32 (i 0).val) 0#32)) 0#32) = 1#1

/-! ## The body, from any gradient of the states -/

set_option maxHeartbeats 1600000 in
/-- Through the chunks the inputs stay as they are; of the results and of what is carried nothing is said. -/
@[instance_reducible] def chunks (c : Dev nD) (E : Set ℕ) (i : grid0.Coords)
    (q : Memref sig .tc .vmem S512x512 .f32) (hq : q.IsWhole) (f : Memref sig .tc .vmem S512x512 .f32) (hf : f.IsWhole)
    (v : Memref sig .tc .vmem S512x512 .f32) (hv : v.IsWhole) (l : Memref sig .tc .vmem S1x512 .f32) (hl : l.IsWhole)
    (st : Memref sig .tc .vmem S4x8x128x128 .f32) (hst : st.IsWhole) (g : Memref sig .tc .vmem S512x512 .f32) (hg : g.IsWhole)
    (dq : Memref sig .tc .vmem S512x512 .bf16) (hdq : dq.IsWhole) (df : Memref sig .tc .vmem S512x512 .bf16) (hdf : df.IsWhole)
    (dv : Memref sig .tc .vmem S512x512 .bf16) (hdv : dv.IsWhole) (dl : Memref sig .tc .vmem S8x512 .f32) (hdl : dl.IsWhole)
    (s : Memref sig .tc .vmem S4x128x128 .f32) (hs : s.IsWhole)
    (xq : BufTy.Contents (Elt F) q.view.ty) (xf : BufTy.Contents (Elt F) f.view.ty) (xv : BufTy.Contents (Elt F) v.view.ty)
    (xl : BufTy.Contents (Elt F) l.view.ty) (xst : BufTy.Contents (Elt F) st.view.ty) (xg : BufTy.Contents (Elt F) g.view.ty) :
    LoopInvTy_k0_t1 (F := F) Unit ℕ (UR sig nD τ) ℕ Variants.none c none E i q hq f hf v hv l hl st hst g hg dq hdq df hdf dv hdv dl hdl s hs where
  inv _ _ := iprop((q.view.loc (c : Thread nD τ) ↦[q.view.set]{fullShare} xq)
    ∗ (f.view.loc (c : Thread nD τ) ↦[f.view.set]{fullShare} xf)
    ∗ (v.view.loc (c : Thread nD τ) ↦[v.view.set]{fullShare} xv)
    ∗ (l.view.loc (c : Thread nD τ) ↦[l.view.set]{fullShare} xl)
    ∗ (st.view.loc (c : Thread nD τ) ↦[st.view.set]{fullShare} xst)
    ∗ (g.view.loc (c : Thread nD τ) ↦[g.view.set]{fullShare} xg)
    ∗ (∃ d, dq.view.loc (c : Thread nD τ) ↦[dq.view.set]{fullShare} d)
    ∗ (∃ d, df.view.loc (c : Thread nD τ) ↦[df.view.set]{fullShare} d)
    ∗ (∃ d, dv.view.loc (c : Thread nD τ) ↦[dv.view.set]{fullShare} d)
    ∗ (∃ d, dl.view.loc (c : Thread nD τ) ↦[dl.view.set]{fullShare} d)
    ∗ (∃ d, s.view.loc (c : Thread nD τ) ↦[s.view.set]{fullShare} d))
  step k acc := by
    have hk : k.val < 8 := Nat.lt_of_lt_of_le k.isLt k0_t1_abs.2.1
    iintro ⟨Hq, Hf, Hv, Hl, Hst, Hg, ⟨%ddq, Hdq⟩, ⟨%ddf, Hdf⟩, ⟨%ddv, Hdv⟩, ⟨%ddl, Hdl⟩, ⟨%ds, Hs⟩⟩
    unfold k0_t1_body
    sl_exec
    sl_step
    isplitl [Hq]; · iexact Hq
    isplitl [Hf]; · iexact Hf
    isplitl [Hv]; · iexact Hv
    isplitl [Hl]; · iexact Hl
    isplitl [Hst]; · iexact Hst
    isplitl [Hg]; · iexact Hg
    isplitl [Hdq]; · iexists _; iexact Hdq
    isplitl [Hdf]; · iexists _; iexact Hdf
    isplitl [Hdv]; · iexists _; iexact Hdv
    isplitl [Hdl]; · iexists _; iexact Hdl
    iexists _; iexact Hs

set_option maxHeartbeats 1600000 in
theorem body_runs (c : Dev nD) (i : grid0.Coords)
    (q : Memref sig .tc .vmem S512x512 .f32) (hq : q.IsWhole) (f : Memref sig .tc .vmem S512x512 .f32) (hf : f.IsWhole)
    (v : Memref sig .tc .vmem S512x512 .f32) (hv : v.IsWhole) (l : Memref sig .tc .vmem S1x512 .f32) (hl : l.IsWhole)
    (st : Memref sig .tc .vmem S4x8x128x128 .f32) (hst : st.IsWhole) (g : Memref sig .tc .vmem S512x512 .f32) (hg : g.IsWhole)
    (dq : Memref sig .tc .vmem S512x512 .bf16) (hdq : dq.IsWhole) (df : Memref sig .tc .vmem S512x512 .bf16) (hdf : df.IsWhole)
    (dv : Memref sig .tc .vmem S512x512 .bf16) (hdv : dv.IsWhole) (dl : Memref sig .tc .vmem S8x512 .f32) (hdl : dl.IsWhole)
    (s : Memref sig .tc .vmem S4x128x128 .f32) (hs : s.IsWhole)
    (xq xf xv xg : Vec F S512x512 .f32) (xl : Vec F S1x512 .f32) (xst : Vec F S4x8x128x128 .f32) (E : Set ℕ) (K : PUnit → sProp 𝕄) :
    iprop(owns (c : Thread nD τ) q fullShare xq
        ∗ owns (c : Thread nD τ) f fullShare xf
        ∗ owns (c : Thread nD τ) v fullShare xv
        ∗ owns (c : Thread nD τ) l fullShare xl
        ∗ owns (c : Thread nD τ) st fullShare xst
        ∗ owns (c : Thread nD τ) g fullShare xg
        ∗ (∃ d, owns (c : Thread nD τ) dq fullShare d)
        ∗ (∃ d, owns (c : Thread nD τ) df fullShare d)
        ∗ (∃ d, owns (c : Thread nD τ) dv fullShare d)
        ∗ (∃ d, owns (c : Thread nD τ) dl fullShare d)
        ∗ (∃ d, owns (c : Thread nD τ) s fullShare d)
        ∗ (iprop(owns (c : Thread nD τ) q fullShare xq
        ∗ owns (c : Thread nD τ) f fullShare xf
        ∗ owns (c : Thread nD τ) v fullShare xv
        ∗ owns (c : Thread nD τ) l fullShare xl
        ∗ owns (c : Thread nD τ) st fullShare xst
        ∗ owns (c : Thread nD τ) g fullShare xg
        ∗ (∃ d, owns (c : Thread nD τ) dq fullShare d)
        ∗ (∃ d, owns (c : Thread nD τ) df fullShare d)
        ∗ (∃ d, owns (c : Thread nD τ) dv fullShare d)
        ∗ (∃ d, owns (c : Thread nD τ) dl fullShare d)
        ∗ (∃ d, owns (c : Thread nD τ) s fullShare d)) -∗ K ⟨⟩))
      ⊢ wp frame (wpE (defs₀ (F := F)) Variants.none c none) E (cc0_hgrn_bwd i q hq f hf v hv l hl st hst g hg dq hdq df hdf dv hdv dl hdl s hs) K := by
  simp only [cc0_hgrn_bwd_eq_skeleton]; unfold cc0_hgrn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, ⟨%d10, %f10, -, H10⟩, Hk⟩
  let L := chunks c E i q hq f hf v hv l hl st hst g hg dq hdq df hdf dv hdv dl hdl s hs f0 f1 f2 f3 f4 f5
  by_cases hc : first i
  all_goals
    sl_exec (disch := first | sl_exact hc)
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]; · iexists _; isplitr; swap; · iexact H5
                    ipureintro; exact hf5
    isplitl [H6]; · iexists _; iexists _; isplitr; swap; · iexact H6
                    ipureintro; rfl
    isplitl [H7]; · iexists _; iexists _; isplitr; swap; · iexact H7
                    ipureintro; rfl
    isplitl [H8]; · iexists _; iexists _; isplitr; swap; · iexact H8
                    ipureintro; rfl
    isplitl [H9]; · iexists _; iexists _; isplitr; swap; · iexact H9
                    ipureintro; rfl
    iexists _; iexists _; isplitr; swap; · iexact H10
    ipureintro; rfl

/-! ## The pipeline's data and the run -/

variable (m : (ℓ : Loc nD τ sig) → Buf (Elt F) ℓ) (ρ : Dev nD → PrngReg) (c : Dev nD)

/-- The four results. -/
def unread : Fin 10 → Bool := fun w => decide (6 ≤ w.val)

/-- Every input's buffer at its block; nothing of the results. -/
def kept (_ : Fin 1) (c : Dev nD) : Dat τ (Elt F) Unit ℕ (UR sig nD τ) ℕ cfg0 c where
  A w := V m c (arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
    | ⟨8, h⟩ => Dat.unnamed (cfg := cfg0) ⟨8, h⟩ t
    | ⟨9, h⟩ => Dat.unnamed (cfg := cfg0) ⟨9, h⟩ t
  Φ _ := ΦA spec0 c
  q w := shareOf spec0 w
  owed _ := 0

theorem kept_arrays (w : Fin cfg0.W) : (kept m 0 c).A w = V m c (arrRef spec0 w) := by dsimp only [kept]

theorem kept_q (t : Fin cfg0.N) (d) : (kept m 0 c).before 0 t d = X0_0 m c t :=
  before0_0_of m (kept m 0 c) (kept_arrays m c 0) (fun _ => by dsimp only [kept]) t d
theorem kept_f (t : Fin cfg0.N) (d) : (kept m 0 c).before 1 t d = X0_1 m c t :=
  before0_1_of m (kept m 0 c) (kept_arrays m c 1) (fun _ => by dsimp only [kept]) t d
theorem kept_v (t : Fin cfg0.N) (d) : (kept m 0 c).before 2 t d = X0_2 m c t :=
  before0_2_of m (kept m 0 c) (kept_arrays m c 2) (fun _ => by dsimp only [kept]) t d
theorem kept_l (t : Fin cfg0.N) (d) : (kept m 0 c).before 3 t d = iblk m c 3 t :=
  before0_3_of m (kept m 0 c) (kept_arrays m c 3) (fun _ => by dsimp only [kept]) t d
theorem kept_st (t : Fin cfg0.N) (d) : (kept m 0 c).before 4 t d = iblk m c 4 t :=
  before0_4_of m (kept m 0 c) (kept_arrays m c 4) (fun _ => by dsimp only [kept]) t d
theorem kept_g (t : Fin cfg0.N) (d) : (kept m 0 c).before 5 t d = iblk m c 5 t :=
  before0_5_of m (kept m 0 c) (kept_arrays m c 5) (fun _ => by dsimp only [kept]) t d

/-- What the region keeps of its own: the gradient of the states, at anything, and the generator. -/
theorem carried : (ΦA spec0 c : sProp 𝕄)
    = iprop(iprop((∃ d, owns (c : Thread nD τ) (Memref.whole cc0_scratch0) fullShare d)) ∗ (∃ r, prngReg c r)) := by
  unfold ΦA; rw [scopedRest0_eq]; simp only [owns_whole]; try rfl

/-- The body at a point, on the point's buffers. -/
theorem point_runs (t : Fin cfg0.N) :
    iprop(ΦA spec0 c ∗ (kept m 0 c).owesAt () t.castSucc
        ∗ (∃ d, owns (c : Thread nD τ) (win0_0.stage (cfg0.slots t 0)) fullShare ((kept m 0 c).before 0 t d))
        ∗ (∃ d, owns (c : Thread nD τ) (win0_1.stage (cfg0.slots t 1)) fullShare ((kept m 0 c).before 1 t d))
        ∗ (∃ d, owns (c : Thread nD τ) (win0_2.stage (cfg0.slots t 2)) fullShare ((kept m 0 c).before 2 t d))
        ∗ (∃ d, owns (c : Thread nD τ) (win0_3.stage (cfg0.slots t 3)) fullShare ((kept m 0 c).before 3 t d))
        ∗ (∃ d, owns (c : Thread nD τ) (win0_4.stage (cfg0.slots t 4)) fullShare ((kept m 0 c).before 4 t d))
        ∗ (∃ d, owns (c : Thread nD τ) (win0_5.stage (cfg0.slots t 5)) fullShare ((kept m 0 c).before 5 t d))
        ∗ (∃ d, owns (c : Thread nD τ) (win0_6.stage (cfg0.slots t 6)) fullShare d)
        ∗ (∃ d, owns (c : Thread nD τ) (win0_7.stage (cfg0.slots t 7)) fullShare d)
        ∗ (∃ d, owns (c : Thread nD τ) (win0_8.stage (cfg0.slots t 8)) fullShare d)
        ∗ (∃ d, owns (c : Thread nD τ) (win0_9.stage (cfg0.slots t 9)) fullShare d))
      ⊢ wp frame (wpE (defs₀ (F := F)) Variants.none c none) Set.univ (bodyAt0 t) (fun _ =>
        iprop(ΦA spec0 c ∗ (kept m 0 c).owesAt () t.castSucc
        ∗ owns (c : Thread nD τ) (win0_0.stage (cfg0.slots t 0)) fullShare (X0_0 m c t)
        ∗ owns (c : Thread nD τ) (win0_1.stage (cfg0.slots t 1)) fullShare (X0_1 m c t)
        ∗ owns (c : Thread nD τ) (win0_2.stage (cfg0.slots t 2)) fullShare (X0_2 m c t)
        ∗ owns (c : Thread nD τ) (win0_3.stage (cfg0.slots t 3)) fullShare (iblk m c 3 t)
        ∗ owns (c : Thread nD τ) (win0_4.stage (cfg0.slots t 4)) fullShare (iblk m c 4 t)
        ∗ owns (c : Thread nD τ) (win0_5.stage (cfg0.slots t 5)) fullShare (iblk m c 5 t)
        ∗ (∃ d, owns (c : Thread nD τ) (win0_6.stage (cfg0.slots t 6)) fullShare d)
        ∗ (∃ d, owns (c : Thread nD τ) (win0_7.stage (cfg0.slots t 7)) fullShare d)
        ∗ (∃ d, owns (c : Thread nD τ) (win0_8.stage (cfg0.slots t 8)) fullShare d)
        ∗ (∃ d, owns (c : Thread nD τ) (win0_9.stage (cfg0.slots t 9)) fullShare d))) := by
  unfold bodyAt0
  simp only [kept_q, kept_f, kept_v, kept_l, kept_st, kept_g]
  rw [carried]
  iintro ⟨⟨Hs, Hg⟩, Hw, ⟨%d0, H0⟩, ⟨%d1, H1⟩, ⟨%d2, H2⟩, ⟨%d3, H3⟩, ⟨%d4, H4⟩, ⟨%d5, H5⟩, H6, H7, H8, H9⟩
  iapply (body_runs c (grid0.coords t) _ _ _ _ _ _ _ _ _ _ _ _ _ _ _ _ _ _ _ _ _ _ (X0_0 m c t) (X0_1 m c t) (X0_2 m c t) (iblk m c 5 t) (iblk m c 3 t) (iblk m c 4 t) Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hs]; · iexact Hs
  iintro ⟨H0, H1, H2, H3, H4, H5, H6, H7, H8, H9, Hs⟩
  isplitl [Hs Hg]
  · isplitl [Hs]; · iexact Hs
    iexact Hg
  isplitl [Hw]; · iexact Hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem obligation : BodyObligation (kept (F := F) m 0 c) (defs₀ (F := F)) Variants.none () Set.univ unread := fun t => by
  rw [bigSep_W0, bigSep_W0, show defs₀ (F := F) .tc cfg0.body (cfg0.bodyArgs t (cfg0.slots t)) = bodyAt0 t by
    unfold defs₀; rw [Defs.onTc_tc]]
  exact triple_restated (point_runs m c t) rfl .rfl fun _ => .rfl

set_option backward.isDefEq.respectTransparency.types false in
theorem run : θ_run defs (onTc (τ := τ) (main (F := F))) (s₀ m ρ)
    (fun r => (RDat.FramePost (cfgs 0) (fun c => (kept m 0 c).toRForget unread) (V m)) r ∧ r.2.sem = fun _ => 0) :=
  θ_run_frame_track_forget_shared (Q' := _) cfgs (kept m) (0 : Fin 1) launch₀0 defs₀ Variants.none unread m ρ main
    (hbody := fun c => (obligation m c).loose) (hq := fun _ _ _ => rfl) (howed := fun _ _ => rfl) (V := V m)
    (hmain := hmain m Variants.none) (hA := fun c => kept_arrays m c)
    (hin := fun _ => Idealize.SL.BI.Entails.refl _) (hout := fun _ => Idealize.SL.BI.Entails.refl _)

/-- The frame at any values. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (mem_restRefs_of main_arg0 (by decide) (by decide))).trans (V_main_arg0 m c),
      ((h.1 c).2 main_arg1 (mem_restRefs_of main_arg1 (by decide) (by decide))).trans (V_main_arg1 m c),
      (h.1.arr_in c 4 rfl).trans ((kept_arrays m c 4).trans (V_main_arg2 m c)),
      (h.1.arr_in c 5 rfl).trans ((kept_arrays m c 5).trans (V_main_arg3 m c))⟩, h.2⟩) (run m ρ)

/-- The program's frame over floating-point values, of the text that the ideal program shares with it. -/
def BitsFrame : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem bits_same : BitsFrame = Cert.quiescent_Dscan := by sl_kernel_rfl

/-- The kernel with floating-point arithmetic runs to its end and leaves its arguments and every counter as they were. -/
theorem frame_bits : Cert.quiescent_Dscan := bits_same ▸ fun m g _ => unchanged (F := Bits) m g

/-- The kernel over the reals does too. -/
theorem frame_ideal : Cert.quiescent_DscanIdeal := fun m g _ => unchanged (F := Ideal) m g

end Cert.RecurBack

end
-- ==== Proof.lean ====
/- The claims, put together from the generated facts and frames and the value modules. -/
module

public import proofs.«01_k».proof.Defs
public import proofs.«01_k».proof.Proof.Gen.Dmerge.Frame
public import proofs.«01_k».proof.Proof.Gen.DmergeIdeal.Frame
public import proofs.«01_k».proof.Proof.DmergeValue
public import proofs.«01_k».proof.Proof.Gen.Dhid.Frame
public import proofs.«01_k».proof.Proof.Gen.DhidIdeal.Frame
public import proofs.«01_k».proof.Proof.DhidValue
public import proofs.«01_k».proof.Proof.Gen.Dln.Frame
public import proofs.«01_k».proof.Proof.Gen.DlnIdeal.Frame
public import proofs.«01_k».proof.Proof.DlnValue
public import proofs.«01_k».proof.Proof.Gen.Dloss.Frame
public import proofs.«01_k».proof.Proof.Gen.DlossIdeal.Frame
public import proofs.«01_k».proof.Proof.DlossValue
public import proofs.«01_k».proof.Proof.Gen.Dyb.Frame
public import proofs.«01_k».proof.Proof.Gen.DybIdeal.Frame
public import proofs.«01_k».proof.Proof.DybValue
public import proofs.«01_k».proof.Proof.Gen.Dfgate.Frame
public import proofs.«01_k».proof.Proof.Gen.DfgateIdeal.Frame
public import proofs.«01_k».proof.Proof.FgateValue
public import proofs.«01_k».proof.Proof.Gen.Merge.Frame
public import proofs.«01_k».proof.Proof.Gen.MergeIdeal.Frame
public import proofs.«01_k».proof.Proof.MergeValue
public import proofs.«01_k».proof.Proof.Gen.Act.Frame
public import proofs.«01_k».proof.Proof.Gen.ActIdeal.Frame
public import proofs.«01_k».proof.Proof.ActValue
public import proofs.«01_k».proof.Proof.Gen.Ln.Frame
public import proofs.«01_k».proof.Proof.Gen.LnIdeal.Frame
public import proofs.«01_k».proof.Proof.LnValue
public import proofs.«01_k».proof.Proof.Gen.Yb.Frame
public import proofs.«01_k».proof.Proof.Gen.YbIdeal.Frame
public import proofs.«01_k».proof.Proof.YbValue
public import proofs.«01_k».proof.Proof.Gen.Fsum.Frame
public import proofs.«01_k».proof.Proof.Gen.FsumIdeal.Frame
public import proofs.«01_k».proof.Proof.FsumValue
public import proofs.«01_k».proof.Proof.Gen.Dfox
public import proofs.«01_k».proof.Proof.FoxValue
public import proofs.«01_k».proof.Proof.Gen.Attend.Frame
public import proofs.«01_k».proof.Proof.Gen.AttendIdeal.Frame
public import proofs.«01_k».proof.Proof.AttnValue
public import proofs.«01_k».proof.Proof.Gen.Product.Frame
public import proofs.«01_k».proof.Proof.ProductValue
public import proofs.«01_k».proof.Proof.Gen.Adam.Frame
public import proofs.«01_k».proof.Proof.AdamValue
public import proofs.«01_k».proof.Proof.ScanFrame
public import proofs.«01_k».proof.Proof.DscanFrame
public import Idealize.ShloMosaic.Adequacy
public import Idealize.ShloMosaic.Init

@[expose] public section

noncomputable section

namespace Cert.Proof

open Idealize.ShloMosaic Idealize.SL.Sem

theorem claim : Cert.Claim := ⟨
  Cert.Dmerge.Gen.facts, Cert.DmergeIdeal.Gen.facts, Cert.DmergeRefIdeal.Gen.facts,
  Cert.Dhid.Gen.facts, Cert.DhidIdeal.Gen.facts, Cert.DhidRefIdeal.Gen.facts,
  Cert.Dln.Gen.facts, Cert.DlnIdeal.Gen.facts, Cert.DlnRefIdeal.Gen.facts,
  Cert.Dloss.Gen.facts, Cert.DlossIdeal.Gen.facts, Cert.DlossRefIdeal.Gen.facts,
  Cert.Dyb.Gen.facts, Cert.DybIdeal.Gen.facts, Cert.DybRefIdeal.Gen.facts,
  Cert.Dfgate.Gen.facts, Cert.DfgateIdeal.Gen.facts, Cert.DfgateRefIdeal.Gen.facts,
  Cert.Dfox.Gen.facts, Cert.DfoxIdeal.Gen.facts, Cert.DfoxRefIdeal.Gen.facts,
  Cert.Merge.Gen.facts, Cert.MergeIdeal.Gen.facts, Cert.MergeRefIdeal.Gen.facts,
  Cert.Act.Gen.facts, Cert.ActIdeal.Gen.facts, Cert.ActRefIdeal.Gen.facts,
  Cert.Ln.Gen.facts, Cert.LnIdeal.Gen.facts, Cert.LnRefIdeal.Gen.facts,
  Cert.Yb.Gen.facts, Cert.YbIdeal.Gen.facts, Cert.YbRefIdeal.Gen.facts,
  Cert.Fsum.Gen.facts, Cert.FsumIdeal.Gen.facts, Cert.FsumRefIdeal.Gen.facts,
  Cert.Attend.Gen.facts, Cert.AttendIdeal.Gen.facts, Cert.AttendRefIdeal.Gen.facts,
  Cert.Product.Gen.facts, Cert.ProductIdeal.Gen.facts, Cert.ProductRefIdeal.Gen.facts,
  Cert.Adam.Gen.facts, Cert.AdamIdeal.Gen.facts, Cert.AdamRefIdeal.Gen.facts,
  Cert.Scan.Gen.facts, Cert.ScanIdeal.Gen.facts, Cert.Dscan.Gen.facts, Cert.DscanIdeal.Gen.facts,
  Cert.DhidValue.preFacts, Cert.DlnValue.preFacts, Cert.DlossValue.preFacts, Cert.DybValue.preFacts, Cert.FgateValue.preFacts,
  Cert.FoxValue.preFacts, Cert.FsumValue.preFacts, Cert.AttnValue.preFacts,
  fun m g _ => Cert.Dmerge.Gen.frame m g, fun m g _ => Cert.DmergeIdeal.Gen.frame m g, Cert.DmergeValue.frame_ref,
  fun m g _ => Cert.Dhid.Gen.frame m g, fun m g _ => Cert.DhidIdeal.Gen.frame m g, fun m g _ => Cert.DhidIdeal.Gen.frame m g,
  Cert.DhidValue.frame_ref, fun m g _ => Cert.DhidValue.frame_ref m g trivial,
  fun m g _ => Cert.Dln.Gen.frame m g, fun m g _ => Cert.DlnIdeal.Gen.frame m g, fun m g _ => Cert.DlnIdeal.Gen.frame m g,
  Cert.DlnValue.frame_ref, fun m g _ => Cert.DlnValue.frame_ref m g trivial,
  fun m g _ => Cert.Dloss.Gen.frame m g, fun m g _ => Cert.DlossIdeal.Gen.frame m g, fun m g _ => Cert.DlossIdeal.Gen.frame m g,
  Cert.DlossValue.frame_ref, fun m g _ => Cert.DlossValue.frame_ref m g trivial,
  fun m g _ => Cert.Dyb.Gen.frame m g, fun m g _ => Cert.DybIdeal.Gen.frame m g, fun m g _ => Cert.DybIdeal.Gen.frame m g,
  Cert.DybValue.frame_ref, fun m g _ => Cert.DybValue.frame_ref m g trivial,
  fun m g _ => Cert.Dfgate.Gen.frame m g, fun m g _ => Cert.DfgateIdeal.Gen.frame m g, fun m g _ => Cert.DfgateIdeal.Gen.frame m g,
  Cert.FgateValue.frame_ref, fun m g _ => Cert.FgateValue.frame_ref m g trivial,
  Cert.FoxValue.frame_bits, Cert.FoxValue.frame_ideal, fun m g _ => Cert.FoxValue.frame_ideal m g trivial,
  Cert.FoxValue.frame_ref, fun m g _ => Cert.FoxValue.frame_ref m g trivial,
  fun m g _ => Cert.Merge.Gen.frame m g, fun m g _ => Cert.MergeIdeal.Gen.frame m g, Cert.MergeValue.frame_ref,
  fun m g _ => Cert.Act.Gen.frame m g, fun m g _ => Cert.ActIdeal.Gen.frame m g, Cert.ActValue.frame_ref,
  fun m g _ => Cert.Ln.Gen.frame m g, fun m g _ => Cert.LnIdeal.Gen.frame m g, Cert.LnValue.frame_ref,
  fun m g _ => Cert.Yb.Gen.frame m g, fun m g _ => Cert.YbIdeal.Gen.frame m g, Cert.YbValue.frame_ref,
  fun m g _ => Cert.Fsum.Gen.frame m g, fun m g _ => Cert.FsumIdeal.Gen.frame m g, fun m g _ => Cert.FsumIdeal.Gen.frame m g,
  Cert.FsumValue.frame_ref, fun m g _ => Cert.FsumValue.frame_ref m g trivial,
  fun m g _ => Cert.Attend.Gen.frame m g, fun m g _ => Cert.AttendIdeal.Gen.frame m g, fun m g _ => Cert.AttendIdeal.Gen.frame m g,
  Cert.AttnValue.frame_ref, fun m g _ => Cert.AttnValue.frame_ref m g trivial,
  fun m g _ => Cert.Product.Gen.frame m g, fun m g _ => Cert.ProductIdeal.Gen.frame m g, Cert.ProductValue.frame_ref,
  fun m g _ => Cert.Adam.Gen.frame m g, fun m g _ => Cert.AdamIdeal.Gen.frame m g, Cert.AdamValue.frame_ref,
  Cert.Recur.frame_bits, Cert.Recur.frame_ideal, Cert.RecurBack.frame_bits, Cert.RecurBack.frame_ideal,
  trivial, Cert.DmergeValue.value, trivial, Cert.DhidValue.value, trivial, Cert.DlnValue.value,
  trivial, Cert.DlossValue.value, trivial, Cert.DybValue.value, trivial, Cert.FgateValue.value,
  trivial, Cert.FoxValue.value, trivial, Cert.MergeValue.value, trivial, Cert.ActValue.value,
  trivial, Cert.LnValue.value, trivial, Cert.YbValue.value, trivial, Cert.FsumValue.value,
  Cert.AttnValue.preserves, Cert.AttnValue.value, trivial, Cert.ProductValue.value,
  Cert.AdamValue.preserves, Cert.AdamValue.value, trivial, trivial⟩

end Cert.Proof

end
